-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v16_0)) (v1 : (c : Dev Cert.Kernel6Ideal.nD) → Buf (Elt Ideal) ((c.tc : Thread Cert.Kernel6Ideal.nD Cert.Kernel6Ideal.τ).loc Cert.Kernel6Ideal.main_v16_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16_0) = v0 c
          ∧ r.2.mem ((c.tc : Thread Cert.Kernel6Ideal.nD Cert.Kernel6Ideal.τ).loc Cert.Kernel6Ideal.main_v16_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v78) = v0 c
          ∧ r.2.mem ((c.tc : Thread Cert.Reference6Ideal.nD Cert.Reference6Ideal.τ).loc Cert.Reference6Ideal.main_v96) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_qkv.lean ====
abbrev S96x8192x256 : Shape := ⟨3, ![96, 8192, 256]⟩
abbrev S1x8192 : Shape := ⟨2, ![1, 8192]⟩
abbrev S1x16 : Shape := ⟨2, ![1, 16]⟩
abbrev S64x8192x256 : Shape := ⟨3, ![64, 8192, 256]⟩
abbrev S_ : Shape := ⟨0, ![]⟩

class Facts : Prop where
  slices_S96x8192x256_S64x8192x256_0_0_0 : S96x8192x256.Slices ![0, 0, 0] S64x8192x256
  bitsLt_bf16_f32 : FTy.bits .bf16 < FTy.bits .f32
  bcast_S_S64x8192x256 : S_.BroadcastsInDim S64x8192x256 (![] : Fin 0 → Fin S64x8192x256.rank)
  reducesTo_S64x8192x256_S_d0_1_2 : S64x8192x256.ReducesTo [0, 1, 2] S_
  h_S_ : 0 < S_.numel

variable [Facts]

def fn {F : FTy → Type} [FloatOps F] (main_arg0 : FVec F S96x8192x256 .bf16) (main_arg1 : FVec F S1x8192 .f32) (main_arg2 : FVec F S1x16 .f32) (main_arg3 : FVec F S1x16 .f32) : IVec S_ 1 :=
  let main_v0 : FVec F S64x8192x256 .bf16 := (extractStridedSlice S64x8192x256 ![0, 0, 0] · slices_S96x8192x256_S64x8192x256_0_0_0) main_arg0
  let main_v1 : FVec F S64x8192x256 .f32 := (extf .f32 · bitsLt_bf16_f32) main_v0
  let main_v2 : FVec F S64x8192x256 .f32 := Host.absf main_v1
  let main_cst : FVec F S_ .f32 := constant S_ .f32 0x7F800000#32
  let main_v3 : FVec F S64x8192x256 .f32 := broadcastInDim S64x8192x256 ![] bcast_S_S64x8192x256 main_cst
  let main_v4 : IVec S64x8192x256 1 := cmpf .olt main_v2 main_v3
  let main_c : IVec S_ 1 := constantI S_ 1 1#1
  let main_v5 : IVec S_ 1 := (fun x v => Host.reduce IntOp.andi x v reducesTo_S64x8192x256_S_d0_1_2 h_S_) main_v4 main_c
  main_v5
-- ==== Kernel.lean ====
abbrev S96x8192x256 : Shape := ⟨3, ![96, 8192, 256]⟩
abbrev S1x8192 : Shape := ⟨2, ![1, 8192]⟩
abbrev S1x16 : Shape := ⟨2, ![1, 16]⟩
abbrev S16 : Shape := ⟨1, ![16]⟩
abbrev S_ : Shape := ⟨0, ![]⟩
abbrev S2x16 : Shape := ⟨2, ![2, 16]⟩
abbrev S8192 : Shape := ⟨1, ![8192]⟩
abbrev S8192x8192 : Shape := ⟨2, ![8192, 8192]⟩
abbrev S1x4096x256 : Shape := ⟨3, ![1, 4096, 256]⟩
abbrev S2x4096x256 : Shape := ⟨3, ![2, 4096, 256]⟩
abbrev S1x512 : Shape := ⟨2, ![1, 512]⟩
abbrev S4096x512 : Shape := ⟨2, ![4096, 512]⟩
abbrev S8192x512 : Shape := ⟨2, ![8192, 512]⟩
abbrev S256x512 : Shape := ⟨2, ![256, 512]⟩
abbrev S1x1 : Shape := ⟨2, ![1, 1]⟩
abbrev S256x1 : Shape := ⟨2, ![256, 1]⟩
abbrev S256x256 : Shape := ⟨2, ![256, 256]⟩
abbrev S1x256x256 : Shape := ⟨3, ![1, 256, 256]⟩
abbrev S256 : Shape := ⟨1, ![256]⟩

abbrev nBuf : Space → Nat
  | .hbm => 44
  | .vmem => 14
  | .smem => 1
  | _ => 0

abbrev bufTy : (tb : Table) → Fin (tcTables nBuf tb) → BufTy
  | .hbm, ⟨0, _⟩ => ⟨S96x8192x256, .bf16⟩
  | .hbm, ⟨1, _⟩ => ⟨S1x8192, .f32⟩
  | .hbm, ⟨2, _⟩ => ⟨S1x16, .f32⟩
  | .hbm, ⟨3, _⟩ => ⟨S1x16, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S16, .i1⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S16, .f32⟩
  | .hbm, ⟨28, _⟩ => ⟨S16, .i1⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S1x16, .f32⟩
  | .hbm, ⟨39, _⟩ => ⟨S1x16, .f32⟩
  | .hbm, ⟨40, _⟩ => ⟨S2x16, .f32⟩
  | .hbm, ⟨41, _⟩ => ⟨S8192, .f32⟩
  | .hbm, ⟨42, _⟩ => ⟨S1x8192, .f32⟩
  | .hbm, ⟨43, _⟩ => ⟨S8192x8192, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S2x4096x256, .bf16⟩
  | .local _ .vmem, ⟨5, _⟩ => ⟨S2x4096x256, .bf16⟩
  | .local _ .vmem, ⟨6, _⟩ => ⟨S2x4096x256, .bf16⟩
  | .local _ .vmem, ⟨7, _⟩ => ⟨S2x4096x256, .bf16⟩
  | .local _ .vmem, ⟨8, _⟩ => ⟨S1x512, .f32⟩
  | .local _ .vmem, ⟨9, _⟩ => ⟨S1x512, .f32⟩
  | .local _ .vmem, ⟨10, _⟩ => ⟨S4096x512, .bf16⟩
  | .local _ .vmem, ⟨11, _⟩ => ⟨S4096x512, .bf16⟩
  | .local _ .vmem, ⟨12, _⟩ => ⟨S8192x512, .f32⟩
  | .local _ .vmem, ⟨13, _⟩ => ⟨S256x512, .f32⟩
  | .local _ .smem, ⟨0, _⟩ => ⟨S2x16, .f32⟩
  | _, _ => ⟨S96x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v1 : Ref sig .tc := ⟨.hbm, 20, rfl⟩
abbrev main_v2 : Ref sig .tc := ⟨.hbm, 21, rfl⟩
abbrev main_call1_v0 : Ref sig .tc := ⟨.hbm, 22, rfl⟩
abbrev main_call1_call0_cst : Ref sig .tc := ⟨.hbm, 23, rfl⟩
abbrev main_call1_call0_v0 : Ref sig .tc := ⟨.hbm, 24, rfl⟩
abbrev main_call1_call0_v1 : Ref sig .tc := ⟨.hbm, 25, rfl⟩
abbrev main_call1_call0_v2 : Ref sig .tc := ⟨.hbm, 26, rfl⟩
abbrev main_call1_call0_v3 : Ref sig .tc := ⟨.hbm, 27, rfl⟩
abbrev main_call1_call0_v4 : Ref sig .tc := ⟨.hbm, 28, rfl⟩
abbrev main_call1_call0_v5 : Ref sig .tc := ⟨.hbm, 29, rfl⟩
abbrev main_call1_call0_v6 : Ref sig .tc := ⟨.hbm, 30, rfl⟩
abbrev main_call1_call0_v7 : Ref sig .tc := ⟨.hbm, 31, rfl⟩
abbrev main_call1_call0_v8 : Ref sig .tc := ⟨.hbm, 32, rfl⟩
abbrev main_call1_call0_v9 : Ref sig .tc := ⟨.hbm, 33, rfl⟩
abbrev main_call1_call0_v10 : Ref sig .tc := ⟨.hbm, 34, rfl⟩
abbrev main_call1_call0_v11 : Ref sig .tc := ⟨.hbm, 35, rfl⟩
abbrev main_call1_v1 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 2, 2], ![false, false, false]⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
def k0_cond2 (i : grid0.Coords) : BitVec 1 :=
  let arg1 : BitVec 32 := BitVec.ofNat 32 (i 1).val
  let c0_i32_1 : BitVec 32 := 0#32
  let v9 : BitVec 1 := Scalar.cmpi .eq arg1 c0_i32_1
  let v10 : BitVec 32 := Scalar.extui v9
  let c0_i32_2 : BitVec 32 := 0#32
  let v11 : BitVec 1 := Scalar.cmpi .ne v10 c0_i32_2
  v11

def k0_mult1 (i : grid0.Coords) : BitVec 32 :=
  let arg2 : BitVec 32 := BitVec.ofNat 32 (i 2).val
  let c4096_i32 : BitVec 32 := 4096#32
  let v68 : BitVec 32 := Scalar.muli arg2 c4096_i32
  let c0_i32_20 : BitVec 32 := 0#32
  let v69 : BitVec 32 := Scalar.addi v68 c0_i32_20
  v69
def k0_off3 (i : grid0.Coords) (c0_i32_20 : BitVec 32) : Fin 2 → Nat :=
  let arg2 : BitVec 32 := BitVec.ofNat 32 (i 2).val
  let c4096_i32 : BitVec 32 := 4096#32
  let v68 : BitVec 32 := Scalar.muli arg2 c4096_i32
  let v69 : BitVec 32 := Scalar.addi v68 c0_i32_20
  let v70 : BitVec 32 := v69
  let v78 : Index := Scalar.indexCast v70
  let c0_28 : Index := 0#32
  ![v78.toNat, 0]
def k0_off4 (i : grid0.Coords) (c0_i32_20 : BitVec 32) : Fin 2 → Nat :=
  let arg2 : BitVec 32 := BitVec.ofNat 32 (i 2).val
  let c4096_i32 : BitVec 32 := 4096#32
  let v68 : BitVec 32 := Scalar.muli arg2 c4096_i32
  let v69 : BitVec 32 := Scalar.addi v68 c0_i32_20
  let v70 : BitVec 32 := v69
  let v97 : Index := Scalar.indexCast v70
  let c256_40 : Index := 256#32
  ![v97.toNat, 256]
def k0_mult2 (i : grid0.Coords) : BitVec 32 :=
  let arg2 : BitVec 32 := BitVec.ofNat 32 (i 2).val
  let c4096_i32_53 : BitVec 32 := 4096#32
  let v118 : BitVec 32 := Scalar.muli arg2 c4096_i32_53
  let c256_i32 : BitVec 32 := 256#32
  let v119 : BitVec 32 := Scalar.addi v118 c256_i32
  v119
def k0_mult3 (i : grid0.Coords) : BitVec 32 :=
  let arg2 : BitVec 32 := BitVec.ofNat 32 (i 2).val
  let c4096_i32_86 : BitVec 32 := 4096#32
  let v168 : BitVec 32 := Scalar.muli arg2 c4096_i32_86
  let c512_i32 : BitVec 32 := 512#32
  let v169 : BitVec 32 := Scalar.addi v168 c512_i32
  v169
def k0_mult4 (i : grid0.Coords) : BitVec 32 :=
  let arg2 : BitVec 32 := BitVec.ofNat 32 (i 2).val
  let c4096_i32_119 : BitVec 32 := 4096#32
  let v218 : BitVec 32 := Scalar.muli arg2 c4096_i32_119
  let c768_i32 : BitVec 32 := 768#32
  let v219 : BitVec 32 := Scalar.addi v218 c768_i32
  v219
def k0_mult5 (i : grid0.Coords) : BitVec 32 :=
  let arg2 : BitVec 32 := BitVec.ofNat 32 (i 2).val
  let c4096_i32_152 : BitVec 32 := 4096#32
  let v268 : BitVec 32 := Scalar.muli arg2 c4096_i32_152
  let c1024_i32 : BitVec 32 := 1024#32
  let v269 : BitVec 32 := Scalar.addi v268 c1024_i32
  v269
def k0_mult6 (i : grid0.Coords) : BitVec 32 :=
  let arg2 : BitVec 32 := BitVec.ofNat 32 (i 2).val
  let c4096_i32_185 : BitVec 32 := 4096#32
  let v318 : BitVec 32 := Scalar.muli arg2 c4096_i32_185
  let c1280_i32 : BitVec 32 := 1280#32
  let v319 : BitVec 32 := Scalar.addi v318 c1280_i32
  v319
def k0_mult7 (i : grid0.Coords) : BitVec 32 :=
  let arg2 : BitVec 32 := BitVec.ofNat 32 (i 2).val
  let c4096_i32_218 : BitVec 32 := 4096#32
  let v368 : BitVec 32 := Scalar.muli arg2 c4096_i32_218
  let c1536_i32 : BitVec 32 := 1536#32
  let v369 : BitVec 32 := Scalar.addi v368 c1536_i32
  v369
def k0_mult8 (i : grid0.Coords) : BitVec 32 :=
  let arg2 : BitVec 32 := BitVec.ofNat 32 (i 2).val
  let c4096_i32_251 : BitVec 32 := 4096#32
  let v418 : BitVec 32 := Scalar.muli arg2 c4096_i32_251
  let c1792_i32 : BitVec 32 := 1792#32
  let v419 : BitVec 32 := Scalar.addi v418 c1792_i32
  v419
def k0_mult9 (i : grid0.Coords) : BitVec 32 :=
  let arg2 : BitVec 32 := BitVec.ofNat 32 (i 2).val
  let c4096_i32_284 : BitVec 32 := 4096#32
  let v468 : BitVec 32 := Scalar.muli arg2 c4096_i32_284
  let c2048_i32 : BitVec 32 := 2048#32
  let v469 : BitVec 32 := Scalar.addi v468 c2048_i32
  v469
def k0_mult10 (i : grid0.Coords) : BitVec 32 :=
  let arg2 : BitVec 32 := BitVec.ofNat 32 (i 2).val
  let c4096_i32_317 : BitVec 32 := 4096#32
  let v518 : BitVec 32 := Scalar.muli arg2 c4096_i32_317
  let c2304_i32 : BitVec 32 := 2304#32
  let v519 : BitVec 32 := Scalar.addi v518 c2304_i32
  v519
def k0_mult11 (i : grid0.Coords) : BitVec 32 :=
  let arg2 : BitVec 32 := BitVec.ofNat 32 (i 2).val
  let c4096_i32_350 : BitVec 32 := 4096#32
  let v568 : BitVec 32 := Scalar.muli arg2 c4096_i32_350
  let c2560_i32 : BitVec 32 := 2560#32
  let v569 : BitVec 32 := Scalar.addi v568 c2560_i32
  v569
def k0_mult12 (i : grid0.Coords) : BitVec 32 :=
  let arg2 : BitVec 32 := BitVec.ofNat 32 (i 2).val
  let c4096_i32_383 : BitVec 32 := 4096#32
  let v618 : BitVec 32 := Scalar.muli arg2 c4096_i32_383
  let c2816_i32 : BitVec 32 := 2816#32
  let v619 : BitVec 32 := Scalar.addi v618 c2816_i32
  v619
def k0_mult13 (i : grid0.Coords) : BitVec 32 :=
  let arg2 : BitVec 32 := BitVec.ofNat 32 (i 2).val
  let c4096_i32_416 : BitVec 32 := 4096#32
  let v668 : BitVec 32 := Scalar.muli arg2 c4096_i32_416
  let c3072_i32 : BitVec 32 := 3072#32
  let v669 : BitVec 32 := Scalar.addi v668 c3072_i32
  v669
def k0_mult14 (i : grid0.Coords) : BitVec 32 :=
  let arg2 : BitVec 32 := BitVec.ofNat 32 (i 2).val
  let c4096_i32_449 : BitVec 32 := 4096#32
  let v718 : BitVec 32 := Scalar.muli arg2 c4096_i32_449
  let c3328_i32 : BitVec 32 := 3328#32
  let v719 : BitVec 32 := Scalar.addi v718 c3328_i32
  v719
def k0_mult15 (i : grid0.Coords) : BitVec 32 :=
  let arg2 : BitVec 32 := BitVec.ofNat 32 (i 2).val
  let c4096_i32_482 : BitVec 32 := 4096#32
  let v768 : BitVec 32 := Scalar.muli arg2 c4096_i32_482
  let c3584_i32 : BitVec 32 := 3584#32
  let v769 : BitVec 32 := Scalar.addi v768 c3584_i32
  v769
def k0_mult16 (i : grid0.Coords) : BitVec 32 :=
  let arg2 : BitVec 32 := BitVec.ofNat 32 (i 2).val
  let c4096_i32_515 : BitVec 32 := 4096#32
  let v818 : BitVec 32 := Scalar.muli arg2 c4096_i32_515
  let c3840_i32 : BitVec 32 := 3840#32
  let v819 : BitVec 32 := Scalar.addi v818 c3840_i32
  v819
def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_3 : BitVec 32 := 0#32
  let v14 : BitVec 1 := Scalar.cmpi .ne v13 c0_i32_3
  v14

def k0_mult17 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c3840_i32 : BitVec 32 := 3840#32
  let v44 : BitVec 32 := Scalar.addi v30 c3840_i32
  v44
def k0_off5 (i : grid0.Coords) (c3840_i32 : BitVec 32) : Fin 2 → Nat :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let v44 : BitVec 32 := Scalar.addi v30 c3840_i32
  let v45 : BitVec 32 := v44
  let v46 : Index := Scalar.indexCast v45
  let c0_19 : Index := 0#32
  ![v46.toNat, 0]
def k0_mult18 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c3584_i32 : BitVec 32 := 3584#32
  let v105 : BitVec 32 := Scalar.addi v30 c3584_i32
  v105
def k0_mult19 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c3328_i32 : BitVec 32 := 3328#32
  let v166 : BitVec 32 := Scalar.addi v30 c3328_i32
  v166
def k0_mult20 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c3072_i32 : BitVec 32 := 3072#32
  let v227 : BitVec 32 := Scalar.addi v30 c3072_i32
  v227
def k0_mult21 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c2816_i32 : BitVec 32 := 2816#32
  let v288 : BitVec 32 := Scalar.addi v30 c2816_i32
  v288
def k0_mult22 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c2560_i32 : BitVec 32 := 2560#32
  let v349 : BitVec 32 := Scalar.addi v30 c2560_i32
  v349
def k0_mult23 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c2304_i32 : BitVec 32 := 2304#32
  let v410 : BitVec 32 := Scalar.addi v30 c2304_i32
  v410
def k0_mult24 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c2048_i32 : BitVec 32 := 2048#32
  let v471 : BitVec 32 := Scalar.addi v30 c2048_i32
  v471
def k0_mult25 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c1792_i32 : BitVec 32 := 1792#32
  let v532 : BitVec 32 := Scalar.addi v30 c1792_i32
  v532
def k0_mult26 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c1536_i32 : BitVec 32 := 1536#32
  let v593 : BitVec 32 := Scalar.addi v30 c1536_i32
  v593
def k0_mult27 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c1280_i32 : BitVec 32 := 1280#32
  let v654 : BitVec 32 := Scalar.addi v30 c1280_i32
  v654
def k0_mult28 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c1024_i32 : BitVec 32 := 1024#32
  let v715 : BitVec 32 := Scalar.addi v30 c1024_i32
  v715
def k0_mult29 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c768_i32 : BitVec 32 := 768#32
  let v776 : BitVec 32 := Scalar.addi v30 c768_i32
  v776
def k0_mult30 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c512_i32 : BitVec 32 := 512#32
  let v837 : BitVec 32 := Scalar.addi v30 c512_i32
  v837
def k0_mult31 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c256_i32 : BitVec 32 := 256#32
  let v898 : BitVec 32 := Scalar.addi v30 c256_i32
  v898
def k0_mult32 (i : grid0.Coords) : BitVec 32 :=
  let c1_i32_4 : BitVec 32 := 1#32
  let arg2 : BitVec 32 := BitVec.ofNat 32 (i 2).val
  let v29 : BitVec 32 := Scalar.subi c1_i32_4 arg2
  let c4096_i32 : BitVec 32 := 4096#32
  let v30 : BitVec 32 := Scalar.muli v29 c4096_i32
  let c0_i32_560 : BitVec 32 := 0#32
  let v959 : BitVec 32 := Scalar.addi v30 c0_i32_560
  v959
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg1 v1
  let v3 : BitVec 32 := Scalar.addi arg2 v2
  let c0_i32 : BitVec 32 := 0#32
  let c0_i32_0 : BitVec 32 := 0#32
  ![arg0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c2_i32 : BitVec 32 := 2#32
  let v1 : BitVec 32 := Scalar.muli c2_i32 arg2
  let c1_i32 : BitVec 32 := 1#32
  let v2 : BitVec 32 := Scalar.subi c1_i32 v1
  let v3 : BitVec 32 := Scalar.muli arg1 v2
  let v4 : BitVec 32 := Scalar.addi arg2 v3
  let c0_i32 : BitVec 32 := 0#32
  let c0_i32_0 : BitVec 32 := 0#32
  ![v0.toNat, v4.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c2_i32 : BitVec 32 := 2#32
  let v1 : BitVec 32 := Scalar.muli c2_i32 arg2
  let c1_i32 : BitVec 32 := 1#32
  let v2 : BitVec 32 := Scalar.subi c1_i32 v1
  let v3 : BitVec 32 := Scalar.muli arg1 v2
  let v4 : BitVec 32 := Scalar.addi arg2 v3
  let c0_i32 : BitVec 32 := 0#32
  let c0_i32_0 : BitVec 32 := 0#32
  ![v0.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let v1 : BitVec 32 := Scalar.muli arg2 arg1
  let c1_i32 : BitVec 32 := 1#32
  let v2 : BitVec 32 := Scalar.subi c1_i32 v1
  let c0_i32 : BitVec 32 := 0#32
  let c0_i32_0 : BitVec 32 := 0#32
  ![v0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c1_i32 : BitVec 32 := 1#32
  let v1 : BitVec 32 := Scalar.subi c1_i32 v0
  let c0_i32 : BitVec 32 := 0#32
  ![v1.toNat, arg0.toNat]

abbrev stage0_0 : Fin 1 → Memref sig .tc .smem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S96x8192x256 : Shape := ⟨3, ![96, 8192, 256]⟩
abbrev S1x8192 : Shape := ⟨2, ![1, 8192]⟩
abbrev S1x16 : Shape := ⟨2, ![1, 16]⟩
abbrev S16x8192x256 : Shape := ⟨3, ![16, 8192, 256]⟩
abbrev S8192x16x256 : Shape := ⟨3, ![8192, 16, 256]⟩
abbrev S1x8192x16x256 : Shape := ⟨4, ![1, 8192, 16, 256]⟩
abbrev S32x8192x256 : Shape := ⟨3, ![32, 8192, 256]⟩
abbrev S8192x32x256 : Shape := ⟨3, ![8192, 32, 256]⟩
abbrev S1x8192x16x512 : Shape := ⟨4, ![1, 8192, 16, 512]⟩
abbrev S1x8192x8192 : Shape := ⟨3, ![1, 8192, 8192]⟩
abbrev S16 : Shape := ⟨1, ![16]⟩
abbrev S_ : Shape := ⟨0, ![]⟩
abbrev S1x1x8192x16x256 : Shape := ⟨5, ![1, 1, 8192, 16, 256]⟩
abbrev S2x1x8192x16x256 : Shape := ⟨5, ![2, 1, 8192, 16, 256]⟩
abbrev S1x1x8192x16x512 : Shape := ⟨5, ![1, 1, 8192, 16, 512]⟩
abbrev S2x1x8192x16x512 : Shape := ⟨5, ![2, 1, 8192, 16, 512]⟩
abbrev S2x16 : Shape := ⟨2, ![2, 16]⟩
abbrev S2x1x64x128x16x256 : Shape := ⟨6, ![2, 1, 64, 128, 16, 256]⟩
abbrev S2x1x64x128x16x512 : Shape := ⟨6, ![2, 1, 64, 128, 16, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S2x16x1x1 : Shape := ⟨4, ![2, 16, 1, 1]⟩
abbrev S1x1x128x128 : Shape := ⟨4, ![1, 1, 128, 128]⟩
abbrev S2x16x128x128 : Shape := ⟨4, ![2, 16, 128, 128]⟩
abbrev S16x128x128 : Shape := ⟨3, ![16, 128, 128]⟩
abbrev S2x1x64x16x128x128 : Shape := ⟨6, ![2, 1, 64, 16, 128, 128]⟩
abbrev S2x1x1x16x128x128 : Shape := ⟨6, ![2, 1, 1, 16, 128, 128]⟩
abbrev S2x1x64x16x512x128 : Shape := ⟨6, ![2, 1, 64, 16, 512, 128]⟩
abbrev S2x1x16 : Shape := ⟨3, ![2, 1, 16]⟩
abbrev S1x128x1 : Shape := ⟨3, ![1, 128, 1]⟩
abbrev S2x128x16 : Shape := ⟨3, ![2, 128, 16]⟩
abbrev S1x16x256x512 : Shape := ⟨4, ![1, 16, 256, 512]⟩
abbrev S2x64x1x128x16x256 : Shape := ⟨6, ![2, 64, 1, 128, 16, 256]⟩
abbrev S2x64x1x128x16x512 : Shape := ⟨6, ![2, 64, 1, 128, 16, 512]⟩
abbrev S2x1x16x256x512 : Shape := ⟨5, ![2, 1, 16, 256, 512]⟩
abbrev S64x2x1x128x16x256 : Shape := ⟨6, ![64, 2, 1, 128, 16, 256]⟩
abbrev S64x2x1x128x16x512 : Shape := ⟨6, ![64, 2, 1, 128, 16, 512]⟩
abbrev S1x2x1x128x16x256 : Shape := ⟨6, ![1, 2, 1, 128, 16, 256]⟩
abbrev S2x1x128x16x256 : Shape := ⟨5, ![2, 1, 128, 16, 256]⟩
abbrev S1x2x1x128x16x512 : Shape := ⟨6, ![1, 2, 1, 128, 16, 512]⟩
abbrev S2x1x128x16x512 : Shape := ⟨5, ![2, 1, 128, 16, 512]⟩
abbrev S2x1x128x16x1 : Shape := ⟨5, ![2, 1, 128, 16, 1]⟩
abbrev S2x1x16x512x128 : Shape := ⟨5, ![2, 1, 16, 512, 128]⟩
abbrev S2x1x16x1x1 : Shape := ⟨5, ![2, 1, 16, 1, 1]⟩
abbrev S1x8192x16 : Shape := ⟨3, ![1, 8192, 16]⟩
abbrev S1x8192x16x1 : Shape := ⟨4, ![1, 8192, 16, 1]⟩
abbrev S8192 : Shape := ⟨1, ![8192]⟩
abbrev S1x1x8192 : Shape := ⟨3, ![1, 1, 8192]⟩
abbrev S8192x8192 : Shape := ⟨2, ![8192, 8192]⟩

abbrev nBuf : Space → Nat
  | .hbm => 241
  | .vmem => 0
  | .smem => 0
  | _ => 0

abbrev hbmTy0_0 (i : Nat) : BufTy := match i % 128 with
  | 0 => ⟨S96x8192x256, .bf16⟩
  | 1 => ⟨S1x8192, .f32⟩
  | 2 => ⟨S1x16, .f32⟩
  | 3 => ⟨S1x16, .f32⟩
  | 4 => ⟨S96x8192x256, .f32⟩
  | 5 => ⟨S16x8192x256, .f32⟩
  | 6 => ⟨S8192x16x256, .f32⟩
  | 7 => ⟨S1x8192x16x256, .f32⟩
  | 8 => ⟨S16x8192x256, .f32⟩
  | 9 => ⟨S8192x16x256, .f32⟩
  | 10 => ⟨S1x8192x16x256, .f32⟩
  | 11 => ⟨S32x8192x256, .f32⟩
  | 12 => ⟨S8192x32x256, .f32⟩
  | 13 => ⟨S1x8192x16x512, .f32⟩
  | 14 => ⟨S32x8192x256, .f32⟩
  | 15 => ⟨S8192x32x256, .f32⟩
  | 16 => ⟨S1x8192x8192, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S16, .f32⟩
  | 24 => ⟨S16, .i1⟩
  | 25 => ⟨S16, .f32⟩
  | 26 => ⟨S16, .f32⟩
  | 27 => ⟨S16, .f32⟩
  | 28 => ⟨S16, .f32⟩
  | 29 => ⟨S16, .f32⟩
  | 30 => ⟨S16, .f32⟩
  | 31 => ⟨S16, .f32⟩
  | 32 => ⟨S16, .f32⟩
  | 33 => ⟨S16, .f32⟩
  | 34 => ⟨S16, .f32⟩
  | 35 => ⟨S16, .f32⟩
  | 36 => ⟨S_, .f32⟩
  | 37 => ⟨S16, .f32⟩
  | 38 => ⟨S16, .f32⟩
  | 39 => ⟨S16, .f32⟩
  | 40 => ⟨S16, .f32⟩
  | 41 => ⟨S16, .i1⟩
  | 42 => ⟨S16, .f32⟩
  | 43 => ⟨S16, .f32⟩
  | 44 => ⟨S16, .f32⟩
  | 45 => ⟨S16, .f32⟩
  | 46 => ⟨S16, .f32⟩
  | 47 => ⟨S16, .f32⟩
  | 48 => ⟨S16, .f32⟩
  | 49 => ⟨S16, .f32⟩
  | 50 => ⟨S16, .f32⟩
  | 51 => ⟨S1x8192x16x256, .f32⟩
  | 52 => ⟨S1x1x8192x16x256, .f32⟩
  | 53 => ⟨S1x1x8192x16x256, .f32⟩
  | 54 => ⟨S2x1x8192x16x256, .f32⟩
  | 55 => ⟨S1x8192x16x256, .f32⟩
  | 56 => ⟨S1x1x8192x16x256, .f32⟩
  | 57 => ⟨S1x1x8192x16x256, .f32⟩
  | 58 => ⟨S2x1x8192x16x256, .f32⟩
  | 59 => ⟨S1x8192x16x512, .f32⟩
  | 60 => ⟨S1x1x8192x16x512, .f32⟩
  | 61 => ⟨S1x1x8192x16x512, .f32⟩
  | 62 => ⟨S2x1x8192x16x512, .f32⟩
  | 63 => ⟨S1x16, .f32⟩
  | 64 => ⟨S1x16, .f32⟩
  | 65 => ⟨S2x16, .f32⟩
  | 66 => ⟨S2x1x64x128x16x256, .f32⟩
  | 67 => ⟨S2x1x64x128x16x256, .f32⟩
  | 68 => ⟨S2x1x64x128x16x512, .f32⟩
  | 69 => ⟨S128, .f32⟩
  | 70 => ⟨S128x1, .f32⟩
  | 71 => ⟨S1x128, .f32⟩
  | 72 => ⟨S128x128, .f32⟩
  | 73 => ⟨S128x128, .f32⟩
  | 74 => ⟨S128x128, .f32⟩
  | 75 => ⟨S1x128x128, .f32⟩
  | 76 => ⟨S_, .f32⟩
  | 77 => ⟨S1x128x128, .f32⟩
  | 78 => ⟨S1x128x128, .i1⟩
  | 79 => ⟨S_, .f32⟩
  | 80 => ⟨S128x128, .f32⟩
  | 81 => ⟨S128x128, .f32⟩
  | 82 => ⟨S1x128x128, .f32⟩
  | 83 => ⟨S2x16x1x1, .f32⟩
  | 84 => ⟨S1x1x128x128, .f32⟩
  | 85 => ⟨S2x16x128x128, .f32⟩
  | 86 => ⟨S2x16x128x128, .f32⟩
  | 87 => ⟨S2x16x128x128, .f32⟩
  | 88 => ⟨S2x16x128x128, .f32⟩
  | 89 => ⟨S_, .f32⟩
  | 90 => ⟨S_, .f32⟩
  | 91 => ⟨S16x128x128, .i1⟩
  | 92 => ⟨S16x128x128, .f32⟩
  | 93 => ⟨S2x16x128x128, .i1⟩
  | 94 => ⟨S2x16x128x128, .f32⟩
  | 95 => ⟨S2x16x128x128, .f32⟩
  | 96 => ⟨S2x1x64x16x128x128, .f32⟩
  | 97 => ⟨S2x1x1x16x128x128, .f32⟩
  | 98 => ⟨S2x1x64x16x128x128, .f32⟩
  | 99 => ⟨S2x1x64x16x128x128, .f32⟩
  | 100 => ⟨S2x1x64x16x512x128, .f32⟩
  | 101 => ⟨S2x1x64x128x16x512, .f32⟩
  | 102 => ⟨S_, .f32⟩
  | 103 => ⟨S128, .f32⟩
  | 104 => ⟨S128, .f32⟩
  | 105 => ⟨S128x1, .f32⟩
  | 106 => ⟨S2x1x16, .f32⟩
  | 107 => ⟨S1x128x1, .f32⟩
  | 108 => ⟨S2x128x16, .f32⟩
  | 109 => ⟨S2x128x16, .f32⟩
  | 110 => ⟨S2x128x16, .f32⟩
  | 111 => ⟨S2x128x16, .f32⟩
  | 112 => ⟨S_, .f32⟩
  | 113 => ⟨S128, .f32⟩
  | 114 => ⟨S128, .f32⟩
  | 115 => ⟨S128x1, .f32⟩
  | 116 => ⟨S2x1x16, .f32⟩
  | 117 => ⟨S1x128x1, .f32⟩
  | 118 => ⟨S2x128x16, .f32⟩
  | 119 => ⟨S2x128x16, .f32⟩
  | 120 => ⟨S2x128x16, .f32⟩
  | 121 => ⟨S2x128x16, .f32⟩
  | 122 => ⟨S_, .f32⟩
  | 123 => ⟨S2x16, .f32⟩
  | 124 => ⟨S2x16, .f32⟩
  | 125 => ⟨S2x16, .f32⟩
  | 126 => ⟨S_, .f32⟩
  | 127 => ⟨S1x16x256x512, .f32⟩
  | _ => ⟨S96x8192x256, .bf16⟩

abbrev hbmTy0_1 (i : Nat) : BufTy := match i % 128 with
  | 0 => ⟨S2x64x1x128x16x256, .f32⟩
  | 1 => ⟨S2x64x1x128x16x256, .f32⟩
  | 2 => ⟨S2x64x1x128x16x512, .f32⟩
  | 3 => ⟨S2x1x16x256x512, .f32⟩
  | 4 => ⟨S64x2x1x128x16x256, .f32⟩
  | 5 => ⟨S64x2x1x128x16x256, .f32⟩
  | 6 => ⟨S64x2x1x128x16x512, .f32⟩
  | 7 => ⟨S_, .f32⟩
  | 8 => ⟨S64x2x1x128x16x512, .f32⟩
  | 9 => ⟨S_, .i32⟩
  | 10 => ⟨S64x2x1x128x16x256, .f32⟩
  | 11 => ⟨S64x2x1x128x16x256, .f32⟩
  | 12 => ⟨S64x2x1x128x16x512, .f32⟩
  | 13 => ⟨S2x128x16, .f32⟩
  | 14 => ⟨S2x16, .f32⟩
  | 15 => ⟨S2x128x16, .f32⟩
  | 16 => ⟨S_, .i32⟩
  | 17 => ⟨S2x1x16x256x512, .f32⟩
  | 18 => ⟨S64x2x1x128x16x512, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S1x2x1x128x16x256, .f32⟩
  | 27 => ⟨S2x1x128x16x256, .f32⟩
  | 28 => ⟨S_, .i32⟩
  | 29 => ⟨S_, .i32⟩
  | 30 => ⟨S_, .i32⟩
  | 31 => ⟨S_, .i32⟩
  | 32 => ⟨S_, .i32⟩
  | 33 => ⟨S1x2x1x128x16x256, .f32⟩
  | 34 => ⟨S2x1x128x16x256, .f32⟩
  | 35 => ⟨S_, .i32⟩
  | 36 => ⟨S_, .i32⟩
  | 37 => ⟨S_, .i32⟩
  | 38 => ⟨S_, .i32⟩
  | 39 => ⟨S_, .i32⟩
  | 40 => ⟨S1x2x1x128x16x512, .f32⟩
  | 41 => ⟨S2x1x128x16x512, .f32⟩
  | 42 => ⟨S2x1x128x16x1, .f32⟩
  | 43 => ⟨S2x1x128x16x256, .f32⟩
  | 44 => ⟨S2x1x128x16x256, .f32⟩
  | 45 => ⟨S2x1x16x512x128, .f32⟩
  | 46 => ⟨S2x1x128x16x512, .f32⟩
  | 47 => ⟨S2x1x16x1x1, .f32⟩
  | 48 => ⟨S2x1x16x256x512, .f32⟩
  | 49 => ⟨S2x1x16x256x512, .f32⟩
  | 50 => ⟨S2x1x128x16x1, .f32⟩
  | 51 => ⟨S2x1x128x16x256, .f32⟩
  | 52 => ⟨S2x1x128x16x256, .f32⟩
  | 53 => ⟨S2x1x16x256x512, .f32⟩
  | 54 => ⟨S2x1x16x256x512, .f32⟩
  | 55 => ⟨S1x2x1x128x16x512, .f32⟩
  | 56 => ⟨S_, .i32⟩
  | 57 => ⟨S_, .i32⟩
  | 58 => ⟨S_, .i32⟩
  | 59 => ⟨S_, .i32⟩
  | 60 => ⟨S_, .i32⟩
  | 61 => ⟨S64x2x1x128x16x512, .f32⟩
  | 62 => ⟨S_, .i32⟩
  | 63 => ⟨S_, .i32⟩
  | 64 => ⟨S2x1x64x128x16x512, .f32⟩
  | 65 => ⟨S2x1x64x128x16x512, .f32⟩
  | 66 => ⟨S2x1x8192x16x512, .f32⟩
  | 67 => ⟨S1x1x8192x16x512, .f32⟩
  | 68 => ⟨S1x8192x16x512, .f32⟩
  | 69 => ⟨S1x1x8192x16x512, .f32⟩
  | 70 => ⟨S1x8192x16x512, .f32⟩
  | 71 => ⟨S1x8192x16x512, .f32⟩
  | 72 => ⟨S1x8192x16x512, .f32⟩
  | 73 => ⟨S_, .f32⟩
  | 74 => ⟨S1x8192x16, .f32⟩
  | 75 => ⟨S1x8192x16x1, .f32⟩
  | 76 => ⟨S_, .f32⟩
  | 77 => ⟨S1x8192x16x1, .f32⟩
  | 78 => ⟨S1x8192x16x1, .f32⟩
  | 79 => ⟨S1x8192x16x512, .f32⟩
  | 80 => ⟨S1x8192x16x512, .f32⟩
  | 81 => ⟨S1x8192x16x512, .f32⟩
  | 82 => ⟨S_, .f32⟩
  | 83 => ⟨S1x8192x16, .f32⟩
  | 84 => ⟨S1x8192x16x1, .f32⟩
  | 85 => ⟨S_, .f32⟩
  | 86 => ⟨S1x8192x16x1, .f32⟩
  | 87 => ⟨S1x8192x16x1, .f32⟩
  | 88 => ⟨S1x8192x16x512, .f32⟩
  | 89 => ⟨S1x8192x16x512, .f32⟩
  | 90 => ⟨S_, .f32⟩
  | 91 => ⟨S1x8192x16x1, .f32⟩
  | 92 => ⟨S1x8192x16x1, .f32⟩
  | 93 => ⟨S1x8192x16x1, .f32⟩
  | 94 => ⟨S1x8192x16x512, .f32⟩
  | 95 => ⟨S1x8192x16x512, .f32⟩
  | 96 => ⟨S1x8192x8192, .f32⟩
  | 97 => ⟨S8192, .f32⟩
  | 98 => ⟨S1x1x8192, .f32⟩
  | 99 => ⟨S1x8192x8192, .f32⟩
  | 100 => ⟨S1x8192x8192, .f32⟩
  | 101 => ⟨S1x8192x8192, .f32⟩
  | 102 => ⟨S1x8192x8192, .f32⟩
  | 103 => ⟨S_, .f32⟩
  | 104 => ⟨S1x8192x8192, .f32⟩
  | 105 => ⟨S1x8192x8192, .f32⟩
  | 106 => ⟨S_, .f32⟩
  | 107 => ⟨S1x8192x8192, .f32⟩
  | 108 => ⟨S1x8192x8192, .f32⟩
  | 109 => ⟨S1x8192x8192, .f32⟩
  | 110 => ⟨S1x8192x8192, .f32⟩
  | 111 => ⟨S1x8192x8192, .bf16⟩
  | 112 => ⟨S8192x8192, .bf16⟩
  | _ => ⟨S96x8192x256, .bf16⟩

abbrev hbmTy (i : Nat) : BufTy := match i / 128 with
  | 0 => hbmTy0_0 i
  | 1 => hbmTy0_1 i
  | _ => ⟨S96x8192x256, .bf16⟩

abbrev bufTy : (tb : Table) → Fin (tcTables nBuf tb) → BufTy
  | .hbm, ⟨i, _⟩ => hbmTy i
  | _, _ => ⟨S96x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst : Ref sig .tc := ⟨.hbm, 76, rfl⟩
abbrev main_v42 : Ref sig .tc := ⟨.hbm, 77, rfl⟩
abbrev main_v43 : Ref sig .tc := ⟨.hbm, 78, rfl⟩
abbrev main_cst_0 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_1 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_2 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_3 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_4 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_5 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_6 : Ref sig .tc := ⟨.hbm, 135, rfl⟩
abbrev main_v89 : Ref sig .tc := ⟨.hbm, 136, rfl⟩
abbrev main_c : Ref sig .tc := ⟨.hbm, 137, rfl⟩
abbrev main_v90_0 : Ref sig .tc := ⟨.hbm, 138, rfl⟩
abbrev main_v90_1 : Ref sig .tc := ⟨.hbm, 139, rfl⟩
abbrev main_v90_2 : Ref sig .tc := ⟨.hbm, 140, rfl⟩
abbrev main_v90_3 : Ref sig .tc := ⟨.hbm, 141, rfl⟩
abbrev main_v90_4 : Ref sig .tc := ⟨.hbm, 142, rfl⟩
abbrev main_v90_5 : Ref sig .tc := ⟨.hbm, 143, rfl⟩
abbrev main_v90_6 : Ref sig .tc := ⟨.hbm, 144, rfl⟩
abbrev main_v90_7 : Ref sig .tc := ⟨.hbm, 145, rfl⟩
abbrev main_v90_8 : Ref sig .tc := ⟨.hbm, 146, rfl⟩
abbrev main_while0c_c_20 : Ref sig .tc := ⟨.hbm, 147, rfl⟩
abbrev main_while0c_v127 : Ref sig .tc := ⟨.hbm, 148, rfl⟩
abbrev main_while0b_call6_c : Ref sig .tc := ⟨.hbm, 149, rfl⟩
abbrev main_while0b_call6_c_0 : Ref sig .tc := ⟨.hbm, 150, rfl⟩
abbrev main_while0b_call6_c_1 : Ref sig .tc := ⟨.hbm, 151, rfl⟩
abbrev main_while0b_call6_c_2 : Ref sig .tc := ⟨.hbm, 152, rfl⟩
abbrev main_while0b_call6_c_3 : Ref sig .tc := ⟨.hbm, 153, rfl⟩
abbrev main_while0b_call6_v0 : Ref sig .tc := ⟨.hbm, 154, rfl⟩
abbrev main_while0b_v127 : Ref sig .tc := ⟨.hbm, 155, rfl⟩
abbrev main_while0b_call7_c : Ref sig .tc := ⟨.hbm, 156, rfl⟩
abbrev main_while0b_call7_c_0 : Ref sig .tc := ⟨.hbm, 157, rfl⟩
abbrev main_while0b_call7_c_1 : Ref sig .tc := ⟨.hbm, 158, rfl⟩
abbrev main_while0b_call7_c_2 : Ref sig .tc := ⟨.hbm, 159, rfl⟩
abbrev main_while0b_call7_c_3 : Ref sig .tc := ⟨.hbm, 160, rfl⟩
abbrev main_while0b_call7_v0 : Ref sig .tc := ⟨.hbm, 161, rfl⟩
abbrev main_while0b_v128 : Ref sig .tc := ⟨.hbm, 162, rfl⟩
abbrev main_while0b_call8_c : Ref sig .tc := ⟨.hbm, 163, rfl⟩
abbrev main_while0b_call8_c_0 : Ref sig .tc := ⟨.hbm, 164, rfl⟩
abbrev main_while0b_call8_c_1 : Ref sig .tc := ⟨.hbm, 165, rfl⟩
abbrev main_while0b_call8_c_2 : Ref sig .tc := ⟨.hbm, 166, rfl⟩
abbrev main_while0b_call8_c_3 : Ref sig .tc := ⟨.hbm, 167, rfl⟩
abbrev main_while0b_call8_v0 : Ref sig .tc := ⟨.hbm, 168, rfl⟩
abbrev main_while0b_v129 : Ref sig .tc := ⟨.hbm, 169, rfl⟩
abbrev main_while0b_v130 : Ref sig .tc := ⟨.hbm, 170, rfl⟩
abbrev main_while0b_v131 : Ref sig .tc := ⟨.hbm, 171, rfl⟩
abbrev main_while0b_v132 : Ref sig .tc := ⟨.hbm, 172, rfl⟩
abbrev main_while0b_v133 : Ref sig .tc := ⟨.hbm, 173, rfl⟩
abbrev main_while0b_v134 : Ref sig .tc := ⟨.hbm, 174, rfl⟩
abbrev main_while0b_v135 : Ref sig .tc := ⟨.hbm, 175, rfl⟩
abbrev main_while0b_v136 : Ref sig .tc := ⟨.hbm, 176, rfl⟩
abbrev main_while0b_v137 : Ref sig .tc := ⟨.hbm, 177, rfl⟩
abbrev main_while0b_v138 : Ref sig .tc := ⟨.hbm, 178, rfl⟩
abbrev main_while0b_v139 : Ref sig .tc := ⟨.hbm, 179, rfl⟩
abbrev main_while0b_v140 : Ref sig .tc := ⟨.hbm, 180, rfl⟩
abbrev main_while0b_v141 : Ref sig .tc := ⟨.hbm, 181, rfl⟩
abbrev main_while0b_v142 : Ref sig .tc := ⟨.hbm, 182, rfl⟩
abbrev main_while0b_call9_v0 : Ref sig .tc := ⟨.hbm, 183, rfl⟩
abbrev main_while0b_call9_c : Ref sig .tc := ⟨.hbm, 184, rfl⟩
abbrev main_while0b_call9_c_0 : Ref sig .tc := ⟨.hbm, 185, rfl⟩
abbrev main_while0b_call9_c_1 : Ref sig .tc := ⟨.hbm, 186, rfl⟩
abbrev main_while0b_call9_c_2 : Ref sig .tc := ⟨.hbm, 187, rfl⟩
abbrev main_while0b_call9_c_3 : Ref sig .tc := ⟨.hbm, 188, rfl⟩
abbrev main_while0b_v143 : Ref sig .tc := ⟨.hbm, 189, rfl⟩
abbrev main_while0b_c_20 : Ref sig .tc := ⟨.hbm, 190, rfl⟩
abbrev main_while0b_v144 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_cst_7 : Ref sig .tc := ⟨.hbm, 201, rfl⟩
abbrev main_v100 : Ref sig .tc := ⟨.hbm, 202, rfl⟩
abbrev main_v101 : Ref sig .tc := ⟨.hbm, 203, rfl⟩
abbrev main_cst_8 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_cst_9 : Ref sig .tc := ⟨.hbm, 210, rfl⟩
abbrev main_v107 : Ref sig .tc := ⟨.hbm, 211, rfl⟩
abbrev main_v108 : Ref sig .tc := ⟨.hbm, 212, rfl⟩
abbrev main_cst_10 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_cst_11 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_call11_v0 : Ref sig .tc := ⟨.hbm, 229, rfl⟩
abbrev main_call11_v1 : Ref sig .tc := ⟨.hbm, 230, rfl⟩
abbrev main_call11_cst : Ref sig .tc := ⟨.hbm, 231, rfl⟩
abbrev main_call11_v2 : Ref sig .tc := ⟨.hbm, 232, rfl⟩
abbrev main_call11_v3 : Ref sig .tc := ⟨.hbm, 233, rfl⟩
abbrev main_call11_cst_0 : Ref sig .tc := ⟨.hbm, 234, rfl⟩
abbrev main_call11_v4 : Ref sig .tc := ⟨.hbm, 235, rfl⟩
abbrev main_call11_v5 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x4096 : Shape := ⟨2, ![8192, 4096]⟩
abbrev S2x4096x16384 : Shape := ⟨3, ![2, 4096, 16384]⟩
abbrev S8192x16384 : Shape := ⟨2, ![8192, 16384]⟩
abbrev S1024x4096 : Shape := ⟨2, ![1024, 4096]⟩
abbrev S1x512x1024 : Shape := ⟨3, ![1, 512, 1024]⟩
abbrev S1024x1024 : Shape := ⟨2, ![1024, 1024]⟩
abbrev S2x4096x1024 : Shape := ⟨3, ![2, 4096, 1024]⟩
abbrev S512x1024 : Shape := ⟨2, ![512, 1024]⟩
abbrev S512x4096 : Shape := ⟨2, ![512, 4096]⟩
abbrev S1x4096x1024 : Shape := ⟨3, ![1, 4096, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S2x4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 3 → Nat :=
  let arg0 : BitVec 32 := BitVec.ofNat 32 (i 0).val
  let c2_i32 : BitVec 32 := 2#32
  let c0_i32_5 : BitVec 32 := 0#32
  let v9 : BitVec 1 := Scalar.cmpi .eq c2_i32 c0_i32_5
  let c1_i32 : BitVec 32 := 1#32
  let v10 : BitVec 32 := Scalar.select v9 c1_i32 c2_i32
  let v11 : BitVec 32 := Scalar.remsi arg0 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v21 : Index := Scalar.indexCast v18
  let arg1 : BitVec 32 := BitVec.ofNat 32 (i 1).val
  let c512_i32 : BitVec 32 := 512#32
  let v19 : BitVec 32 := Scalar.muli arg1 c512_i32
  let v20 : BitVec 32 := v19
  let v22 : Index := Scalar.indexCast v20
  let c0_9 : Index := 0#32
  ![v21.toNat, v22.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_mult2 (i : grid0.Coords) : BitVec 32 :=
  let arg1 : BitVec 32 := BitVec.ofNat 32 (i 1).val
  let c512_i32 : BitVec 32 := 512#32
  let v19 : BitVec 32 := Scalar.muli arg1 c512_i32
  v19
def k0_off2 (i : grid0.Coords) : Fin 3 → Nat :=
  let arg0 : BitVec 32 := BitVec.ofNat 32 (i 0).val
  let c2_i32 : BitVec 32 := 2#32
  let c0_i32_5 : BitVec 32 := 0#32
  let v9 : BitVec 1 := Scalar.cmpi .eq c2_i32 c0_i32_5
  let c1_i32 : BitVec 32 := 1#32
  let v10 : BitVec 32 := Scalar.select v9 c1_i32 c2_i32
  let v11 : BitVec 32 := Scalar.remsi arg0 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v21 : Index := Scalar.indexCast v18
  let arg1 : BitVec 32 := BitVec.ofNat 32 (i 1).val
  let c512_i32 : BitVec 32 := 512#32
  let v19 : BitVec 32 := Scalar.muli arg1 c512_i32
  let v20 : BitVec 32 := v19
  let v22 : Index := Scalar.indexCast v20
  let c0_9 : Index := 0#32
  ![v21.toNat, v22.toNat, 0]
def k0_off3 (i : grid0.Coords) : Fin 3 → Nat :=
  let arg0 : BitVec 32 := BitVec.ofNat 32 (i 0).val
  let c1_i32_10 : BitVec 32 := 1#32
  let v26 : BitVec 32 := Scalar.addi arg0 c1_i32_10
  let c2_i32_11 : BitVec 32 := 2#32
  let c0_i32_12 : BitVec 32 := 0#32
  let v27 : BitVec 1 := Scalar.cmpi .eq c2_i32_11 c0_i32_12
  let c1_i32_13 : BitVec 32 := 1#32
  let v28 : BitVec 32 := Scalar.select v27 c1_i32_13 c2_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  let v38 : Index := Scalar.indexCast v36
  let c0_19 : Index := 0#32
  let c0_20 : Index := 0#32
  ![v38.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![c0_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S8192x4096, .f32⟩
  | .hbm, ⟨3, _⟩ => ⟨S1x4096x16384, .f32⟩
  | .hbm, ⟨4, _⟩ => ⟨S4096x16384, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8192x16384 : Shape := ⟨2, ![8192, 16384]⟩
abbrev S2x16384x4096 : Shape := ⟨3, ![2, 16384, 4096]⟩
abbrev S8192x4096 : Shape := ⟨2, ![8192, 4096]⟩
abbrev S2048x2048 : Shape := ⟨2, ![2048, 2048]⟩
abbrev S1x1024x1024 : Shape := ⟨3, ![1, 1024, 1024]⟩
abbrev S2048x1024 : Shape := ⟨2, ![2048, 1024]⟩
abbrev S2x2048x1024 : Shape := ⟨3, ![2, 2048, 1024]⟩
abbrev S4096x1024 : Shape := ⟨2, ![4096, 1024]⟩
abbrev S1024x1024 : Shape := ⟨2, ![1024, 1024]⟩
abbrev S512x2048 : Shape := ⟨2, ![512, 2048]⟩
abbrev S1x2048x1024 : Shape := ⟨3, ![1, 2048, 1024]⟩
abbrev S512x1024 : Shape := ⟨2, ![512, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x16384, .bf16⟩
  | .hbm, ⟨1, _⟩ => ⟨S2x16384x4096, .f32⟩
  | .hbm, ⟨2, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2x2048x1024, .bf16⟩
  | .local _ .vmem, ⟨7, _⟩ => ⟨S4096x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![65, 2], ![false, false]⟩

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def k0_mult1 (i : grid0.Coords) : BitVec 32 :=
  let arg1 : BitVec 32 := BitVec.ofNat 32 (i 1).val
  let c1024_i32 : BitVec 32 := 1024#32
  let v44 : BitVec 32 := Scalar.muli arg1 c1024_i32
  v44
def k0_off1 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v46 : Index := Scalar.indexCast v43
  let arg1 : BitVec 32 := BitVec.ofNat 32 (i 1).val
  let c1024_i32 : BitVec 32 := 1024#32
  let v44 : BitVec 32 := Scalar.muli arg1 c1024_i32
  let v45 : BitVec 32 := v44
  let v47 : Index := Scalar.indexCast v45
  let c0_22 : Index := 0#32
  ![v46.toNat, v47.toNat, 0]
def k0_cond2 (i : grid0.Coords) : BitVec 1 :=
  let arg0 : BitVec 32 := BitVec.ofNat 32 (i 0).val
  let c0_i32_6 : BitVec 32 := 0#32
  let v14 : BitVec 1 := Scalar.cmpi .sgt arg0 c0_i32_6
  let c1_i32 : BitVec 32 := 1#32
  let v0 : BitVec 32 := Scalar.subi arg0 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_7 : BitVec 32 := 0#32
  let v15 : BitVec 1 := Scalar.cmpi .eq v10 c0_i32_7
  let v16 : BitVec 1 := Scalar.andi v14 v15
  let v17 : BitVec 32 := Scalar.extui v16
  let c0_i32_8 : BitVec 32 := 0#32
  let v18 : BitVec 1 := Scalar.cmpi .ne v17 c0_i32_8
  v18

def k0_mult2 (i : grid0.Coords) : BitVec 32 :=
  let arg1 : BitVec 32 := BitVec.ofNat 32 (i 1).val
  let c1024_i32 : BitVec 32 := 1024#32
  let v44 : BitVec 32 := Scalar.muli arg1 c1024_i32
  v44
def k0_off2 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v46 : Index := Scalar.indexCast v43
  let arg1 : BitVec 32 := BitVec.ofNat 32 (i 1).val
  let c1024_i32 : BitVec 32 := 1024#32
  let v44 : BitVec 32 := Scalar.muli arg1 c1024_i32
  let v45 : BitVec 32 := v44
  let v47 : Index := Scalar.indexCast v45
  let c0_22 : Index := 0#32
  ![v46.toNat, v47.toNat, 0]
def k0_off3 (i : grid0.Coords) : Fin 3 → Nat :=
  let arg0 : BitVec 32 := BitVec.ofNat 32 (i 0).val
  let c1_i32_23 : BitVec 32 := 1#32
  let v51 : BitVec 32 := Scalar.addi arg0 c1_i32_23
  let c2_i32_24 : BitVec 32 := 2#32
  let c0_i32_25 : BitVec 32 := 0#32
  let v52 : BitVec 1 := Scalar.cmpi .eq c2_i32_24 c0_i32_25
  let c1_i32_26 : BitVec 32 := 1#32
  let v53 : BitVec 32 := Scalar.select v52 c1_i32_26 c2_i32_24
  let v54 : BitVec 32 := Scalar.remsi v51 v53
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let c0_i32_27 : BitVec 32 := 0#32
  let v55 : BitVec 1 := Scalar.cmpi .ne v54 c0_i32_27
  let v59 : BitVec 1 := Scalar.andi v58 v55
  let v60 : BitVec 32 := Scalar.addi v54 v53
  let v61 : BitVec 32 := Scalar.select v59 v60 v54
  let v63 : Index := Scalar.indexCast v61
  let c0_32 : Index := 0#32
  let c0_33 : Index := 0#32
  ![v63.toNat, 0, 0]
def k0_mult3 (i : grid0.Coords) : BitVec 32 :=
  let arg1 : BitVec 32 := BitVec.ofNat 32 (i 1).val
  let c2048_i32 : BitVec 32 := 2048#32
  let v67 : BitVec 32 := Scalar.muli arg1 c2048_i32
  let c0_i32_34 : BitVec 32 := 0#32
  let v68 : BitVec 32 := Scalar.addi v67 c0_i32_34
  v68
def k0_off4 (i : grid0.Coords) (c0_i32_34 : BitVec 32) : Fin 2 → Nat :=
  let arg1 : BitVec 32 := BitVec.ofNat 32 (i 1).val
  let c2048_i32 : BitVec 32 := 2048#32
  let v67 : BitVec 32 := Scalar.muli arg1 c2048_i32
  let v68 : BitVec 32 := Scalar.addi v67 c0_i32_34
  let v69 : BitVec 32 := v68
  let v70 : Index := Scalar.indexCast v69
  let c0_35 : Index := 0#32
  ![v70.toNat, 0]
def k0_mult4 (i : grid0.Coords) : BitVec 32 :=
  let arg1 : BitVec 32 := BitVec.ofNat 32 (i 1).val
  let c2048_i32_40 : BitVec 32 := 2048#32
  let v79 : BitVec 32 := Scalar.muli arg1 c2048_i32_40
  let c512_i32 : BitVec 32 := 512#32
  let v80 : BitVec 32 := Scalar.addi v79 c512_i32
  v80
def k0_mult5 (i : grid0.Coords) : BitVec 32 :=
  let arg1 : BitVec 32 := BitVec.ofNat 32 (i 1).val
  let c2048_i32_46 : BitVec 32 := 2048#32
  let v91 : BitVec 32 := Scalar.muli arg1 c2048_i32_46
  let c1024_i32_47 : BitVec 32 := 1024#32
  let v92 : BitVec 32 := Scalar.addi v91 c1024_i32_47
  v92
def k0_mult6 (i : grid0.Coords) : BitVec 32 :=
  let arg1 : BitVec 32 := BitVec.ofNat 32 (i 1).val
  let c2048_i32_53 : BitVec 32 := 2048#32
  let v103 : BitVec 32 := Scalar.muli arg1 c2048_i32_53
  let c1536_i32 : BitVec 32 := 1536#32
  let v104 : BitVec 32 := Scalar.addi v103 c1536_i32
  v104
def k0_cond3 (i : grid0.Coords) : BitVec 1 :=
  let arg0 : BitVec 32 := BitVec.ofNat 32 (i 0).val
  let c0_i32_9 : BitVec 32 := 0#32
  let v19 : BitVec 1 := Scalar.cmpi .sgt arg0 c0_i32_9
  let c1_i32 : BitVec 32 := 1#32
  let v0 : BitVec 32 := Scalar.subi arg0 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_10 : BitVec 32 := 0#32
  let v20 : BitVec 1 := Scalar.cmpi .sgt v10 c0_i32_10
  let c7_i32 : BitVec 32 := 7#32
  let v21 : BitVec 1 := Scalar.cmpi .slt v10 c7_i32
  let v22 : BitVec 1 := Scalar.andi v20 v21
  let v23 : BitVec 1 := Scalar.andi v19 v22
  let v24 : BitVec 32 := Scalar.extui v23
  let c0_i32_11 : BitVec 32 := 0#32
  let v25 : BitVec 1 := Scalar.cmpi .ne v24 c0_i32_11
  v25

def k0_mult7 (i : grid0.Coords) : BitVec 32 :=
  let arg1 : BitVec 32 := BitVec.ofNat 32 (i 1).val
  let c1024_i32 : BitVec 32 := 1024#32
  let v44 : BitVec 32 := Scalar.muli arg1 c1024_i32
  v44
def k0_off5 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v46 : Index := Scalar.indexCast v43
  let arg1 : BitVec 32 := BitVec.ofNat 32 (i 1).val
  let c1024_i32 : BitVec 32 := 1024#32
  let v44 : BitVec 32 := Scalar.muli arg1 c1024_i32
  let v45 : BitVec 32 := v44
  let v47 : Index := Scalar.indexCast v45
  let c0_22 : Index := 0#32
  ![v46.toNat, v47.toNat, 0]
def k0_off6 (i : grid0.Coords) : Fin 3 → Nat :=
  let arg0 : BitVec 32 := BitVec.ofNat 32 (i 0).val
  let c1_i32_23 : BitVec 32 := 1#32
  let v51 : BitVec 32 := Scalar.addi arg0 c1_i32_23
  let c2_i32_24 : BitVec 32 := 2#32
  let c0_i32_25 : BitVec 32 := 0#32
  let v52 : BitVec 1 := Scalar.cmpi .eq c2_i32_24 c0_i32_25
  let c1_i32_26 : BitVec 32 := 1#32
  let v53 : BitVec 32 := Scalar.select v52 c1_i32_26 c2_i32_24
  let v54 : BitVec 32 := Scalar.remsi v51 v53
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let c0_i32_27 : BitVec 32 := 0#32
  let v55 : BitVec 1 := Scalar.cmpi .ne v54 c0_i32_27
  let v59 : BitVec 1 := Scalar.andi v58 v55
  let v60 : BitVec 32 := Scalar.addi v54 v53
  let v61 : BitVec 32 := Scalar.select v59 v60 v54
  let v63 : Index := Scalar.indexCast v61
  let c0_32 : Index := 0#32
  let c0_33 : Index := 0#32
  ![v63.toNat, 0, 0]
def k0_mult8 (i : grid0.Coords) : BitVec 32 :=
  let arg1 : BitVec 32 := BitVec.ofNat 32 (i 1).val
  let c2048_i32 : BitVec 32 := 2048#32
  let v67 : BitVec 32 := Scalar.muli arg1 c2048_i32
  let c0_i32_34 : BitVec 32 := 0#32
  let v68 : BitVec 32 := Scalar.addi v67 c0_i32_34
  v68
def k0_off7 (i : grid0.Coords) (c0_i32_34 : BitVec 32) : Fin 2 → Nat :=
  let arg1 : BitVec 32 := BitVec.ofNat 32 (i 1).val
  let c2048_i32 : BitVec 32 := 2048#32
  let v67 : BitVec 32 := Scalar.muli arg1 c2048_i32
  let v68 : BitVec 32 := Scalar.addi v67 c0_i32_34
  let v69 : BitVec 32 := v68
  let v70 : Index := Scalar.indexCast v69
  let c0_35 : Index := 0#32
  ![v70.toNat, 0]
def k0_mult9 (i : grid0.Coords) : BitVec 32 :=
  let arg1 : BitVec 32 := BitVec.ofNat 32 (i 1).val
  let c2048_i32_41 : BitVec 32 := 2048#32
  let v82 : BitVec 32 := Scalar.muli arg1 c2048_i32_41
  let c512_i32 : BitVec 32 := 512#32
  let v83 : BitVec 32 := Scalar.addi v82 c512_i32
  v83
def k0_mult10 (i : grid0.Coords) : BitVec 32 :=
  let arg1 : BitVec 32 := BitVec.ofNat 32 (i 1).val
  let c2048_i32_48 : BitVec 32 := 2048#32
  let v97 : BitVec 32 := Scalar.muli arg1 c2048_i32_48
  let c1024_i32_49 : BitVec 32 := 1024#32
  let v98 : BitVec 32 := Scalar.addi v97 c1024_i32_49
  v98
def k0_mult11 (i : grid0.Coords) : BitVec 32 :=
  let arg1 : BitVec 32 := BitVec.ofNat 32 (i 1).val
  let c2048_i32_56 : BitVec 32 := 2048#32
  let v112 : BitVec 32 := Scalar.muli arg1 c2048_i32_56
  let c1536_i32 : BitVec 32 := 1536#32
  let v113 : BitVec 32 := Scalar.addi v112 c1536_i32
  v113
def k0_cond4 (i : grid0.Coords) : BitVec 1 :=
  let arg0 : BitVec 32 := BitVec.ofNat 32 (i 0).val
  let c0_i32_12 : BitVec 32 := 0#32
  let v26 : BitVec 1 := Scalar.cmpi .sgt arg0 c0_i32_12
  let c1_i32 : BitVec 32 := 1#32
  let v0 : BitVec 32 := Scalar.subi arg0 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c7_i32_13 : BitVec 32 := 7#32
  let v27 : BitVec 1 := Scalar.cmpi .eq v10 c7_i32_13
  let v28 : BitVec 1 := Scalar.andi v26 v27
  let v29 : BitVec 32 := Scalar.extui v28
  let c0_i32_14 : BitVec 32 := 0#32
  let v30 : BitVec 1 := Scalar.cmpi .ne v29 c0_i32_14
  v30

def k0_mult12 (i : grid0.Coords) : BitVec 32 :=
  let arg1 : BitVec 32 := BitVec.ofNat 32 (i 1).val
  let c1024_i32 : BitVec 32 := 1024#32
  let v44 : BitVec 32 := Scalar.muli arg1 c1024_i32
  v44
def k0_off8 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v46 : Index := Scalar.indexCast v43
  let arg1 : BitVec 32 := BitVec.ofNat 32 (i 1).val
  let c1024_i32 : BitVec 32 := 1024#32
  let v44 : BitVec 32 := Scalar.muli arg1 c1024_i32
  let v45 : BitVec 32 := v44
  let v47 : Index := Scalar.indexCast v45
  let c0_22 : Index := 0#32
  ![v46.toNat, v47.toNat, 0]
def k0_off9 (i : grid0.Coords) : Fin 3 → Nat :=
  let arg0 : BitVec 32 := BitVec.ofNat 32 (i 0).val
  let c1_i32_23 : BitVec 32 := 1#32
  let v51 : BitVec 32 := Scalar.addi arg0 c1_i32_23
  let c2_i32_24 : BitVec 32 := 2#32
  let c0_i32_25 : BitVec 32 := 0#32
  let v52 : BitVec 1 := Scalar.cmpi .eq c2_i32_24 c0_i32_25
  let c1_i32_26 : BitVec 32 := 1#32
  let v53 : BitVec 32 := Scalar.select v52 c1_i32_26 c2_i32_24
  let v54 : BitVec 32 := Scalar.remsi v51 v53
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let c0_i32_27 : BitVec 32 := 0#32
  let v55 : BitVec 1 := Scalar.cmpi .ne v54 c0_i32_27
  let v59 : BitVec 1 := Scalar.andi v58 v55
  let v60 : BitVec 32 := Scalar.addi v54 v53
  let v61 : BitVec 32 := Scalar.select v59 v60 v54
  let v63 : Index := Scalar.indexCast v61
  let c0_32 : Index := 0#32
  let c0_33 : Index := 0#32
  ![v63.toNat, 0, 0]
def k0_mult13 (i : grid0.Coords) : BitVec 32 :=
  let arg1 : BitVec 32 := BitVec.ofNat 32 (i 1).val
  let c2048_i32 : BitVec 32 := 2048#32
  let v67 : BitVec 32 := Scalar.muli arg1 c2048_i32
  let c0_i32_34 : BitVec 32 := 0#32
  let v68 : BitVec 32 := Scalar.addi v67 c0_i32_34
  v68
def k0_off10 (i : grid0.Coords) (c0_i32_34 : BitVec 32) : Fin 2 → Nat :=
  let arg1 : BitVec 32 := BitVec.ofNat 32 (i 1).val
  let c2048_i32 : BitVec 32 := 2048#32
  let v67 : BitVec 32 := Scalar.muli arg1 c2048_i32
  let v68 : BitVec 32 := Scalar.addi v67 c0_i32_34
  let v69 : BitVec 32 := v68
  let v70 : Index := Scalar.indexCast v69
  let c0_35 : Index := 0#32
  ![v70.toNat, 0]
def k0_mult14 (i : grid0.Coords) : BitVec 32 :=
  let arg1 : BitVec 32 := BitVec.ofNat 32 (i 1).val
  let c2048_i32_42 : BitVec 32 := 2048#32
  let v80 : BitVec 32 := Scalar.muli arg1 c2048_i32_42
  let c512_i32 : BitVec 32 := 512#32
  let v81 : BitVec 32 := Scalar.addi v80 c512_i32
  v81
def k0_mult15 (i : grid0.Coords) : BitVec 32 :=
  let arg1 : BitVec 32 := BitVec.ofNat 32 (i 1).val
  let c2048_i32_50 : BitVec 32 := 2048#32
  let v93 : BitVec 32 := Scalar.muli arg1 c2048_i32_50
  let c1024_i32_51 : BitVec 32 := 1024#32
  let v94 : BitVec 32 := Scalar.addi v93 c1024_i32_51
  v94
def k0_mult16 (i : grid0.Coords) : BitVec 32 :=
  let arg1 : BitVec 32 := BitVec.ofNat 32 (i 1).val
  let c2048_i32_59 : BitVec 32 := 2048#32
  let v106 : BitVec 32 := Scalar.muli arg1 c2048_i32_59
  let c1536_i32 : BitVec 32 := 1536#32
  let v107 : BitVec 32 := Scalar.addi v106 c1536_i32
  v107
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 32 := Scalar.divsi v1 c8_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v1 c8_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c8_i32_17 : BitVec 32 := 8#32
  let c0_i32_18 : BitVec 32 := 0#32
  let v46 : BitVec 1 := Scalar.cmpi .eq c8_i32_17 c0_i32_18
  let c1_i32_19 : BitVec 32 := 1#32
  let v47 : BitVec 32 := Scalar.select v46 c1_i32_19 c8_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c2_i32 : BitVec 32 := 2#32
  let v56 : BitVec 32 := Scalar.muli v18 c2_i32
  let c0_i32_23 : BitVec 32 := 0#32
  let v57 : BitVec 1 := Scalar.cmpi .sgt arg0 c0_i32_23
  let c0_i32_24 : BitVec 32 := 0#32
  let v58 : BitVec 32 := Scalar.select v57 arg1 c0_i32_24
  let v59 : BitVec 32 := Scalar.addi v56 v58
  let c0_i32_25 : BitVec 32 := 0#32
  ![v59.toNat, v55.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.divsi v0 c8_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c8_i32 c0_i32_6
  let v25 : BitVec 32 := Scalar.extui v24
  let c0_i32_7 : BitVec 32 := 0#32
  let v26 : BitVec 1 := Scalar.cmpi .slt c8_i32 c0_i32_7
  let v27 : BitVec 32 := Scalar.extui v26
  let v28 : BitVec 32 := Scalar.subi v25 v27
  let v29 : BitVec 1 := Scalar.cmpi .ne v23 v28
  let v30 : BitVec 32 := Scalar.remsi v0 c8_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c8_i32_15 : BitVec 32 := 8#32
  let c0_i32_16 : BitVec 32 := 0#32
  let v45 : BitVec 1 := Scalar.cmpi .eq c8_i32_15 c0_i32_16
  let c1_i32_17 : BitVec 32 := 1#32
  let v46 : BitVec 32 := Scalar.select v45 c1_i32_17 c8_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c2_i32 : BitVec 32 := 2#32
  let v55 : BitVec 32 := Scalar.muli v54 c2_i32
  let v56 : BitVec 32 := Scalar.addi v55 arg1
  let c0_i32_21 : BitVec 32 := 0#32
  let c0_i32_22 : BitVec 32 := 0#32
  ![c0_i32_21.toNat, v56.toNat, v44.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 32 := Scalar.divsi v1 c8_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v1 c8_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c8_i32_17 : BitVec 32 := 8#32
  let c0_i32_18 : BitVec 32 := 0#32
  let v46 : BitVec 1 := Scalar.cmpi .eq c8_i32_17 c0_i32_18
  let c1_i32_19 : BitVec 32 := 1#32
  let v47 : BitVec 32 := Scalar.select v46 c1_i32_19 c8_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c2_i32 : BitVec 32 := 2#32
  let v56 : BitVec 32 := Scalar.muli v18 c2_i32
  let c0_i32_23 : BitVec 32 := 0#32
  let v57 : BitVec 1 := Scalar.cmpi .sgt arg0 c0_i32_23
  let c7_i32 : BitVec 32 := 7#32
  let v58 : BitVec 1 := Scalar.cmpi .eq v55 c7_i32
  let v59 : BitVec 1 := Scalar.andi v57 v58
  let c0_i32_24 : BitVec 32 := 0#32
  let v60 : BitVec 32 := Scalar.select v59 arg1 c0_i32_24
  let v61 : BitVec 32 := Scalar.addi v56 v60
  let c0_i32_25 : BitVec 32 := 0#32
  ![v61.toNat, v45.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x16384 : Shape := ⟨2, ![8192, 16384]⟩
abbrev S2x16384x4096 : Shape := ⟨3, ![2, 16384, 4096]⟩
abbrev S1x16384x4096 : Shape := ⟨3, ![1, 16384, 4096]⟩
abbrev S16384x4096 : Shape := ⟨2, ![16384, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S2x16384x4096, .f32⟩
  | .hbm, ⟨2, _⟩ => ⟨S8192x16384, .f32⟩
  | .hbm, ⟨3, _⟩ => ⟨S1x16384x4096, .f32⟩
  | .hbm, ⟨4, _⟩ => ⟨S16384x4096, .f32⟩
  | .hbm, ⟨5, _⟩ => ⟨S8192x4096, .f32⟩
  | .hbm, ⟨6, _⟩ => ⟨S8192x4096, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x8192 : Shape := ⟨2, ![8192, 8192]⟩
abbrev S1x8192x4096 : Shape := ⟨3, ![1, 8192, 4096]⟩
abbrev S8192x4096 : Shape := ⟨2, ![8192, 4096]⟩
abbrev S2048x2048 : Shape := ⟨2, ![2048, 2048]⟩
abbrev S1x1024x1024 : Shape := ⟨3, ![1, 1024, 1024]⟩
abbrev S2048x1024 : Shape := ⟨2, ![2048, 1024]⟩
abbrev S2x2048x1024 : Shape := ⟨3, ![2, 2048, 1024]⟩
abbrev S4096x1024 : Shape := ⟨2, ![4096, 1024]⟩
abbrev S1024x1024 : Shape := ⟨2, ![1024, 1024]⟩
abbrev S512x2048 : Shape := ⟨2, ![512, 2048]⟩
abbrev S1x2048x1024 : Shape := ⟨3, ![1, 2048, 1024]⟩
abbrev S512x1024 : Shape := ⟨2, ![512, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S1x8192x4096, .f32⟩
  | .hbm, ⟨2, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2x2048x1024, .bf16⟩
  | .local _ .vmem, ⟨7, _⟩ => ⟨S4096x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![33, 2], ![false, false]⟩

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def k0_mult1 (i : grid0.Coords) : BitVec 32 :=
  let arg1 : BitVec 32 := BitVec.ofNat 32 (i 1).val
  let c1024_i32 : BitVec 32 := 1024#32
  let v44 : BitVec 32 := Scalar.muli arg1 c1024_i32
  v44
def k0_off1 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v46 : Index := Scalar.indexCast v43
  let arg1 : BitVec 32 := BitVec.ofNat 32 (i 1).val
  let c1024_i32 : BitVec 32 := 1024#32
  let v44 : BitVec 32 := Scalar.muli arg1 c1024_i32
  let v45 : BitVec 32 := v44
  let v47 : Index := Scalar.indexCast v45
  let c0_22 : Index := 0#32
  ![v46.toNat, v47.toNat, 0]
def k0_cond2 (i : grid0.Coords) : BitVec 1 :=
  let arg0 : BitVec 32 := BitVec.ofNat 32 (i 0).val
  let c0_i32_6 : BitVec 32 := 0#32
  let v14 : BitVec 1 := Scalar.cmpi .sgt arg0 c0_i32_6
  let c1_i32 : BitVec 32 := 1#32
  let v0 : BitVec 32 := Scalar.subi arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_7 : BitVec 32 := 0#32
  let v15 : BitVec 1 := Scalar.cmpi .eq v10 c0_i32_7
  let v16 : BitVec 1 := Scalar.andi v14 v15
  let v17 : BitVec 32 := Scalar.extui v16
  let c0_i32_8 : BitVec 32 := 0#32
  let v18 : BitVec 1 := Scalar.cmpi .ne v17 c0_i32_8
  v18

def k0_mult2 (i : grid0.Coords) : BitVec 32 :=
  let arg1 : BitVec 32 := BitVec.ofNat 32 (i 1).val
  let c1024_i32 : BitVec 32 := 1024#32
  let v44 : BitVec 32 := Scalar.muli arg1 c1024_i32
  v44
def k0_off2 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v46 : Index := Scalar.indexCast v43
  let arg1 : BitVec 32 := BitVec.ofNat 32 (i 1).val
  let c1024_i32 : BitVec 32 := 1024#32
  let v44 : BitVec 32 := Scalar.muli arg1 c1024_i32
  let v45 : BitVec 32 := v44
  let v47 : Index := Scalar.indexCast v45
  let c0_22 : Index := 0#32
  ![v46.toNat, v47.toNat, 0]
def k0_off3 (i : grid0.Coords) : Fin 3 → Nat :=
  let arg0 : BitVec 32 := BitVec.ofNat 32 (i 0).val
  let c1_i32_23 : BitVec 32 := 1#32
  let v51 : BitVec 32 := Scalar.addi arg0 c1_i32_23
  let c2_i32_24 : BitVec 32 := 2#32
  let c0_i32_25 : BitVec 32 := 0#32
  let v52 : BitVec 1 := Scalar.cmpi .eq c2_i32_24 c0_i32_25
  let c1_i32_26 : BitVec 32 := 1#32
  let v53 : BitVec 32 := Scalar.select v52 c1_i32_26 c2_i32_24
  let v54 : BitVec 32 := Scalar.remsi v51 v53
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let c0_i32_27 : BitVec 32 := 0#32
  let v55 : BitVec 1 := Scalar.cmpi .ne v54 c0_i32_27
  let v59 : BitVec 1 := Scalar.andi v58 v55
  let v60 : BitVec 32 := Scalar.addi v54 v53
  let v61 : BitVec 32 := Scalar.select v59 v60 v54
  let v63 : Index := Scalar.indexCast v61
  let c0_32 : Index := 0#32
  let c0_33 : Index := 0#32
  ![v63.toNat, 0, 0]
def k0_mult3 (i : grid0.Coords) : BitVec 32 :=
  let arg1 : BitVec 32 := BitVec.ofNat 32 (i 1).val
  let c2048_i32 : BitVec 32 := 2048#32
  let v67 : BitVec 32 := Scalar.muli arg1 c2048_i32
  let c0_i32_34 : BitVec 32 := 0#32
  let v68 : BitVec 32 := Scalar.addi v67 c0_i32_34
  v68
def k0_off4 (i : grid0.Coords) (c0_i32_34 : BitVec 32) : Fin 2 → Nat :=
  let arg1 : BitVec 32 := BitVec.ofNat 32 (i 1).val
  let c2048_i32 : BitVec 32 := 2048#32
  let v67 : BitVec 32 := Scalar.muli arg1 c2048_i32
  let v68 : BitVec 32 := Scalar.addi v67 c0_i32_34
  let v69 : BitVec 32 := v68
  let v70 : Index := Scalar.indexCast v69
  let c0_35 : Index := 0#32
  ![v70.toNat, 0]
def k0_mult4 (i : grid0.Coords) : BitVec 32 :=
  let arg1 : BitVec 32 := BitVec.ofNat 32 (i 1).val
  let c2048_i32_40 : BitVec 32 := 2048#32
  let v79 : BitVec 32 := Scalar.muli arg1 c2048_i32_40
  let c512_i32 : BitVec 32 := 512#32
  let v80 : BitVec 32 := Scalar.addi v79 c512_i32
  v80
def k0_mult5 (i : grid0.Coords) : BitVec 32 :=
  let arg1 : BitVec 32 := BitVec.ofNat 32 (i 1).val
  let c2048_i32_46 : BitVec 32 := 2048#32
  let v91 : BitVec 32 := Scalar.muli arg1 c2048_i32_46
  let c1024_i32_47 : BitVec 32 := 1024#32
  let v92 : BitVec 32 := Scalar.addi v91 c1024_i32_47
  v92
def k0_mult6 (i : grid0.Coords) : BitVec 32 :=
  let arg1 : BitVec 32 := BitVec.ofNat 32 (i 1).val
  let c2048_i32_53 : BitVec 32 := 2048#32
  let v103 : BitVec 32 := Scalar.muli arg1 c2048_i32_53
  let c1536_i32 : BitVec 32 := 1536#32
  let v104 : BitVec 32 := Scalar.addi v103 c1536_i32
  v104
def k0_cond3 (i : grid0.Coords) : BitVec 1 :=
  let arg0 : BitVec 32 := BitVec.ofNat 32 (i 0).val
  let c0_i32_9 : BitVec 32 := 0#32
  let v19 : BitVec 1 := Scalar.cmpi .sgt arg0 c0_i32_9
  let c1_i32 : BitVec 32 := 1#32
  let v0 : BitVec 32 := Scalar.subi arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_10 : BitVec 32 := 0#32
  let v20 : BitVec 1 := Scalar.cmpi .sgt v10 c0_i32_10
  let c3_i32 : BitVec 32 := 3#32
  let v21 : BitVec 1 := Scalar.cmpi .slt v10 c3_i32
  let v22 : BitVec 1 := Scalar.andi v20 v21
  let v23 : BitVec 1 := Scalar.andi v19 v22
  let v24 : BitVec 32 := Scalar.extui v23
  let c0_i32_11 : BitVec 32 := 0#32
  let v25 : BitVec 1 := Scalar.cmpi .ne v24 c0_i32_11
  v25

def k0_mult7 (i : grid0.Coords) : BitVec 32 :=
  let arg1 : BitVec 32 := BitVec.ofNat 32 (i 1).val
  let c1024_i32 : BitVec 32 := 1024#32
  let v44 : BitVec 32 := Scalar.muli arg1 c1024_i32
  v44
def k0_off5 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v46 : Index := Scalar.indexCast v43
  let arg1 : BitVec 32 := BitVec.ofNat 32 (i 1).val
  let c1024_i32 : BitVec 32 := 1024#32
  let v44 : BitVec 32 := Scalar.muli arg1 c1024_i32
  let v45 : BitVec 32 := v44
  let v47 : Index := Scalar.indexCast v45
  let c0_22 : Index := 0#32
  ![v46.toNat, v47.toNat, 0]
def k0_off6 (i : grid0.Coords) : Fin 3 → Nat :=
  let arg0 : BitVec 32 := BitVec.ofNat 32 (i 0).val
  let c1_i32_23 : BitVec 32 := 1#32
  let v51 : BitVec 32 := Scalar.addi arg0 c1_i32_23
  let c2_i32_24 : BitVec 32 := 2#32
  let c0_i32_25 : BitVec 32 := 0#32
  let v52 : BitVec 1 := Scalar.cmpi .eq c2_i32_24 c0_i32_25
  let c1_i32_26 : BitVec 32 := 1#32
  let v53 : BitVec 32 := Scalar.select v52 c1_i32_26 c2_i32_24
  let v54 : BitVec 32 := Scalar.remsi v51 v53
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let c0_i32_27 : BitVec 32 := 0#32
  let v55 : BitVec 1 := Scalar.cmpi .ne v54 c0_i32_27
  let v59 : BitVec 1 := Scalar.andi v58 v55
  let v60 : BitVec 32 := Scalar.addi v54 v53
  let v61 : BitVec 32 := Scalar.select v59 v60 v54
  let v63 : Index := Scalar.indexCast v61
  let c0_32 : Index := 0#32
  let c0_33 : Index := 0#32
  ![v63.toNat, 0, 0]
def k0_mult8 (i : grid0.Coords) : BitVec 32 :=
  let arg1 : BitVec 32 := BitVec.ofNat 32 (i 1).val
  let c2048_i32 : BitVec 32 := 2048#32
  let v67 : BitVec 32 := Scalar.muli arg1 c2048_i32
  let c0_i32_34 : BitVec 32 := 0#32
  let v68 : BitVec 32 := Scalar.addi v67 c0_i32_34
  v68
def k0_off7 (i : grid0.Coords) (c0_i32_34 : BitVec 32) : Fin 2 → Nat :=
  let arg1 : BitVec 32 := BitVec.ofNat 32 (i 1).val
  let c2048_i32 : BitVec 32 := 2048#32
  let v67 : BitVec 32 := Scalar.muli arg1 c2048_i32
  let v68 : BitVec 32 := Scalar.addi v67 c0_i32_34
  let v69 : BitVec 32 := v68
  let v70 : Index := Scalar.indexCast v69
  let c0_35 : Index := 0#32
  ![v70.toNat, 0]
def k0_mult9 (i : grid0.Coords) : BitVec 32 :=
  let arg1 : BitVec 32 := BitVec.ofNat 32 (i 1).val
  let c2048_i32_41 : BitVec 32 := 2048#32
  let v82 : BitVec 32 := Scalar.muli arg1 c2048_i32_41
  let c512_i32 : BitVec 32 := 512#32
  let v83 : BitVec 32 := Scalar.addi v82 c512_i32
  v83
def k0_mult10 (i : grid0.Coords) : BitVec 32 :=
  let arg1 : BitVec 32 := BitVec.ofNat 32 (i 1).val
  let c2048_i32_48 : BitVec 32 := 2048#32
  let v97 : BitVec 32 := Scalar.muli arg1 c2048_i32_48
  let c1024_i32_49 : BitVec 32 := 1024#32
  let v98 : BitVec 32 := Scalar.addi v97 c1024_i32_49
  v98
def k0_mult11 (i : grid0.Coords) : BitVec 32 :=
  let arg1 : BitVec 32 := BitVec.ofNat 32 (i 1).val
  let c2048_i32_56 : BitVec 32 := 2048#32
  let v112 : BitVec 32 := Scalar.muli arg1 c2048_i32_56
  let c1536_i32 : BitVec 32 := 1536#32
  let v113 : BitVec 32 := Scalar.addi v112 c1536_i32
  v113
def k0_cond4 (i : grid0.Coords) : BitVec 1 :=
  let arg0 : BitVec 32 := BitVec.ofNat 32 (i 0).val
  let c0_i32_12 : BitVec 32 := 0#32
  let v26 : BitVec 1 := Scalar.cmpi .sgt arg0 c0_i32_12
  let c1_i32 : BitVec 32 := 1#32
  let v0 : BitVec 32 := Scalar.subi arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c3_i32_13 : BitVec 32 := 3#32
  let v27 : BitVec 1 := Scalar.cmpi .eq v10 c3_i32_13
  let v28 : BitVec 1 := Scalar.andi v26 v27
  let v29 : BitVec 32 := Scalar.extui v28
  let c0_i32_14 : BitVec 32 := 0#32
  let v30 : BitVec 1 := Scalar.cmpi .ne v29 c0_i32_14
  v30

def k0_mult12 (i : grid0.Coords) : BitVec 32 :=
  let arg1 : BitVec 32 := BitVec.ofNat 32 (i 1).val
  let c1024_i32 : BitVec 32 := 1024#32
  let v44 : BitVec 32 := Scalar.muli arg1 c1024_i32
  v44
def k0_off8 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v46 : Index := Scalar.indexCast v43
  let arg1 : BitVec 32 := BitVec.ofNat 32 (i 1).val
  let c1024_i32 : BitVec 32 := 1024#32
  let v44 : BitVec 32 := Scalar.muli arg1 c1024_i32
  let v45 : BitVec 32 := v44
  let v47 : Index := Scalar.indexCast v45
  let c0_22 : Index := 0#32
  ![v46.toNat, v47.toNat, 0]
def k0_off9 (i : grid0.Coords) : Fin 3 → Nat :=
  let arg0 : BitVec 32 := BitVec.ofNat 32 (i 0).val
  let c1_i32_23 : BitVec 32 := 1#32
  let v51 : BitVec 32 := Scalar.addi arg0 c1_i32_23
  let c2_i32_24 : BitVec 32 := 2#32
  let c0_i32_25 : BitVec 32 := 0#32
  let v52 : BitVec 1 := Scalar.cmpi .eq c2_i32_24 c0_i32_25
  let c1_i32_26 : BitVec 32 := 1#32
  let v53 : BitVec 32 := Scalar.select v52 c1_i32_26 c2_i32_24
  let v54 : BitVec 32 := Scalar.remsi v51 v53
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let c0_i32_27 : BitVec 32 := 0#32
  let v55 : BitVec 1 := Scalar.cmpi .ne v54 c0_i32_27
  let v59 : BitVec 1 := Scalar.andi v58 v55
  let v60 : BitVec 32 := Scalar.addi v54 v53
  let v61 : BitVec 32 := Scalar.select v59 v60 v54
  let v63 : Index := Scalar.indexCast v61
  let c0_32 : Index := 0#32
  let c0_33 : Index := 0#32
  ![v63.toNat, 0, 0]
def k0_mult13 (i : grid0.Coords) : BitVec 32 :=
  let arg1 : BitVec 32 := BitVec.ofNat 32 (i 1).val
  let c2048_i32 : BitVec 32 := 2048#32
  let v67 : BitVec 32 := Scalar.muli arg1 c2048_i32
  let c0_i32_34 : BitVec 32 := 0#32
  let v68 : BitVec 32 := Scalar.addi v67 c0_i32_34
  v68
def k0_off10 (i : grid0.Coords) (c0_i32_34 : BitVec 32) : Fin 2 → Nat :=
  let arg1 : BitVec 32 := BitVec.ofNat 32 (i 1).val
  let c2048_i32 : BitVec 32 := 2048#32
  let v67 : BitVec 32 := Scalar.muli arg1 c2048_i32
  let v68 : BitVec 32 := Scalar.addi v67 c0_i32_34
  let v69 : BitVec 32 := v68
  let v70 : Index := Scalar.indexCast v69
  let c0_35 : Index := 0#32
  ![v70.toNat, 0]
def k0_mult14 (i : grid0.Coords) : BitVec 32 :=
  let arg1 : BitVec 32 := BitVec.ofNat 32 (i 1).val
  let c2048_i32_42 : BitVec 32 := 2048#32
  let v80 : BitVec 32 := Scalar.muli arg1 c2048_i32_42
  let c512_i32 : BitVec 32 := 512#32
  let v81 : BitVec 32 := Scalar.addi v80 c512_i32
  v81
def k0_mult15 (i : grid0.Coords) : BitVec 32 :=
  let arg1 : BitVec 32 := BitVec.ofNat 32 (i 1).val
  let c2048_i32_50 : BitVec 32 := 2048#32
  let v93 : BitVec 32 := Scalar.muli arg1 c2048_i32_50
  let c1024_i32_51 : BitVec 32 := 1024#32
  let v94 : BitVec 32 := Scalar.addi v93 c1024_i32_51
  v94
def k0_mult16 (i : grid0.Coords) : BitVec 32 :=
  let arg1 : BitVec 32 := BitVec.ofNat 32 (i 1).val
  let c2048_i32_59 : BitVec 32 := 2048#32
  let v106 : BitVec 32 := Scalar.muli arg1 c2048_i32_59
  let c1536_i32 : BitVec 32 := 1536#32
  let v107 : BitVec 32 := Scalar.addi v106 c1536_i32
  v107
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let v19 : BitVec 32 := Scalar.divsi v1 c4_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c4_i32 c0_i32_8
  let v26 : BitVec 32 := Scalar.extui v25
  let c0_i32_9 : BitVec 32 := 0#32
  let v27 : BitVec 1 := Scalar.cmpi .slt c4_i32 c0_i32_9
  let v28 : BitVec 32 := Scalar.extui v27
  let v29 : BitVec 32 := Scalar.subi v26 v28
  let v30 : BitVec 1 := Scalar.cmpi .ne v24 v29
  let v31 : BitVec 32 := Scalar.remsi v1 c4_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32_12 : BitVec 32 := 4#32
  let c0_i32_13 : BitVec 32 := 0#32
  let v36 : BitVec 1 := Scalar.cmpi .eq c4_i32_12 c0_i32_13
  let c1_i32_14 : BitVec 32 := 1#32
  let v37 : BitVec 32 := Scalar.select v36 c1_i32_14 c4_i32_12
  let v38 : BitVec 32 := Scalar.remsi v35 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c2_i32 : BitVec 32 := 2#32
  let v56 : BitVec 32 := Scalar.muli v18 c2_i32
  let c0_i32_24 : BitVec 32 := 0#32
  let v57 : BitVec 1 := Scalar.cmpi .sgt arg0 c0_i32_24
  let c0_i32_25 : BitVec 32 := 0#32
  let v58 : BitVec 32 := Scalar.select v57 arg1 c0_i32_25
  let v59 : BitVec 32 := Scalar.addi v56 v58
  let c0_i32_26 : BitVec 32 := 0#32
  ![v59.toNat, v55.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.divsi v0 c4_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c4_i32 c0_i32_6
  let v25 : BitVec 32 := Scalar.extui v24
  let c0_i32_7 : BitVec 32 := 0#32
  let v26 : BitVec 1 := Scalar.cmpi .slt c4_i32 c0_i32_7
  let v27 : BitVec 32 := Scalar.extui v26
  let v28 : BitVec 32 := Scalar.subi v25 v27
  let v29 : BitVec 1 := Scalar.cmpi .ne v23 v28
  let v30 : BitVec 32 := Scalar.remsi v0 c4_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32_10 : BitVec 32 := 4#32
  let c0_i32_11 : BitVec 32 := 0#32
  let v35 : BitVec 1 := Scalar.cmpi .eq c4_i32_10 c0_i32_11
  let c1_i32_12 : BitVec 32 := 1#32
  let v36 : BitVec 32 := Scalar.select v35 c1_i32_12 c4_i32_10
  let v37 : BitVec 32 := Scalar.remsi v34 v36
  let c0_i32_13 : BitVec 32 := 0#32
  let v38 : BitVec 1 := Scalar.cmpi .ne v37 c0_i32_13
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let v42 : BitVec 1 := Scalar.andi v41 v38
  let v43 : BitVec 32 := Scalar.addi v37 v36
  let v44 : BitVec 32 := Scalar.select v42 v43 v37
  let c4_i32_16 : BitVec 32 := 4#32
  let c0_i32_17 : BitVec 32 := 0#32
  let v45 : BitVec 1 := Scalar.cmpi .eq c4_i32_16 c0_i32_17
  let c1_i32_18 : BitVec 32 := 1#32
  let v46 : BitVec 32 := Scalar.select v45 c1_i32_18 c4_i32_16
  let v47 : BitVec 32 := Scalar.remsi v0 v46
  let c0_i32_19 : BitVec 32 := 0#32
  let v48 : BitVec 1 := Scalar.cmpi .ne v47 c0_i32_19
  let c0_i32_20 : BitVec 32 := 0#32
  let v49 : BitVec 1 := Scalar.cmpi .slt v47 c0_i32_20
  let c0_i32_21 : BitVec 32 := 0#32
  let v50 : BitVec 1 := Scalar.cmpi .slt v46 c0_i32_21
  let v51 : BitVec 1 := Scalar.xori v49 v50
  let v52 : BitVec 1 := Scalar.andi v51 v48
  let v53 : BitVec 32 := Scalar.addi v47 v46
  let v54 : BitVec 32 := Scalar.select v52 v53 v47
  let c2_i32 : BitVec 32 := 2#32
  let v55 : BitVec 32 := Scalar.muli v54 c2_i32
  let v56 : BitVec 32 := Scalar.addi v55 arg1
  let c0_i32_22 : BitVec 32 := 0#32
  let c0_i32_23 : BitVec 32 := 0#32
  ![c0_i32_22.toNat, v56.toNat, v44.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let v19 : BitVec 32 := Scalar.divsi v1 c4_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c4_i32 c0_i32_8
  let v26 : BitVec 32 := Scalar.extui v25
  let c0_i32_9 : BitVec 32 := 0#32
  let v27 : BitVec 1 := Scalar.cmpi .slt c4_i32 c0_i32_9
  let v28 : BitVec 32 := Scalar.extui v27
  let v29 : BitVec 32 := Scalar.subi v26 v28
  let v30 : BitVec 1 := Scalar.cmpi .ne v24 v29
  let v31 : BitVec 32 := Scalar.remsi v1 c4_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32_12 : BitVec 32 := 4#32
  let c0_i32_13 : BitVec 32 := 0#32
  let v36 : BitVec 1 := Scalar.cmpi .eq c4_i32_12 c0_i32_13
  let c1_i32_14 : BitVec 32 := 1#32
  let v37 : BitVec 32 := Scalar.select v36 c1_i32_14 c4_i32_12
  let v38 : BitVec 32 := Scalar.remsi v35 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c2_i32 : BitVec 32 := 2#32
  let v56 : BitVec 32 := Scalar.muli v18 c2_i32
  let c0_i32_24 : BitVec 32 := 0#32
  let v57 : BitVec 1 := Scalar.cmpi .sgt arg0 c0_i32_24
  let c3_i32 : BitVec 32 := 3#32
  let v58 : BitVec 1 := Scalar.cmpi .eq v55 c3_i32
  let v59 : BitVec 1 := Scalar.andi v57 v58
  let c0_i32_25 : BitVec 32 := 0#32
  let v60 : BitVec 32 := Scalar.select v59 arg1 c0_i32_25
  let v61 : BitVec 32 := Scalar.addi v56 v60
  let c0_i32_26 : BitVec 32 := 0#32
  ![v61.toNat, v45.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x8192 : Shape := ⟨2, ![8192, 8192]⟩
abbrev S1x8192x4096 : Shape := ⟨3, ![1, 8192, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1x8192x4096, .f32⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x4096 : Shape := ⟨2, ![8192, 4096]⟩
abbrev S1x4096x4096 : Shape := ⟨3, ![1, 4096, 4096]⟩
abbrev S1x4096 : Shape := ⟨2, ![1, 4096]⟩
abbrev S4096 : Shape := ⟨1, ![4096]⟩
abbrev S1024x4096 : Shape := ⟨2, ![1024, 4096]⟩
abbrev S1x512x1024 : Shape := ⟨3, ![1, 512, 1024]⟩
abbrev S1x1024 : Shape := ⟨2, ![1, 1024]⟩
abbrev S1024x1024 : Shape := ⟨2, ![1024, 1024]⟩
abbrev S2x4096x1024 : Shape := ⟨3, ![2, 4096, 1024]⟩
abbrev S512x1024 : Shape := ⟨2, ![512, 1024]⟩
abbrev S512x4096 : Shape := ⟨2, ![512, 4096]⟩
abbrev S1x4096x1024 : Shape := ⟨3, ![1, 4096, 1024]⟩
abbrev S4096x1024 : Shape := ⟨2, ![4096, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2x4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 3 → Nat :=
  let arg0 : BitVec 32 := BitVec.ofNat 32 (i 0).val
  let c2_i32 : BitVec 32 := 2#32
  let c0_i32_5 : BitVec 32 := 0#32
  let v9 : BitVec 1 := Scalar.cmpi .eq c2_i32 c0_i32_5
  let c1_i32 : BitVec 32 := 1#32
  let v10 : BitVec 32 := Scalar.select v9 c1_i32 c2_i32
  let v11 : BitVec 32 := Scalar.remsi arg0 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v21 : Index := Scalar.indexCast v18
  let arg1 : BitVec 32 := BitVec.ofNat 32 (i 1).val
  let c512_i32 : BitVec 32 := 512#32
  let v19 : BitVec 32 := Scalar.muli arg1 c512_i32
  let v20 : BitVec 32 := v19
  let v22 : Index := Scalar.indexCast v20
  let c0_9 : Index := 0#32
  ![v21.toNat, v22.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_mult2 (i : grid0.Coords) : BitVec 32 :=
  let arg1 : BitVec 32 := BitVec.ofNat 32 (i 1).val
  let c512_i32 : BitVec 32 := 512#32
  let v19 : BitVec 32 := Scalar.muli arg1 c512_i32
  v19
def k0_off2 (i : grid0.Coords) : Fin 3 → Nat :=
  let arg0 : BitVec 32 := BitVec.ofNat 32 (i 0).val
  let c2_i32 : BitVec 32 := 2#32
  let c0_i32_5 : BitVec 32 := 0#32
  let v9 : BitVec 1 := Scalar.cmpi .eq c2_i32 c0_i32_5
  let c1_i32 : BitVec 32 := 1#32
  let v10 : BitVec 32 := Scalar.select v9 c1_i32 c2_i32
  let v11 : BitVec 32 := Scalar.remsi arg0 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v21 : Index := Scalar.indexCast v18
  let arg1 : BitVec 32 := BitVec.ofNat 32 (i 1).val
  let c512_i32 : BitVec 32 := 512#32
  let v19 : BitVec 32 := Scalar.muli arg1 c512_i32
  let v20 : BitVec 32 := v19
  let v22 : Index := Scalar.indexCast v20
  let c0_9 : Index := 0#32
  ![v21.toNat, v22.toNat, 0]
def k0_off3 (i : grid0.Coords) : Fin 3 → Nat :=
  let arg0 : BitVec 32 := BitVec.ofNat 32 (i 0).val
  let c1_i32_10 : BitVec 32 := 1#32
  let v26 : BitVec 32 := Scalar.addi arg0 c1_i32_10
  let c2_i32_11 : BitVec 32 := 2#32
  let c0_i32_12 : BitVec 32 := 0#32
  let v27 : BitVec 1 := Scalar.cmpi .eq c2_i32_11 c0_i32_12
  let c1_i32_13 : BitVec 32 := 1#32
  let v28 : BitVec 32 := Scalar.select v27 c1_i32_13 c2_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  let v38 : Index := Scalar.indexCast v36
  let c0_19 : Index := 0#32
  let c0_20 : Index := 0#32
  ![v38.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![c0_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x4096 : Shape := ⟨2, ![8192, 4096]⟩
abbrev S1x4096x4096 : Shape := ⟨3, ![1, 4096, 4096]⟩
abbrev S1x4096 : Shape := ⟨2, ![1, 4096]⟩
abbrev S4096x4096 : Shape := ⟨2, ![4096, 4096]⟩
abbrev S4096 : Shape := ⟨1, ![4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S1x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x4096 : Shape := ⟨2, ![8192, 4096]⟩
abbrev S1x4096x24576 : Shape := ⟨3, ![1, 4096, 24576]⟩
abbrev S1x4096 : Shape := ⟨2, ![1, 4096]⟩
abbrev S2x4096x24576 : Shape := ⟨3, ![2, 4096, 24576]⟩
abbrev S2x24576 : Shape := ⟨2, ![2, 24576]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S4096x1 : Shape := ⟨2, ![4096, 1]⟩
abbrev S2x1x24576 : Shape := ⟨3, ![2, 1, 24576]⟩
abbrev S96x8192x256 : Shape := ⟨3, ![96, 8192, 256]⟩
abbrev S1x40960 : Shape := ⟨2, ![1, 40960]⟩
abbrev S1024x4096 : Shape := ⟨2, ![1024, 4096]⟩
abbrev S1x512x1024 : Shape := ⟨3, ![1, 512, 1024]⟩
abbrev S1024x128 : Shape := ⟨2, ![1024, 128]⟩
abbrev S1x4096x256 : Shape := ⟨3, ![1, 4096, 256]⟩
abbrev S1x1x256 : Shape := ⟨3, ![1, 1, 256]⟩
abbrev S4x1024x256 : Shape := ⟨3, ![4, 1024, 256]⟩
abbrev S1x256 : Shape := ⟨2, ![1, 256]⟩
abbrev S2x4096x1024 : Shape := ⟨3, ![2, 4096, 1024]⟩
abbrev S4096x128 : Shape := ⟨2, ![4096, 128]⟩
abbrev S512x1024 : Shape := ⟨2, ![512, 1024]⟩
abbrev S1x4096x128 : Shape := ⟨3, ![1, 4096, 128]⟩
abbrev S512x4096 : Shape := ⟨2, ![512, 4096]⟩
abbrev S1x4096x1024 : Shape := ⟨3, ![1, 4096, 1024]⟩
abbrev S4096x1024 : Shape := ⟨2, ![4096, 1024]⟩
abbrev S512x128 : Shape := ⟨2, ![512, 128]⟩
abbrev S512x256 : Shape := ⟨2, ![512, 256]⟩
abbrev S1x512x256 : Shape := ⟨3, ![1, 512, 256]⟩

abbrev nBuf : Space → Nat
  | .hbm => 25
  | .vmem => 19
  | .smem => 0
  | _ => 0

abbrev bufTy : (tb : Table) → Fin (tcTables nBuf tb) → BufTy
  | .hbm, ⟨0, _⟩ => ⟨S8192x4096, .bf16⟩
  | .hbm, ⟨1, _⟩ => ⟨S1x4096x24576, .f32⟩
  | .hbm, ⟨2, _⟩ => ⟨S1x4096, .f32⟩
  | .hbm, ⟨3, _⟩ => ⟨S2x4096x24576, .f32⟩
  | .hbm, ⟨4, _⟩ => ⟨S2x24576, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S8192, .f32⟩
  | .hbm, ⟨14, _⟩ => ⟨S8192x1, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S4096x1, .f32⟩
  | .hbm, ⟨22, _⟩ => ⟨S2x1x24576, .f32⟩
  | .hbm, ⟨23, _⟩ => ⟨S96x8192x256, .bf16⟩
  | .hbm, ⟨24, _⟩ => ⟨S1x40960, .f32⟩
  | .local _ .vmem, ⟨0, _⟩ => ⟨S1024x4096, .bf16⟩
  | .local _ .vmem, ⟨1, _⟩ => ⟨S1024x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S4096x1, .f32⟩
  | .local _ .vmem, ⟨9, _⟩ => ⟨S1x4096x256, .f32⟩
  | .local _ .vmem, ⟨10, _⟩ => ⟨S1x4096x256, .f32⟩
  | .local _ .vmem, ⟨11, _⟩ => ⟨S1x1x256, .f32⟩
  | .local _ .vmem, ⟨12, _⟩ => ⟨S1x1x256, .f32⟩
  | .local _ .vmem, ⟨13, _⟩ => ⟨S4x1024x256, .bf16⟩
  | .local _ .vmem, ⟨14, _⟩ => ⟨S4x1024x256, .bf16⟩
  | .local _ .vmem, ⟨15, _⟩ => ⟨S1x256, .f32⟩
  | .local _ .vmem, ⟨16, _⟩ => ⟨S1x256, .f32⟩
  | .local _ .vmem, ⟨17, _⟩ => ⟨S2x4096x1024, .bf16⟩
  | .local _ .vmem, ⟨18, _⟩ => ⟨S4096x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![25, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v31 : BitVec 32 := Scalar.muli arg1 c512_i32
  v31
def k0_off1 (i : grid0.Coords) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v33 : Index := Scalar.indexCast v30
  let arg1 : BitVec 32 := BitVec.ofNat 32 (i 1).val
  let c512_i32 : BitVec 32 := 512#32
  let v31 : BitVec 32 := Scalar.muli arg1 c512_i32
  let v32 : BitVec 32 := v31
  let v34 : Index := Scalar.indexCast v32
  let c0_16 : Index := 0#32
  ![v33.toNat, v34.toNat, 0]
def k0_cond3 (i : grid0.Coords) : BitVec 1 :=
  let arg0 : BitVec 32 := BitVec.ofNat 32 (i 0).val
  let c0_i32_4 : BitVec 32 := 0#32
  let v8 : BitVec 1 := Scalar.cmpi .sgt arg0 c0_i32_4
  let c1_i32 : BitVec 32 := 1#32
  let v9 : BitVec 32 := Scalar.subi arg0 c1_i32
  let c8_i32 : BitVec 32 := 8#32
  let v10 : BitVec 1 := Scalar.cmpi .slt v9 c8_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult2 (i : grid0.Coords) : BitVec 32 :=
  let arg1 : BitVec 32 := BitVec.ofNat 32 (i 1).val
  let c512_i32 : BitVec 32 := 512#32
  let v31 : BitVec 32 := Scalar.muli arg1 c512_i32
  v31
def k0_off2 (i : grid0.Coords) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v33 : Index := Scalar.indexCast v30
  let arg1 : BitVec 32 := BitVec.ofNat 32 (i 1).val
  let c512_i32 : BitVec 32 := 512#32
  let v31 : BitVec 32 := Scalar.muli arg1 c512_i32
  let v32 : BitVec 32 := v31
  let v34 : Index := Scalar.indexCast v32
  let c0_16 : Index := 0#32
  ![v33.toNat, v34.toNat, 0]
def k0_off3 (i : grid0.Coords) : Fin 3 → Nat :=
  let arg0 : BitVec 32 := BitVec.ofNat 32 (i 0).val
  let c1_i32_32 : BitVec 32 := 1#32
  let v55 : BitVec 32 := Scalar.addi arg0 c1_i32_32
  let c2_i32_33 : BitVec 32 := 2#32
  let c0_i32_34 : BitVec 32 := 0#32
  let v56 : BitVec 1 := Scalar.cmpi .eq c2_i32_33 c0_i32_34
  let c1_i32_35 : BitVec 32 := 1#32
  let v57 : BitVec 32 := Scalar.select v56 c1_i32_35 c2_i32_33
  let v58 : BitVec 32 := Scalar.remsi v55 v57
  let c0_i32_37 : BitVec 32 := 0#32
  let v60 : BitVec 1 := Scalar.cmpi .slt v58 c0_i32_37
  let c0_i32_38 : BitVec 32 := 0#32
  let v61 : BitVec 1 := Scalar.cmpi .slt v57 c0_i32_38
  let v62 : BitVec 1 := Scalar.xori v60 v61
  let c0_i32_36 : BitVec 32 := 0#32
  let v59 : BitVec 1 := Scalar.cmpi .ne v58 c0_i32_36
  let v63 : BitVec 1 := Scalar.andi v62 v59
  let v64 : BitVec 32 := Scalar.addi v58 v57
  let v65 : BitVec 32 := Scalar.select v63 v64 v58
  let v70 : Index := Scalar.indexCast v65
  let c0_44 : Index := 0#32
  let c0_45 : Index := 0#32
  ![v70.toNat, 0, 0]
def k0_cond4 (i : grid0.Coords) : BitVec 1 :=
  let arg0 : BitVec 32 := BitVec.ofNat 32 (i 0).val
  let c1_i32_6 : BitVec 32 := 1#32
  let v14 : BitVec 32 := Scalar.subi arg0 c1_i32_6
  let c8_i32_7 : BitVec 32 := 8#32
  let v15 : BitVec 1 := Scalar.cmpi .sge v14 c8_i32_7
  let v16 : BitVec 32 := Scalar.extui v15
  let c0_i32_8 : BitVec 32 := 0#32
  let v17 : BitVec 1 := Scalar.cmpi .ne v16 c0_i32_8
  v17

def k0_mult3 (i : grid0.Coords) : BitVec 32 :=
  let arg1 : BitVec 32 := BitVec.ofNat 32 (i 1).val
  let c512_i32 : BitVec 32 := 512#32
  let v31 : BitVec 32 := Scalar.muli arg1 c512_i32
  v31
def k0_off4 (i : grid0.Coords) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v33 : Index := Scalar.indexCast v30
  let arg1 : BitVec 32 := BitVec.ofNat 32 (i 1).val
  let c512_i32 : BitVec 32 := 512#32
  let v31 : BitVec 32 := Scalar.muli arg1 c512_i32
  let v32 : BitVec 32 := v31
  let v34 : Index := Scalar.indexCast v32
  let c0_16 : Index := 0#32
  ![v33.toNat, v34.toNat, 0]
def k0_off5 (i : grid0.Coords) : Fin 3 → Nat :=
  let arg0 : BitVec 32 := BitVec.ofNat 32 (i 0).val
  let c1_i32_32 : BitVec 32 := 1#32
  let v55 : BitVec 32 := Scalar.addi arg0 c1_i32_32
  let c2_i32_33 : BitVec 32 := 2#32
  let c0_i32_34 : BitVec 32 := 0#32
  let v56 : BitVec 1 := Scalar.cmpi .eq c2_i32_33 c0_i32_34
  let c1_i32_35 : BitVec 32 := 1#32
  let v57 : BitVec 32 := Scalar.select v56 c1_i32_35 c2_i32_33
  let v58 : BitVec 32 := Scalar.remsi v55 v57
  let c0_i32_37 : BitVec 32 := 0#32
  let v60 : BitVec 1 := Scalar.cmpi .slt v58 c0_i32_37
  let c0_i32_38 : BitVec 32 := 0#32
  let v61 : BitVec 1 := Scalar.cmpi .slt v57 c0_i32_38
  let v62 : BitVec 1 := Scalar.xori v60 v61
  let c0_i32_36 : BitVec 32 := 0#32
  let v59 : BitVec 1 := Scalar.cmpi .ne v58 c0_i32_36
  let v63 : BitVec 1 := Scalar.andi v62 v59
  let v64 : BitVec 32 := Scalar.addi v58 v57
  let v65 : BitVec 32 := Scalar.select v63 v64 v58
  let v67 : Index := Scalar.indexCast v65
  let c0_41 : Index := 0#32
  let c0_42 : Index := 0#32
  ![v67.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  ![c0_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.muli v1 c8_i32
  let c0_i32_0 : BitVec 32 := 0#32
  let v3 : BitVec 1 := Scalar.cmpi .sgt arg0 c0_i32_0
  let c0_i32_1 : BitVec 32 := 0#32
  let v4 : BitVec 32 := Scalar.select v3 arg1 c0_i32_1
  let v5 : BitVec 32 := Scalar.addi v2 v4
  let c159_i32 : BitVec 32 := 159#32
  let v6 : BitVec 32 := Scalar.minsi v5 c159_i32
  let c32_i32 : BitVec 32 := 32#32
  let v7 : BitVec 32 := Scalar.addi c32_i32 v6
  let c96_i32 : BitVec 32 := 96#32
  let v8 : BitVec 32 := Scalar.divsi v7 c96_i32
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c96_i32 c0_i32_4
  let v15 : BitVec 32 := Scalar.extui v14
  let c0_i32_5 : BitVec 32 := 0#32
  let v16 : BitVec 1 := Scalar.cmpi .slt c96_i32 c0_i32_5
  let v17 : BitVec 32 := Scalar.extui v16
  let v18 : BitVec 32 := Scalar.subi v15 v17
  let v19 : BitVec 1 := Scalar.cmpi .ne v13 v18
  let v20 : BitVec 32 := Scalar.remsi v7 c96_i32
  let c0_i32_6 : BitVec 32 := 0#32
  let v21 : BitVec 1 := Scalar.cmpi .ne v20 c0_i32_6
  let v22 : BitVec 1 := Scalar.andi v19 v21
  let c1_i32_7 : BitVec 32 := 1#32
  let v23 : BitVec 32 := Scalar.subi v8 c1_i32_7
  let v24 : BitVec 32 := Scalar.select v22 v23 v8
  let c1_i32_8 : BitVec 32 := 1#32
  let v25 : BitVec 32 := Scalar.subi arg0 c1_i32_8
  let c0_i32_9 : BitVec 32 := 0#32
  let v26 : BitVec 32 := Scalar.maxsi v25 c0_i32_9
  let c8_i32_10 : BitVec 32 := 8#32
  let v27 : BitVec 32 := Scalar.muli v26 c8_i32_10
  let c0_i32_11 : BitVec 32 := 0#32
  let v28 : BitVec 1 := Scalar.cmpi .sgt arg0 c0_i32_11
  let c0_i32_12 : BitVec 32 := 0#32
  let v29 : BitVec 32 := Scalar.select v28 arg1 c0_i32_12
  let v30 : BitVec 32 := Scalar.addi v27 v29
  let c159_i32_13 : BitVec 32 := 159#32
  let v31 : BitVec 32 := Scalar.minsi v30 c159_i32_13
  let c32_i32_14 : BitVec 32 := 32#32
  let v32 : BitVec 32 := Scalar.addi c32_i32_14 v31
  let c96_i32_15 : BitVec 32 := 96#32
  let c0_i32_16 : BitVec 32 := 0#32
  let v33 : BitVec 1 := Scalar.cmpi .eq c96_i32_15 c0_i32_16
  let c1_i32_17 : BitVec 32 := 1#32
  let v34 : BitVec 32 := Scalar.select v33 c1_i32_17 c96_i32_15
  let v35 : BitVec 32 := Scalar.remsi v32 v34
  let c0_i32_18 : BitVec 32 := 0#32
  let v36 : BitVec 1 := Scalar.cmpi .ne v35 c0_i32_18
  let c0_i32_19 : BitVec 32 := 0#32
  let v37 : BitVec 1 := Scalar.cmpi .slt v35 c0_i32_19
  let c0_i32_20 : BitVec 32 := 0#32
  let v38 : BitVec 1 := Scalar.cmpi .slt v34 c0_i32_20
  let v39 : BitVec 1 := Scalar.xori v37 v38
  let v40 : BitVec 1 := Scalar.andi v39 v36
  let v41 : BitVec 32 := Scalar.addi v35 v34
  let v42 : BitVec 32 := Scalar.select v40 v41 v35
  let c0_i32_21 : BitVec 32 := 0#32
  let c0_i32_22 : BitVec 32 := 0#32
  ![v24.toNat, c0_i32_21.toNat, v42.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.muli v1 c8_i32
  let c0_i32_0 : BitVec 32 := 0#32
  let v3 : BitVec 1 := Scalar.cmpi .sgt arg0 c0_i32_0
  let c0_i32_1 : BitVec 32 := 0#32
  let v4 : BitVec 32 := Scalar.select v3 arg1 c0_i32_1
  let v5 : BitVec 32 := Scalar.addi v2 v4
  let c159_i32 : BitVec 32 := 159#32
  let v6 : BitVec 32 := Scalar.minsi v5 c159_i32
  let c32_i32 : BitVec 32 := 32#32
  let v7 : BitVec 32 := Scalar.addi c32_i32 v6
  let c96_i32 : BitVec 32 := 96#32
  let v8 : BitVec 32 := Scalar.divsi v7 c96_i32
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c96_i32 c0_i32_4
  let v15 : BitVec 32 := Scalar.extui v14
  let c0_i32_5 : BitVec 32 := 0#32
  let v16 : BitVec 1 := Scalar.cmpi .slt c96_i32 c0_i32_5
  let v17 : BitVec 32 := Scalar.extui v16
  let v18 : BitVec 32 := Scalar.subi v15 v17
  let v19 : BitVec 1 := Scalar.cmpi .ne v13 v18
  let v20 : BitVec 32 := Scalar.remsi v7 c96_i32
  let c0_i32_6 : BitVec 32 := 0#32
  let v21 : BitVec 1 := Scalar.cmpi .ne v20 c0_i32_6
  let v22 : BitVec 1 := Scalar.andi v19 v21
  let c1_i32_7 : BitVec 32 := 1#32
  let v23 : BitVec 32 := Scalar.subi v8 c1_i32_7
  let v24 : BitVec 32 := Scalar.select v22 v23 v8
  let c1_i32_8 : BitVec 32 := 1#32
  let v25 : BitVec 32 := Scalar.subi arg0 c1_i32_8
  let c0_i32_9 : BitVec 32 := 0#32
  let v26 : BitVec 32 := Scalar.maxsi v25 c0_i32_9
  let c8_i32_10 : BitVec 32 := 8#32
  let v27 : BitVec 32 := Scalar.muli v26 c8_i32_10
  let c0_i32_11 : BitVec 32 := 0#32
  let v28 : BitVec 1 := Scalar.cmpi .sgt arg0 c0_i32_11
  let c0_i32_12 : BitVec 32 := 0#32
  let v29 : BitVec 32 := Scalar.select v28 arg1 c0_i32_12
  let v30 : BitVec 32 := Scalar.addi v27 v29
  let c159_i32_13 : BitVec 32 := 159#32
  let v31 : BitVec 32 := Scalar.minsi v30 c159_i32_13
  let c32_i32_14 : BitVec 32 := 32#32
  let v32 : BitVec 32 := Scalar.addi c32_i32_14 v31
  let c96_i32_15 : BitVec 32 := 96#32
  let c0_i32_16 : BitVec 32 := 0#32
  let v33 : BitVec 1 := Scalar.cmpi .eq c96_i32_15 c0_i32_16
  let c1_i32_17 : BitVec 32 := 1#32
  let v34 : BitVec 32 := Scalar.select v33 c1_i32_17 c96_i32_15
  let v35 : BitVec 32 := Scalar.remsi v32 v34
  let c0_i32_18 : BitVec 32 := 0#32
  let v36 : BitVec 1 := Scalar.cmpi .ne v35 c0_i32_18
  let c0_i32_19 : BitVec 32 := 0#32
  let v37 : BitVec 1 := Scalar.cmpi .slt v35 c0_i32_19
  let c0_i32_20 : BitVec 32 := 0#32
  let v38 : BitVec 1 := Scalar.cmpi .slt v34 c0_i32_20
  let v39 : BitVec 1 := Scalar.xori v37 v38
  let v40 : BitVec 1 := Scalar.andi v39 v36
  let v41 : BitVec 32 := Scalar.addi v35 v34
  let v42 : BitVec 32 := Scalar.select v40 v41 v35
  let c0_i32_21 : BitVec 32 := 0#32
  let c0_i32_22 : BitVec 32 := 0#32
  ![v24.toNat, c0_i32_21.toNat, v42.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.muli v1 c8_i32
  let c0_i32_0 : BitVec 32 := 0#32
  let v3 : BitVec 1 := Scalar.cmpi .sgt arg0 c0_i32_0
  let c0_i32_1 : BitVec 32 := 0#32
  let v4 : BitVec 32 := Scalar.select v3 arg1 c0_i32_1
  let v5 : BitVec 32 := Scalar.addi v2 v4
  let c159_i32 : BitVec 32 := 159#32
  let v6 : BitVec 32 := Scalar.minsi v5 c159_i32
  let c0_i32_2 : BitVec 32 := 0#32
  let c0_i32_3 : BitVec 32 := 0#32
  ![c0_i32_2.toNat, v6.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S8192x4096 : Shape := ⟨2, ![8192, 4096]⟩
abbrev S1x4096x24576 : Shape := ⟨3, ![1, 4096, 24576]⟩
abbrev S1x4096 : Shape := ⟨2, ![1, 4096]⟩
abbrev S2x4096x24576 : Shape := ⟨3, ![2, 4096, 24576]⟩
abbrev S2x24576 : Shape := ⟨2, ![2, 24576]⟩
abbrev S4096x24576 : Shape := ⟨2, ![4096, 24576]⟩
abbrev S8192x24576 : Shape := ⟨2, ![8192, 24576]⟩
abbrev S1x8192x24576 : Shape := ⟨3, ![1, 8192, 24576]⟩
abbrev S1x8192x4096 : Shape := ⟨3, ![1, 8192, 4096]⟩
abbrev S1x8192x8192 : Shape := ⟨3, ![1, 8192, 8192]⟩
abbrev S8192 : Shape := ⟨1, ![8192]⟩
abbrev S1x8192x16x256 : Shape := ⟨4, ![1, 8192, 16, 256]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S1x8192x16x128 : Shape := ⟨4, ![1, 8192, 16, 128]⟩
abbrev S8192x16x256 : Shape := ⟨3, ![8192, 16, 256]⟩
abbrev S16x8192x256 : Shape := ⟨3, ![16, 8192, 256]⟩
abbrev S8192x32x256 : Shape := ⟨3, ![8192, 32, 256]⟩
abbrev S32x8192x256 : Shape := ⟨3, ![32, 8192, 256]⟩
abbrev S96x8192x256 : Shape := ⟨3, ![96, 8192, 256]⟩
abbrev S1x24576 : Shape := ⟨2, ![1, 24576]⟩
abbrev S24576 : Shape := ⟨1, ![24576]⟩
abbrev S1x49152 : Shape := ⟨2, ![1, 49152]⟩
abbrev S1x40960 : Shape := ⟨2, ![1, 40960]⟩

abbrev nBuf : Space → Nat
  | .hbm => 123
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x24576, .f32⟩
  | .hbm, ⟨2, _⟩ => ⟨S1x4096, .f32⟩
  | .hbm, ⟨3, _⟩ => ⟨S2x4096x24576, .f32⟩
  | .hbm, ⟨4, _⟩ => ⟨S2x24576, .f32⟩
  | .hbm, ⟨5, _⟩ => ⟨S8192x4096, .f32⟩
  | .hbm, ⟨6, _⟩ => ⟨S4096x24576, .f32⟩
  | .hbm, ⟨7, _⟩ => ⟨S8192x24576, .f32⟩
  | .hbm, ⟨8, _⟩ => ⟨S1x8192x24576, .f32⟩
  | .hbm, ⟨9, _⟩ => ⟨S1x8192x4096, .f32⟩
  | .hbm, ⟨10, _⟩ => ⟨S1x8192x4096, .f32⟩
  | .hbm, ⟨11, _⟩ => ⟨S1x8192x8192, .f32⟩
  | .hbm, ⟨12, _⟩ => ⟨S1x8192x8192, .f32⟩
  | .hbm, ⟨13, _⟩ => ⟨S8192, .f32⟩
  | .hbm, ⟨14, _⟩ => ⟨S1x8192x16x256, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S8192x1, .f32⟩
  | .hbm, ⟨24, _⟩ => ⟨S1x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S1x8192x1x128, .f32⟩
  | .hbm, ⟨30, _⟩ => ⟨S8192x128, .f32⟩
  | .hbm, ⟨31, _⟩ => ⟨S1x8192x1x128, .f32⟩
  | .hbm, ⟨32, _⟩ => ⟨S1x8192x16x128, .f32⟩
  | .hbm, ⟨33, _⟩ => ⟨S1x8192x16x128, .f32⟩
  | .hbm, ⟨34, _⟩ => ⟨S1x8192x16x128, .f32⟩
  | .hbm, ⟨35, _⟩ => ⟨S1x8192x16x128, .f32⟩
  | .hbm, ⟨36, _⟩ => ⟨S1x8192x16x128, .f32⟩
  | .hbm, ⟨37, _⟩ => ⟨S1x8192x16x128, .f32⟩
  | .hbm, ⟨38, _⟩ => ⟨S1x8192x16x128, .f32⟩
  | .hbm, ⟨39, _⟩ => ⟨S1x8192x16x128, .f32⟩
  | .hbm, ⟨40, _⟩ => ⟨S1x8192x16x128, .f32⟩
  | .hbm, ⟨41, _⟩ => ⟨S1x8192x16x128, .f32⟩
  | .hbm, ⟨42, _⟩ => ⟨S1x8192x16x128, .f32⟩
  | .hbm, ⟨43, _⟩ => ⟨S1x8192x16x128, .f32⟩
  | .hbm, ⟨44, _⟩ => ⟨S1x8192x16x256, .f32⟩
  | .hbm, ⟨45, _⟩ => ⟨S1x8192x16x256, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S8192x1, .f32⟩
  | .hbm, ⟨55, _⟩ => ⟨S1x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S1x8192x1x128, .f32⟩
  | .hbm, ⟨61, _⟩ => ⟨S8192x128, .f32⟩
  | .hbm, ⟨62, _⟩ => ⟨S1x8192x1x128, .f32⟩
  | .hbm, ⟨63, _⟩ => ⟨S1x8192x16x128, .f32⟩
  | .hbm, ⟨64, _⟩ => ⟨S1x8192x16x128, .f32⟩
  | .hbm, ⟨65, _⟩ => ⟨S1x8192x16x128, .f32⟩
  | .hbm, ⟨66, _⟩ => ⟨S1x8192x16x128, .f32⟩
  | .hbm, ⟨67, _⟩ => ⟨S1x8192x16x128, .f32⟩
  | .hbm, ⟨68, _⟩ => ⟨S1x8192x16x128, .f32⟩
  | .hbm, ⟨69, _⟩ => ⟨S1x8192x16x128, .f32⟩
  | .hbm, ⟨70, _⟩ => ⟨S1x8192x16x128, .f32⟩
  | .hbm, ⟨71, _⟩ => ⟨S1x8192x16x128, .f32⟩
  | .hbm, ⟨72, _⟩ => ⟨S1x8192x16x128, .f32⟩
  | .hbm, ⟨73, _⟩ => ⟨S1x8192x16x128, .f32⟩
  | .hbm, ⟨74, _⟩ => ⟨S1x8192x16x128, .f32⟩
  | .hbm, ⟨75, _⟩ => ⟨S1x8192x16x256, .f32⟩
  | .hbm, ⟨76, _⟩ => ⟨S_, .f32⟩
  | .hbm, ⟨77, _⟩ => ⟨S1x8192x16x256, .f32⟩
  | .hbm, ⟨78, _⟩ => ⟨S1x8192x16x256, .f32⟩
  | .hbm, ⟨79, _⟩ => ⟨S8192x16x256, .f32⟩
  | .hbm, ⟨80, _⟩ => ⟨S16x8192x256, .f32⟩
  | .hbm, ⟨81, _⟩ => ⟨S8192x16x256, .f32⟩
  | .hbm, ⟨82, _⟩ => ⟨S16x8192x256, .f32⟩
  | .hbm, ⟨83, _⟩ => ⟨S8192x32x256, .f32⟩
  | .hbm, ⟨84, _⟩ => ⟨S32x8192x256, .f32⟩
  | .hbm, ⟨85, _⟩ => ⟨S8192x32x256, .f32⟩
  | .hbm, ⟨86, _⟩ => ⟨S32x8192x256, .f32⟩
  | .hbm, ⟨87, _⟩ => ⟨S96x8192x256, .f32⟩
  | .hbm, ⟨88, _⟩ => ⟨S96x8192x256, .bf16⟩
  | .hbm, ⟨89, _⟩ => ⟨S1x4096, .f32⟩
  | .hbm, ⟨90, _⟩ => ⟨S1x4096, .f32⟩
  | .hbm, ⟨91, _⟩ => ⟨S_, .f32⟩
  | .hbm, ⟨92, _⟩ => ⟨S1x4096, .f32⟩
  | .hbm, ⟨93, _⟩ => ⟨S1x4096, .f32⟩
  | .hbm, ⟨94, _⟩ => ⟨S_, .f32⟩
  | .hbm, ⟨95, _⟩ => ⟨S1x4096, .f32⟩
  | .hbm, ⟨96, _⟩ => ⟨S1x4096, .f32⟩
  | .hbm, ⟨97, _⟩ => ⟨S1x4096, .f32⟩
  | .hbm, ⟨98, _⟩ => ⟨S1x4096x24576, .f32⟩
  | .hbm, ⟨99, _⟩ => ⟨S4096x24576, .f32⟩
  | .hbm, ⟨100, _⟩ => ⟨S1x24576, .f32⟩
  | .hbm, ⟨101, _⟩ => ⟨S1x24576, .f32⟩
  | .hbm, ⟨102, _⟩ => ⟨S24576, .f32⟩
  | .hbm, ⟨103, _⟩ => ⟨S1x24576, .f32⟩
  | .hbm, ⟨104, _⟩ => ⟨S1x24576, .f32⟩
  | .hbm, ⟨105, _⟩ => ⟨S1x4096, .f32⟩
  | .hbm, ⟨106, _⟩ => ⟨S1x4096, .f32⟩
  | .hbm, ⟨107, _⟩ => ⟨S_, .f32⟩
  | .hbm, ⟨108, _⟩ => ⟨S1x4096, .f32⟩
  | .hbm, ⟨109, _⟩ => ⟨S1x4096, .f32⟩
  | .hbm, ⟨110, _⟩ => ⟨S_, .f32⟩
  | .hbm, ⟨111, _⟩ => ⟨S1x4096, .f32⟩
  | .hbm, ⟨112, _⟩ => ⟨S1x4096, .f32⟩
  | .hbm, ⟨113, _⟩ => ⟨S1x4096, .f32⟩
  | .hbm, ⟨114, _⟩ => ⟨S1x4096x24576, .f32⟩
  | .hbm, ⟨115, _⟩ => ⟨S4096x24576, .f32⟩
  | .hbm, ⟨116, _⟩ => ⟨S1x24576, .f32⟩
  | .hbm, ⟨117, _⟩ => ⟨S1x24576, .f32⟩
  | .hbm, ⟨118, _⟩ => ⟨S24576, .f32⟩
  | .hbm, ⟨119, _⟩ => ⟨S1x24576, .f32⟩
  | .hbm, ⟨120, _⟩ => ⟨S1x24576, .f32⟩
  | .hbm, ⟨121, _⟩ => ⟨S1x49152, .f32⟩
  | .hbm, ⟨122, _⟩ => ⟨S1x40960, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_3 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_call1_v0 : Ref sig .tc := ⟨.hbm, 105, rfl⟩
abbrev main_call1_v1 : Ref sig .tc := ⟨.hbm, 106, rfl⟩
abbrev main_call1_cst : Ref sig .tc := ⟨.hbm, 107, rfl⟩
abbrev main_call1_v2 : Ref sig .tc := ⟨.hbm, 108, rfl⟩
abbrev main_call1_v3 : Ref sig .tc := ⟨.hbm, 109, rfl⟩
abbrev main_call1_cst_0 : Ref sig .tc := ⟨.hbm, 110, rfl⟩
abbrev main_call1_v4 : Ref sig .tc := ⟨.hbm, 111, rfl⟩
abbrev main_call1_v5 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]
-- ==== Kernel7.lean ====
abbrev S8192x4096 : Shape := ⟨2, ![8192, 4096]⟩
abbrev S1x40960 : Shape := ⟨2, ![1, 40960]⟩
abbrev S2x4x4096 : Shape := ⟨3, ![2, 4, 4096]⟩
abbrev S1x16384 : Shape := ⟨2, ![1, 16384]⟩
abbrev S1x4096 : Shape := ⟨2, ![1, 4096]⟩
abbrev S1x1x4096 : Shape := ⟨3, ![1, 1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x40960, .f32⟩
  | .hbm, ⟨3, _⟩ => ⟨S2x4x4096, .f32⟩
  | .hbm, ⟨4, _⟩ => ⟨S1x16384, .f32⟩
  | .hbm, ⟨5, _⟩ => ⟨S1x4096, .f32⟩
  | .hbm, ⟨6, _⟩ => ⟨S1x1x4096, .f32⟩
  | .hbm, ⟨7, _⟩ => ⟨S4096, .f32⟩
  | .hbm, ⟨8, _⟩ => ⟨S1x4096, .f32⟩
  | .hbm, ⟨9, _⟩ => ⟨S1x1x4096, .f32⟩
  | .hbm, ⟨10, _⟩ => ⟨S4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S8192x4096, .f32⟩
  | .hbm, ⟨15, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | .local _ .vmem, ⟨11, _⟩ => ⟨S512x4096, .bf16⟩
  | .local _ .vmem, ⟨12, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8192x4096 : Shape := ⟨2, ![8192, 4096]⟩
abbrev S1x40960 : Shape := ⟨2, ![1, 40960]⟩
abbrev S2x4x4096 : Shape := ⟨3, ![2, 4, 4096]⟩
abbrev S1x16384 : Shape := ⟨2, ![1, 16384]⟩
abbrev S1x4096 : Shape := ⟨2, ![1, 4096]⟩
abbrev S1x1x4096 : Shape := ⟨3, ![1, 1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x40960, .f32⟩
  | .hbm, ⟨3, _⟩ => ⟨S2x4x4096, .f32⟩
  | .hbm, ⟨4, _⟩ => ⟨S1x16384, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S1x1x4096, .f32⟩
  | .hbm, ⟨11, _⟩ => ⟨S4096, .f32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S1x1x4096, .f32⟩
  | .hbm, ⟨32, _⟩ => ⟨S4096, .f32⟩
  | .hbm, ⟨33, _⟩ => ⟨S8192x4096, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x4096, .f32⟩
  | .hbm, ⟨45, _⟩ => ⟨S8192x4096, .f32⟩
  | .hbm, ⟨46, _⟩ => ⟨S1x4096, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S1x4096, .f32⟩
  | .hbm, ⟨51, _⟩ => ⟨S1x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel8.lean ====
abbrev S8192x4096 : Shape := ⟨2, ![8192, 4096]⟩
abbrev S1x40960 : Shape := ⟨2, ![1, 40960]⟩
abbrev S2x4x4096 : Shape := ⟨3, ![2, 4, 4096]⟩
abbrev S1x24576 : Shape := ⟨2, ![1, 24576]⟩
abbrev S1x4096 : Shape := ⟨2, ![1, 4096]⟩
abbrev S1x1x4096 : Shape := ⟨3, ![1, 1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x40960, .f32⟩
  | .hbm, ⟨3, _⟩ => ⟨S2x4x4096, .f32⟩
  | .hbm, ⟨4, _⟩ => ⟨S1x24576, .f32⟩
  | .hbm, ⟨5, _⟩ => ⟨S1x4096, .f32⟩
  | .hbm, ⟨6, _⟩ => ⟨S1x1x4096, .f32⟩
  | .hbm, ⟨7, _⟩ => ⟨S4096, .f32⟩
  | .hbm, ⟨8, _⟩ => ⟨S1x4096, .f32⟩
  | .hbm, ⟨9, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x4096 : Shape := ⟨2, ![8192, 4096]⟩
abbrev S1x40960 : Shape := ⟨2, ![1, 40960]⟩
abbrev S2x4x4096 : Shape := ⟨3, ![2, 4, 4096]⟩
abbrev S1x24576 : Shape := ⟨2, ![1, 24576]⟩
abbrev S1x4096 : Shape := ⟨2, ![1, 4096]⟩
abbrev S1x1x4096 : Shape := ⟨3, ![1, 1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x40960, .f32⟩
  | .hbm, ⟨3, _⟩ => ⟨S2x4x4096, .f32⟩
  | .hbm, ⟨4, _⟩ => ⟨S1x24576, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S8192x4096, .f32⟩
  | .hbm, ⟨12, _⟩ => ⟨S1x1x4096, .f32⟩
  | .hbm, ⟨13, _⟩ => ⟨S4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel9.lean ====
abbrev S8192x4096 : Shape := ⟨2, ![8192, 4096]⟩
abbrev S1x4096 : Shape := ⟨2, ![1, 4096]⟩
abbrev S2x4096x24576 : Shape := ⟨3, ![2, 4096, 24576]⟩
abbrev S2x24576 : Shape := ⟨2, ![2, 24576]⟩
abbrev S2x4x4096 : Shape := ⟨3, ![2, 4, 4096]⟩
abbrev S4096x1 : Shape := ⟨2, ![4096, 1]⟩
abbrev S1x1x4096 : Shape := ⟨3, ![1, 1, 4096]⟩
abbrev S4096 : Shape := ⟨1, ![4096]⟩
abbrev S2x1x24576 : Shape := ⟨3, ![2, 1, 24576]⟩
abbrev S1x4096x512 : Shape := ⟨3, ![1, 4096, 512]⟩
abbrev S1x1x512 : Shape := ⟨3, ![1, 1, 512]⟩
abbrev S512x4096 : Shape := ⟨2, ![512, 4096]⟩
abbrev S16x1x512 : Shape := ⟨3, ![16, 1, 512]⟩
abbrev S4096x512 : Shape := ⟨2, ![4096, 512]⟩
abbrev S512 : Shape := ⟨1, ![512]⟩
abbrev S1x512 : Shape := ⟨2, ![1, 512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S2x4096x24576, .f32⟩
  | .hbm, ⟨3, _⟩ => ⟨S2x24576, .f32⟩
  | .hbm, ⟨4, _⟩ => ⟨S2x4x4096, .f32⟩
  | .hbm, ⟨5, _⟩ => ⟨S4096x1, .f32⟩
  | .hbm, ⟨6, _⟩ => ⟨S1x1x4096, .f32⟩
  | .hbm, ⟨7, _⟩ => ⟨S4096, .f32⟩
  | .hbm, ⟨8, _⟩ => ⟨S1x4096, .f32⟩
  | .hbm, ⟨9, _⟩ => ⟨S2x1x24576, .f32⟩
  | .hbm, ⟨10, _⟩ => ⟨S8192x4096, .bf16⟩
  | .local _ .vmem, ⟨0, _⟩ => ⟨S4096x1, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S512x4096, .f32⟩
  | .local _ .vmem, ⟨6, _⟩ => ⟨S512x4096, .f32⟩
  | .local _ .vmem, ⟨7, _⟩ => ⟨S1x4096, .f32⟩
  | .local _ .vmem, ⟨8, _⟩ => ⟨S512x4096, .bf16⟩
  | .local _ .vmem, ⟨9, _⟩ => ⟨S512x4096, .bf16⟩
  | .local _ .vmem, ⟨10, _⟩ => ⟨S16x1x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v19 : Index := Scalar.indexCast arg0
  let c0_9 : Index := 0#32
  let c0_10 : Index := 0#32
  ![v19.toNat, 0, 0]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x4096 : Shape := ⟨2, ![8192, 4096]⟩
abbrev S1x4096 : Shape := ⟨2, ![1, 4096]⟩
abbrev S2x4096x24576 : Shape := ⟨3, ![2, 4096, 24576]⟩
abbrev S2x24576 : Shape := ⟨2, ![2, 24576]⟩
abbrev S2x4x4096 : Shape := ⟨3, ![2, 4, 4096]⟩
abbrev S_ : Shape := ⟨0, ![]⟩
abbrev S1x4096x24576 : Shape := ⟨3, ![1, 4096, 24576]⟩
abbrev S4096x24576 : Shape := ⟨2, ![4096, 24576]⟩
abbrev S1x24576 : Shape := ⟨2, ![1, 24576]⟩
abbrev S24576 : Shape := ⟨1, ![24576]⟩
abbrev S1x1x4096 : Shape := ⟨3, ![1, 1, 4096]⟩
abbrev S4096 : Shape := ⟨1, ![4096]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S2x4096x24576, .f32⟩
  | .hbm, ⟨3, _⟩ => ⟨S2x24576, .f32⟩
  | .hbm, ⟨4, _⟩ => ⟨S2x4x4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096x24576, .f32⟩
  | .hbm, ⟨15, _⟩ => ⟨S4096x24576, .f32⟩
  | .hbm, ⟨16, _⟩ => ⟨S1x24576, .f32⟩
  | .hbm, ⟨17, _⟩ => ⟨S1x24576, .f32⟩
  | .hbm, ⟨18, _⟩ => ⟨S24576, .f32⟩
  | .hbm, ⟨19, _⟩ => ⟨S1x24576, .f32⟩
  | .hbm, ⟨20, _⟩ => ⟨S1x24576, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S1x1x4096, .f32⟩
  | .hbm, ⟨28, _⟩ => ⟨S4096, .f32⟩
  | .hbm, ⟨29, _⟩ => ⟨S8192x4096, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S1x4096, .f32⟩
  | .hbm, ⟨47, _⟩ => ⟨S1x4096, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S8192x4096, .f32⟩
  | .hbm, ⟨52, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Proof.Rects.lean ====
/- Reading and overwriting a rectangle of a buffer. -/
module

public import Idealize.ShloMosaic.Lib.Pipeline.FrameBody
public import Idealize.ShloMosaic.Lib.Tactic
public import Idealize.ShloMosaic.Lib.WholeRead

@[expose] public section

noncomputable section

namespace Cert.Rects

open Idealize.ShloMosaic Idealize.ShloMosaic.TcCoe Idealize.SL.Sem

/-! ## Reading and overwriting a rectangle -/

/-- The contents of a rectangle. -/
def ldR {α : Type} {s : Shape} (r : Rect s) (d : s.Idx → α) : r.shape.Idx → α := fun x => d (r.emb x)

open Classical in
/-- The contents with a rectangle's overwritten. -/
def over {α : Type} {s : Shape} (r : Rect s) (w : r.shape.Idx → α) (d : s.Idx → α) : s.Idx → α :=
  fun y => if h : ∃ x, r.emb x = y then w h.choose else d y

theorem over_emb {α : Type} {s : Shape} (r : Rect s) (w : r.shape.Idx → α) (d : s.Idx → α) (x : r.shape.Idx) :
    over r w d (r.emb x) = w x := by
  unfold over
  have h : ∃ x', r.emb x' = r.emb x := ⟨x, rfl⟩
  rw [dif_pos h]
  exact congrArg w (r.emb.injective h.choose_spec)

theorem over_hit {α : Type} {s : Shape} (r : Rect s) (w : r.shape.Idx → α) (d : s.Idx → α) (x : r.shape.Idx) (y : s.Idx)
    (hx : ∀ a, (y a).val = r.off a + r.stride a * (x a).val) : over r w d y = w x := by
  rw [← r.emb_eq_of_coords x y hx, over_emb]

theorem over_miss {α : Type} {s : Shape} (r : Rect s) (w : r.shape.Idx → α) (d : s.Idx → α) (y : s.Idx)
    (hy : ∀ x, r.emb x ≠ y) : over r w d y = d y := by
  unfold over
  rw [dif_neg (by rintro ⟨x, h⟩; exact hy x h)]

theorem over_miss_axis {α : Type} {s : Shape} (r : Rect s) (w : r.shape.Idx → α) (d : s.Idx → α) (y : s.Idx) (a : Fin s.rank) (o n : ℕ)
    (ho : r.off a = o) (hst : r.stride a = 1) (hn : r.size a = n) (h : (y a).val < o ∨ o + n ≤ (y a).val) : over r w d y = d y := by
  refine over_miss r w d y fun x hx => r.not_mem_set_of_axis y a o n ho hst hn h ?_
  rw [← hx]
  rw [← r.map_emb_univ]
  exact Finset.mem_map_of_mem _ (Finset.mem_univ x)

variable {F : FTy → Type} [FloatOps F] {sig : RefSig}

theorem read_writes_one {κ : Kind} {sp : Space} {s : Shape} {e : EltTy} (m : Memref sig κ sp s e) (f : m.view.ty.Contents (Elt F)) (r : Rect s)
    (w : r.shape.Idx → Elt F e) : m.view.read (Elt F) (m.view.writes (Elt F) f [⟨r, w⟩]) = over r w (m.view.read (Elt F) f) := by
  funext y
  by_cases h : ∃ x, r.emb x = y
  · obtain ⟨x, rfl⟩ := h
    rw [over_emb, View.read_writes_cons_emb]
  · rw [over_miss r w _ y (fun x hx => h ⟨x, hx⟩), View.read_writes_cons_miss]
    · rfl
    · intro hy
      exact h (r.exists_idx_of_mem hy)

theorem readAt_ldR {κ : Kind} {sp : Space} {s : Shape} {e : EltTy} {m : Memref sig κ sp s e} (h : m.IsWhole) (X : s.Idx → Elt F e) (r : Rect s) :
    View.readAt (Elt F) m.view r.toLoadRect (h.unread X) = ldR r X := by
  funext x; exact h.readAt_unread X _ x

end Cert.Rects

end
-- ==== Proof.Steps.lean ====
/- A step of a kernel that loads rectangles of whole buffers and stores one rectangle, at any buffers; and a step made four times. -/
module

public import proofs.«01_k».proof.Proof.Rects
public import Idealize.ShloMosaic.Lib.Pipeline.Kit

@[expose] public section

set_option maxRecDepth 16384

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Rects

variable {F : FTy → Type} [FloatOps F] {nD : ℕ} {τ : Topo} {sig : RefSig} {Λ : Labels} {defs : Defs nD τ sig (Elt F) Λ}

local notation "𝕄" => MT nD τ sig Unit (Elt F) ℕ (UR sig nD τ) ℕ

variable (c : Dev nD) {sA sB sC sO : Shape} {eA eB eC eO : EltTy}
  {A : Memref sig .tc .vmem sA eA} (hA : A.IsWhole) {B : Memref sig .tc .vmem sB eB} (hB : B.IsWhole) {C : Memref sig .tc .vmem sC eC} (hC : C.IsWhole)
  {O : Memref sig .tc .vmem sO eO} (hO : O.IsWhole)
  {rA : Rect sA} {rB : Rect sB} {rC : Rect sC} {rO : Rect sO}
  {lA : A.view.LoadsAt rA.toLoadRect} {lB : B.view.LoadsAt rB.toLoadRect} {lC : C.view.LoadsAt rC.toLoadRect} {lO lO' : O.view.LoadsAt rO.toLoadRect}
  {st : (O.access rO).Stores Finset.univ} {hm : (Finset.univ : Finset rO.shape.Idx) = Finset.univ ∨ ∀ a, rO.stride a = 1}
  (x : sA.Idx → Elt F eA) (y : sB.Idx → Elt F eB) (z : sC.Idx → Elt F eC) (o : sO.Idx → Elt F eO)
  (E : Set ℕ) {α : Type}

include hA in
/-- One rectangle, through a function, over a rectangle of the stored buffer. -/
theorem one {kk : PUnit → Prog (TpuEff nD τ sig (Elt F) Λ .tc) α} {Q : α → sProp 𝕄} {f : (rA.shape.Idx → Elt F eA) → rO.shape.Idx → Elt F eO} :
    iprop(owns (c : Thread nD τ) A fullShare x ∗ owns (c : Thread nD τ) O fullShare o
      ∗ (iprop(owns (c : Thread nD τ) A fullShare x ∗ owns (c : Thread nD τ) O fullShare (over rO (f (ldR rA x)) o))
          -∗ wp frame (wpE defs Variants.none c none) E (kk ⟨⟩) Q))
    ⊢ wp frame (wpE defs Variants.none c none) E
        ((Prog.lift (.load A rA.toLoadRect lA) >>= fun v0 =>
          Prog.lift (.load O rO.toLoadRect lO) >>= fun _ => Prog.lift (.store O rO (f v0) Finset.univ st hm)) >>= kk) Q := by
  unfold owns
  iintro ⟨⟨%f0, %hf0, H0⟩, ⟨%g, %hg, H⟩, Hk⟩
  obtain rfl := hA.eq_unread hf0
  sl_exec
  iapply Hk
  isplitl [H0]
  · iexists _; isplitr; · ipureintro; exact hA.read_unread _
    iexact H0
  iexists _; isplitr; swap; · iexact H
  ipureintro
  rw [read_writes_one, hg]; erw [readAt_ldR hA]

include hA hB in
/-- The same of two. -/
theorem two {kk : PUnit → Prog (TpuEff nD τ sig (Elt F) Λ .tc) α} {Q : α → sProp 𝕄} {f : (rA.shape.Idx → Elt F eA) → (rB.shape.Idx → Elt F eB) → rO.shape.Idx → Elt F eO} :
    iprop((owns (c : Thread nD τ) A fullShare x ∗ owns (c : Thread nD τ) B fullShare y) ∗ owns (c : Thread nD τ) O fullShare o
      ∗ (iprop((owns (c : Thread nD τ) A fullShare x ∗ owns (c : Thread nD τ) B fullShare y) ∗ owns (c : Thread nD τ) O fullShare (over rO (f (ldR rA x) (ldR rB y)) o))
          -∗ wp frame (wpE defs Variants.none c none) E (kk ⟨⟩) Q))
    ⊢ wp frame (wpE defs Variants.none c none) E
        ((Prog.lift (.load A rA.toLoadRect lA) >>= fun v0 => Prog.lift (.load B rB.toLoadRect lB) >>= fun v1 =>
          Prog.lift (.load O rO.toLoadRect lO) >>= fun _ => Prog.lift (.store O rO (f v0 v1) Finset.univ st hm)) >>= kk) Q := by
  unfold owns
  iintro ⟨⟨⟨%f0, %hf0, H0⟩, ⟨%f1, %hf1, H1⟩⟩, ⟨%g, %hg, H⟩, Hk⟩
  obtain rfl := hA.eq_unread hf0; obtain rfl := hB.eq_unread hf1
  sl_exec
  iapply Hk
  isplitl [H0 H1]
  · isplitl [H0]
    · iexists _; isplitr; · ipureintro; exact hA.read_unread _
      iexact H0
    iexists _; isplitr; · ipureintro; exact hB.read_unread _
    iexact H1
  iexists _; isplitr; swap; · iexact H
  ipureintro
  rw [read_writes_one, hg]; erw [readAt_ldR hA, readAt_ldR hB]

include hA hB hO in
/-- The same of two and the stored rectangle itself. -/
theorem onto {kk : PUnit → Prog (TpuEff nD τ sig (Elt F) Λ .tc) α} {Q : α → sProp 𝕄} {f : (rA.shape.Idx → Elt F eA) → (rB.shape.Idx → Elt F eB) → (rO.shape.Idx → Elt F eO) → rO.shape.Idx → Elt F eO} :
    iprop((owns (c : Thread nD τ) A fullShare x ∗ owns (c : Thread nD τ) B fullShare y) ∗ owns (c : Thread nD τ) O fullShare o
      ∗ (iprop((owns (c : Thread nD τ) A fullShare x ∗ owns (c : Thread nD τ) B fullShare y) ∗ owns (c : Thread nD τ) O fullShare (over rO (f (ldR rA x) (ldR rB y) (ldR rO o)) o))
          -∗ wp frame (wpE defs Variants.none c none) E (kk ⟨⟩) Q))
    ⊢ wp frame (wpE defs Variants.none c none) E
        ((Prog.lift (.load A rA.toLoadRect lA) >>= fun v0 => Prog.lift (.load B rB.toLoadRect lB) >>= fun v1 => Prog.lift (.load O rO.toLoadRect lO) >>= fun w =>
          Prog.lift (.load O rO.toLoadRect lO') >>= fun _ => Prog.lift (.store O rO (f v0 v1 w) Finset.univ st hm)) >>= kk) Q := by
  unfold owns
  iintro ⟨⟨⟨%f0, %hf0, H0⟩, ⟨%f1, %hf1, H1⟩⟩, ⟨%g, %hg, H⟩, Hk⟩
  obtain rfl := hA.eq_unread hf0; obtain rfl := hB.eq_unread hf1; obtain rfl := hO.eq_unread hg
  sl_exec
  iapply Hk
  isplitl [H0 H1]
  · isplitl [H0]
    · iexists _; isplitr; · ipureintro; exact hA.read_unread _
      iexact H0
    iexists _; isplitr; · ipureintro; exact hB.read_unread _
    iexact H1
  iexists _; isplitr; swap; · iexact H
  ipureintro
  rw [read_writes_one, hg]; erw [readAt_ldR hA, readAt_ldR hB, readAt_ldR hO]

include hA hB hC in
/-- The same of three. -/
theorem three {kk : PUnit → Prog (TpuEff nD τ sig (Elt F) Λ .tc) α} {Q : α → sProp 𝕄} {f : (rA.shape.Idx → Elt F eA) → (rB.shape.Idx → Elt F eB) → (rC.shape.Idx → Elt F eC) → rO.shape.Idx → Elt F eO} :
    iprop((owns (c : Thread nD τ) A fullShare x ∗ owns (c : Thread nD τ) B fullShare y ∗ owns (c : Thread nD τ) C fullShare z) ∗ owns (c : Thread nD τ) O fullShare o
      ∗ (iprop((owns (c : Thread nD τ) A fullShare x ∗ owns (c : Thread nD τ) B fullShare y ∗ owns (c : Thread nD τ) C fullShare z) ∗ owns (c : Thread nD τ) O fullShare (over rO (f (ldR rA x) (ldR rB y) (ldR rC z)) o))
          -∗ wp frame (wpE defs Variants.none c none) E (kk ⟨⟩) Q))
    ⊢ wp frame (wpE defs Variants.none c none) E
        ((Prog.lift (.load A rA.toLoadRect lA) >>= fun v0 => Prog.lift (.load B rB.toLoadRect lB) >>= fun v1 => Prog.lift (.load C rC.toLoadRect lC) >>= fun v2 =>
          Prog.lift (.load O rO.toLoadRect lO) >>= fun _ => Prog.lift (.store O rO (f v0 v1 v2) Finset.univ st hm)) >>= kk) Q := by
  unfold owns
  iintro ⟨⟨⟨%f0, %hf0, H0⟩, ⟨%f1, %hf1, H1⟩, ⟨%f2, %hf2, H2⟩⟩, ⟨%g, %hg, H⟩, Hk⟩
  obtain rfl := hA.eq_unread hf0; obtain rfl := hB.eq_unread hf1; obtain rfl := hC.eq_unread hf2
  sl_exec
  iapply Hk
  isplitl [H0 H1 H2]
  · isplitl [H0]
    · iexists _; isplitr; · ipureintro; exact hA.read_unread _
      iexact H0
    isplitl [H1]
    · iexists _; isplitr; · ipureintro; exact hB.read_unread _
      iexact H1
    iexists _; isplitr; · ipureintro; exact hC.read_unread _
    iexact H2
  iexists _; isplitr; swap; · iexact H
  ipureintro
  rw [read_writes_one, hg]; erw [readAt_ldR hA, readAt_ldR hB, readAt_ldR hC]

/-- A step made four times: what it keeps is kept, and what it changes changes four times. -/
theorem four {kk : PUnit → Prog (TpuEff nD τ sig (Elt F) Λ .tc) α} {Q : α → sProp 𝕄} {β : Type} {R : sProp 𝕄} {S : β → sProp 𝕄} {step : Fin 4 → Prog (TpuEff nD τ sig (Elt F) Λ .tc) PUnit}
    {g : Fin 4 → β → β} (a : β)
    (h : ∀ (r : Fin 4) (a : β) (kk : PUnit → Prog (TpuEff nD τ sig (Elt F) Λ .tc) α), iprop(R ∗ S a ∗ (iprop(R ∗ S (g r a)) -∗ wp frame (wpE defs Variants.none c none) E (kk ⟨⟩) Q)) ⊢ wp frame (wpE defs Variants.none c none) E (step r >>= kk) Q) :
    iprop(R ∗ S a ∗ (iprop(R ∗ S (g 3 (g 2 (g 1 (g 0 a))))) -∗ wp frame (wpE defs Variants.none c none) E (kk ⟨⟩) Q))
    ⊢ wp frame (wpE defs Variants.none c none) E (step 0 >>= fun _ => step 1 >>= fun _ => step 2 >>= fun _ => step 3 >>= kk) Q := by
  iintro ⟨H, J, Hk⟩
  iapply (h 0 a _)
  isplitl [H]; · iexact H
  isplitl [J]; · iexact J
  iintro ⟨H, J⟩
  iapply (h 1 _ _)
  isplitl [H]; · iexact H
  isplitl [J]; · iexact J
  iintro ⟨H, J⟩
  iapply (h 2 _ _)
  isplitl [H]; · iexact H
  isplitl [J]; · iexact J
  iintro ⟨H, J⟩
  iapply (h 3 _ kk)
  isplitl [H]; · iexact H
  isplitl [J]; · iexact J
  iexact Hk

end Cert.Steps

end
-- ==== Proof.Slots.lean ====
/- A double buffer of weight blocks: each point casts one block, and multiplies by the slot the points before it filled. And a
   buffer of rows stored in four groups. -/
module

public import proofs.«01_k».proof.Proof.Rects
public import Idealize.ShloMosaic.Lib.Pointwise

@[expose] public section

noncomputable section

namespace Cert.Slots

open Idealize.ShloMosaic Idealize.SL.Sem Cert.Rects

/-! ## The double buffer -/

/-- A weight block. -/
abbrev Bl (B : ℕ) : Shape := ⟨3, ![1, B, 1024]⟩
/-- The two slots. -/
abbrev Sc (M : ℕ) : Shape := ⟨3, ![2, M, 1024]⟩

/-- Where the `N` points put their blocks, `P` to a slot, and where they read. -/
structure Lay (N P B M : ℕ) where
  M_eq : M = P * B
  P_pos : 0 < P
  B_pos : 0 < B
  put : Fin N → Fin 3 → ℕ
  put_inb : ∀ t a, put t a + (Bl B).size a ≤ (Sc M).size a
  put_eq : ∀ t, put t 0 = t.val / P % 2 ∧ put t 1 = B * (t.val % P) ∧ put t 2 = 0
  get : Fin N → Fin 3 → ℕ
  get_inb : ∀ t a, get t a + (Bl M).size a ≤ (Sc M).size a
  get_eq : ∀ t, get t 0 = (t.val / P + 1) % 2 ∧ get t 1 = 0 ∧ get t 2 = 0

namespace Lay

variable {N P B M : ℕ} {α : Type} (L : Lay N P B M) (W : Fin N → (Bl B).Idx → α)

/-- Where a point's block goes. -/
abbrev putR (t : Fin N) : Rect (Sc M) := Rect.unit (s := Sc M) (L.put t) (Bl B).size (L.put_inb t)
/-- The slot a point reads. -/
abbrev getR (t : Fin N) : Rect (Sc M) := Rect.unit (s := Sc M) (L.get t) (Bl M).size (L.get_inb t)

/-- What is known of the buffer before point `t`: the blocks of the last `2 P` points. -/
def Agree (t : ℕ) (b : (Sc M).Idx → α) : Prop := ∀ p : Fin N, p.val < t → t ≤ p.val + 2 * P → ldR (L.putR p) b = W p

theorem Agree.zero (b : (Sc M).Idx → α) : L.Agree W 0 b := fun _ h => absurd h (Nat.not_lt_zero _)

theorem put_emb (t : Fin N) (x : (Bl B).Idx) : ((L.putR t).emb x 0).val = t.val / P % 2
    ∧ ((L.putR t).emb x 1).val = B * (t.val % P) + (x 1).val ∧ ((L.putR t).emb x 2).val = (x 2).val := by
  have ho := L.put_eq t
  have hx : (x 0).val < 1 := (x 0).isLt
  refine ⟨?_, ?_, ?_⟩
  · show L.put t 0 + 1 * (x 0).val = _; omega
  · show L.put t 1 + 1 * (x 1).val = _; omega
  · show L.put t 2 + 1 * (x 2).val = _; omega

/-- Two points less than two slots apart put their blocks apart. -/
theorem apart (p t : ℕ) (hp : p < t) (ht : t < p + 2 * P) (h0 : p / P % 2 = t / P % 2) (h1 : p % P = t % P) : False := by
  have ep := Nat.div_add_mod p P
  have et := Nat.div_add_mod t P
  have hle : p / P ≤ t / P := Nat.div_le_div_right (Nat.le_of_lt hp)
  by_cases hh : p / P = t / P
  · rw [hh, h1] at ep; omega
  · have := Nat.mul_le_mul_left P (show p / P + 2 ≤ t / P by omega)
    rw [Nat.mul_add] at this
    omega

theorem Agree.succ {t : Fin N} {b : (Sc M).Idx → α} (h : L.Agree W t.val b) : L.Agree W (t.val + 1) (over (L.putR t) (W t) b) := by
  intro p hp hp'
  funext x
  show over _ _ b ((L.putR p).emb x) = _
  by_cases hpt : p = t
  · subst hpt
    exact over_emb _ _ _ x
  · have hne : p.val ≠ t.val := fun hh => hpt (Fin.ext hh)
    refine (over_miss _ _ _ _ fun y hy => ?_).trans (congrFun (h p (by omega) (by omega)) x)
    have e := L.put_emb p x
    rw [← hy] at e
    have e' := L.put_emb t y
    have hx : (x 1).val < B := (x 1).isLt
    have hy : (y 1).val < B := (y 1).isLt
    have e1 := congrArg (· / B) (e.2.1.symm.trans e'.2.1)
    simp only [Nat.mul_add_div L.B_pos, Nat.div_eq_of_lt hx, Nat.div_eq_of_lt hy, Nat.add_zero] at e1
    exact apart p.val t.val (by omega) (by omega) (e.1.symm.trans e'.1) e1

/-- The point that cast block `k` of the slot a point reads. -/
def src (P : ℕ) {N : ℕ} (t : Fin N) (k : ℕ) : Fin N := ⟨(P * (t.val / P - 1) + k) % N, Nat.mod_lt _ (Nat.lt_of_le_of_lt (Nat.zero_le _) t.isLt)⟩

theorem src_val {t : Fin N} (ht : P ≤ t.val) {k : ℕ} (hk : k < P) : (src P t k).val = P * (t.val / P - 1) + k
    ∧ (src P t k).val < t.val + 1 ∧ t.val + 1 ≤ (src P t k).val + 2 * P := by
  have e := Nat.div_add_mod t.val P
  have hm := Nat.mod_lt t.val (show P > 0 by omega)
  have hq : 1 ≤ t.val / P := (Nat.le_div_iff_mul_le (by omega)).mpr (by omega)
  have e' : P * (t.val / P - 1) + P = P * (t.val / P) := by
    rw [← Nat.mul_succ]; congr 1; omega
  have hs : (src P t k).val = P * (t.val / P - 1) + k := Nat.mod_eq_of_lt (by have := t.isLt; omega)
  exact ⟨hs, by omega, by omega⟩

/-- The slot a point reads. -/
def slot (hB : 0 < B) (t : Fin N) : (Bl M).Idx → α := fun z => W (src P t ((z 1).val / B)) (ix3 0 ⟨(z 1).val % B, Nat.mod_lt _ hB⟩ (z 2))

theorem slot_agree {t : Fin N} (ht : P ≤ t.val) {b : (Sc M).Idx → α} (h : L.Agree W (t.val + 1) b) :
    ldR (L.getR t) b = slot (P := P) W L.B_pos t := by
  funext z
  have ho := L.get_eq t
  have hz0 : (z 0).val < 1 := (z 0).isLt
  have hz1 : (z 1).val < M := (z 1).isLt
  have hk : (z 1).val / B < P := Nat.div_lt_of_lt_mul (by rw [Nat.mul_comm, ← L.M_eq]; exact hz1)
  have hs := src_val ht hk
  refine Eq.trans ?_ (congrFun (h (src P t ((z 1).val / B)) hs.2.1 hs.2.2) (ix3 0 ⟨(z 1).val % B, Nat.mod_lt _ L.B_pos⟩ (z 2)))
  refine congrArg b (funext fun d => Fin.ext ?_)
  have e := L.put_emb (src P t ((z 1).val / B)) (ix3 0 ⟨(z 1).val % B, Nat.mod_lt _ L.B_pos⟩ (z 2))
  rw [hs.1, Nat.mul_add_div L.P_pos, Nat.div_eq_of_lt hk, Nat.mul_add_mod, Nat.mod_eq_of_lt hk] at e
  have hq : 1 ≤ t.val / P := (Nat.le_div_iff_mul_le L.P_pos).mpr (by omega)
  have hd := Nat.div_add_mod (z 1).val B
  match d with
  | ⟨0, _⟩ =>
    refine Eq.trans ?_ e.1.symm
    show L.get t 0 + 1 * (z 0).val = _; rw [ho.1]; omega
  | ⟨1, _⟩ =>
    refine Eq.trans ?_ e.2.1.symm
    show L.get t 1 + 1 * (z 1).val = _ + (z 1).val % B; rw [ho.2.1]; omega
  | ⟨2, _⟩ =>
    refine Eq.trans ?_ e.2.2.symm
    show L.get t 2 + 1 * (z 2).val = (z 2).val; rw [ho.2.2]; omega

end Lay

/-! ## Groups of rows -/

/-- A group of rows. -/
abbrev Grp : Shape := ⟨2, ![512, 1024]⟩
/-- The rows of both points of a piece of the sum. -/
abbrev Acc : Shape := ⟨2, ![4096, 1024]⟩
/-- The rows of a point. -/
abbrev Out : Shape := ⟨2, ![2048, 1024]⟩

section
variable {α : Type} {s : Shape} {S : Fin 4 → Rect s}

/-- Four rectangles stored. -/
def over4 (S : Fin 4 → Rect s) (v : ∀ r, (S r).shape.Idx → α) (a : s.Idx → α) : s.Idx → α :=
  over (S 3) (v 3) (over (S 2) (v 2) (over (S 1) (v 1) (over (S 0) (v 0) a)))

theorem over4_miss (v : ∀ r, (S r).shape.Idx → α) (a : s.Idx → α) (z : s.Idx) (h : ∀ r x, (S r).emb x ≠ z) : over4 S v a z = a z := by
  unfold over4
  rw [over_miss _ _ _ z (h 3), over_miss _ _ _ z (h 2), over_miss _ _ _ z (h 1), over_miss _ _ _ z (h 0)]

theorem over4_hit (hS : ∀ r q x y, r ≠ q → (S r).emb x ≠ (S q).emb y) (v : ∀ r, (S r).shape.Idx → α) (a : s.Idx → α) (r : Fin 4)
    (x : (S r).shape.Idx) : over4 S v a ((S r).emb x) = v r x := by
  have o : ∀ (q : Fin 4) (w : (S q).shape.Idx → α) (d : s.Idx → α), q ≠ r → over (S q) w d ((S r).emb x) = d ((S r).emb x) :=
    fun q w d hq => over_miss _ _ _ _ fun y => hS q r y x hq
  unfold over4
  match r with
  | 0 => rw [o 3 _ _ (by decide), o 2 _ _ (by decide), o 1 _ _ (by decide)]; exact over_emb _ _ _ x
  | 1 => rw [o 3 _ _ (by decide), o 2 _ _ (by decide)]; exact over_emb _ _ _ x
  | 2 => rw [o 3 _ _ (by decide)]; exact over_emb _ _ _ x
  | 3 => exact over_emb _ _ _ x

end

/-- Where a point's four groups of rows are. -/
structure Rows (N : ℕ) where
  off : Fin N → Fin 4 → Fin 2 → ℕ
  inb : ∀ t r a, off t r a + Grp.size a ≤ Acc.size a
  off_eq : ∀ t r, off t r 0 = 2048 * (t.val % 2) + 512 * r.val ∧ off t r 1 = 0

namespace Rows

variable {N : ℕ} {α : Type} (L : Rows N)

/-- Group `r` of a point's rows. -/
abbrev R (t : Fin N) (r : Fin 4) : Rect Acc := Rect.unit (s := Acc) (L.off t r) Grp.size (L.inb t r)

theorem emb (t : Fin N) (r : Fin 4) (x : Grp.Idx) :
    ((L.R t r).emb x 0).val = 2048 * (t.val % 2) + 512 * r.val + (x 0).val ∧ ((L.R t r).emb x 1).val = (x 1).val := by
  have ho := L.off_eq t r
  refine ⟨?_, ?_⟩
  · show L.off t r 0 + 1 * (x 0).val = _; omega
  · show L.off t r 1 + 1 * (x 1).val = _; omega

/-- Two points at the same rows read the same. -/
theorem same (p t : Fin N) (h : p.val % 2 = t.val % 2) (r : Fin 4) (a : Acc.Idx → α) : ldR (L.R p r) a = ldR (L.R t r) a := by
  funext x
  refine congrArg a (funext fun d => Fin.ext ?_)
  have e := L.emb p r x
  have e' := L.emb t r x
  match d with
  | ⟨0, _⟩ => refine e.1.trans (Eq.trans ?_ e'.1.symm); rw [h]
  | ⟨1, _⟩ => exact e.2.trans e'.2.symm

theorem emb_ne (p t : Fin N) (r s : Fin 4) (h : p.val % 2 ≠ t.val % 2 ∨ r ≠ s) (x y : Grp.Idx) : (L.R p r).emb x ≠ (L.R t s).emb y := by
  intro hh
  have e := L.emb p r x
  rw [hh] at e
  have e' := L.emb t s y
  have hx : (x 0).val < 512 := (x 0).isLt
  have hy : (y 0).val < 512 := (y 0).isLt
  have e1 := e.1.symm.trans e'.1
  have hr := r.isLt
  have hs := s.isLt
  rcases h with h | h
  · omega
  · have : r.val ≠ s.val := fun hh => h (Fin.ext hh)
    omega

/-- A group of rows other than the one stored is unchanged. -/
theorem other (p t : Fin N) (r s : Fin 4) (h : p.val % 2 ≠ t.val % 2 ∨ r ≠ s) (v : Grp.Idx → α) (a : Acc.Idx → α) :
    ldR (L.R p r) (over (L.R t s) v a) = ldR (L.R p r) a :=
  funext fun x => over_miss _ _ _ _ fun y => L.emb_ne t p s r (h.imp Ne.symm Ne.symm) y x

theorem hit (t : Fin N) (P : Fin 4 → Grp.Idx → α) (a : Acc.Idx → α) (r : Fin 4) : ldR (L.R t r) (over4 (L.R t) P a) = P r :=
  funext fun x => over4_hit (S := L.R t) (fun r q x y h => L.emb_ne t t r q (.inr h) x y) P a r x

theorem miss (p t : Fin N) (h : p.val % 2 ≠ t.val % 2) (P : Fin 4 → Grp.Idx → α) (a : Acc.Idx → α) (r : Fin 4) :
    ldR (L.R p r) (over4 (L.R t) P a) = ldR (L.R p r) a :=
  funext fun x => over4_miss _ _ _ fun s y => L.emb_ne t p s r (.inl h.symm) y x

end Rows

theorem inb_out (r : Fin 4) : ∀ a, (![512 * r.val, 0] : Fin 2 → ℕ) a + Grp.size a ≤ Out.size a := by
  have := r.isLt
  intro a; match a with
  | ⟨0, _⟩ => show 512 * r.val + 512 ≤ 2048; omega
  | ⟨1, _⟩ => show 0 + 1024 ≤ 1024; omega

/-- Group `r` of the output's rows. -/
abbrev outR (r : Fin 4) : Rect Out := Rect.unit (s := Out) ![512 * r.val, 0] Grp.size (inb_out r)

variable {α : Type}

theorem out_emb (r : Fin 4) (x : Grp.Idx) : ((outR r).emb x 0).val = 512 * r.val + (x 0).val ∧ ((outR r).emb x 1).val = (x 1).val := by
  refine ⟨?_, ?_⟩
  · show 512 * r.val + 1 * (x 0).val = _; omega
  · show 0 + 1 * (x 1).val = _; omega

theorem out4_hit (P : Fin 4 → Grp.Idx → α) (o : Out.Idx → α) (z : Out.Idx) (s : Fin 4) (x : Grp.Idx) (h0 : (z 0).val = 512 * s.val + (x 0).val)
    (h1 : (z 1).val = (x 1).val) : over4 outR P o z = P s x := by
  have ez : z = (outR s).emb x := funext fun d => Fin.ext (match d with
    | ⟨0, _⟩ => h0.trans (out_emb s x).1.symm
    | ⟨1, _⟩ => h1.trans (out_emb s x).2.symm)
  rw [ez]
  refine over4_hit (S := outR) (fun r q x y h hh => h (Fin.ext ?_)) P o s x
  have e := (out_emb r x).1
  rw [hh] at e
  have e1 := e.symm.trans (out_emb q y).1
  have hx : (x 0).val < 512 := (x 0).isLt
  have hy : (y 0).val < 512 := (y 0).isLt
  omega

theorem row_split {n m : ℕ} (h : n < 512 * m) : ∃ (s : Fin m) (r : Fin 512), n = 512 * s.val + r.val :=
  ⟨⟨n / 512, by omega⟩, ⟨n % 512, Nat.mod_lt _ (by omega)⟩, by show n = 512 * (n / 512) + n % 512; omega⟩

theorem out4_indep (P : Fin 4 → Grp.Idx → α) (o o' : Out.Idx → α) : over4 outR P o = over4 outR P o' := by
  funext z
  obtain ⟨s, r, hr⟩ := row_split (m := 4) (z 0).isLt
  rw [out4_hit P o z s (ix2 r (z 1)) hr rfl, out4_hit P o' z s (ix2 r (z 1)) hr rfl]

/-- The rows of a point, in two halves. -/
abbrev Two : Shape := ⟨2, ![1024, 1024]⟩

theorem inb_half (s : Fin 2) : ∀ a, (![512 * s.val, 0] : Fin 2 → ℕ) a + Grp.size a ≤ Two.size a := by
  have := s.isLt
  intro a; match a with
  | ⟨0, _⟩ => show 512 * s.val + 512 ≤ 1024; omega
  | ⟨1, _⟩ => show 0 + 1024 ≤ 1024; omega

/-- Half `s` of the rows. -/
abbrev halfR (s : Fin 2) : Rect Two := Rect.unit (s := Two) ![512 * s.val, 0] Grp.size (inb_half s)

/-- Both halves stored. -/
abbrev both (P : Fin 2 → Grp.Idx → α) (o : Two.Idx → α) : Two.Idx → α := over (halfR 1) (P 1) (over (halfR 0) (P 0) o)

theorem half_hit (s : Fin 2) (v : Grp.Idx → α) (o : Two.Idx → α) (z : Two.Idx) (x : Grp.Idx) (h0 : (z 0).val = 512 * s.val + (x 0).val)
    (h1 : (z 1).val = (x 1).val) : over (halfR s) v o z = v x := by
  refine over_hit (halfR s) v o x z fun d => ?_
  match d with
  | ⟨0, _⟩ => show (z 0).val = 512 * s.val + 1 * (x 0).val; omega
  | ⟨1, _⟩ => show (z 1).val = 0 + 1 * (x 1).val; omega

theorem both_hit (P : Fin 2 → Grp.Idx → α) (o : Two.Idx → α) (z : Two.Idx) (s : Fin 2) (x : Grp.Idx) (h0 : (z 0).val = 512 * s.val + (x 0).val)
    (h1 : (z 1).val = (x 1).val) : both P o z = P s x := by
  have hx : (x 0).val < 512 := (x 0).isLt
  unfold both
  match s with
  | 0 =>
    refine Eq.trans (over_miss_axis _ _ _ z 0 512 512 rfl rfl rfl (Or.inl (by rw [h0]; show 512 * 0 + (x 0).val < 512; omega))) ?_
    exact half_hit 0 (P 0) _ z x h0 h1
  | 1 => exact half_hit 1 (P 1) _ z x h0 h1

theorem both_indep (P : Fin 2 → Grp.Idx → α) (o o' : Two.Idx → α) : both P o = both P o' := by
  funext z
  obtain ⟨s, r, hr⟩ := row_split (m := 2) (z 0).isLt
  rw [both_hit P o z s (ix2 r (z 1)) hr rfl, both_hit P o' z s (ix2 r (z 1)) hr rfl]

end Cert.Slots

end
-- ==== Proof.Mlp2Run.lean ====
/- One call of the second MLP product's kernel: the cast of a weight block into the scratch, and four groups of rows against
   the other slot of the scratch, opening, adding to or closing the accumulator. The second MLP product's run, at any values: the scratch between points, the body at a generic point, the launch. -/
module

public import proofs.«01_k».proof.Proof.Gen.Kernel3Ideal.Frame
public import proofs.«01_k».proof.Proof.Gen.Kernel3Ideal.Skeleton
public import proofs.«01_k».proof.Proof.Steps
public import proofs.«01_k».proof.Proof.Slots
public import Idealize.ShloMosaic.Lib.WordCmp
public import Idealize.ShloMosaic.Lib.Claim

@[expose] public section

set_option maxRecDepth 16384

noncomputable section

namespace Cert.Kernel3Ideal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen Cert.Rects Cert.Steps Cert.Slots

variable {F : FTy → Type} [FloatOps F]

local notation "𝕄" => MT nD τ sig Unit (Elt F) ℕ (UR sig nD τ) ℕ

/-! ## The conditions and the rectangles -/

theorem cond1_iff : ∀ i : grid0.Coords, k0_cond1 i = 1#1 ↔ (i 0).val = 0 := by decide +kernel
theorem cond2_iff : ∀ i : grid0.Coords, k0_cond2 i = 1#1 ↔ 0 < (i 0).val ∧ ((i 0).val - 1) % 8 = 0 := by decide +kernel
theorem cond3_iff : ∀ i : grid0.Coords, k0_cond3 i = 1#1 ↔ 0 < (i 0).val ∧ 0 < ((i 0).val - 1) % 8 ∧ ((i 0).val - 1) % 8 < 7 := by decide +kernel
theorem cond4_iff : ∀ i : grid0.Coords, k0_cond4 i = 1#1 ↔ 0 < (i 0).val ∧ ((i 0).val - 1) % 8 = 7 := by decide +kernel
theorem cast_inb : ∀ i : grid0.Coords, ∀ a, k0_off1 i a + S1x1024x1024.size a ≤ S2x2048x1024.size a := by decide +kernel
theorem slot_inb : ∀ i : grid0.Coords, ∀ a, k0_off3 i a + S1x2048x1024.size a ≤ S2x2048x1024.size a := by decide +kernel
theorem acc_inb : ∀ i : grid0.Coords, ∀ (r : Fin 4), ∀ a, k0_off4 i (BitVec.ofNat 32 (512 * r.val)) a + S512x1024.size a ≤ S4096x1024.size a := by decide +kernel
theorem cast_off : ∀ i : grid0.Coords, k0_off1 i 0 = (i 0).val % 2 ∧ k0_off1 i 1 = 1024 * (i 1).val ∧ k0_off1 i 2 = 0 := by decide +kernel
theorem slot_off : ∀ i : grid0.Coords, k0_off3 i 0 = ((i 0).val + 1) % 2 ∧ k0_off3 i 1 = 0 ∧ k0_off3 i 2 = 0 := by decide +kernel
theorem acc_off : ∀ i : grid0.Coords, ∀ (r : Fin 4), k0_off4 i (BitVec.ofNat 32 (512 * r.val)) 0 = 2048 * (i 1).val + 512 * r.val
    ∧ k0_off4 i (BitVec.ofNat 32 (512 * r.val)) 1 = 0 := by decide +kernel

/-- Where a point's weight block goes. -/
abbrev castR (i : grid0.Coords) : Rect S2x2048x1024 := Rect.unit (s := S2x2048x1024) (k0_off1 i) S1x1024x1024.size (cast_inb i)
/-- The slot a point multiplies by. -/
abbrev slotR (i : grid0.Coords) : Rect S2x2048x1024 := Rect.unit (s := S2x2048x1024) (k0_off3 i) S1x2048x1024.size (slot_inb i)
/-- Group `r` of a point's rows of the accumulator. -/
abbrev accR (i : grid0.Coords) (r : Fin 4) : Rect S4096x1024 :=
  Rect.unit (s := S4096x1024) (k0_off4 i (BitVec.ofNat 32 (512 * r.val))) S512x1024.size (acc_inb i r)

theorem cast_packed (i : grid0.Coords) : (castR i).PackedRows (EltTy.packing .bf16) := by
  have hk : ((i 0).val - 1) % 8 < 8 := Nat.mod_lt _ (by decide)
  by_cases h1 : (i 0).val = 0
  · exact k0_off1_packedbf16 i ((cond1_iff i).mpr h1)
  by_cases h2 : ((i 0).val - 1) % 8 = 0
  · exact k0_off2_packedbf16 i ((cond2_iff i).mpr ⟨by omega, h2⟩)
  by_cases h4 : ((i 0).val - 1) % 8 = 7
  · exact k0_off8_packedbf16 i ((cond4_iff i).mpr ⟨by omega, h4⟩)
  · exact k0_off5_packedbf16 i ((cond3_iff i).mpr ⟨by omega, by omega, by omega⟩)

theorem inb_rows (r : Fin 4) : ∀ a, (![512 * r.val, 0] : Fin 2 → ℕ) a + S512x2048.size a ≤ S2048x2048.size a := by
  have := r.isLt
  intro a; match a with
  | ⟨0, _⟩ => show 512 * r.val + 512 ≤ 2048; omega
  | ⟨1, _⟩ => show 0 + 2048 ≤ 2048; omega

/-- Group `r` of the left operand's rows. -/
abbrev rowsR (r : Fin 4) : Rect S2048x2048 := Rect.unit (s := S2048x2048) ![512 * r.val, 0] S512x2048.size (inb_rows r)

theorem out_packed (r : Fin 4) : (outR r).PackedRows (EltTy.packing .bf16) := by
  match r with
  | ⟨0, _⟩ => exact packedbf16_S2048x1024_S512x1024_0_0
  | ⟨1, _⟩ => exact packedbf16_S2048x1024_S512x1024_512_0
  | ⟨2, _⟩ => exact packedbf16_S2048x1024_S512x1024_1024_0
  | ⟨3, _⟩ => exact packedbf16_S2048x1024_S512x1024_1536_0
  | ⟨n + 4, h⟩ => exact absurd h (by omega)

/-- The whole weight block. -/
abbrev wR : Rect S1x1024x1024 := Rect.unit (s := S1x1024x1024) ![0, 0, 0] S1x1024x1024.size inb_S1x1024x1024_S1x1024x1024_0_0_0

/-! ## The steps -/

section
variable (i : grid0.Coords) (arg2 : Memref sig .tc .vmem S2048x2048 .bf16) (harg2 : arg2.IsWhole) (arg3 : Memref sig .tc .vmem S1x1024x1024 .f32) (harg3 : arg3.IsWhole)
  (arg4 : Memref sig .tc .vmem S2048x1024 .bf16) (harg4 : arg4.IsWhole) (arg5 : Memref sig .tc .vmem S2x2048x1024 .bf16) (harg5 : arg5.IsWhole)
  (arg6 : Memref sig .tc .vmem S4096x1024 .f32) (harg6 : arg6.IsWhole)

/-- The weight block, cast, into its place in the scratch. -/
abbrev castStep : Prog (TpuEff nD τ sig (Elt F) Λ₀ .tc) PUnit := do
  let w : Vec F S1x1024x1024 .f32 ← Prog.lift (.load arg3 wR.toLoadRect (View.loadsAt_vmem h_S1x1024x1024))
  let _w : Vec F S1x1024x1024 .bf16 ← Prog.lift (.load arg5 (castR i).toLoadRect (View.loadsAt_vmem h_S1x1024x1024))
  Prog.lift (.store arg5 (castR i) (k0_pay1 w) Finset.univ (View.stores_vmem h_S1x1024x1024 (harg5.storeExact_slice rfl _ (cast_packed i)) (fun _ => rfl)) (.inl rfl))

/-- The product of group `r`, into the accumulator. -/
abbrev firstStep (r : Fin 4) : Prog (TpuEff nD τ sig (Elt F) Λ₀ .tc) PUnit := do
  let a : Vec F S512x2048 .bf16 ← Prog.lift (.load arg2 (rowsR r).toLoadRect (View.loadsAt_vmem h_S512x2048))
  let w : Vec F S1x2048x1024 .bf16 ← Prog.lift (.load arg5 (slotR i).toLoadRect (View.loadsAt_vmem h_S1x2048x1024))
  let _o : Vec F S512x1024 .f32 ← Prog.lift (.load arg6 (accR i r).toLoadRect (View.loadsAt_vmem h_S512x1024))
  Prog.lift (.store arg6 (accR i r) (k0_pay2 a w) Finset.univ (View.stores_vmem_bits_univ h_S512x1024 rfl) (.inl rfl))

/-- The product of group `r`, added to the accumulator. -/
abbrev nextStep (r : Fin 4) : Prog (TpuEff nD τ sig (Elt F) Λ₀ .tc) PUnit := do
  let a : Vec F S512x2048 .bf16 ← Prog.lift (.load arg2 (rowsR r).toLoadRect (View.loadsAt_vmem h_S512x2048))
  let w : Vec F S1x2048x1024 .bf16 ← Prog.lift (.load arg5 (slotR i).toLoadRect (View.loadsAt_vmem h_S1x2048x1024))
  let s : Vec F S512x1024 .f32 ← Prog.lift (.load arg6 (accR i r).toLoadRect (View.loadsAt_vmem h_S512x1024))
  let _o : Vec F S512x1024 .f32 ← Prog.lift (.load arg6 (accR i r).toLoadRect (View.loadsAt_vmem h_S512x1024))
  Prog.lift (.store arg6 (accR i r) (k0_pay4 a w s) Finset.univ (View.stores_vmem_bits_univ h_S512x1024 rfl) (.inl rfl))

/-- The product of group `r` added to the accumulator's, into the output. -/
abbrev lastStep (r : Fin 4) : Prog (TpuEff nD τ sig (Elt F) Λ₀ .tc) PUnit := do
  let a : Vec F S512x2048 .bf16 ← Prog.lift (.load arg2 (rowsR r).toLoadRect (View.loadsAt_vmem h_S512x2048))
  let w : Vec F S1x2048x1024 .bf16 ← Prog.lift (.load arg5 (slotR i).toLoadRect (View.loadsAt_vmem h_S1x2048x1024))
  let s : Vec F S512x1024 .f32 ← Prog.lift (.load arg6 (accR i r).toLoadRect (View.loadsAt_vmem h_S512x1024))
  let _o : Vec F S512x1024 .bf16 ← Prog.lift (.load arg4 (outR r).toLoadRect (View.loadsAt_vmem h_S512x1024))
  Prog.lift (.store arg4 (outR r) (k0_pay5 a w s) Finset.univ (View.stores_vmem h_S512x1024 (harg4.storeExact_slice rfl _ (out_packed r)) (fun _ => rfl)) (.inl rfl))

theorem body_start (h1 : k0_cond1 i = 1#1) (h2 : ¬k0_cond2 i = 1#1) (h3 : ¬k0_cond3 i = 1#1) (h4 : ¬k0_cond4 i = 1#1) :
    cc0_matmulk (F := F) i arg2 harg2 arg3 harg3 arg4 harg4 arg5 harg5 arg6 harg6 = castStep i arg3 arg5 harg5 >>= fun _ => pure ⟨⟩ := by
  rw [cc0_matmulk_eq_skeleton]
  unfold cc0_matmulk_skel
  dsimp only
  rw [dif_pos h1, dif_neg h2, dif_neg h3, dif_neg h4]
  rfl

theorem body_first (h1 : ¬k0_cond1 i = 1#1) (h2 : k0_cond2 i = 1#1) (h3 : ¬k0_cond3 i = 1#1) (h4 : ¬k0_cond4 i = 1#1) :
    cc0_matmulk (F := F) i arg2 harg2 arg3 harg3 arg4 harg4 arg5 harg5 arg6 harg6
      = castStep i arg3 arg5 harg5 >>= fun _ => firstStep i arg2 arg5 arg6 0 >>= fun _ => firstStep i arg2 arg5 arg6 1
          >>= fun _ => firstStep i arg2 arg5 arg6 2 >>= fun _ => firstStep i arg2 arg5 arg6 3 >>= fun _ => pure ⟨⟩ := by
  rw [cc0_matmulk_eq_skeleton]
  unfold cc0_matmulk_skel
  dsimp only
  rw [dif_neg h1, dif_pos h2, dif_neg h3, dif_neg h4, k0_part1_eq_skeleton, k0_part2_eq_skeleton]
  rfl

theorem body_next (h1 : ¬k0_cond1 i = 1#1) (h2 : ¬k0_cond2 i = 1#1) (h3 : k0_cond3 i = 1#1) (h4 : ¬k0_cond4 i = 1#1) :
    cc0_matmulk (F := F) i arg2 harg2 arg3 harg3 arg4 harg4 arg5 harg5 arg6 harg6
      = castStep i arg3 arg5 harg5 >>= fun _ => nextStep i arg2 arg5 arg6 0 >>= fun _ => nextStep i arg2 arg5 arg6 1
          >>= fun _ => nextStep i arg2 arg5 arg6 2 >>= fun _ => nextStep i arg2 arg5 arg6 3 >>= fun _ => pure ⟨⟩ := by
  rw [cc0_matmulk_eq_skeleton]
  unfold cc0_matmulk_skel
  dsimp only
  rw [dif_neg h1, dif_neg h2, dif_pos h3, dif_neg h4, k0_part3_eq_skeleton, k0_part4_eq_skeleton]
  rfl

theorem body_last (h1 : ¬k0_cond1 i = 1#1) (h2 : ¬k0_cond2 i = 1#1) (h3 : ¬k0_cond3 i = 1#1) (h4 : k0_cond4 i = 1#1) :
    cc0_matmulk (F := F) i arg2 harg2 arg3 harg3 arg4 harg4 arg5 harg5 arg6 harg6
      = castStep i arg3 arg5 harg5 >>= fun _ => lastStep i arg2 arg4 harg4 arg5 arg6 0 >>= fun _ => lastStep i arg2 arg4 harg4 arg5 arg6 1
          >>= fun _ => lastStep i arg2 arg4 harg4 arg5 arg6 2 >>= fun _ => lastStep i arg2 arg4 harg4 arg5 arg6 3 >>= fun _ => pure ⟨⟩ := by
  rw [cc0_matmulk_eq_skeleton]
  unfold cc0_matmulk_skel
  dsimp only
  rw [dif_neg h1, dif_neg h2, dif_neg h3, dif_pos h4, k0_part5_eq_skeleton, k0_part6_eq_skeleton]
  rfl

/-! ## What a call leaves -/

/-- The scratch after a call. -/
def wbOut (x1 : Vec F S1x1024x1024 .f32) (b : Vec F S2x2048x1024 .bf16) : Vec F S2x2048x1024 .bf16 := over (castR i) (k0_pay1 (ldR wR x1)) b

/-- The accumulator with group `r` opened. -/
def accFirst (x0 : Vec F S2048x2048 .bf16) (w : Vec F S1x2048x1024 .bf16) (r : Fin 4) (a : Vec F S4096x1024 .f32) : Vec F S4096x1024 .f32 :=
  over (accR i r) (k0_pay2 (ldR (rowsR r) x0) w) a
/-- The accumulator with group `r` added to. -/
def accNext (x0 : Vec F S2048x2048 .bf16) (w : Vec F S1x2048x1024 .bf16) (r : Fin 4) (a : Vec F S4096x1024 .f32) : Vec F S4096x1024 .f32 :=
  over (accR i r) (k0_pay4 (ldR (rowsR r) x0) w (ldR (accR i r) a)) a
/-- The output with group `r` stored. -/
def outLast (x0 : Vec F S2048x2048 .bf16) (w : Vec F S1x2048x1024 .bf16) (a : Vec F S4096x1024 .f32) (r : Fin 4) (o : Vec F S2048x1024 .bf16) : Vec F S2048x1024 .bf16 :=
  over (outR r) (k0_pay5 (ldR (rowsR r) x0) w (ldR (accR i r) a)) o

def accFirst4 (x0 : Vec F S2048x2048 .bf16) (w : Vec F S1x2048x1024 .bf16) (a : Vec F S4096x1024 .f32) : Vec F S4096x1024 .f32 :=
  accFirst i x0 w 3 (accFirst i x0 w 2 (accFirst i x0 w 1 (accFirst i x0 w 0 a)))
def accNext4 (x0 : Vec F S2048x2048 .bf16) (w : Vec F S1x2048x1024 .bf16) (a : Vec F S4096x1024 .f32) : Vec F S4096x1024 .f32 :=
  accNext i x0 w 3 (accNext i x0 w 2 (accNext i x0 w 1 (accNext i x0 w 0 a)))
def outLast4 (x0 : Vec F S2048x2048 .bf16) (w : Vec F S1x2048x1024 .bf16) (a : Vec F S4096x1024 .f32) (o : Vec F S2048x1024 .bf16) : Vec F S2048x1024 .bf16 :=
  outLast i x0 w a 3 (outLast i x0 w a 2 (outLast i x0 w a 1 (outLast i x0 w a 0 o)))

open Classical in
/-- The accumulator after a call. -/
def accOut (x0 : Vec F S2048x2048 .bf16) (x1 : Vec F S1x1024x1024 .f32) (b : Vec F S2x2048x1024 .bf16) (a : Vec F S4096x1024 .f32) : Vec F S4096x1024 .f32 :=
  if k0_cond2 i = 1#1 then accFirst4 i x0 (ldR (slotR i) (wbOut i x1 b)) a
  else if k0_cond3 i = 1#1 then accNext4 i x0 (ldR (slotR i) (wbOut i x1 b)) a else a

open Classical in
/-- The output block after a call. -/
def oOut (x0 : Vec F S2048x2048 .bf16) (x1 : Vec F S1x1024x1024 .f32) (b : Vec F S2x2048x1024 .bf16) (a : Vec F S4096x1024 .f32) (o : Vec F S2048x1024 .bf16) : Vec F S2048x1024 .bf16 :=
  if k0_cond4 i = 1#1 then outLast4 i x0 (ldR (slotR i) (wbOut i x1 b)) a o else o

variable (c : Dev nD)

/-- The kernel's triple. -/
theorem wp_matmulk (x0 : Vec F S2048x2048 .bf16) (x1 : Vec F S1x1024x1024 .f32) (o : Vec F S2048x1024 .bf16) (b : Vec F S2x2048x1024 .bf16) (a : Vec F S4096x1024 .f32)
    (E : Set ℕ) (K : PUnit → sProp 𝕄) :
    iprop(owns (c : Thread nD τ) arg2 fullShare x0 ∗ owns (c : Thread nD τ) arg3 fullShare x1 ∗ owns (c : Thread nD τ) arg4 fullShare o
      ∗ owns (c : Thread nD τ) arg5 fullShare b ∗ owns (c : Thread nD τ) arg6 fullShare a
      ∗ (iprop(owns (c : Thread nD τ) arg2 fullShare x0 ∗ owns (c : Thread nD τ) arg3 fullShare x1
            ∗ owns (c : Thread nD τ) arg4 fullShare (oOut i x0 x1 b a o) ∗ owns (c : Thread nD τ) arg5 fullShare (wbOut i x1 b)
            ∗ owns (c : Thread nD τ) arg6 fullShare (accOut i x0 x1 b a))
          -∗ K ⟨⟩))
    ⊢ wp frame (wpE (defs₀ (F := F)) Variants.none c none) E (cc0_matmulk i arg2 harg2 arg3 harg3 arg4 harg4 arg5 harg5 arg6 harg6) K := by
  have hk : ((i 0).val - 1) % 8 < 8 := Nat.mod_lt _ (by decide)
  by_cases h1 : (i 0).val = 0
  · have n2 : ¬k0_cond2 i = 1#1 := fun hh => by have := (cond2_iff i).mp hh; omega
    have n3 : ¬k0_cond3 i = 1#1 := fun hh => by have := (cond3_iff i).mp hh; omega
    have n4 : ¬k0_cond4 i = 1#1 := fun hh => by have := (cond4_iff i).mp hh; omega
    rw [body_start i arg2 harg2 arg3 harg3 arg4 harg4 arg5 harg5 arg6 harg6 ((cond1_iff i).mpr h1) n2 n3 n4, oOut, if_neg n4, accOut, if_neg n2, if_neg n3]
    iintro ⟨H1, H2, H3, H4, H5, Hk⟩
    iapply (one c harg3 x1 b E)
    isplitl [H2]; · iexact H2
    isplitl [H4]; · iexact H4
    iintro ⟨H2, H4⟩
    sl_step
    iapply Hk
    isplitl [H1]; · iexact H1
    isplitl [H2]; · iexact H2
    isplitl [H3]; · iexact H3
    isplitl [H4]; · iexact H4
    iexact H5
  have n1 : ¬k0_cond1 i = 1#1 := fun hh => h1 ((cond1_iff i).mp hh)
  by_cases h2 : ((i 0).val - 1) % 8 = 0
  · have p2 : k0_cond2 i = 1#1 := (cond2_iff i).mpr ⟨by omega, h2⟩
    have n3 : ¬k0_cond3 i = 1#1 := fun hh => by have := (cond3_iff i).mp hh; omega
    have n4 : ¬k0_cond4 i = 1#1 := fun hh => by have := (cond4_iff i).mp hh; omega
    rw [body_first i arg2 harg2 arg3 harg3 arg4 harg4 arg5 harg5 arg6 harg6 n1 p2 n3 n4, oOut, if_neg n4, accOut, if_pos p2]
    iintro ⟨H1, H2, H3, H4, H5, Hk⟩
    iapply (one c harg3 x1 b E)
    isplitl [H2]; · iexact H2
    isplitl [H4]; · iexact H4
    iintro ⟨H2, H4⟩
    iapply (four c E a (R := iprop(owns (c : Thread nD τ) arg2 fullShare x0 ∗ owns (c : Thread nD τ) arg5 fullShare (wbOut i x1 b))) (S := fun v => owns (c : Thread nD τ) arg6 fullShare v) (step := firstStep i arg2 arg5 arg6) (g := fun r v => accFirst i x0 (ldR (slotR i) (wbOut i x1 b)) r v)
      fun r v kk => two c harg2 harg5 x0 (wbOut i x1 b) v E)
    isplitl [H1 H4]
    · isplitl [H1]; · iexact H1
      iexact H4
    isplitl [H5]; · iexact H5
    iintro ⟨⟨H1, H4⟩, H5⟩
    sl_step
    iapply Hk
    isplitl [H1]; · iexact H1
    isplitl [H2]; · iexact H2
    isplitl [H3]; · iexact H3
    isplitl [H4]; · iexact H4
    iexact H5
  have n2 : ¬k0_cond2 i = 1#1 := fun hh => h2 ((cond2_iff i).mp hh).2
  by_cases h4 : ((i 0).val - 1) % 8 = 7
  · have p4 : k0_cond4 i = 1#1 := (cond4_iff i).mpr ⟨by omega, h4⟩
    have n3 : ¬k0_cond3 i = 1#1 := fun hh => by have := (cond3_iff i).mp hh; omega
    rw [body_last i arg2 harg2 arg3 harg3 arg4 harg4 arg5 harg5 arg6 harg6 n1 n2 n3 p4, oOut, if_pos p4, accOut, if_neg n2, if_neg n3]
    iintro ⟨H1, H2, H3, H4, H5, Hk⟩
    iapply (one c harg3 x1 b E)
    isplitl [H2]; · iexact H2
    isplitl [H4]; · iexact H4
    iintro ⟨H2, H4⟩
    iapply (four c E o (R := iprop(owns (c : Thread nD τ) arg2 fullShare x0 ∗ owns (c : Thread nD τ) arg5 fullShare (wbOut i x1 b) ∗ owns (c : Thread nD τ) arg6 fullShare a)) (S := fun v => owns (c : Thread nD τ) arg4 fullShare v) (step := lastStep i arg2 arg4 harg4 arg5 arg6) (g := fun r v => outLast i x0 (ldR (slotR i) (wbOut i x1 b)) a r v)
      fun r v kk => three c harg2 harg5 harg6 x0 (wbOut i x1 b) a v E)
    isplitl [H1 H4 H5]
    · isplitl [H1]; · iexact H1
      isplitl [H4]; · iexact H4
      iexact H5
    isplitl [H3]; · iexact H3
    iintro ⟨⟨H1, H4, H5⟩, H3⟩
    sl_step
    iapply Hk
    isplitl [H1]; · iexact H1
    isplitl [H2]; · iexact H2
    isplitl [H3]; · iexact H3
    isplitl [H4]; · iexact H4
    iexact H5
  · have p3 : k0_cond3 i = 1#1 := (cond3_iff i).mpr ⟨by omega, by omega, by omega⟩
    have n4 : ¬k0_cond4 i = 1#1 := fun hh => h4 ((cond4_iff i).mp hh).2
    rw [body_next i arg2 harg2 arg3 harg3 arg4 harg4 arg5 harg5 arg6 harg6 n1 n2 p3 n4, oOut, if_neg n4, accOut, if_neg n2, if_pos p3]
    iintro ⟨H1, H2, H3, H4, H5, Hk⟩
    iapply (one c harg3 x1 b E)
    isplitl [H2]; · iexact H2
    isplitl [H4]; · iexact H4
    iintro ⟨H2, H4⟩
    iapply (four c E a (R := iprop(owns (c : Thread nD τ) arg2 fullShare x0 ∗ owns (c : Thread nD τ) arg5 fullShare (wbOut i x1 b))) (S := fun v => owns (c : Thread nD τ) arg6 fullShare v) (step := nextStep i arg2 arg5 arg6) (g := fun r v => accNext i x0 (ldR (slotR i) (wbOut i x1 b)) r v)
      fun r v kk => onto c harg2 harg5 harg6 x0 (wbOut i x1 b) v E)
    isplitl [H1 H4]
    · isplitl [H1]; · iexact H1
      iexact H4
    isplitl [H5]; · iexact H5
    iintro ⟨⟨H1, H4⟩, H5⟩
    sl_step
    iapply Hk
    isplitl [H1]; · iexact H1
    isplitl [H2]; · iexact H2
    isplitl [H3]; · iexact H3
    isplitl [H4]; · iexact H4
    iexact H5

end

variable (m : (ℓ : Loc nD τ sig) → Buf (Elt F) ℓ) (ρ : Dev nD → PrngReg)

/-! ## The points -/

theorem Npts : cfg0.N = 130 := N_0

theorem coords0 (t : Fin cfg0.N) : (grid0.coords t 0).val = t.val / 2 := by
  have h : (grid0.coords t 0).val = t.val / 2 % 65 := Pipeline.Grid.coords_val t 0 (by decide) rfl
  have : t.val < 130 := Nat.lt_of_lt_of_eq t.isLt Npts
  omega
theorem coords1 (t : Fin cfg0.N) : (grid0.coords t 1).val = t.val % 2 := by
  have h : (grid0.coords t 1).val = t.val / 1 % 2 := Pipeline.Grid.coords_val t 1 (by decide) rfl
  rw [h, Nat.div_one]

/-- Which piece of the sum a point multiplies. -/
def kOf (t : Fin cfg0.N) : ℕ := (t.val / 2 - 1) % 8

theorem kOf_def (t : Fin cfg0.N) : kOf t = (t.val / 2 - 1) % 8 := rfl

theorem kOf_lt (t : Fin cfg0.N) : kOf t < 8 := Nat.mod_lt _ (by decide)

theorem c2 (t : Fin cfg0.N) : k0_cond2 (grid0.coords t) = 1#1 ↔ 2 ≤ t.val ∧ kOf t = 0 := by
  rw [cond2_iff, coords0, kOf_def]; constructor <;> (intro h; omega)
theorem c3 (t : Fin cfg0.N) : k0_cond3 (grid0.coords t) = 1#1 ↔ 2 ≤ t.val ∧ 0 < kOf t ∧ kOf t < 7 := by
  rw [cond3_iff, coords0, kOf_def]; constructor <;> (intro h; omega)
theorem c4 (t : Fin cfg0.N) : k0_cond4 (grid0.coords t) = 1#1 ↔ 2 ≤ t.val ∧ kOf t = 7 := by
  rw [cond4_iff, coords0, kOf_def]; constructor <;> (intro h; omega)

theorem kOf_pos {t : Fin cfg0.N} (h : 0 < kOf t) : 4 ≤ t.val := by
  rw [kOf_def] at h; omega

theorem live2 (t : Fin cfg0.N) (h : kOf t = 7) : cfg0.idle 2 (grid0.coords t) = false := by
  have := kOf_pos (t := t) (by omega)
  show (!(k0_cond4 (grid0.coords t) == 1#1)) = false
  rw [(c4 t).mpr ⟨by omega, h⟩]; rfl

theorem idle2 (t : Fin cfg0.N) (h : kOf t ≠ 7) : cfg0.idle 2 (grid0.coords t) = true := by
  show (!(k0_cond4 (grid0.coords t) == 1#1)) = true
  have hn : ¬k0_cond4 (grid0.coords t) = 1#1 := fun hh => h ((c4 t).mp hh).2
  rw [beq_eq_false_iff_ne.mpr hn]; rfl

theorem flush2_off : ∀ t : Fin cfg0.N, kOf t ≠ 7 → (cfg0.win 2).flush t = false := by decide +kernel

/-! ## The scratch between points -/

/-- Where the points put their weight blocks, and where they read. -/
def lay : Lay cfg0.N 2 1024 2048 where
  M_eq := rfl
  P_pos := by decide
  B_pos := by decide
  put t := k0_off1 (grid0.coords t)
  put_inb t := cast_inb (grid0.coords t)
  put_eq t := by have h := cast_off (grid0.coords t); rwa [coords0, coords1] at h
  get t := k0_off3 (grid0.coords t)
  get_inb t := slot_inb (grid0.coords t)
  get_eq t := by have h := slot_off (grid0.coords t); rwa [coords0] at h

/-- What a point casts: its weight block. -/
def castAt (c : Dev nD) (t : Fin cfg0.N) : Vec F S1x1024x1024 .bf16 := k0_pay1 (ldR wR (iblk m c 1 t))

/-- What is known of the scratch before point `t`. -/
abbrev Agree (c : Dev nD) (t : ℕ) (b : Vec F S2x2048x1024 .bf16) : Prop := lay.Agree (castAt m c) t b

theorem Agree.succ {c : Dev nD} {t : Fin cfg0.N} {b : Vec F S2x2048x1024 .bf16} (h : Agree m c t.val b) :
    Agree m c (t.val + 1) (wbOut (grid0.coords t) (iblk m c 1 t) b) := Lay.Agree.succ lay (castAt m c) h

/-- The weights a point multiplies by. -/
def slotAt (c : Dev nD) (t : Fin cfg0.N) : Vec F S1x2048x1024 .bf16 := Lay.slot (P := 2) (castAt m c) (show 0 < 1024 by decide) t

theorem slot_agree {c : Dev nD} {t : Fin cfg0.N} (h8 : 2 ≤ t.val) {b : Vec F S2x2048x1024 .bf16} (h : Agree m c (t.val + 1) b) :
    ldR (slotR (grid0.coords t)) b = slotAt m c t := Lay.slot_agree lay (castAt m c) h8 h

/-! ## The accumulator between points -/

/-- Where the points' groups of rows are. -/
def rows : Rows cfg0.N where
  off t r := k0_off4 (grid0.coords t) (BitVec.ofNat 32 (512 * r.val))
  inb t r := acc_inb (grid0.coords t) r
  off_eq t r := by have h := acc_off (grid0.coords t) r; rwa [coords1] at h

/-- The point before at the same rows. -/
def pred2 (t : Fin cfg0.N) : Fin cfg0.N := ⟨t.val - 2, Nat.lt_of_le_of_lt (Nat.sub_le _ _) t.isLt⟩

theorem pred2_val (t : Fin cfg0.N) : (pred2 t).val = t.val - 2 := rfl

/-- Group `r` of the rows a point accumulates, after `k + 1` pieces of the sum. -/
def accK (c : Dev nD) : ℕ → Fin cfg0.N → Fin 4 → Vec F S512x1024 .f32
  | 0, t, r => k0_pay2 (ldR (rowsR r) (iblk m c 0 t)) (slotAt m c t)
  | k + 1, t, r => k0_pay4 (ldR (rowsR r) (iblk m c 0 t)) (slotAt m c t) (accK c k (pred2 t) r)

/-- What is known of the accumulator before point `t`: the rows of the last two points. -/
def AgreeA (c : Dev nD) (t : ℕ) (a : Vec F S4096x1024 .f32) : Prop :=
  ∀ p : Fin cfg0.N, p.val < t → t ≤ p.val + 2 → 2 ≤ p.val → kOf p < 7 → ∀ r : Fin 4, ldR (accR (grid0.coords p) r) a = accK m c (kOf p) p r

theorem AgreeA.zero (c : Dev nD) (a : Vec F S4096x1024 .f32) : AgreeA m c 0 a := fun _ h => absurd h (Nat.not_lt_zero _)

theorem acc_same (p t : Fin cfg0.N) (h : p.val % 2 = t.val % 2) (r : Fin 4) (a : Vec F S4096x1024 .f32) :
    ldR (accR (grid0.coords p) r) a = ldR (accR (grid0.coords t) r) a := rows.same p t h r a

theorem acc_other (p t : Fin cfg0.N) (r s : Fin 4) (h : p.val % 2 ≠ t.val % 2 ∨ r ≠ s) (v : Vec F S512x1024 .f32) (a : Vec F S4096x1024 .f32) :
    ldR (accR (grid0.coords p) r) (over (accR (grid0.coords t) s) v a) = ldR (accR (grid0.coords p) r) a := rows.other p t r s h v a

/-- Four groups of rows stored. -/
abbrev accOver (i : grid0.Coords) (P : Fin 4 → Vec F S512x1024 .f32) (a : Vec F S4096x1024 .f32) : Vec F S4096x1024 .f32 := over4 (accR i) P a

theorem over4_hit (t : Fin cfg0.N) (P : Fin 4 → Vec F S512x1024 .f32) (a : Vec F S4096x1024 .f32) (r : Fin 4) :
    ldR (accR (grid0.coords t) r) (accOver (grid0.coords t) P a) = P r := rows.hit t P a r

theorem over4_miss (p t : Fin cfg0.N) (h : p.val % 2 ≠ t.val % 2) (P : Fin 4 → Vec F S512x1024 .f32) (a : Vec F S4096x1024 .f32) (r : Fin 4) :
    ldR (accR (grid0.coords p) r) (accOver (grid0.coords t) P a) = ldR (accR (grid0.coords p) r) a := rows.miss p t h P a r

theorem accNext4_eq (t : Fin cfg0.N) (x0 : Vec F S2048x2048 .bf16) (w : Vec F S1x2048x1024 .bf16) (a : Vec F S4096x1024 .f32) :
    accNext4 (grid0.coords t) x0 w a
      = accOver (grid0.coords t) (fun r => k0_pay4 (ldR (rowsR r) x0) w (ldR (accR (grid0.coords t) r) a)) a := by
  unfold accNext4 accNext accOver over4
  rw [acc_other t t 3 2 (.inr (by decide)), acc_other t t 3 1 (.inr (by decide)), acc_other t t 3 0 (.inr (by decide)),
    acc_other t t 2 1 (.inr (by decide)), acc_other t t 2 0 (.inr (by decide)), acc_other t t 1 0 (.inr (by decide))]

theorem AgreeA.succ {c : Dev nD} {t : Fin cfg0.N} {b : Vec F S2x2048x1024 .bf16} {a : Vec F S4096x1024 .f32} (h : Agree m c t.val b)
    (ha : AgreeA m c t.val a) : AgreeA m c (t.val + 1) (accOut (grid0.coords t) (iblk m c 0 t) (iblk m c 1 t) b a) := by
  intro p hp hp' hp2 hpk r
  by_cases hpt : p = t
  · subst hpt
    have hs := slot_agree m hp2 (Agree.succ m h)
    unfold accOut
    by_cases hk : kOf p = 0
    · rw [if_pos ((c2 p).mpr ⟨hp2, hk⟩), hs, hk]
      exact over4_hit p (fun r => k0_pay2 (ldR (rowsR r) (iblk m c 0 p)) (slotAt m c p)) a r
    · have h4 := kOf_pos (t := p) (by omega)
      have hq : kOf (pred2 p) = kOf p - 1 := by
        rw [kOf_def] at hk
        rw [kOf_def, kOf_def, pred2_val]; omega
      have hn : ¬k0_cond2 (grid0.coords p) = 1#1 := fun hh => hk ((c2 p).mp hh).2
      rw [if_neg hn, if_pos ((c3 p).mpr ⟨hp2, by omega, hpk⟩), hs, accNext4_eq, over4_hit]
      have e := ha (pred2 p) (by rw [pred2_val]; omega) (by rw [pred2_val]; omega) (by rw [pred2_val]; omega) (by omega) r
      rw [acc_same (pred2 p) p (by rw [pred2_val]; omega) r a, hq] at e
      rw [e]
      obtain ⟨k, hk'⟩ : ∃ k, kOf p = k + 1 := ⟨kOf p - 1, by omega⟩
      rw [hk']
      rfl
  · have hne : p.val ≠ t.val := fun hh => hpt (Fin.ext hh)
    have hpar : p.val % 2 ≠ t.val % 2 := by omega
    refine Eq.trans ?_ (ha p (by omega) (by omega) hp2 hpk r)
    unfold accOut
    by_cases h2 : k0_cond2 (grid0.coords t) = 1#1
    · rw [if_pos h2]
      exact over4_miss p t hpar (fun r => k0_pay2 (ldR (rowsR r) (iblk m c 0 t)) _) a r
    · rw [if_neg h2]
      by_cases h3 : k0_cond3 (grid0.coords t) = 1#1
      · rw [if_pos h3, accNext4_eq, over4_miss p t hpar]
      · rw [if_neg h3]

/-! ## The output block -/

/-- Four groups of the output's rows stored. -/
abbrev out4 (P : Fin 4 → Vec F S512x1024 .bf16) (o : Vec F S2048x1024 .bf16) : Vec F S2048x1024 .bf16 := over4 outR P o

/-- A group of rows of the output block a point leaves. -/
def outG (c : Dev nD) (t : Fin cfg0.N) (r : Fin 4) : Vec F S512x1024 .bf16 :=
  k0_pay5 (ldR (rowsR r) (iblk m c 0 t)) (slotAt m c t) (accK m c 6 (pred2 t) r)

/-- The output block a point leaves. -/
def outAt (c : Dev nD) (t : Fin cfg0.N) : Vec F S2048x1024 .bf16 :=
  out4 (outG m c t) (broadcast S2048x1024 (Scalar.ofBits .bf16 0x0000#16 : F .bf16))

theorem out_agree {c : Dev nD} {t : Fin cfg0.N} (hk : kOf t = 7) {b : Vec F S2x2048x1024 .bf16} {a : Vec F S4096x1024 .f32} (h : Agree m c t.val b)
    (ha : AgreeA m c t.val a) (o : Vec F S2048x1024 .bf16) :
    oOut (grid0.coords t) (iblk m c 0 t) (iblk m c 1 t) b a o = outAt m c t := by
  have h4 := kOf_pos (t := t) (by omega)
  have hq : kOf (pred2 t) = 6 := by
    rw [kOf_def] at hk
    rw [kOf_def, pred2_val]; omega
  have hP : (fun r => k0_pay5 (ldR (rowsR r) (iblk m c 0 t)) (slotAt m c t) (ldR (accR (grid0.coords t) r) a)) = outG m c t := by
    funext r
    have e := ha (pred2 t) (by rw [pred2_val]; omega) (by rw [pred2_val]; omega) (by rw [pred2_val]; omega) (by omega) r
    rw [acc_same (pred2 t) t (by rw [pred2_val]; omega) r a, hq] at e
    rw [e]; rfl
  unfold oOut outAt
  rw [if_pos ((c4 t).mpr ⟨by omega, hk⟩), slot_agree m (by omega) (Agree.succ m h)]
  refine Eq.trans (b := out4 (fun r => k0_pay5 (ldR (rowsR r) (iblk m c 0 t)) (slotAt m c t) (ldR (accR (grid0.coords t) r) a)) o) rfl ?_
  rw [hP]
  exact out4_indep _ _ _

theorem out_idle {t : Fin cfg0.N} (hk : kOf t ≠ 7) (x0 : Vec F S2048x2048 .bf16) (x1 : Vec F S1x1024x1024 .f32) (b : Vec F S2x2048x1024 .bf16)
    (a : Vec F S4096x1024 .f32) (o : Vec F S2048x1024 .bf16) : oOut (grid0.coords t) x0 x1 b a o = o := by
  unfold oOut
  rw [if_neg fun hh => hk ((c4 t).mp hh).2]

/-! ## The proof data -/

/-- The scratch operand. -/
abbrev sc0 : Memref sig .tc .vmem S2x2048x1024 .bf16 := Memref.whole cc0_scratch0
/-- The accumulator operand. -/
abbrev sc1 : Memref sig .tc .vmem S4096x1024 .f32 := Memref.whole cc0_scratch1

theorem PhiA_eq (c : Dev nD) :
    (Pipeline.ΦA spec0 c : sProp 𝕄) = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before point `t`. -/
def PhiS (c : Dev nD) (t : ℕ) (_ : t ≤ cfg0.N) : sProp 𝕄 :=
  iprop((∃ b a, owns (c : Thread nD τ) sc0 fullShare b ∗ owns (c : Thread nD τ) sc1 fullShare a ∗ ⌜Agree m c t b ∧ AgreeA m c t a⌝) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_2 (c : Dev nD) (t : Fin cfg0.N) (b : Vec F S2x2048x1024 .bf16) (a : Vec F S4096x1024 .f32) (h : Agree m c t.val b)
    (ha : AgreeA m c t.val a) (d) :
    owns (c : Thread nD τ) (st0_2 t) fullShare (oOut (grid0.coords t) (iblk m c 0 t) (iblk m c 1 t) b a ((dats m 0 c).before 2 t d))
      ⊢ ((dats m 0 c).leavesExact 2 t : sProp 𝕄) := by
  by_cases h8 : kOf t ≠ 7
  · rw [Dat.leavesExact_idle _ 2 t (idle2 t h8) (flush2_off t h8), out_idle h8]
    iintro H
    iexists d
    iexact H
  · have h8' : kOf t = 7 := by omega
    rw [out_agree m h8' h ha, show (dats m 0 c).leavesExact 2 t = owns (c : Thread nD τ) (st0_2 t) fullShare ((dats m 0 c).after 2 t) from by
      unfold Dat.leavesExact; rw [live2 t h8'], after_2]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  unfold PhiS
  iintro ⟨⟨⟨%b, %a, HS, HA, %hag⟩, Hg⟩, Ho, ⟨%d0, H0⟩, ⟨%d1, H1⟩, ⟨%d2, H2⟩⟩
  iapply (wp_matmulk (grid0.coords t) (st0_0 t) _ (st0_1 t) _ (st0_2 t) _ sc0 _ sc1 _ c
    (iblk m c 0 t) (iblk m c 1 t) ((dats m 0 c).before 2 t d2) b a Set.univ)
  isplitl [H0]; · iexact H0
  isplitl [H1]; · iexact H1
  isplitl [H2]; · iexact H2
  isplitl [HS]; · iexact HS
  isplitl [HA]; · iexact HA
  iintro ⟨H0, H1, H2, HS, HA⟩
  isplitl [HS HA Hg]
  · isplitl [HS HA]
    · iexists _; iexists _
      isplitl [HS]; · iexact HS
      isplitl [HA]; · iexact HA
      ipureintro
      exact ⟨Agree.succ m hag.1, AgreeA.succ m hag.1 hag.2⟩
    iexact Hg
  isplitl [Ho]; · iexact Ho
  isplitl [H0]; · iexact H0
  isplitl [H1]; · iexact H1
  iapply (leaves_2 m c t b a hag.1 hag.2 d2)
  iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%b, H⟩, ⟨%a, HA⟩⟩, Hg⟩
  isplitl [H HA]
  · iexists b; iexists a
    isplitl [H]; · iexact H
    isplitl [HA]; · iexact HA
    ipureintro
    exact ⟨Lay.Agree.zero _ _ b, AgreeA.zero m c a⟩
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%b, %a, H, HA, %hag⟩, Hg⟩
  isplitl [H HA]
  · isplitl [H]
    · iexists b; iexact H
    iexists a; iexact HA
  iexact Hg

/-! ## The run -/

set_option backward.isDefEq.respectTransparency.types false in
/-- Every execution terminates, with every window's array at what the points left and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_main m ρ)

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_post m ρ)) ((θ_run defs _ _).mono (fun _ h => h.2) (run_main m ρ))

end Cert.Kernel3Ideal.Mm

end
-- ==== Proof.Mlp2Result.lean ====
/- The second MLP product over the reals: the result array, entry by entry, as the sum the pieces add up to. -/
module

public import proofs.«01_k».proof.Proof.Mlp2Run
public import Idealize.ShloMosaic.Lib.Pointwise

@[expose] public section

set_option maxRecDepth 16384

noncomputable section

namespace Cert.Kernel3Ideal.Mm

open Idealize.ShloMosaic Idealize.ShloMosaic.TcCoe
open Cert.Kernel3Ideal Cert.Kernel3Ideal.Gen Cert.Rects Cert.Slots

/-- A term of an entry of the result. -/
def term (A : S8192x16384.Idx → EReal) (W : S2x16384x4096.Idx → EReal) (r : Fin 8192) (j : Fin 4096) (x : ℕ) : EReal :=
  A (ix2 r ⟨x % 16384, Nat.mod_lt x (show 0 < 16384 by omega)⟩) * W (ix3 0 ⟨x % 16384, Nat.mod_lt x (show 0 < 16384 by omega)⟩ j)

/-- An entry of the result: a row of the activations by a column of the layer's weights. -/
@[irreducible] def entry (A : S8192x16384.Idx → EReal) (W : S2x16384x4096.Idx → EReal) (r : Fin 8192) (j : Fin 4096) : EReal :=
  ∑ k : Fin 16384, A (ix2 r k) * W (ix3 0 k j)

theorem entry_eq (A : S8192x16384.Idx → EReal) (W : S2x16384x4096.Idx → EReal) (r : Fin 8192) (j : Fin 4096) :
    ∑ x ∈ Finset.range 16384, term A W r j x = entry A W r j := by
  unfold entry
  rw [Finset.sum_range]
  refine Finset.sum_congr rfl fun k _ => ?_
  have hk : (⟨k.val % 16384, Nat.mod_lt k.val (show 0 < 16384 by omega)⟩ : Fin 16384) = k := Fin.ext (Nat.mod_eq_of_lt k.isLt)
  unfold term
  rw [hk]

theorem pay2_at (a : Vec Ideal S512x2048 .bf16) (w : Vec Ideal S1x2048x1024 .bf16) (r : Fin 512) (j : Fin 1024) :
    k0_pay2 (F := Ideal) a w (ix2 r j) = ∑ k : Fin 2048, a (ix2 r k) * w (ix3 0 k j) := by
  pointwise [k0_pay2]

theorem pay4_at (a : Vec Ideal S512x2048 .bf16) (w : Vec Ideal S1x2048x1024 .bf16) (s : Vec Ideal S512x1024 .f32) (r : Fin 512) (j : Fin 1024) :
    k0_pay4 (F := Ideal) a w s (ix2 r j) = s (ix2 r j) + ∑ k : Fin 2048, a (ix2 r k) * w (ix3 0 k j) := by
  pointwise [k0_pay4]

theorem pay5_at (a : Vec Ideal S512x2048 .bf16) (w : Vec Ideal S1x2048x1024 .bf16) (s : Vec Ideal S512x1024 .f32) (r : Fin 512) (j : Fin 1024) :
    k0_pay5 (F := Ideal) a w s (ix2 r j) = s (ix2 r j) + ∑ k : Fin 2048, a (ix2 r k) * w (ix3 0 k j) := by
  pointwise [k0_pay5]

theorem pay1_at (w : Vec Ideal S1x1024x1024 .f32) (k : Fin 1024) (j : Fin 1024) : k0_pay1 (F := Ideal) w (ix3 0 k j) = w (ix3 0 k j) := by
  pointwise [k0_pay1]

variable (m : (ℓ : Loc nD τ sig) → Buf (Elt Ideal) ℓ) (c : Dev nD)

/-- The activations and the weights. -/
abbrev actv : S8192x16384.Idx → EReal := m ((c : Thread nD τ).loc main_arg0)
abbrev wgt : S2x16384x4096.Idx → EReal := m ((c : Thread nD τ).loc main_arg1)

theorem index0 : ∀ t : Fin cfg0.N, 2 ≤ t.val → win0_0.index t 0 = (t.val / 2 - 1) / 32 * 2 + t.val % 2 ∧ win0_0.index t 1 = (t.val / 2 - 1) % 8 := by decide +kernel
theorem index1 : ∀ t : Fin cfg0.N, t.val < 128 → win0_1.index t 0 = 0 ∧ win0_1.index t 1 = t.val / 2 % 8 * 2 + t.val % 2 ∧ win0_1.index t 2 = t.val / 2 / 8 % 4 := by decide +kernel
theorem index2 : ∀ t : Fin cfg0.N, 2 ≤ t.val → (t.val / 2 - 1) % 8 = 7 → win0_2.index t 0 = (t.val / 2 - 1) / 32 * 2 + t.val % 2 ∧ win0_2.index t 1 = (t.val / 2 - 1) / 8 % 4 := by decide +kernel
theorem flush2_on : ∀ t : Fin cfg0.N, kOf t = 7 → (cfg0.win 2).flush t = true := by decide +kernel
theorem xsize2 : ∀ t : Fin cfg0.N, win0_2.xsize (grid0.coords t) 0 = 2048 ∧ win0_2.xsize (grid0.coords t) 1 = 1024 := by decide +kernel

/-- The row and the column of the result an entry of a point's group of rows is of. -/
def At (t : Fin cfg0.N) (s : Fin 4) (r : Fin 512) (j : Fin 1024) (R : Fin 8192) (J : Fin 4096) : Prop :=
  R.val = 4096 * ((t.val / 2 - 1) / 32) + 2048 * (t.val % 2) + (512 * s.val + r.val) ∧ J.val = 1024 * ((t.val / 2 - 1) / 8 % 4) + j.val

theorem a_at (t : Fin cfg0.N) (h8 : 2 ≤ t.val) (s : Fin 4) (r : Fin 512) (k : Fin 2048) (R : Fin 8192)
    (hR : R.val = 4096 * ((t.val / 2 - 1) / 32) + 2048 * (t.val % 2) + (512 * s.val + r.val)) (K : Fin 16384) (hK : K.val = 2048 * kOf t + k.val) :
    ldR (rowsR s) (iblk m c 0 t) (ix2 r k) = actv m c (ix2 R K) := by
  have hi := index0 t h8
  rw [kOf_def] at hK
  unfold ldR iblk
  rw [View.read_apply]
  show V m c main_arg0 _ = _
  rw [V_main_arg0]
  refine congrArg (actv m c) (funext fun d => Fin.ext ?_)
  match d with
  | ⟨0, _⟩ => show win0_0.index t 0 * 2048 + 1 * (512 * s.val + 1 * r.val) = R.val; rw [hi.1]; omega
  | ⟨1, _⟩ => show win0_0.index t 1 * 2048 + 1 * (0 + 1 * k.val) = K.val; rw [hi.2]; omega

theorem cast_at (p : Fin cfg0.N) (h : p.val < 128) (k : Fin 1024) (j : Fin 1024) (K : Fin 16384) (J : Fin 4096)
    (hK : K.val = 2048 * (p.val / 2 % 8) + 1024 * (p.val % 2) + k.val) (hJ : J.val = 1024 * (p.val / 2 / 8 % 4) + j.val) :
    castAt m c p (ix3 0 k j) = wgt m c (ix3 0 K J) := by
  have hi := index1 p h
  unfold castAt
  rw [pay1_at]
  unfold ldR iblk
  rw [View.read_apply]
  show V m c main_arg1 _ = _
  rw [V_main_arg1]
  refine congrArg (wgt m c) (funext fun d => Fin.ext ?_)
  match d with
  | ⟨0, _⟩ => show win0_1.index p 0 * 1 + 1 * (0 + 1 * 0) = 0; rw [hi.1]
  | ⟨1, _⟩ => show win0_1.index p 1 * 1024 + 1 * (0 + 1 * k.val) = K.val; rw [hi.2.1]; omega
  | ⟨2, _⟩ => show win0_1.index p 2 * 1024 + 1 * (0 + 1 * j.val) = J.val; rw [hi.2.2]; omega

theorem slot_at (t : Fin cfg0.N) (h8 : 2 ≤ t.val) (k : Fin 2048) (j : Fin 1024) (K : Fin 16384) (hK : K.val = 2048 * kOf t + k.val)
    (J : Fin 4096) (hJ : J.val = 1024 * ((t.val / 2 - 1) / 8 % 4) + j.val) :
    slotAt m c t (ix3 0 k j) = wgt m c (ix3 0 K J) := by
  have hN : t.val < 130 := Nat.lt_of_lt_of_eq t.isLt Npts
  have hs := (Lay.src_val h8 (show k.val / 1024 < 2 by omega)).1
  rw [kOf_def] at hK
  show castAt m c (Lay.src 2 t (k.val / 1024)) (ix3 0 ⟨k.val % 1024, Nat.mod_lt _ (by omega)⟩ j) = _
  have hq : (Lay.src 2 t (k.val / 1024)).val / 2 = t.val / 2 - 1 := by omega
  refine cast_at m c _ (by omega) _ j K J ?_ ?_
  · rw [hq, hs]; show K.val = _ + k.val % 1024; omega
  · rw [hq, hJ]

/-- A point's piece of an entry. -/
theorem piece (t : Fin cfg0.N) (h8 : 2 ≤ t.val) (s : Fin 4) (r : Fin 512) (j : Fin 1024) (R : Fin 8192) (J : Fin 4096) (h : At t s r j R J) :
    (∑ k : Fin 2048, (ldR (rowsR s) (iblk m c 0 t) (ix2 r k) : EReal) * (slotAt m c t (ix3 0 k j) : EReal))
      = ∑ x ∈ Finset.range 2048, term (actv m c) (wgt m c) R J (2048 * kOf t + x) := by
  rw [Finset.sum_range]
  refine Finset.sum_congr rfl fun k _ => ?_
  have hk := kOf_lt t
  have hm : (2048 * kOf t + k.val) % 16384 = 2048 * kOf t + k.val := Nat.mod_eq_of_lt (by omega)
  unfold term
  rw [a_at m c t h8 s r k R h.1 ⟨(2048 * kOf t + k.val) % 16384, Nat.mod_lt _ (by omega)⟩ hm,
    slot_at m c t h8 k j ⟨(2048 * kOf t + k.val) % 16384, Nat.mod_lt _ (by omega)⟩ hm J h.2]

theorem At.pred {t : Fin cfg0.N} {s : Fin 4} {r : Fin 512} {j : Fin 1024} {R : Fin 8192} {J : Fin 4096} (h : At t s r j R J) (hk : 0 < kOf t) :
    At (pred2 t) s r j R J := by
  have h4 := kOf_pos hk
  rw [kOf_def] at hk
  obtain ⟨h1, h2⟩ := h
  refine ⟨?_, ?_⟩
  · rw [pred2_val, h1]; omega
  · rw [pred2_val, h2]; omega

theorem accK_at (k : ℕ) : ∀ (t : Fin cfg0.N), 2 ≤ t.val → kOf t = k → ∀ (s : Fin 4) (r : Fin 512) (j : Fin 1024) (R : Fin 8192) (J : Fin 4096), At t s r j R J →
    accK m c k t s (ix2 r j) = ∑ x ∈ Finset.range (2048 * k + 2048), term (actv m c) (wgt m c) R J x := by
  induction k with
  | zero =>
    intro t h8 hk s r j R J h
    refine (pay2_at _ _ r j).trans ((piece m c t h8 s r j R J h).trans ?_)
    rw [hk]
    refine Finset.sum_congr rfl fun x _ => congrArg _ (by omega)
  | succ k ih =>
    intro t h8 hk s r j R J h
    have h4 := kOf_pos (t := t) (by omega)
    have hq : kOf (pred2 t) = k := by
      rw [kOf_def] at hk
      rw [kOf_def, pred2_val]; omega
    refine (pay4_at _ _ _ r j).trans ?_
    rw [ih (pred2 t) (by rw [pred2_val]; omega) hq s r j R J (h.pred (by omega))]
    refine (congrArg (fun x : EReal => _ + x) (piece m c t h8 s r j R J h)).trans ?_
    rw [hk, Finset.sum_range_add _ (2048 * (k + 1)) 2048]
    rfl

theorem outG_at (t : Fin cfg0.N) (hk : kOf t = 7) (s : Fin 4) (r : Fin 512) (j : Fin 1024) (R : Fin 8192) (J : Fin 4096) (h : At t s r j R J) :
    outG m c t s (ix2 r j) = entry (actv m c) (wgt m c) R J := by
  have h4 := kOf_pos (t := t) (by omega)
  have hq : kOf (pred2 t) = 6 := by
    rw [kOf_def] at hk
    rw [kOf_def, pred2_val]; omega
  refine (pay5_at _ _ _ r j).trans ?_
  rw [accK_at m c 6 (pred2 t) (by rw [pred2_val]; omega) hq s r j R J (h.pred (by omega))]
  refine (congrArg (fun x : EReal => _ + x) (piece m c t (by omega) s r j R J h)).trans ?_
  rw [hk, ← entry_eq, show 2048 * 6 + 2048 = 2048 * 7 by omega]
  exact (Finset.sum_range_add _ (2048 * 7) 2048).symm.trans
    (congrArg (fun n : ℕ => ∑ x ∈ Finset.range n, term (actv m c) (wgt m c) R J x) (show 2048 * 7 + 2048 = 16384 by omega))

theorem outAt_at (t : Fin cfg0.N) (hk : kOf t = 7) (z : S2048x1024.Idx) (R : Fin 8192) (J : Fin 4096)
    (hR : R.val = 4096 * ((t.val / 2 - 1) / 32) + 2048 * (t.val % 2) + (z 0).val) (hJ : J.val = 1024 * ((t.val / 2 - 1) / 8 % 4) + (z 1).val) :
    outAt m c t z = entry (actv m c) (wgt m c) R J := by
  obtain ⟨s, r, hr⟩ := row_split (m := 4) (z 0).isLt
  have hz1 : (z 1).val < 1024 := (z 1).isLt
  unfold outAt
  unfold out4
  rw [out4_hit _ _ z s (ix2 r ⟨(z 1).val, hz1⟩) hr rfl]
  exact outG_at m c t hk s r ⟨(z 1).val, hz1⟩ R J ⟨by rw [hR, hr], hJ⟩

/-- The result array. -/
def Res : Buf (Elt Ideal) ((c : Thread nD τ).loc main_v0) := fun z => entry (actv m c) (wgt m c) (z 0) (z 1)

theorem Res_at (q : S8192x4096.Idx) : Res m c q = entry (actv m c) (wgt m c) (q 0) (q 1) := rfl

theorem Res_sum (q : S8192x4096.Idx) : Res m c q = ∑ k : Fin 16384, actv m c (ix2 (q 0) k) * wgt m c (ix3 0 k (q 1)) := by
  rw [Res_at]; unfold entry; rfl

theorem flushed_eq (t : Fin cfg0.N) (hf : (cfg0.win 2).flush t = true) : (dats m 0 c).flushed 2 t = ((cfg0.win 2).blk t).view.read (Elt Ideal) (Res m c) := by
  have hk : kOf t = 7 := by
    by_contra h
    have := flush2_off t h
    rw [hf] at this
    exact absurd this (by decide)
  have h4 := kOf_pos (t := t) (by omega)
  show (cfg0.win 2).cut (grid0.coords t) ((dats m 0 c).after 2 t) = _
  rw [after_2]
  funext z
  have hi := index2 t (by omega) hk
  have hxs := xsize2 t
  have hz0 : (z 0).val < 2048 := hxs.1 ▸ (z 0).isLt
  have hz1 : (z 1).val < 1024 := hxs.2 ▸ (z 1).isLt
  rw [View.read_apply]
  show outAt m c t (win0_2.xinj (grid0.coords t) z) = _
  refine Eq.trans (outAt_at m c t hk _ _ _ ?_ ?_) (Res_at m c _).symm
  · show win0_2.index t 0 * 2048 + 1 * (z 0).val = _ + (z 0).val; rw [hi.1]; omega
  · show win0_2.index t 1 * 1024 + 1 * (z 1).val = _ + (z 1).val; rw [hi.2]; omega

theorem cover (z : S8192x4096.Idx) : ∃ t : Fin cfg0.N, (cfg0.win 2).flush t = true ∧ z ∈ ((cfg0.win 2).blk t).view.set := by
  have hz0 : (z 0).val < 8192 := (z 0).isLt
  have hz1 : (z 1).val < 4096 := (z 1).isLt
  let t : Fin cfg0.N := ⟨2 * (32 * ((z 0).val / 4096) + 8 * ((z 1).val / 1024) + 8) + (z 0).val / 2048 % 2, by rw [Npts]; omega⟩
  have ht : t.val = 2 * (32 * ((z 0).val / 4096) + 8 * ((z 1).val / 1024) + 8) + (z 0).val / 2048 % 2 := rfl
  have hb : t.val / 2 = 32 * ((z 0).val / 4096) + 8 * ((z 1).val / 1024) + 8 := by omega
  have hk : kOf t = 7 := by rw [kOf_def, hb]; omega
  have hi := index2 t (by omega) hk
  have hxs := xsize2 t
  have e0 : (t.val / 2 - 1) / 32 = (z 0).val / 4096 := by rw [hb]; omega
  have e1 : (t.val / 2 - 1) / 8 % 4 = (z 1).val / 1024 := by rw [hb]; omega
  refine ⟨t, flush2_on t hk, ?_⟩
  show z ∈ ((View.whole main_v0).slice (win0_2.rect t)).set
  rw [View.set_slice_whole, Rect.mem_set_unit]
  intro a
  match a with
  | ⟨0, _⟩ =>
    show win0_2.index t 0 * 2048 ≤ (z 0 : ℕ) ∧ (z 0 : ℕ) < win0_2.index t 0 * 2048 + win0_2.xsize (grid0.coords t) 0
    rw [hi.1, hxs.1, e0]; omega
  | ⟨1, _⟩ =>
    show win0_2.index t 1 * 1024 ≤ (z 1 : ℕ) ∧ (z 1 : ℕ) < win0_2.index t 1 * 1024 + win0_2.xsize (grid0.coords t) 1
    rw [hi.2, hxs.2, e1]; omega

theorem final_o : (dats m 0 c).arrAt 2 cfg0.N = Res m c :=
  (dats m 0 c).arrAt_eq_of_cover 2 (Res m c) (fun t hf => flushed_eq m c t hf) cover

end Cert.Kernel3Ideal.Mm

end
-- ==== Proof.Mlp2Ref.lean ====
/- The second MLP product's reference over the reals: its result, entry by entry. -/
module

public import proofs.«01_k».proof.Proof.Gen.Reference3Ideal.Run
public import Idealize.ShloMosaic.Lib.Pointwise

@[expose] public section

set_option maxRecDepth 16384

noncomputable section

namespace Cert.Reference3Ideal.Mm

open Idealize.ShloMosaic Idealize.ShloMosaic.TcCoe Idealize.SL.Sem Idealize.ShloMosaic.StableHlo
open Cert.Reference3Ideal Cert.Reference3Ideal.Gen

/-- The product, over the reals. -/
def prod (A : FVec Ideal S8192x16384 .bf16) (W : FVec Ideal S2x16384x4096 .f32) : FVec Ideal S8192x4096 .f32 :=
  Host.dotGeneral dot_S8192x16384_S16384x4096_S8192x4096_1_0_0_1_n_n none (extf .f32 A bitsLt_bf16_f32)
    (shapeCast _ (extractStridedSlice S1x16384x4096 ![0, 0, 0] W slices_S2x16384x4096_S1x16384x4096_0_0_0) shapeCasts_S1x16384x4096_S16384x4096)

/-- The result. -/
def out (A : FVec Ideal S8192x16384 .bf16) (W : FVec Ideal S2x16384x4096 .f32) : FVec Ideal S8192x4096 .bf16 := truncf .bf16 (prod A W) bitsLt_bf16_f32

theorem prod_at (A : FVec Ideal S8192x16384 .bf16) (W : FVec Ideal S2x16384x4096 .f32) (r : Fin 8192) (j : Fin 4096) :
    prod A W (ix2 r j) = ∑ k : Fin 16384, A (ix2 r k) * W (ix3 0 k j) := by
  unfold prod
  pointwise []

theorem out_at (A : FVec Ideal S8192x16384 .bf16) (W : FVec Ideal S2x16384x4096 .f32) (r : Fin 8192) (j : Fin 4096) :
    out A W (ix2 r j) = ∑ k : Fin 16384, A (ix2 r k) * W (ix3 0 k j) := by
  unfold out
  pointwise [prod_at]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.Reference3Ideal.Mm

end
-- ==== Proof.WoutRun.lean ====
/- One call of the retention's output product's kernel: the cast of a weight block into the scratch, and four groups of rows against
   the other slot of the scratch, opening, adding to or closing the accumulator. The retention's output product's run, at any values: the scratch between points, the body at a generic point, the launch. -/
module

public import proofs.«01_k».proof.Proof.Gen.Kernel4Ideal.Frame
public import proofs.«01_k».proof.Proof.Gen.Kernel4Ideal.Skeleton
public import proofs.«01_k».proof.Proof.Steps
public import proofs.«01_k».proof.Proof.Slots
public import Idealize.ShloMosaic.Lib.WordCmp
public import Idealize.ShloMosaic.Lib.Claim

@[expose] public section

set_option maxRecDepth 16384

noncomputable section

namespace Cert.Kernel4Ideal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Rects Cert.Steps Cert.Slots

variable {F : FTy → Type} [FloatOps F]

local notation "𝕄" => MT nD τ sig Unit (Elt F) ℕ (UR sig nD τ) ℕ

/-! ## The conditions and the rectangles -/

theorem cond1_iff : ∀ i : grid0.Coords, k0_cond1 i = 1#1 ↔ (i 0).val = 0 := by decide +kernel
theorem cond2_iff : ∀ i : grid0.Coords, k0_cond2 i = 1#1 ↔ 0 < (i 0).val ∧ ((i 0).val - 1) % 4 = 0 := by decide +kernel
theorem cond3_iff : ∀ i : grid0.Coords, k0_cond3 i = 1#1 ↔ 0 < (i 0).val ∧ 0 < ((i 0).val - 1) % 4 ∧ ((i 0).val - 1) % 4 < 3 := by decide +kernel
theorem cond4_iff : ∀ i : grid0.Coords, k0_cond4 i = 1#1 ↔ 0 < (i 0).val ∧ ((i 0).val - 1) % 4 = 3 := by decide +kernel
theorem cast_inb : ∀ i : grid0.Coords, ∀ a, k0_off1 i a + S1x1024x1024.size a ≤ S2x2048x1024.size a := by decide +kernel
theorem slot_inb : ∀ i : grid0.Coords, ∀ a, k0_off3 i a + S1x2048x1024.size a ≤ S2x2048x1024.size a := by decide +kernel
theorem acc_inb : ∀ i : grid0.Coords, ∀ (r : Fin 4), ∀ a, k0_off4 i (BitVec.ofNat 32 (512 * r.val)) a + S512x1024.size a ≤ S4096x1024.size a := by decide +kernel
theorem cast_off : ∀ i : grid0.Coords, k0_off1 i 0 = (i 0).val % 2 ∧ k0_off1 i 1 = 1024 * (i 1).val ∧ k0_off1 i 2 = 0 := by decide +kernel
theorem slot_off : ∀ i : grid0.Coords, k0_off3 i 0 = ((i 0).val + 1) % 2 ∧ k0_off3 i 1 = 0 ∧ k0_off3 i 2 = 0 := by decide +kernel
theorem acc_off : ∀ i : grid0.Coords, ∀ (r : Fin 4), k0_off4 i (BitVec.ofNat 32 (512 * r.val)) 0 = 2048 * (i 1).val + 512 * r.val
    ∧ k0_off4 i (BitVec.ofNat 32 (512 * r.val)) 1 = 0 := by decide +kernel

/-- Where a point's weight block goes. -/
abbrev castR (i : grid0.Coords) : Rect S2x2048x1024 := Rect.unit (s := S2x2048x1024) (k0_off1 i) S1x1024x1024.size (cast_inb i)
/-- The slot a point multiplies by. -/
abbrev slotR (i : grid0.Coords) : Rect S2x2048x1024 := Rect.unit (s := S2x2048x1024) (k0_off3 i) S1x2048x1024.size (slot_inb i)
/-- Group `r` of a point's rows of the accumulator. -/
abbrev accR (i : grid0.Coords) (r : Fin 4) : Rect S4096x1024 :=
  Rect.unit (s := S4096x1024) (k0_off4 i (BitVec.ofNat 32 (512 * r.val))) S512x1024.size (acc_inb i r)

theorem cast_packed (i : grid0.Coords) : (castR i).PackedRows (EltTy.packing .bf16) := by
  have hk : ((i 0).val - 1) % 4 < 4 := Nat.mod_lt _ (by decide)
  by_cases h1 : (i 0).val = 0
  · exact k0_off1_packedbf16 i ((cond1_iff i).mpr h1)
  by_cases h2 : ((i 0).val - 1) % 4 = 0
  · exact k0_off2_packedbf16 i ((cond2_iff i).mpr ⟨by omega, h2⟩)
  by_cases h4 : ((i 0).val - 1) % 4 = 3
  · exact k0_off8_packedbf16 i ((cond4_iff i).mpr ⟨by omega, h4⟩)
  · exact k0_off5_packedbf16 i ((cond3_iff i).mpr ⟨by omega, by omega, by omega⟩)

theorem inb_rows (r : Fin 4) : ∀ a, (![512 * r.val, 0] : Fin 2 → ℕ) a + S512x2048.size a ≤ S2048x2048.size a := by
  have := r.isLt
  intro a; match a with
  | ⟨0, _⟩ => show 512 * r.val + 512 ≤ 2048; omega
  | ⟨1, _⟩ => show 0 + 2048 ≤ 2048; omega

/-- Group `r` of the left operand's rows. -/
abbrev rowsR (r : Fin 4) : Rect S2048x2048 := Rect.unit (s := S2048x2048) ![512 * r.val, 0] S512x2048.size (inb_rows r)

theorem out_packed (r : Fin 4) : (outR r).PackedRows (EltTy.packing .bf16) := by
  match r with
  | ⟨0, _⟩ => exact packedbf16_S2048x1024_S512x1024_0_0
  | ⟨1, _⟩ => exact packedbf16_S2048x1024_S512x1024_512_0
  | ⟨2, _⟩ => exact packedbf16_S2048x1024_S512x1024_1024_0
  | ⟨3, _⟩ => exact packedbf16_S2048x1024_S512x1024_1536_0
  | ⟨n + 4, h⟩ => exact absurd h (by omega)

/-- The whole weight block. -/
abbrev wR : Rect S1x1024x1024 := Rect.unit (s := S1x1024x1024) ![0, 0, 0] S1x1024x1024.size inb_S1x1024x1024_S1x1024x1024_0_0_0

/-! ## The steps -/

section
variable (i : grid0.Coords) (arg2 : Memref sig .tc .vmem S2048x2048 .bf16) (harg2 : arg2.IsWhole) (arg3 : Memref sig .tc .vmem S1x1024x1024 .f32) (harg3 : arg3.IsWhole)
  (arg4 : Memref sig .tc .vmem S2048x1024 .bf16) (harg4 : arg4.IsWhole) (arg5 : Memref sig .tc .vmem S2x2048x1024 .bf16) (harg5 : arg5.IsWhole)
  (arg6 : Memref sig .tc .vmem S4096x1024 .f32) (harg6 : arg6.IsWhole)

/-- The weight block, cast, into its place in the scratch. -/
abbrev castStep : Prog (TpuEff nD τ sig (Elt F) Λ₀ .tc) PUnit := do
  let w : Vec F S1x1024x1024 .f32 ← Prog.lift (.load arg3 wR.toLoadRect (View.loadsAt_vmem h_S1x1024x1024))
  let _w : Vec F S1x1024x1024 .bf16 ← Prog.lift (.load arg5 (castR i).toLoadRect (View.loadsAt_vmem h_S1x1024x1024))
  Prog.lift (.store arg5 (castR i) (k0_pay1 w) Finset.univ (View.stores_vmem h_S1x1024x1024 (harg5.storeExact_slice rfl _ (cast_packed i)) (fun _ => rfl)) (.inl rfl))

/-- The product of group `r`, into the accumulator. -/
abbrev firstStep (r : Fin 4) : Prog (TpuEff nD τ sig (Elt F) Λ₀ .tc) PUnit := do
  let a : Vec F S512x2048 .bf16 ← Prog.lift (.load arg2 (rowsR r).toLoadRect (View.loadsAt_vmem h_S512x2048))
  let w : Vec F S1x2048x1024 .bf16 ← Prog.lift (.load arg5 (slotR i).toLoadRect (View.loadsAt_vmem h_S1x2048x1024))
  let _o : Vec F S512x1024 .f32 ← Prog.lift (.load arg6 (accR i r).toLoadRect (View.loadsAt_vmem h_S512x1024))
  Prog.lift (.store arg6 (accR i r) (k0_pay2 a w) Finset.univ (View.stores_vmem_bits_univ h_S512x1024 rfl) (.inl rfl))

/-- The product of group `r`, added to the accumulator. -/
abbrev nextStep (r : Fin 4) : Prog (TpuEff nD τ sig (Elt F) Λ₀ .tc) PUnit := do
  let a : Vec F S512x2048 .bf16 ← Prog.lift (.load arg2 (rowsR r).toLoadRect (View.loadsAt_vmem h_S512x2048))
  let w : Vec F S1x2048x1024 .bf16 ← Prog.lift (.load arg5 (slotR i).toLoadRect (View.loadsAt_vmem h_S1x2048x1024))
  let s : Vec F S512x1024 .f32 ← Prog.lift (.load arg6 (accR i r).toLoadRect (View.loadsAt_vmem h_S512x1024))
  let _o : Vec F S512x1024 .f32 ← Prog.lift (.load arg6 (accR i r).toLoadRect (View.loadsAt_vmem h_S512x1024))
  Prog.lift (.store arg6 (accR i r) (k0_pay4 a w s) Finset.univ (View.stores_vmem_bits_univ h_S512x1024 rfl) (.inl rfl))

/-- The product of group `r` added to the accumulator's, into the output. -/
abbrev lastStep (r : Fin 4) : Prog (TpuEff nD τ sig (Elt F) Λ₀ .tc) PUnit := do
  let a : Vec F S512x2048 .bf16 ← Prog.lift (.load arg2 (rowsR r).toLoadRect (View.loadsAt_vmem h_S512x2048))
  let w : Vec F S1x2048x1024 .bf16 ← Prog.lift (.load arg5 (slotR i).toLoadRect (View.loadsAt_vmem h_S1x2048x1024))
  let s : Vec F S512x1024 .f32 ← Prog.lift (.load arg6 (accR i r).toLoadRect (View.loadsAt_vmem h_S512x1024))
  let _o : Vec F S512x1024 .bf16 ← Prog.lift (.load arg4 (outR r).toLoadRect (View.loadsAt_vmem h_S512x1024))
  Prog.lift (.store arg4 (outR r) (k0_pay5 a w s) Finset.univ (View.stores_vmem h_S512x1024 (harg4.storeExact_slice rfl _ (out_packed r)) (fun _ => rfl)) (.inl rfl))

theorem body_start (h1 : k0_cond1 i = 1#1) (h2 : ¬k0_cond2 i = 1#1) (h3 : ¬k0_cond3 i = 1#1) (h4 : ¬k0_cond4 i = 1#1) :
    cc0_matmulk (F := F) i arg2 harg2 arg3 harg3 arg4 harg4 arg5 harg5 arg6 harg6 = castStep i arg3 arg5 harg5 >>= fun _ => pure ⟨⟩ := by
  rw [cc0_matmulk_eq_skeleton]
  unfold cc0_matmulk_skel
  dsimp only
  rw [dif_pos h1, dif_neg h2, dif_neg h3, dif_neg h4]
  rfl

theorem body_first (h1 : ¬k0_cond1 i = 1#1) (h2 : k0_cond2 i = 1#1) (h3 : ¬k0_cond3 i = 1#1) (h4 : ¬k0_cond4 i = 1#1) :
    cc0_matmulk (F := F) i arg2 harg2 arg3 harg3 arg4 harg4 arg5 harg5 arg6 harg6
      = castStep i arg3 arg5 harg5 >>= fun _ => firstStep i arg2 arg5 arg6 0 >>= fun _ => firstStep i arg2 arg5 arg6 1
          >>= fun _ => firstStep i arg2 arg5 arg6 2 >>= fun _ => firstStep i arg2 arg5 arg6 3 >>= fun _ => pure ⟨⟩ := by
  rw [cc0_matmulk_eq_skeleton]
  unfold cc0_matmulk_skel
  dsimp only
  rw [dif_neg h1, dif_pos h2, dif_neg h3, dif_neg h4, k0_part1_eq_skeleton, k0_part2_eq_skeleton]
  rfl

theorem body_next (h1 : ¬k0_cond1 i = 1#1) (h2 : ¬k0_cond2 i = 1#1) (h3 : k0_cond3 i = 1#1) (h4 : ¬k0_cond4 i = 1#1) :
    cc0_matmulk (F := F) i arg2 harg2 arg3 harg3 arg4 harg4 arg5 harg5 arg6 harg6
      = castStep i arg3 arg5 harg5 >>= fun _ => nextStep i arg2 arg5 arg6 0 >>= fun _ => nextStep i arg2 arg5 arg6 1
          >>= fun _ => nextStep i arg2 arg5 arg6 2 >>= fun _ => nextStep i arg2 arg5 arg6 3 >>= fun _ => pure ⟨⟩ := by
  rw [cc0_matmulk_eq_skeleton]
  unfold cc0_matmulk_skel
  dsimp only
  rw [dif_neg h1, dif_neg h2, dif_pos h3, dif_neg h4, k0_part3_eq_skeleton, k0_part4_eq_skeleton]
  rfl

theorem body_last (h1 : ¬k0_cond1 i = 1#1) (h2 : ¬k0_cond2 i = 1#1) (h3 : ¬k0_cond3 i = 1#1) (h4 : k0_cond4 i = 1#1) :
    cc0_matmulk (F := F) i arg2 harg2 arg3 harg3 arg4 harg4 arg5 harg5 arg6 harg6
      = castStep i arg3 arg5 harg5 >>= fun _ => lastStep i arg2 arg4 harg4 arg5 arg6 0 >>= fun _ => lastStep i arg2 arg4 harg4 arg5 arg6 1
          >>= fun _ => lastStep i arg2 arg4 harg4 arg5 arg6 2 >>= fun _ => lastStep i arg2 arg4 harg4 arg5 arg6 3 >>= fun _ => pure ⟨⟩ := by
  rw [cc0_matmulk_eq_skeleton]
  unfold cc0_matmulk_skel
  dsimp only
  rw [dif_neg h1, dif_neg h2, dif_neg h3, dif_pos h4, k0_part5_eq_skeleton, k0_part6_eq_skeleton]
  rfl

/-! ## What a call leaves -/

/-- The scratch after a call. -/
def wbOut (x1 : Vec F S1x1024x1024 .f32) (b : Vec F S2x2048x1024 .bf16) : Vec F S2x2048x1024 .bf16 := over (castR i) (k0_pay1 (ldR wR x1)) b

/-- The accumulator with group `r` opened. -/
def accFirst (x0 : Vec F S2048x2048 .bf16) (w : Vec F S1x2048x1024 .bf16) (r : Fin 4) (a : Vec F S4096x1024 .f32) : Vec F S4096x1024 .f32 :=
  over (accR i r) (k0_pay2 (ldR (rowsR r) x0) w) a
/-- The accumulator with group `r` added to. -/
def accNext (x0 : Vec F S2048x2048 .bf16) (w : Vec F S1x2048x1024 .bf16) (r : Fin 4) (a : Vec F S4096x1024 .f32) : Vec F S4096x1024 .f32 :=
  over (accR i r) (k0_pay4 (ldR (rowsR r) x0) w (ldR (accR i r) a)) a
/-- The output with group `r` stored. -/
def outLast (x0 : Vec F S2048x2048 .bf16) (w : Vec F S1x2048x1024 .bf16) (a : Vec F S4096x1024 .f32) (r : Fin 4) (o : Vec F S2048x1024 .bf16) : Vec F S2048x1024 .bf16 :=
  over (outR r) (k0_pay5 (ldR (rowsR r) x0) w (ldR (accR i r) a)) o

def accFirst4 (x0 : Vec F S2048x2048 .bf16) (w : Vec F S1x2048x1024 .bf16) (a : Vec F S4096x1024 .f32) : Vec F S4096x1024 .f32 :=
  accFirst i x0 w 3 (accFirst i x0 w 2 (accFirst i x0 w 1 (accFirst i x0 w 0 a)))
def accNext4 (x0 : Vec F S2048x2048 .bf16) (w : Vec F S1x2048x1024 .bf16) (a : Vec F S4096x1024 .f32) : Vec F S4096x1024 .f32 :=
  accNext i x0 w 3 (accNext i x0 w 2 (accNext i x0 w 1 (accNext i x0 w 0 a)))
def outLast4 (x0 : Vec F S2048x2048 .bf16) (w : Vec F S1x2048x1024 .bf16) (a : Vec F S4096x1024 .f32) (o : Vec F S2048x1024 .bf16) : Vec F S2048x1024 .bf16 :=
  outLast i x0 w a 3 (outLast i x0 w a 2 (outLast i x0 w a 1 (outLast i x0 w a 0 o)))

open Classical in
/-- The accumulator after a call. -/
def accOut (x0 : Vec F S2048x2048 .bf16) (x1 : Vec F S1x1024x1024 .f32) (b : Vec F S2x2048x1024 .bf16) (a : Vec F S4096x1024 .f32) : Vec F S4096x1024 .f32 :=
  if k0_cond2 i = 1#1 then accFirst4 i x0 (ldR (slotR i) (wbOut i x1 b)) a
  else if k0_cond3 i = 1#1 then accNext4 i x0 (ldR (slotR i) (wbOut i x1 b)) a else a

open Classical in
/-- The output block after a call. -/
def oOut (x0 : Vec F S2048x2048 .bf16) (x1 : Vec F S1x1024x1024 .f32) (b : Vec F S2x2048x1024 .bf16) (a : Vec F S4096x1024 .f32) (o : Vec F S2048x1024 .bf16) : Vec F S2048x1024 .bf16 :=
  if k0_cond4 i = 1#1 then outLast4 i x0 (ldR (slotR i) (wbOut i x1 b)) a o else o

variable (c : Dev nD)

/-- The kernel's triple. -/
theorem wp_matmulk (x0 : Vec F S2048x2048 .bf16) (x1 : Vec F S1x1024x1024 .f32) (o : Vec F S2048x1024 .bf16) (b : Vec F S2x2048x1024 .bf16) (a : Vec F S4096x1024 .f32)
    (E : Set ℕ) (K : PUnit → sProp 𝕄) :
    iprop(owns (c : Thread nD τ) arg2 fullShare x0 ∗ owns (c : Thread nD τ) arg3 fullShare x1 ∗ owns (c : Thread nD τ) arg4 fullShare o
      ∗ owns (c : Thread nD τ) arg5 fullShare b ∗ owns (c : Thread nD τ) arg6 fullShare a
      ∗ (iprop(owns (c : Thread nD τ) arg2 fullShare x0 ∗ owns (c : Thread nD τ) arg3 fullShare x1
            ∗ owns (c : Thread nD τ) arg4 fullShare (oOut i x0 x1 b a o) ∗ owns (c : Thread nD τ) arg5 fullShare (wbOut i x1 b)
            ∗ owns (c : Thread nD τ) arg6 fullShare (accOut i x0 x1 b a))
          -∗ K ⟨⟩))
    ⊢ wp frame (wpE (defs₀ (F := F)) Variants.none c none) E (cc0_matmulk i arg2 harg2 arg3 harg3 arg4 harg4 arg5 harg5 arg6 harg6) K := by
  have hk : ((i 0).val - 1) % 4 < 4 := Nat.mod_lt _ (by decide)
  by_cases h1 : (i 0).val = 0
  · have n2 : ¬k0_cond2 i = 1#1 := fun hh => by have := (cond2_iff i).mp hh; omega
    have n3 : ¬k0_cond3 i = 1#1 := fun hh => by have := (cond3_iff i).mp hh; omega
    have n4 : ¬k0_cond4 i = 1#1 := fun hh => by have := (cond4_iff i).mp hh; omega
    rw [body_start i arg2 harg2 arg3 harg3 arg4 harg4 arg5 harg5 arg6 harg6 ((cond1_iff i).mpr h1) n2 n3 n4, oOut, if_neg n4, accOut, if_neg n2, if_neg n3]
    iintro ⟨H1, H2, H3, H4, H5, Hk⟩
    iapply (one c harg3 x1 b E)
    isplitl [H2]; · iexact H2
    isplitl [H4]; · iexact H4
    iintro ⟨H2, H4⟩
    sl_step
    iapply Hk
    isplitl [H1]; · iexact H1
    isplitl [H2]; · iexact H2
    isplitl [H3]; · iexact H3
    isplitl [H4]; · iexact H4
    iexact H5
  have n1 : ¬k0_cond1 i = 1#1 := fun hh => h1 ((cond1_iff i).mp hh)
  by_cases h2 : ((i 0).val - 1) % 4 = 0
  · have p2 : k0_cond2 i = 1#1 := (cond2_iff i).mpr ⟨by omega, h2⟩
    have n3 : ¬k0_cond3 i = 1#1 := fun hh => by have := (cond3_iff i).mp hh; omega
    have n4 : ¬k0_cond4 i = 1#1 := fun hh => by have := (cond4_iff i).mp hh; omega
    rw [body_first i arg2 harg2 arg3 harg3 arg4 harg4 arg5 harg5 arg6 harg6 n1 p2 n3 n4, oOut, if_neg n4, accOut, if_pos p2]
    iintro ⟨H1, H2, H3, H4, H5, Hk⟩
    iapply (one c harg3 x1 b E)
    isplitl [H2]; · iexact H2
    isplitl [H4]; · iexact H4
    iintro ⟨H2, H4⟩
    iapply (four c E a (R := iprop(owns (c : Thread nD τ) arg2 fullShare x0 ∗ owns (c : Thread nD τ) arg5 fullShare (wbOut i x1 b))) (S := fun v => owns (c : Thread nD τ) arg6 fullShare v) (step := firstStep i arg2 arg5 arg6) (g := fun r v => accFirst i x0 (ldR (slotR i) (wbOut i x1 b)) r v)
      fun r v kk => two c harg2 harg5 x0 (wbOut i x1 b) v E)
    isplitl [H1 H4]
    · isplitl [H1]; · iexact H1
      iexact H4
    isplitl [H5]; · iexact H5
    iintro ⟨⟨H1, H4⟩, H5⟩
    sl_step
    iapply Hk
    isplitl [H1]; · iexact H1
    isplitl [H2]; · iexact H2
    isplitl [H3]; · iexact H3
    isplitl [H4]; · iexact H4
    iexact H5
  have n2 : ¬k0_cond2 i = 1#1 := fun hh => h2 ((cond2_iff i).mp hh).2
  by_cases h4 : ((i 0).val - 1) % 4 = 3
  · have p4 : k0_cond4 i = 1#1 := (cond4_iff i).mpr ⟨by omega, h4⟩
    have n3 : ¬k0_cond3 i = 1#1 := fun hh => by have := (cond3_iff i).mp hh; omega
    rw [body_last i arg2 harg2 arg3 harg3 arg4 harg4 arg5 harg5 arg6 harg6 n1 n2 n3 p4, oOut, if_pos p4, accOut, if_neg n2, if_neg n3]
    iintro ⟨H1, H2, H3, H4, H5, Hk⟩
    iapply (one c harg3 x1 b E)
    isplitl [H2]; · iexact H2
    isplitl [H4]; · iexact H4
    iintro ⟨H2, H4⟩
    iapply (four c E o (R := iprop(owns (c : Thread nD τ) arg2 fullShare x0 ∗ owns (c : Thread nD τ) arg5 fullShare (wbOut i x1 b) ∗ owns (c : Thread nD τ) arg6 fullShare a)) (S := fun v => owns (c : Thread nD τ) arg4 fullShare v) (step := lastStep i arg2 arg4 harg4 arg5 arg6) (g := fun r v => outLast i x0 (ldR (slotR i) (wbOut i x1 b)) a r v)
      fun r v kk => three c harg2 harg5 harg6 x0 (wbOut i x1 b) a v E)
    isplitl [H1 H4 H5]
    · isplitl [H1]; · iexact H1
      isplitl [H4]; · iexact H4
      iexact H5
    isplitl [H3]; · iexact H3
    iintro ⟨⟨H1, H4, H5⟩, H3⟩
    sl_step
    iapply Hk
    isplitl [H1]; · iexact H1
    isplitl [H2]; · iexact H2
    isplitl [H3]; · iexact H3
    isplitl [H4]; · iexact H4
    iexact H5
  · have p3 : k0_cond3 i = 1#1 := (cond3_iff i).mpr ⟨by omega, by omega, by omega⟩
    have n4 : ¬k0_cond4 i = 1#1 := fun hh => h4 ((cond4_iff i).mp hh).2
    rw [body_next i arg2 harg2 arg3 harg3 arg4 harg4 arg5 harg5 arg6 harg6 n1 n2 p3 n4, oOut, if_neg n4, accOut, if_neg n2, if_pos p3]
    iintro ⟨H1, H2, H3, H4, H5, Hk⟩
    iapply (one c harg3 x1 b E)
    isplitl [H2]; · iexact H2
    isplitl [H4]; · iexact H4
    iintro ⟨H2, H4⟩
    iapply (four c E a (R := iprop(owns (c : Thread nD τ) arg2 fullShare x0 ∗ owns (c : Thread nD τ) arg5 fullShare (wbOut i x1 b))) (S := fun v => owns (c : Thread nD τ) arg6 fullShare v) (step := nextStep i arg2 arg5 arg6) (g := fun r v => accNext i x0 (ldR (slotR i) (wbOut i x1 b)) r v)
      fun r v kk => onto c harg2 harg5 harg6 x0 (wbOut i x1 b) v E)
    isplitl [H1 H4]
    · isplitl [H1]; · iexact H1
      iexact H4
    isplitl [H5]; · iexact H5
    iintro ⟨⟨H1, H4⟩, H5⟩
    sl_step
    iapply Hk
    isplitl [H1]; · iexact H1
    isplitl [H2]; · iexact H2
    isplitl [H3]; · iexact H3
    isplitl [H4]; · iexact H4
    iexact H5

end

variable (m : (ℓ : Loc nD τ sig) → Buf (Elt F) ℓ) (ρ : Dev nD → PrngReg)

/-! ## The points -/

theorem Npts : cfg0.N = 66 := N_0

theorem coords0 (t : Fin cfg0.N) : (grid0.coords t 0).val = t.val / 2 := by
  have h : (grid0.coords t 0).val = t.val / 2 % 33 := Pipeline.Grid.coords_val t 0 (by decide) rfl
  have : t.val < 66 := Nat.lt_of_lt_of_eq t.isLt Npts
  omega
theorem coords1 (t : Fin cfg0.N) : (grid0.coords t 1).val = t.val % 2 := by
  have h : (grid0.coords t 1).val = t.val / 1 % 2 := Pipeline.Grid.coords_val t 1 (by decide) rfl
  rw [h, Nat.div_one]

/-- Which piece of the sum a point multiplies. -/
def kOf (t : Fin cfg0.N) : ℕ := (t.val / 2 - 1) % 4

theorem kOf_def (t : Fin cfg0.N) : kOf t = (t.val / 2 - 1) % 4 := rfl

theorem kOf_lt (t : Fin cfg0.N) : kOf t < 4 := Nat.mod_lt _ (by decide)

theorem c2 (t : Fin cfg0.N) : k0_cond2 (grid0.coords t) = 1#1 ↔ 2 ≤ t.val ∧ kOf t = 0 := by
  rw [cond2_iff, coords0, kOf_def]; constructor <;> (intro h; omega)
theorem c3 (t : Fin cfg0.N) : k0_cond3 (grid0.coords t) = 1#1 ↔ 2 ≤ t.val ∧ 0 < kOf t ∧ kOf t < 3 := by
  rw [cond3_iff, coords0, kOf_def]; constructor <;> (intro h; omega)
theorem c4 (t : Fin cfg0.N) : k0_cond4 (grid0.coords t) = 1#1 ↔ 2 ≤ t.val ∧ kOf t = 3 := by
  rw [cond4_iff, coords0, kOf_def]; constructor <;> (intro h; omega)

theorem kOf_pos {t : Fin cfg0.N} (h : 0 < kOf t) : 4 ≤ t.val := by
  rw [kOf_def] at h; omega

theorem live2 (t : Fin cfg0.N) (h : kOf t = 3) : cfg0.idle 2 (grid0.coords t) = false := by
  have := kOf_pos (t := t) (by omega)
  show (!(k0_cond4 (grid0.coords t) == 1#1)) = false
  rw [(c4 t).mpr ⟨by omega, h⟩]; rfl

theorem idle2 (t : Fin cfg0.N) (h : kOf t ≠ 3) : cfg0.idle 2 (grid0.coords t) = true := by
  show (!(k0_cond4 (grid0.coords t) == 1#1)) = true
  have hn : ¬k0_cond4 (grid0.coords t) = 1#1 := fun hh => h ((c4 t).mp hh).2
  rw [beq_eq_false_iff_ne.mpr hn]; rfl

theorem flush2_off : ∀ t : Fin cfg0.N, kOf t ≠ 3 → (cfg0.win 2).flush t = false := by decide +kernel

/-! ## The scratch between points -/

/-- Where the points put their weight blocks, and where they read. -/
def lay : Lay cfg0.N 2 1024 2048 where
  M_eq := rfl
  P_pos := by decide
  B_pos := by decide
  put t := k0_off1 (grid0.coords t)
  put_inb t := cast_inb (grid0.coords t)
  put_eq t := by have h := cast_off (grid0.coords t); rwa [coords0, coords1] at h
  get t := k0_off3 (grid0.coords t)
  get_inb t := slot_inb (grid0.coords t)
  get_eq t := by have h := slot_off (grid0.coords t); rwa [coords0] at h

/-- What a point casts: its weight block. -/
def castAt (c : Dev nD) (t : Fin cfg0.N) : Vec F S1x1024x1024 .bf16 := k0_pay1 (ldR wR (iblk m c 1 t))

/-- What is known of the scratch before point `t`. -/
abbrev Agree (c : Dev nD) (t : ℕ) (b : Vec F S2x2048x1024 .bf16) : Prop := lay.Agree (castAt m c) t b

theorem Agree.succ {c : Dev nD} {t : Fin cfg0.N} {b : Vec F S2x2048x1024 .bf16} (h : Agree m c t.val b) :
    Agree m c (t.val + 1) (wbOut (grid0.coords t) (iblk m c 1 t) b) := Lay.Agree.succ lay (castAt m c) h

/-- The weights a point multiplies by. -/
def slotAt (c : Dev nD) (t : Fin cfg0.N) : Vec F S1x2048x1024 .bf16 := Lay.slot (P := 2) (castAt m c) (show 0 < 1024 by decide) t

theorem slot_agree {c : Dev nD} {t : Fin cfg0.N} (h8 : 2 ≤ t.val) {b : Vec F S2x2048x1024 .bf16} (h : Agree m c (t.val + 1) b) :
    ldR (slotR (grid0.coords t)) b = slotAt m c t := Lay.slot_agree lay (castAt m c) h8 h

/-! ## The accumulator between points -/

/-- Where the points' groups of rows are. -/
def rows : Rows cfg0.N where
  off t r := k0_off4 (grid0.coords t) (BitVec.ofNat 32 (512 * r.val))
  inb t r := acc_inb (grid0.coords t) r
  off_eq t r := by have h := acc_off (grid0.coords t) r; rwa [coords1] at h

/-- The point before at the same rows. -/
def pred2 (t : Fin cfg0.N) : Fin cfg0.N := ⟨t.val - 2, Nat.lt_of_le_of_lt (Nat.sub_le _ _) t.isLt⟩

theorem pred2_val (t : Fin cfg0.N) : (pred2 t).val = t.val - 2 := rfl

/-- Group `r` of the rows a point accumulates, after `k + 1` pieces of the sum. -/
def accK (c : Dev nD) : ℕ → Fin cfg0.N → Fin 4 → Vec F S512x1024 .f32
  | 0, t, r => k0_pay2 (ldR (rowsR r) (iblk m c 0 t)) (slotAt m c t)
  | k + 1, t, r => k0_pay4 (ldR (rowsR r) (iblk m c 0 t)) (slotAt m c t) (accK c k (pred2 t) r)

/-- What is known of the accumulator before point `t`: the rows of the last two points. -/
def AgreeA (c : Dev nD) (t : ℕ) (a : Vec F S4096x1024 .f32) : Prop :=
  ∀ p : Fin cfg0.N, p.val < t → t ≤ p.val + 2 → 2 ≤ p.val → kOf p < 3 → ∀ r : Fin 4, ldR (accR (grid0.coords p) r) a = accK m c (kOf p) p r

theorem AgreeA.zero (c : Dev nD) (a : Vec F S4096x1024 .f32) : AgreeA m c 0 a := fun _ h => absurd h (Nat.not_lt_zero _)

theorem acc_same (p t : Fin cfg0.N) (h : p.val % 2 = t.val % 2) (r : Fin 4) (a : Vec F S4096x1024 .f32) :
    ldR (accR (grid0.coords p) r) a = ldR (accR (grid0.coords t) r) a := rows.same p t h r a

theorem acc_other (p t : Fin cfg0.N) (r s : Fin 4) (h : p.val % 2 ≠ t.val % 2 ∨ r ≠ s) (v : Vec F S512x1024 .f32) (a : Vec F S4096x1024 .f32) :
    ldR (accR (grid0.coords p) r) (over (accR (grid0.coords t) s) v a) = ldR (accR (grid0.coords p) r) a := rows.other p t r s h v a

/-- Four groups of rows stored. -/
abbrev accOver (i : grid0.Coords) (P : Fin 4 → Vec F S512x1024 .f32) (a : Vec F S4096x1024 .f32) : Vec F S4096x1024 .f32 := over4 (accR i) P a

theorem over4_hit (t : Fin cfg0.N) (P : Fin 4 → Vec F S512x1024 .f32) (a : Vec F S4096x1024 .f32) (r : Fin 4) :
    ldR (accR (grid0.coords t) r) (accOver (grid0.coords t) P a) = P r := rows.hit t P a r

theorem over4_miss (p t : Fin cfg0.N) (h : p.val % 2 ≠ t.val % 2) (P : Fin 4 → Vec F S512x1024 .f32) (a : Vec F S4096x1024 .f32) (r : Fin 4) :
    ldR (accR (grid0.coords p) r) (accOver (grid0.coords t) P a) = ldR (accR (grid0.coords p) r) a := rows.miss p t h P a r

theorem accNext4_eq (t : Fin cfg0.N) (x0 : Vec F S2048x2048 .bf16) (w : Vec F S1x2048x1024 .bf16) (a : Vec F S4096x1024 .f32) :
    accNext4 (grid0.coords t) x0 w a
      = accOver (grid0.coords t) (fun r => k0_pay4 (ldR (rowsR r) x0) w (ldR (accR (grid0.coords t) r) a)) a := by
  unfold accNext4 accNext accOver over4
  rw [acc_other t t 3 2 (.inr (by decide)), acc_other t t 3 1 (.inr (by decide)), acc_other t t 3 0 (.inr (by decide)),
    acc_other t t 2 1 (.inr (by decide)), acc_other t t 2 0 (.inr (by decide)), acc_other t t 1 0 (.inr (by decide))]

theorem AgreeA.succ {c : Dev nD} {t : Fin cfg0.N} {b : Vec F S2x2048x1024 .bf16} {a : Vec F S4096x1024 .f32} (h : Agree m c t.val b)
    (ha : AgreeA m c t.val a) : AgreeA m c (t.val + 1) (accOut (grid0.coords t) (iblk m c 0 t) (iblk m c 1 t) b a) := by
  intro p hp hp' hp2 hpk r
  by_cases hpt : p = t
  · subst hpt
    have hs := slot_agree m hp2 (Agree.succ m h)
    unfold accOut
    by_cases hk : kOf p = 0
    · rw [if_pos ((c2 p).mpr ⟨hp2, hk⟩), hs, hk]
      exact over4_hit p (fun r => k0_pay2 (ldR (rowsR r) (iblk m c 0 p)) (slotAt m c p)) a r
    · have h4 := kOf_pos (t := p) (by omega)
      have hq : kOf (pred2 p) = kOf p - 1 := by
        rw [kOf_def] at hk
        rw [kOf_def, kOf_def, pred2_val]; omega
      have hn : ¬k0_cond2 (grid0.coords p) = 1#1 := fun hh => hk ((c2 p).mp hh).2
      rw [if_neg hn, if_pos ((c3 p).mpr ⟨hp2, by omega, hpk⟩), hs, accNext4_eq, over4_hit]
      have e := ha (pred2 p) (by rw [pred2_val]; omega) (by rw [pred2_val]; omega) (by rw [pred2_val]; omega) (by omega) r
      rw [acc_same (pred2 p) p (by rw [pred2_val]; omega) r a, hq] at e
      rw [e]
      obtain ⟨k, hk'⟩ : ∃ k, kOf p = k + 1 := ⟨kOf p - 1, by omega⟩
      rw [hk']
      rfl
  · have hne : p.val ≠ t.val := fun hh => hpt (Fin.ext hh)
    have hpar : p.val % 2 ≠ t.val % 2 := by omega
    refine Eq.trans ?_ (ha p (by omega) (by omega) hp2 hpk r)
    unfold accOut
    by_cases h2 : k0_cond2 (grid0.coords t) = 1#1
    · rw [if_pos h2]
      exact over4_miss p t hpar (fun r => k0_pay2 (ldR (rowsR r) (iblk m c 0 t)) _) a r
    · rw [if_neg h2]
      by_cases h3 : k0_cond3 (grid0.coords t) = 1#1
      · rw [if_pos h3, accNext4_eq, over4_miss p t hpar]
      · rw [if_neg h3]

/-! ## The output block -/

/-- Four groups of the output's rows stored. -/
abbrev out4 (P : Fin 4 → Vec F S512x1024 .bf16) (o : Vec F S2048x1024 .bf16) : Vec F S2048x1024 .bf16 := over4 outR P o

/-- A group of rows of the output block a point leaves. -/
def outG (c : Dev nD) (t : Fin cfg0.N) (r : Fin 4) : Vec F S512x1024 .bf16 :=
  k0_pay5 (ldR (rowsR r) (iblk m c 0 t)) (slotAt m c t) (accK m c 2 (pred2 t) r)

/-- The output block a point leaves. -/
def outAt (c : Dev nD) (t : Fin cfg0.N) : Vec F S2048x1024 .bf16 :=
  out4 (outG m c t) (broadcast S2048x1024 (Scalar.ofBits .bf16 0x0000#16 : F .bf16))

theorem out_agree {c : Dev nD} {t : Fin cfg0.N} (hk : kOf t = 3) {b : Vec F S2x2048x1024 .bf16} {a : Vec F S4096x1024 .f32} (h : Agree m c t.val b)
    (ha : AgreeA m c t.val a) (o : Vec F S2048x1024 .bf16) :
    oOut (grid0.coords t) (iblk m c 0 t) (iblk m c 1 t) b a o = outAt m c t := by
  have h4 := kOf_pos (t := t) (by omega)
  have hq : kOf (pred2 t) = 2 := by
    rw [kOf_def] at hk
    rw [kOf_def, pred2_val]; omega
  have hP : (fun r => k0_pay5 (ldR (rowsR r) (iblk m c 0 t)) (slotAt m c t) (ldR (accR (grid0.coords t) r) a)) = outG m c t := by
    funext r
    have e := ha (pred2 t) (by rw [pred2_val]; omega) (by rw [pred2_val]; omega) (by rw [pred2_val]; omega) (by omega) r
    rw [acc_same (pred2 t) t (by rw [pred2_val]; omega) r a, hq] at e
    rw [e]; rfl
  unfold oOut outAt
  rw [if_pos ((c4 t).mpr ⟨by omega, hk⟩), slot_agree m (by omega) (Agree.succ m h)]
  refine Eq.trans (b := out4 (fun r => k0_pay5 (ldR (rowsR r) (iblk m c 0 t)) (slotAt m c t) (ldR (accR (grid0.coords t) r) a)) o) rfl ?_
  rw [hP]
  exact out4_indep _ _ _

theorem out_idle {t : Fin cfg0.N} (hk : kOf t ≠ 3) (x0 : Vec F S2048x2048 .bf16) (x1 : Vec F S1x1024x1024 .f32) (b : Vec F S2x2048x1024 .bf16)
    (a : Vec F S4096x1024 .f32) (o : Vec F S2048x1024 .bf16) : oOut (grid0.coords t) x0 x1 b a o = o := by
  unfold oOut
  rw [if_neg fun hh => hk ((c4 t).mp hh).2]

/-! ## The proof data -/

/-- The scratch operand. -/
abbrev sc0 : Memref sig .tc .vmem S2x2048x1024 .bf16 := Memref.whole cc0_scratch0
/-- The accumulator operand. -/
abbrev sc1 : Memref sig .tc .vmem S4096x1024 .f32 := Memref.whole cc0_scratch1

theorem PhiA_eq (c : Dev nD) :
    (Pipeline.ΦA spec0 c : sProp 𝕄) = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before point `t`. -/
def PhiS (c : Dev nD) (t : ℕ) (_ : t ≤ cfg0.N) : sProp 𝕄 :=
  iprop((∃ b a, owns (c : Thread nD τ) sc0 fullShare b ∗ owns (c : Thread nD τ) sc1 fullShare a ∗ ⌜Agree m c t b ∧ AgreeA m c t a⌝) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_2 (c : Dev nD) (t : Fin cfg0.N) (b : Vec F S2x2048x1024 .bf16) (a : Vec F S4096x1024 .f32) (h : Agree m c t.val b)
    (ha : AgreeA m c t.val a) (d) :
    owns (c : Thread nD τ) (st0_2 t) fullShare (oOut (grid0.coords t) (iblk m c 0 t) (iblk m c 1 t) b a ((dats m 0 c).before 2 t d))
      ⊢ ((dats m 0 c).leavesExact 2 t : sProp 𝕄) := by
  by_cases h8 : kOf t ≠ 3
  · rw [Dat.leavesExact_idle _ 2 t (idle2 t h8) (flush2_off t h8), out_idle h8]
    iintro H
    iexists d
    iexact H
  · have h8' : kOf t = 3 := by omega
    rw [out_agree m h8' h ha, show (dats m 0 c).leavesExact 2 t = owns (c : Thread nD τ) (st0_2 t) fullShare ((dats m 0 c).after 2 t) from by
      unfold Dat.leavesExact; rw [live2 t h8'], after_2]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  unfold PhiS
  iintro ⟨⟨⟨%b, %a, HS, HA, %hag⟩, Hg⟩, Ho, ⟨%d0, H0⟩, ⟨%d1, H1⟩, ⟨%d2, H2⟩⟩
  iapply (wp_matmulk (grid0.coords t) (st0_0 t) _ (st0_1 t) _ (st0_2 t) _ sc0 _ sc1 _ c
    (iblk m c 0 t) (iblk m c 1 t) ((dats m 0 c).before 2 t d2) b a Set.univ)
  isplitl [H0]; · iexact H0
  isplitl [H1]; · iexact H1
  isplitl [H2]; · iexact H2
  isplitl [HS]; · iexact HS
  isplitl [HA]; · iexact HA
  iintro ⟨H0, H1, H2, HS, HA⟩
  isplitl [HS HA Hg]
  · isplitl [HS HA]
    · iexists _; iexists _
      isplitl [HS]; · iexact HS
      isplitl [HA]; · iexact HA
      ipureintro
      exact ⟨Agree.succ m hag.1, AgreeA.succ m hag.1 hag.2⟩
    iexact Hg
  isplitl [Ho]; · iexact Ho
  isplitl [H0]; · iexact H0
  isplitl [H1]; · iexact H1
  iapply (leaves_2 m c t b a hag.1 hag.2 d2)
  iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%b, H⟩, ⟨%a, HA⟩⟩, Hg⟩
  isplitl [H HA]
  · iexists b; iexists a
    isplitl [H]; · iexact H
    isplitl [HA]; · iexact HA
    ipureintro
    exact ⟨Lay.Agree.zero _ _ b, AgreeA.zero m c a⟩
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%b, %a, H, HA, %hag⟩, Hg⟩
  isplitl [H HA]
  · isplitl [H]
    · iexists b; iexact H
    iexists a; iexact HA
  iexact Hg

/-! ## The run -/

set_option backward.isDefEq.respectTransparency.types false in
/-- Every execution terminates, with every window's array at what the points left and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_main m ρ)

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_post m ρ)) ((θ_run defs _ _).mono (fun _ h => h.2) (run_main m ρ))

end Cert.Kernel4Ideal.Mm

end
-- ==== Proof.WoutResult.lean ====
/- The retention's output product over the reals: the result array, entry by entry, as the sum the pieces add up to. -/
module

public import proofs.«01_k».proof.Proof.WoutRun
public import Idealize.ShloMosaic.Lib.Pointwise

@[expose] public section

set_option maxRecDepth 16384

noncomputable section

namespace Cert.Kernel4Ideal.Mm

open Idealize.ShloMosaic Idealize.ShloMosaic.TcCoe
open Cert.Kernel4Ideal Cert.Kernel4Ideal.Gen Cert.Rects Cert.Slots

/-- A term of an entry of the result. -/
def term (A : S8192x8192.Idx → EReal) (W : S1x8192x4096.Idx → EReal) (r : Fin 8192) (j : Fin 4096) (x : ℕ) : EReal :=
  A (ix2 r ⟨x % 8192, Nat.mod_lt x (show 0 < 8192 by omega)⟩) * W (ix3 0 ⟨x % 8192, Nat.mod_lt x (show 0 < 8192 by omega)⟩ j)

/-- An entry of the result: a row of the activations by a column of the layer's weights. -/
@[irreducible] def entry (A : S8192x8192.Idx → EReal) (W : S1x8192x4096.Idx → EReal) (r : Fin 8192) (j : Fin 4096) : EReal :=
  ∑ k : Fin 8192, A (ix2 r k) * W (ix3 0 k j)

theorem entry_eq (A : S8192x8192.Idx → EReal) (W : S1x8192x4096.Idx → EReal) (r : Fin 8192) (j : Fin 4096) :
    ∑ x ∈ Finset.range 8192, term A W r j x = entry A W r j := by
  unfold entry
  rw [Finset.sum_range]
  refine Finset.sum_congr rfl fun k _ => ?_
  have hk : (⟨k.val % 8192, Nat.mod_lt k.val (show 0 < 8192 by omega)⟩ : Fin 8192) = k := Fin.ext (Nat.mod_eq_of_lt k.isLt)
  unfold term
  rw [hk]

theorem pay2_at (a : Vec Ideal S512x2048 .bf16) (w : Vec Ideal S1x2048x1024 .bf16) (r : Fin 512) (j : Fin 1024) :
    k0_pay2 (F := Ideal) a w (ix2 r j) = ∑ k : Fin 2048, a (ix2 r k) * w (ix3 0 k j) := by
  pointwise [k0_pay2]

theorem pay4_at (a : Vec Ideal S512x2048 .bf16) (w : Vec Ideal S1x2048x1024 .bf16) (s : Vec Ideal S512x1024 .f32) (r : Fin 512) (j : Fin 1024) :
    k0_pay4 (F := Ideal) a w s (ix2 r j) = s (ix2 r j) + ∑ k : Fin 2048, a (ix2 r k) * w (ix3 0 k j) := by
  pointwise [k0_pay4]

theorem pay5_at (a : Vec Ideal S512x2048 .bf16) (w : Vec Ideal S1x2048x1024 .bf16) (s : Vec Ideal S512x1024 .f32) (r : Fin 512) (j : Fin 1024) :
    k0_pay5 (F := Ideal) a w s (ix2 r j) = s (ix2 r j) + ∑ k : Fin 2048, a (ix2 r k) * w (ix3 0 k j) := by
  pointwise [k0_pay5]

theorem pay1_at (w : Vec Ideal S1x1024x1024 .f32) (k : Fin 1024) (j : Fin 1024) : k0_pay1 (F := Ideal) w (ix3 0 k j) = w (ix3 0 k j) := by
  pointwise [k0_pay1]

variable (m : (ℓ : Loc nD τ sig) → Buf (Elt Ideal) ℓ) (c : Dev nD)

/-- The activations and the weights. -/
abbrev actv : S8192x8192.Idx → EReal := m ((c : Thread nD τ).loc main_arg0)
abbrev wgt : S1x8192x4096.Idx → EReal := m ((c : Thread nD τ).loc main_arg1)

theorem index0 : ∀ t : Fin cfg0.N, 2 ≤ t.val → win0_0.index t 0 = (t.val / 2 - 1) / 16 * 2 + t.val % 2 ∧ win0_0.index t 1 = (t.val / 2 - 1) % 4 := by decide +kernel
theorem index1 : ∀ t : Fin cfg0.N, t.val < 64 → win0_1.index t 0 = 0 ∧ win0_1.index t 1 = t.val / 2 % 4 * 2 + t.val % 2 ∧ win0_1.index t 2 = t.val / 2 / 4 % 4 := by decide +kernel
theorem index2 : ∀ t : Fin cfg0.N, 2 ≤ t.val → (t.val / 2 - 1) % 4 = 3 → win0_2.index t 0 = (t.val / 2 - 1) / 16 * 2 + t.val % 2 ∧ win0_2.index t 1 = (t.val / 2 - 1) / 4 % 4 := by decide +kernel
theorem flush2_on : ∀ t : Fin cfg0.N, kOf t = 3 → (cfg0.win 2).flush t = true := by decide +kernel
theorem xsize2 : ∀ t : Fin cfg0.N, win0_2.xsize (grid0.coords t) 0 = 2048 ∧ win0_2.xsize (grid0.coords t) 1 = 1024 := by decide +kernel

/-- The row and the column of the result an entry of a point's group of rows is of. -/
def At (t : Fin cfg0.N) (s : Fin 4) (r : Fin 512) (j : Fin 1024) (R : Fin 8192) (J : Fin 4096) : Prop :=
  R.val = 4096 * ((t.val / 2 - 1) / 16) + 2048 * (t.val % 2) + (512 * s.val + r.val) ∧ J.val = 1024 * ((t.val / 2 - 1) / 4 % 4) + j.val

theorem a_at (t : Fin cfg0.N) (h8 : 2 ≤ t.val) (s : Fin 4) (r : Fin 512) (k : Fin 2048) (R : Fin 8192)
    (hR : R.val = 4096 * ((t.val / 2 - 1) / 16) + 2048 * (t.val % 2) + (512 * s.val + r.val)) (K : Fin 8192) (hK : K.val = 2048 * kOf t + k.val) :
    ldR (rowsR s) (iblk m c 0 t) (ix2 r k) = actv m c (ix2 R K) := by
  have hi := index0 t h8
  rw [kOf_def] at hK
  unfold ldR iblk
  rw [View.read_apply]
  show V m c main_arg0 _ = _
  rw [V_main_arg0]
  refine congrArg (actv m c) (funext fun d => Fin.ext ?_)
  match d with
  | ⟨0, _⟩ => show win0_0.index t 0 * 2048 + 1 * (512 * s.val + 1 * r.val) = R.val; rw [hi.1]; omega
  | ⟨1, _⟩ => show win0_0.index t 1 * 2048 + 1 * (0 + 1 * k.val) = K.val; rw [hi.2]; omega

theorem cast_at (p : Fin cfg0.N) (h : p.val < 64) (k : Fin 1024) (j : Fin 1024) (K : Fin 8192) (J : Fin 4096)
    (hK : K.val = 2048 * (p.val / 2 % 4) + 1024 * (p.val % 2) + k.val) (hJ : J.val = 1024 * (p.val / 2 / 4 % 4) + j.val) :
    castAt m c p (ix3 0 k j) = wgt m c (ix3 0 K J) := by
  have hi := index1 p h
  unfold castAt
  rw [pay1_at]
  unfold ldR iblk
  rw [View.read_apply]
  show V m c main_arg1 _ = _
  rw [V_main_arg1]
  refine congrArg (wgt m c) (funext fun d => Fin.ext ?_)
  match d with
  | ⟨0, _⟩ => show win0_1.index p 0 * 1 + 1 * (0 + 1 * 0) = 0; rw [hi.1]
  | ⟨1, _⟩ => show win0_1.index p 1 * 1024 + 1 * (0 + 1 * k.val) = K.val; rw [hi.2.1]; omega
  | ⟨2, _⟩ => show win0_1.index p 2 * 1024 + 1 * (0 + 1 * j.val) = J.val; rw [hi.2.2]; omega

theorem slot_at (t : Fin cfg0.N) (h8 : 2 ≤ t.val) (k : Fin 2048) (j : Fin 1024) (K : Fin 8192) (hK : K.val = 2048 * kOf t + k.val)
    (J : Fin 4096) (hJ : J.val = 1024 * ((t.val / 2 - 1) / 4 % 4) + j.val) :
    slotAt m c t (ix3 0 k j) = wgt m c (ix3 0 K J) := by
  have hN : t.val < 66 := Nat.lt_of_lt_of_eq t.isLt Npts
  have hs := (Lay.src_val h8 (show k.val / 1024 < 2 by omega)).1
  rw [kOf_def] at hK
  show castAt m c (Lay.src 2 t (k.val / 1024)) (ix3 0 ⟨k.val % 1024, Nat.mod_lt _ (by omega)⟩ j) = _
  have hq : (Lay.src 2 t (k.val / 1024)).val / 2 = t.val / 2 - 1 := by omega
  refine cast_at m c _ (by omega) _ j K J ?_ ?_
  · rw [hq, hs]; show K.val = _ + k.val % 1024; omega
  · rw [hq, hJ]

/-- A point's piece of an entry. -/
theorem piece (t : Fin cfg0.N) (h8 : 2 ≤ t.val) (s : Fin 4) (r : Fin 512) (j : Fin 1024) (R : Fin 8192) (J : Fin 4096) (h : At t s r j R J) :
    (∑ k : Fin 2048, (ldR (rowsR s) (iblk m c 0 t) (ix2 r k) : EReal) * (slotAt m c t (ix3 0 k j) : EReal))
      = ∑ x ∈ Finset.range 2048, term (actv m c) (wgt m c) R J (2048 * kOf t + x) := by
  rw [Finset.sum_range]
  refine Finset.sum_congr rfl fun k _ => ?_
  have hk := kOf_lt t
  have hm : (2048 * kOf t + k.val) % 8192 = 2048 * kOf t + k.val := Nat.mod_eq_of_lt (by omega)
  unfold term
  rw [a_at m c t h8 s r k R h.1 ⟨(2048 * kOf t + k.val) % 8192, Nat.mod_lt _ (by omega)⟩ hm,
    slot_at m c t h8 k j ⟨(2048 * kOf t + k.val) % 8192, Nat.mod_lt _ (by omega)⟩ hm J h.2]

theorem At.pred {t : Fin cfg0.N} {s : Fin 4} {r : Fin 512} {j : Fin 1024} {R : Fin 8192} {J : Fin 4096} (h : At t s r j R J) (hk : 0 < kOf t) :
    At (pred2 t) s r j R J := by
  have h4 := kOf_pos hk
  rw [kOf_def] at hk
  obtain ⟨h1, h2⟩ := h
  refine ⟨?_, ?_⟩
  · rw [pred2_val, h1]; omega
  · rw [pred2_val, h2]; omega

theorem accK_at (k : ℕ) : ∀ (t : Fin cfg0.N), 2 ≤ t.val → kOf t = k → ∀ (s : Fin 4) (r : Fin 512) (j : Fin 1024) (R : Fin 8192) (J : Fin 4096), At t s r j R J →
    accK m c k t s (ix2 r j) = ∑ x ∈ Finset.range (2048 * k + 2048), term (actv m c) (wgt m c) R J x := by
  induction k with
  | zero =>
    intro t h8 hk s r j R J h
    refine (pay2_at _ _ r j).trans ((piece m c t h8 s r j R J h).trans ?_)
    rw [hk]
    refine Finset.sum_congr rfl fun x _ => congrArg _ (by omega)
  | succ k ih =>
    intro t h8 hk s r j R J h
    have h4 := kOf_pos (t := t) (by omega)
    have hq : kOf (pred2 t) = k := by
      rw [kOf_def] at hk
      rw [kOf_def, pred2_val]; omega
    refine (pay4_at _ _ _ r j).trans ?_
    rw [ih (pred2 t) (by rw [pred2_val]; omega) hq s r j R J (h.pred (by omega))]
    refine (congrArg (fun x : EReal => _ + x) (piece m c t h8 s r j R J h)).trans ?_
    rw [hk, Finset.sum_range_add _ (2048 * (k + 1)) 2048]
    rfl

theorem outG_at (t : Fin cfg0.N) (hk : kOf t = 3) (s : Fin 4) (r : Fin 512) (j : Fin 1024) (R : Fin 8192) (J : Fin 4096) (h : At t s r j R J) :
    outG m c t s (ix2 r j) = entry (actv m c) (wgt m c) R J := by
  have h4 := kOf_pos (t := t) (by omega)
  have hq : kOf (pred2 t) = 2 := by
    rw [kOf_def] at hk
    rw [kOf_def, pred2_val]; omega
  refine (pay5_at _ _ _ r j).trans ?_
  rw [accK_at m c 2 (pred2 t) (by rw [pred2_val]; omega) hq s r j R J (h.pred (by omega))]
  refine (congrArg (fun x : EReal => _ + x) (piece m c t (by omega) s r j R J h)).trans ?_
  rw [hk, ← entry_eq, show 2048 * 2 + 2048 = 2048 * 3 by omega]
  exact (Finset.sum_range_add _ (2048 * 3) 2048).symm.trans
    (congrArg (fun n : ℕ => ∑ x ∈ Finset.range n, term (actv m c) (wgt m c) R J x) (show 2048 * 3 + 2048 = 8192 by omega))

theorem outAt_at (t : Fin cfg0.N) (hk : kOf t = 3) (z : S2048x1024.Idx) (R : Fin 8192) (J : Fin 4096)
    (hR : R.val = 4096 * ((t.val / 2 - 1) / 16) + 2048 * (t.val % 2) + (z 0).val) (hJ : J.val = 1024 * ((t.val / 2 - 1) / 4 % 4) + (z 1).val) :
    outAt m c t z = entry (actv m c) (wgt m c) R J := by
  obtain ⟨s, r, hr⟩ := row_split (m := 4) (z 0).isLt
  have hz1 : (z 1).val < 1024 := (z 1).isLt
  unfold outAt
  unfold out4
  rw [out4_hit _ _ z s (ix2 r ⟨(z 1).val, hz1⟩) hr rfl]
  exact outG_at m c t hk s r ⟨(z 1).val, hz1⟩ R J ⟨by rw [hR, hr], hJ⟩

/-- The result array. -/
def Res : Buf (Elt Ideal) ((c : Thread nD τ).loc main_v0) := fun z => entry (actv m c) (wgt m c) (z 0) (z 1)

theorem Res_at (q : S8192x4096.Idx) : Res m c q = entry (actv m c) (wgt m c) (q 0) (q 1) := rfl

theorem Res_sum (q : S8192x4096.Idx) : Res m c q = ∑ k : Fin 8192, actv m c (ix2 (q 0) k) * wgt m c (ix3 0 k (q 1)) := by
  rw [Res_at]; unfold entry; rfl

theorem flushed_eq (t : Fin cfg0.N) (hf : (cfg0.win 2).flush t = true) : (dats m 0 c).flushed 2 t = ((cfg0.win 2).blk t).view.read (Elt Ideal) (Res m c) := by
  have hk : kOf t = 3 := by
    by_contra h
    have := flush2_off t h
    rw [hf] at this
    exact absurd this (by decide)
  have h4 := kOf_pos (t := t) (by omega)
  show (cfg0.win 2).cut (grid0.coords t) ((dats m 0 c).after 2 t) = _
  rw [after_2]
  funext z
  have hi := index2 t (by omega) hk
  have hxs := xsize2 t
  have hz0 : (z 0).val < 2048 := hxs.1 ▸ (z 0).isLt
  have hz1 : (z 1).val < 1024 := hxs.2 ▸ (z 1).isLt
  rw [View.read_apply]
  show outAt m c t (win0_2.xinj (grid0.coords t) z) = _
  refine Eq.trans (outAt_at m c t hk _ _ _ ?_ ?_) (Res_at m c _).symm
  · show win0_2.index t 0 * 2048 + 1 * (z 0).val = _ + (z 0).val; rw [hi.1]; omega
  · show win0_2.index t 1 * 1024 + 1 * (z 1).val = _ + (z 1).val; rw [hi.2]; omega

theorem cover (z : S8192x4096.Idx) : ∃ t : Fin cfg0.N, (cfg0.win 2).flush t = true ∧ z ∈ ((cfg0.win 2).blk t).view.set := by
  have hz0 : (z 0).val < 8192 := (z 0).isLt
  have hz1 : (z 1).val < 4096 := (z 1).isLt
  let t : Fin cfg0.N := ⟨2 * (16 * ((z 0).val / 4096) + 4 * ((z 1).val / 1024) + 4) + (z 0).val / 2048 % 2, by rw [Npts]; omega⟩
  have ht : t.val = 2 * (16 * ((z 0).val / 4096) + 4 * ((z 1).val / 1024) + 4) + (z 0).val / 2048 % 2 := rfl
  have hb : t.val / 2 = 16 * ((z 0).val / 4096) + 4 * ((z 1).val / 1024) + 4 := by omega
  have hk : kOf t = 3 := by rw [kOf_def, hb]; omega
  have hi := index2 t (by omega) hk
  have hxs := xsize2 t
  have e0 : (t.val / 2 - 1) / 16 = (z 0).val / 4096 := by rw [hb]; omega
  have e1 : (t.val / 2 - 1) / 4 % 4 = (z 1).val / 1024 := by rw [hb]; omega
  refine ⟨t, flush2_on t hk, ?_⟩
  show z ∈ ((View.whole main_v0).slice (win0_2.rect t)).set
  rw [View.set_slice_whole, Rect.mem_set_unit]
  intro a
  match a with
  | ⟨0, _⟩ =>
    show win0_2.index t 0 * 2048 ≤ (z 0 : ℕ) ∧ (z 0 : ℕ) < win0_2.index t 0 * 2048 + win0_2.xsize (grid0.coords t) 0
    rw [hi.1, hxs.1, e0]; omega
  | ⟨1, _⟩ =>
    show win0_2.index t 1 * 1024 ≤ (z 1 : ℕ) ∧ (z 1 : ℕ) < win0_2.index t 1 * 1024 + win0_2.xsize (grid0.coords t) 1
    rw [hi.2, hxs.2, e1]; omega

theorem final_o : (dats m 0 c).arrAt 2 cfg0.N = Res m c :=
  (dats m 0 c).arrAt_eq_of_cover 2 (Res m c) (fun t hf => flushed_eq m c t hf) cover

end Cert.Kernel4Ideal.Mm

end
-- ==== Proof.WoutRef.lean ====
/- The retention's output product's reference over the reals: its result, entry by entry. -/
module

public import proofs.«01_k».proof.Proof.Gen.Reference4Ideal.Run
public import Idealize.ShloMosaic.Lib.Pointwise

@[expose] public section

set_option maxRecDepth 16384

noncomputable section

namespace Cert.Reference4Ideal.Mm

open Idealize.ShloMosaic Idealize.ShloMosaic.TcCoe Idealize.SL.Sem Idealize.ShloMosaic.StableHlo
open Cert.Reference4Ideal Cert.Reference4Ideal.Gen

/-- The product, over the reals. -/
def prod (A : FVec Ideal S8192x8192 .bf16) (W : FVec Ideal S1x8192x4096 .f32) : FVec Ideal S8192x4096 .f32 :=
  Host.dotGeneral dot_S8192x8192_S8192x4096_S8192x4096_1_0_0_1_n_n none (extf .f32 A bitsLt_bf16_f32)
    (shapeCast _ W shapeCasts_S1x8192x4096_S8192x4096)

/-- The result. -/
def out (A : FVec Ideal S8192x8192 .bf16) (W : FVec Ideal S1x8192x4096 .f32) : FVec Ideal S8192x4096 .bf16 := truncf .bf16 (prod A W) bitsLt_bf16_f32

theorem prod_at (A : FVec Ideal S8192x8192 .bf16) (W : FVec Ideal S1x8192x4096 .f32) (r : Fin 8192) (j : Fin 4096) :
    prod A W (ix2 r j) = ∑ k : Fin 8192, A (ix2 r k) * W (ix3 0 k j) := by
  unfold prod
  pointwise []

theorem out_at (A : FVec Ideal S8192x8192 .bf16) (W : FVec Ideal S1x8192x4096 .f32) (r : Fin 8192) (j : Fin 4096) :
    out A W (ix2 r j) = ∑ k : Fin 8192, A (ix2 r k) * W (ix3 0 k j) := by
  unfold out
  pointwise [prod_at]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.Reference4Ideal.Mm

end
-- ==== Proof.FnoRun.lean ====
/- One call of the Fourier mixer's product kernel: the cast of a weight block into the scratch, and the two halves of the
   output's rows against the other slot of the scratch. The Fourier mixer's product's run, at any values: the scratch between points, the body at a generic point, the launch. -/
module

public import proofs.«01_k».proof.Proof.Gen.Kernel5Ideal.Frame
public import proofs.«01_k».proof.Proof.Gen.Kernel5Ideal.Skeleton
public import proofs.«01_k».proof.Proof.Steps
public import proofs.«01_k».proof.Proof.Slots
public import Idealize.ShloMosaic.Lib.WordCmp
public import Idealize.ShloMosaic.Lib.Claim

@[expose] public section

set_option maxRecDepth 16384

noncomputable section

namespace Cert.Kernel5Ideal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.Rects Cert.Steps Cert.Slots

variable {F : FTy → Type} [FloatOps F]

local notation "𝕄" => MT nD τ sig Unit (Elt F) ℕ (UR sig nD τ) ℕ

/-! ## The conditions and the rectangles -/

theorem cond1_iff : ∀ i : grid0.Coords, k0_cond1 i = 1#1 ↔ (i 0).val = 0 := by decide +kernel
theorem cond2_iff : ∀ i : grid0.Coords, k0_cond2 i = 1#1 ↔ 0 < (i 0).val := by decide +kernel
theorem cast_inb : ∀ i : grid0.Coords, ∀ a, k0_off1 i a + S1x512x1024.size a ≤ S2x4096x1024.size a := by decide +kernel
theorem slot_inb : ∀ i : grid0.Coords, ∀ a, k0_off3 i a + S1x4096x1024.size a ≤ S2x4096x1024.size a := by decide +kernel
theorem cast_off : ∀ i : grid0.Coords, k0_off1 i 0 = (i 0).val % 2 ∧ k0_off1 i 1 = 512 * (i 1).val ∧ k0_off1 i 2 = 0 := by decide +kernel
theorem slot_off : ∀ i : grid0.Coords, k0_off3 i 0 = ((i 0).val + 1) % 2 ∧ k0_off3 i 1 = 0 ∧ k0_off3 i 2 = 0 := by decide +kernel

/-- Where a point's weight block goes. -/
abbrev castR (i : grid0.Coords) : Rect S2x4096x1024 := Rect.unit (s := S2x4096x1024) (k0_off1 i) S1x512x1024.size (cast_inb i)
/-- The slot a point multiplies by. -/
abbrev slotR (i : grid0.Coords) : Rect S2x4096x1024 := Rect.unit (s := S2x4096x1024) (k0_off3 i) S1x4096x1024.size (slot_inb i)

theorem cast_packed (i : grid0.Coords) : (castR i).PackedRows (EltTy.packing .bf16) := by
  by_cases h : k0_cond1 i = 1#1
  · exact k0_off1_packedbf16 i h
  · exact k0_off2_packedbf16 i ((cond2_iff i).mpr (Nat.pos_of_ne_zero fun hh => h ((cond1_iff i).mpr hh)))

theorem inb_rows (s : Fin 2) : ∀ a, (![512 * s.val, 0] : Fin 2 → ℕ) a + S512x4096.size a ≤ S1024x4096.size a := by
  have := s.isLt
  intro a; match a with
  | ⟨0, _⟩ => show 512 * s.val + 512 ≤ 1024; omega
  | ⟨1, _⟩ => show 0 + 4096 ≤ 4096; omega

/-- Half `s` of the left operand's rows. -/
abbrev rowsR (s : Fin 2) : Rect S1024x4096 := Rect.unit (s := S1024x4096) ![512 * s.val, 0] S512x4096.size (inb_rows s)

theorem out_packed (s : Fin 2) : (halfR s).PackedRows (EltTy.packing .bf16) := by
  match s with
  | ⟨0, _⟩ => exact packedbf16_S1024x1024_S512x1024_0_0
  | ⟨1, _⟩ => exact packedbf16_S1024x1024_S512x1024_512_0
  | ⟨n + 2, h⟩ => exact absurd h (by omega)

/-- The whole weight block. -/
abbrev wR : Rect S1x512x1024 := Rect.unit (s := S1x512x1024) ![0, 0, 0] S1x512x1024.size inb_S1x512x1024_S1x512x1024_0_0_0

/-- The whole block of the added row. -/
abbrev bR : Rect S1x1024 := Rect.unit (s := S1x1024) ![0, 0] S1x1024.size inb_S1x1024_S1x1024_0_0

/-! ## The steps -/

section
variable (i : grid0.Coords) (arg2 : Memref sig .tc .vmem S1024x4096 .bf16) (harg2 : arg2.IsWhole) (arg3 : Memref sig .tc .vmem S1x512x1024 .f32) (harg3 : arg3.IsWhole)
  (arg4 : Memref sig .tc .vmem S1x1024 .f32) (harg4 : arg4.IsWhole) (arg5 : Memref sig .tc .vmem S1024x1024 .bf16) (harg5 : arg5.IsWhole) (arg6 : Memref sig .tc .vmem S2x4096x1024 .bf16) (harg6 : arg6.IsWhole)

/-- The weight block, cast, into its place in the scratch. -/
abbrev castStep : Prog (TpuEff nD τ sig (Elt F) Λ₀ .tc) PUnit := do
  let w : Vec F S1x512x1024 .f32 ← Prog.lift (.load arg3 wR.toLoadRect (View.loadsAt_vmem h_S1x512x1024))
  let _w : Vec F S1x512x1024 .bf16 ← Prog.lift (.load arg6 (castR i).toLoadRect (View.loadsAt_vmem h_S1x512x1024))
  Prog.lift (.store arg6 (castR i) (k0_pay1 w) Finset.univ (View.stores_vmem h_S1x512x1024 (harg6.storeExact_slice rfl _ (cast_packed i)) (fun _ => rfl)) (.inl rfl))

/-- Half `s` of the output's rows. -/
abbrev rowStep (s : Fin 2) : Prog (TpuEff nD τ sig (Elt F) Λ₀ .tc) PUnit := do
  let a : Vec F S512x4096 .bf16 ← Prog.lift (.load arg2 (rowsR s).toLoadRect (View.loadsAt_vmem h_S512x4096))
  let w : Vec F S1x4096x1024 .bf16 ← Prog.lift (.load arg6 (slotR i).toLoadRect (View.loadsAt_vmem h_S1x4096x1024))
  let v : Vec F S1x1024 .f32 ← Prog.lift (.load arg4 bR.toLoadRect (View.loadsAt_vmem h_S1x1024))
  let _o : Vec F S512x1024 .bf16 ← Prog.lift (.load arg5 (halfR s).toLoadRect (View.loadsAt_vmem h_S512x1024))
  Prog.lift (.store arg5 (halfR s) (k0_pay3 a w v) Finset.univ (View.stores_vmem h_S512x1024 (harg5.storeExact_slice rfl _ (out_packed s)) (fun _ => rfl)) (.inl rfl))

theorem body_first (h1 : k0_cond1 i = 1#1) (h2 : ¬k0_cond2 i = 1#1) :
    cc0_matmul1 (F := F) i arg2 harg2 arg3 harg3 arg4 harg4 arg5 harg5 arg6 harg6 = castStep i arg3 arg6 harg6 >>= fun _ => pure ⟨⟩ := by
  rw [cc0_matmul1_eq_skeleton]
  unfold cc0_matmul1_skel
  dsimp only
  rw [dif_pos h1, dif_neg h2]
  rfl

theorem body_later (h1 : ¬k0_cond1 i = 1#1) (h2 : k0_cond2 i = 1#1) :
    cc0_matmul1 (F := F) i arg2 harg2 arg3 harg3 arg4 harg4 arg5 harg5 arg6 harg6
      = castStep i arg3 arg6 harg6 >>= fun _ => rowStep i arg2 arg4 arg5 harg5 arg6 0 >>= fun _ => rowStep i arg2 arg4 arg5 harg5 arg6 1 >>= fun _ => pure ⟨⟩ := by
  rw [cc0_matmul1_eq_skeleton]
  unfold cc0_matmul1_skel
  dsimp only
  rw [dif_neg h1, dif_pos h2, k0_part1_eq_skeleton]
  rfl

/-! ## What a call leaves -/

/-- The scratch after a call. -/
def wbOut (x1 : Vec F S1x512x1024 .f32) (b : Vec F S2x4096x1024 .bf16) : Vec F S2x4096x1024 .bf16 := over (castR i) (k0_pay1 (ldR wR x1)) b

/-- The output block from the left operand's rows and the slot multiplied by. -/
def rowsOut (x0 : Vec F S1024x4096 .bf16) (x2 : Vec F S1x1024 .f32) (w : Vec F S1x4096x1024 .bf16) (o : Vec F S1024x1024 .bf16) : Vec F S1024x1024 .bf16 :=
  over (halfR 1) (k0_pay3 (ldR (rowsR 1) x0) w (ldR bR x2)) (over (halfR 0) (k0_pay3 (ldR (rowsR 0) x0) w (ldR bR x2)) o)

open Classical in
/-- The output block after a call. -/
def oOut (x0 : Vec F S1024x4096 .bf16) (x1 : Vec F S1x512x1024 .f32) (x2 : Vec F S1x1024 .f32) (b : Vec F S2x4096x1024 .bf16) (o : Vec F S1024x1024 .bf16) : Vec F S1024x1024 .bf16 :=
  if k0_cond2 i = 1#1 then rowsOut x0 x2 (ldR (slotR i) (wbOut i x1 b)) o else o

variable (c : Dev nD)

/-- The kernel's triple. -/
theorem wp_matmul1 (x0 : Vec F S1024x4096 .bf16) (x1 : Vec F S1x512x1024 .f32) (x2 : Vec F S1x1024 .f32) (o : Vec F S1024x1024 .bf16) (b : Vec F S2x4096x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare o
      ∗ owns (c : Thread nD τ) arg6 fullShare b
      ∗ (iprop(owns (c : Thread nD τ) arg2 fullShare x0 ∗ owns (c : Thread nD τ) arg3 fullShare x1 ∗ owns (c : Thread nD τ) arg4 fullShare x2
            ∗ owns (c : Thread nD τ) arg5 fullShare (oOut i x0 x1 x2 b o) ∗ owns (c : Thread nD τ) arg6 fullShare (wbOut i x1 b))
          -∗ K ⟨⟩))
    ⊢ wp frame (wpE (defs₀ (F := F)) Variants.none c none) E (cc0_matmul1 i arg2 harg2 arg3 harg3 arg4 harg4 arg5 harg5 arg6 harg6) K := by
  by_cases h : (i 0).val = 0
  · have h2 : ¬k0_cond2 i = 1#1 := fun hh => by have := (cond2_iff i).mp hh; omega
    rw [body_first i arg2 harg2 arg3 harg3 arg4 harg4 arg5 harg5 arg6 harg6 ((cond1_iff i).mpr h) h2, oOut, if_neg h2]
    iintro ⟨H1, H2, H5, H3, H4, Hk⟩
    iapply (one c harg3 x1 b E)
    isplitl [H2]; · iexact H2
    isplitl [H4]; · iexact H4
    iintro ⟨H2, H4⟩
    sl_step
    iapply Hk
    isplitl [H1]; · iexact H1
    isplitl [H2]; · iexact H2
    isplitl [H5]; · iexact H5
    isplitl [H3]; · iexact H3
    iexact H4
  · have h1 : ¬k0_cond1 i = 1#1 := fun hh => h ((cond1_iff i).mp hh)
    have h2 : k0_cond2 i = 1#1 := (cond2_iff i).mpr (by omega)
    rw [body_later i arg2 harg2 arg3 harg3 arg4 harg4 arg5 harg5 arg6 harg6 h1 h2, oOut, if_pos h2]
    iintro ⟨H1, H2, H5, H3, H4, Hk⟩
    iapply (one c harg3 x1 b E)
    isplitl [H2]; · iexact H2
    isplitl [H4]; · iexact H4
    iintro ⟨H2, H4⟩
    iapply (three c harg2 harg6 harg4 x0 (wbOut i x1 b) x2 o E)
    isplitl [H1 H4 H5]
    · isplitl [H1]; · iexact H1
      isplitl [H4]; · iexact H4
      iexact H5
    isplitl [H3]; · iexact H3
    iintro ⟨⟨H1, H4, H5⟩, H3⟩
    iapply (three c harg2 harg6 harg4 x0 (wbOut i x1 b) x2 _ E)
    isplitl [H1 H4 H5]
    · isplitl [H1]; · iexact H1
      isplitl [H4]; · iexact H4
      iexact H5
    isplitl [H3]; · iexact H3
    iintro ⟨⟨H1, H4, H5⟩, H3⟩
    sl_step
    iapply Hk
    isplitl [H1]; · iexact H1
    isplitl [H2]; · iexact H2
    isplitl [H5]; · iexact H5
    isplitl [H3]; · iexact H3
    iexact H4

end

variable (m : (ℓ : Loc nD τ sig) → Buf (Elt F) ℓ) (ρ : Dev nD → PrngReg)

/-! ## The points -/

theorem N40 : cfg0.N = 40 := N_0

theorem coords0 (t : Fin cfg0.N) : (grid0.coords t 0).val = t.val / 8 := by
  have h : (grid0.coords t 0).val = t.val / 8 % 5 := Pipeline.Grid.coords_val t 0 (by decide) rfl
  have : t.val < 40 := Nat.lt_of_lt_of_eq t.isLt N40
  omega
theorem coords1 (t : Fin cfg0.N) : (grid0.coords t 1).val = t.val % 8 := by
  have h : (grid0.coords t 1).val = t.val / 1 % 8 := Pipeline.Grid.coords_val t 1 (by decide) rfl
  rw [h, Nat.div_one]

theorem live3 (t : Fin cfg0.N) (h : 8 ≤ t.val) : cfg0.idle 3 (grid0.coords t) = false := by
  show (!(k0_cond2 (grid0.coords t) == 1#1)) = false
  rw [(cond2_iff _).mpr (by rw [coords0]; omega)]; rfl

theorem idle3 (t : Fin cfg0.N) (h : t.val < 8) : cfg0.idle 3 (grid0.coords t) = true := by
  show (!(k0_cond2 (grid0.coords t) == 1#1)) = true
  have hn : ¬k0_cond2 (grid0.coords t) = 1#1 := fun hh => by have := (cond2_iff _).mp hh; rw [coords0] at this; omega
  rw [beq_eq_false_iff_ne.mpr hn]; rfl

theorem flush3_off : ∀ t : Fin cfg0.N, t.val < 8 → (cfg0.win 3).flush t = false := by decide +kernel

/-! ## The scratch between points -/

/-- Where the points put their weight blocks, and where they read. -/
def lay : Lay cfg0.N 8 512 4096 where
  M_eq := rfl
  P_pos := by decide
  B_pos := by decide
  put t := k0_off1 (grid0.coords t)
  put_inb t := cast_inb (grid0.coords t)
  put_eq t := by have h := cast_off (grid0.coords t); rwa [coords0, coords1] at h
  get t := k0_off3 (grid0.coords t)
  get_inb t := slot_inb (grid0.coords t)
  get_eq t := by have h := slot_off (grid0.coords t); rwa [coords0] at h

/-- What a point casts: its weight block. -/
def castAt (c : Dev nD) (t : Fin cfg0.N) : Vec F S1x512x1024 .bf16 := k0_pay1 (ldR wR (iblk m c 1 t))

/-- What is known of the scratch before point `t`. -/
abbrev Agree (c : Dev nD) (t : ℕ) (b : Vec F S2x4096x1024 .bf16) : Prop := lay.Agree (castAt m c) t b

theorem Agree.succ {c : Dev nD} {t : Fin cfg0.N} {b : Vec F S2x4096x1024 .bf16} (h : Agree m c t.val b) :
    Agree m c (t.val + 1) (wbOut (grid0.coords t) (iblk m c 1 t) b) := Lay.Agree.succ lay (castAt m c) h

/-- The column of weights a point multiplies by. -/
def slotAt (c : Dev nD) (t : Fin cfg0.N) : Vec F S1x4096x1024 .bf16 := Lay.slot (P := 8) (castAt m c) (show 0 < 512 by decide) t

theorem slot_agree {c : Dev nD} {t : Fin cfg0.N} (h8 : 8 ≤ t.val) {b : Vec F S2x4096x1024 .bf16} (h : Agree m c (t.val + 1) b) :
    ldR (slotR (grid0.coords t)) b = slotAt m c t := Lay.slot_agree lay (castAt m c) h8 h

/-! ## The output block -/

theorem rowsOut_hit (x0 : Vec F S1024x4096 .bf16) (x2 : Vec F S1x1024 .f32) (w : Vec F S1x4096x1024 .bf16) (o : Vec F S1024x1024 .bf16) (z : S1024x1024.Idx) (s : Fin 2)
    (a : S512x1024.Idx) (h0 : (z 0).val = 512 * s.val + (a 0).val) (h1 : (z 1).val = (a 1).val) :
    rowsOut x0 x2 w o z = k0_pay3 (ldR (rowsR s) x0) w (ldR bR x2) a :=
  both_hit (fun s => k0_pay3 (ldR (rowsR s) x0) w (ldR bR x2)) o z s a h0 h1

theorem rowsOut_indep (x0 : Vec F S1024x4096 .bf16) (x2 : Vec F S1x1024 .f32) (w : Vec F S1x4096x1024 .bf16) (o o' : Vec F S1024x1024 .bf16) : rowsOut x0 x2 w o = rowsOut x0 x2 w o' :=
  both_indep (fun s => k0_pay3 (ldR (rowsR s) x0) w (ldR bR x2)) o o'

/-- The output block a point leaves. -/
def outAt (c : Dev nD) (t : Fin cfg0.N) : Vec F S1024x1024 .bf16 :=
  rowsOut (iblk m c 0 t) (iblk m c 2 t) (slotAt m c t) (broadcast S1024x1024 (Scalar.ofBits .bf16 0x0000#16 : F .bf16))

theorem out_agree {c : Dev nD} {t : Fin cfg0.N} (h8 : 8 ≤ t.val) {b : Vec F S2x4096x1024 .bf16} (h : Agree m c t.val b) (o : Vec F S1024x1024 .bf16) :
    oOut (grid0.coords t) (iblk m c 0 t) (iblk m c 1 t) (iblk m c 2 t) b o = outAt m c t := by
  unfold oOut outAt
  rw [if_pos ((cond2_iff _).mpr (by rw [coords0]; omega)), slot_agree m h8 (Agree.succ m h)]
  exact rowsOut_indep _ _ _ _ _

theorem out_idle {t : Fin cfg0.N} (h8 : t.val < 8) (x0 : Vec F S1024x4096 .bf16) (x1 : Vec F S1x512x1024 .f32) (x2 : Vec F S1x1024 .f32) (b : Vec F S2x4096x1024 .bf16)
    (o : Vec F S1024x1024 .bf16) : oOut (grid0.coords t) x0 x1 x2 b o = o := by
  unfold oOut
  rw [if_neg fun hh => by have := (cond2_iff _).mp hh; rw [coords0] at this; omega]

/-! ## The proof data -/

/-- The scratch operand. -/
abbrev sc0 : Memref sig .tc .vmem S2x4096x1024 .bf16 := Memref.whole cc0_scratch0

theorem PhiA_eq (c : Dev nD) :
    (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

/-- The invariant before point `t`. -/
def PhiS (c : Dev nD) (t : ℕ) (_ : t ≤ cfg0.N) : sProp 𝕄 :=
  iprop((∃ b, owns (c : Thread nD τ) sc0 fullShare b ∗ ⌜Agree m c t b⌝) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves_3 (c : Dev nD) (t : Fin cfg0.N) (b : Vec F S2x4096x1024 .bf16) (h : Agree m c t.val b) (d) :
    owns (c : Thread nD τ) (st0_3 t) fullShare (oOut (grid0.coords t) (iblk m c 0 t) (iblk m c 1 t) (iblk m c 2 t) b ((dats m 0 c).before 3 t d))
      ⊢ ((dats m 0 c).leavesExact 3 t : sProp 𝕄) := by
  by_cases h8 : t.val < 8
  · rw [Dat.leavesExact_idle _ 3 t (idle3 t h8) (flush3_off t h8), out_idle h8]
    iintro H
    iexists d
    iexact H
  · have h8' : 8 ≤ t.val := by omega
    rw [out_agree m h8' h, show (dats m 0 c).leavesExact 3 t = owns (c : Thread nD τ) (st0_3 t) fullShare ((dats m 0 c).after 3 t) from by
      unfold Dat.leavesExact; rw [live3 t h8'], after_3]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  unfold PhiS
  iintro ⟨⟨⟨%b, HS, %hag⟩, Hg⟩, Ho, ⟨%d0, H0⟩, ⟨%d1, H1⟩, ⟨%d2, H2⟩, ⟨%d3, H3⟩⟩
  iapply (wp_matmul1 (grid0.coords t) (st0_0 t) _ (st0_1 t) _ (st0_2 t) _ (st0_3 t) _ sc0 _ c
    (iblk m c 0 t) (iblk m c 1 t) (iblk m c 2 t) ((dats m 0 c).before 3 t d3) b Set.univ)
  isplitl [H0]; · iexact H0
  isplitl [H1]; · iexact H1
  isplitl [H2]; · iexact H2
  isplitl [H3]; · iexact H3
  isplitl [HS]; · iexact HS
  iintro ⟨H0, H1, H2, H3, HS⟩
  isplitl [HS Hg]
  · isplitl [HS]
    · iexists _
      isplitl [HS]; · iexact HS
      ipureintro
      exact Agree.succ m hag
    iexact Hg
  isplitl [Ho]; · iexact Ho
  isplitl [H0]; · iexact H0
  isplitl [H1]; · iexact H1
  isplitl [H2]; · iexact H2
  iapply (leaves_3 m c t b hag d3)
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨%b, H⟩, Hg⟩
  isplitl [H]
  · iexists b
    isplitl [H]; · iexact H
    ipureintro
    exact Lay.Agree.zero _ _ b
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%b, H, %hag⟩, Hg⟩
  isplitl [H]
  · iexists b; iexact H
  iexact Hg

/-! ## The run -/

set_option backward.isDefEq.respectTransparency.types false in
/-- Every execution terminates, with every window's array at what the points left and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_main m ρ)

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_main m ρ))

end Cert.Kernel5Ideal.Mm

end
-- ==== Proof.FnoResult.lean ====
/- The Fourier mixer's product over the reals: the result array, entry by entry, as the product with its bias row added. -/
module

public import proofs.«01_k».proof.Proof.FnoRun
public import Idealize.ShloMosaic.Lib.Pointwise
public import Idealize.ShloMosaic.Lib.StableHlo.RunRead

@[expose] public section

set_option maxRecDepth 16384

noncomputable section

namespace Cert.Kernel5Ideal.Mm

open Idealize.ShloMosaic Idealize.ShloMosaic.TcCoe
open Cert.Kernel5Ideal Cert.Kernel5Ideal.Gen Cert.Rects Cert.Slots

/-- An entry of the result: a row of the activations by a column of the weights, and the column's bias. -/
@[irreducible] def entry (A : S8192x4096.Idx → EReal) (W : S1x4096x4096.Idx → EReal) (b : S1x4096.Idx → EReal) (r : Fin 8192) (j : Fin 4096) : EReal :=
  (∑ k : Fin 4096, A (ix2 r k) * W (ix3 0 k j)) + b (ix2 0 j)

theorem pay3_at (a : Vec Ideal S512x4096 .bf16) (w : Vec Ideal S1x4096x1024 .bf16) (v : Vec Ideal S1x1024 .f32) (r : Fin 512) (j : Fin 1024) :
    k0_pay3 (F := Ideal) a w v (ix2 r j) = (∑ k : Fin 4096, a (ix2 r k) * w (ix3 0 k j)) + v (ix2 0 j) := by
  pointwise [k0_pay3]

theorem pay1_at (w : Vec Ideal S1x512x1024 .f32) (k : Fin 512) (j : Fin 1024) : k0_pay1 (F := Ideal) w (ix3 0 k j) = w (ix3 0 k j) := by
  pointwise [k0_pay1]

variable (m : (ℓ : Loc nD τ sig) → Buf (Elt Ideal) ℓ) (c : Dev nD)

/-- The activations, the weights and the bias. -/
abbrev actv : S8192x4096.Idx → EReal := m ((c : Thread nD τ).loc main_arg0)
abbrev wgt : S1x4096x4096.Idx → EReal := m ((c : Thread nD τ).loc main_arg1)
abbrev bias : S1x4096.Idx → EReal := m ((c : Thread nD τ).loc main_arg2)

/-- The host's two reshapes hand the kernel the bias row unchanged. -/
theorem V_v1 : V m c main_v1 = m ((c : Thread nD τ).loc main_arg2) := by
  unfold V
  after_reads_simp
  exact shapeCast_shapeCast _ _ _

theorem index0 : ∀ t : Fin cfg0.N, 8 ≤ t.val → win0_0.index t 0 = t.val % 8 ∧ win0_0.index t 1 = 0 := by decide +kernel
theorem index1 : ∀ t : Fin cfg0.N, t.val < 32 → win0_1.index t 0 = 0 ∧ win0_1.index t 1 = t.val % 8 ∧ win0_1.index t 2 = t.val / 8 := by decide +kernel
theorem index2 : ∀ t : Fin cfg0.N, 8 ≤ t.val → win0_2.index t 0 = 0 ∧ win0_2.index t 1 = t.val / 8 - 1 := by decide +kernel
theorem index3 : ∀ t : Fin cfg0.N, 8 ≤ t.val → win0_3.index t 0 = t.val % 8 ∧ win0_3.index t 1 = t.val / 8 - 1 := by decide +kernel
theorem flush3_on : ∀ t : Fin cfg0.N, 8 ≤ t.val → (cfg0.win 3).flush t = true := by decide +kernel
theorem xsize3 : ∀ t : Fin cfg0.N, win0_3.xsize (grid0.coords t) 0 = 1024 ∧ win0_3.xsize (grid0.coords t) 1 = 1024 := by decide +kernel

theorem a_at (t : Fin cfg0.N) (h8 : 8 ≤ t.val) (s : Fin 2) (r : Fin 512) (k : Fin 4096) (R : Fin 8192) (hR : R.val = 1024 * (t.val % 8) + (512 * s.val + r.val)) :
    ldR (rowsR s) (iblk m c 0 t) (ix2 r k) = actv m c (ix2 R k) := by
  have hi := index0 t h8
  unfold ldR iblk
  rw [View.read_apply]
  show V m c main_arg0 _ = _
  rw [V_main_arg0]
  refine congrArg (actv m c) (funext fun d => Fin.ext ?_)
  match d with
  | ⟨0, _⟩ => show win0_0.index t 0 * 1024 + 1 * (512 * s.val + 1 * r.val) = R.val; rw [hi.1]; omega
  | ⟨1, _⟩ => show win0_0.index t 1 * 4096 + 1 * (0 + 1 * k.val) = k.val; rw [hi.2]; omega

theorem cast_at (p : Fin cfg0.N) (h : p.val < 32) (k : Fin 512) (j : Fin 1024) (K : Fin 4096) (J : Fin 4096)
    (hK : K.val = 512 * (p.val % 8) + k.val) (hJ : J.val = 1024 * (p.val / 8) + j.val) :
    castAt m c p (ix3 0 k j) = wgt m c (ix3 0 K J) := by
  have hi := index1 p h
  unfold castAt
  rw [pay1_at]
  unfold ldR iblk
  rw [View.read_apply]
  show V m c main_arg1 _ = _
  rw [V_main_arg1]
  refine congrArg (wgt m c) (funext fun d => Fin.ext ?_)
  match d with
  | ⟨0, _⟩ => show win0_1.index p 0 * 1 + 1 * (0 + 1 * 0) = 0; rw [hi.1]
  | ⟨1, _⟩ => show win0_1.index p 1 * 512 + 1 * (0 + 1 * k.val) = K.val; rw [hi.2.1]; omega
  | ⟨2, _⟩ => show win0_1.index p 2 * 1024 + 1 * (0 + 1 * j.val) = J.val; rw [hi.2.2]; omega

theorem slot_at (t : Fin cfg0.N) (h8 : 8 ≤ t.val) (k : Fin 4096) (j : Fin 1024) (J : Fin 4096) (hJ : J.val = 1024 * (t.val / 8 - 1) + j.val) :
    slotAt m c t (ix3 0 k j) = wgt m c (ix3 0 k J) := by
  have hN : t.val < 40 := Nat.lt_of_lt_of_eq t.isLt N40
  have hs := (Lay.src_val h8 (show k.val / 512 < 8 by omega)).1
  show castAt m c (Lay.src 8 t (k.val / 512)) (ix3 0 ⟨k.val % 512, Nat.mod_lt _ (by omega)⟩ j) = _
  refine cast_at m c _ (by omega) _ j k J ?_ ?_
  · rw [hs]; show k.val = _ + k.val % 512; omega
  · rw [hs, hJ]; omega

theorem bias_at (t : Fin cfg0.N) (h8 : 8 ≤ t.val) (j : Fin 1024) (J : Fin 4096) (hJ : J.val = 1024 * (t.val / 8 - 1) + j.val) :
    ldR bR (iblk m c 2 t) (ix2 0 j) = bias m c (ix2 0 J) := by
  have hi := index2 t h8
  unfold ldR iblk
  rw [View.read_apply]
  show V m c main_v1 _ = _
  rw [V_v1]
  refine congrArg (bias m c) (funext fun d => Fin.ext ?_)
  match d with
  | ⟨0, _⟩ => show win0_2.index t 0 * 1 + 1 * (0 + 1 * 0) = 0; rw [hi.1]
  | ⟨1, _⟩ => show win0_2.index t 1 * 1024 + 1 * (0 + 1 * j.val) = J.val; rw [hi.2]; omega

theorem outAt_at (t : Fin cfg0.N) (h8 : 8 ≤ t.val) (z : S1024x1024.Idx) (R : Fin 8192) (J : Fin 4096)
    (hR : R.val = 1024 * (t.val % 8) + (z 0).val) (hJ : J.val = 1024 * (t.val / 8 - 1) + (z 1).val) :
    outAt m c t z = entry (actv m c) (wgt m c) (bias m c) R J := by
  obtain ⟨s, r, hr⟩ := row_split (m := 2) (z 0).isLt
  have hz1 : (z 1).val < 1024 := (z 1).isLt
  unfold outAt
  rw [rowsOut_hit _ _ _ _ z s (ix2 r ⟨(z 1).val, hz1⟩) hr rfl, pay3_at, bias_at m c t h8 ⟨(z 1).val, hz1⟩ J hJ]
  unfold entry
  have e : (∑ k : Fin 4096, (ldR (rowsR s) (iblk m c 0 t) (ix2 r k) : EReal) * (slotAt m c t (ix3 0 k ⟨(z 1).val, hz1⟩) : EReal))
      = ∑ k : Fin 4096, actv m c (ix2 R k) * wgt m c (ix3 0 k J) :=
    Finset.sum_congr rfl fun k _ => by rw [a_at m c t h8 s r k R (by omega), slot_at m c t h8 k ⟨(z 1).val, hz1⟩ J hJ]
  exact congrArg (fun x : EReal => x + bias m c (ix2 0 J)) e

/-- The result array. -/
def Res : Buf (Elt Ideal) ((c : Thread nD τ).loc main_v2) := fun z => entry (actv m c) (wgt m c) (bias m c) (z 0) (z 1)

theorem Res_at (z : S8192x4096.Idx) : Res m c z = entry (actv m c) (wgt m c) (bias m c) (z 0) (z 1) := rfl

theorem Res_sum (z : S8192x4096.Idx) : Res m c z = (∑ k : Fin 4096, actv m c (ix2 (z 0) k) * wgt m c (ix3 0 k (z 1))) + bias m c (ix2 0 (z 1)) := by
  rw [Res_at]
  unfold entry
  rfl

theorem flushed_eq (t : Fin cfg0.N) (hf : (cfg0.win 3).flush t = true) : (dats m 0 c).flushed 3 t = ((cfg0.win 3).blk t).view.read (Elt Ideal) (Res m c) := by
  have h8 : 8 ≤ t.val := by
    by_contra h
    have := flush3_off t (by omega)
    rw [hf] at this
    exact absurd this (by decide)
  show (cfg0.win 3).cut (grid0.coords t) ((dats m 0 c).after 3 t) = _
  rw [after_3]
  funext z
  have hi := index3 t h8
  have hxs := xsize3 t
  have hN : t.val < 40 := Nat.lt_of_lt_of_eq t.isLt N40
  have hz0 : (z 0).val < 1024 := hxs.1 ▸ (z 0).isLt
  have hz1 : (z 1).val < 1024 := hxs.2 ▸ (z 1).isLt
  rw [View.read_apply]
  show outAt m c t (win0_3.xinj (grid0.coords t) z) = _
  refine Eq.trans (outAt_at m c t h8 _ _ _ ?_ ?_) (Res_at m c _).symm
  · show win0_3.index t 0 * 1024 + 1 * (z 0).val = _ + (z 0).val; rw [hi.1]; omega
  · show win0_3.index t 1 * 1024 + 1 * (z 1).val = _ + (z 1).val; rw [hi.2]; omega

theorem cover (z : S8192x4096.Idx) : ∃ t : Fin cfg0.N, (cfg0.win 3).flush t = true ∧ z ∈ ((cfg0.win 3).blk t).view.set := by
  have hz0 : (z 0).val < 8192 := (z 0).isLt
  have hz1 : (z 1).val < 4096 := (z 1).isLt
  let t : Fin cfg0.N := ⟨8 * ((z 1).val / 1024) + 8 + (z 0).val / 1024, by rw [N40]; omega⟩
  have ht : t.val = 8 * ((z 1).val / 1024) + 8 + (z 0).val / 1024 := rfl
  have h8 : 8 ≤ t.val := by omega
  have hi := index3 t h8
  have hxs := xsize3 t
  refine ⟨t, flush3_on t h8, ?_⟩
  show z ∈ ((View.whole main_v2).slice (win0_3.rect t)).set
  rw [View.set_slice_whole, Rect.mem_set_unit]
  intro a
  match a with
  | ⟨0, _⟩ =>
    show win0_3.index t 0 * 1024 ≤ (z 0 : ℕ) ∧ (z 0 : ℕ) < win0_3.index t 0 * 1024 + win0_3.xsize (grid0.coords t) 0
    rw [hi.1, hxs.1]; omega
  | ⟨1, _⟩ =>
    show win0_3.index t 1 * 1024 ≤ (z 1 : ℕ) ∧ (z 1 : ℕ) < win0_3.index t 1 * 1024 + win0_3.xsize (grid0.coords t) 1
    rw [hi.2, hxs.2]; omega

theorem final_o : (dats m 0 c).arrAt 3 cfg0.N = Res m c :=
  (dats m 0 c).arrAt_eq_of_cover 3 (Res m c) (fun t hf => flushed_eq m c t hf) cover

end Cert.Kernel5Ideal.Mm

end
-- ==== Proof.FnoRef.lean ====
/- The Fourier mixer's product's reference over the reals: its result, entry by entry. -/
module

public import proofs.«01_k».proof.Proof.Gen.Reference5Ideal.Run
public import Idealize.ShloMosaic.Lib.Pointwise

@[expose] public section

set_option maxRecDepth 16384

noncomputable section

namespace Cert.Reference5Ideal.Mm

open Idealize.ShloMosaic Idealize.ShloMosaic.TcCoe Idealize.SL.Sem Idealize.ShloMosaic.StableHlo
open Cert.Reference5Ideal Cert.Reference5Ideal.Gen

/-- The product, over the reals. -/
def prod (A : FVec Ideal S8192x4096 .bf16) (W : FVec Ideal S1x4096x4096 .f32) : FVec Ideal S8192x4096 .f32 :=
  Host.dotGeneral dot_S8192x4096_S4096x4096_S8192x4096_1_0_0_1_n_n none (extf .f32 A bitsLt_bf16_f32)
    (shapeCast _ W shapeCasts_S1x4096x4096_S4096x4096)

/-- The result. -/
def out (A : FVec Ideal S8192x4096 .bf16) (W : FVec Ideal S1x4096x4096 .f32) (b : FVec Ideal S1x4096 .f32) : FVec Ideal S8192x4096 .bf16 :=
  truncf .bf16 (addf (prod A W) (broadcastInDim S8192x4096 ![0, 1] bcast_S1x4096_S8192x4096_0_1
    (broadcastInDim S1x4096 ![1] bcast_S4096_S1x4096_1 (shapeCast S4096 b shapeCasts_S1x4096_S4096)))) bitsLt_bf16_f32

theorem prod_at (A : FVec Ideal S8192x4096 .bf16) (W : FVec Ideal S1x4096x4096 .f32) (r : Fin 8192) (j : Fin 4096) :
    prod A W (ix2 r j) = ∑ k : Fin 4096, A (ix2 r k) * W (ix3 0 k j) := by
  unfold prod
  pointwise []

theorem out_at (A : FVec Ideal S8192x4096 .bf16) (W : FVec Ideal S1x4096x4096 .f32) (b : FVec Ideal S1x4096 .f32) (r : Fin 8192) (j : Fin 4096) :
    out A W b (ix2 r j) = (∑ k : Fin 4096, A (ix2 r k) * W (ix3 0 k j)) + b (ix2 0 j) := by
  unfold out
  pointwise [prod_at]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference5Ideal.Mm

end
-- ==== Proof.WinRun.lean ====
/- One call of the projections' kernel: the cast of a weight block into the scratch, the columns of the gates' weights kept in a
   second scratch, a block of the modulation, and the two halves of the output's rows, rotated for the first columns. The projections' run, at any values: the two scratches between points, the body at a generic point, the launch. -/
module

public import proofs.«01_k».proof.Proof.Gen.Kernel6Ideal.Frame
public import proofs.«01_k».proof.Proof.Gen.Kernel6Ideal.Skeleton
public import proofs.«01_k».proof.Proof.Steps
public import proofs.«01_k».proof.Proof.Slots
public import Idealize.ShloMosaic.Lib.WordCmp
public import Idealize.ShloMosaic.Lib.Claim

@[expose] public section

set_option maxRecDepth 16384

noncomputable section

namespace Cert.Kernel6Ideal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen Cert.Rects Cert.Steps Cert.Slots

variable {F : FTy → Type} [FloatOps F]

local notation "𝕄" => MT nD τ sig Unit (Elt F) ℕ (UR sig nD τ) ℕ

/-! ## The conditions and the rectangles -/

/-- The condition under which the second scratch is filled: the first point. -/
def condS (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem cond1_iff : ∀ i : grid0.Coords, k0_cond1 i = 1#1 ↔ (i 0).val = 0 := by decide +kernel
theorem condS_iff : ∀ i : grid0.Coords, condS i = 1#1 ↔ (i 0).val = 0 ∧ (i 1).val = 0 := by decide +kernel
theorem cond3_iff : ∀ i : grid0.Coords, k0_cond3 i = 1#1 ↔ 0 < (i 0).val ∧ (i 0).val ≤ 8 := by decide +kernel
theorem cond4_iff : ∀ i : grid0.Coords, k0_cond4 i = 1#1 ↔ 8 < (i 0).val := by decide +kernel
theorem cast_inb : ∀ i : grid0.Coords, ∀ a, k0_off1 i a + S1x512x1024.size a ≤ S2x4096x1024.size a := by decide +kernel
theorem slot_inb : ∀ i : grid0.Coords, ∀ a, k0_off3 i a + S1x4096x1024.size a ≤ S2x4096x1024.size a := by decide +kernel
theorem cast_off : ∀ i : grid0.Coords, k0_off1 i 0 = (i 0).val % 2 ∧ k0_off1 i 1 = 512 * (i 1).val ∧ k0_off1 i 2 = 0 := by decide +kernel
theorem slot_off : ∀ i : grid0.Coords, k0_off3 i 0 = ((i 0).val + 1) % 2 ∧ k0_off3 i 1 = 0 ∧ k0_off3 i 2 = 0 := by decide +kernel

/-- Where a point's weight block goes. -/
abbrev castR (i : grid0.Coords) : Rect S2x4096x1024 := Rect.unit (s := S2x4096x1024) (k0_off1 i) S1x512x1024.size (cast_inb i)
/-- The slot a point multiplies by. -/
abbrev slotR (i : grid0.Coords) : Rect S2x4096x1024 := Rect.unit (s := S2x4096x1024) (k0_off3 i) S1x4096x1024.size (slot_inb i)

theorem cast_packed (i : grid0.Coords) : (castR i).PackedRows (EltTy.packing .bf16) := by
  by_cases h : k0_cond1 i = 1#1
  · exact k0_off1_packedbf16 i h
  · have h0 : 0 < (i 0).val := Nat.pos_of_ne_zero fun hh => h ((cond1_iff i).mpr hh)
    by_cases h8 : (i 0).val ≤ 8
    · exact k0_off2_packedbf16 i ((cond3_iff i).mpr ⟨h0, h8⟩)
    · exact k0_off4_packedbf16 i ((cond4_iff i).mpr (Nat.lt_of_not_le h8))

theorem inb_rows (s : Fin 2) : ∀ a, (![512 * s.val, 0] : Fin 2 → ℕ) a + S512x4096.size a ≤ S1024x4096.size a := by
  have := s.isLt
  intro a; match a with
  | ⟨0, _⟩ => show 512 * s.val + 512 ≤ 1024; omega
  | ⟨1, _⟩ => show 0 + 4096 ≤ 4096; omega
theorem inb_tab (s : Fin 2) : ∀ a, (![512 * s.val, 0] : Fin 2 → ℕ) a + S512x128.size a ≤ S1024x128.size a := by
  have := s.isLt
  intro a; match a with
  | ⟨0, _⟩ => show 512 * s.val + 512 ≤ 1024; omega
  | ⟨1, _⟩ => show 0 + 128 ≤ 128; omega
theorem inb_slab (s : Fin 2) (h : Fin 4) : ∀ a, (![h.val, 512 * s.val, 0] : Fin 3 → ℕ) a + S1x512x256.size a ≤ S4x1024x256.size a := by
  have := s.isLt
  have := h.isLt
  intro a; match a with
  | ⟨0, _⟩ => show h.val + 1 ≤ 4; omega
  | ⟨1, _⟩ => show 512 * s.val + 512 ≤ 1024; omega
  | ⟨2, _⟩ => show 0 + 256 ≤ 256; omega

/-- Half `s` of the left operand's rows. -/
abbrev rowsR (s : Fin 2) : Rect S1024x4096 := Rect.unit (s := S1024x4096) ![512 * s.val, 0] S512x4096.size (inb_rows s)
/-- Half `s` of a rotation table's rows. -/
abbrev tabR (s : Fin 2) : Rect S1024x128 := Rect.unit (s := S1024x128) ![512 * s.val, 0] S512x128.size (inb_tab s)
/-- Half `s` of the rows of slab `h` of the output. -/
abbrev slabR (s : Fin 2) (h : Fin 4) : Rect S4x1024x256 := Rect.unit (s := S4x1024x256) ![h.val, 512 * s.val, 0] S1x512x256.size (inb_slab s h)

theorem slab_packed (s : Fin 2) (h : Fin 4) : (slabR s h).PackedRows (EltTy.packing .bf16) := by
  match s, h with
  | 0, 0 => exact packedbf16_S4x1024x256_S1x512x256_0_0_0
  | 0, 1 => exact packedbf16_S4x1024x256_S1x512x256_1_0_0
  | 0, 2 => exact packedbf16_S4x1024x256_S1x512x256_2_0_0
  | 0, 3 => exact packedbf16_S4x1024x256_S1x512x256_3_0_0
  | 1, 0 => exact packedbf16_S4x1024x256_S1x512x256_0_512_0
  | 1, 1 => exact packedbf16_S4x1024x256_S1x512x256_1_512_0
  | 1, 2 => exact packedbf16_S4x1024x256_S1x512x256_2_512_0
  | 1, 3 => exact packedbf16_S4x1024x256_S1x512x256_3_512_0

/-- The whole weight block. -/
abbrev wR : Rect S1x512x1024 := Rect.unit (s := S1x512x1024) ![0, 0, 0] S1x512x1024.size inb_S1x512x1024_S1x512x1024_0_0_0
/-- The whole of the conditioning column. -/
abbrev colR : Rect S4096x1 := Rect.unit (s := S4096x1) ![0, 0] S4096x1.size inb_S4096x1_S4096x1_0_0
/-- The whole of the second scratch. -/
abbrev sbR : Rect S4096x128 := Rect.unit (s := S4096x128) ![0, 0] S4096x128.size inb_S4096x128_S4096x128_0_0
/-- The first and the second half of a block of the modulation's weights. -/
abbrev awR0 : Rect S1x4096x256 := Rect.unit (s := S1x4096x256) ![0, 0, 0] S1x4096x128.size inb_S1x4096x256_S1x4096x128_0_0_0
abbrev awR1 : Rect S1x4096x256 := Rect.unit (s := S1x4096x256) ![0, 0, 128] S1x4096x128.size inb_S1x4096x256_S1x4096x128_0_0_128
/-- The whole block of the modulation's bias. -/
abbrev abR : Rect S1x1x256 := Rect.unit (s := S1x1x256) ![0, 0, 0] S1x1x256.size inb_S1x1x256_S1x1x256_0_0_0
/-- The whole block of the modulation. -/
abbrev moR : Rect S1x256 := Rect.unit (s := S1x256) ![0, 0] S1x256.size inb_S1x256_S1x256_0_0

/-! ## The values -/

/-- The rows of the product, rotated and scaled by the column's factor. -/
def accRot (i : grid0.Coords) (a : Vec F S512x4096 .bf16) (w : Vec F S1x4096x1024 .bf16) (u v : Vec F S512x128 .f32) : FVec F S512x1024 .f32 :=
  k0_pay31 (k0_pay17 (F := F) (BitVec.ofNat 32 (i 0).val)) a w u v
/-- The rows of the product. -/
def accPlain (a : Vec F S512x4096 .bf16) (w : Vec F S1x4096x1024 .bf16) : FVec F S512x1024 .f32 := k0_pay36 a w

/-- Slab `h` of the rows. -/
def slab0 (x : FVec F S512x1024 .f32) : FVec F S1x512x256 .bf16 :=
  k0_pay3 (truncf .bf16 (extractStridedSlice S512x256 ![0, 0] x slices_S512x1024_o0_0_S512x256) bitsLt_bf16_f32)
def slab1 (x : FVec F S512x1024 .f32) : FVec F S1x512x256 .bf16 := k0_pay4 x
def slab2 (x : FVec F S512x1024 .f32) : FVec F S1x512x256 .bf16 := k0_pay5 x
def slab3 (x : FVec F S512x1024 .f32) : FVec F S1x512x256 .bf16 := k0_pay6 x

/-! ## The steps -/

section
variable (i : grid0.Coords) (arg2 : Memref sig .tc .vmem S1024x4096 .bf16) (harg2 : arg2.IsWhole) (arg3 : Memref sig .tc .vmem S1x512x1024 .f32) (harg3 : arg3.IsWhole)
  (arg4 : Memref sig .tc .vmem S1024x128 .f32) (harg4 : arg4.IsWhole) (arg5 : Memref sig .tc .vmem S1024x128 .f32) (harg5 : arg5.IsWhole)
  (arg6 : Memref sig .tc .vmem S4096x1 .f32) (harg6 : arg6.IsWhole) (arg7 : Memref sig .tc .vmem S1x4096x256 .f32) (harg7 : arg7.IsWhole)
  (arg8 : Memref sig .tc .vmem S1x1x256 .f32) (harg8 : arg8.IsWhole) (arg9 : Memref sig .tc .vmem S4x1024x256 .bf16) (harg9 : arg9.IsWhole)
  (arg10 : Memref sig .tc .vmem S1x256 .f32) (harg10 : arg10.IsWhole) (arg11 : Memref sig .tc .vmem S2x4096x1024 .bf16) (harg11 : arg11.IsWhole)
  (arg12 : Memref sig .tc .vmem S4096x128 .f32) (harg12 : arg12.IsWhole)

/-- The weight block, cast, into its place in the scratch. -/
abbrev castStep : Prog (TpuEff nD τ sig (Elt F) Λ₀ .tc) PUnit := do
  let w : Vec F S1x512x1024 .f32 ← Prog.lift (.load arg3 wR.toLoadRect (View.loadsAt_vmem h_S1x512x1024))
  let _w : Vec F S1x512x1024 .bf16 ← Prog.lift (.load arg11 (castR i).toLoadRect (View.loadsAt_vmem h_S1x512x1024))
  Prog.lift (.store arg11 (castR i) (k0_pay1 w) Finset.univ (View.stores_vmem h_S1x512x1024 (harg11.storeExact_slice rfl _ (cast_packed i)) (fun _ => rfl)) (.inl rfl))

/-- The conditioning column through silu, over the lanes of the second scratch. -/
abbrev sbStep : Prog (TpuEff nD τ sig (Elt F) Λ₀ .tc) PUnit := do
  let v : Vec F S4096x1 .f32 ← Prog.lift (.load arg6 colR.toLoadRect (View.loadsAt_vmem h_S4096x1))
  let _v : Vec F S4096x128 .f32 ← Prog.lift (.load arg12 sbR.toLoadRect (View.loadsAt_vmem h_S4096x128))
  Prog.lift (.store arg12 sbR (k0_pay2 v) Finset.univ (View.stores_vmem_bits_univ h_S4096x128 rfl) (.inl rfl))

/-- A block of the modulation. -/
def sideStep : Prog (TpuEff nD τ sig (Elt F) Λ₀ .tc) PUnit := do
  let p : Vec F S1x4096x128 .f32 ← Prog.lift (.load arg7 awR0.toLoadRect (View.loadsAt_vmem h_S1x4096x128))
  let s : Vec F S4096x128 .f32 ← Prog.lift (.load arg12 sbR.toLoadRect (View.loadsAt_vmem h_S4096x128))
  let q : Vec F S1x4096x128 .f32 ← Prog.lift (.load arg7 awR1.toLoadRect (View.loadsAt_vmem h_S1x4096x128))
  let s' : Vec F S4096x128 .f32 ← Prog.lift (.load arg12 sbR.toLoadRect (View.loadsAt_vmem h_S4096x128))
  let b : Vec F S1x1x256 .f32 ← Prog.lift (.load arg8 abR.toLoadRect (View.loadsAt_vmem h_S1x1x256))
  let _o : Vec F S1x256 .f32 ← Prog.lift (.load arg10 moR.toLoadRect (View.loadsAt_vmem h_S1x256))
  Prog.lift (.store arg10 moR (k0_pay16 (k0_pay15 p s q s') b) Finset.univ (View.stores_vmem_bits_univ h_S1x256 rfl) (.inl rfl))

/-- Half `s` of the rows of the product, rotated. -/
def rotStep (s : Fin 2) : Prog (TpuEff nD τ sig (Elt F) Λ₀ .tc) (FVec F S512x1024 .f32) := do
  let a : Vec F S512x4096 .bf16 ← Prog.lift (.load arg2 (rowsR s).toLoadRect (View.loadsAt_vmem h_S512x4096))
  let w : Vec F S1x4096x1024 .bf16 ← Prog.lift (.load arg11 (slotR i).toLoadRect (View.loadsAt_vmem h_S1x4096x1024))
  let u : Vec F S512x128 .f32 ← Prog.lift (.load arg4 (tabR s).toLoadRect (View.loadsAt_vmem h_S512x128))
  let v : Vec F S512x128 .f32 ← Prog.lift (.load arg5 (tabR s).toLoadRect (View.loadsAt_vmem h_S512x128))
  pure (accRot i a w u v)

/-- Half `s` of the rows of the product. -/
def plainStep (s : Fin 2) : Prog (TpuEff nD τ sig (Elt F) Λ₀ .tc) (FVec F S512x1024 .f32) := do
  let a : Vec F S512x4096 .bf16 ← Prog.lift (.load arg2 (rowsR s).toLoadRect (View.loadsAt_vmem h_S512x4096))
  let w : Vec F S1x4096x1024 .bf16 ← Prog.lift (.load arg11 (slotR i).toLoadRect (View.loadsAt_vmem h_S1x4096x1024))
  pure (accPlain a w)

/-- Half `s` of the rows of slab `h` of the output. -/
def slabStep (s : Fin 2) (h : Fin 4) (x : FVec F S1x512x256 .bf16) : Prog (TpuEff nD τ sig (Elt F) Λ₀ .tc) PUnit := do
  let _o : Vec F S1x512x256 .bf16 ← Prog.lift (.load arg9 (slabR s h).toLoadRect (View.loadsAt_vmem h_S1x512x256))
  Prog.lift (.store arg9 (slabR s h) x Finset.univ (View.stores_vmem h_S1x512x256 (harg9.storeExact_slice rfl _ (slab_packed s h)) (fun _ => rfl)) (.inl rfl))

/-- Half `s` of the rows of the four slabs. -/
def outStep (s : Fin 2) (x : FVec F S512x1024 .f32) : Prog (TpuEff nD τ sig (Elt F) Λ₀ .tc) PUnit :=
  slabStep arg9 harg9 s 0 (slab0 x) >>= fun _ => slabStep arg9 harg9 s 1 (slab1 x) >>= fun _ => slabStep arg9 harg9 s 2 (slab2 x) >>= fun _ => slabStep arg9 harg9 s 3 (slab3 x)

theorem body_zero (h1 : k0_cond1 i = 1#1) (h2 : condS i = 1#1) (h3 : ¬k0_cond3 i = 1#1) (h4 : ¬k0_cond4 i = 1#1) :
    cc0_matmul1 (F := F) i arg2 harg2 arg3 harg3 arg4 harg4 arg5 harg5 arg6 harg6 arg7 harg7 arg8 harg8 arg9 harg9 arg10 harg10 arg11 harg11 arg12 harg12
      = castStep i arg3 arg11 harg11 >>= fun _ => sbStep arg6 arg12 >>= fun _ => pure ⟨⟩ := by
  rw [cc0_matmul1_eq_skeleton]
  unfold cc0_matmul1_skel
  unfold condS at h2
  dsimp only
  rw [dif_pos h1, dif_pos h2, dif_neg h3, dif_neg h4]
  rfl

theorem body_first (h1 : k0_cond1 i = 1#1) (h2 : ¬condS i = 1#1) (h3 : ¬k0_cond3 i = 1#1) (h4 : ¬k0_cond4 i = 1#1) :
    cc0_matmul1 (F := F) i arg2 harg2 arg3 harg3 arg4 harg4 arg5 harg5 arg6 harg6 arg7 harg7 arg8 harg8 arg9 harg9 arg10 harg10 arg11 harg11 arg12 harg12
      = castStep i arg3 arg11 harg11 >>= fun _ => pure ⟨⟩ := by
  rw [cc0_matmul1_eq_skeleton]
  unfold cc0_matmul1_skel
  unfold condS at h2
  dsimp only
  rw [dif_pos h1, dif_neg h2, dif_neg h3, dif_neg h4]
  rfl

theorem body_rot (h1 : ¬k0_cond1 i = 1#1) (h2 : ¬condS i = 1#1) (h3 : k0_cond3 i = 1#1) (h4 : ¬k0_cond4 i = 1#1) :
    cc0_matmul1 (F := F) i arg2 harg2 arg3 harg3 arg4 harg4 arg5 harg5 arg6 harg6 arg7 harg7 arg8 harg8 arg9 harg9 arg10 harg10 arg11 harg11 arg12 harg12
      = castStep i arg3 arg11 harg11 >>= fun _ => sideStep arg7 arg8 arg10 arg12 >>= fun _ => rotStep i arg2 arg4 arg5 arg11 0 >>= fun x => outStep arg9 harg9 0 x
        >>= fun _ => rotStep i arg2 arg4 arg5 arg11 1 >>= fun y => outStep arg9 harg9 1 y >>= fun _ => pure ⟨⟩ := by
  rw [cc0_matmul1_eq_skeleton]
  unfold cc0_matmul1_skel
  unfold condS at h2
  dsimp only
  rw [dif_neg h1, dif_neg h2, dif_pos h3, dif_neg h4, k0_part1_eq_skeleton, k0_part2_eq_skeleton, k0_part3_eq_skeleton, k0_part4_eq_skeleton]
  rfl

theorem body_plain (h1 : ¬k0_cond1 i = 1#1) (h2 : ¬condS i = 1#1) (h3 : ¬k0_cond3 i = 1#1) (h4 : k0_cond4 i = 1#1) :
    cc0_matmul1 (F := F) i arg2 harg2 arg3 harg3 arg4 harg4 arg5 harg5 arg6 harg6 arg7 harg7 arg8 harg8 arg9 harg9 arg10 harg10 arg11 harg11 arg12 harg12
      = castStep i arg3 arg11 harg11 >>= fun _ => sideStep arg7 arg8 arg10 arg12 >>= fun _ => plainStep i arg2 arg11 0 >>= fun x => outStep arg9 harg9 0 x
        >>= fun _ => plainStep i arg2 arg11 1 >>= fun y => outStep arg9 harg9 1 y >>= fun _ => pure ⟨⟩ := by
  rw [cc0_matmul1_eq_skeleton]
  unfold cc0_matmul1_skel
  unfold condS at h2
  dsimp only
  rw [dif_neg h1, dif_neg h2, dif_neg h3, dif_pos h4, k0_part5_eq_skeleton, k0_part6_eq_skeleton]
  rfl

/-! ## What a call leaves -/

/-- The scratch after a call. -/
def wbOut (x1 : Vec F S1x512x1024 .f32) (b : Vec F S2x4096x1024 .bf16) : Vec F S2x4096x1024 .bf16 := over (castR i) (k0_pay1 (ldR wR x1)) b

/-- The second scratch after the first point. -/
def sbNew (x4 : Vec F S4096x1 .f32) (s : Vec F S4096x128 .f32) : Vec F S4096x128 .f32 := over sbR (k0_pay2 (ldR colR x4)) s

open Classical in
/-- The second scratch after a call. -/
def sbOut (x4 : Vec F S4096x1 .f32) (s : Vec F S4096x128 .f32) : Vec F S4096x128 .f32 := if condS i = 1#1 then sbNew x4 s else s

/-- The block of the modulation. -/
def moNew (x5 : Vec F S1x4096x256 .f32) (x6 : Vec F S1x1x256 .f32) (s : Vec F S4096x128 .f32) (o : Vec F S1x256 .f32) : Vec F S1x256 .f32 :=
  over moR (k0_pay16 (k0_pay15 (ldR awR0 x5) (ldR sbR s) (ldR awR1 x5) (ldR sbR s)) (ldR abR x6)) o

open Classical in
/-- The block of the modulation after a call. -/
def moOut (x5 : Vec F S1x4096x256 .f32) (x6 : Vec F S1x1x256 .f32) (s : Vec F S4096x128 .f32) (o : Vec F S1x256 .f32) : Vec F S1x256 .f32 :=
  if k0_cond1 i = 1#1 then o else moNew x5 x6 s o

/-- Half `s` of the rows of the four slabs, overwritten. -/
def slabsOut (s : Fin 2) (x : FVec F S512x1024 .f32) (o : Vec F S4x1024x256 .bf16) : Vec F S4x1024x256 .bf16 :=
  over (slabR s 3) (slab3 x) (over (slabR s 2) (slab2 x) (over (slabR s 1) (slab1 x) (over (slabR s 0) (slab0 x) o)))

open Classical in
/-- Half `s` of the rows a call forms. -/
def acc (s : Fin 2) (x0 : Vec F S1024x4096 .bf16) (x2 x3 : Vec F S1024x128 .f32) (w : Vec F S1x4096x1024 .bf16) : FVec F S512x1024 .f32 :=
  if k0_cond3 i = 1#1 then accRot i (ldR (rowsR s) x0) w (ldR (tabR s) x2) (ldR (tabR s) x3) else accPlain (ldR (rowsR s) x0) w

/-- The output block from the rows a call forms. -/
def rowsOut (x0 : Vec F S1024x4096 .bf16) (x2 x3 : Vec F S1024x128 .f32) (w : Vec F S1x4096x1024 .bf16) (o : Vec F S4x1024x256 .bf16) : Vec F S4x1024x256 .bf16 :=
  slabsOut 1 (acc i 1 x0 x2 x3 w) (slabsOut 0 (acc i 0 x0 x2 x3 w) o)

open Classical in
/-- The output block after a call. -/
def oOut (x0 : Vec F S1024x4096 .bf16) (x1 : Vec F S1x512x1024 .f32) (x2 x3 : Vec F S1024x128 .f32) (b : Vec F S2x4096x1024 .bf16) (o : Vec F S4x1024x256 .bf16) :
    Vec F S4x1024x256 .bf16 :=
  if k0_cond1 i = 1#1 then o else rowsOut i x0 x2 x3 (ldR (slotR i) (wbOut i x1 b)) o

variable (c : Dev nD)

include harg7 harg8 harg10 harg12 in
theorem wp_sideStep (x5 : Vec F S1x4096x256 .f32) (x6 : Vec F S1x1x256 .f32) (s : Vec F S4096x128 .f32) (o : Vec F S1x256 .f32)
    (E : Set ℕ) {α : Type} (kk : PUnit → Prog (TpuEff nD τ sig (Elt F) Λ₀ .tc) α) (Q : α → sProp 𝕄) :
    iprop(owns (c : Thread nD τ) arg7 fullShare x5 ∗ owns (c : Thread nD τ) arg8 fullShare x6 ∗ owns (c : Thread nD τ) arg10 fullShare o ∗ owns (c : Thread nD τ) arg12 fullShare s
      ∗ (iprop(owns (c : Thread nD τ) arg7 fullShare x5 ∗ owns (c : Thread nD τ) arg8 fullShare x6 ∗ owns (c : Thread nD τ) arg10 fullShare (moNew x5 x6 s o) ∗ owns (c : Thread nD τ) arg12 fullShare s)
          -∗ wp frame (wpE (defs₀ (F := F)) Variants.none c none) E (kk ⟨⟩) Q))
    ⊢ wp frame (wpE (defs₀ (F := F)) Variants.none c none) E (sideStep arg7 arg8 arg10 arg12 >>= kk) Q := by
  unfold sideStep owns
  iintro ⟨⟨%f7, %hf7, H7⟩, ⟨%f8, %hf8, H8⟩, ⟨%f10, %hf10, H10⟩, ⟨%f12, %hf12, H12⟩, Hk⟩
  obtain rfl := harg7.eq_unread hf7; obtain rfl := harg8.eq_unread hf8; obtain rfl := harg10.eq_unread hf10; obtain rfl := harg12.eq_unread hf12
  sl_exec
  iapply Hk
  isplitl [H7]
  · iexists _; isplitr; · ipureintro; exact harg7.read_unread _
    iexact H7
  isplitl [H8]
  · iexists _; isplitr; · ipureintro; exact harg8.read_unread _
    iexact H8
  isplitl [H10]
  · iexists _; isplitr; swap; · iexact H10
    ipureintro
    rw [read_writes_one, harg10.read_unread]; erw [readAt_ldR harg7, readAt_ldR harg7, readAt_ldR harg12, readAt_ldR harg8]; rfl
  iexists _; isplitr; · ipureintro; exact harg12.read_unread _
  iexact H12

include harg2 harg4 harg5 harg11 in
theorem wp_rotStep (s : Fin 2) (x0 : Vec F S1024x4096 .bf16) (x2 x3 : Vec F S1024x128 .f32) (b : Vec F S2x4096x1024 .bf16)
    (E : Set ℕ) {α : Type} (kk : FVec F S512x1024 .f32 → Prog (TpuEff nD τ sig (Elt F) Λ₀ .tc) α) (Q : α → sProp 𝕄) :
    iprop(owns (c : Thread nD τ) arg2 fullShare x0 ∗ owns (c : Thread nD τ) arg4 fullShare x2 ∗ owns (c : Thread nD τ) arg5 fullShare x3 ∗ owns (c : Thread nD τ) arg11 fullShare b
      ∗ (iprop(owns (c : Thread nD τ) arg2 fullShare x0 ∗ owns (c : Thread nD τ) arg4 fullShare x2 ∗ owns (c : Thread nD τ) arg5 fullShare x3 ∗ owns (c : Thread nD τ) arg11 fullShare b)
          -∗ wp frame (wpE (defs₀ (F := F)) Variants.none c none) E (kk (accRot i (ldR (rowsR s) x0) (ldR (slotR i) b) (ldR (tabR s) x2) (ldR (tabR s) x3))) Q))
    ⊢ wp frame (wpE (defs₀ (F := F)) Variants.none c none) E (rotStep i arg2 arg4 arg5 arg11 s >>= kk) Q := by
  unfold rotStep owns
  iintro ⟨⟨%f2, %hf2, H2⟩, ⟨%f4, %hf4, H4⟩, ⟨%f5, %hf5, H5⟩, ⟨%f11, %hf11, H11⟩, Hk⟩
  obtain rfl := harg2.eq_unread hf2; obtain rfl := harg4.eq_unread hf4; obtain rfl := harg5.eq_unread hf5; obtain rfl := harg11.eq_unread hf11
  sl_exec
  erw [readAt_ldR harg2, readAt_ldR harg11, readAt_ldR harg4, readAt_ldR harg5]
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  iexists _; isplitr; · ipureintro; exact harg11.read_unread _
  iexact H11

include harg2 harg11 in
theorem wp_plainStep (s : Fin 2) (x0 : Vec F S1024x4096 .bf16) (b : Vec F S2x4096x1024 .bf16)
    (E : Set ℕ) {α : Type} (kk : FVec F S512x1024 .f32 → Prog (TpuEff nD τ sig (Elt F) Λ₀ .tc) α) (Q : α → sProp 𝕄) :
    iprop(owns (c : Thread nD τ) arg2 fullShare x0 ∗ owns (c : Thread nD τ) arg11 fullShare b
      ∗ (iprop(owns (c : Thread nD τ) arg2 fullShare x0 ∗ owns (c : Thread nD τ) arg11 fullShare b)
          -∗ wp frame (wpE (defs₀ (F := F)) Variants.none c none) E (kk (accPlain (ldR (rowsR s) x0) (ldR (slotR i) b))) Q))
    ⊢ wp frame (wpE (defs₀ (F := F)) Variants.none c none) E (plainStep i arg2 arg11 s >>= kk) Q := by
  unfold plainStep owns
  iintro ⟨⟨%f2, %hf2, H2⟩, ⟨%f11, %hf11, H11⟩, Hk⟩
  obtain rfl := harg2.eq_unread hf2; obtain rfl := harg11.eq_unread hf11
  sl_exec
  erw [readAt_ldR harg2, readAt_ldR harg11]
  iapply Hk
  isplitl [H2]
  · iexists _; isplitr; · ipureintro; exact harg2.read_unread _
    iexact H2
  iexists _; isplitr; · ipureintro; exact harg11.read_unread _
  iexact H11

theorem wp_slabStep (s : Fin 2) (h : Fin 4) (x : FVec F S1x512x256 .bf16) (o : Vec F S4x1024x256 .bf16)
    (E : Set ℕ) {α : Type} (kk : PUnit → Prog (TpuEff nD τ sig (Elt F) Λ₀ .tc) α) (Q : α → sProp 𝕄) :
    iprop(owns (c : Thread nD τ) arg9 fullShare o
      ∗ (iprop(owns (c : Thread nD τ) arg9 fullShare (over (slabR s h) x o))
          -∗ wp frame (wpE (defs₀ (F := F)) Variants.none c none) E (kk ⟨⟩) Q))
    ⊢ wp frame (wpE (defs₀ (F := F)) Variants.none c none) E (slabStep arg9 harg9 s h x >>= kk) Q := by
  unfold slabStep owns
  iintro ⟨⟨%f9, %hf9, H9⟩, Hk⟩
  obtain rfl := harg9.eq_unread hf9
  sl_exec
  iapply Hk
  iexists _; isplitr; swap; · iexact H9
  ipureintro
  rw [read_writes_one, harg9.read_unread]

theorem wp_outStep (s : Fin 2) (x : FVec F S512x1024 .f32) (o : Vec F S4x1024x256 .bf16)
    (E : Set ℕ) {α : Type} (kk : PUnit → Prog (TpuEff nD τ sig (Elt F) Λ₀ .tc) α) (Q : α → sProp 𝕄) :
    iprop(owns (c : Thread nD τ) arg9 fullShare o
      ∗ (iprop(owns (c : Thread nD τ) arg9 fullShare (slabsOut s x o)) -∗ wp frame (wpE (defs₀ (F := F)) Variants.none c none) E (kk ⟨⟩) Q))
    ⊢ wp frame (wpE (defs₀ (F := F)) Variants.none c none) E (outStep arg9 harg9 s x >>= kk) Q := by
  unfold outStep slabsOut
  iintro ⟨H, Hk⟩
  iapply (wp_slabStep arg9 harg9 c s 0 (slab0 x) o E)
  isplitl [H]; · iexact H
  iintro H
  iapply (wp_slabStep arg9 harg9 c s 1 (slab1 x) _ E)
  isplitl [H]; · iexact H
  iintro H
  iapply (wp_slabStep arg9 harg9 c s 2 (slab2 x) _ E)
  isplitl [H]; · iexact H
  iintro H
  iapply (wp_slabStep arg9 harg9 c s 3 (slab3 x) _ E)
  isplitl [H]; · iexact H
  iintro H
  iapply Hk
  iexact H

/-- The kernel's triple. -/
theorem wp_matmul1 (x0 : Vec F S1024x4096 .bf16) (x1 : Vec F S1x512x1024 .f32) (x2 x3 : Vec F S1024x128 .f32) (x4 : Vec F S4096x1 .f32) (x5 : Vec F S1x4096x256 .f32)
    (x6 : Vec F S1x1x256 .f32) (o : Vec F S4x1024x256 .bf16) (q : Vec F S1x256 .f32) (b : Vec F S2x4096x1024 .bf16) (s : Vec F S4096x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o ∗ owns (c : Thread nD τ) arg10 fullShare q ∗ owns (c : Thread nD τ) arg11 fullShare b ∗ owns (c : Thread nD τ) arg12 fullShare s
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (oOut i x0 x1 x2 x3 b o) ∗ owns (c : Thread nD τ) arg10 fullShare (moOut i x5 x6 s q) ∗ owns (c : Thread nD τ) arg11 fullShare (wbOut i x1 b) ∗ owns (c : Thread nD τ) arg12 fullShare (sbOut i x4 s))
          -∗ K ⟨⟩))
    ⊢ wp frame (wpE (defs₀ (F := F)) Variants.none c none) E (cc0_matmul1 i arg2 harg2 arg3 harg3 arg4 harg4 arg5 harg5 arg6 harg6 arg7 harg7 arg8 harg8 arg9 harg9 arg10 harg10 arg11 harg11 arg12 harg12) K := by
  by_cases h : (i 0).val = 0
  · have h1 : k0_cond1 i = 1#1 := (cond1_iff i).mpr h
    have h3 : ¬k0_cond3 i = 1#1 := fun hh => by have := (cond3_iff i).mp hh; omega
    have h4 : ¬k0_cond4 i = 1#1 := fun hh => by have := (cond4_iff i).mp hh; omega
    rw [oOut, if_pos h1, moOut, if_pos h1, sbOut]
    by_cases h2 : condS i = 1#1
    · rw [body_zero i arg2 harg2 arg3 harg3 arg4 harg4 arg5 harg5 arg6 harg6 arg7 harg7 arg8 harg8 arg9 harg9 arg10 harg10 arg11 harg11 arg12 harg12 h1 h2 h3 h4, if_pos h2]
      iintro ⟨H2, H3, H4, H5, H6, H7, H8, H9, H10, H11, H12, Hk⟩
      iapply (one c harg3 x1 b E)
      isplitl [H3]; · iexact H3
      isplitl [H11]; · iexact H11
      iintro ⟨H3, H11⟩
      iapply (one c harg6 x4 s E)
      isplitl [H6]; · iexact H6
      isplitl [H12]; · iexact H12
      iintro ⟨H6, H12⟩
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [body_first i arg2 harg2 arg3 harg3 arg4 harg4 arg5 harg5 arg6 harg6 arg7 harg7 arg8 harg8 arg9 harg9 arg10 harg10 arg11 harg11 arg12 harg12 h1 h2 h3 h4, if_neg h2]
      iintro ⟨H2, H3, H4, H5, H6, H7, H8, H9, H10, H11, H12, Hk⟩
      iapply (one c harg3 x1 b E)
      isplitl [H3]; · iexact H3
      isplitl [H11]; · iexact H11
      iintro ⟨H3, H11⟩
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
  · have h1 : ¬k0_cond1 i = 1#1 := fun hh => h ((cond1_iff i).mp hh)
    have h2 : ¬condS i = 1#1 := fun hh => h ((condS_iff i).mp hh).1
    rw [oOut, if_neg h1, moOut, if_neg h1, sbOut, if_neg h2]
    unfold rowsOut acc
    by_cases h8 : (i 0).val ≤ 8
    · have h3 : k0_cond3 i = 1#1 := (cond3_iff i).mpr ⟨by omega, h8⟩
      have h4 : ¬k0_cond4 i = 1#1 := fun hh => by have := (cond4_iff i).mp hh; omega
      rw [body_rot i arg2 harg2 arg3 harg3 arg4 harg4 arg5 harg5 arg6 harg6 arg7 harg7 arg8 harg8 arg9 harg9 arg10 harg10 arg11 harg11 arg12 harg12 h1 h2 h3 h4, if_pos h3, if_pos h3]
      iintro ⟨H2, H3, H4, H5, H6, H7, H8, H9, H10, H11, H12, Hk⟩
      iapply (one c harg3 x1 b E)
      isplitl [H3]; · iexact H3
      isplitl [H11]; · iexact H11
      iintro ⟨H3, H11⟩
      iapply (wp_sideStep arg7 harg7 arg8 harg8 arg10 harg10 arg12 harg12 c x5 x6 s q E)
      isplitl [H7]; · iexact H7
      isplitl [H8]; · iexact H8
      isplitl [H10]; · iexact H10
      isplitl [H12]; · iexact H12
      iintro ⟨H7, H8, H10, H12⟩
      iapply (wp_rotStep i arg2 harg2 arg4 harg4 arg5 harg5 arg11 harg11 c 0 x0 x2 x3 (wbOut i x1 b) E)
      isplitl [H2]; · iexact H2
      isplitl [H4]; · iexact H4
      isplitl [H5]; · iexact H5
      isplitl [H11]; · iexact H11
      iintro ⟨H2, H4, H5, H11⟩
      iapply (wp_outStep arg9 harg9 c 0 _ o E)
      isplitl [H9]; · iexact H9
      iintro H9
      iapply (wp_rotStep i arg2 harg2 arg4 harg4 arg5 harg5 arg11 harg11 c 1 x0 x2 x3 (wbOut i x1 b) E)
      isplitl [H2]; · iexact H2
      isplitl [H4]; · iexact H4
      isplitl [H5]; · iexact H5
      isplitl [H11]; · iexact H11
      iintro ⟨H2, H4, H5, H11⟩
      iapply (wp_outStep arg9 harg9 c 1 _ _ E)
      isplitl [H9]; · iexact H9
      iintro H9
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have h3 : ¬k0_cond3 i = 1#1 := fun hh => by have := (cond3_iff i).mp hh; omega
      have h4 : k0_cond4 i = 1#1 := (cond4_iff i).mpr (by omega)
      rw [body_plain i arg2 harg2 arg3 harg3 arg4 harg4 arg5 harg5 arg6 harg6 arg7 harg7 arg8 harg8 arg9 harg9 arg10 harg10 arg11 harg11 arg12 harg12 h1 h2 h3 h4, if_neg h3, if_neg h3]
      iintro ⟨H2, H3, H4, H5, H6, H7, H8, H9, H10, H11, H12, Hk⟩
      iapply (one c harg3 x1 b E)
      isplitl [H3]; · iexact H3
      isplitl [H11]; · iexact H11
      iintro ⟨H3, H11⟩
      iapply (wp_sideStep arg7 harg7 arg8 harg8 arg10 harg10 arg12 harg12 c x5 x6 s q E)
      isplitl [H7]; · iexact H7
      isplitl [H8]; · iexact H8
      isplitl [H10]; · iexact H10
      isplitl [H12]; · iexact H12
      iintro ⟨H7, H8, H10, H12⟩
      iapply (wp_plainStep i arg2 harg2 arg11 harg11 c 0 x0 (wbOut i x1 b) E)
      isplitl [H2]; · iexact H2
      isplitl [H11]; · iexact H11
      iintro ⟨H2, H11⟩
      iapply (wp_outStep arg9 harg9 c 0 _ o E)
      isplitl [H9]; · iexact H9
      iintro H9
      iapply (wp_plainStep i arg2 harg2 arg11 harg11 c 1 x0 (wbOut i x1 b) E)
      isplitl [H2]; · iexact H2
      isplitl [H11]; · iexact H11
      iintro ⟨H2, H11⟩
      iapply (wp_outStep arg9 harg9 c 1 _ _ E)
      isplitl [H9]; · iexact H9
      iintro H9
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

end

variable (m : (ℓ : Loc nD τ sig) → Buf (Elt F) ℓ) (ρ : Dev nD → PrngReg)

/-! ## The points -/

theorem N200 : cfg0.N = 200 := N_0

theorem coords0 (t : Fin cfg0.N) : (grid0.coords t 0).val = t.val / 8 := by
  have h : (grid0.coords t 0).val = t.val / 8 % 25 := Pipeline.Grid.coords_val t 0 (by decide) rfl
  have : t.val < 200 := Nat.lt_of_lt_of_eq t.isLt N200
  omega
theorem coords1 (t : Fin cfg0.N) : (grid0.coords t 1).val = t.val % 8 := by
  have h : (grid0.coords t 1).val = t.val / 1 % 8 := Pipeline.Grid.coords_val t 1 (by decide) rfl
  rw [h, Nat.div_one]

theorem cond1_not (t : Fin cfg0.N) (h : 8 ≤ t.val) : ¬k0_cond1 (grid0.coords t) = 1#1 := fun hh => by
  have := (cond1_iff _).mp hh
  rw [coords0] at this
  omega
theorem cond1_yes (t : Fin cfg0.N) (h : t.val < 8) : k0_cond1 (grid0.coords t) = 1#1 := (cond1_iff _).mpr (by rw [coords0]; omega)
theorem condS_yes (t : Fin cfg0.N) (h : t.val = 0) : condS (grid0.coords t) = 1#1 := (condS_iff _).mpr (by rw [coords0, coords1]; omega)
theorem condS_not (t : Fin cfg0.N) (h : 0 < t.val) : ¬condS (grid0.coords t) = 1#1 := fun hh => by
  have := (condS_iff _).mp hh
  rw [coords0, coords1] at this
  omega

theorem live7 : ∀ t : Fin cfg0.N, 8 ≤ t.val → cfg0.idle 7 (grid0.coords t) = false := by decide +kernel
theorem idle7 : ∀ t : Fin cfg0.N, t.val < 8 → cfg0.idle 7 (grid0.coords t) = true := by decide +kernel
theorem flush7_off : ∀ t : Fin cfg0.N, t.val < 8 → (cfg0.win 7).flush t = false := by decide +kernel

theorem live8 : ∀ t : Fin cfg0.N, 8 ≤ t.val → cfg0.idle 8 (grid0.coords t) = false := by decide +kernel
theorem idle8 : ∀ t : Fin cfg0.N, t.val < 8 → cfg0.idle 8 (grid0.coords t) = true := by decide +kernel
theorem flush8_off : ∀ t : Fin cfg0.N, t.val < 8 → (cfg0.win 8).flush t = false := by decide +kernel

/-! ## The scratch between points -/

/-- Where the points put their weight blocks, and where they read. -/
def lay : Lay cfg0.N 8 512 4096 where
  M_eq := rfl
  P_pos := by decide
  B_pos := by decide
  put t := k0_off1 (grid0.coords t)
  put_inb t := cast_inb (grid0.coords t)
  put_eq t := by have h := cast_off (grid0.coords t); rwa [coords0, coords1] at h
  get t := k0_off3 (grid0.coords t)
  get_inb t := slot_inb (grid0.coords t)
  get_eq t := by have h := slot_off (grid0.coords t); rwa [coords0] at h

/-- What a point casts: its weight block. -/
def castAt (c : Dev nD) (t : Fin cfg0.N) : Vec F S1x512x1024 .bf16 := k0_pay1 (ldR wR (iblk m c 1 t))

/-- What is known of the scratch before point `t`. -/
abbrev Agree (c : Dev nD) (t : ℕ) (b : Vec F S2x4096x1024 .bf16) : Prop := lay.Agree (castAt m c) t b

theorem Agree.succ {c : Dev nD} {t : Fin cfg0.N} {b : Vec F S2x4096x1024 .bf16} (h : Agree m c t.val b) :
    Agree m c (t.val + 1) (wbOut (grid0.coords t) (iblk m c 1 t) b) := Lay.Agree.succ lay (castAt m c) h

/-- The column of weights a point multiplies by. -/
def slotAt (c : Dev nD) (t : Fin cfg0.N) : Vec F S1x4096x1024 .bf16 := Lay.slot (P := 8) (castAt m c) (show 0 < 512 by decide) t

theorem slot_agree {c : Dev nD} {t : Fin cfg0.N} (h8 : 8 ≤ t.val) {b : Vec F S2x4096x1024 .bf16} (h : Agree m c (t.val + 1) b) :
    ldR (slotR (grid0.coords t)) b = slotAt m c t := Lay.slot_agree lay (castAt m c) h8 h

/-! ## The output block -/

/-- Slab `h` of the rows. -/
def slab (h : Fin 4) (x : FVec F S512x1024 .f32) : FVec F S1x512x256 .bf16 := match h with
  | 0 => slab0 x
  | 1 => slab1 x
  | 2 => slab2 x
  | 3 => slab3 x

theorem slabsOut_eq (s : Fin 2) (x : FVec F S512x1024 .f32) (o : Vec F S4x1024x256 .bf16) :
    slabsOut s x o = over (slabR s 3) (slab 3 x) (over (slabR s 2) (slab 2 x) (over (slabR s 1) (slab 1 x) (over (slabR s 0) (slab 0 x) o))) := rfl

theorem over_slab_hit (s : Fin 2) (h : Fin 4) (w : FVec F S1x512x256 .bf16) (o : Vec F S4x1024x256 .bf16) (z : S4x1024x256.Idx) (a : S1x512x256.Idx)
    (h0 : (z 0).val = h.val) (h1 : (z 1).val = 512 * s.val + (a 1).val) (h2 : (z 2).val = (a 2).val) : over (slabR s h) w o z = w a := by
  refine over_hit (slabR s h) w _ a z fun d => ?_
  have ha : (a 0).val < 1 := (a 0).isLt
  match d with
  | ⟨0, _⟩ => show (z 0).val = h.val + 1 * (a 0).val; omega
  | ⟨1, _⟩ => show (z 1).val = 512 * s.val + 1 * (a 1).val; omega
  | ⟨2, _⟩ => show (z 2).val = 0 + 1 * (a 2).val; omega

theorem over_slab_miss (s : Fin 2) (h : Fin 4) (w : FVec F S1x512x256 .bf16) (o : Vec F S4x1024x256 .bf16) (z : S4x1024x256.Idx)
    (hz : (z 0).val ≠ h.val) : over (slabR s h) w o z = o z :=
  over_miss_axis _ _ _ z 0 h.val 1 rfl rfl rfl (by omega)

theorem slabsOut_hit (s : Fin 2) (x : FVec F S512x1024 .f32) (o : Vec F S4x1024x256 .bf16) (z : S4x1024x256.Idx) (h : Fin 4) (a : S1x512x256.Idx)
    (h0 : (z 0).val = h.val) (h1 : (z 1).val = 512 * s.val + (a 1).val) (h2 : (z 2).val = (a 2).val) : slabsOut s x o z = slab h x a := by
  rw [slabsOut_eq]
  match h with
  | 3 => exact over_slab_hit s 3 _ _ z a h0 h1 h2
  | 2 =>
    rw [over_slab_miss s 3 _ _ z (by rw [h0]; decide)]
    exact over_slab_hit s 2 _ _ z a h0 h1 h2
  | 1 =>
    rw [over_slab_miss s 3 _ _ z (by rw [h0]; decide), over_slab_miss s 2 _ _ z (by rw [h0]; decide)]
    exact over_slab_hit s 1 _ _ z a h0 h1 h2
  | 0 =>
    rw [over_slab_miss s 3 _ _ z (by rw [h0]; decide), over_slab_miss s 2 _ _ z (by rw [h0]; decide), over_slab_miss s 1 _ _ z (by rw [h0]; decide)]
    exact over_slab_hit s 0 _ _ z a h0 h1 h2

theorem over_half_miss (s : Fin 2) (h : Fin 4) (w : FVec F S1x512x256 .bf16) (o : Vec F S4x1024x256 .bf16) (z : S4x1024x256.Idx)
    (hz : (z 1).val < 512 * s.val ∨ 512 * s.val + 512 ≤ (z 1).val) : over (slabR s h) w o z = o z :=
  over_miss_axis _ _ _ z 1 (512 * s.val) 512 rfl rfl rfl hz

theorem slabsOut_miss (s : Fin 2) (x : FVec F S512x1024 .f32) (o : Vec F S4x1024x256 .bf16) (z : S4x1024x256.Idx)
    (hz : (z 1).val < 512 * s.val ∨ 512 * s.val + 512 ≤ (z 1).val) : slabsOut s x o z = o z := by
  rw [slabsOut_eq, over_half_miss s 3 _ _ z hz, over_half_miss s 2 _ _ z hz, over_half_miss s 1 _ _ z hz, over_half_miss s 0 _ _ z hz]

theorem rowsOut_hit (i : grid0.Coords) (x0 : Vec F S1024x4096 .bf16) (x2 x3 : Vec F S1024x128 .f32) (w : Vec F S1x4096x1024 .bf16) (o : Vec F S4x1024x256 .bf16)
    (z : S4x1024x256.Idx) (s : Fin 2) (h : Fin 4) (a : S1x512x256.Idx)
    (h0 : (z 0).val = h.val) (h1 : (z 1).val = 512 * s.val + (a 1).val) (h2 : (z 2).val = (a 2).val) :
    rowsOut i x0 x2 x3 w o z = slab h (acc i s x0 x2 x3 w) a := by
  have ha : (a 1).val < 512 := (a 1).isLt
  unfold rowsOut
  match s with
  | 0 =>
    refine Eq.trans (slabsOut_miss 1 _ _ z (Or.inl (by rw [h1]; show 512 * 0 + (a 1).val < 512 * 1; omega))) ?_
    exact slabsOut_hit 0 _ _ z h a h0 h1 h2
  | 1 => exact slabsOut_hit 1 _ _ z h a h0 h1 h2

/-- An index of a slab's rows. -/
abbrev halfIx (r : Fin 512) (j : Fin 256) : S1x512x256.Idx := fun d => match d with
  | ⟨0, _⟩ => ⟨0, Nat.one_pos⟩
  | ⟨1, _⟩ => r
  | ⟨2, _⟩ => j

theorem rowsOut_indep (i : grid0.Coords) (x0 : Vec F S1024x4096 .bf16) (x2 x3 : Vec F S1024x128 .f32) (w : Vec F S1x4096x1024 .bf16) (o o' : Vec F S4x1024x256 .bf16) :
    rowsOut i x0 x2 x3 w o = rowsOut i x0 x2 x3 w o' := by
  funext z
  obtain ⟨s, r, hr⟩ := row_split (m := 2) (z 1).isLt
  rw [rowsOut_hit i x0 x2 x3 w o z s (z 0) (halfIx r (z 2)) rfl hr rfl, rowsOut_hit i x0 x2 x3 w o' z s (z 0) (halfIx r (z 2)) rfl hr rfl]

/-- The output block a point leaves. -/
def outAt (c : Dev nD) (t : Fin cfg0.N) : Vec F S4x1024x256 .bf16 :=
  rowsOut (grid0.coords t) (iblk m c 0 t) (iblk m c 2 t) (iblk m c 3 t) (slotAt m c t) (broadcast S4x1024x256 (Scalar.ofBits .bf16 0x0000#16 : F .bf16))

theorem out_agree {c : Dev nD} {t : Fin cfg0.N} (h8 : 8 ≤ t.val) {b : Vec F S2x4096x1024 .bf16} (h : Agree m c t.val b) (o : Vec F S4x1024x256 .bf16) :
    oOut (grid0.coords t) (iblk m c 0 t) (iblk m c 1 t) (iblk m c 2 t) (iblk m c 3 t) b o = outAt m c t := by
  unfold oOut outAt
  rw [if_neg (cond1_not t h8), slot_agree m h8 (Agree.succ m h)]
  exact rowsOut_indep _ _ _ _ _ _ _

theorem out_idle {t : Fin cfg0.N} (h8 : t.val < 8) (x0 : Vec F S1024x4096 .bf16) (x1 : Vec F S1x512x1024 .f32) (x2 x3 : Vec F S1024x128 .f32) (b : Vec F S2x4096x1024 .bf16)
    (o : Vec F S4x1024x256 .bf16) : oOut (grid0.coords t) x0 x1 x2 x3 b o = o := by
  unfold oOut
  rw [if_pos (cond1_yes t h8)]

/-! ## The modulation's block -/

/-- The first point. -/
def t0 : Fin cfg0.N := ⟨0, Nat.lt_of_lt_of_eq (by decide) N200.symm⟩

/-- The second scratch from the first point on. -/
def sbAt (c : Dev nD) : Vec F S4096x128 .f32 := k0_pay2 (ldR colR (iblk m c 4 t0))

theorem sbNew_eq (x4 : Vec F S4096x1 .f32) (s : Vec F S4096x128 .f32) : sbNew x4 s = k0_pay2 (ldR colR x4) := by
  funext z
  unfold sbNew
  refine over_hit sbR (k0_pay2 (ldR colR x4)) _ z z fun d => ?_
  match d with
  | ⟨0, _⟩ => show (z 0).val = 0 + 1 * (z 0).val; omega
  | ⟨1, _⟩ => show (z 1).val = 0 + 1 * (z 1).val; omega

theorem sb_step {c : Dev nD} {t : Fin cfg0.N} {s : Vec F S4096x128 .f32} (h : 0 < t.val → s = sbAt m c) :
    sbOut (grid0.coords t) (iblk m c 4 t) s = sbAt m c := by
  unfold sbOut
  by_cases ht : t.val = 0
  · rw [if_pos (condS_yes t ht)]
    obtain rfl : t = t0 := Fin.ext ht
    exact sbNew_eq _ _
  · rw [if_neg (condS_not t (Nat.pos_of_ne_zero ht))]
    exact h (Nat.pos_of_ne_zero ht)

theorem moNew_eq (x5 : Vec F S1x4096x256 .f32) (x6 : Vec F S1x1x256 .f32) (s : Vec F S4096x128 .f32) (o : Vec F S1x256 .f32) :
    moNew x5 x6 s o = k0_pay16 (k0_pay15 (ldR awR0 x5) (ldR sbR s) (ldR awR1 x5) (ldR sbR s)) (ldR abR x6) := by
  funext z
  unfold moNew
  refine over_hit moR (k0_pay16 (k0_pay15 (ldR awR0 x5) (ldR sbR s) (ldR awR1 x5) (ldR sbR s)) (ldR abR x6)) _ z z fun d => ?_
  match d with
  | ⟨0, _⟩ => show (z 0).val = 0 + 1 * (z 0).val; omega
  | ⟨1, _⟩ => show (z 1).val = 0 + 1 * (z 1).val; omega

/-- The modulation's block a point leaves. -/
def moAt (c : Dev nD) (t : Fin cfg0.N) : Vec F S1x256 .f32 :=
  k0_pay16 (k0_pay15 (ldR awR0 (iblk m c 5 t)) (ldR sbR (sbAt m c)) (ldR awR1 (iblk m c 5 t)) (ldR sbR (sbAt m c))) (ldR abR (iblk m c 6 t))

theorem mo_agree {c : Dev nD} {t : Fin cfg0.N} (h8 : 8 ≤ t.val) {s : Vec F S4096x128 .f32} (h : 0 < t.val → s = sbAt m c) (o : Vec F S1x256 .f32) :
    moOut (grid0.coords t) (iblk m c 5 t) (iblk m c 6 t) s o = moAt m c t := by
  unfold moOut moAt
  rw [if_neg (cond1_not t h8), h (by omega)]
  exact moNew_eq _ _ _ _

theorem mo_idle {t : Fin cfg0.N} (h8 : t.val < 8) (x5 : Vec F S1x4096x256 .f32) (x6 : Vec F S1x1x256 .f32) (s : Vec F S4096x128 .f32) (o : Vec F S1x256 .f32) :
    moOut (grid0.coords t) x5 x6 s o = o := by
  unfold moOut
  rw [if_pos (cond1_yes t h8)]

/-! ## The proof data -/

/-- The scratch operands. -/
abbrev sc0 : Memref sig .tc .vmem S2x4096x1024 .bf16 := Memref.whole cc0_scratch0
abbrev sc1 : Memref sig .tc .vmem S4096x128 .f32 := Memref.whole cc0_scratch1

theorem PhiA_eq (c : Dev nD) :
    (Pipeline.ΦA spec0 c : sProp 𝕄) = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before point `t`. -/
def PhiS (c : Dev nD) (t : ℕ) (_ : t ≤ cfg0.N) : sProp 𝕄 :=
  iprop(((∃ b, owns (c : Thread nD τ) sc0 fullShare b ∗ ⌜Agree m c t b⌝) ∗ (∃ s, owns (c : Thread nD τ) sc1 fullShare s ∗ ⌜0 < t → s = sbAt m c⌝)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => moAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem after_8 (c : Dev nD) (t : Fin cfg0.N) : (dats m 0 c).after 8 t = moAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

theorem leaves_7 (c : Dev nD) (t : Fin cfg0.N) (b : Vec F S2x4096x1024 .bf16) (h : Agree m c t.val b) (d) :
    owns (c : Thread nD τ) (st0_7 t) fullShare (oOut (grid0.coords t) (iblk m c 0 t) (iblk m c 1 t) (iblk m c 2 t) (iblk m c 3 t) b ((dats m 0 c).before 7 t d))
      ⊢ ((dats m 0 c).leavesExact 7 t : sProp 𝕄) := by
  by_cases h8 : t.val < 8
  · rw [Dat.leavesExact_idle _ 7 t (idle7 t h8) (flush7_off t h8), out_idle h8]
    iintro H
    iexists d
    iexact H
  · have h8' : 8 ≤ t.val := by omega
    rw [out_agree m h8' h, show (dats m 0 c).leavesExact 7 t = owns (c : Thread nD τ) (st0_7 t) fullShare ((dats m 0 c).after 7 t) from by
      unfold Dat.leavesExact; rw [live7 t h8'], after_7]

theorem leaves_8 (c : Dev nD) (t : Fin cfg0.N) (s : Vec F S4096x128 .f32) (h : 0 < t.val → s = sbAt m c) (d) :
    owns (c : Thread nD τ) (st0_8 t) fullShare (moOut (grid0.coords t) (iblk m c 5 t) (iblk m c 6 t) s ((dats m 0 c).before 8 t d))
      ⊢ ((dats m 0 c).leavesExact 8 t : sProp 𝕄) := by
  by_cases h8 : t.val < 8
  · rw [Dat.leavesExact_idle _ 8 t (idle8 t h8) (flush8_off t h8), mo_idle h8]
    iintro H
    iexists d
    iexact H
  · have h8' : 8 ≤ t.val := by omega
    rw [mo_agree m h8' h, show (dats m 0 c).leavesExact 8 t = owns (c : Thread nD τ) (st0_8 t) fullShare ((dats m 0 c).after 8 t) from by
      unfold Dat.leavesExact; rw [live8 t h8'], after_8]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  rw [show (dats m 0 c).leavesExact 3 t = owns (c : Thread nD τ) (st0_3 t) fullShare ((dats m 0 c).after 3 t) from rfl, after_3]
  rw [show (dats m 0 c).leavesExact 4 t = owns (c : Thread nD τ) (st0_4 t) fullShare ((dats m 0 c).after 4 t) from rfl, after_4]
  rw [show (dats m 0 c).leavesExact 5 t = owns (c : Thread nD τ) (st0_5 t) fullShare ((dats m 0 c).after 5 t) from rfl, after_5]
  rw [show (dats m 0 c).leavesExact 6 t = owns (c : Thread nD τ) (st0_6 t) fullShare ((dats m 0 c).after 6 t) from rfl, after_6]
  unfold PhiS
  iintro ⟨⟨⟨⟨%b, HS, %hag⟩, ⟨%s, HB, %hsb⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_matmul1 (grid0.coords t) (st0_0 t) _ (st0_1 t) _ (st0_2 t) _ (st0_3 t) _ (st0_4 t) _ (st0_5 t) _ (st0_6 t) _ (st0_7 t) _ (st0_8 t) _ sc0 _ sc1 _ c
    (iblk m c 0 t) (iblk m c 1 t) (iblk m c 2 t) (iblk m c 3 t) (iblk m c 4 t) (iblk m c 5 t) (iblk m c 6 t) ((dats m 0 c).before 7 t d7) ((dats m 0 c).before 8 t d8) b s Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  isplitl [HB]; · iexact HB
  iintro ⟨H0, H1, H2, H3, H4, H5, H6, H7, H8, HS, HB⟩
  isplitl [HS HB Hg]
  · isplitl [HS HB]
    · isplitl [HS]
      · iexists _
        isplitl [HS]; · iexact HS
        ipureintro
        exact Agree.succ m hag
      iexists _
      isplitl [HB]; · iexact HB
      ipureintro
      exact fun _ => sb_step m hsb
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_7 m c t b hag d7)
    iexact H7
  iapply (leaves_8 m c t s hsb d8)
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%b, H⟩, ⟨%s, HB⟩⟩, Hg⟩
  isplitl [H HB]
  · isplitl [H]
    · iexists b
      isplitl [H]; · iexact H
      ipureintro
      exact Lay.Agree.zero _ _ b
    iexists s
    isplitl [HB]; · iexact HB
    ipureintro
    exact fun h => absurd h (Nat.lt_irrefl 0)
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨⟨%b, H, %hag⟩, ⟨%s, HB, %hsb⟩⟩, Hg⟩
  isplitl [H HB]
  · isplitl [H]
    · iexists b; iexact H
    iexists s; iexact HB
  iexact Hg

/-! ## The run -/

set_option backward.isDefEq.respectTransparency.types false in
/-- Every execution terminates, with every window's array at what the points left and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_main m ρ)

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_main m ρ))

end Cert.Kernel6Ideal.Mm

end
-- ==== Proof.Sums.lean ====
/- Decayed sums over the reals: a sum over the rows before (or from) a row, cut at chunk boundaries, and the powers of a
   decay as the exponential computes them. -/
module

public import Idealize.ShloMosaic.Lib.Pointwise

@[expose] public section

noncomputable section

namespace Cert.Retention

open Idealize.ShloMosaic

/-! ## Decays -/

/-- The decay whose logarithm is `lg`. -/
def dec (lg : EReal) : ℝ := (Ideal.exp lg).toReal

/-- The exponential of a multiple of the logarithm is the power of the decay, the logarithm of zero included. -/
theorem exp_mul_dec {lg : EReal} (h : lg ≤ 0) (n : ℕ) : Ideal.exp (((n : ℝ) : EReal) * lg) = ((dec lg ^ n : ℝ) : EReal) := by
  induction lg using EReal.rec with
  | bot =>
    rcases Nat.eq_zero_or_pos n with rfl | hn
    · have e0 : (((0 : ℕ) : ℝ) : EReal) * ⊥ = ((0 : ℝ) : EReal) := by simp
      rw [e0, Ideal.exp_coe]; simp
    · have hp : (0 : ℝ) < (n : ℝ) := by exact_mod_cast hn
      rw [EReal.coe_mul_bot_of_pos hp]
      simp [dec, hn.ne']
  | coe r =>
    rw [← EReal.coe_mul, Ideal.exp_coe, Real.exp_nat_mul, dec, Ideal.exp_coe, EReal.toReal_coe]
  | top => exact absurd h (by simp)

/-- A 32-bit word of a small number is that number. -/
theorem sitofp_ofNat {a : ℕ} (h : a < 2147483648) : FloatOps.sitofp (F := Ideal) FTy.f32 (BitVec.ofNat 32 a) = ((a : ℝ) : EReal) := by
  have hi : (BitVec.ofNat 32 a).toInt = (a : ℤ) := by
    rw [BitVec.toInt_ofNat']; exact Int.bmod_eq_of_le (by omega) (by omega)
  show (((BitVec.ofNat 32 a).toInt : ℝ) : EReal) = _
  rw [hi]; norm_num

/-- The difference of two small numbers' words is their difference. -/
theorem sitofp_sub {a b : ℕ} (ha : a < 1073741824) (hb : b < 1073741824) :
    FloatOps.sitofp (F := Ideal) FTy.f32 (IntOp.subi (BitVec.ofNat 32 a) (BitVec.ofNat 32 b)) = (((a : ℝ) - (b : ℝ) : ℝ) : EReal) := by
  have hi : (IntOp.subi (BitVec.ofNat 32 a) (BitVec.ofNat 32 b)).toInt = (a : ℤ) - (b : ℤ) := by
    show (BitVec.ofNat 32 a - BitVec.ofNat 32 b).toInt = _
    rw [BitVec.toInt_sub, BitVec.toInt_ofNat', BitVec.toInt_ofNat', Int.bmod_eq_of_le (n := (a : ℤ)) (by omega) (by omega),
      Int.bmod_eq_of_le (n := (b : ℤ)) (by omega) (by omega)]
    exact Int.bmod_eq_of_le (by omega) (by omega)
  show (((IntOp.subi (BitVec.ofNat 32 a) (BitVec.ofNat 32 b)).toInt : ℝ) : EReal) = _
  rw [hi]; push_cast; rfl

/-- The decay between two rows as the exponential of the clamped difference, at a row not before the other. -/
theorem mask_of_le {lg : EReal} (h : lg ≤ 0) (a b : ℕ) :
    (if (0 : EReal) ≤ (((a : ℝ) - (b : ℝ) : ℝ) : EReal) then Ideal.exp (max (((a : ℝ) - (b : ℝ) : ℝ) : EReal) 0 * lg) else 0)
      = ((if b ≤ a then dec lg ^ (a - b) else 0 : ℝ) : EReal) := by
  by_cases hab : b ≤ a
  · have hr : (0 : ℝ) ≤ (a : ℝ) - (b : ℝ) := sub_nonneg.mpr (by exact_mod_cast hab)
    have hr' : (0 : EReal) ≤ (((a : ℝ) - (b : ℝ) : ℝ) : EReal) := by exact_mod_cast hr
    rw [if_pos hr', if_pos hab, max_eq_left hr', ← Nat.cast_sub hab, exp_mul_dec h]
  · have hr : ¬(0 : EReal) ≤ (((a : ℝ) - (b : ℝ) : ℝ) : EReal) := by
      rw [not_le]
      have : (a : ℝ) - (b : ℝ) < 0 := sub_neg.mpr (by exact_mod_cast (not_le.mp hab))
      exact_mod_cast this
    rw [if_neg hr, if_neg hab]; rfl

/-- The same in the other direction. -/
theorem mask_of_ge {lg : EReal} (h : lg ≤ 0) (a b : ℕ) :
    (if (((a : ℝ) - (b : ℝ) : ℝ) : EReal) ≤ 0 then Ideal.exp (max (0 - (((a : ℝ) - (b : ℝ) : ℝ) : EReal)) 0 * lg) else 0)
      = ((if a ≤ b then dec lg ^ (b - a) else 0 : ℝ) : EReal) := by
  have e : (0 : EReal) - (((a : ℝ) - (b : ℝ) : ℝ) : EReal) = (((b : ℝ) - (a : ℝ) : ℝ) : EReal) := by
    rw [← EReal.coe_zero, ← EReal.coe_sub]; congr 1; ring
  have hc : (((a : ℝ) - (b : ℝ) : ℝ) : EReal) ≤ 0 ↔ (0 : EReal) ≤ (((b : ℝ) - (a : ℝ) : ℝ) : EReal) := by
    rw [← EReal.coe_zero, EReal.coe_le_coe_iff, EReal.coe_le_coe_iff]
    constructor <;> intro h <;> linarith
  rw [e, ← mask_of_le h b a]
  simp only [hc]

/-! ## The logarithm of a decay -/

/-- The logarithm of the logistic function, as the host computes it. -/
def logSig (x : EReal) : EReal := -(max (-x) 0 + Ideal.log1p (Ideal.exp (-FloatOps.absf (F := Ideal) (φ := .f32) (-x))))

theorem exp_nonneg (x : EReal) : 0 ≤ Ideal.exp x := by
  induction x using EReal.rec with
  | bot => simp
  | coe r => rw [Ideal.exp_coe]; exact_mod_cast (Real.exp_pos r).le
  | top => simp

theorem log1p_nonneg {x : EReal} (h : 0 ≤ x) : 0 ≤ Ideal.log1p x := by
  unfold Ideal.log1p
  induction x using EReal.rec with
  | bot => exact absurd h (by simp)
  | coe r =>
    have hr : 0 ≤ r := by exact_mod_cast h
    have e : (1 : EReal) + (r : EReal) = ((1 + r : ℝ) : EReal) := by rw [EReal.coe_add, EReal.coe_one]
    rw [e, Ideal.log_coe, if_neg (by linarith)]
    exact_mod_cast Real.log_nonneg (by linarith)
  | top =>
    have e : (1 : EReal) + ⊤ = ⊤ := EReal.add_top_of_ne_bot (by rw [← EReal.coe_one]; exact EReal.coe_ne_bot 1)
    rw [e, Ideal.log_top]
    exact le_top

/-- A decay is at most one: its logarithm is not positive. -/
theorem logSig_nonpos (x : EReal) : logSig x ≤ 0 := by
  unfold logSig
  rw [EReal.neg_le, neg_zero]
  exact add_nonneg (le_max_right _ _) (log1p_nonneg (exp_nonneg _))

/-- The host's logarithm of the logistic function over a vector. -/
def logSigV (h : (⟨0, ![]⟩ : Shape).BroadcastsInDim ⟨1, ![16]⟩ ![]) (x : FVec Ideal ⟨1, ![16]⟩ .f32) : FVec Ideal ⟨1, ![16]⟩ .f32 :=
  let y : FVec Ideal ⟨1, ![16]⟩ .f32 := Host.negf x
  let z : FVec Ideal ⟨1, ![16]⟩ .f32 := broadcastInDim ⟨1, ![16]⟩ ![] h (constant ⟨0, ![]⟩ .f32 0x00000000#32)
  Host.negf (select (cmpf .une (subf y z) (subf y z)) (addf y z) (addf (maximumf y z) (Host.log1p (Host.exp (Host.negf (Host.absf (subf y z)))))))

theorem logSigV_at (h : (⟨0, ![]⟩ : Shape).BroadcastsInDim ⟨1, ![16]⟩ ![]) (x : FVec Ideal ⟨1, ![16]⟩ .f32) (e : Fin 16) :
    logSigV h x (ix1 e) = logSig (x (ix1 e)) := by
  unfold logSigV logSig
  pointwise []
  rw [if_neg (by simp)]

/-! ## Literals -/

theorem ofBits_255 : Ideal.ofBits .f32 0x437F0000#32 = ((255 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

/-! ## Sums of real numbers among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Decayed sums -/

/-- The sum over the rows before `n`, each decayed to row `n - 1`. -/
def fsum (γ : ℝ) (w : ℕ → ℝ) (n : ℕ) : ℝ := ∑ m ∈ Finset.range n, γ ^ (n - 1 - m) * w m

/-- The sum over the rows from `n` up to `N`, each decayed to row `n`. -/
def bsum (γ : ℝ) (w : ℕ → ℝ) (N n : ℕ) : ℝ := ∑ m ∈ Finset.Ico n N, γ ^ (m - n) * w m

/-- The weight of row `b` of a chunk at row `a` of it, from the rows up to `a`. -/
def lowW (γ : ℝ) (a b : ℕ) : ℝ := if b ≤ a then γ ^ (a - b) else 0

theorem fsum_zero (γ : ℝ) (w : ℕ → ℝ) : fsum γ w 0 = 0 := by simp [fsum]

theorem bsum_end (γ : ℝ) (w : ℕ → ℝ) (N : ℕ) : bsum γ w N N = 0 := by simp [bsum]

theorem fsum_add (γ : ℝ) (w : ℕ → ℝ) (n C : ℕ) :
    fsum γ w (n + C) = fsum γ w n * γ ^ C + ∑ r ∈ Finset.range C, γ ^ (C - 1 - r) * w (n + r) := by
  unfold fsum
  rw [Finset.sum_range_add, Finset.sum_mul]
  congr 1
  · refine Finset.sum_congr rfl fun m hm => ?_
    have : m < n := Finset.mem_range.mp hm
    rw [show n + C - 1 - m = (n - 1 - m) + C by omega, pow_add]; ring
  · refine Finset.sum_congr rfl fun r hr => ?_
    have : r < C := Finset.mem_range.mp hr
    rw [show n + C - 1 - (n + r) = C - 1 - r by omega]

theorem bsum_add (γ : ℝ) (w : ℕ → ℝ) (N n C : ℕ) (h : n + C ≤ N) :
    bsum γ w N n = bsum γ w N (n + C) * γ ^ C + ∑ r ∈ Finset.range C, γ ^ r * w (n + r) := by
  unfold bsum
  rw [← Finset.sum_Ico_consecutive _ (Nat.le_add_right n C) h, add_comm, Finset.sum_mul]
  congr 1
  · refine Finset.sum_congr rfl fun m hm => ?_
    have := (Finset.mem_Ico.mp hm).1
    rw [show m - n = (m - (n + C)) + C by omega, pow_add]; ring
  · rw [Finset.sum_Ico_eq_sum_range]
    rw [show n + C - n = C by omega]
    refine Finset.sum_congr rfl fun r _ => ?_
    rw [show n + r - n = r by omega]

/-- A row of the forward sum: the chunk's own rows, and the state before the chunk. -/
theorem fsum_row (γ : ℝ) (s : ℕ → ℝ) (R C a : ℕ) (ha : a < C) :
    fsum γ s (R + a + 1) = (∑ b ∈ Finset.range C, lowW γ a b * s (R + b)) + γ ^ (a + 1) * fsum γ s R := by
  rw [show R + a + 1 = R + (a + 1) by omega, fsum_add, add_comm, mul_comm (fsum γ s R)]
  congr 1
  rw [← Finset.sum_subset (Finset.range_mono (show a + 1 ≤ C by omega))]
  · refine Finset.sum_congr rfl fun b hb => ?_
    have : b < a + 1 := Finset.mem_range.mp hb
    rw [lowW, if_pos (by omega), show a + 1 - 1 - b = a - b by omega]
  · intro b _ hb
    have : ¬b < a + 1 := fun hh => hb (Finset.mem_range.mpr hh)
    rw [lowW, if_neg (by omega), zero_mul]

/-- A row of the backward sum: the chunk's own rows, and the state after the chunk. -/
theorem bsum_row (γ : ℝ) (s : ℕ → ℝ) (N R C a : ℕ) (ha : a < C) (h : R + C ≤ N) :
    bsum γ s N (R + a) = (∑ b ∈ Finset.range C, lowW γ b a * s (R + b)) + γ ^ (C - a) * bsum γ s N (R + C) := by
  rw [bsum_add γ s N (R + a) (C - a) (by omega), show R + a + (C - a) = R + C by omega, add_comm, mul_comm (bsum γ s N (R + C))]
  congr 1
  rw [Finset.range_eq_Ico (a := C), ← Finset.sum_Ico_consecutive (fun b => lowW γ b a * s (R + b)) (Nat.zero_le a) (le_of_lt ha)]
  rw [Finset.sum_eq_zero (s := Finset.Ico 0 a), zero_add, Finset.sum_Ico_eq_sum_range]
  · refine Finset.sum_congr rfl fun r _ => ?_
    rw [lowW, if_pos (by omega), show a + r - a = r by omega, show R + a + r = R + (a + r) by omega]
  · intro b hb
    have := (Finset.mem_Ico.mp hb).2
    rw [lowW, if_neg (by omega), zero_mul]

/-- The forward sum of the reversed rows is the backward sum. -/
theorem fsum_rev (γ : ℝ) (s : ℕ → ℝ) (N p : ℕ) (hp : p < N) :
    fsum γ (fun m => s (N - 1 - m)) (p + 1) = bsum γ s N (N - 1 - p) := by
  unfold fsum bsum
  refine Finset.sum_nbij' (fun m => N - 1 - m) (fun m => N - 1 - m) ?_ ?_ ?_ ?_ ?_
  · intro m hm; have := Finset.mem_range.mp hm; exact Finset.mem_Ico.mpr ⟨by omega, by omega⟩
  · intro m hm; have := Finset.mem_Ico.mp hm; exact Finset.mem_range.mpr (by omega)
  · intro m hm; have := Finset.mem_range.mp hm; show N - 1 - (N - 1 - m) = m; omega
  · intro m hm; have := Finset.mem_Ico.mp hm; show N - 1 - (N - 1 - m) = m; omega
  · intro m hm
    have := Finset.mem_range.mp hm
    show γ ^ (p + 1 - 1 - m) * s (N - 1 - m) = γ ^ (N - 1 - m - (N - 1 - p)) * s (N - 1 - m)
    rw [show N - 1 - m - (N - 1 - p) = p + 1 - 1 - m by omega]

/-- A decayed sum against a row of queries, taken inside. -/
theorem fsum_dot {D : ℕ} (γ : ℝ) (q : Fin D → ℝ) (K : ℕ → Fin D → ℝ) (v : ℕ → ℝ) (n : ℕ) :
    ∑ x, q x * fsum γ (fun m => K m x * v m) n = fsum γ (fun m => (∑ x, q x * K m x) * v m) n := by
  unfold fsum
  simp only [Finset.mul_sum, Finset.sum_mul]
  rw [Finset.sum_comm]
  refine Finset.sum_congr rfl fun m _ => Finset.sum_congr rfl fun x _ => ?_
  ring

theorem bsum_dot {D : ℕ} (γ : ℝ) (q : Fin D → ℝ) (K : ℕ → Fin D → ℝ) (v : ℕ → ℝ) (N n : ℕ) :
    ∑ x, q x * bsum γ (fun m => K m x * v m) N n = bsum γ (fun m => (∑ x, q x * K m x) * v m) N n := by
  unfold bsum
  simp only [Finset.mul_sum, Finset.sum_mul]
  rw [Finset.sum_comm]
  refine Finset.sum_congr rfl fun m _ => Finset.sum_congr rfl fun x _ => ?_
  ring

/-! ## The retention of one head, and what is made of one of its rows -/

/-- A row's score against row `m`, times that row's value. -/
def score {D : ℕ} (Q K : ℕ → Fin D → ℝ) (V : ℕ → ℝ) (n m : ℕ) : ℝ := (∑ d, Q n d * K m d) * V m

/-- Row `n` of the retention: the decayed rows up to it and the decayed rows from it on. -/
def retRow {D : ℕ} (γf γb : ℝ) (Q K : ℕ → Fin D → ℝ) (V : ℕ → ℝ) (N n : ℕ) : ℝ :=
  fsum γf (score Q K V n) (n + 1) + bsum γb (score Q K V n) N n

/-- A row of 512 normalised, scaled and gated. -/
def rowOut (Y : Fin 512 → EReal) (gn g : EReal) (e : Fin 512) : EReal :=
  g * Ideal.logistic g * ((Y e - Ideal.div (∑ x, Y x) (Ideal.ofBits .f32 0x44000000#32))
    * Ideal.rsqrt (Ideal.div (∑ x, (Y x - Ideal.div (∑ x, Y x) (Ideal.ofBits .f32 0x44000000#32))
        * (Y x - Ideal.div (∑ x, Y x) (Ideal.ofBits .f32 0x44000000#32))) (Ideal.ofBits .f32 0x44000000#32)
      + Ideal.ofBits .f32 0x358637BD#32) * gn)

end Cert.Retention

end
-- ==== Proof.WinVal.lean ====
/- The projections' values: an entry of the rotated and scaled product, and a column of the modulation, over the reals. -/
module

public import proofs.«01_k».proof.Proof.Sums
public import Idealize.ShloMosaic.Lib.Pointwise

@[expose] public section

noncomputable section

namespace Cert.WinVal

open Idealize.ShloMosaic Idealize.ShloMosaic.TcCoe

/-- The factor of the keys, a sixteenth. -/
def keyFac : EReal := Ideal.ofBits .f32 0x3D800000#32

theorem keyFac_eq : keyFac = ((1 / 16 : ℝ) : EReal) := by
  unfold keyFac
  simp [Ideal.ofBits, Ideal.ieee, -EReal.coe_mul]; norm_num

theorem ofBits_one : Ideal.ofBits .f32 0x3F800000#32 = (1 : EReal) := by
  rw [show (1 : EReal) = ((1 : ℝ) : EReal) from rfl]
  simp only [Ideal.ofBits, Ideal.ieee]
  refine congrArg ((↑) : ℝ → EReal) ?_
  simp
  norm_num

theorem keyFac_nonneg : 0 ≤ keyFac := by
  rw [keyFac_eq]; exact EReal.coe_nonneg.mpr (by norm_num)

theorem keyFac_ne_top : keyFac ≠ ⊤ := by
  rw [keyFac_eq]; exact EReal.coe_ne_top _

/-- A scaled table rotates to the scaled rotation. -/
theorem rot_scale (x y u v s : EReal) (h0 : 0 ≤ s) (h1 : s ≠ ⊤) : x * (u * s) + y * (v * s) = (x * u + y * v) * s := by
  rw [EReal.right_distrib_of_nonneg_of_ne_top h0 h1, mul_assoc, mul_assoc]

theorem rot_scale_sub (x y u v s : EReal) (h0 : 0 ≤ s) (h1 : s ≠ ⊤) : x * (u * s) - y * (v * s) = (x * u - y * v) * s := by
  rw [sub_eq_add_neg, sub_eq_add_neg, EReal.right_distrib_of_nonneg_of_ne_top h0 h1, mul_assoc, EReal.neg_mul, mul_assoc]

/-- An entry of the product. -/
@[irreducible] def proj (A : (⟨2, ![8192, 4096]⟩ : Shape).Idx → EReal) (W : (⟨3, ![1, 4096, 24576]⟩ : Shape).Idx → EReal) (R : Fin 8192) (J : Fin 24576) : EReal :=
  ∑ k : Fin 4096, A (ix2 R k) * W (ix3 0 k J)

/-- The product's column of entry `n` of head `H`. -/
def colOf (H : Fin 96) (n : ℕ) (h : n < 256) : Fin 24576 := ⟨256 * H.val + n, by omega⟩

/-- The first half of a head's row, rotated. -/
def rotLo (p : Fin 24576 → EReal) (u v : Fin 128 → EReal) (H : Fin 96) (l : Fin 128) : EReal :=
  p (colOf H l.val (by omega)) * u l - p (colOf H (128 + l.val) (by omega)) * v l
/-- The second half of a head's row, rotated. -/
def rotHi (p : Fin 24576 → EReal) (u v : Fin 128 → EReal) (H : Fin 96) (l : Fin 128) : EReal :=
  p (colOf H l.val (by omega)) * v l + p (colOf H (128 + l.val) (by omega)) * u l

/-- A head's row, rotated. -/
def rot (p : Fin 24576 → EReal) (u v : Fin 128 → EReal) (H : Fin 96) (C : Fin 256) : EReal :=
  if h : C.val < 128 then rotLo p u v H ⟨C.val, h⟩ else rotHi p u v H ⟨C.val - 128, by omega⟩

/-- An entry of a head: rotated for the queries, rotated and scaled for the keys, plain for the rest. -/
def head (p : Fin 24576 → EReal) (u v : Fin 128 → EReal) (H : Fin 96) (C : Fin 256) : EReal :=
  if H.val < 16 then rot p u v H C else if H.val < 32 then rot p u v H C * keyFac else p (colOf H C.val C.isLt)

/-- An entry of the result. -/
@[irreducible] def entry (A : (⟨2, ![8192, 4096]⟩ : Shape).Idx → EReal) (W : (⟨3, ![1, 4096, 24576]⟩ : Shape).Idx → EReal)
    (u v : (⟨2, ![8192, 128]⟩ : Shape).Idx → EReal) (H : Fin 96) (R : Fin 8192) (C : Fin 256) : EReal :=
  head (proj A W R) (fun l => u (ix2 R l)) (fun l => v (ix2 R l)) H C

/-- A column of the modulation of one layer. -/
@[irreducible] def modc (x : (⟨2, ![1, 4096]⟩ : Shape).Idx → EReal) (aw : (⟨3, ![2, 4096, 24576]⟩ : Shape).Idx → EReal) (ab : (⟨2, ![2, 24576]⟩ : Shape).Idx → EReal)
    (L : Fin 2) (j : Fin 24576) : EReal :=
  (∑ k : Fin 4096, (x (ix2 0 k) * Ideal.logistic (x (ix2 0 k))) * aw (ix3 L k j)) + ab (ix2 L j)

end Cert.WinVal

end
-- ==== Proof.WinVals.lean ====
/- The projections' blocks over the reals: what a point's values are, entry by entry. -/
module

public import proofs.«01_k».proof.Proof.WinRun
public import proofs.«01_k».proof.Proof.WinVal

@[expose] public section

set_option maxRecDepth 16384

noncomputable section

namespace Cert.Kernel6Ideal.Mm

open Idealize.ShloMosaic Idealize.ShloMosaic.TcCoe
open Cert.Kernel6Ideal Cert.Kernel6Ideal.Gen Cert.Rects Cert.WinVal

theorem pay1_at (w : Vec Ideal S1x512x1024 .f32) (k : Fin 512) (j : Fin 1024) : k0_pay1 (F := Ideal) w (ix3 0 k j) = w (ix3 0 k j) := by
  pointwise [k0_pay1]

/-- An entry of the product of half the rows by a slot. -/
def prodAt (a : Vec Ideal S512x4096 .bf16) (w : Vec Ideal S1x4096x1024 .bf16) (r : Fin 512) (j : Fin 1024) : EReal := ∑ k : Fin 4096, a (ix2 r k) * w (ix3 0 k j)

theorem plain_at (a : Vec Ideal S512x4096 .bf16) (w : Vec Ideal S1x4096x1024 .bf16) (r : Fin 512) (j : Fin 1024) : accPlain (F := Ideal) a w (ix2 r j) = prodAt a w r j := by
  unfold accPlain prodAt
  pointwise [k0_pay36]

/-- A half of one of the four heads of a block, and the four heads' rotation. -/
def piece (x : FVec Ideal S512x1024 .f32) (n : ℕ) (h : S512x1024.Slices ![0, n] S512x128) : FVec Ideal S512x128 .f32 := extractStridedSlice S512x128 ![0, n] x h
def lo4 (a b u v : FVec Ideal S512x128 .f32) : FVec Ideal S512x128 .f32 := subf (mulf a u) (mulf b v)
def hi4 (a b u v : FVec Ideal S512x128 .f32) : FVec Ideal S512x128 .f32 := addf (mulf a v) (mulf b u)

/-- Eight blocks of lanes, side by side. -/
def cat8 (Y : Fin 8 → FVec Ideal S512x128 .f32) : FVec Ideal S512x1024 .f32 :=
  concatenate S512x1024 1 [⟨S512x128, Y 0⟩, ⟨S512x128, Y 1⟩, ⟨S512x128, Y 2⟩, ⟨S512x128, Y 3⟩, ⟨S512x128, Y 4⟩, ⟨S512x128, Y 5⟩, ⟨S512x128, Y 6⟩, ⟨S512x128, Y 7⟩]
    concatenates_S512x128_S512x128_S512x128_S512x128_S512x128_S512x128_S512x128_S512x128_S512x1024_d1

theorem same_ix (Y : Fin 8 → FVec Ideal S512x128 .f32) (r : Fin 512) (a a' : Fin 8) (b b' : Fin 128) (ha : a.val = a'.val) (hb : b.val = b'.val) :
    Y a (ix2 r b) = Y a' (ix2 r b') := by
  rw [Fin.ext ha, Fin.ext hb]

theorem cat8_at (Y : Fin 8 → FVec Ideal S512x128 .f32) (r : Fin 512) (a : Fin 8) (l : Fin 128) (j : Fin 1024) (hj : j.val = 128 * a.val + l.val) :
    cat8 Y (ix2 r j) = Y a (ix2 r l) := by
  have hl := l.isLt
  have ha := a.isLt
  unfold cat8
  pointwise []
  split_ifs
  all_goals
    refine same_ix Y r _ _ _ _ ?_ ?_
    all_goals
      simp
      omega

/-- The first and the second half of head `h`. -/
def loOf (x : FVec Ideal S512x1024 .f32) : Fin 4 → FVec Ideal S512x128 .f32
  | 0 => piece x 0 slices_S512x1024_o0_0_S512x128
  | 1 => piece x 256 slices_S512x1024_o0_256_S512x128
  | 2 => piece x 512 slices_S512x1024_o0_512_S512x128
  | 3 => piece x 768 slices_S512x1024_o0_768_S512x128
def hiOf (x : FVec Ideal S512x1024 .f32) : Fin 4 → FVec Ideal S512x128 .f32
  | 0 => piece x 128 slices_S512x1024_o0_128_S512x128
  | 1 => piece x 384 slices_S512x1024_o0_384_S512x128
  | 2 => piece x 640 slices_S512x1024_o0_640_S512x128
  | 3 => piece x 896 slices_S512x1024_o0_896_S512x128

/-- The eight halves, rotated. -/
def rotY (x : FVec Ideal S512x1024 .f32) (u v : FVec Ideal S512x128 .f32) : Fin 8 → FVec Ideal S512x128 .f32
  | 0 => lo4 (loOf x 0) (hiOf x 0) u v
  | 1 => hi4 (loOf x 0) (hiOf x 0) u v
  | 2 => lo4 (loOf x 1) (hiOf x 1) u v
  | 3 => hi4 (loOf x 1) (hiOf x 1) u v
  | 4 => lo4 (loOf x 2) (hiOf x 2) u v
  | 5 => hi4 (loOf x 2) (hiOf x 2) u v
  | 6 => lo4 (loOf x 3) (hiOf x 3) u v
  | 7 => hi4 (loOf x 3) (hiOf x 3) u v

theorem rotY_lo (x : FVec Ideal S512x1024 .f32) (u v : FVec Ideal S512x128 .f32) : ∀ h : Fin 4, rotY x u v ⟨2 * h.val, by omega⟩ = lo4 (loOf x h) (hiOf x h) u v
  | 0 | 1 | 2 | 3 => rfl
theorem rotY_hi (x : FVec Ideal S512x1024 .f32) (u v : FVec Ideal S512x128 .f32) : ∀ h : Fin 4, rotY x u v ⟨2 * h.val + 1, by omega⟩ = hi4 (loOf x h) (hiOf x h) u v
  | 0 | 1 | 2 | 3 => rfl

def rot4 (x : FVec Ideal S512x1024 .f32) (u v : FVec Ideal S512x128 .f32) : FVec Ideal S512x1024 .f32 := cat8 (rotY x u v)

theorem piece_at (x : FVec Ideal S512x1024 .f32) (n : ℕ) (h : S512x1024.Slices ![0, n] S512x128) (r : Fin 512) (l : Fin 128) (j : Fin 1024) (hj : j.val = n + l.val) :
    piece x n h (ix2 r l) = x (ix2 r j) := by
  unfold piece
  pointwise []
  exact congrArg (fun j => x (ix2 r j)) (Fin.ext hj.symm)

/-- A table scaled by a point's factor. -/
def scaledT (s : EReal) (u : Vec Ideal S512x128 .f32) : FVec Ideal S512x128 .f32 :=
  mulf (shapeCast S512x128 u shapeCasts_S512x128_S512x128) (broadcast S512x128 (s : Ideal .f32))

theorem rot_eq (i : grid0.Coords) (a : Vec Ideal S512x4096 .bf16) (w : Vec Ideal S1x4096x1024 .bf16) (u v : Vec Ideal S512x128 .f32) :
    accRot (F := Ideal) i a w u v
      = rot4 (accPlain a w) (scaledT (k0_pay17 (F := Ideal) (BitVec.ofNat 32 (i 0).val)) u) (scaledT (k0_pay17 (F := Ideal) (BitVec.ofNat 32 (i 0).val)) v) := rfl

theorem scaledT_at (s : EReal) (u : Vec Ideal S512x128 .f32) (r : Fin 512) (l : Fin 128) : scaledT s u (ix2 r l) = u (ix2 r l) * s := by
  unfold scaledT
  pointwise []

theorem lo4_at (a b u v : FVec Ideal S512x128 .f32) (r : Fin 512) (l : Fin 128) :
    lo4 a b u v (ix2 r l) = a (ix2 r l) * u (ix2 r l) - b (ix2 r l) * v (ix2 r l) := by
  unfold lo4
  pointwise []
theorem hi4_at (a b u v : FVec Ideal S512x128 .f32) (r : Fin 512) (l : Fin 128) :
    hi4 a b u v (ix2 r l) = a (ix2 r l) * v (ix2 r l) + b (ix2 r l) * u (ix2 r l) := by
  unfold hi4
  pointwise []

theorem loOf_at (x : FVec Ideal S512x1024 .f32) (r : Fin 512) (l : Fin 128) (j : Fin 1024) : ∀ h : Fin 4, j.val = 256 * h.val + l.val → loOf x h (ix2 r l) = x (ix2 r j)
  | 0, e | 1, e | 2, e | 3, e => piece_at x _ _ r l j e
theorem hiOf_at (x : FVec Ideal S512x1024 .f32) (r : Fin 512) (l : Fin 128) (j : Fin 1024) (h : Fin 4) (e : j.val = 256 * h.val + (128 + l.val)) : hiOf x h (ix2 r l) = x (ix2 r j) := by
  rw [← Nat.add_assoc] at e
  match h, e with
  | 0, e | 1, e | 2, e | 3, e => exact piece_at x _ _ r l j e

theorem rot4_lo (x : FVec Ideal S512x1024 .f32) (u v : FVec Ideal S512x128 .f32) (r : Fin 512) (h : Fin 4) (l : Fin 128) (j j0 j1 : Fin 1024)
    (hj : j.val = 256 * h.val + (0 + l.val)) (h0 : j0.val = 256 * h.val + l.val) (h1 : j1.val = 256 * h.val + (128 + l.val)) :
    rot4 x u v (ix2 r j) = x (ix2 r j0) * u (ix2 r l) - x (ix2 r j1) * v (ix2 r l) := by
  rw [rot4, cat8_at _ r ⟨2 * h.val, by omega⟩ l j (by rw [hj]; show _ = 128 * (2 * h.val) + _; omega), rotY_lo, lo4_at, loOf_at x r l j0 h h0, hiOf_at x r l j1 h h1]

theorem rot4_hi (x : FVec Ideal S512x1024 .f32) (u v : FVec Ideal S512x128 .f32) (r : Fin 512) (h : Fin 4) (l : Fin 128) (j j0 j1 : Fin 1024)
    (hj : j.val = 256 * h.val + (128 + l.val)) (h0 : j0.val = 256 * h.val + l.val) (h1 : j1.val = 256 * h.val + (128 + l.val)) :
    rot4 x u v (ix2 r j) = x (ix2 r j0) * v (ix2 r l) + x (ix2 r j1) * u (ix2 r l) := by
  rw [rot4, cat8_at _ r ⟨2 * h.val + 1, by omega⟩ l j (by rw [hj]; show _ = 128 * (2 * h.val + 1) + _; omega), rotY_hi, hi4_at, loOf_at x r l j0 h h0, hiOf_at x r l j1 h h1]

/-- A point's factor: a sixteenth for the keys' columns, one for the queries'. -/
theorem fac_bit : ∀ i : grid0.Coords, 0 < (i 0).val → (i 0).val ≤ 8 →
    Scalar.cmpi .sge (Scalar.subi (BitVec.ofNat 32 (i 0).val) 1#32) 4#32 = if 5 ≤ (i 0).val then 1#1 else 0#1 := by decide +kernel

theorem fac_key (i : grid0.Coords) (h : 5 ≤ (i 0).val) (h8 : (i 0).val ≤ 8) : k0_pay17 (F := Ideal) (BitVec.ofNat 32 (i 0).val) = keyFac := by
  unfold k0_pay17
  dsimp only
  rw [fac_bit i (by omega) h8, if_pos h]
  rfl

theorem fac_query (i : grid0.Coords) (h : 0 < (i 0).val) (h4 : (i 0).val ≤ 4) : k0_pay17 (F := Ideal) (BitVec.ofNat 32 (i 0).val) = (1 : EReal) := by
  unfold k0_pay17
  dsimp only
  rw [fac_bit i h (by omega), if_neg (by omega)]
  exact ofBits_one

/-- The rows a point forms, by head: with the product's columns and the tables' rows named, an entry of the head. -/
theorem acc_at (i : grid0.Coords) (s : Fin 2) (x0 : Vec Ideal S1024x4096 .bf16) (x2 x3 : Vec Ideal S1024x128 .f32) (w : Vec Ideal S1x4096x1024 .bf16)
    (p : Fin 24576 → EReal) (u v : Fin 128 → EReal) (r : Fin 512) (h : Fin 4) (C : Fin 256) (j : Fin 1024) (H : Fin 96)
    (hi : 0 < (i 0).val) (hj : j.val = 256 * h.val + C.val) (hH : H.val = 4 * ((i 0).val - 1) + h.val)
    (hp : ∀ (j' : Fin 1024) (n : ℕ) (hn : n < 256), j'.val = 256 * h.val + n → prodAt (ldR (rowsR s) x0) w r j' = p (colOf H n hn))
    (hu : ∀ l : Fin 128, ldR (tabR s) x2 (ix2 r l) = u l) (hv : ∀ l : Fin 128, ldR (tabR s) x3 (ix2 r l) = v l) :
    acc (F := Ideal) i s x0 x2 x3 w (ix2 r j) = head p u v H C := by
  have hh := h.isLt
  have hC := C.isLt
  unfold acc
  by_cases h8 : (i 0).val ≤ 8
  · rw [if_pos ((cond3_iff i).mpr ⟨hi, h8⟩), rot_eq]
    -- the two halves, at any factor
    have hrot : ∀ f : EReal, 0 ≤ f → f ≠ ⊤ →
        rot4 (accPlain (ldR (rowsR s) x0) w) (scaledT f (ldR (tabR s) x2)) (scaledT f (ldR (tabR s) x3)) (ix2 r j) = rot p u v H C * f := by
      intro f hf0 hf1
      unfold rot
      by_cases hc : C.val < 128
      · rw [dif_pos hc, rot4_lo _ _ _ r h ⟨C.val, hc⟩ j ⟨256 * h.val + C.val, by omega⟩ ⟨256 * h.val + (128 + C.val), by omega⟩ (by rw [hj]; show _ = 256 * h.val + (0 + C.val); omega) rfl rfl,
          plain_at, plain_at, scaledT_at, scaledT_at, hu, hv, hp _ C.val (by omega) rfl, hp _ (128 + C.val) (by omega) rfl, rot_scale_sub _ _ _ _ _ hf0 hf1]
        rfl
      · rw [dif_neg hc, rot4_hi _ _ _ r h ⟨C.val - 128, by omega⟩ j ⟨256 * h.val + (C.val - 128), by omega⟩ ⟨256 * h.val + (128 + (C.val - 128)), by omega⟩ (by rw [hj]; show _ = 256 * h.val + (128 + (C.val - 128)); omega) rfl rfl,
          plain_at, plain_at, scaledT_at, scaledT_at, hu, hv, hp _ (C.val - 128) (by omega) rfl, hp _ (128 + (C.val - 128)) (by omega) rfl, rot_scale _ _ _ _ _ hf0 hf1]
        rfl
    unfold head
    by_cases h4 : (i 0).val ≤ 4
    · rw [if_pos (by omega), fac_query i hi h4]
      refine (hrot 1 zero_le_one (EReal.coe_ne_top 1)).trans ?_
      exact mul_one _
    · rw [if_neg (by omega), if_pos (by omega), fac_key i (by omega) h8]
      exact hrot _ keyFac_nonneg keyFac_ne_top
  · rw [if_neg fun hh => h8 ((cond3_iff i).mp hh).2, plain_at]
    unfold head
    rw [if_neg (by omega), if_neg (by omega)]
    exact hp j C.val C.isLt hj

/-! ## The modulation -/

theorem pay2_at (x : Vec Ideal S4096x1 .f32) (k : Fin 4096) (l : Fin 128) : k0_pay2 (F := Ideal) x (ix2 k l) = x (ix2 k 0) * Ideal.logistic (x (ix2 k 0)) := by
  pointwise [k0_pay2]

theorem pay15_lo (p q : Vec Ideal S1x4096x128 .f32) (s s' : Vec Ideal S4096x128 .f32) (l : Fin 128) (j : Fin 256) (hj : j.val = l.val) :
    k0_pay15 (F := Ideal) p s q s' (ix2 0 j) = ∑ k : Fin 4096, p (ix3 0 k l) * s (ix2 k l) := by
  have hl := l.isLt
  pointwise [k0_pay15]
  rw [dif_pos (show j.val < 128 by omega)]
  have e : (⟨j.val, by omega⟩ : Fin 128) = l := Fin.ext hj
  rw [e]

theorem pay15_hi (p q : Vec Ideal S1x4096x128 .f32) (s s' : Vec Ideal S4096x128 .f32) (l : Fin 128) (j : Fin 256) (hj : j.val = 128 + l.val) :
    k0_pay15 (F := Ideal) p s q s' (ix2 0 j) = ∑ k : Fin 4096, q (ix3 0 k l) * s' (ix2 k l) := by
  pointwise [k0_pay15]
  rw [dif_neg (show ¬j.val < 128 by omega)]
  have e : (⟨j.val - 128, by omega⟩ : Fin 128) = l := Fin.ext (by show j.val - 128 = l.val; omega)
  rw [e]

theorem pay16_at (x : FVec Ideal S1x256 .f32) (b : Vec Ideal S1x1x256 .f32) (j : Fin 256) : k0_pay16 (F := Ideal) x b (ix2 0 j) = x (ix2 0 j) + b (ix3 0 0 j) := by
  pointwise [k0_pay16]

/-! ## The slabs -/

theorem slab_at (x : FVec Ideal S512x1024 .f32) (h : Fin 4) (r : Fin 512) (C : Fin 256) (j : Fin 1024) (hj : j.val = 256 * h.val + C.val) :
    slab (F := Ideal) h x (ix3 0 r C) = x (ix2 r j) := by
  match h, hj with
  | 0, hj =>
    show slab0 x _ = _
    unfold slab0
    pointwise [k0_pay3]
    exact congrArg (fun j => x (ix2 r j)) (Fin.ext (by rw [hj]; show C.val = 256 * 0 + C.val; omega))
  | 1, hj =>
    show slab1 x _ = _
    unfold slab1
    pointwise [k0_pay4]
    exact congrArg (fun j => x (ix2 r j)) (Fin.ext (by rw [hj]; show 256 + C.val = 256 * 1 + C.val; omega))
  | 2, hj =>
    show slab2 x _ = _
    unfold slab2
    pointwise [k0_pay5]
    exact congrArg (fun j => x (ix2 r j)) (Fin.ext (by rw [hj]; show 512 + C.val = 256 * 2 + C.val; omega))
  | 3, hj =>
    show slab3 x _ = _
    unfold slab3
    pointwise [k0_pay6]
    exact congrArg (fun j => x (ix2 r j)) (Fin.ext (by rw [hj]; show 768 + C.val = 256 * 3 + C.val; omega))

end Cert.Kernel6Ideal.Mm

end
-- ==== Proof.WinResult.lean ====
/- The projections over the reals: the two result arrays, entry by entry. -/
module

public import proofs.«01_k».proof.Proof.WinVals
public import Idealize.ShloMosaic.Lib.StableHlo.RunRead

@[expose] public section

set_option maxRecDepth 16384

noncomputable section

namespace Cert.Kernel6Ideal.Mm

open Idealize.ShloMosaic Idealize.ShloMosaic.TcCoe
open Cert.Kernel6Ideal Cert.Kernel6Ideal.Gen Cert.Rects Cert.WinVal Cert.Slots

variable (m : (ℓ : Loc nD τ sig) → Buf (Elt Ideal) ℓ) (c : Dev nD)

/-- The activations, the weights, the conditioning row, the modulation's weights and its bias. -/
abbrev actv : S8192x4096.Idx → EReal := m ((c : Thread nD τ).loc main_arg0)
abbrev wgt : S1x4096x24576.Idx → EReal := m ((c : Thread nD τ).loc main_arg1)
abbrev cond : S1x4096.Idx → EReal := m ((c : Thread nD τ).loc main_arg2)
abbrev awgt : S2x4096x24576.Idx → EReal := m ((c : Thread nD τ).loc main_arg3)
abbrev abias : S2x24576.Idx → EReal := m ((c : Thread nD τ).loc main_arg4)

/-! ## The host's arrays -/

/-- The angles: the row's number by the lane's frequency. -/
def angles : FVec Ideal S8192x128 .f32 :=
  mulf (broadcastInDim S8192x128 ![0, 1] bcast_S8192x1_S8192x128_0_1 (broadcastInDim S8192x1 ![0] bcast_S8192_S8192x1_0 (sitofp .f32 (iotaInDim S8192 32 0))))
    (broadcastInDim S8192x128 ![0, 1] bcast_S1x128_S8192x128_0_1 (broadcastInDim S1x128 ![1] bcast_S128_S1x128_1
      (Host.powf (broadcastInDim S128 ![] bcast_S_S128 (constant S_ .f32 0x461C4000#32))
        (Host.divf (Host.negf (sitofp .f32 (iotaInDim S128 32 0))) (broadcastInDim S128 ![] bcast_S_S128 (constant S_ .f32 0x43000000#32))))))

theorem V_v12 : V m c main_v12 = Host.cos angles := by
  unfold V
  after_reads_simp
  rfl
theorem V_v13 : V m c main_v13 = Host.sin angles := by
  unfold V
  after_reads_simp
  rfl
theorem V_v14 : V m c main_v14 = shapeCast S4096x1 (m ((c : Thread nD τ).loc main_arg2)) shapeCasts_S1x4096_S4096x1 := by
  unfold V
  after_reads_simp
  rfl
theorem V_v15 : V m c main_v15 = shapeCast S2x1x24576 (m ((c : Thread nD τ).loc main_arg4)) shapeCasts_S2x24576_S2x1x24576 := by
  unfold V
  after_reads_simp
  rfl

theorem col_cast (x : FVec Ideal S1x4096 .f32) (k : Fin 4096) : shapeCast S4096x1 x shapeCasts_S1x4096_S4096x1 (ix2 k 0) = x (ix2 0 k) := by
  pointwise []
theorem row_cast (x : FVec Ideal S2x24576 .f32) (L : Fin 2) (J : Fin 24576) : shapeCast S2x1x24576 x shapeCasts_S2x24576_S2x1x24576 (ix3 L 0 J) = x (ix2 L J) := by
  pointwise []

/-! ## The windows' indices -/

theorem index0 : ∀ t : Fin cfg0.N, 8 ≤ t.val → win0_0.index t 0 = t.val % 8 ∧ win0_0.index t 1 = 0 := by decide +kernel
theorem index1 : ∀ t : Fin cfg0.N, t.val < 192 → win0_1.index t 0 = 0 ∧ win0_1.index t 1 = t.val % 8 ∧ win0_1.index t 2 = t.val / 8 := by decide +kernel
theorem index2 : ∀ t : Fin cfg0.N, 8 ≤ t.val → win0_2.index t 0 = t.val % 8 ∧ win0_2.index t 1 = 0 := by decide +kernel
theorem index3 : ∀ t : Fin cfg0.N, 8 ≤ t.val → win0_3.index t 0 = t.val % 8 ∧ win0_3.index t 1 = 0 := by decide +kernel
theorem index4 : win0_4.index t0 0 = 0 ∧ win0_4.index t0 1 = 0 := by decide +kernel
theorem index5 : ∀ t : Fin cfg0.N, 8 ≤ t.val → win0_5.index t 0 = (32 + min (t.val - 8) 159) / 96 ∧ win0_5.index t 1 = 0 ∧ win0_5.index t 2 = (32 + min (t.val - 8) 159) % 96 := by decide +kernel
theorem index6 : ∀ t : Fin cfg0.N, 8 ≤ t.val → win0_6.index t 0 = (32 + min (t.val - 8) 159) / 96 ∧ win0_6.index t 1 = 0 ∧ win0_6.index t 2 = (32 + min (t.val - 8) 159) % 96 := by decide +kernel
theorem index7 : ∀ t : Fin cfg0.N, 8 ≤ t.val → win0_7.index t 0 = t.val / 8 - 1 ∧ win0_7.index t 1 = t.val % 8 ∧ win0_7.index t 2 = 0 := by decide +kernel
theorem index8 : ∀ t : Fin cfg0.N, 8 ≤ t.val → win0_8.index t 0 = 0 ∧ win0_8.index t 1 = min (t.val - 8) 159 := by decide +kernel
theorem flush7_on : ∀ t : Fin cfg0.N, 8 ≤ t.val → (cfg0.win 7).flush t = true := by decide +kernel
theorem flush8_on : ∀ t : Fin cfg0.N, 8 ≤ t.val → t.val < 167 ∨ t.val = 199 → (cfg0.win 8).flush t = true := by decide +kernel
theorem xsize7 : ∀ t : Fin cfg0.N, win0_7.xsize (grid0.coords t) 0 = 4 ∧ win0_7.xsize (grid0.coords t) 1 = 1024 ∧ win0_7.xsize (grid0.coords t) 2 = 256 := by decide +kernel
theorem xsize8 : ∀ t : Fin cfg0.N, win0_8.xsize (grid0.coords t) 0 = 1 ∧ win0_8.xsize (grid0.coords t) 1 = 256 := by decide +kernel

/-! ## The first result -/

theorem a_at (t : Fin cfg0.N) (h8 : 8 ≤ t.val) (s : Fin 2) (r : Fin 512) (k : Fin 4096) (R : Fin 8192) (hR : R.val = 1024 * (t.val % 8) + (512 * s.val + r.val)) :
    ldR (rowsR s) (iblk m c 0 t) (ix2 r k) = actv m c (ix2 R k) := by
  have hi := index0 t h8
  unfold ldR iblk
  rw [View.read_apply]
  show V m c main_arg0 _ = _
  rw [V_main_arg0]
  refine congrArg (actv m c) (funext fun d => Fin.ext ?_)
  match d with
  | ⟨0, _⟩ => show win0_0.index t 0 * 1024 + 1 * (512 * s.val + 1 * r.val) = R.val; rw [hi.1]; omega
  | ⟨1, _⟩ => show win0_0.index t 1 * 4096 + 1 * (0 + 1 * k.val) = k.val; rw [hi.2]; omega

theorem cos_at (t : Fin cfg0.N) (h8 : 8 ≤ t.val) (s : Fin 2) (r : Fin 512) (l : Fin 128) (R : Fin 8192) (hR : R.val = 1024 * (t.val % 8) + (512 * s.val + r.val)) :
    ldR (tabR s) (iblk m c 2 t) (ix2 r l) = Host.cos (F := Ideal) angles (ix2 R l) := by
  have hi := index2 t h8
  unfold ldR iblk
  rw [View.read_apply]
  show V m c main_v12 _ = _
  rw [V_v12]
  refine congrArg (Host.cos (F := Ideal) angles) (funext fun d => Fin.ext ?_)
  match d with
  | ⟨0, _⟩ => show win0_2.index t 0 * 1024 + 1 * (512 * s.val + 1 * r.val) = R.val; rw [hi.1]; omega
  | ⟨1, _⟩ => show win0_2.index t 1 * 128 + 1 * (0 + 1 * l.val) = l.val; rw [hi.2]; omega

theorem sin_at (t : Fin cfg0.N) (h8 : 8 ≤ t.val) (s : Fin 2) (r : Fin 512) (l : Fin 128) (R : Fin 8192) (hR : R.val = 1024 * (t.val % 8) + (512 * s.val + r.val)) :
    ldR (tabR s) (iblk m c 3 t) (ix2 r l) = Host.sin (F := Ideal) angles (ix2 R l) := by
  have hi := index3 t h8
  unfold ldR iblk
  rw [View.read_apply]
  show V m c main_v13 _ = _
  rw [V_v13]
  refine congrArg (Host.sin (F := Ideal) angles) (funext fun d => Fin.ext ?_)
  match d with
  | ⟨0, _⟩ => show win0_3.index t 0 * 1024 + 1 * (512 * s.val + 1 * r.val) = R.val; rw [hi.1]; omega
  | ⟨1, _⟩ => show win0_3.index t 1 * 128 + 1 * (0 + 1 * l.val) = l.val; rw [hi.2]; omega

theorem cast_at (p : Fin cfg0.N) (h : p.val < 192) (k : Fin 512) (j : Fin 1024) (K : Fin 4096) (J : Fin 24576)
    (hK : K.val = 512 * (p.val % 8) + k.val) (hJ : J.val = 1024 * (p.val / 8) + j.val) :
    castAt m c p (ix3 0 k j) = wgt m c (ix3 0 K J) := by
  have hi := index1 p h
  unfold castAt
  rw [pay1_at]
  unfold ldR iblk
  rw [View.read_apply]
  show V m c main_arg1 _ = _
  rw [V_main_arg1]
  refine congrArg (wgt m c) (funext fun d => Fin.ext ?_)
  match d with
  | ⟨0, _⟩ => show win0_1.index p 0 * 1 + 1 * (0 + 1 * 0) = 0; rw [hi.1]
  | ⟨1, _⟩ => show win0_1.index p 1 * 512 + 1 * (0 + 1 * k.val) = K.val; rw [hi.2.1]; omega
  | ⟨2, _⟩ => show win0_1.index p 2 * 1024 + 1 * (0 + 1 * j.val) = J.val; rw [hi.2.2]; omega

theorem slot_at (t : Fin cfg0.N) (h8 : 8 ≤ t.val) (k : Fin 4096) (j : Fin 1024) (J : Fin 24576) (hJ : J.val = 1024 * (t.val / 8 - 1) + j.val) :
    slotAt m c t (ix3 0 k j) = wgt m c (ix3 0 k J) := by
  have hN : t.val < 200 := Nat.lt_of_lt_of_eq t.isLt N200
  have hs := (Lay.src_val h8 (show k.val / 512 < 8 by omega)).1
  show castAt m c (Lay.src 8 t (k.val / 512)) (ix3 0 ⟨k.val % 512, Nat.mod_lt _ (by omega)⟩ j) = _
  refine cast_at m c _ (by omega) _ j k J ?_ ?_
  · rw [hs]; show k.val = _ + k.val % 512; omega
  · rw [hs, hJ]; omega

theorem prod_at (t : Fin cfg0.N) (h8 : 8 ≤ t.val) (s : Fin 2) (r : Fin 512) (j : Fin 1024) (R : Fin 8192) (J : Fin 24576)
    (hR : R.val = 1024 * (t.val % 8) + (512 * s.val + r.val)) (hJ : J.val = 1024 * (t.val / 8 - 1) + j.val) :
    prodAt (ldR (rowsR s) (iblk m c 0 t)) (slotAt m c t) r j = proj (actv m c) (wgt m c) R J := by
  unfold prodAt proj
  exact Finset.sum_congr rfl fun k _ => by rw [a_at m c t h8 s r k R hR, slot_at m c t h8 k j J hJ]

theorem outAt_at (t : Fin cfg0.N) (h8 : 8 ≤ t.val) (z : S4x1024x256.Idx) (H : Fin 96) (R : Fin 8192) (C : Fin 256)
    (hH : H.val = 4 * (t.val / 8 - 1) + (z 0).val) (hR : R.val = 1024 * (t.val % 8) + (z 1).val) (hC : C.val = (z 2).val) :
    outAt m c t z = entry (actv m c) (wgt m c) (Host.cos (F := Ideal) angles) (Host.sin (F := Ideal) angles) H R C := by
  obtain ⟨s, r, hr⟩ := row_split (m := 2) (z 1).isLt
  have hz0 : (z 0).val < 4 := (z 0).isLt
  have c0 := coords0 t
  have hCl := C.isLt
  unfold outAt
  rw [rowsOut_hit _ _ _ _ _ _ z s ⟨(z 0).val, hz0⟩ (ix3 0 r C) rfl hr hC.symm,
    slab_at _ ⟨(z 0).val, hz0⟩ r C ⟨256 * (z 0).val + C.val, by omega⟩ rfl]
  unfold entry
  refine acc_at _ s _ _ _ _ (proj (actv m c) (wgt m c) R) _ _ r ⟨(z 0).val, hz0⟩ C _ H (by omega) rfl (by rw [c0]; exact hH) (fun j' n hn hj' => ?_) (fun l => ?_) (fun l => ?_)
  · refine prod_at m c t h8 s r j' R (colOf H n hn) (by omega) ?_
    show 256 * H.val + n = _
    rw [hj', hH]
    show _ = _ + (256 * (z 0).val + n)
    omega
  · exact cos_at m c t h8 s r l R (by omega)
  · exact sin_at m c t h8 s r l R (by omega)

/-- The first result array. -/
def Res : Buf (Elt Ideal) ((c : Thread nD τ).loc main_v16_0) := fun z =>
  entry (actv m c) (wgt m c) (Host.cos (F := Ideal) angles) (Host.sin (F := Ideal) angles) (z 0) (z 1) (z 2)

theorem Res_at (z : S96x8192x256.Idx) :
    Res m c z = entry (actv m c) (wgt m c) (Host.cos (F := Ideal) angles) (Host.sin (F := Ideal) angles) (z 0) (z 1) (z 2) := rfl

theorem flushed7_eq (t : Fin cfg0.N) (hf : (cfg0.win 7).flush t = true) : (dats m 0 c).flushed 7 t = ((cfg0.win 7).blk t).view.read (Elt Ideal) (Res m c) := by
  have h8 : 8 ≤ t.val := by
    by_contra h
    have := flush7_off t (by omega)
    rw [hf] at this
    exact absurd this (by decide)
  show (cfg0.win 7).cut (grid0.coords t) ((dats m 0 c).after 7 t) = _
  rw [after_7]
  funext z
  have hi := index7 t h8
  have hxs := xsize7 t
  have hz0 : (z 0).val < 4 := hxs.1 ▸ (z 0).isLt
  have hz1 : (z 1).val < 1024 := hxs.2.1 ▸ (z 1).isLt
  have hz2 : (z 2).val < 256 := hxs.2.2 ▸ (z 2).isLt
  rw [View.read_apply]
  show outAt m c t (win0_7.xinj (grid0.coords t) z) = _
  refine Eq.trans (outAt_at m c t h8 _ _ _ _ ?_ ?_ ?_) (Res_at m c _).symm
  · show win0_7.index t 0 * 4 + 1 * (z 0).val = _ + (z 0).val; rw [hi.1]; omega
  · show win0_7.index t 1 * 1024 + 1 * (z 1).val = _ + (z 1).val; rw [hi.2.1]; omega
  · show win0_7.index t 2 * 256 + 1 * (z 2).val = (z 2).val; rw [hi.2.2]; omega

theorem cover7 (z : S96x8192x256.Idx) : ∃ t : Fin cfg0.N, (cfg0.win 7).flush t = true ∧ z ∈ ((cfg0.win 7).blk t).view.set := by
  have hz0 : (z 0).val < 96 := (z 0).isLt
  have hz1 : (z 1).val < 8192 := (z 1).isLt
  have hz2 : (z 2).val < 256 := (z 2).isLt
  let t : Fin cfg0.N := ⟨8 * ((z 0).val / 4) + 8 + (z 1).val / 1024, by rw [N200]; omega⟩
  have ht : t.val = 8 * ((z 0).val / 4) + 8 + (z 1).val / 1024 := rfl
  have h8 : 8 ≤ t.val := by omega
  have hi := index7 t h8
  have hxs := xsize7 t
  refine ⟨t, flush7_on t h8, ?_⟩
  show z ∈ ((View.whole main_v16_0).slice (win0_7.rect t)).set
  rw [View.set_slice_whole, Rect.mem_set_unit]
  intro a
  match a with
  | ⟨0, _⟩ =>
    show win0_7.index t 0 * 4 ≤ (z 0 : ℕ) ∧ (z 0 : ℕ) < win0_7.index t 0 * 4 + win0_7.xsize (grid0.coords t) 0
    rw [hi.1, hxs.1]; omega
  | ⟨1, _⟩ =>
    show win0_7.index t 1 * 1024 ≤ (z 1 : ℕ) ∧ (z 1 : ℕ) < win0_7.index t 1 * 1024 + win0_7.xsize (grid0.coords t) 1
    rw [hi.2.1, hxs.2.1]; omega
  | ⟨2, _⟩ =>
    show win0_7.index t 2 * 256 ≤ (z 2 : ℕ) ∧ (z 2 : ℕ) < win0_7.index t 2 * 256 + win0_7.xsize (grid0.coords t) 2
    rw [hi.2.2, hxs.2.2]; omega

theorem final_o : (dats m 0 c).arrAt 7 cfg0.N = Res m c :=
  (dats m 0 c).arrAt_eq_of_cover 7 (Res m c) (fun t hf => flushed7_eq m c t hf) cover7

/-! ## The second result -/

theorem sb_at (k : Fin 4096) (l : Fin 128) : ldR sbR (sbAt m c) (ix2 k l) = cond m c (ix2 0 k) * Ideal.logistic (cond m c (ix2 0 k)) := by
  have hi := index4
  have e : sbR.emb (ix2 k l) = (ix2 k l : S4096x128.Idx) := by
    funext d
    match d with
    | ⟨0, _⟩ => exact Fin.ext (by show 0 + 1 * k.val = k.val; omega)
    | ⟨1, _⟩ => exact Fin.ext (by show 0 + 1 * l.val = l.val; omega)
  have hx : ldR colR (iblk m c 4 t0) (ix2 k 0) = cond m c (ix2 0 k) := by
    unfold ldR iblk
    rw [View.read_apply]
    show V m c main_v14 _ = _
    rw [V_v14]
    refine Eq.trans (congrArg _ (funext fun d => Fin.ext ?_)) (col_cast (m ((c : Thread nD τ).loc main_arg2)) k)
    match d with
    | ⟨0, _⟩ => show win0_4.index t0 0 * 4096 + 1 * (0 + 1 * k.val) = k.val; rw [hi.1]; omega
    | ⟨1, _⟩ => show win0_4.index t0 1 * 1 + 1 * (0 + 1 * 0) = 0; rw [hi.2]
  show sbAt m c (sbR.emb (ix2 k l)) = _
  rw [e]
  unfold sbAt
  rw [pay2_at, hx]

theorem aw0_at (t : Fin cfg0.N) (h8 : 8 ≤ t.val) (k : Fin 4096) (l : Fin 128) (L : Fin 2) (J : Fin 24576)
    (hL : L.val = (32 + min (t.val - 8) 159) / 96) (hJ : J.val = 256 * ((32 + min (t.val - 8) 159) % 96) + l.val) :
    ldR awR0 (iblk m c 5 t) (ix3 0 k l) = awgt m c (ix3 L k J) := by
  have hi := index5 t h8
  unfold ldR iblk
  rw [View.read_apply]
  show V m c main_arg3 _ = _
  rw [V_main_arg3]
  refine congrArg (awgt m c) (funext fun d => Fin.ext ?_)
  match d with
  | ⟨0, _⟩ => show win0_5.index t 0 * 1 + 1 * (0 + 1 * 0) = L.val; rw [hi.1]; omega
  | ⟨1, _⟩ => show win0_5.index t 1 * 4096 + 1 * (0 + 1 * k.val) = k.val; rw [hi.2.1]; omega
  | ⟨2, _⟩ => show win0_5.index t 2 * 256 + 1 * (0 + 1 * l.val) = J.val; rw [hi.2.2]; omega

theorem aw1_at (t : Fin cfg0.N) (h8 : 8 ≤ t.val) (k : Fin 4096) (l : Fin 128) (L : Fin 2) (J : Fin 24576)
    (hL : L.val = (32 + min (t.val - 8) 159) / 96) (hJ : J.val = 256 * ((32 + min (t.val - 8) 159) % 96) + (128 + l.val)) :
    ldR awR1 (iblk m c 5 t) (ix3 0 k l) = awgt m c (ix3 L k J) := by
  have hi := index5 t h8
  unfold ldR iblk
  rw [View.read_apply]
  show V m c main_arg3 _ = _
  rw [V_main_arg3]
  refine congrArg (awgt m c) (funext fun d => Fin.ext ?_)
  match d with
  | ⟨0, _⟩ => show win0_5.index t 0 * 1 + 1 * (0 + 1 * 0) = L.val; rw [hi.1]; omega
  | ⟨1, _⟩ => show win0_5.index t 1 * 4096 + 1 * (0 + 1 * k.val) = k.val; rw [hi.2.1]; omega
  | ⟨2, _⟩ => show win0_5.index t 2 * 256 + 1 * (128 + 1 * l.val) = J.val; rw [hi.2.2]; omega

theorem ab_at (t : Fin cfg0.N) (h8 : 8 ≤ t.val) (j : Fin 256) (L : Fin 2) (J : Fin 24576)
    (hL : L.val = (32 + min (t.val - 8) 159) / 96) (hJ : J.val = 256 * ((32 + min (t.val - 8) 159) % 96) + j.val) :
    ldR abR (iblk m c 6 t) (ix3 0 0 j) = abias m c (ix2 L J) := by
  have hi := index6 t h8
  unfold ldR iblk
  rw [View.read_apply]
  show V m c main_v15 _ = _
  rw [V_v15]
  refine Eq.trans (congrArg _ (funext fun d => Fin.ext ?_)) (row_cast (m ((c : Thread nD τ).loc main_arg4)) L J)
  match d with
  | ⟨0, _⟩ => show win0_6.index t 0 * 1 + 1 * (0 + 1 * 0) = L.val; rw [hi.1]; omega
  | ⟨1, _⟩ => show win0_6.index t 1 * 1 + 1 * (0 + 1 * 0) = 0; rw [hi.2.1]
  | ⟨2, _⟩ => show win0_6.index t 2 * 256 + 1 * (0 + 1 * j.val) = J.val; rw [hi.2.2]; omega

theorem moAt_at (t : Fin cfg0.N) (h8 : 8 ≤ t.val) (j : Fin 256) (L : Fin 2) (J : Fin 24576)
    (hL : L.val = (32 + min (t.val - 8) 159) / 96) (hJ : J.val = 256 * ((32 + min (t.val - 8) 159) % 96) + j.val) :
    moAt m c t (ix2 0 j) = modc (cond m c) (awgt m c) (abias m c) L J := by
  have hj := j.isLt
  unfold moAt modc
  rw [pay16_at, ab_at m c t h8 j L J hL hJ]
  refine congrArg (fun x : EReal => x + abias m c (ix2 L J)) ?_
  by_cases h : j.val < 128
  · rw [pay15_lo _ _ _ _ ⟨j.val, h⟩ j rfl]
    exact Finset.sum_congr rfl fun k _ => by rw [aw0_at m c t h8 k ⟨j.val, h⟩ L J hL hJ, sb_at m c k ⟨j.val, h⟩, mul_comm]
  · have hl : j.val - 128 < 128 := by omega
    rw [pay15_hi _ _ _ _ ⟨j.val - 128, hl⟩ j (by show j.val = 128 + (j.val - 128); omega)]
    exact Finset.sum_congr rfl fun k _ => by
      rw [aw1_at m c t h8 k ⟨j.val - 128, hl⟩ L J hL (by rw [hJ]; show _ = _ + (128 + (j.val - 128)); omega), sb_at m c k ⟨j.val - 128, hl⟩, mul_comm]

/-- The layer and the column of a column of the second result. -/
def layOf (j : Fin 40960) : Fin 2 := ⟨(8192 + j.val) / 24576, by omega⟩
def colIn (j : Fin 40960) : Fin 24576 := ⟨(8192 + j.val) % 24576, Nat.mod_lt _ (by omega)⟩

/-- The second result array. -/
def Mod : Buf (Elt Ideal) ((c : Thread nD τ).loc main_v16_1) := fun z => modc (cond m c) (awgt m c) (abias m c) (layOf (z 1)) (colIn (z 1))

theorem Mod_at (z : S1x40960.Idx) : Mod m c z = modc (cond m c) (awgt m c) (abias m c) (layOf (z 1)) (colIn (z 1)) := rfl

theorem flushed8_eq (t : Fin cfg0.N) (hf : (cfg0.win 8).flush t = true) : (dats m 0 c).flushed 8 t = ((cfg0.win 8).blk t).view.read (Elt Ideal) (Mod m c) := by
  have h8 : 8 ≤ t.val := by
    by_contra h
    have := flush8_off t (by omega)
    rw [hf] at this
    exact absurd this (by decide)
  show (cfg0.win 8).cut (grid0.coords t) ((dats m 0 c).after 8 t) = _
  rw [after_8]
  funext z
  have hi := index8 t h8
  have hxs := xsize8 t
  have hz0 : (z 0).val < 1 := lt_of_lt_of_eq (z 0).isLt hxs.1
  have hz1 : (z 1).val < 256 := lt_of_lt_of_eq (z 1).isLt hxs.2
  rw [View.read_apply]
  show moAt m c t (win0_8.xinj (grid0.coords t) z) = _
  have e : win0_8.xinj (grid0.coords t) z = (ix2 0 ⟨(z 1).val, hz1⟩ : S1x256.Idx) := by
    funext d
    match d with
    | ⟨0, _⟩ => exact Fin.ext (by show (z 0).val = 0; omega)
    | ⟨1, _⟩ => rfl
  rw [e]
  refine Eq.trans (moAt_at m c t h8 ⟨(z 1).val, hz1⟩ _ _ ?_ ?_) (Mod_at m c _).symm
  · show (8192 + (win0_8.index t 1 * 256 + 1 * (z 1).val)) / 24576 = _; rw [hi.2]; omega
  · show (8192 + (win0_8.index t 1 * 256 + 1 * (z 1).val)) % 24576 = _ + (z 1).val; rw [hi.2]; omega

theorem cover8 (z : S1x40960.Idx) : ∃ t : Fin cfg0.N, (cfg0.win 8).flush t = true ∧ z ∈ ((cfg0.win 8).blk t).view.set := by
  have hz0 : (z 0).val < 1 := (z 0).isLt
  have hz1 : (z 1).val < 40960 := (z 1).isLt
  obtain ⟨t, h8, hb, ht⟩ : ∃ t : Fin cfg0.N, 8 ≤ t.val ∧ min (t.val - 8) 159 = (z 1).val / 256 ∧ (t.val < 167 ∨ t.val = 199) := by
    by_cases h : (z 1).val / 256 < 159
    · exact ⟨⟨8 + (z 1).val / 256, by rw [N200]; omega⟩, by show 8 ≤ 8 + _; omega, by show min (8 + _ - 8) 159 = _; omega, Or.inl (by show 8 + _ < 167; omega)⟩
    · exact ⟨⟨199, by rw [N200]; omega⟩, by show 8 ≤ 199; omega, by show min (199 - 8) 159 = _; omega, Or.inr rfl⟩
  have hi := index8 t h8
  have hxs := xsize8 t
  refine ⟨t, flush8_on t h8 ht, ?_⟩
  show z ∈ ((View.whole main_v16_1).slice (win0_8.rect t)).set
  rw [View.set_slice_whole, Rect.mem_set_unit]
  intro a
  match a with
  | ⟨0, _⟩ =>
    show win0_8.index t 0 * 1 ≤ (z 0 : ℕ) ∧ (z 0 : ℕ) < win0_8.index t 0 * 1 + win0_8.xsize (grid0.coords t) 0
    rw [hi.1, hxs.1]; omega
  | ⟨1, _⟩ =>
    show win0_8.index t 1 * 256 ≤ (z 1 : ℕ) ∧ (z 1 : ℕ) < win0_8.index t 1 * 256 + win0_8.xsize (grid0.coords t) 1
    rw [hi.2, hxs.2, hb]; omega

theorem final_mo : (dats m 0 c).arrAt 8 cfg0.N = Mod m c :=
  (dats m 0 c).arrAt_eq_of_cover 8 (Mod m c) (fun t hf => flushed8_eq m c t hf) cover8

end Cert.Kernel6Ideal.Mm

end
-- ==== Proof.WinRef.lean ====
/- The projections' reference over the reals: its two results, entry by entry. -/
module

public import proofs.«01_k».proof.Proof.Gen.Reference6Ideal.Run
public import proofs.«01_k».proof.Proof.WinVal

@[expose] public section

set_option maxRecDepth 16384

noncomputable section

namespace Cert.Reference6Ideal.Mm

open Idealize.ShloMosaic Idealize.ShloMosaic.TcCoe Idealize.SL.Sem Idealize.ShloMosaic.StableHlo
open Cert.Reference6Ideal Cert.Reference6Ideal.Gen Cert.WinVal

/-- The product, with a leading axis of one. -/
def projV (A : FVec Ideal S8192x4096 .bf16) (W : FVec Ideal S1x4096x24576 .f32) : FVec Ideal S1x8192x24576 .f32 :=
  broadcastInDim S1x8192x24576 ![1, 2] bcast_S8192x24576_S1x8192x24576_1_2
    (Host.dotGeneral dot_S8192x4096_S4096x24576_S8192x24576_1_0_0_1_n_n none (extf .f32 A bitsLt_bf16_f32) (shapeCast _ W shapeCasts_S1x4096x24576_S4096x24576))

/-- The angles: the row's number by the lane's frequency. -/
def angles : FVec Ideal S8192x128 .f32 :=
  mulf (broadcastInDim S8192x128 ![0, 1] bcast_S8192x1_S8192x128_0_1 (broadcastInDim S8192x1 ![0] bcast_S8192_S8192x1_0 (sitofp .f32 (iotaInDim S8192 32 0))))
    (broadcastInDim S8192x128 ![0, 1] bcast_S1x128_S8192x128_0_1 (broadcastInDim S1x128 ![1] bcast_S128_S1x128_1
      (Host.powf (broadcastInDim S128 ![] bcast_S_S128 (constant S_ .f32 0x461C4000#32))
        (Host.divf (Host.negf (sitofp .f32 (iotaInDim S128 32 0))) (broadcastInDim S128 ![] bcast_S_S128 (constant S_ .f32 0x43000000#32))))))

/-- A table over the heads. -/
def tabV (u : FVec Ideal S8192x128 .f32) : FVec Ideal S1x8192x16x128 .f32 :=
  broadcastInDim S1x8192x16x128 ![0, 1, 2, 3] bcast_S1x8192x1x128_S1x8192x16x128_0_1_2_3 (broadcastInDim S1x8192x1x128 ![1, 3] bcast_S8192x128_S1x8192x1x128_1_3 u)

/-- The two halves of the heads' rows. -/
def loV (x : FVec Ideal S1x8192x4096 .f32) : FVec Ideal S1x8192x16x128 .f32 :=
  extractStridedSlice S1x8192x16x128 ![0, 0, 0, 0] (shapeCast S1x8192x16x256 x shapeCasts_S1x8192x4096_S1x8192x16x256) slices_S1x8192x16x256_S1x8192x16x128_0_0_0_0
def hiV (x : FVec Ideal S1x8192x4096 .f32) : FVec Ideal S1x8192x16x128 .f32 :=
  extractStridedSlice S1x8192x16x128 ![0, 0, 0, 128] (shapeCast S1x8192x16x256 x shapeCasts_S1x8192x4096_S1x8192x16x256) slices_S1x8192x16x256_S1x8192x16x128_0_0_0_128

/-- The rotation of the heads' rows. -/
def rotV (a b : FVec Ideal S1x8192x16x128 .f32) (u v : FVec Ideal S1x8192x16x128 .f32) : FVec Ideal S1x8192x16x256 .f32 :=
  concatenate S1x8192x16x256 3 [⟨S1x8192x16x128, subf (mulf a u) (mulf b v)⟩, ⟨S1x8192x16x128, addf (mulf a v) (mulf b u)⟩]
    concatenates_S1x8192x16x128_S1x8192x16x128_S1x8192x16x256_d3

/-- The heads first. -/
def headsV (x : FVec Ideal S1x8192x16x256 .f32) : FVec Ideal S16x8192x256 .f32 :=
  transpose S16x8192x256 [1, 0, 2] (shapeCast S8192x16x256 x shapeCasts_S1x8192x16x256_S8192x16x256) transposes_S8192x16x256_S16x8192x256_1_0_2
def wideV (x : FVec Ideal S1x8192x8192 .f32) : FVec Ideal S32x8192x256 .f32 :=
  transpose S32x8192x256 [1, 0, 2] (shapeCast S8192x32x256 x shapeCasts_S1x8192x8192_S8192x32x256) transposes_S8192x32x256_S32x8192x256_1_0_2

/-- The columns of the queries, the keys, the values and the gates. -/
def qV (P : FVec Ideal S1x8192x24576 .f32) : FVec Ideal S1x8192x4096 .f32 := extractStridedSlice S1x8192x4096 ![0, 0, 0] P slices_S1x8192x24576_S1x8192x4096_0_0_0
def kV (P : FVec Ideal S1x8192x24576 .f32) : FVec Ideal S1x8192x4096 .f32 := extractStridedSlice S1x8192x4096 ![0, 0, 4096] P slices_S1x8192x24576_S1x8192x4096_0_0_4096
def vV (P : FVec Ideal S1x8192x24576 .f32) : FVec Ideal S1x8192x8192 .f32 := extractStridedSlice S1x8192x8192 ![0, 0, 8192] P slices_S1x8192x24576_S1x8192x8192_0_0_8192
def gV (P : FVec Ideal S1x8192x24576 .f32) : FVec Ideal S1x8192x8192 .f32 := extractStridedSlice S1x8192x8192 ![0, 0, 16384] P slices_S1x8192x24576_S1x8192x8192_0_0_16384

/-- The keys' factor. -/
def facV : FVec Ideal S1x8192x16x256 .f32 := broadcastInDim S1x8192x16x256 ![] bcast_S_S1x8192x16x256 (constant S_ .f32 0x3D800000#32)

/-- The four groups of heads, one after the other. -/
def catV (q k : FVec Ideal S16x8192x256 .f32) (v g : FVec Ideal S32x8192x256 .f32) : FVec Ideal S96x8192x256 .bf16 :=
  truncf .bf16 (concatenate S96x8192x256 0 [⟨S16x8192x256, q⟩, ⟨S16x8192x256, k⟩, ⟨S32x8192x256, v⟩, ⟨S32x8192x256, g⟩]
    concatenates_S16x8192x256_S16x8192x256_S32x8192x256_S32x8192x256_S96x8192x256_d0) bitsLt_bf16_f32

/-- The first result. -/
def out (A : FVec Ideal S8192x4096 .bf16) (W : FVec Ideal S1x4096x24576 .f32) : FVec Ideal S96x8192x256 .bf16 :=
  catV (headsV (rotV (loV (qV (projV A W))) (hiV (qV (projV A W))) (tabV (Host.cos angles)) (tabV (Host.sin angles))))
    (headsV (mulf (rotV (loV (kV (projV A W))) (hiV (kV (projV A W))) (tabV (Host.cos angles)) (tabV (Host.sin angles))) facV))
    (wideV (vV (projV A W))) (wideV (gV (projV A W)))

/-- The conditioning row through silu. -/
def siluV (x : FVec Ideal S1x4096 .f32) : FVec Ideal S1x4096 .f32 :=
  mulf x (Host.divf (broadcastInDim S1x4096 ![] bcast_S_S1x4096 (constant S_ .f32 0x3F800000#32))
    (addf (broadcastInDim S1x4096 ![] bcast_S_S1x4096 (constant S_ .f32 0x3F800000#32)) (Host.exp (Host.negf x))))

/-- The modulation of the first and of the second layer. -/
def mod0 (s : FVec Ideal S1x4096 .f32) (aw : FVec Ideal S2x4096x24576 .f32) (ab : FVec Ideal S2x24576 .f32) : FVec Ideal S1x24576 .f32 :=
  addf (Host.dotGeneral dot_S1x4096_S4096x24576_S1x24576_1_0_0_1_n_n none s
      (shapeCast _ (extractStridedSlice S1x4096x24576 ![0, 0, 0] aw slices_S2x4096x24576_S1x4096x24576_0_0_0) shapeCasts_S1x4096x24576_S4096x24576))
    (broadcastInDim S1x24576 ![1] bcast_S24576_S1x24576_1 (shapeCast _ (extractStridedSlice S1x24576 ![0, 0] ab slices_S2x24576_S1x24576_0_0) shapeCasts_S1x24576_S24576))
def mod1 (s : FVec Ideal S1x4096 .f32) (aw : FVec Ideal S2x4096x24576 .f32) (ab : FVec Ideal S2x24576 .f32) : FVec Ideal S1x24576 .f32 :=
  addf (Host.dotGeneral dot_S1x4096_S4096x24576_S1x24576_1_0_0_1_n_n none s
      (shapeCast _ (extractStridedSlice S1x4096x24576 ![1, 0, 0] aw slices_S2x4096x24576_S1x4096x24576_1_0_0) shapeCasts_S1x4096x24576_S4096x24576))
    (broadcastInDim S1x24576 ![1] bcast_S24576_S1x24576_1 (shapeCast _ (extractStridedSlice S1x24576 ![1, 0] ab slices_S2x24576_S1x24576_1_0) shapeCasts_S1x24576_S24576))

def cutV (a b : FVec Ideal S1x24576 .f32) : FVec Ideal S1x40960 .f32 :=
  extractStridedSlice S1x40960 ![0, 8192] (concatenate S1x49152 1 [⟨S1x24576, a⟩, ⟨S1x24576, b⟩] concatenates_S1x24576_S1x24576_S1x49152_d1) slices_S1x49152_S1x40960_0_8192

/-- The second result. -/
def side (x : FVec Ideal S1x4096 .f32) (aw : FVec Ideal S2x4096x24576 .f32) (ab : FVec Ideal S2x24576 .f32) : FVec Ideal S1x40960 .f32 :=
  cutV (mod0 (siluV x) aw ab) (mod1 (siluV x) aw ab)

set_option maxHeartbeats 4000000 in
theorem res_eq (m : (ℓ : Loc nD τ sig) → Buf (Elt Ideal) ℓ) (c : Dev nD) :
    Value.res_out0 m c = out (m ((c.tc : Thread nD τ).loc main_arg0)) (m ((c.tc : Thread nD τ).loc main_arg1)) := by
  show Value.res_main_v78 m c = _
  unfold Value.res_main_v78
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = out (m ((c.tc : Thread nD τ).loc main_arg0)) (m ((c.tc : Thread nD τ).loc main_arg1))
      ∧ r.2.mem ((c.tc : Thread nD τ).loc main_v96) = side (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res_eq m c), (h c).2.1, (h c).2.2⟩) (Value.run m ρ)

/-! ## The first result's entries -/

theorem projV_at (A : FVec Ideal S8192x4096 .bf16) (W : FVec Ideal S1x4096x24576 .f32) (R : Fin 8192) (J : Fin 24576) : projV A W (ix3 0 R J) = proj A W R J := by
  unfold projV proj
  pointwise []

theorem tabV_at (u : FVec Ideal S8192x128 .f32) (R : Fin 8192) (h : Fin 16) (l : Fin 128) : tabV u (ix4 0 R h l) = u (ix2 R l) := by
  unfold tabV
  pointwise []

theorem loV_at (x : FVec Ideal S1x8192x4096 .f32) (R : Fin 8192) (h : Fin 16) (l : Fin 128) (z : Fin 4096) (hz : z.val = 256 * h.val + l.val) :
    loV x (ix4 0 R h l) = x (ix3 0 R z) := by
  unfold loV
  pointwise []
  refine congrArg x (congrArg (ix3 0 R) (Fin.ext ?_))
  show h.val * 256 + l.val = z.val
  omega

theorem hiV_at (x : FVec Ideal S1x8192x4096 .f32) (R : Fin 8192) (h : Fin 16) (l : Fin 128) (z : Fin 4096) (hz : z.val = 256 * h.val + (128 + l.val)) :
    hiV x (ix4 0 R h l) = x (ix3 0 R z) := by
  unfold hiV
  pointwise []
  refine congrArg x (congrArg (ix3 0 R) (Fin.ext ?_))
  show h.val * 256 + (128 + l.val) = z.val
  omega

theorem rotV_lo (a b u v : FVec Ideal S1x8192x16x128 .f32) (R : Fin 8192) (h : Fin 16) (l : Fin 128) (C : Fin 256) (hC : C.val = l.val) :
    rotV a b u v (ix4 0 R h C) = a (ix4 0 R h l) * u (ix4 0 R h l) - b (ix4 0 R h l) * v (ix4 0 R h l) := by
  have hl := l.isLt
  unfold rotV
  pointwise []
  rw [dif_pos (show C.val < 128 by omega)]
  have e : (⟨C.val, by omega⟩ : Fin 128) = l := Fin.ext hC
  rw [e]

theorem rotV_hi (a b u v : FVec Ideal S1x8192x16x128 .f32) (R : Fin 8192) (h : Fin 16) (l : Fin 128) (C : Fin 256) (hC : C.val = 128 + l.val) :
    rotV a b u v (ix4 0 R h C) = a (ix4 0 R h l) * v (ix4 0 R h l) + b (ix4 0 R h l) * u (ix4 0 R h l) := by
  unfold rotV
  pointwise []
  rw [dif_neg (show ¬C.val < 128 by omega)]
  have e : (⟨C.val - 128, by omega⟩ : Fin 128) = l := Fin.ext (by show C.val - 128 = l.val; omega)
  rw [e]

theorem headsV_at (x : FVec Ideal S1x8192x16x256 .f32) (h : Fin 16) (R : Fin 8192) (C : Fin 256) : headsV x (ix3 h R C) = x (ix4 0 R h C) := by
  unfold headsV
  pointwise []

theorem wideV_at (x : FVec Ideal S1x8192x8192 .f32) (h : Fin 32) (R : Fin 8192) (C : Fin 256) (z : Fin 8192) (hz : z.val = 256 * h.val + C.val) :
    wideV x (ix3 h R C) = x (ix3 0 R z) := by
  unfold wideV
  pointwise []
  refine congrArg x (congrArg (ix3 0 R) (Fin.ext ?_))
  show h.val * 256 + C.val = z.val
  omega

theorem catV_q (q k : FVec Ideal S16x8192x256 .f32) (v g : FVec Ideal S32x8192x256 .f32) (H : Fin 96) (R : Fin 8192) (C : Fin 256) (n : Fin 16) (hn : H.val = n.val) :
    catV q k v g (ix3 H R C) = q (ix3 n R C) := by
  have := n.isLt
  unfold catV
  pointwise []
  rw [dif_pos (show H.val < 16 by omega)]
  exact congrArg (fun n => q (ix3 n R C)) (Fin.ext hn)

theorem catV_k (q k : FVec Ideal S16x8192x256 .f32) (v g : FVec Ideal S32x8192x256 .f32) (H : Fin 96) (R : Fin 8192) (C : Fin 256) (n : Fin 16) (hn : H.val = 16 + n.val) :
    catV q k v g (ix3 H R C) = k (ix3 n R C) := by
  have := n.isLt
  unfold catV
  pointwise []
  rw [dif_neg (show ¬H.val < 16 by omega), dif_pos (show H.val - 16 < 16 by omega)]
  exact congrArg (fun n => k (ix3 n R C)) (Fin.ext (by show H.val - 16 = n.val; omega))

theorem catV_v (q k : FVec Ideal S16x8192x256 .f32) (v g : FVec Ideal S32x8192x256 .f32) (H : Fin 96) (R : Fin 8192) (C : Fin 256) (n : Fin 32) (hn : H.val = 32 + n.val) :
    catV q k v g (ix3 H R C) = v (ix3 n R C) := by
  have := n.isLt
  unfold catV
  pointwise []
  rw [dif_neg (show ¬H.val < 16 by omega), dif_neg (show ¬H.val - 16 < 16 by omega), dif_pos (show H.val - 16 - 16 < 32 by omega)]
  exact congrArg (fun n => v (ix3 n R C)) (Fin.ext (by show H.val - 16 - 16 = n.val; omega))

theorem catV_g (q k : FVec Ideal S16x8192x256 .f32) (v g : FVec Ideal S32x8192x256 .f32) (H : Fin 96) (R : Fin 8192) (C : Fin 256) (n : Fin 32) (hn : H.val = 64 + n.val) :
    catV q k v g (ix3 H R C) = g (ix3 n R C) := by
  have := n.isLt
  unfold catV
  pointwise []
  rw [dif_neg (show ¬H.val < 16 by omega), dif_neg (show ¬H.val - 16 < 16 by omega), dif_neg (show ¬H.val - 16 - 16 < 32 by omega)]
  exact congrArg (fun n => g (ix3 n R C)) (Fin.ext (by show H.val - 16 - 16 - 32 = n.val; omega))

theorem qV_at (P : FVec Ideal S1x8192x24576 .f32) (R : Fin 8192) (z : Fin 4096) (J : Fin 24576) (hJ : J.val = z.val) : qV P (ix3 0 R z) = P (ix3 0 R J) := by
  unfold qV
  pointwise []
  exact congrArg (fun J => P (ix3 0 R J)) (Fin.ext hJ.symm)

theorem kV_at (P : FVec Ideal S1x8192x24576 .f32) (R : Fin 8192) (z : Fin 4096) (J : Fin 24576) (hJ : J.val = 4096 + z.val) : kV P (ix3 0 R z) = P (ix3 0 R J) := by
  unfold kV
  pointwise []
  exact congrArg (fun J => P (ix3 0 R J)) (Fin.ext hJ.symm)

theorem vV_at (P : FVec Ideal S1x8192x24576 .f32) (R : Fin 8192) (z : Fin 8192) (J : Fin 24576) (hJ : J.val = 8192 + z.val) : vV P (ix3 0 R z) = P (ix3 0 R J) := by
  unfold vV
  pointwise []
  exact congrArg (fun J => P (ix3 0 R J)) (Fin.ext hJ.symm)

theorem gV_at (P : FVec Ideal S1x8192x24576 .f32) (R : Fin 8192) (z : Fin 8192) (J : Fin 24576) (hJ : J.val = 16384 + z.val) : gV P (ix3 0 R z) = P (ix3 0 R J) := by
  unfold gV
  pointwise []
  exact congrArg (fun J => P (ix3 0 R J)) (Fin.ext hJ.symm)

theorem facV_at (R : Fin 8192) (h : Fin 16) (C : Fin 256) : facV (ix4 0 R h C) = keyFac := by
  unfold facV keyFac
  pointwise []

/-- The rotation of a group of heads whose columns of the product start at a head's. -/
theorem rotV_at (p : Fin 24576 → EReal) (x : FVec Ideal S1x8192x4096 .f32) (u v : FVec Ideal S8192x128 .f32) (R : Fin 8192) (H : Fin 96) (h : Fin 16) (C : Fin 256)
    (hx : ∀ (z : Fin 4096) (n : ℕ) (hn : n < 256), z.val = 256 * h.val + n → x (ix3 0 R z) = p (colOf H n hn)) :
    rotV (loV x) (hiV x) (tabV u) (tabV v) (ix4 0 R h C) = rot p (fun l => u (ix2 R l)) (fun l => v (ix2 R l)) H C := by
  have hh := h.isLt
  have hC := C.isLt
  unfold rot
  by_cases hc : C.val < 128
  · rw [dif_pos hc, rotV_lo _ _ _ _ R h ⟨C.val, hc⟩ C rfl, tabV_at, tabV_at,
      loV_at x R h ⟨C.val, hc⟩ ⟨256 * h.val + C.val, by omega⟩ rfl, hiV_at x R h ⟨C.val, hc⟩ ⟨256 * h.val + (128 + C.val), by omega⟩ rfl,
      hx _ C.val (by omega) rfl, hx _ (128 + C.val) (by omega) rfl]
    rfl
  · rw [dif_neg hc, rotV_hi _ _ _ _ R h ⟨C.val - 128, by omega⟩ C (by show C.val = 128 + (C.val - 128); omega), tabV_at, tabV_at,
      loV_at x R h ⟨C.val - 128, by omega⟩ ⟨256 * h.val + (C.val - 128), by omega⟩ rfl, hiV_at x R h ⟨C.val - 128, by omega⟩ ⟨256 * h.val + (128 + (C.val - 128)), by omega⟩ rfl,
      hx _ (C.val - 128) (by omega) rfl, hx _ (128 + (C.val - 128)) (by omega) rfl]
    rfl

theorem out_at (A : FVec Ideal S8192x4096 .bf16) (W : FVec Ideal S1x4096x24576 .f32) (H : Fin 96) (R : Fin 8192) (C : Fin 256) :
    out A W (ix3 H R C) = entry A W (Host.cos angles) (Host.sin angles) H R C := by
  have hH := H.isLt
  have hC := C.isLt
  unfold out entry head
  by_cases h1 : H.val < 16
  · rw [if_pos h1, catV_q _ _ _ _ H R C ⟨H.val, h1⟩ rfl, headsV_at]
    refine rotV_at (proj A W R) _ _ _ R H ⟨H.val, h1⟩ C fun z n hn hz => ?_
    rw [qV_at _ R z (colOf H n hn) hz.symm, projV_at]
  rw [if_neg h1]
  by_cases h2 : H.val < 32
  · rw [if_pos h2, catV_k _ _ _ _ H R C ⟨H.val - 16, by omega⟩ (by show H.val = 16 + (H.val - 16); omega), headsV_at]
    refine Eq.trans (mulf_apply _ _ _) ?_
    rw [facV_at]
    refine congrArg (fun y : EReal => y * keyFac) ?_
    refine rotV_at (proj A W R) _ _ _ R H ⟨H.val - 16, by omega⟩ C fun z n hn hz => ?_
    rw [kV_at _ R z (colOf H n hn) (by rw [hz]; show 256 * H.val + n = 4096 + (256 * (H.val - 16) + n); omega), projV_at]
  rw [if_neg h2]
  by_cases h3 : H.val < 64
  · rw [catV_v _ _ _ _ H R C ⟨H.val - 32, by omega⟩ (by show H.val = 32 + (H.val - 32); omega),
      wideV_at _ _ R C ⟨256 * (H.val - 32) + C.val, by omega⟩ rfl, vV_at _ R _ (colOf H C.val C.isLt) (by show 256 * H.val + C.val = 8192 + (256 * (H.val - 32) + C.val); omega), projV_at]
  · rw [catV_g _ _ _ _ H R C ⟨H.val - 64, by omega⟩ (by show H.val = 64 + (H.val - 64); omega),
      wideV_at _ _ R C ⟨256 * (H.val - 64) + C.val, by omega⟩ rfl, gV_at _ R _ (colOf H C.val C.isLt) (by show 256 * H.val + C.val = 16384 + (256 * (H.val - 64) + C.val); omega), projV_at]

/-! ## The second result's entries -/

theorem siluV_at (x : FVec Ideal S1x4096 .f32) (k : Fin 4096) : siluV x (ix2 0 k) = x (ix2 0 k) * Ideal.logistic (x (ix2 0 k)) := by
  unfold siluV Ideal.logistic
  pointwise []

theorem mod0_at (x : FVec Ideal S1x4096 .f32) (aw : FVec Ideal S2x4096x24576 .f32) (ab : FVec Ideal S2x24576 .f32) (j : Fin 24576) :
    mod0 (siluV x) aw ab (ix2 0 j) = modc x aw ab 0 j := by
  unfold mod0 modc
  pointwise [siluV_at]

theorem mod1_at (x : FVec Ideal S1x4096 .f32) (aw : FVec Ideal S2x4096x24576 .f32) (ab : FVec Ideal S2x24576 .f32) (j : Fin 24576) :
    mod1 (siluV x) aw ab (ix2 0 j) = modc x aw ab 1 j := by
  unfold mod1 modc
  pointwise [siluV_at]

theorem side_at (x : FVec Ideal S1x4096 .f32) (aw : FVec Ideal S2x4096x24576 .f32) (ab : FVec Ideal S2x24576 .f32) (j : Fin 40960) (L : Fin 2) (J : Fin 24576)
    (hJ : 8192 + j.val = 24576 * L.val + J.val) : side x aw ab (ix2 0 j) = modc x aw ab L J := by
  have hJ' := J.isLt
  unfold side
  generalize hA : mod0 (siluV x) aw ab = a
  generalize hB : mod1 (siluV x) aw ab = b
  unfold cutV
  pointwise []
  match L, hJ with
  | 0, hJ =>
    have hJ0 : 8192 + j.val = J.val := by rw [hJ]; show 24576 * 0 + J.val = J.val; omega
    rw [dif_pos (show 8192 + j.val < 24576 by omega), ← mod0_at, hA]
    exact congrArg (fun J => a (ix2 0 J)) (Fin.ext hJ0)
  | 1, hJ =>
    have hJ1 : 8192 + j.val = 24576 + J.val := by rw [hJ]; show 24576 * 1 + J.val = _; omega
    rw [dif_neg (show ¬8192 + j.val < 24576 by omega), ← mod1_at, hB]
    exact congrArg (fun J => b (ix2 0 J)) (Fin.ext (by show 8192 + j.val - 24576 = J.val; omega))

end Cert.Reference6Ideal.Mm

end
-- ==== Proof.Norm9Run.lean ====
/- The first norm's run, at any values: a column block of the modulation into the scratch, then the rows' norms; the launch. -/
module

public import proofs.«01_k».proof.Proof.Gen.Kernel9Ideal.Frame
public import proofs.«01_k».proof.Proof.Gen.Kernel9Ideal.Skeleton
public import proofs.«01_k».proof.Proof.Rects
public import Idealize.ShloMosaic.Lib.WordCmp
public import Idealize.ShloMosaic.Lib.Claim

@[expose] public section

set_option maxRecDepth 16384

noncomputable section

namespace Cert.Kernel9Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen Cert.Rects

variable {F : FTy → Type} [FloatOps F]

local notation "𝕄" => MT nD τ sig Unit (Elt F) ℕ (UR sig nD τ) ℕ

/-! ## The rectangles -/

abbrev cR : Rect S4096x1 := Rect.unit (s := S4096x1) ![0, 0] S4096x1.size inb_S4096x1_S4096x1_0_0
abbrev wR : Rect S1x4096x512 := Rect.unit (s := S1x4096x512) ![0, 0, 0] S1x4096x512.size inb_S1x4096x512_S1x4096x512_0_0_0
abbrev bR : Rect S1x1x512 := Rect.unit (s := S1x1x512) ![0, 0, 0] S1x1x512.size inb_S1x1x512_S1x1x512_0_0_0
abbrev xR : Rect S512x4096 := Rect.unit (s := S512x4096) ![0, 0] S512x4096.size inb_S512x4096_S512x4096_0_0
abbrev gR : Rect S1x4096 := Rect.unit (s := S1x4096) ![0, 0] S1x4096.size inb_S1x4096_S1x4096_0_0

theorem inb_row (j : Fin 16) : ∀ a, (![j.val, 0, 0] : Fin 3 → ℕ) a + S1x1x512.size a ≤ S16x1x512.size a := by revert j; decide +kernel
/-- A column block's place in the scratch. -/
abbrev rowR (j : Fin 16) : Rect S16x1x512 := Rect.unit (s := S16x1x512) ![j.val, 0, 0] S1x1x512.size (inb_row j)

theorem cond1_iff : ∀ i : grid0.Coords, k0_cond1 i = 1#1 ↔ (i 0).val < 16 := by decide +kernel
theorem cond2_iff : ∀ i : grid0.Coords, k0_cond2 i = 1#1 ↔ 16 ≤ (i 0).val := by decide +kernel
theorem off1 : ∀ i : grid0.Coords, (i 0).val < 16 → k0_off1 i 0 = (i 0).val ∧ k0_off1 i 1 = 0 ∧ k0_off1 i 2 = 0 := by decide +kernel

/-- Where a point's column block goes. -/
abbrev modR (i : grid0.Coords) (h : k0_cond1 i = 1#1) : Rect S16x1x512 := Rect.unit (s := S16x1x512) (k0_off1 i) S1x1x512.size (k0_off1_inb i h)

/-! ## The body -/

section
variable (i : grid0.Coords) (arg1 : Memref sig .tc .vmem S4096x1 .f32) (harg1 : arg1.IsWhole) (arg2 : Memref sig .tc .vmem S1x4096x512 .f32) (harg2 : arg2.IsWhole)
  (arg3 : Memref sig .tc .vmem S1x1x512 .f32) (harg3 : arg3.IsWhole) (arg4 : Memref sig .tc .vmem S512x4096 .f32) (harg4 : arg4.IsWhole)
  (arg5 : Memref sig .tc .vmem S1x4096 .f32) (harg5 : arg5.IsWhole) (arg6 : Memref sig .tc .vmem S512x4096 .bf16) (harg6 : arg6.IsWhole)
  (arg7 : Memref sig .tc .vmem S16x1x512 .f32) (harg7 : arg7.IsWhole)

/-- The rows' norms, modulated by the scratch. -/
def normOut (x : Vec F S512x4096 .f32) (g : Vec F S1x4096 .f32) (b : Vec F S16x1x512 .f32) : Vec F S512x4096 .bf16 :=
  k0_pay2 (k0_pay3 (ldR (rowR 0) b) (ldR (rowR 1) b) (ldR (rowR 2) b) (ldR (rowR 3) b) (ldR (rowR 4) b) (ldR (rowR 5) b) (ldR (rowR 6) b) (ldR (rowR 7) b))
    (k0_pay4 (ldR (rowR 8) b)) (k0_pay5 (ldR (rowR 9) b)) (k0_pay6 (ldR (rowR 10) b)) (ldR (rowR 11) b) (ldR (rowR 12) b) (ldR (rowR 13) b) (ldR (rowR 14) b) (ldR (rowR 15) b)
    (ldR xR x) (ldR gR g)

/-- The scratch after a call. -/
def modOut (x0 : Vec F S4096x1 .f32) (x1 : Vec F S1x4096x512 .f32) (x2 : Vec F S1x1x512 .f32) (b : Vec F S16x1x512 .f32) : Vec F S16x1x512 .f32 :=
  if h : k0_cond1 i = 1#1 then over (modR i h) (k0_pay1 (ldR cR x0) (ldR wR x1) (ldR bR x2)) b else b

/-- The output block after a call. -/
def hOut (x3 : Vec F S512x4096 .f32) (x4 : Vec F S1x4096 .f32) (b : Vec F S16x1x512 .f32) (o : Vec F S512x4096 .bf16) : Vec F S512x4096 .bf16 :=
  if k0_cond2 i = 1#1 then over xR (normOut x3 x4 b) o else o

variable (c : Dev nD)

include harg1 harg2 harg3 harg4 harg5 harg6 harg7 in
set_option maxHeartbeats 4000000 in
/-- The kernel's triple. -/
theorem wp_body (x0 : Vec F S4096x1 .f32) (x1 : Vec F S1x4096x512 .f32) (x2 : Vec F S1x1x512 .f32) (x3 : Vec F S512x4096 .f32) (x4 : Vec F S1x4096 .f32)
    (o : Vec F S512x4096 .bf16) (b : Vec F S16x1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ owns (c : Thread nD τ) arg5 fullShare x4 ∗ owns (c : Thread nD τ) arg6 fullShare o ∗ owns (c : Thread nD τ) arg7 fullShare b
      ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare (hOut i x3 x4 b o) ∗ owns (c : Thread nD τ) arg7 fullShare (modOut i x0 x1 x2 b))
          -∗ K ⟨⟩))
    ⊢ wp frame (wpE (defs₀ (F := F)) Variants.none c none) E (cc0_first_norm i arg1 harg1 arg2 harg2 arg3 harg3 arg4 harg4 arg5 harg5 arg6 harg6 arg7 harg7) K := by
  rw [cc0_first_norm_eq_skeleton]
  unfold cc0_first_norm_skel owns
  rw [k0_part1_eq_skeleton]
  unfold k0_part1_skel
  dsimp only
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  by_cases h : (i 0).val < 16
  · have h1 : k0_cond1 i = 1#1 := (cond1_iff i).mpr h
    have h2 : ¬k0_cond2 i = 1#1 := fun hh => by have := (cond2_iff i).mp hh; omega
    rw [dif_pos h1, dif_neg h2, hOut, if_neg h2, modOut, dif_pos h1]
    sl_exec
    sl_step
    iapply Hk
    isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    iexists _; isplitr; swap; · iexact H7
    ipureintro
    rw [read_writes_one, harg7.read_unread]; erw [readAt_ldR harg1, readAt_ldR harg2, readAt_ldR harg3]
  · have h1 : ¬k0_cond1 i = 1#1 := fun hh => h ((cond1_iff i).mp hh)
    have h2 : k0_cond2 i = 1#1 := (cond2_iff i).mpr (by omega)
    rw [dif_neg h1, dif_pos h2, hOut, if_pos h2, modOut, dif_neg h1]
    sl_exec
    sl_step
    iapply Hk
    isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]
    · iexists _; isplitr; swap; · iexact H6
      ipureintro
      rw [read_writes_one, harg6.read_unread]
      refine congrArg (fun v => over xR v o) ?_
      unfold normOut
      simp only [← readAt_ldR harg7, ← readAt_ldR harg4, ← readAt_ldR harg5]
      rfl
    iexists _; isplitr; · ipureintro; exact harg7.read_unread _
    iexact H7

end

variable (m : (ℓ : Loc nD τ sig) → Buf (Elt F) ℓ) (ρ : Dev nD → PrngReg)

/-! ## The points -/

theorem N32 : cfg0.N = 32 := N_0

theorem coords0 (t : Fin cfg0.N) : (grid0.coords t 0).val = t.val := by
  have h : (grid0.coords t 0).val = t.val / 1 % 32 := Pipeline.Grid.coords_val t 0 (by decide) rfl
  have : t.val < 32 := Nat.lt_of_lt_of_eq t.isLt N32
  omega

theorem live5 (t : Fin cfg0.N) (h : 16 ≤ t.val) : cfg0.idle 5 (grid0.coords t) = false := by
  show (!(k0_cond2 (grid0.coords t) == 1#1)) = false
  rw [(cond2_iff _).mpr (by rw [coords0]; omega)]; rfl

theorem idle5 (t : Fin cfg0.N) (h : t.val < 16) : cfg0.idle 5 (grid0.coords t) = true := by
  show (!(k0_cond2 (grid0.coords t) == 1#1)) = true
  have hn : ¬k0_cond2 (grid0.coords t) = 1#1 := fun hh => by have := (cond2_iff _).mp hh; rw [coords0] at this; omega
  rw [beq_eq_false_iff_ne.mpr hn]; rfl

theorem flush5_off : ∀ t : Fin cfg0.N, t.val < 16 → (cfg0.win 5).flush t = false := by decide +kernel

/-! ## The scratch between points -/

/-- The point of a column block. -/
abbrev pt (j : Fin 16) : Fin cfg0.N := ⟨j.val, Nat.lt_of_lt_of_eq (by omega : j.val < 32) N32.symm⟩

/-- The column block a point makes. -/
def modAt (c : Dev nD) (t : Fin cfg0.N) : Vec F S1x1x512 .f32 := k0_pay1 (ldR cR (iblk m c 0 t)) (ldR wR (iblk m c 1 t)) (ldR bR (iblk m c 2 t))

/-- What is known of the scratch before point `t`: the column blocks made so far. -/
def Agree (c : Dev nD) (t : ℕ) (b : Vec F S16x1x512 .f32) : Prop := ∀ j : Fin 16, j.val < t → ldR (rowR j) b = modAt m c (pt j)

theorem Agree.zero (c : Dev nD) (b : Vec F S16x1x512 .f32) : Agree m c 0 b := fun _ h => absurd h (Nat.not_lt_zero _)

theorem row_over (i : grid0.Coords) (h : k0_cond1 i = 1#1) (w : Vec F S1x1x512 .f32) (b : Vec F S16x1x512 .f32) (j : Fin 16) :
    ldR (rowR j) (over (modR i h) w b) = if j.val = (i 0).val then w else ldR (rowR j) b := by
  have ho := off1 i ((cond1_iff i).mp h)
  funext x
  have hx : (x 0).val < 1 := (x 0).isLt
  by_cases hj : j.val = (i 0).val
  · rw [if_pos hj]
    refine over_hit (modR i h) w b x _ fun d => ?_
    match d with
    | ⟨0, _⟩ => show j.val + 1 * (x 0).val = k0_off1 i 0 + 1 * (x 0).val; rw [ho.1, hj]
    | ⟨1, _⟩ => show 0 + 1 * (x 1).val = k0_off1 i 1 + 1 * (x 1).val; rw [ho.2.1]
    | ⟨2, _⟩ => show 0 + 1 * (x 2).val = k0_off1 i 2 + 1 * (x 2).val; rw [ho.2.2]
  · rw [if_neg hj]
    refine over_miss_axis (modR i h) w b _ 0 _ 1 ho.1 rfl rfl ?_
    show j.val + 1 * (x 0).val < _ ∨ _ ≤ j.val + 1 * (x 0).val
    omega

theorem Agree.succ {c : Dev nD} {t : Fin cfg0.N} {b : Vec F S16x1x512 .f32} (h : Agree m c t.val b) :
    Agree m c (t.val + 1) (modOut (grid0.coords t) (iblk m c 0 t) (iblk m c 1 t) (iblk m c 2 t) b) := by
  intro j hj
  have hc := coords0 t
  by_cases h16 : t.val < 16
  · have h1 : k0_cond1 (grid0.coords t) = 1#1 := (cond1_iff _).mpr (by omega)
    rw [modOut, dif_pos h1, row_over _ h1, hc]
    by_cases hjt : j.val = t.val
    · rw [if_pos hjt, show pt j = t from Fin.ext hjt]; rfl
    · rw [if_neg hjt]; exact h j (by omega)
  · rw [modOut, dif_neg fun hh => by have := (cond1_iff _).mp hh; omega]
    exact h j (by omega)

/-- The output block a point leaves: the modulation's blocks of all the first sixteen points. -/
def outAt (c : Dev nD) (t : Fin cfg0.N) : Vec F S512x4096 .bf16 :=
  normOut (iblk m c 3 t) (iblk m c 4 t) fun z => modAt m c (pt (z 0)) (fun d => match d with | ⟨0, _⟩ => ⟨0, Nat.one_pos⟩ | ⟨1, _⟩ => z 1 | ⟨2, _⟩ => z 2)

theorem over_all (w o : Vec F S512x4096 .bf16) : over xR w o = w := by
  funext z
  refine over_hit xR w o z z fun d => ?_
  match d with
  | ⟨0, _⟩ => show (z 0).val = 0 + 1 * (z 0).val; omega
  | ⟨1, _⟩ => show (z 1).val = 0 + 1 * (z 1).val; omega

theorem out_agree {c : Dev nD} {t : Fin cfg0.N} (h16 : 16 ≤ t.val) {b : Vec F S16x1x512 .f32} (h : Agree m c t.val b) (o : Vec F S512x4096 .bf16) :
    hOut (grid0.coords t) (iblk m c 3 t) (iblk m c 4 t) b o = outAt m c t := by
  unfold hOut outAt
  rw [if_pos ((cond2_iff _).mpr (by rw [coords0]; omega)), over_all]
  refine congrArg (normOut _ _) (funext fun z => ?_)
  have hz : (z 0).val < 16 := (z 0).isLt
  refine Eq.trans (congrArg b (funext fun d => Fin.ext ?_)) (congrFun (h (z 0) (by omega)) _)
  match d with
  | ⟨0, _⟩ => show (z 0).val = (z 0).val + 1 * 0; omega
  | ⟨1, _⟩ => show (z 1).val = 0 + 1 * (z 1).val; omega
  | ⟨2, _⟩ => show (z 2).val = 0 + 1 * (z 2).val; omega

theorem out_idle {t : Fin cfg0.N} (h16 : t.val < 16) (x3 : Vec F S512x4096 .f32) (x4 : Vec F S1x4096 .f32) (b : Vec F S16x1x512 .f32)
    (o : Vec F S512x4096 .bf16) : hOut (grid0.coords t) x3 x4 b o = o := by
  unfold hOut
  rw [if_neg fun hh => by have := (cond2_iff _).mp hh; rw [coords0] at this; omega]

/-! ## The proof data -/

/-- The scratch operand. -/
abbrev sc0 : Memref sig .tc .vmem S16x1x512 .f32 := Memref.whole cc0_scratch0

theorem PhiA_eq (c : Dev nD) :
    (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

/-- The invariant before point `t`. -/
def PhiS (c : Dev nD) (t : ℕ) (_ : t ≤ cfg0.N) : sProp 𝕄 :=
  iprop((∃ b, owns (c : Thread nD τ) sc0 fullShare b ∗ ⌜Agree m c t b⌝) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

theorem leaves_5 (c : Dev nD) (t : Fin cfg0.N) (b : Vec F S16x1x512 .f32) (h : Agree m c t.val b) (d) :
    owns (c : Thread nD τ) (st0_5 t) fullShare (hOut (grid0.coords t) (iblk m c 3 t) (iblk m c 4 t) b ((dats m 0 c).before 5 t d))
      ⊢ ((dats m 0 c).leavesExact 5 t : sProp 𝕄) := by
  by_cases h16 : t.val < 16
  · rw [Dat.leavesExact_idle _ 5 t (idle5 t h16) (flush5_off t h16), out_idle h16]
    iintro H
    iexists d
    iexact H
  · have h16' : 16 ≤ t.val := by omega
    rw [out_agree m h16' h, show (dats m 0 c).leavesExact 5 t = owns (c : Thread nD τ) (st0_5 t) fullShare ((dats m 0 c).after 5 t) from by
      unfold Dat.leavesExact; rw [live5 t h16'], after_5]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  rw [show (dats m 0 c).leavesExact 3 t = owns (c : Thread nD τ) (st0_3 t) fullShare ((dats m 0 c).after 3 t) from rfl, after_3]
  rw [show (dats m 0 c).leavesExact 4 t = owns (c : Thread nD τ) (st0_4 t) fullShare ((dats m 0 c).after 4 t) from rfl, after_4]
  unfold PhiS
  iintro ⟨⟨⟨%b, HS, %hag⟩, Hg⟩, Ho, ⟨%d0, H0⟩, ⟨%d1, H1⟩, ⟨%d2, H2⟩, ⟨%d3, H3⟩, ⟨%d4, H4⟩, ⟨%d5, H5⟩⟩
  iapply (wp_body (grid0.coords t) (st0_0 t) _ (st0_1 t) _ (st0_2 t) _ (st0_3 t) _ (st0_4 t) _ (st0_5 t) _ sc0 _ c
    (iblk m c 0 t) (iblk m c 1 t) (iblk m c 2 t) (iblk m c 3 t) (iblk m c 4 t) ((dats m 0 c).before 5 t d5) b Set.univ)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexists _
      isplitl [HS]; · iexact HS
      ipureintro
      exact Agree.succ m hag
    iexact Hg
  isplitl [Ho]; · iexact Ho
  isplitl [H0]; · iexact H0
  isplitl [H1]; · iexact H1
  isplitl [H2]; · iexact H2
  isplitl [H3]; · iexact H3
  isplitl [H4]; · iexact H4
  iapply (leaves_5 m c t b hag d5)
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨%b, H⟩, Hg⟩
  isplitl [H]
  · iexists b
    isplitl [H]; · iexact H
    ipureintro
    exact Agree.zero m c b
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%b, H, %hag⟩, Hg⟩
  isplitl [H]
  · iexists b; iexact H
  iexact Hg

/-! ## The run -/

set_option backward.isDefEq.respectTransparency.types false in
/-- Every execution terminates, with every window's array at what the points left and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_main m ρ)

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_main m ρ))

end Cert.Kernel9Ideal.Norm

end
-- ==== Proof.NormVal.lean ====
/- A row's norm, its gated sum and its modulation, over the reals. -/
module

public import Idealize.ShloMosaic.Lib.Pointwise

@[expose] public section

noncomputable section

namespace Cert.NormVal

open Idealize.ShloMosaic Idealize.ShloMosaic.TcCoe

/-- A row over its root mean square, times the gain. -/
@[irreducible] def rms (x g : Fin 4096 → EReal) (l : Fin 4096) : EReal :=
  x l * Ideal.rsqrt (Ideal.div (∑ k : Fin 4096, x k * x k) (Ideal.ofBits .f32 0x45800000#32) + Ideal.ofBits .f32 0x358637BD#32) * g l

/-- A row plus the gated norm of another. -/
@[irreducible] def resid (x y gate g : Fin 4096 → EReal) (l : Fin 4096) : EReal := x l + gate l * rms y g l

/-- The modulated norm of a row. -/
@[irreducible] def normed (x g sc sh : Fin 4096 → EReal) (l : Fin 4096) : EReal :=
  rms x g l * (Ideal.ofBits .f32 0x3F800000#32 + sc l) + sh l

/-- The columns of the modulation from one on. -/
def cols (M : (⟨2, ![1, 40960]⟩ : Shape).Idx → EReal) (o : ℕ) (h : o + 4096 ≤ 40960) (l : Fin 4096) : EReal := M (ix2 0 ⟨o + l.val, by omega⟩)
/-- A gain. -/
def gain (G : (⟨3, ![2, 4, 4096]⟩ : Shape).Idx → EReal) (a : Fin 2) (b : Fin 4) (l : Fin 4096) : EReal := G (ix3 a b l)
/-- A row. -/
def row (X : (⟨2, ![8192, 4096]⟩ : Shape).Idx → EReal) (r : Fin 8192) (l : Fin 4096) : EReal := X (ix2 r l)

end Cert.NormVal

end
-- ==== Proof.Norm9Result.lean ====
/- The first norm over the reals: the result array, entry by entry. -/
module

public import proofs.«01_k».proof.Proof.Norm9Run
public import proofs.«01_k».proof.Proof.NormVal
public import proofs.«01_k».proof.Proof.WinVal
public import Idealize.ShloMosaic.Lib.StableHlo.RunRead

@[expose] public section

set_option maxRecDepth 16384

noncomputable section

namespace Cert.Kernel9Ideal.Norm

open Idealize.ShloMosaic Idealize.ShloMosaic.TcCoe
open Cert.Kernel9Ideal Cert.Kernel9Ideal.Gen Cert.Rects Cert.NormVal Cert.WinVal

/-! ## The blocks' arithmetic -/

theorem pay1_at (x : Vec Ideal S4096x1 .f32) (w : Vec Ideal S1x4096x512 .f32) (v : Vec Ideal S1x1x512 .f32) (j : Fin 512) :
    k0_pay1 (F := Ideal) x w v (ix3 0 0 j) = (∑ k : Fin 4096, w (ix3 0 k j) * (x (ix2 k 0) * Ideal.logistic (x (ix2 k 0)))) + v (ix3 0 0 j) := by
  pointwise [k0_pay1]

/-- Eight blocks of columns side by side. -/
def cat8 (Y : Fin 8 → FVec Ideal S1x512 .f32) : FVec Ideal S1x4096 .f32 :=
  concatenate S1x4096 1 [⟨S1x512, Y 0⟩, ⟨S1x512, Y 1⟩, ⟨S1x512, Y 2⟩, ⟨S1x512, Y 3⟩, ⟨S1x512, Y 4⟩, ⟨S1x512, Y 5⟩, ⟨S1x512, Y 6⟩, ⟨S1x512, Y 7⟩]
    concatenates_S1x512_S1x512_S1x512_S1x512_S1x512_S1x512_S1x512_S1x512_S1x4096_d1

theorem same_ix (Y : Fin 8 → FVec Ideal S1x512 .f32) (a a' : Fin 8) (b b' : Fin 512) (ha : a.val = a'.val) (hb : b.val = b'.val) : Y a (ix2 0 b) = Y a' (ix2 0 b') := by
  rw [Fin.ext ha, Fin.ext hb]

theorem cat8_at (Y : Fin 8 → FVec Ideal S1x512 .f32) (l : Fin 4096) :
    cat8 Y (ix2 0 l) = Y ⟨l.val / 512, by omega⟩ (ix2 0 ⟨l.val % 512, Nat.mod_lt _ (by omega)⟩) := by
  have hl := l.isLt
  unfold cat8
  pointwise []
  split_ifs
  all_goals
    refine same_ix Y _ _ _ _ ?_ ?_
    all_goals
      simp
      omega

/-- The modulated norm of a block of rows. -/
def normV (x : FVec Ideal S512x4096 .f32) (g sc sh : FVec Ideal S1x4096 .f32) : FVec Ideal S512x4096 .bf16 :=
  truncf .bf16 (addf (mulf (mulf (mulf x (broadcastTo S512x4096 (rsqrt (addf (divf (shapeCast S512x1 (multiReduction .add [1] S512 (mulf x x) 0x00000000#32 reduces_S512x4096_S512 (.inl rfl) rfl)
        shapeCasts_S512_S512x1) (broadcast S512x1 (Scalar.ofBits .f32 0x45800000#32 : Ideal .f32))) (broadcast S512x1 (Scalar.ofBits .f32 0x358637BD#32 : Ideal .f32)))) broadcasts_S512x1_S512x4096))
      (broadcastTo S512x4096 (shapeCast S1x4096 g shapeCasts_S1x4096_S1x4096) broadcasts_S1x4096_S512x4096))
    (broadcastTo S512x4096 (addf (broadcast S1x4096 (Scalar.ofBits .f32 0x3F800000#32 : Ideal .f32)) sc) broadcasts_S1x4096_S512x4096))
    (broadcastTo S512x4096 sh broadcasts_S1x4096_S512x4096)) bitsLt_bf16_f32

theorem normV_at (x : FVec Ideal S512x4096 .f32) (g sc sh : FVec Ideal S1x4096 .f32) (r : Fin 512) (l : Fin 4096) :
    normV x g sc sh (ix2 r l) = normed (fun k => x (ix2 r k)) (fun k => g (ix2 0 k)) (fun k => sc (ix2 0 k)) (fun k => sh (ix2 0 k)) l := by
  unfold normV normed rms
  pointwise []

/-- A row of the scratch. -/
def rowV (b : Vec Ideal S16x1x512 .f32) (j : Fin 16) : FVec Ideal S1x512 .f32 := shapeCast S1x512 (ldR (rowR j) b) shapeCasts_S1x1x512_S1x512

theorem ld_row (b : Vec Ideal S16x1x512 .f32) (j : Fin 16) (l : Fin 512) : ldR (rowR j) b (ix3 0 0 l) = b (ix3 j 0 l) := by
  refine congrArg b (funext fun d => Fin.ext ?_)
  match d with
  | ⟨0, _⟩ => show j.val + 1 * 0 = j.val; omega
  | ⟨1, _⟩ => rfl
  | ⟨2, _⟩ => show 0 + 1 * l.val = l.val; omega

theorem rowV_at (b : Vec Ideal S16x1x512 .f32) (j : Fin 16) (l : Fin 512) : rowV b j (ix2 0 l) = b (ix3 j 0 l) := by
  refine Eq.trans ?_ (ld_row b j l)
  unfold rowV
  pointwise []

theorem normOut_eq (x : Vec Ideal S512x4096 .f32) (g : Vec Ideal S1x4096 .f32) (b : Vec Ideal S16x1x512 .f32) :
    normOut (F := Ideal) x g b = normV (ldR xR x) (ldR gR g) (cat8 fun a => rowV b ⟨8 + a.val, by omega⟩) (cat8 fun a => rowV b ⟨a.val, by omega⟩) := rfl

variable (m : (ℓ : Loc nD τ sig) → Buf (Elt Ideal) ℓ) (c : Dev nD)

/-- The activations, the conditioning row, the modulation's weights and bias, and the gains. -/
abbrev actv : S8192x4096.Idx → EReal := m ((c : Thread nD τ).loc main_arg0)
abbrev cond : S1x4096.Idx → EReal := m ((c : Thread nD τ).loc main_arg1)
abbrev mwgt : S2x4096x24576.Idx → EReal := m ((c : Thread nD τ).loc main_arg2)
abbrev mbias : S2x24576.Idx → EReal := m ((c : Thread nD τ).loc main_arg3)
abbrev gains : S2x4x4096.Idx → EReal := m ((c : Thread nD τ).loc main_arg4)

/-! ## The host's arrays -/

def condV : FVec Ideal S4096x1 .f32 := shapeCast S4096x1 (cond m c : FVec Ideal S1x4096 .f32) shapeCasts_S1x4096_S4096x1
def biasV : FVec Ideal S2x1x24576 .f32 := shapeCast S2x1x24576 (mbias m c : FVec Ideal S2x24576 .f32) shapeCasts_S2x24576_S2x1x24576
def gainV : FVec Ideal S1x4096 .f32 :=
  shapeCast S1x4096 (shapeCast S4096 (extractStridedSlice S1x1x4096 ![0, 0, 0] (gains m c : FVec Ideal S2x4x4096 .f32) slices_S2x4x4096_S1x1x4096_0_0_0) shapeCasts_S1x1x4096_S4096) shapeCasts_S4096_S1x4096

theorem V_v0 : V m c main_v0 = condV m c := by unfold V; after_reads_simp; rfl
theorem V_v4 : V m c main_v4 = biasV m c := by unfold V; after_reads_simp; rfl
theorem V_v3 : V m c main_v3 = gainV m c := by unfold V; after_reads_simp; rfl
theorem condV_at (k : Fin 4096) : condV m c (ix2 k 0) = cond m c (ix2 0 k) := by unfold condV; pointwise []
theorem biasV_at (L : Fin 2) (j : Fin 24576) : biasV m c (ix3 L 0 j) = mbias m c (ix2 L j) := by unfold biasV; pointwise []
theorem gainV_at (l : Fin 4096) : gainV m c (ix2 0 l) = gain (gains m c) 0 0 l := by unfold gainV gain; pointwise []

/-! ## The windows -/

theorem index0 : ∀ t : Fin cfg0.N, win0_0.index t 0 = 0 ∧ win0_0.index t 1 = 0 := by decide +kernel
theorem index1 : ∀ t : Fin cfg0.N, t.val < 16 → win0_1.index t 0 = 0 ∧ win0_1.index t 1 = 0 ∧ win0_1.index t 2 = t.val := by decide +kernel
theorem index2 : ∀ t : Fin cfg0.N, t.val < 16 → win0_2.index t 0 = 0 ∧ win0_2.index t 1 = 0 ∧ win0_2.index t 2 = t.val := by decide +kernel
theorem index3 : ∀ t : Fin cfg0.N, 16 ≤ t.val → win0_3.index t 0 = t.val - 16 ∧ win0_3.index t 1 = 0 := by decide +kernel
theorem index4 : ∀ t : Fin cfg0.N, win0_4.index t 0 = 0 ∧ win0_4.index t 1 = 0 := by decide +kernel
theorem index5 : ∀ t : Fin cfg0.N, 16 ≤ t.val → win0_5.index t 0 = t.val - 16 ∧ win0_5.index t 1 = 0 := by decide +kernel
theorem flush5_on : ∀ t : Fin cfg0.N, 16 ≤ t.val → (cfg0.win 5).flush t = true := by decide +kernel
theorem xsize5 : ∀ t : Fin cfg0.N, win0_5.xsize (grid0.coords t) 0 = 512 ∧ win0_5.xsize (grid0.coords t) 1 = 4096 := by decide +kernel

theorem c_at (t : Fin cfg0.N) (k : Fin 4096) : ldR cR (iblk m c 0 t) (ix2 k 0) = cond m c (ix2 0 k) := by
  have hi := index0 t
  unfold ldR iblk
  rw [View.read_apply]
  show V m c main_v0 _ = _
  rw [V_v0, ← condV_at]
  refine congrArg (condV m c) (funext fun d => Fin.ext ?_)
  match d with
  | ⟨0, _⟩ => show win0_0.index t 0 * 4096 + 1 * (0 + 1 * k.val) = k.val; rw [hi.1]; omega
  | ⟨1, _⟩ => show win0_0.index t 1 * 1 + 1 * (0 + 1 * 0) = 0; rw [hi.2]

theorem w_at (t : Fin cfg0.N) (h : t.val < 16) (k : Fin 4096) (j : Fin 512) (J : Fin 24576) (hJ : J.val = 512 * t.val + j.val) :
    ldR wR (iblk m c 1 t) (ix3 0 k j) = mwgt m c (ix3 0 k J) := by
  have hi := index1 t h
  unfold ldR iblk
  rw [View.read_apply]
  show V m c main_arg2 _ = _
  rw [V_main_arg2]
  refine congrArg (mwgt m c) (funext fun d => Fin.ext ?_)
  match d with
  | ⟨0, _⟩ => show win0_1.index t 0 * 1 + 1 * (0 + 1 * 0) = 0; rw [hi.1]
  | ⟨1, _⟩ => show win0_1.index t 1 * 4096 + 1 * (0 + 1 * k.val) = k.val; rw [hi.2.1]; omega
  | ⟨2, _⟩ => show win0_1.index t 2 * 512 + 1 * (0 + 1 * j.val) = J.val; rw [hi.2.2]; omega

theorem b_at (t : Fin cfg0.N) (h : t.val < 16) (j : Fin 512) (J : Fin 24576) (hJ : J.val = 512 * t.val + j.val) :
    ldR bR (iblk m c 2 t) (ix3 0 0 j) = mbias m c (ix2 0 J) := by
  have hi := index2 t h
  unfold ldR iblk
  rw [View.read_apply]
  show V m c main_v4 _ = _
  rw [V_v4, ← biasV_at]
  refine congrArg (biasV m c) (funext fun d => Fin.ext ?_)
  match d with
  | ⟨0, _⟩ => show win0_2.index t 0 * 1 + 1 * (0 + 1 * 0) = 0; rw [hi.1]
  | ⟨1, _⟩ => show win0_2.index t 1 * 1 + 1 * (0 + 1 * 0) = 0; rw [hi.2.1]
  | ⟨2, _⟩ => show win0_2.index t 2 * 512 + 1 * (0 + 1 * j.val) = J.val; rw [hi.2.2]; omega

theorem x_at (t : Fin cfg0.N) (h : 16 ≤ t.val) (r : Fin 512) (k : Fin 4096) (R : Fin 8192) (hR : R.val = 512 * (t.val - 16) + r.val) :
    ldR xR (iblk m c 3 t) (ix2 r k) = row (actv m c) R k := by
  have hi := index3 t h
  unfold ldR iblk row
  rw [View.read_apply]
  show V m c main_arg0 _ = _
  rw [V_main_arg0]
  refine congrArg (actv m c) (funext fun d => Fin.ext ?_)
  match d with
  | ⟨0, _⟩ => show win0_3.index t 0 * 512 + 1 * (0 + 1 * r.val) = R.val; rw [hi.1]; omega
  | ⟨1, _⟩ => show win0_3.index t 1 * 4096 + 1 * (0 + 1 * k.val) = k.val; rw [hi.2]; omega

theorem g_at (t : Fin cfg0.N) (k : Fin 4096) : ldR gR (iblk m c 4 t) (ix2 0 k) = gain (gains m c) 0 0 k := by
  have hi := index4 t
  unfold ldR iblk
  rw [View.read_apply]
  show V m c main_v3 _ = _
  rw [V_v3, ← gainV_at]
  refine congrArg (gainV m c) (funext fun d => Fin.ext ?_)
  match d with
  | ⟨0, _⟩ => show win0_4.index t 0 * 1 + 1 * (0 + 1 * 0) = 0; rw [hi.1]
  | ⟨1, _⟩ => show win0_4.index t 1 * 4096 + 1 * (0 + 1 * k.val) = k.val; rw [hi.2]; omega

/-- The modulation's column of a norm. -/
def modCol (o : ℕ) (h : o + 4096 ≤ 24576) (l : Fin 4096) : EReal := modc (cond m c) (mwgt m c) (mbias m c) 0 ⟨o + l.val, by omega⟩

theorem modAt_at (j : Fin 16) (l : Fin 512) (J : Fin 24576) (hJ : J.val = 512 * j.val + l.val) :
    modAt m c (pt j) (ix3 0 0 l) = modc (cond m c) (mwgt m c) (mbias m c) 0 J := by
  unfold modAt modc
  rw [pay1_at, b_at m c (pt j) j.isLt l J hJ]
  have e : (∑ k : Fin 4096, (ldR wR (iblk m c 1 (pt j)) (ix3 0 k l) : EReal) * ((ldR cR (iblk m c 0 (pt j)) (ix2 k 0) : EReal) * Ideal.logistic (ldR cR (iblk m c 0 (pt j)) (ix2 k 0) : EReal)))
      = ∑ k : Fin 4096, (cond m c (ix2 0 k) * Ideal.logistic (cond m c (ix2 0 k))) * mwgt m c (ix3 0 k J) :=
    Finset.sum_congr rfl fun k _ => by rw [w_at m c (pt j) j.isLt k l J hJ, c_at, mul_comm]
  exact congrArg (fun x : EReal => x + mbias m c (ix2 0 J)) e

/-! ## The result -/

/-- A row of the result. -/
def outRow (R : Fin 8192) : Fin 4096 → EReal := normed (row (actv m c) R) (gain (gains m c) 0 0) (modCol m c 4096 (by omega)) (modCol m c 0 (by omega))
/-- The result array. -/
def Res : Buf (Elt Ideal) ((c : Thread nD τ).loc main_v5) := fun z => outRow m c (z 0) (z 1)
theorem Res_at (z : S8192x4096.Idx) : Res m c z = outRow m c (z 0) (z 1) := rfl

theorem outAt_at (t : Fin cfg0.N) (h : 16 ≤ t.val) (z : S512x4096.Idx) (R : Fin 8192) (L : Fin 4096) (hR : R.val = 512 * (t.val - 16) + (z 0).val) (hL : L = z 1) :
    outAt m c t z = outRow m c R L := by
  obtain ⟨r, l, rfl⟩ : ∃ (r : Fin 512) (l : Fin 4096), z = ix2 r l := ⟨z 0, z 1, funext fun a => match a with | ⟨0, _⟩ => rfl | ⟨1, _⟩ => rfl⟩
  subst hL
  unfold outAt outRow
  rw [normOut_eq, normV_at, funext fun k => x_at m c t h r k R hR, funext (g_at m c t)]
  refine congr (congrArg (normed _ _) (funext fun k => ?_) |> congr <| funext fun k => ?_) rfl
  · rw [cat8_at, rowV_at]
    exact modAt_at m c _ _ _ (by show 4096 + k.val = 512 * (8 + k.val / 512) + k.val % 512; omega)
  · rw [cat8_at, rowV_at]
    exact modAt_at m c _ _ _ (by show 0 + k.val = 512 * (k.val / 512) + k.val % 512; omega)

theorem flushed_eq (t : Fin cfg0.N) (hf : (cfg0.win 5).flush t = true) : (dats m 0 c).flushed 5 t = ((cfg0.win 5).blk t).view.read (Elt Ideal) (Res m c) := by
  have h16 : 16 ≤ t.val := by
    by_contra h
    have := flush5_off t (by omega)
    rw [hf] at this
    exact absurd this (by decide)
  show (cfg0.win 5).cut (grid0.coords t) ((dats m 0 c).after 5 t) = _
  rw [after_5]
  funext z
  have hi := index5 t h16
  rw [View.read_apply]
  show outAt m c t (win0_5.xinj (grid0.coords t) z) = _
  refine Eq.trans (outAt_at m c t h16 _ _ _ ?_ (Fin.ext ?_)) (Res_at m c _).symm
  · show win0_5.index t 0 * 512 + 1 * (z 0).val = _ + (z 0).val; rw [hi.1]; omega
  · show win0_5.index t 1 * 4096 + 1 * (z 1).val = (z 1).val; rw [hi.2]; omega

theorem cover (z : S8192x4096.Idx) : ∃ t : Fin cfg0.N, (cfg0.win 5).flush t = true ∧ z ∈ ((cfg0.win 5).blk t).view.set := by
  have hz0 : (z 0).val < 8192 := (z 0).isLt
  have hz1 : (z 1).val < 4096 := (z 1).isLt
  let t : Fin cfg0.N := ⟨16 + (z 0).val / 512, by rw [N32]; omega⟩
  have ht : t.val = 16 + (z 0).val / 512 := rfl
  have h16 : 16 ≤ t.val := by omega
  have hi := index5 t h16
  have hxs := xsize5 t
  refine ⟨t, flush5_on t h16, ?_⟩
  show z ∈ ((View.whole main_v5).slice (win0_5.rect t)).set
  rw [View.set_slice_whole, Rect.mem_set_unit]
  intro a
  match a with
  | ⟨0, _⟩ =>
    show win0_5.index t 0 * 512 ≤ (z 0 : ℕ) ∧ (z 0 : ℕ) < win0_5.index t 0 * 512 + win0_5.xsize (grid0.coords t) 0
    rw [hi.1, hxs.1]; omega
  | ⟨1, _⟩ =>
    show win0_5.index t 1 * 4096 ≤ (z 1 : ℕ) ∧ (z 1 : ℕ) < win0_5.index t 1 * 4096 + win0_5.xsize (grid0.coords t) 1
    rw [hi.2, hxs.2]; omega

theorem final_o : (dats m 0 c).arrAt 5 cfg0.N = Res m c :=
  (dats m 0 c).arrAt_eq_of_cover 5 (Res m c) (fun t hf => flushed_eq m c t hf) cover

end Cert.Kernel9Ideal.Norm

end
-- ==== Proof.Norm7Ref.lean ====
/- The gated sum's reference over the reals: its two results, entry by entry. -/
module

public import proofs.«01_k».proof.Proof.Gen.Reference7Ideal.Run
public import proofs.«01_k».proof.Proof.NormVal

@[expose] public section

set_option maxRecDepth 16384

noncomputable section

namespace Cert.Reference7Ideal.Norm

open Idealize.ShloMosaic Idealize.ShloMosaic.TcCoe Idealize.SL.Sem Idealize.ShloMosaic.StableHlo
open Cert.Reference7Ideal Cert.Reference7Ideal.Gen Cert.NormVal

/-- The norm of the rows. -/
def rmsV (x : FVec Ideal S8192x4096 .f32) (g : FVec Ideal S1x1x4096 .f32) : FVec Ideal S8192x4096 .f32 :=
  mulf (mulf x (broadcastInDim S8192x4096 ![0, 1] bcast_S8192x1_S8192x4096_0_1 (Host.rsqrt (addf
      (Host.divf (broadcastInDim S8192x1 ![0] bcast_S8192_S8192x1_0 (Host.reduceAdd (mulf x x) (constant S_ .f32 0x00000000#32) reducesTo_S8192x4096_S8192_d1 h_S_))
        (broadcastInDim S8192x1 ![] bcast_S_S8192x1 (constant S_ .f32 0x45800000#32)))
      (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 (shapeCast _ g shapeCasts_S1x1x4096_S4096)))

/-- The modulation's columns. -/
def modV (M : FVec Ideal S1x40960 .f32) : FVec Ideal S1x16384 .f32 := extractStridedSlice S1x16384 ![0, 0] M slices_S1x40960_S1x16384_0_0

/-- The gated sum. -/
def sum (X : FVec Ideal S8192x4096 .f32) (Y : FVec Ideal S8192x4096 .bf16) (M : FVec Ideal S1x40960 .f32) (G : FVec Ideal S2x4x4096 .f32) : FVec Ideal S8192x4096 .f32 :=
  addf X (mulf (broadcastInDim S8192x4096 ![0, 1] bcast_S1x4096_S8192x4096_0_1 (extractStridedSlice S1x4096 ![0, 0] (modV M) slices_S1x16384_S1x4096_0_0))
    (rmsV (extf .f32 Y bitsLt_bf16_f32) (extractStridedSlice S1x1x4096 ![0, 1, 0] G slices_S2x4x4096_S1x1x4096_0_1_0)))

/-- Its modulated norm. -/
def out (X : FVec Ideal S8192x4096 .f32) (Y : FVec Ideal S8192x4096 .bf16) (M : FVec Ideal S1x40960 .f32) (G : FVec Ideal S2x4x4096 .f32) : FVec Ideal S8192x4096 .bf16 :=
  truncf .bf16 (addf
    (mulf (rmsV (sum X Y M G) (extractStridedSlice S1x1x4096 ![0, 2, 0] G slices_S2x4x4096_S1x1x4096_0_2_0))
      (broadcastInDim S8192x4096 ![0, 1] bcast_S1x4096_S8192x4096_0_1 (addf (broadcastInDim S1x4096 ![] bcast_S_S1x4096 (constant S_ .f32 0x3F800000#32))
        (extractStridedSlice S1x4096 ![0, 8192] (modV M) slices_S1x16384_S1x4096_0_8192))))
    (broadcastInDim S8192x4096 ![0, 1] bcast_S1x4096_S8192x4096_0_1 (extractStridedSlice S1x4096 ![0, 4096] (modV M) slices_S1x16384_S1x4096_0_4096))) bitsLt_bf16_f32

theorem rmsV_at (x : FVec Ideal S8192x4096 .f32) (g : FVec Ideal S1x1x4096 .f32) (r : Fin 8192) (l : Fin 4096) :
    rmsV x g (ix2 r l) = rms (fun k => x (ix2 r k)) (fun k => g (ix3 0 0 k)) l := by
  unfold rmsV rms
  pointwise []

theorem modV_at (M : FVec Ideal S1x40960 .f32) (j : Fin 16384) : modV M (ix2 0 j) = M (ix2 0 ⟨j.val, by omega⟩) := by
  unfold modV
  pointwise []

theorem sum_at (X : FVec Ideal S8192x4096 .f32) (Y : FVec Ideal S8192x4096 .bf16) (M : FVec Ideal S1x40960 .f32) (G : FVec Ideal S2x4x4096 .f32) (r : Fin 8192) (l : Fin 4096) :
    sum X Y M G (ix2 r l) = resid (row X r) (row Y r) (cols M 0 (by omega)) (gain G 0 1) l := by
  unfold sum resid row cols
  pointwise [rmsV_at, modV_at]
  rfl

theorem out_at (X : FVec Ideal S8192x4096 .f32) (Y : FVec Ideal S8192x4096 .bf16) (M : FVec Ideal S1x40960 .f32) (G : FVec Ideal S2x4x4096 .f32) (r : Fin 8192) (l : Fin 4096) :
    out X Y M G (ix2 r l) = normed (resid (row X r) (row Y r) (cols M 0 (by omega)) (gain G 0 1)) (gain G 0 2) (cols M 8192 (by omega)) (cols M 4096 (by omega)) l := by
  unfold out normed
  pointwise [rmsV_at, modV_at, sum_at]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = sum (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v45) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.Reference7Ideal.Norm

end
-- ==== Proof.Norm9Ref.lean ====
/- The first norm's reference over the reals: its result, entry by entry. -/
module

public import proofs.«01_k».proof.Proof.Gen.Reference9Ideal.Run
public import proofs.«01_k».proof.Proof.Norm7Ref
public import proofs.«01_k».proof.Proof.WinVal

@[expose] public section

set_option maxRecDepth 16384

noncomputable section

namespace Cert.Reference9Ideal.Norm

open Idealize.ShloMosaic Idealize.ShloMosaic.TcCoe Idealize.SL.Sem Idealize.ShloMosaic.StableHlo
open Cert.Reference9Ideal Cert.Reference9Ideal.Gen Cert.NormVal Cert.WinVal
open Cert.Reference7Ideal.Norm (rmsV rmsV_at)

/-- The conditioning row through silu. -/
def siluV (x : FVec Ideal S1x4096 .f32) : FVec Ideal S1x4096 .f32 :=
  mulf x (Host.divf (broadcastInDim S1x4096 ![] bcast_S_S1x4096 (constant S_ .f32 0x3F800000#32))
    (addf (broadcastInDim S1x4096 ![] bcast_S_S1x4096 (constant S_ .f32 0x3F800000#32)) (Host.exp (Host.negf x))))

/-- The modulation of the first layer. -/
def modV (s : FVec Ideal S1x4096 .f32) (aw : FVec Ideal S2x4096x24576 .f32) (ab : FVec Ideal S2x24576 .f32) : FVec Ideal S1x24576 .f32 :=
  addf (Host.dotGeneral dot_S1x4096_S4096x24576_S1x24576_1_0_0_1_n_n none s
      (shapeCast _ (extractStridedSlice S1x4096x24576 ![0, 0, 0] aw slices_S2x4096x24576_S1x4096x24576_0_0_0) shapeCasts_S1x4096x24576_S4096x24576))
    (broadcastInDim S1x24576 ![1] bcast_S24576_S1x24576_1 (shapeCast _ (extractStridedSlice S1x24576 ![0, 0] ab slices_S2x24576_S1x24576_0_0) shapeCasts_S1x24576_S24576))

/-- The modulated norm, from the modulation. -/
def out (x : FVec Ideal S8192x4096 .f32) (M : FVec Ideal S1x24576 .f32) (G : FVec Ideal S2x4x4096 .f32) : FVec Ideal S8192x4096 .bf16 :=
  truncf .bf16 (addf (mulf (rmsV x (extractStridedSlice S1x1x4096 ![0, 0, 0] G slices_S2x4x4096_S1x1x4096_0_0_0))
      (broadcastInDim S8192x4096 ![0, 1] bcast_S1x4096_S8192x4096_0_1 (addf (broadcastInDim S1x4096 ![] bcast_S_S1x4096 (constant S_ .f32 0x3F800000#32))
        (extractStridedSlice S1x4096 ![0, 4096] M slices_S1x24576_S1x4096_0_4096))))
    (broadcastInDim S8192x4096 ![0, 1] bcast_S1x4096_S8192x4096_0_1 (extractStridedSlice S1x4096 ![0, 0] M slices_S1x24576_S1x4096_0_0))) bitsLt_bf16_f32

theorem siluV_at (x : FVec Ideal S1x4096 .f32) (k : Fin 4096) : siluV x (ix2 0 k) = x (ix2 0 k) * Ideal.logistic (x (ix2 0 k)) := by
  unfold siluV Ideal.logistic
  pointwise []

theorem modV_at (x : FVec Ideal S1x4096 .f32) (aw : FVec Ideal S2x4096x24576 .f32) (ab : FVec Ideal S2x24576 .f32) (j : Fin 24576) :
    modV (siluV x) aw ab (ix2 0 j) = modc x aw ab 0 j := by
  unfold modV modc
  pointwise [siluV_at]

theorem out_at (x : FVec Ideal S8192x4096 .f32) (M : FVec Ideal S1x24576 .f32) (G : FVec Ideal S2x4x4096 .f32) (r : Fin 8192) (l : Fin 4096) :
    out x M G (ix2 r l) = normed (row x r) (gain G 0 0) (fun k => M (ix2 0 ⟨4096 + k.val, by omega⟩)) (fun k => M (ix2 0 ⟨0 + k.val, by omega⟩)) l := by
  unfold out normed row
  pointwise [rmsV_at]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = out (m ((c.tc : Thread nD τ).loc main_arg0))
          (modV (siluV (m ((c.tc : Thread nD τ).loc main_arg1))) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Reference9Ideal.Norm

end
-- ==== Proof.Norm7Result.lean ====
/- The gated sum and the norm after it, over the reals: the two result arrays, entry by entry. -/
module

public import proofs.«01_k».proof.Proof.Gen.Kernel7Ideal.Frame
public import proofs.«01_k».proof.Proof.NormVal
public import Idealize.ShloMosaic.Lib.Pipeline.ValueKit
public import Idealize.ShloMosaic.Lib.StableHlo.RunRead

@[expose] public section

set_option maxRecDepth 16384

noncomputable section

namespace Cert.Kernel7Ideal.Norm

open Idealize.ShloMosaic Idealize.ShloMosaic.TcCoe
open Cert.Kernel7Ideal Cert.Kernel7Ideal.Gen Cert.NormVal

/-! ## The block's arithmetic -/

theorem pay2_at (v0 : FVec Ideal S512x4096 .f32) (v1 : FVec Ideal S1x4096 .f32) (v3 : FVec Ideal S512x4096 .bf16) (v5 : FVec Ideal S1x4096 .f32) (r : Fin 512) (l : Fin 4096) :
    k0_pay2 (F := Ideal) v0 v1 v3 v5 (ix2 r l) =
      resid (fun k => v0 (ix2 r k)) (fun k => v3 (ix2 r k)) (fun k => v1 (ix2 0 k)) (fun k => v5 (ix2 0 k)) l := by
  unfold k0_pay2 resid rms
  pointwise []

theorem pay3_at (v0 : FVec Ideal S512x4096 .f32) (v1 : FVec Ideal S1x4096 .f32) (v3 : FVec Ideal S512x4096 .bf16) (v5 v23 : FVec Ideal S1x4096 .f32) (r : Fin 512) (l : Fin 4096) :
    k0_pay3 (F := Ideal) v0 v1 v3 v5 v23 (ix2 r l) =
      rms (resid (fun k => v0 (ix2 r k)) (fun k => v3 (ix2 r k)) (fun k => v1 (ix2 0 k)) (fun k => v5 (ix2 0 k))) (fun k => v23 (ix2 0 k)) l := by
  unfold k0_pay3 rms
  pointwise [pay2_at]

theorem pay1_at (v36 : FVec Ideal S512x4096 .f32) (v37 v43 : FVec Ideal S1x4096 .f32) (r : Fin 512) (l : Fin 4096) :
    k0_pay1 (F := Ideal) v36 v37 v43 (ix2 r l) = v36 (ix2 r l) * (Ideal.ofBits .f32 0x3F800000#32 + v37 (ix2 0 l)) + v43 (ix2 0 l) := by
  unfold k0_pay1
  pointwise []

variable (m : (ℓ : Loc nD τ sig) → Buf (Elt Ideal) ℓ) (c : Dev nD)

/-- The activations, the branch's result, the modulation and the gains. -/
abbrev actv : S8192x4096.Idx → EReal := m ((c : Thread nD τ).loc main_arg0)
abbrev brch : S8192x4096.Idx → EReal := m ((c : Thread nD τ).loc main_arg1)
abbrev modu : S1x40960.Idx → EReal := m ((c : Thread nD τ).loc main_arg2)
abbrev gains : S2x4x4096.Idx → EReal := m ((c : Thread nD τ).loc main_arg3)

/-! ## The host's arrays -/

/-- The columns of the modulation that the host slices, and a gain. -/
def colV (o : Fin 2 → ℕ) (h : S1x16384.Slices o S1x4096) : FVec Ideal S1x4096 .f32 :=
  extractStridedSlice S1x4096 o (extractStridedSlice S1x16384 ![0, 0] (modu m c : FVec Ideal S1x40960 .f32) slices_S1x40960_S1x16384_0_0) h
def gainV (o : Fin 3 → ℕ) (h : S2x4x4096.Slices o S1x1x4096) : FVec Ideal S1x4096 .f32 :=
  shapeCast S1x4096 (shapeCast S4096 (extractStridedSlice S1x1x4096 o (gains m c : FVec Ideal S2x4x4096 .f32) h) shapeCasts_S1x1x4096_S4096) shapeCasts_S4096_S1x4096

theorem V_v1 : V m c main_v1 = colV m c ![0, 0] slices_S1x16384_S1x4096_0_0 := by
  unfold V
  after_reads_simp
  rfl
theorem V_v4 : V m c main_v4 = gainV m c ![0, 1, 0] slices_S2x4x4096_S1x1x4096_0_1_0 := by
  unfold V
  after_reads_simp
  rfl
theorem V_v7 : V m c main_v7 = gainV m c ![0, 2, 0] slices_S2x4x4096_S1x1x4096_0_2_0 := by
  unfold V
  after_reads_simp
  rfl
theorem V_v8 : V m c main_v8 = colV m c ![0, 8192] slices_S1x16384_S1x4096_0_8192 := by
  unfold V
  after_reads_simp
  rfl
theorem V_v9 : V m c main_v9 = colV m c ![0, 4096] slices_S1x16384_S1x4096_0_4096 := by
  unfold V
  after_reads_simp
  rfl

theorem v1_at (l : Fin 4096) : colV m c ![0, 0] slices_S1x16384_S1x4096_0_0 (ix2 0 l) = cols (modu m c) 0 (by omega) l := by
  unfold colV cols
  pointwise []
theorem v8_at (l : Fin 4096) : colV m c ![0, 8192] slices_S1x16384_S1x4096_0_8192 (ix2 0 l) = cols (modu m c) 8192 (by omega) l := by
  unfold colV cols
  pointwise []
theorem v9_at (l : Fin 4096) : colV m c ![0, 4096] slices_S1x16384_S1x4096_0_4096 (ix2 0 l) = cols (modu m c) 4096 (by omega) l := by
  unfold colV cols
  pointwise []
theorem v4_at (l : Fin 4096) : gainV m c ![0, 1, 0] slices_S2x4x4096_S1x1x4096_0_1_0 (ix2 0 l) = gain (gains m c) 0 1 l := by
  unfold gainV gain
  pointwise []
theorem v7_at (l : Fin 4096) : gainV m c ![0, 2, 0] slices_S2x4x4096_S1x1x4096_0_2_0 (ix2 0 l) = gain (gains m c) 0 2 l := by
  unfold gainV gain
  pointwise []

/-! ## The windows -/

theorem N16 : cfg0.N = 16 := by decide +kernel

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem xsize7 : ∀ t : Fin cfg0.N, win0_7.xsize (grid0.coords t) 0 = 512 ∧ win0_7.xsize (grid0.coords t) 1 = 4096 := by decide +kernel
theorem xsize8 : ∀ t : Fin cfg0.N, win0_8.xsize (grid0.coords t) 0 = 512 ∧ win0_8.xsize (grid0.coords t) 1 = 4096 := by decide +kernel

theorem x_at (t : Fin cfg0.N) (r : Fin 512) (k : Fin 4096) (R : Fin 8192) (hR : R.val = 512 * t.val + r.val) : iblk m c 0 t (ix2 r k) = row (actv m c) R k := by
  have hi := index0 t
  unfold iblk row
  rw [View.read_apply]
  show V m c main_arg0 _ = _
  rw [V_main_arg0]
  refine congrArg (actv m c) (funext fun d => Fin.ext ?_)
  match d with
  | ⟨0, _⟩ => show win0_0.index t 0 * 512 + 1 * r.val = R.val; rw [hi.1]; omega
  | ⟨1, _⟩ => show win0_0.index t 1 * 4096 + 1 * k.val = k.val; rw [hi.2]; omega

theorem y_at (t : Fin cfg0.N) (r : Fin 512) (k : Fin 4096) (R : Fin 8192) (hR : R.val = 512 * t.val + r.val) : iblk m c 1 t (ix2 r k) = row (brch m c) R k := by
  have hi := index1 t
  unfold iblk row
  rw [View.read_apply]
  show V m c main_arg1 _ = _
  rw [V_main_arg1]
  refine congrArg (brch m c) (funext fun d => Fin.ext ?_)
  match d with
  | ⟨0, _⟩ => show win0_1.index t 0 * 512 + 1 * r.val = R.val; rw [hi.1]; omega
  | ⟨1, _⟩ => show win0_1.index t 1 * 4096 + 1 * k.val = k.val; rw [hi.2]; omega

theorem gate_at (t : Fin cfg0.N) (k : Fin 4096) : iblk m c 2 t (ix2 0 k) = cols (modu m c) 0 (by omega) k := by
  have hi := index2 t
  unfold iblk
  rw [View.read_apply]
  show V m c main_v1 _ = _
  rw [V_v1]
  refine Eq.trans (congrArg _ (funext fun d => Fin.ext ?_)) (v1_at m c k)
  match d with
  | ⟨0, _⟩ => show win0_2.index t 0 * 1 + 1 * 0 = 0; rw [hi.1]
  | ⟨1, _⟩ => show win0_2.index t 1 * 4096 + 1 * k.val = k.val; rw [hi.2]; omega

theorem gy_at (t : Fin cfg0.N) (k : Fin 4096) : iblk m c 3 t (ix2 0 k) = gain (gains m c) 0 1 k := by
  have hi := index3 t
  unfold iblk
  rw [View.read_apply]
  show V m c main_v4 _ = _
  rw [V_v4]
  refine Eq.trans (congrArg _ (funext fun d => Fin.ext ?_)) (v4_at m c k)
  match d with
  | ⟨0, _⟩ => show win0_3.index t 0 * 1 + 1 * 0 = 0; rw [hi.1]
  | ⟨1, _⟩ => show win0_3.index t 1 * 4096 + 1 * k.val = k.val; rw [hi.2]; omega

theorem gx_at (t : Fin cfg0.N) (k : Fin 4096) : iblk m c 4 t (ix2 0 k) = gain (gains m c) 0 2 k := by
  have hi := index4 t
  unfold iblk
  rw [View.read_apply]
  show V m c main_v7 _ = _
  rw [V_v7]
  refine Eq.trans (congrArg _ (funext fun d => Fin.ext ?_)) (v7_at m c k)
  match d with
  | ⟨0, _⟩ => show win0_4.index t 0 * 1 + 1 * 0 = 0; rw [hi.1]
  | ⟨1, _⟩ => show win0_4.index t 1 * 4096 + 1 * k.val = k.val; rw [hi.2]; omega

theorem sc_at (t : Fin cfg0.N) (k : Fin 4096) : iblk m c 5 t (ix2 0 k) = cols (modu m c) 8192 (by omega) k := by
  have hi := index5 t
  unfold iblk
  rw [View.read_apply]
  show V m c main_v8 _ = _
  rw [V_v8]
  refine Eq.trans (congrArg _ (funext fun d => Fin.ext ?_)) (v8_at m c k)
  match d with
  | ⟨0, _⟩ => show win0_5.index t 0 * 1 + 1 * 0 = 0; rw [hi.1]
  | ⟨1, _⟩ => show win0_5.index t 1 * 4096 + 1 * k.val = k.val; rw [hi.2]; omega

theorem sh_at (t : Fin cfg0.N) (k : Fin 4096) : iblk m c 6 t (ix2 0 k) = cols (modu m c) 4096 (by omega) k := by
  have hi := index6 t
  unfold iblk
  rw [View.read_apply]
  show V m c main_v9 _ = _
  rw [V_v9]
  refine Eq.trans (congrArg _ (funext fun d => Fin.ext ?_)) (v9_at m c k)
  match d with
  | ⟨0, _⟩ => show win0_6.index t 0 * 1 + 1 * 0 = 0; rw [hi.1]
  | ⟨1, _⟩ => show win0_6.index t 1 * 4096 + 1 * k.val = k.val; rw [hi.2]; omega

/-! ## The results -/

/-- A row of the sum, and of its modulated norm. -/
def sumRow (R : Fin 8192) : Fin 4096 → EReal := resid (row (actv m c) R) (row (brch m c) R) (cols (modu m c) 0 (by omega)) (gain (gains m c) 0 1)
def normRow (R : Fin 8192) : Fin 4096 → EReal := normed (sumRow m c R) (gain (gains m c) 0 2) (cols (modu m c) 8192 (by omega)) (cols (modu m c) 4096 (by omega))

/-- The two result arrays. -/
def Res : Buf (Elt Ideal) ((c : Thread nD τ).loc main_v10_0) := fun z => sumRow m c (z 0) (z 1)
def ResN : Buf (Elt Ideal) ((c : Thread nD τ).loc main_v10_1) := fun z => normRow m c (z 0) (z 1)
theorem Res_at (z : S8192x4096.Idx) : Res m c z = sumRow m c (z 0) (z 1) := rfl
theorem ResN_at (z : S8192x4096.Idx) : ResN m c z = normRow m c (z 0) (z 1) := rfl

theorem sum_row (t : Fin cfg0.N) (r : Fin 512) (R : Fin 8192) (hR : R.val = 512 * t.val + r.val) :
    resid (fun k => iblk m c 0 t (ix2 r k)) (fun k => iblk m c 1 t (ix2 r k)) (fun k => iblk m c 2 t (ix2 0 k)) (fun k => iblk m c 3 t (ix2 0 k)) = sumRow m c R := by
  unfold sumRow
  rw [funext fun k => x_at m c t r k R hR, funext fun k => y_at m c t r k R hR, funext (gate_at m c t), funext (gy_at m c t)]

theorem zero2 : ∀ a : Fin 2, (![0, 0] : Fin 2 → ℕ) a = 0 := by decide

theorem out7_at (t : Fin cfg0.N) (z : S512x4096.Idx) (R : Fin 8192) (L : Fin 4096) (hR : R.val = 512 * t.val + (z 0).val) (hL : L = z 1) :
    out0_7 (F := Ideal) (iblk m c 0 t) (iblk m c 1 t) (iblk m c 2 t) (iblk m c 3 t) (iblk m c 4 t) (iblk m c 5 t) (iblk m c 6 t) z = sumRow m c R L := by
  unfold out0_7
  rw [View.canon_cons_unit_lit _ _ _ zero2, View.ld_unit_lit _ _ zero2, View.ld_unit_lit _ _ zero2, View.ld_unit_lit _ _ zero2, View.ld_unit_lit _ _ zero2]
  obtain ⟨r, l, rfl⟩ : ∃ (r : Fin 512) (l : Fin 4096), z = ix2 r l := ⟨z 0, z 1, funext fun a => match a with | ⟨0, _⟩ => rfl | ⟨1, _⟩ => rfl⟩
  rw [hL]
  exact (pay2_at _ _ _ _ r l).trans (congrFun (sum_row m c t r R hR) l)

theorem out8_at (t : Fin cfg0.N) (z : S512x4096.Idx) (R : Fin 8192) (L : Fin 4096) (hR : R.val = 512 * t.val + (z 0).val) (hL : L = z 1) :
    out0_8 (F := Ideal) (iblk m c 0 t) (iblk m c 1 t) (iblk m c 2 t) (iblk m c 3 t) (iblk m c 4 t) (iblk m c 5 t) (iblk m c 6 t) z = normRow m c R L := by
  unfold out0_8
  rw [View.canon_cons_unit_lit _ _ _ zero2, View.ld_unit_lit _ _ zero2, View.ld_unit_lit _ _ zero2, View.ld_unit_lit _ _ zero2, View.ld_unit_lit _ _ zero2,
    View.ld_unit_lit _ _ zero2, View.ld_unit_lit _ _ zero2, View.ld_unit_lit _ _ zero2]
  obtain ⟨r, l, rfl⟩ : ∃ (r : Fin 512) (l : Fin 4096), z = ix2 r l := ⟨z 0, z 1, funext fun a => match a with | ⟨0, _⟩ => rfl | ⟨1, _⟩ => rfl⟩
  rw [hL]
  refine (pay1_at _ _ _ r l).trans ?_
  rw [pay3_at, sum_row m c t r R hR, funext (gx_at m c t), sc_at, sh_at]
  unfold normRow normed
  rfl

theorem flushed7_eq (t : Fin cfg0.N) (_hf : (cfg0.win 7).flush t = true) : (dats m 0 c).flushed 7 t = ((cfg0.win 7).blk t).view.read (Elt Ideal) (Res m c) := by
  show (cfg0.win 7).cut (grid0.coords t) ((dats m 0 c).after 7 t) = _
  rw [after0_7]
  funext z
  have hi := index7 t
  rw [View.read_apply]
  show out0_7 (F := Ideal) _ _ _ _ _ _ _ (win0_7.xinj (grid0.coords t) z) = _
  refine Eq.trans (out7_at m c t _ _ _ ?_ (Fin.ext ?_)) (Res_at m c _).symm
  · show win0_7.index t 0 * 512 + 1 * (z 0).val = _ + (z 0).val; rw [hi.1]; omega
  · show win0_7.index t 1 * 4096 + 1 * (z 1).val = (z 1).val; rw [hi.2]; omega

theorem flushed8_eq (t : Fin cfg0.N) (_hf : (cfg0.win 8).flush t = true) : (dats m 0 c).flushed 8 t = ((cfg0.win 8).blk t).view.read (Elt Ideal) (ResN m c) := by
  show (cfg0.win 8).cut (grid0.coords t) ((dats m 0 c).after 8 t) = _
  rw [after0_8]
  funext z
  have hi := index8 t
  rw [View.read_apply]
  show out0_8 (F := Ideal) _ _ _ _ _ _ _ (win0_8.xinj (grid0.coords t) z) = _
  refine Eq.trans (out8_at m c t _ _ _ ?_ (Fin.ext ?_)) (ResN_at m c _).symm
  · show win0_8.index t 0 * 512 + 1 * (z 0).val = _ + (z 0).val; rw [hi.1]; omega
  · show win0_8.index t 1 * 4096 + 1 * (z 1).val = (z 1).val; rw [hi.2]; omega

theorem cover7 (z : S8192x4096.Idx) : ∃ t : Fin cfg0.N, (cfg0.win 7).flush t = true ∧ z ∈ ((cfg0.win 7).blk t).view.set := by
  have hz0 : (z 0).val < 8192 := (z 0).isLt
  have hz1 : (z 1).val < 4096 := (z 1).isLt
  let t : Fin cfg0.N := ⟨(z 0).val / 512, by rw [N16]; omega⟩
  have ht : t.val = (z 0).val / 512 := rfl
  have hi := index7 t
  have hxs := xsize7 t
  refine ⟨t, flush0_7 t, ?_⟩
  show z ∈ ((View.whole main_v10_0).slice (win0_7.rect t)).set
  rw [View.set_slice_whole, Rect.mem_set_unit]
  intro a
  match a with
  | ⟨0, _⟩ =>
    show win0_7.index t 0 * 512 ≤ (z 0 : ℕ) ∧ (z 0 : ℕ) < win0_7.index t 0 * 512 + win0_7.xsize (grid0.coords t) 0
    rw [hi.1, hxs.1]; omega
  | ⟨1, _⟩ =>
    show win0_7.index t 1 * 4096 ≤ (z 1 : ℕ) ∧ (z 1 : ℕ) < win0_7.index t 1 * 4096 + win0_7.xsize (grid0.coords t) 1
    rw [hi.2, hxs.2]; omega

theorem cover8 (z : S8192x4096.Idx) : ∃ t : Fin cfg0.N, (cfg0.win 8).flush t = true ∧ z ∈ ((cfg0.win 8).blk t).view.set := by
  have hz0 : (z 0).val < 8192 := (z 0).isLt
  have hz1 : (z 1).val < 4096 := (z 1).isLt
  let t : Fin cfg0.N := ⟨(z 0).val / 512, by rw [N16]; omega⟩
  have ht : t.val = (z 0).val / 512 := rfl
  have hi := index8 t
  have hxs := xsize8 t
  refine ⟨t, flush0_8 t, ?_⟩
  show z ∈ ((View.whole main_v10_1).slice (win0_8.rect t)).set
  rw [View.set_slice_whole, Rect.mem_set_unit]
  intro a
  match a with
  | ⟨0, _⟩ =>
    show win0_8.index t 0 * 512 ≤ (z 0 : ℕ) ∧ (z 0 : ℕ) < win0_8.index t 0 * 512 + win0_8.xsize (grid0.coords t) 0
    rw [hi.1, hxs.1]; omega
  | ⟨1, _⟩ =>
    show win0_8.index t 1 * 4096 ≤ (z 1 : ℕ) ∧ (z 1 : ℕ) < win0_8.index t 1 * 4096 + win0_8.xsize (grid0.coords t) 1
    rw [hi.2, hxs.2]; omega

theorem final_o : (dats m 0 c).arrAt 7 cfg0.N = Res m c :=
  (dats m 0 c).arrAt_eq_of_cover 7 (Res m c) (fun t hf => flushed7_eq m c t hf) cover7

theorem final_n : (dats m 0 c).arrAt 8 cfg0.N = ResN m c :=
  (dats m 0 c).arrAt_eq_of_cover 8 (ResN m c) (fun t hf => flushed8_eq m c t hf) cover8

end Cert.Kernel7Ideal.Norm

end
-- ==== Proof.Norm8Result.lean ====
/- The last gated sum over the reals: the result array, entry by entry. -/
module

public import proofs.«01_k».proof.Proof.Gen.Kernel8Ideal.Frame
public import proofs.«01_k».proof.Proof.NormVal
public import Idealize.ShloMosaic.Lib.Pipeline.ValueKit
public import Idealize.ShloMosaic.Lib.StableHlo.RunRead

@[expose] public section

set_option maxRecDepth 16384

noncomputable section

namespace Cert.Kernel8Ideal.Norm

open Idealize.ShloMosaic Idealize.ShloMosaic.TcCoe
open Cert.Kernel8Ideal Cert.Kernel8Ideal.Gen Cert.NormVal

/-! ## The block's arithmetic -/

theorem pay1_at (v0 : FVec Ideal S512x4096 .f32) (v1 : FVec Ideal S1x4096 .f32) (v3 : FVec Ideal S512x4096 .bf16) (v5 : FVec Ideal S1x4096 .f32) (r : Fin 512) (l : Fin 4096) :
    k0_pay1 (F := Ideal) v0 v1 v3 v5 (ix2 r l) =
      resid (fun k => v0 (ix2 r k)) (fun k => v3 (ix2 r k)) (fun k => v1 (ix2 0 k)) (fun k => v5 (ix2 0 k)) l := by
  unfold k0_pay1 resid rms
  pointwise []

variable (m : (ℓ : Loc nD τ sig) → Buf (Elt Ideal) ℓ) (c : Dev nD)

/-- The activations, the branch's result, the modulation and the gains. -/
abbrev actv : S8192x4096.Idx → EReal := m ((c : Thread nD τ).loc main_arg0)
abbrev brch : S8192x4096.Idx → EReal := m ((c : Thread nD τ).loc main_arg1)
abbrev modu : S1x40960.Idx → EReal := m ((c : Thread nD τ).loc main_arg2)
abbrev gains : S2x4x4096.Idx → EReal := m ((c : Thread nD τ).loc main_arg3)

/-! ## The host's arrays -/

/-- The columns of the modulation that the host slices, and a gain. -/
def colV (o : Fin 2 → ℕ) (h : S1x24576.Slices o S1x4096) : FVec Ideal S1x4096 .f32 :=
  extractStridedSlice S1x4096 o (extractStridedSlice S1x24576 ![0, 16384] (modu m c : FVec Ideal S1x40960 .f32) slices_S1x40960_S1x24576_0_16384) h
def gainV (o : Fin 3 → ℕ) (h : S2x4x4096.Slices o S1x1x4096) : FVec Ideal S1x4096 .f32 :=
  shapeCast S1x4096 (shapeCast S4096 (extractStridedSlice S1x1x4096 o (gains m c : FVec Ideal S2x4x4096 .f32) h) shapeCasts_S1x1x4096_S4096) shapeCasts_S4096_S1x4096

theorem V_v1 : V m c main_v1 = colV m c ![0, 20480] slices_S1x24576_S1x4096_0_20480 := by
  unfold V
  after_reads_simp
  rfl
theorem V_v4 : V m c main_v4 = gainV m c ![1, 3, 0] slices_S2x4x4096_S1x1x4096_1_3_0 := by
  unfold V
  after_reads_simp
  rfl
theorem v1_at (l : Fin 4096) : colV m c ![0, 20480] slices_S1x24576_S1x4096_0_20480 (ix2 0 l) = cols (modu m c) 36864 (by omega) l := by
  unfold colV cols
  pointwise []
  exact congrArg (fun j => modu m c (ix2 0 j)) (Fin.ext (by show 16384 + (20480 + l.val) = 36864 + l.val; omega))
theorem v4_at (l : Fin 4096) : gainV m c ![1, 3, 0] slices_S2x4x4096_S1x1x4096_1_3_0 (ix2 0 l) = gain (gains m c) 1 3 l := by
  unfold gainV gain
  pointwise []
/-! ## The windows -/

theorem N16 : cfg0.N = 16 := by decide +kernel

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel
theorem xsize4 : ∀ t : Fin cfg0.N, win0_4.xsize (grid0.coords t) 0 = 512 ∧ win0_4.xsize (grid0.coords t) 1 = 4096 := by decide +kernel
theorem x_at (t : Fin cfg0.N) (r : Fin 512) (k : Fin 4096) (R : Fin 8192) (hR : R.val = 512 * t.val + r.val) : iblk m c 0 t (ix2 r k) = row (actv m c) R k := by
  have hi := index0 t
  unfold iblk row
  rw [View.read_apply]
  show V m c main_arg0 _ = _
  rw [V_main_arg0]
  refine congrArg (actv m c) (funext fun d => Fin.ext ?_)
  match d with
  | ⟨0, _⟩ => show win0_0.index t 0 * 512 + 1 * r.val = R.val; rw [hi.1]; omega
  | ⟨1, _⟩ => show win0_0.index t 1 * 4096 + 1 * k.val = k.val; rw [hi.2]; omega

theorem y_at (t : Fin cfg0.N) (r : Fin 512) (k : Fin 4096) (R : Fin 8192) (hR : R.val = 512 * t.val + r.val) : iblk m c 1 t (ix2 r k) = row (brch m c) R k := by
  have hi := index1 t
  unfold iblk row
  rw [View.read_apply]
  show V m c main_arg1 _ = _
  rw [V_main_arg1]
  refine congrArg (brch m c) (funext fun d => Fin.ext ?_)
  match d with
  | ⟨0, _⟩ => show win0_1.index t 0 * 512 + 1 * r.val = R.val; rw [hi.1]; omega
  | ⟨1, _⟩ => show win0_1.index t 1 * 4096 + 1 * k.val = k.val; rw [hi.2]; omega

theorem gate_at (t : Fin cfg0.N) (k : Fin 4096) : iblk m c 2 t (ix2 0 k) = cols (modu m c) 36864 (by omega) k := by
  have hi := index2 t
  unfold iblk
  rw [View.read_apply]
  show V m c main_v1 _ = _
  rw [V_v1]
  refine Eq.trans (congrArg _ (funext fun d => Fin.ext ?_)) (v1_at m c k)
  match d with
  | ⟨0, _⟩ => show win0_2.index t 0 * 1 + 1 * 0 = 0; rw [hi.1]
  | ⟨1, _⟩ => show win0_2.index t 1 * 4096 + 1 * k.val = k.val; rw [hi.2]; omega

theorem gy_at (t : Fin cfg0.N) (k : Fin 4096) : iblk m c 3 t (ix2 0 k) = gain (gains m c) 1 3 k := by
  have hi := index3 t
  unfold iblk
  rw [View.read_apply]
  show V m c main_v4 _ = _
  rw [V_v4]
  refine Eq.trans (congrArg _ (funext fun d => Fin.ext ?_)) (v4_at m c k)
  match d with
  | ⟨0, _⟩ => show win0_3.index t 0 * 1 + 1 * 0 = 0; rw [hi.1]
  | ⟨1, _⟩ => show win0_3.index t 1 * 4096 + 1 * k.val = k.val; rw [hi.2]; omega

/-! ## The result -/

/-- A row of the sum. -/
def sumRow (R : Fin 8192) : Fin 4096 → EReal := resid (row (actv m c) R) (row (brch m c) R) (cols (modu m c) 36864 (by omega)) (gain (gains m c) 1 3)
/-- The result array. -/
def Res : Buf (Elt Ideal) ((c : Thread nD τ).loc main_v5) := fun z => sumRow m c (z 0) (z 1)
theorem Res_at (z : S8192x4096.Idx) : Res m c z = sumRow m c (z 0) (z 1) := rfl
theorem sum_row (t : Fin cfg0.N) (r : Fin 512) (R : Fin 8192) (hR : R.val = 512 * t.val + r.val) :
    resid (fun k => iblk m c 0 t (ix2 r k)) (fun k => iblk m c 1 t (ix2 r k)) (fun k => iblk m c 2 t (ix2 0 k)) (fun k => iblk m c 3 t (ix2 0 k)) = sumRow m c R := by
  unfold sumRow
  rw [funext fun k => x_at m c t r k R hR, funext fun k => y_at m c t r k R hR, funext (gate_at m c t), funext (gy_at m c t)]

theorem zero2 : ∀ a : Fin 2, (![0, 0] : Fin 2 → ℕ) a = 0 := by decide

theorem out4_at (t : Fin cfg0.N) (z : S512x4096.Idx) (R : Fin 8192) (L : Fin 4096) (hR : R.val = 512 * t.val + (z 0).val) (hL : L = z 1) :
    out0_4 (F := Ideal) (iblk m c 0 t) (iblk m c 1 t) (iblk m c 2 t) (iblk m c 3 t) z = sumRow m c R L := by
  unfold out0_4
  rw [View.canon_cons_unit_lit _ _ _ zero2, View.ld_unit_lit _ _ zero2, View.ld_unit_lit _ _ zero2, View.ld_unit_lit _ _ zero2, View.ld_unit_lit _ _ zero2]
  obtain ⟨r, l, rfl⟩ : ∃ (r : Fin 512) (l : Fin 4096), z = ix2 r l := ⟨z 0, z 1, funext fun a => match a with | ⟨0, _⟩ => rfl | ⟨1, _⟩ => rfl⟩
  rw [hL]
  exact (pay1_at _ _ _ _ r l).trans (congrFun (sum_row m c t r R hR) l)

theorem flushed4_eq (t : Fin cfg0.N) (_hf : (cfg0.win 4).flush t = true) : (dats m 0 c).flushed 4 t = ((cfg0.win 4).blk t).view.read (Elt Ideal) (Res m c) := by
  show (cfg0.win 4).cut (grid0.coords t) ((dats m 0 c).after 4 t) = _
  rw [after0_4]
  funext z
  have hi := index4 t
  rw [View.read_apply]
  show out0_4 (F := Ideal) _ _ _ _ (win0_4.xinj (grid0.coords t) z) = _
  refine Eq.trans (out4_at m c t _ _ _ ?_ (Fin.ext ?_)) (Res_at m c _).symm
  · show win0_4.index t 0 * 512 + 1 * (z 0).val = _ + (z 0).val; rw [hi.1]; omega
  · show win0_4.index t 1 * 4096 + 1 * (z 1).val = (z 1).val; rw [hi.2]; omega

theorem cover4 (z : S8192x4096.Idx) : ∃ t : Fin cfg0.N, (cfg0.win 4).flush t = true ∧ z ∈ ((cfg0.win 4).blk t).view.set := by
  have hz0 : (z 0).val < 8192 := (z 0).isLt
  have hz1 : (z 1).val < 4096 := (z 1).isLt
  let t : Fin cfg0.N := ⟨(z 0).val / 512, by rw [N16]; omega⟩
  have ht : t.val = (z 0).val / 512 := rfl
  have hi := index4 t
  have hxs := xsize4 t
  refine ⟨t, flush0_4 t, ?_⟩
  show z ∈ ((View.whole main_v5).slice (win0_4.rect t)).set
  rw [View.set_slice_whole, Rect.mem_set_unit]
  intro a
  match a with
  | ⟨0, _⟩ =>
    show win0_4.index t 0 * 512 ≤ (z 0 : ℕ) ∧ (z 0 : ℕ) < win0_4.index t 0 * 512 + win0_4.xsize (grid0.coords t) 0
    rw [hi.1, hxs.1]; omega
  | ⟨1, _⟩ =>
    show win0_4.index t 1 * 4096 ≤ (z 1 : ℕ) ∧ (z 1 : ℕ) < win0_4.index t 1 * 4096 + win0_4.xsize (grid0.coords t) 1
    rw [hi.2, hxs.2]; omega

theorem final_o : (dats m 0 c).arrAt 4 cfg0.N = Res m c :=
  (dats m 0 c).arrAt_eq_of_cover 4 (Res m c) (fun t hf => flushed4_eq m c t hf) cover4

end Cert.Kernel8Ideal.Norm

end
-- ==== Proof.Norm8Ref.lean ====
/- The last gated sum's reference over the reals: its result, entry by entry. -/
module

public import proofs.«01_k».proof.Proof.Gen.Reference8Ideal.Run
public import proofs.«01_k».proof.Proof.Norm7Ref

@[expose] public section

set_option maxRecDepth 16384

noncomputable section

namespace Cert.Reference8Ideal.Norm

open Idealize.ShloMosaic Idealize.ShloMosaic.TcCoe Idealize.SL.Sem Idealize.ShloMosaic.StableHlo
open Cert.Reference8Ideal Cert.Reference8Ideal.Gen Cert.NormVal
open Cert.Reference7Ideal.Norm (rmsV rmsV_at)

/-- The modulation's columns. -/
def modV (M : FVec Ideal S1x40960 .f32) : FVec Ideal S1x24576 .f32 := extractStridedSlice S1x24576 ![0, 16384] M slices_S1x40960_S1x24576_0_16384

/-- The gated sum. -/
def sum (X : FVec Ideal S8192x4096 .f32) (Y : FVec Ideal S8192x4096 .bf16) (M : FVec Ideal S1x40960 .f32) (G : FVec Ideal S2x4x4096 .f32) : FVec Ideal S8192x4096 .f32 :=
  addf X (mulf (broadcastInDim S8192x4096 ![0, 1] bcast_S1x4096_S8192x4096_0_1 (extractStridedSlice S1x4096 ![0, 20480] (modV M) slices_S1x24576_S1x4096_0_20480))
    (rmsV (extf .f32 Y bitsLt_bf16_f32) (extractStridedSlice S1x1x4096 ![1, 3, 0] G slices_S2x4x4096_S1x1x4096_1_3_0)))

theorem modV_at (M : FVec Ideal S1x40960 .f32) (j : Fin 24576) : modV M (ix2 0 j) = M (ix2 0 ⟨16384 + j.val, by omega⟩) := by
  unfold modV
  pointwise []

theorem sum_at (X : FVec Ideal S8192x4096 .f32) (Y : FVec Ideal S8192x4096 .bf16) (M : FVec Ideal S1x40960 .f32) (G : FVec Ideal S2x4x4096 .f32) (r : Fin 8192) (l : Fin 4096) :
    sum X Y M G (ix2 r l) = resid (row X r) (row Y r) (cols M 36864 (by omega)) (gain G 1 3) l := by
  unfold sum resid row cols
  pointwise [rmsV_at, modV_at]
  exact congrArg (fun z : EReal => X (ix2 r l) + z * rms (fun k => Y (ix2 r k)) (gain G 1 3) l) (congrArg (fun j => M (ix2 0 j)) (Fin.ext (by show 16384 + (20480 + l.val) = 36864 + l.val; omega)))

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = sum (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.Reference8Ideal.Norm

end
-- ==== Proof.Same.lean ====
/- The programs over the machine's floats and the programs over the reals have one text: their tables and mains are the same terms. -/
module

public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal
public import proofs.«01_k».proof.Proof.Gen.Kernel7
public import proofs.«01_k».proof.Proof.Gen.Kernel7Ideal
public import proofs.«01_k».proof.Proof.Gen.Kernel8
public import proofs.«01_k».proof.Proof.Gen.Kernel8Ideal
public import proofs.«01_k».proof.Proof.Gen.Kernel9
public import proofs.«01_k».proof.Proof.Gen.Kernel9Ideal

@[expose] public section

set_option maxRecDepth 16384
set_option maxHeartbeats 4000000

noncomputable section

namespace Cert

open Idealize.ShloMosaic

variable {F : FTy → Type} [FloatOps F]

namespace Same

theorem main_eq : Cert.Kernel.main (F := F) = Cert.KernelIdeal.main (F := F) := by
  unfold Cert.Kernel.main Cert.KernelIdeal.main Cert.Kernel.fn_log_sigmoid.body Cert.KernelIdeal.fn_log_sigmoid.body
    Cert.Kernel.fn_softplus.body Cert.KernelIdeal.fn_softplus.body
  dsimp only [Cert.Kernel.main_call0, Cert.Kernel.main_call1, Cert.Kernel.main_call0_call0, Cert.Kernel.main_call1_call0,
    Cert.KernelIdeal.main_call0, Cert.KernelIdeal.main_call1, Cert.KernelIdeal.main_call0_call0, Cert.KernelIdeal.main_call1_call0]
  rfl

theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) =>
    show Cert.Kernel.cc0_retention _ _ _ _ _ _ _ _ _ _ _ _ _ _ _ _ _ _ _
      = Cert.KernelIdeal.cc0_retention _ _ _ _ _ _ _ _ _ _ _ _ _ _ _ _ _ _ _
    unfold Cert.Kernel.cc0_retention Cert.KernelIdeal.cc0_retention
    rfl

theorem defs_eq : Cert.Kernel.defs (F := F) = Cert.KernelIdeal.defs (F := F) :=
  congrArg (Pipeline.defs (Cert.KernelIdeal.pcfgs (F := F))) defs₀_eq

end Same

namespace Same2

theorem main_eq : Cert.Kernel2.main (F := F) = Cert.Kernel2Ideal.main (F := F) := by
  unfold Cert.Kernel2.main Cert.Kernel2Ideal.main
  rfl

theorem defs₀_eq : Cert.Kernel2.defs₀ (F := F) = Cert.Kernel2Ideal.defs₀ (F := F) := by
  unfold Cert.Kernel2.defs₀ Cert.Kernel2Ideal.defs₀
  refine congrArg Defs.onTc ?_
  funext l x
  match l, x with
  | 0, (t, s) =>
    show Cert.Kernel2.cc0_matmul1 _ _ _ _ _ _ _ _ _ = Cert.Kernel2Ideal.cc0_matmul1 _ _ _ _ _ _ _ _ _
    unfold Cert.Kernel2.cc0_matmul1 Cert.Kernel2Ideal.cc0_matmul1
    rfl

theorem defs_eq : Cert.Kernel2.defs (F := F) = Cert.Kernel2Ideal.defs (F := F) :=
  congrArg (Pipeline.defs (Cert.Kernel2Ideal.pcfgs (F := F))) defs₀_eq

end Same2

namespace Same3

theorem main_eq : Cert.Kernel3.main (F := F) = Cert.Kernel3Ideal.main (F := F) := by
  unfold Cert.Kernel3.main Cert.Kernel3Ideal.main
  rfl

theorem defs₀_eq : Cert.Kernel3.defs₀ (F := F) = Cert.Kernel3Ideal.defs₀ (F := F) := by
  unfold Cert.Kernel3.defs₀ Cert.Kernel3Ideal.defs₀
  refine congrArg Defs.onTc ?_
  funext l x
  match l, x with
  | 0, (t, s) =>
    show Cert.Kernel3.cc0_matmulk _ _ _ _ _ _ _ _ _ _ _ = Cert.Kernel3Ideal.cc0_matmulk _ _ _ _ _ _ _ _ _ _ _
    unfold Cert.Kernel3.cc0_matmulk Cert.Kernel3Ideal.cc0_matmulk
    rfl

theorem defs_eq : Cert.Kernel3.defs (F := F) = Cert.Kernel3Ideal.defs (F := F) :=
  congrArg (Pipeline.defs (Cert.Kernel3Ideal.pcfgs (F := F))) defs₀_eq

end Same3

namespace Same4

theorem main_eq : Cert.Kernel4.main (F := F) = Cert.Kernel4Ideal.main (F := F) := by
  unfold Cert.Kernel4.main Cert.Kernel4Ideal.main
  rfl

theorem defs₀_eq : Cert.Kernel4.defs₀ (F := F) = Cert.Kernel4Ideal.defs₀ (F := F) := by
  unfold Cert.Kernel4.defs₀ Cert.Kernel4Ideal.defs₀
  refine congrArg Defs.onTc ?_
  funext l x
  match l, x with
  | 0, (t, s) =>
    show Cert.Kernel4.cc0_matmulk _ _ _ _ _ _ _ _ _ _ _ = Cert.Kernel4Ideal.cc0_matmulk _ _ _ _ _ _ _ _ _ _ _
    unfold Cert.Kernel4.cc0_matmulk Cert.Kernel4Ideal.cc0_matmulk
    rfl

theorem defs_eq : Cert.Kernel4.defs (F := F) = Cert.Kernel4Ideal.defs (F := F) :=
  congrArg (Pipeline.defs (Cert.Kernel4Ideal.pcfgs (F := F))) defs₀_eq

end Same4

namespace Same5

theorem main_eq : Cert.Kernel5.main (F := F) = Cert.Kernel5Ideal.main (F := F) := by
  unfold Cert.Kernel5.main Cert.Kernel5Ideal.main
  rfl

theorem defs₀_eq : Cert.Kernel5.defs₀ (F := F) = Cert.Kernel5Ideal.defs₀ (F := F) := by
  unfold Cert.Kernel5.defs₀ Cert.Kernel5Ideal.defs₀
  refine congrArg Defs.onTc ?_
  funext l x
  match l, x with
  | 0, (t, s) =>
    show Cert.Kernel5.cc0_matmul1 _ _ _ _ _ _ _ _ _ _ _ = Cert.Kernel5Ideal.cc0_matmul1 _ _ _ _ _ _ _ _ _ _ _
    unfold Cert.Kernel5.cc0_matmul1 Cert.Kernel5Ideal.cc0_matmul1
    rfl

theorem defs_eq : Cert.Kernel5.defs (F := F) = Cert.Kernel5Ideal.defs (F := F) :=
  congrArg (Pipeline.defs (Cert.Kernel5Ideal.pcfgs (F := F))) defs₀_eq

end Same5

namespace Same6

theorem main_eq : Cert.Kernel6.main (F := F) = Cert.Kernel6Ideal.main (F := F) := by
  unfold Cert.Kernel6.main Cert.Kernel6Ideal.main
  rfl

theorem defs₀_eq : Cert.Kernel6.defs₀ (F := F) = Cert.Kernel6Ideal.defs₀ (F := F) := by
  unfold Cert.Kernel6.defs₀ Cert.Kernel6Ideal.defs₀
  refine congrArg Defs.onTc ?_
  funext l x
  match l, x with
  | 0, (t, s) =>
    show Cert.Kernel6.cc0_matmul1 _ _ _ _ _ _ _ _ _ _ _ _ _ _ _ _ _ _ _ _ _ _ _ = Cert.Kernel6Ideal.cc0_matmul1 _ _ _ _ _ _ _ _ _ _ _ _ _ _ _ _ _ _ _ _ _ _ _
    unfold Cert.Kernel6.cc0_matmul1 Cert.Kernel6Ideal.cc0_matmul1
    rfl

theorem defs_eq : Cert.Kernel6.defs (F := F) = Cert.Kernel6Ideal.defs (F := F) :=
  congrArg (Pipeline.defs (Cert.Kernel6Ideal.pcfgs (F := F))) defs₀_eq

end Same6

namespace Same7

theorem main_eq : Cert.Kernel7.main (F := F) = Cert.Kernel7Ideal.main (F := F) := by
  unfold Cert.Kernel7.main Cert.Kernel7Ideal.main
  rfl

theorem defs₀_eq : Cert.Kernel7.defs₀ (F := F) = Cert.Kernel7Ideal.defs₀ (F := F) := by
  unfold Cert.Kernel7.defs₀ Cert.Kernel7Ideal.defs₀
  refine congrArg Defs.onTc ?_
  funext l x
  match l, x with
  | 0, (t, s) =>
    show Cert.Kernel7.cc0_row_norm _ _ _ _ _ _ _ _ _ _ _ _ _ _ _ _ _ _ _ = Cert.Kernel7Ideal.cc0_row_norm _ _ _ _ _ _ _ _ _ _ _ _ _ _ _ _ _ _ _
    unfold Cert.Kernel7.cc0_row_norm Cert.Kernel7Ideal.cc0_row_norm
    rfl

theorem defs_eq : Cert.Kernel7.defs (F := F) = Cert.Kernel7Ideal.defs (F := F) :=
  congrArg (Pipeline.defs (Cert.Kernel7Ideal.pcfgs (F := F))) defs₀_eq

end Same7

namespace Same8

theorem main_eq : Cert.Kernel8.main (F := F) = Cert.Kernel8Ideal.main (F := F) := by
  unfold Cert.Kernel8.main Cert.Kernel8Ideal.main
  rfl

theorem defs₀_eq : Cert.Kernel8.defs₀ (F := F) = Cert.Kernel8Ideal.defs₀ (F := F) := by
  unfold Cert.Kernel8.defs₀ Cert.Kernel8Ideal.defs₀
  refine congrArg Defs.onTc ?_
  funext l x
  match l, x with
  | 0, (t, s) =>
    show Cert.Kernel8.cc0_row_norm _ _ _ _ _ _ _ _ _ _ _ = Cert.Kernel8Ideal.cc0_row_norm _ _ _ _ _ _ _ _ _ _ _
    unfold Cert.Kernel8.cc0_row_norm Cert.Kernel8Ideal.cc0_row_norm
    rfl

theorem defs_eq : Cert.Kernel8.defs (F := F) = Cert.Kernel8Ideal.defs (F := F) :=
  congrArg (Pipeline.defs (Cert.Kernel8Ideal.pcfgs (F := F))) defs₀_eq

end Same8

namespace Same9

theorem main_eq : Cert.Kernel9.main (F := F) = Cert.Kernel9Ideal.main (F := F) := by
  unfold Cert.Kernel9.main Cert.Kernel9Ideal.main
  rfl

theorem defs₀_eq : Cert.Kernel9.defs₀ (F := F) = Cert.Kernel9Ideal.defs₀ (F := F) := by
  unfold Cert.Kernel9.defs₀ Cert.Kernel9Ideal.defs₀
  refine congrArg Defs.onTc ?_
  funext l x
  match l, x with
  | 0, (t, s) =>
    show Cert.Kernel9.cc0_first_norm _ _ _ _ _ _ _ _ _ _ _ _ _ _ _ = Cert.Kernel9Ideal.cc0_first_norm _ _ _ _ _ _ _ _ _ _ _ _ _ _ _
    unfold Cert.Kernel9.cc0_first_norm Cert.Kernel9Ideal.cc0_first_norm
    rfl

theorem defs_eq : Cert.Kernel9.defs (F := F) = Cert.Kernel9Ideal.defs (F := F) :=
  congrArg (Pipeline.defs (Cert.Kernel9Ideal.pcfgs (F := F))) defs₀_eq

end Same9

end Cert

end
-- ==== Proof.Mm1Run.lean ====
/- One call of the first MLP product's kernel: the cast of a weight block into the scratch, and the two halves of the
   output's rows against the other slot of the scratch. The first MLP product's run, at any values: the scratch between points, the body at a generic point, the launch. -/
module

public import proofs.«01_k».proof.Proof.Gen.Kernel2Ideal.Frame
public import proofs.«01_k».proof.Proof.Gen.Kernel2Ideal.Skeleton
public import proofs.«01_k».proof.Proof.Steps
public import proofs.«01_k».proof.Proof.Slots
public import Idealize.ShloMosaic.Lib.WordCmp
public import Idealize.ShloMosaic.Lib.Claim

@[expose] public section

set_option maxRecDepth 16384

noncomputable section

namespace Cert.Kernel2Ideal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Rects Cert.Steps Cert.Slots

variable {F : FTy → Type} [FloatOps F]

local notation "𝕄" => MT nD τ sig Unit (Elt F) ℕ (UR sig nD τ) ℕ

/-! ## The conditions and the rectangles -/

theorem cond1_iff : ∀ i : grid0.Coords, k0_cond1 i = 1#1 ↔ (i 0).val = 0 := by decide +kernel
theorem cond2_iff : ∀ i : grid0.Coords, k0_cond2 i = 1#1 ↔ 0 < (i 0).val := by decide +kernel
theorem cast_inb : ∀ i : grid0.Coords, ∀ a, k0_off1 i a + S1x512x1024.size a ≤ S2x4096x1024.size a := by decide +kernel
theorem slot_inb : ∀ i : grid0.Coords, ∀ a, k0_off3 i a + S1x4096x1024.size a ≤ S2x4096x1024.size a := by decide +kernel
theorem cast_off : ∀ i : grid0.Coords, k0_off1 i 0 = (i 0).val % 2 ∧ k0_off1 i 1 = 512 * (i 1).val ∧ k0_off1 i 2 = 0 := by decide +kernel
theorem slot_off : ∀ i : grid0.Coords, k0_off3 i 0 = ((i 0).val + 1) % 2 ∧ k0_off3 i 1 = 0 ∧ k0_off3 i 2 = 0 := by decide +kernel

/-- Where a point's weight block goes. -/
abbrev castR (i : grid0.Coords) : Rect S2x4096x1024 := Rect.unit (s := S2x4096x1024) (k0_off1 i) S1x512x1024.size (cast_inb i)
/-- The slot a point multiplies by. -/
abbrev slotR (i : grid0.Coords) : Rect S2x4096x1024 := Rect.unit (s := S2x4096x1024) (k0_off3 i) S1x4096x1024.size (slot_inb i)

theorem cast_packed (i : grid0.Coords) : (castR i).PackedRows (EltTy.packing .bf16) := by
  by_cases h : k0_cond1 i = 1#1
  · exact k0_off1_packedbf16 i h
  · exact k0_off2_packedbf16 i ((cond2_iff i).mpr (Nat.pos_of_ne_zero fun hh => h ((cond1_iff i).mpr hh)))

theorem inb_rows (s : Fin 2) : ∀ a, (![512 * s.val, 0] : Fin 2 → ℕ) a + S512x4096.size a ≤ S1024x4096.size a := by
  have := s.isLt
  intro a; match a with
  | ⟨0, _⟩ => show 512 * s.val + 512 ≤ 1024; omega
  | ⟨1, _⟩ => show 0 + 4096 ≤ 4096; omega

/-- Half `s` of the left operand's rows. -/
abbrev rowsR (s : Fin 2) : Rect S1024x4096 := Rect.unit (s := S1024x4096) ![512 * s.val, 0] S512x4096.size (inb_rows s)

theorem out_packed (s : Fin 2) : (halfR s).PackedRows (EltTy.packing .bf16) := by
  match s with
  | ⟨0, _⟩ => exact packedbf16_S1024x1024_S512x1024_0_0
  | ⟨1, _⟩ => exact packedbf16_S1024x1024_S512x1024_512_0
  | ⟨n + 2, h⟩ => exact absurd h (by omega)

/-- The whole weight block. -/
abbrev wR : Rect S1x512x1024 := Rect.unit (s := S1x512x1024) ![0, 0, 0] S1x512x1024.size inb_S1x512x1024_S1x512x1024_0_0_0

/-! ## The steps -/

section
variable (i : grid0.Coords) (arg2 : Memref sig .tc .vmem S1024x4096 .bf16) (harg2 : arg2.IsWhole) (arg3 : Memref sig .tc .vmem S1x512x1024 .f32) (harg3 : arg3.IsWhole)
  (arg4 : Memref sig .tc .vmem S1024x1024 .bf16) (harg4 : arg4.IsWhole) (arg5 : Memref sig .tc .vmem S2x4096x1024 .bf16) (harg5 : arg5.IsWhole)

/-- The weight block, cast, into its place in the scratch. -/
abbrev castStep : Prog (TpuEff nD τ sig (Elt F) Λ₀ .tc) PUnit := do
  let w : Vec F S1x512x1024 .f32 ← Prog.lift (.load arg3 wR.toLoadRect (View.loadsAt_vmem h_S1x512x1024))
  let _w : Vec F S1x512x1024 .bf16 ← Prog.lift (.load arg5 (castR i).toLoadRect (View.loadsAt_vmem h_S1x512x1024))
  Prog.lift (.store arg5 (castR i) (k0_pay1 w) Finset.univ (View.stores_vmem h_S1x512x1024 (harg5.storeExact_slice rfl _ (cast_packed i)) (fun _ => rfl)) (.inl rfl))

/-- Half `s` of the output's rows. -/
abbrev rowStep (s : Fin 2) : Prog (TpuEff nD τ sig (Elt F) Λ₀ .tc) PUnit := do
  let a : Vec F S512x4096 .bf16 ← Prog.lift (.load arg2 (rowsR s).toLoadRect (View.loadsAt_vmem h_S512x4096))
  let w : Vec F S1x4096x1024 .bf16 ← Prog.lift (.load arg5 (slotR i).toLoadRect (View.loadsAt_vmem h_S1x4096x1024))
  let _o : Vec F S512x1024 .bf16 ← Prog.lift (.load arg4 (halfR s).toLoadRect (View.loadsAt_vmem h_S512x1024))
  Prog.lift (.store arg4 (halfR s) (k0_pay3 a w) Finset.univ (View.stores_vmem h_S512x1024 (harg4.storeExact_slice rfl _ (out_packed s)) (fun _ => rfl)) (.inl rfl))

theorem body_first (h1 : k0_cond1 i = 1#1) (h2 : ¬k0_cond2 i = 1#1) :
    cc0_matmul1 (F := F) i arg2 harg2 arg3 harg3 arg4 harg4 arg5 harg5 = castStep i arg3 arg5 harg5 >>= fun _ => pure ⟨⟩ := by
  rw [cc0_matmul1_eq_skeleton]
  unfold cc0_matmul1_skel
  dsimp only
  rw [dif_pos h1, dif_neg h2]
  rfl

theorem body_later (h1 : ¬k0_cond1 i = 1#1) (h2 : k0_cond2 i = 1#1) :
    cc0_matmul1 (F := F) i arg2 harg2 arg3 harg3 arg4 harg4 arg5 harg5
      = castStep i arg3 arg5 harg5 >>= fun _ => rowStep i arg2 arg4 harg4 arg5 0 >>= fun _ => rowStep i arg2 arg4 harg4 arg5 1 >>= fun _ => pure ⟨⟩ := by
  rw [cc0_matmul1_eq_skeleton]
  unfold cc0_matmul1_skel
  dsimp only
  rw [dif_neg h1, dif_pos h2, k0_part1_eq_skeleton]
  rfl

/-! ## What a call leaves -/

/-- The scratch after a call. -/
def wbOut (x1 : Vec F S1x512x1024 .f32) (b : Vec F S2x4096x1024 .bf16) : Vec F S2x4096x1024 .bf16 := over (castR i) (k0_pay1 (ldR wR x1)) b

/-- The output block from the left operand's rows and the slot multiplied by. -/
def rowsOut (x0 : Vec F S1024x4096 .bf16) (w : Vec F S1x4096x1024 .bf16) (o : Vec F S1024x1024 .bf16) : Vec F S1024x1024 .bf16 :=
  over (halfR 1) (k0_pay3 (ldR (rowsR 1) x0) w) (over (halfR 0) (k0_pay3 (ldR (rowsR 0) x0) w) o)

open Classical in
/-- The output block after a call. -/
def oOut (x0 : Vec F S1024x4096 .bf16) (x1 : Vec F S1x512x1024 .f32) (b : Vec F S2x4096x1024 .bf16) (o : Vec F S1024x1024 .bf16) : Vec F S1024x1024 .bf16 :=
  if k0_cond2 i = 1#1 then rowsOut x0 (ldR (slotR i) (wbOut i x1 b)) o else o

variable (c : Dev nD)

/-- The kernel's triple. -/
theorem wp_matmul1 (x0 : Vec F S1024x4096 .bf16) (x1 : Vec F S1x512x1024 .f32) (o : Vec F S1024x1024 .bf16) (b : Vec F S2x4096x1024 .bf16)
    (E : Set ℕ) (K : PUnit → sProp 𝕄) :
    iprop(owns (c : Thread nD τ) arg2 fullShare x0 ∗ owns (c : Thread nD τ) arg3 fullShare x1 ∗ owns (c : Thread nD τ) arg4 fullShare o
      ∗ owns (c : Thread nD τ) arg5 fullShare b
      ∗ (iprop(owns (c : Thread nD τ) arg2 fullShare x0 ∗ owns (c : Thread nD τ) arg3 fullShare x1
            ∗ owns (c : Thread nD τ) arg4 fullShare (oOut i x0 x1 b o) ∗ owns (c : Thread nD τ) arg5 fullShare (wbOut i x1 b))
          -∗ K ⟨⟩))
    ⊢ wp frame (wpE (defs₀ (F := F)) Variants.none c none) E (cc0_matmul1 i arg2 harg2 arg3 harg3 arg4 harg4 arg5 harg5) K := by
  by_cases h : (i 0).val = 0
  · have h2 : ¬k0_cond2 i = 1#1 := fun hh => by have := (cond2_iff i).mp hh; omega
    rw [body_first i arg2 harg2 arg3 harg3 arg4 harg4 arg5 harg5 ((cond1_iff i).mpr h) h2, oOut, if_neg h2]
    iintro ⟨H1, H2, H3, H4, Hk⟩
    iapply (one c harg3 x1 b E)
    isplitl [H2]; · iexact H2
    isplitl [H4]; · iexact H4
    iintro ⟨H2, H4⟩
    sl_step
    iapply Hk
    isplitl [H1]; · iexact H1
    isplitl [H2]; · iexact H2
    isplitl [H3]; · iexact H3
    iexact H4
  · have h1 : ¬k0_cond1 i = 1#1 := fun hh => h ((cond1_iff i).mp hh)
    have h2 : k0_cond2 i = 1#1 := (cond2_iff i).mpr (by omega)
    rw [body_later i arg2 harg2 arg3 harg3 arg4 harg4 arg5 harg5 h1 h2, oOut, if_pos h2]
    iintro ⟨H1, H2, H3, H4, Hk⟩
    iapply (one c harg3 x1 b E)
    isplitl [H2]; · iexact H2
    isplitl [H4]; · iexact H4
    iintro ⟨H2, H4⟩
    iapply (two c harg2 harg5 x0 (wbOut i x1 b) o E)
    isplitl [H1 H4]
    · isplitl [H1]; · iexact H1
      iexact H4
    isplitl [H3]; · iexact H3
    iintro ⟨⟨H1, H4⟩, H3⟩
    iapply (two c harg2 harg5 x0 (wbOut i x1 b) _ E)
    isplitl [H1 H4]
    · isplitl [H1]; · iexact H1
      iexact H4
    isplitl [H3]; · iexact H3
    iintro ⟨⟨H1, H4⟩, H3⟩
    sl_step
    iapply Hk
    isplitl [H1]; · iexact H1
    isplitl [H2]; · iexact H2
    isplitl [H3]; · iexact H3
    iexact H4

end

variable (m : (ℓ : Loc nD τ sig) → Buf (Elt F) ℓ) (ρ : Dev nD → PrngReg)

/-! ## The points -/

theorem N136 : cfg0.N = 136 := N_0

theorem coords0 (t : Fin cfg0.N) : (grid0.coords t 0).val = t.val / 8 := by
  have h : (grid0.coords t 0).val = t.val / 8 % 17 := Pipeline.Grid.coords_val t 0 (by decide) rfl
  have : t.val < 136 := Nat.lt_of_lt_of_eq t.isLt N136
  omega
theorem coords1 (t : Fin cfg0.N) : (grid0.coords t 1).val = t.val % 8 := by
  have h : (grid0.coords t 1).val = t.val / 1 % 8 := Pipeline.Grid.coords_val t 1 (by decide) rfl
  rw [h, Nat.div_one]

theorem live2 (t : Fin cfg0.N) (h : 8 ≤ t.val) : cfg0.idle 2 (grid0.coords t) = false := by
  show (!(k0_cond2 (grid0.coords t) == 1#1)) = false
  rw [(cond2_iff _).mpr (by rw [coords0]; omega)]; rfl

theorem idle2 (t : Fin cfg0.N) (h : t.val < 8) : cfg0.idle 2 (grid0.coords t) = true := by
  show (!(k0_cond2 (grid0.coords t) == 1#1)) = true
  have hn : ¬k0_cond2 (grid0.coords t) = 1#1 := fun hh => by have := (cond2_iff _).mp hh; rw [coords0] at this; omega
  rw [beq_eq_false_iff_ne.mpr hn]; rfl

theorem flush2_off : ∀ t : Fin cfg0.N, t.val < 8 → (cfg0.win 2).flush t = false := by decide +kernel

/-! ## The scratch between points -/

/-- Where the points put their weight blocks, and where they read. -/
def lay : Lay cfg0.N 8 512 4096 where
  M_eq := rfl
  P_pos := by decide
  B_pos := by decide
  put t := k0_off1 (grid0.coords t)
  put_inb t := cast_inb (grid0.coords t)
  put_eq t := by have h := cast_off (grid0.coords t); rwa [coords0, coords1] at h
  get t := k0_off3 (grid0.coords t)
  get_inb t := slot_inb (grid0.coords t)
  get_eq t := by have h := slot_off (grid0.coords t); rwa [coords0] at h

/-- What a point casts: its weight block. -/
def castAt (c : Dev nD) (t : Fin cfg0.N) : Vec F S1x512x1024 .bf16 := k0_pay1 (ldR wR (iblk m c 1 t))

/-- What is known of the scratch before point `t`. -/
abbrev Agree (c : Dev nD) (t : ℕ) (b : Vec F S2x4096x1024 .bf16) : Prop := lay.Agree (castAt m c) t b

theorem Agree.succ {c : Dev nD} {t : Fin cfg0.N} {b : Vec F S2x4096x1024 .bf16} (h : Agree m c t.val b) :
    Agree m c (t.val + 1) (wbOut (grid0.coords t) (iblk m c 1 t) b) := Lay.Agree.succ lay (castAt m c) h

/-- The column of weights a point multiplies by. -/
def slotAt (c : Dev nD) (t : Fin cfg0.N) : Vec F S1x4096x1024 .bf16 := Lay.slot (P := 8) (castAt m c) (show 0 < 512 by decide) t

theorem slot_agree {c : Dev nD} {t : Fin cfg0.N} (h8 : 8 ≤ t.val) {b : Vec F S2x4096x1024 .bf16} (h : Agree m c (t.val + 1) b) :
    ldR (slotR (grid0.coords t)) b = slotAt m c t := Lay.slot_agree lay (castAt m c) h8 h

/-! ## The output block -/

theorem rowsOut_hit (x0 : Vec F S1024x4096 .bf16) (w : Vec F S1x4096x1024 .bf16) (o : Vec F S1024x1024 .bf16) (z : S1024x1024.Idx) (s : Fin 2)
    (a : S512x1024.Idx) (h0 : (z 0).val = 512 * s.val + (a 0).val) (h1 : (z 1).val = (a 1).val) :
    rowsOut x0 w o z = k0_pay3 (ldR (rowsR s) x0) w a :=
  both_hit (fun s => k0_pay3 (ldR (rowsR s) x0) w) o z s a h0 h1

theorem rowsOut_indep (x0 : Vec F S1024x4096 .bf16) (w : Vec F S1x4096x1024 .bf16) (o o' : Vec F S1024x1024 .bf16) : rowsOut x0 w o = rowsOut x0 w o' :=
  both_indep (fun s => k0_pay3 (ldR (rowsR s) x0) w) o o'

/-- The output block a point leaves. -/
def outAt (c : Dev nD) (t : Fin cfg0.N) : Vec F S1024x1024 .bf16 :=
  rowsOut (iblk m c 0 t) (slotAt m c t) (broadcast S1024x1024 (Scalar.ofBits .bf16 0x0000#16 : F .bf16))

theorem out_agree {c : Dev nD} {t : Fin cfg0.N} (h8 : 8 ≤ t.val) {b : Vec F S2x4096x1024 .bf16} (h : Agree m c t.val b) (o : Vec F S1024x1024 .bf16) :
    oOut (grid0.coords t) (iblk m c 0 t) (iblk m c 1 t) b o = outAt m c t := by
  unfold oOut outAt
  rw [if_pos ((cond2_iff _).mpr (by rw [coords0]; omega)), slot_agree m h8 (Agree.succ m h)]
  exact rowsOut_indep _ _ _ _

theorem out_idle {t : Fin cfg0.N} (h8 : t.val < 8) (x0 : Vec F S1024x4096 .bf16) (x1 : Vec F S1x512x1024 .f32) (b : Vec F S2x4096x1024 .bf16)
    (o : Vec F S1024x1024 .bf16) : oOut (grid0.coords t) x0 x1 b o = o := by
  unfold oOut
  rw [if_neg fun hh => by have := (cond2_iff _).mp hh; rw [coords0] at this; omega]

/-! ## The proof data -/

/-- The scratch operand. -/
abbrev sc0 : Memref sig .tc .vmem S2x4096x1024 .bf16 := Memref.whole cc0_scratch0

theorem PhiA_eq (c : Dev nD) :
    (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

/-- The invariant before point `t`. -/
def PhiS (c : Dev nD) (t : ℕ) (_ : t ≤ cfg0.N) : sProp 𝕄 :=
  iprop((∃ b, owns (c : Thread nD τ) sc0 fullShare b ∗ ⌜Agree m c t b⌝) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_2 (c : Dev nD) (t : Fin cfg0.N) (b : Vec F S2x4096x1024 .bf16) (h : Agree m c t.val b) (d) :
    owns (c : Thread nD τ) (st0_2 t) fullShare (oOut (grid0.coords t) (iblk m c 0 t) (iblk m c 1 t) b ((dats m 0 c).before 2 t d))
      ⊢ ((dats m 0 c).leavesExact 2 t : sProp 𝕄) := by
  by_cases h8 : t.val < 8
  · rw [Dat.leavesExact_idle _ 2 t (idle2 t h8) (flush2_off t h8), out_idle h8]
    iintro H
    iexists d
    iexact H
  · have h8' : 8 ≤ t.val := by omega
    rw [out_agree m h8' h, show (dats m 0 c).leavesExact 2 t = owns (c : Thread nD τ) (st0_2 t) fullShare ((dats m 0 c).after 2 t) from by
      unfold Dat.leavesExact; rw [live2 t h8'], after_2]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  unfold PhiS
  iintro ⟨⟨⟨%b, HS, %hag⟩, Hg⟩, Ho, ⟨%d0, H0⟩, ⟨%d1, H1⟩, ⟨%d2, H2⟩⟩
  iapply (wp_matmul1 (grid0.coords t) (st0_0 t) _ (st0_1 t) _ (st0_2 t) _ sc0 _ c
    (iblk m c 0 t) (iblk m c 1 t) ((dats m 0 c).before 2 t d2) b Set.univ)
  isplitl [H0]; · iexact H0
  isplitl [H1]; · iexact H1
  isplitl [H2]; · iexact H2
  isplitl [HS]; · iexact HS
  iintro ⟨H0, H1, H2, HS⟩
  isplitl [HS Hg]
  · isplitl [HS]
    · iexists _
      isplitl [HS]; · iexact HS
      ipureintro
      exact Agree.succ m hag
    iexact Hg
  isplitl [Ho]; · iexact Ho
  isplitl [H0]; · iexact H0
  isplitl [H1]; · iexact H1
  iapply (leaves_2 m c t b hag d2)
  iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨%b, H⟩, Hg⟩
  isplitl [H]
  · iexists b
    isplitl [H]; · iexact H
    ipureintro
    exact Lay.Agree.zero _ _ b
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%b, H, %hag⟩, Hg⟩
  isplitl [H]
  · iexists b; iexact H
  iexact Hg

/-! ## The run -/

set_option backward.isDefEq.respectTransparency.types false in
/-- Every execution terminates, with every window's array at what the points left and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_main m ρ)

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_post m ρ)) ((θ_run defs _ _).mono (fun _ h => h.2) (run_main m ρ))

end Cert.Kernel2Ideal.Mm

end
-- ==== Proof.Mm1Result.lean ====
/- The first MLP product over the reals: the result array, entry by entry, as the square of the rectified product. -/
module

public import proofs.«01_k».proof.Proof.Mm1Run
public import Idealize.ShloMosaic.Lib.Pointwise

@[expose] public section

set_option maxRecDepth 16384

noncomputable section

namespace Cert.Kernel2Ideal.Mm

open Idealize.ShloMosaic Idealize.ShloMosaic.TcCoe
open Cert.Kernel2Ideal Cert.Kernel2Ideal.Gen Cert.Rects Cert.Slots

/-- An entry of the result: a row of the activations by a column of the first layer's weights, rectified and squared. -/
def entry (A : S8192x4096.Idx → EReal) (W : S2x4096x16384.Idx → EReal) (r : Fin 8192) (j : Fin 16384) : EReal :=
  max (∑ k : Fin 4096, A (ix2 r k) * W (ix3 0 k j)) 0 * max (∑ k : Fin 4096, A (ix2 r k) * W (ix3 0 k j)) 0

theorem pay3_at (a : Vec Ideal S512x4096 .bf16) (w : Vec Ideal S1x4096x1024 .bf16) (r : Fin 512) (j : Fin 1024) :
    k0_pay3 (F := Ideal) a w (ix2 r j)
      = max (∑ k : Fin 4096, a (ix2 r k) * w (ix3 0 k j)) 0 * max (∑ k : Fin 4096, a (ix2 r k) * w (ix3 0 k j)) 0 := by
  pointwise [k0_pay3]

theorem pay1_at (w : Vec Ideal S1x512x1024 .f32) (k : Fin 512) (j : Fin 1024) : k0_pay1 (F := Ideal) w (ix3 0 k j) = w (ix3 0 k j) := by
  pointwise [k0_pay1]

variable (m : (ℓ : Loc nD τ sig) → Buf (Elt Ideal) ℓ) (c : Dev nD)

/-- The activations and the weights. -/
abbrev actv : S8192x4096.Idx → EReal := m ((c : Thread nD τ).loc main_arg0)
abbrev wgt : S2x4096x16384.Idx → EReal := m ((c : Thread nD τ).loc main_arg1)

theorem index0 : ∀ t : Fin cfg0.N, 8 ≤ t.val → win0_0.index t 0 = t.val % 8 ∧ win0_0.index t 1 = 0 := by decide +kernel
theorem index1 : ∀ t : Fin cfg0.N, t.val < 128 → win0_1.index t 0 = 0 ∧ win0_1.index t 1 = t.val % 8 ∧ win0_1.index t 2 = t.val / 8 := by decide +kernel
theorem index2 : ∀ t : Fin cfg0.N, 8 ≤ t.val → win0_2.index t 0 = t.val % 8 ∧ win0_2.index t 1 = t.val / 8 - 1 := by decide +kernel
theorem flush2_on : ∀ t : Fin cfg0.N, 8 ≤ t.val → (cfg0.win 2).flush t = true := by decide +kernel
theorem xsize2 : ∀ t : Fin cfg0.N, win0_2.xsize (grid0.coords t) 0 = 1024 ∧ win0_2.xsize (grid0.coords t) 1 = 1024 := by decide +kernel

theorem a_at (t : Fin cfg0.N) (h8 : 8 ≤ t.val) (s : Fin 2) (r : Fin 512) (k : Fin 4096) (R : Fin 8192) (hR : R.val = 1024 * (t.val % 8) + (512 * s.val + r.val)) :
    ldR (rowsR s) (iblk m c 0 t) (ix2 r k) = actv m c (ix2 R k) := by
  have hi := index0 t h8
  unfold ldR iblk
  rw [View.read_apply]
  show V m c main_arg0 _ = _
  rw [V_main_arg0]
  refine congrArg (actv m c) (funext fun d => Fin.ext ?_)
  match d with
  | ⟨0, _⟩ => show win0_0.index t 0 * 1024 + 1 * (512 * s.val + 1 * r.val) = R.val; rw [hi.1]; omega
  | ⟨1, _⟩ => show win0_0.index t 1 * 4096 + 1 * (0 + 1 * k.val) = k.val; rw [hi.2]; omega

theorem cast_at (p : Fin cfg0.N) (h : p.val < 128) (k : Fin 512) (j : Fin 1024) (K : Fin 4096) (J : Fin 16384)
    (hK : K.val = 512 * (p.val % 8) + k.val) (hJ : J.val = 1024 * (p.val / 8) + j.val) :
    castAt m c p (ix3 0 k j) = wgt m c (ix3 0 K J) := by
  have hi := index1 p h
  unfold castAt
  rw [pay1_at]
  unfold ldR iblk
  rw [View.read_apply]
  show V m c main_arg1 _ = _
  rw [V_main_arg1]
  refine congrArg (wgt m c) (funext fun d => Fin.ext ?_)
  match d with
  | ⟨0, _⟩ => show win0_1.index p 0 * 1 + 1 * (0 + 1 * 0) = 0; rw [hi.1]
  | ⟨1, _⟩ => show win0_1.index p 1 * 512 + 1 * (0 + 1 * k.val) = K.val; rw [hi.2.1]; omega
  | ⟨2, _⟩ => show win0_1.index p 2 * 1024 + 1 * (0 + 1 * j.val) = J.val; rw [hi.2.2]; omega

theorem slot_at (t : Fin cfg0.N) (h8 : 8 ≤ t.val) (k : Fin 4096) (j : Fin 1024) (J : Fin 16384) (hJ : J.val = 1024 * (t.val / 8 - 1) + j.val) :
    slotAt m c t (ix3 0 k j) = wgt m c (ix3 0 k J) := by
  have hN : t.val < 136 := Nat.lt_of_lt_of_eq t.isLt N136
  have hs := (Lay.src_val h8 (show k.val / 512 < 8 by omega)).1
  show castAt m c (Lay.src 8 t (k.val / 512)) (ix3 0 ⟨k.val % 512, Nat.mod_lt _ (by omega)⟩ j) = _
  refine cast_at m c _ (by omega) _ j k J ?_ ?_
  · rw [hs]; show k.val = _ + k.val % 512; omega
  · rw [hs, hJ]; omega

theorem outAt_at (t : Fin cfg0.N) (h8 : 8 ≤ t.val) (z : S1024x1024.Idx) (R : Fin 8192) (J : Fin 16384)
    (hR : R.val = 1024 * (t.val % 8) + (z 0).val) (hJ : J.val = 1024 * (t.val / 8 - 1) + (z 1).val) :
    outAt m c t z = entry (actv m c) (wgt m c) R J := by
  obtain ⟨s, r, hr⟩ := row_split (m := 2) (z 0).isLt
  have hz1 : (z 1).val < 1024 := (z 1).isLt
  unfold outAt
  rw [rowsOut_hit _ _ _ z s (ix2 r ⟨(z 1).val, hz1⟩) hr rfl, pay3_at, entry]
  have e : (∑ k : Fin 4096, (ldR (rowsR s) (iblk m c 0 t) (ix2 r k) : EReal) * (slotAt m c t (ix3 0 k ⟨(z 1).val, hz1⟩) : EReal))
      = ∑ k : Fin 4096, actv m c (ix2 R k) * wgt m c (ix3 0 k J) :=
    Finset.sum_congr rfl fun k _ => by rw [a_at m c t h8 s r k R (by omega), slot_at m c t h8 k ⟨(z 1).val, hz1⟩ J hJ]
  exact congrArg (fun x : EReal => max x 0 * max x 0) e

/-- The result array. -/
def Res : Buf (Elt Ideal) ((c : Thread nD τ).loc main_v0) := fun z => entry (actv m c) (wgt m c) (z 0) (z 1)

theorem flushed_eq (t : Fin cfg0.N) (hf : (cfg0.win 2).flush t = true) : (dats m 0 c).flushed 2 t = ((cfg0.win 2).blk t).view.read (Elt Ideal) (Res m c) := by
  have h8 : 8 ≤ t.val := by
    by_contra h
    have := flush2_off t (by omega)
    rw [hf] at this
    exact absurd this (by decide)
  show (cfg0.win 2).cut (grid0.coords t) ((dats m 0 c).after 2 t) = _
  rw [after_2]
  funext z
  have hi := index2 t h8
  have hxs := xsize2 t
  have hN : t.val < 136 := Nat.lt_of_lt_of_eq t.isLt N136
  have hz0 : (z 0).val < 1024 := hxs.1 ▸ (z 0).isLt
  have hz1 : (z 1).val < 1024 := hxs.2 ▸ (z 1).isLt
  rw [View.read_apply]
  show outAt m c t (win0_2.xinj (grid0.coords t) z) = _
  refine outAt_at m c t h8 _ _ _ ?_ ?_
  · show win0_2.index t 0 * 1024 + 1 * (z 0).val = _ + (z 0).val; rw [hi.1]; omega
  · show win0_2.index t 1 * 1024 + 1 * (z 1).val = _ + (z 1).val; rw [hi.2]; omega

theorem cover (z : S8192x16384.Idx) : ∃ t : Fin cfg0.N, (cfg0.win 2).flush t = true ∧ z ∈ ((cfg0.win 2).blk t).view.set := by
  have hz0 : (z 0).val < 8192 := (z 0).isLt
  have hz1 : (z 1).val < 16384 := (z 1).isLt
  let t : Fin cfg0.N := ⟨8 * ((z 1).val / 1024) + 8 + (z 0).val / 1024, by rw [N136]; omega⟩
  have ht : t.val = 8 * ((z 1).val / 1024) + 8 + (z 0).val / 1024 := rfl
  have h8 : 8 ≤ t.val := by omega
  have hi := index2 t h8
  have hxs := xsize2 t
  refine ⟨t, flush2_on t h8, ?_⟩
  show z ∈ ((View.whole main_v0).slice (win0_2.rect t)).set
  rw [View.set_slice_whole, Rect.mem_set_unit]
  intro a
  match a with
  | ⟨0, _⟩ =>
    show win0_2.index t 0 * 1024 ≤ (z 0 : ℕ) ∧ (z 0 : ℕ) < win0_2.index t 0 * 1024 + win0_2.xsize (grid0.coords t) 0
    rw [hi.1, hxs.1]; omega
  | ⟨1, _⟩ =>
    show win0_2.index t 1 * 1024 ≤ (z 1 : ℕ) ∧ (z 1 : ℕ) < win0_2.index t 1 * 1024 + win0_2.xsize (grid0.coords t) 1
    rw [hi.2, hxs.2]; omega

theorem final_o : (dats m 0 c).arrAt 2 cfg0.N = Res m c :=
  (dats m 0 c).arrAt_eq_of_cover 2 (Res m c) (fun t hf => flushed_eq m c t hf) cover

end Cert.Kernel2Ideal.Mm

end
-- ==== Proof.Mm1Ref.lean ====
/- The first MLP product's reference over the reals: its result, entry by entry. -/
module

public import proofs.«01_k».proof.Proof.Gen.Reference2Ideal.Run
public import Idealize.ShloMosaic.Lib.Pointwise

@[expose] public section

set_option maxRecDepth 16384

noncomputable section

namespace Cert.Reference2Ideal.Mm

open Idealize.ShloMosaic Idealize.ShloMosaic.TcCoe Idealize.SL.Sem Idealize.ShloMosaic.StableHlo
open Cert.Reference2Ideal Cert.Reference2Ideal.Gen

/-- The product, over the reals. -/
def prod (A : FVec Ideal S8192x4096 .bf16) (W : FVec Ideal S2x4096x16384 .f32) : FVec Ideal S8192x16384 .f32 :=
  Host.dotGeneral dot_S8192x4096_S4096x16384_S8192x16384_1_0_0_1_n_n none (extf .f32 A bitsLt_bf16_f32)
    (shapeCast _ (extractStridedSlice S1x4096x16384 ![0, 0, 0] W slices_S2x4096x16384_S1x4096x16384_0_0_0) shapeCasts_S1x4096x16384_S4096x16384)

/-- The result. -/
def out (A : FVec Ideal S8192x4096 .bf16) (W : FVec Ideal S2x4096x16384 .f32) : FVec Ideal S8192x16384 .bf16 :=
  truncf .bf16 (mulf (maximumf (prod A W) (broadcastInDim S8192x16384 ![] bcast_S_S8192x16384 (constant S_ .f32 0x00000000#32)))
    (maximumf (prod A W) (broadcastInDim S8192x16384 ![] bcast_S_S8192x16384 (constant S_ .f32 0x00000000#32)))) bitsLt_bf16_f32

theorem prod_at (A : FVec Ideal S8192x4096 .bf16) (W : FVec Ideal S2x4096x16384 .f32) (r : Fin 8192) (j : Fin 16384) :
    prod A W (ix2 r j) = ∑ k : Fin 4096, A (ix2 r k) * W (ix3 0 k j) := by
  unfold prod
  pointwise []

theorem out_at (A : FVec Ideal S8192x4096 .bf16) (W : FVec Ideal S2x4096x16384 .f32) (r : Fin 8192) (j : Fin 16384) :
    out A W (ix2 r j) = max (∑ k : Fin 4096, A (ix2 r k) * W (ix3 0 k j)) 0 * max (∑ k : Fin 4096, A (ix2 r k) * W (ix3 0 k j)) 0 := by
  unfold out
  pointwise [prod_at]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.Reference2Ideal.Mm

end
-- ==== Proof.Body.lean ====
/- The kernel's two branches as chains of sixteen chunks: one program per chunk of 256 rows, the chunk's
   number a variable, and the printed branches as those chains. -/
module

public import proofs.«01_k».proof.Proof.Gen.KernelIdeal.Frame
public import proofs.«01_k».proof.Proof.Gen.KernelIdeal.Skeleton

@[expose] public section

noncomputable section

namespace Cert.KernelIdeal.Ret

open Idealize.ShloMosaic Idealize.SL.Sem Cert.KernelIdeal Cert.KernelIdeal.Gen

variable {F : FTy → Type} [FloatOps F]

/-! ## The rectangles of a chunk -/

theorem inb_row (s : Fin 16) : ∀ a, (![0, 256 * s.val, 0] : Fin 3 → ℕ) a + S1x256x256.size a ≤ S1x4096x256.size a := by
  have := s.isLt
  intro a; match a with
  | ⟨0, _⟩ => show 0 + 1 ≤ 1; omega
  | ⟨1, _⟩ => show 256 * s.val + 256 ≤ 4096; omega
  | ⟨2, _⟩ => show 0 + 256 ≤ 256; omega

theorem inb_half (j : Fin 2) (s : Fin 16) : ∀ a, (![j.val, 256 * s.val, 0] : Fin 3 → ℕ) a + S1x256x256.size a ≤ S2x4096x256.size a := by
  have := s.isLt; have := j.isLt
  intro a; match a with
  | ⟨0, _⟩ => show j.val + 1 ≤ 2; omega
  | ⟨1, _⟩ => show 256 * s.val + 256 ≤ 4096; omega
  | ⟨2, _⟩ => show 0 + 256 ≤ 256; omega

theorem inb_out (s : Fin 16) : ∀ a, (![256 * s.val, 0] : Fin 2 → ℕ) a + S256x512.size a ≤ S4096x512.size a := by
  have := s.isLt
  intro a; match a with
  | ⟨0, _⟩ => show 256 * s.val + 256 ≤ 4096; omega
  | ⟨1, _⟩ => show 0 + 512 ≤ 512; omega

theorem inb_st (j : Fin 2) : ∀ a, (![0, 256 * j.val] : Fin 2 → ℕ) a + S256x256.size a ≤ S256x512.size a := by
  have := j.isLt
  intro a; match a with
  | ⟨0, _⟩ => show 0 + 256 ≤ 256; omega
  | ⟨1, _⟩ => show 256 * j.val + 256 ≤ 512; omega

/-- The rows of chunk `s` in a one-slab window. -/
abbrev rowR (s : Fin 16) : Rect S1x4096x256 := Rect.unit (s := S1x4096x256) ![0, 256 * s.val, 0] S1x256x256.size (inb_row s)
/-- The rows of chunk `s` in slab `j` of a two-slab window. -/
abbrev halfR (j : Fin 2) (s : Fin 16) : Rect S2x4096x256 := Rect.unit (s := S2x4096x256) ![j.val, 256 * s.val, 0] S1x256x256.size (inb_half j s)
/-- The rows of chunk `s` in the output's block. -/
abbrev outR (s : Fin 16) : Rect S4096x512 := Rect.unit (s := S4096x512) ![256 * s.val, 0] S256x512.size (inb_out s)
/-- Column half `j` of the state. -/
abbrev stR (j : Fin 2) : Rect S256x512 := Rect.unit (s := S256x512) ![0, 256 * j.val] S256x256.size (inb_st j)
/-- The whole state. -/
abbrev stW : Rect S256x512 := Rect.unit (s := S256x512) ![0, 0] S256x512.size inb_S256x512_S256x512_0_0

theorem inb_yacc (i : grid0.Coords) (h2 : k0_cond2 i = 1#1) (j : Fin 2) (s : Fin 16) :
    ∀ a, (match j with | 0 => k0_off3 i (BitVec.ofNat 32 (256 * s.val)) | 1 => k0_off4 i (BitVec.ofNat 32 (256 * s.val))) a + S256x256.size a ≤ S8192x512.size a :=
  match j with
  | 0 => k0_off3_inb i h2 s
  | 1 => k0_off4_inb i h2 s

/-- The rows of chunk `s`, column half `j`, in the accumulated output, in the first pass. -/
abbrev accR (i : grid0.Coords) (h2 : k0_cond2 i = 1#1) (j : Fin 2) (s : Fin 16) : Rect S8192x512 :=
  Rect.unit (s := S8192x512) (match j with | 0 => k0_off3 i (BitVec.ofNat 32 (256 * s.val)) | 1 => k0_off4 i (BitVec.ofNat 32 (256 * s.val))) S256x256.size (inb_yacc i h2 j s)
/-- The rows of chunk `s` in the accumulated output, in the second pass. -/
abbrev accW (i : grid0.Coords) (h3 : k0_cond3 i = 1#1) (s : Fin 16) : Rect S8192x512 :=
  Rect.unit (s := S8192x512) (k0_off5 i (BitVec.ofNat 32 (256 * s.val))) S256x512.size (k0_off5_inb i h3 s)

theorem packed_out (s : Fin 16) : (outR s).PackedRows (EltTy.packing .bf16) := by
  match s with
  | ⟨0, _⟩ => exact packedbf16_S4096x512_S256x512_0_0
  | ⟨1, _⟩ => exact packedbf16_S4096x512_S256x512_256_0
  | ⟨2, _⟩ => exact packedbf16_S4096x512_S256x512_512_0
  | ⟨3, _⟩ => exact packedbf16_S4096x512_S256x512_768_0
  | ⟨4, _⟩ => exact packedbf16_S4096x512_S256x512_1024_0
  | ⟨5, _⟩ => exact packedbf16_S4096x512_S256x512_1280_0
  | ⟨6, _⟩ => exact packedbf16_S4096x512_S256x512_1536_0
  | ⟨7, _⟩ => exact packedbf16_S4096x512_S256x512_1792_0
  | ⟨8, _⟩ => exact packedbf16_S4096x512_S256x512_2048_0
  | ⟨9, _⟩ => exact packedbf16_S4096x512_S256x512_2304_0
  | ⟨10, _⟩ => exact packedbf16_S4096x512_S256x512_2560_0
  | ⟨11, _⟩ => exact packedbf16_S4096x512_S256x512_2816_0
  | ⟨12, _⟩ => exact packedbf16_S4096x512_S256x512_3072_0
  | ⟨13, _⟩ => exact packedbf16_S4096x512_S256x512_3328_0
  | ⟨14, _⟩ => exact packedbf16_S4096x512_S256x512_3584_0
  | ⟨15, _⟩ => exact packedbf16_S4096x512_S256x512_3840_0
  | ⟨n + 16, h⟩ => exact absurd h (by omega)

/-! ## The values a chunk stores -/

/-- A half's rows of the first pass: the rows against their own chunk, weighted by both directions' decays, plus
    the forward state's part. -/
def accVal (lf lb : Elt F .f32) (q k v : Vec F S1x256x256 .bf16) (st : Vec F S256x256 .f32) : FVec F S256x256 .f32 :=
  k0_pay15 (k0_pay5 lf lb) (k0_pay6 lf k0_pay2) (k0_pay9 q) k v st

/-- A half of the forward state after the chunk. -/
def stVal (lf : Elt F .f32) (k v : Vec F S1x256x256 .bf16) (st : Vec F S256x256 .f32) : FVec F S256x256 .f32 :=
  k0_pay16 (k0_pay7 lf k0_pay2) (k0_pay8 lf) k v st

/-- The rows of the second pass: both directions summed, normalised per head and gated. -/
def outVal (lb : Elt F .f32) (q : Vec F S1x256x256 .bf16) (st : Vec F S256x512 .f32) (y : Vec F S256x512 .f32) (gn : Vec F S1x512 .f32)
    (g0 g1 : Vec F S1x256x256 .bf16) : FVec F S256x512 .bf16 :=
  k0_pay208 (k0_pay206 lb k0_pay2 q st y) (k0_pay207 lb k0_pay2 q st y) gn g0 g1

/-- The backward state after the chunk. -/
def stValB (lb : Elt F .f32) (k v0 v1 : Vec F S1x256x256 .bf16) (st : Vec F S256x512 .f32) : FVec F S256x512 .f32 :=
  k0_pay209 lb (k0_pay203 lb k0_pay2) (k0_pay204 k) (k0_pay205 v0 v1) st

/-! ## The chunks -/

section
variable (i : grid0.Coords) (arg4 : Memref sig .tc .vmem S1x4096x256 .bf16) (arg5 : Memref sig .tc .vmem S1x4096x256 .bf16)
  (arg6 : Memref sig .tc .vmem S2x4096x256 .bf16) (arg7 : Memref sig .tc .vmem S2x4096x256 .bf16) (arg8 : Memref sig .tc .vmem S1x512 .f32)
  (arg9 : Memref sig .tc .vmem S4096x512 .bf16) (harg9 : arg9.IsWhole) (arg10 : Memref sig .tc .vmem S8192x512 .f32)
  (arg11 : Memref sig .tc .vmem S256x512 .f32)

/-- One column half of chunk `s` of the first pass, from the chunk's queries and keys. -/
def fwdHalf (h2 : k0_cond2 i = 1#1) (lf lb : Elt F .f32) (s : Fin 16) (j : Fin 2) (q k : Vec F S1x256x256 .bf16) :
    Prog (TpuEff nD τ sig (Elt F) Λ₀ .tc) PUnit := do
  let v : Vec F S1x256x256 .bf16 ← Prog.lift (.load arg6 (halfR j s).toLoadRect (View.loadsAt_vmem h_S1x256x256))
  let st : Vec F S256x256 .f32 ← Prog.lift (.load arg11 (stR j).toLoadRect (View.loadsAt_vmem h_S256x256))
  let _y : Vec F S256x256 .f32 ← Prog.lift (.load arg10 (accR i h2 j s).toLoadRect (View.loadsAt_vmem h_S256x256))
  Prog.lift (.store arg10 (accR i h2 j s) (accVal lf lb q k v st) Finset.univ (View.stores_vmem_bits_univ h_S256x256 rfl) (.inl rfl))
  let st' : Vec F S256x256 .f32 ← Prog.lift (.load arg11 (stR j).toLoadRect (View.loadsAt_vmem h_S256x256))
  let _st : Vec F S256x256 .f32 ← Prog.lift (.load arg11 (stR j).toLoadRect (View.loadsAt_vmem h_S256x256))
  Prog.lift (.store arg11 (stR j) (stVal lf k v st') Finset.univ (View.stores_vmem_bits_univ h_S256x256 rfl) (.inl rfl))

/-- Chunk `s` of the first pass. -/
def fwdChunk (h2 : k0_cond2 i = 1#1) (lf lb : Elt F .f32) (s : Fin 16) : Prog (TpuEff nD τ sig (Elt F) Λ₀ .tc) PUnit := do
  let q : Vec F S1x256x256 .bf16 ← Prog.lift (.load arg4 (rowR s).toLoadRect (View.loadsAt_vmem h_S1x256x256))
  let k : Vec F S1x256x256 .bf16 ← Prog.lift (.load arg5 (rowR s).toLoadRect (View.loadsAt_vmem h_S1x256x256))
  fwdHalf i arg6 arg10 arg11 h2 lf lb s 0 q k
  fwdHalf i arg6 arg10 arg11 h2 lf lb s 1 q k

/-- Chunk `s` of the second pass. -/
def bwdChunk (h3 : k0_cond3 i = 1#1) (lb : Elt F .f32) (s : Fin 16) : Prog (TpuEff nD τ sig (Elt F) Λ₀ .tc) PUnit := do
  let q : Vec F S1x256x256 .bf16 ← Prog.lift (.load arg4 (rowR s).toLoadRect (View.loadsAt_vmem h_S1x256x256))
  let k : Vec F S1x256x256 .bf16 ← Prog.lift (.load arg5 (rowR s).toLoadRect (View.loadsAt_vmem h_S1x256x256))
  let v0 : Vec F S1x256x256 .bf16 ← Prog.lift (.load arg6 (halfR 0 s).toLoadRect (View.loadsAt_vmem h_S1x256x256))
  let v1 : Vec F S1x256x256 .bf16 ← Prog.lift (.load arg6 (halfR 1 s).toLoadRect (View.loadsAt_vmem h_S1x256x256))
  let st : Vec F S256x512 .f32 ← Prog.lift (.load arg11 stW.toLoadRect (View.loadsAt_vmem h_S256x512))
  let y : Vec F S256x512 .f32 ← Prog.lift (.load arg10 (accW i h3 s).toLoadRect (View.loadsAt_vmem h_S256x512))
  let gn : Vec F S1x512 .f32 ← Prog.lift (.load arg8 (Rect.unit (s := S1x512) ![0, 0] S1x512.size inb_S1x512_S1x512_0_0).toLoadRect (View.loadsAt_vmem h_S1x512))
  let g0 : Vec F S1x256x256 .bf16 ← Prog.lift (.load arg7 (halfR 0 s).toLoadRect (View.loadsAt_vmem h_S1x256x256))
  let g1 : Vec F S1x256x256 .bf16 ← Prog.lift (.load arg7 (halfR 1 s).toLoadRect (View.loadsAt_vmem h_S1x256x256))
  let _o : Vec F S256x512 .bf16 ← Prog.lift (.load arg9 (outR s).toLoadRect (View.loadsAt_vmem h_S256x512))
  Prog.lift (.store arg9 (outR s) (outVal lb q st y gn g0 g1) Finset.univ (View.stores_vmem h_S256x512 (harg9.storeExact_slice rfl _ (packed_out s)) (fun _ => rfl)) (.inl rfl))
  let st' : Vec F S256x512 .f32 ← Prog.lift (.load arg11 stW.toLoadRect (View.loadsAt_vmem h_S256x512))
  let _st : Vec F S256x512 .f32 ← Prog.lift (.load arg11 stW.toLoadRect (View.loadsAt_vmem h_S256x512))
  Prog.lift (.store arg11 stW (stValB lb k v0 v1 st') Finset.univ (View.stores_vmem_bits_univ h_S256x512 rfl) (.inl rfl))

/-- The chunks of a list, one after another. -/
def fwdChain (h2 : k0_cond2 i = 1#1) (lf lb : Elt F .f32) : List (Fin 16) → Prog (TpuEff nD τ sig (Elt F) Λ₀ .tc) PUnit
  | [] => pure ⟨⟩
  | s :: l => fwdChunk i arg4 arg5 arg6 arg10 arg11 h2 lf lb s >>= fun _ => fwdChain h2 lf lb l

/-- The chunks of a list, one after another. -/
def bwdChain (h3 : k0_cond3 i = 1#1) (lb : Elt F .f32) : List (Fin 16) → Prog (TpuEff nD τ sig (Elt F) Λ₀ .tc) PUnit
  | [] => pure ⟨⟩
  | s :: l => bwdChunk i arg4 arg5 arg6 arg7 arg8 arg9 harg9 arg10 arg11 h3 lb s >>= fun _ => bwdChain h3 lb l

end

/-- The chunks in order. -/
abbrev ups : List (Fin 16) := [0, 1, 2, 3, 4, 5, 6, 7, 8, 9, 10, 11, 12, 13, 14, 15]
/-- The chunks in reverse order. -/
abbrev downs : List (Fin 16) := [15, 14, 13, 12, 11, 10, 9, 8, 7, 6, 5, 4, 3, 2, 1, 0]

/-- The kernel over its chains. -/
def retention (i : grid0.Coords) (arg3 : Memref sig .tc .smem S2x16 .f32) (arg4 : Memref sig .tc .vmem S1x4096x256 .bf16) (arg5 : Memref sig .tc .vmem S1x4096x256 .bf16)
    (arg6 : Memref sig .tc .vmem S2x4096x256 .bf16) (arg7 : Memref sig .tc .vmem S2x4096x256 .bf16) (arg8 : Memref sig .tc .vmem S1x512 .f32)
    (arg9 : Memref sig .tc .vmem S4096x512 .bf16) (harg9 : arg9.IsWhole) (arg10 : Memref sig .tc .vmem S8192x512 .f32)
    (arg11 : Memref sig .tc .vmem S256x512 .f32) : Prog (TpuEff nD τ sig (Elt F) Λ₀ .tc) PUnit := do
  let lf : Elt F .f32 ← smemLoad arg3 (Rect.unit (s := S2x16) (k0_off1 i) S1x1.size (k0_off1_inb i)) numel1_S1x1 rfl
  let lb : Elt F .f32 ← smemLoad arg3 (Rect.unit (s := S2x16) (k0_off2 i) S1x1.size (k0_off2_inb i)) numel1_S1x1 rfl
  if Scalar.cmpi .ne (Scalar.extui (Scalar.cmpi .eq (BitVec.ofNat 32 (i 2).val) 0#32) : BitVec 32) 0#32 = 1#1 then do
    let _ : Vec F S256x512 .f32 ← Prog.lift (.load arg11 stW.toLoadRect (View.loadsAt_vmem h_S256x512))
    Prog.lift (.store arg11 stW (k0_pay1 (F := F)) Finset.univ (View.stores_vmem_bits_univ h_S256x512 rfl) (.inl rfl))
    pure ⟨⟩
  else pure ⟨⟩
  if h2 : k0_cond2 i = 1#1 then fwdChain i arg4 arg5 arg6 arg10 arg11 h2 lf lb ups else pure ⟨⟩
  if h3 : k0_cond3 i = 1#1 then bwdChain i arg4 arg5 arg6 arg7 arg8 arg9 harg9 arg10 arg11 h3 lb downs else pure ⟨⟩
  pure ⟨⟩

set_option maxRecDepth 65536 in
/-- The printed kernel is the chains: by unfolding. -/
theorem cc0_retention_eq (i : grid0.Coords) (arg3 : Memref sig .tc .smem S2x16 .f32) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S2x4096x256 .bf16) (harg6 : arg6.IsWhole) (arg7 : Memref sig .tc .vmem S2x4096x256 .bf16) (harg7 : arg7.IsWhole) (arg8 : Memref sig .tc .vmem S1x512 .f32) (harg8 : arg8.IsWhole) (arg9 : Memref sig .tc .vmem S4096x512 .bf16) (harg9 : arg9.IsWhole) (arg10 : Memref sig .tc .vmem S8192x512 .f32) (harg10 : arg10.IsWhole) (arg11 : Memref sig .tc .vmem S256x512 .f32) (harg11 : arg11.IsWhole) :
    cc0_retention (F := F) i arg3 harg3 arg4 harg4 arg5 harg5 arg6 harg6 arg7 harg7 arg8 harg8 arg9 harg9 arg10 harg10 arg11 harg11
      = retention i arg3 arg4 arg5 arg6 arg7 arg8 arg9 harg9 arg10 arg11 := by
  rfl

end Cert.KernelIdeal.Ret

end
-- ==== Proof.Half.lean ====
/- What one chunk's program leaves, over any continuation: the first pass's halves and chunks, the second pass's chunk. -/
module

public import proofs.«01_k».proof.Proof.Body
public import proofs.«01_k».proof.Proof.Rects
public import Idealize.ShloMosaic.Lib.Pipeline.FrameBody
public import Idealize.ShloMosaic.Lib.Tactic
public import Idealize.ShloMosaic.Lib.WholeRead

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

export Cert.Rects (ldR over over_emb over_hit over_miss over_miss_axis read_writes_one readAt_ldR)

variable {F : FTy → Type} [FloatOps F]

local notation "𝕄" => MT nD τ sig Unit (Elt F) ℕ (UR sig nD τ) ℕ

theorem owns_def {sp : Space} {s : Shape} {e : EltTy} (m : Memref sig .tc sp s e) (c : Dev nD) (X : s.Idx → Elt F e) :
    (owns (c : Thread nD τ) m fullShare X : sProp 𝕄) = iprop(∃ f, ⌜m.view.read (Elt F) f = X⌝ ∗ (m.view.loc (c : Thread nD τ) ↦[m.view.set]{fullShare} f)) := rfl

/-! ## The first pass -/

/-- The accumulated output after half `j` of chunk `s`. -/
def accHalf (i : grid0.Coords) (h2 : k0_cond2 i = 1#1) (lf lb : Elt F .f32) (s : Fin 16) (j : Fin 2) (q k : Vec F S1x256x256 .bf16)
    (x3 : Vec F S2x4096x256 .bf16) (st : Vec F S256x512 .f32) (y : Vec F S8192x512 .f32) : Vec F S8192x512 .f32 :=
  over (accR i h2 j s) (accVal lf lb q k (ldR (halfR j s) x3) (ldR (stR j) st)) y

/-- The forward state after half `j` of chunk `s`. -/
def stHalf (lf : Elt F .f32) (s : Fin 16) (j : Fin 2) (k : Vec F S1x256x256 .bf16) (x3 : Vec F S2x4096x256 .bf16) (st : Vec F S256x512 .f32) :
    Vec F S256x512 .f32 :=
  over (stR j) (stVal lf k (ldR (halfR j s) x3) (ldR (stR j) st)) st

theorem wp_fwdHalf (c : Dev nD) (i : grid0.Coords) (arg6 : Memref sig .tc .vmem S2x4096x256 .bf16) (harg6 : arg6.IsWhole)
    (arg10 : Memref sig .tc .vmem S8192x512 .f32) (harg10 : arg10.IsWhole) (arg11 : Memref sig .tc .vmem S256x512 .f32) (harg11 : arg11.IsWhole)
    (h2 : k0_cond2 i = 1#1) (lf lb : Elt F .f32) (s : Fin 16) (j : Fin 2) (q k : Vec F S1x256x256 .bf16)
    (x3 : Vec F S2x4096x256 .bf16) (y : Vec F S8192x512 .f32) (st : Vec F S256x512 .f32)
    (E : Set ℕ) {α : Type} (kk : PUnit → Prog (TpuEff nD τ sig (Elt F) Λ₀ .tc) α) (Q : α → sProp 𝕄) :
    iprop(owns (c : Thread nD τ) arg6 fullShare x3 ∗ owns (c : Thread nD τ) arg10 fullShare y ∗ owns (c : Thread nD τ) arg11 fullShare st
      ∗ (iprop(owns (c : Thread nD τ) arg6 fullShare x3 ∗ owns (c : Thread nD τ) arg10 fullShare (accHalf i h2 lf lb s j q k x3 st y)
            ∗ owns (c : Thread nD τ) arg11 fullShare (stHalf lf s j k x3 st))
          -∗ wp frame (wpE (defs₀ (F := F)) Variants.none c none) E (kk ⟨⟩) Q))
    ⊢ wp frame (wpE (defs₀ (F := F)) Variants.none c none) E (fwdHalf i arg6 arg10 arg11 h2 lf lb s j q k >>= kk) Q := by
  unfold fwdHalf owns
  iintro ⟨⟨%f3, %hf3, H3⟩, ⟨%f4, %hf4, H4⟩, ⟨%f5, %hf5, H5⟩, Hk⟩
  obtain rfl := harg6.eq_unread hf3; obtain rfl := harg10.eq_unread hf4; obtain rfl := harg11.eq_unread hf5
  sl_exec
  iapply Hk
  isplitl [H3]
  · iexists _; isplitr; · ipureintro; exact harg6.read_unread _
    iexact H3
  isplitl [H4]
  · iexists _; isplitr; swap; · iexact H4
    ipureintro
    rw [read_writes_one, harg10.read_unread]; erw [readAt_ldR harg6, readAt_ldR harg11]; rfl
  iexists _; isplitr; swap; · iexact H5
  ipureintro
  rw [read_writes_one, harg11.read_unread]; erw [readAt_ldR harg6, readAt_ldR harg11]; rfl

/-- The accumulated output after chunk `s`. -/
def accChunk (i : grid0.Coords) (h2 : k0_cond2 i = 1#1) (lf lb : Elt F .f32) (s : Fin 16) (x1 x2 : Vec F S1x4096x256 .bf16)
    (x3 : Vec F S2x4096x256 .bf16) (st : Vec F S256x512 .f32) (y : Vec F S8192x512 .f32) : Vec F S8192x512 .f32 :=
  accHalf i h2 lf lb s 1 (ldR (rowR s) x1) (ldR (rowR s) x2) x3 (stHalf lf s 0 (ldR (rowR s) x2) x3 st)
    (accHalf i h2 lf lb s 0 (ldR (rowR s) x1) (ldR (rowR s) x2) x3 st y)

/-- The forward state after chunk `s`. -/
def stChunk (lf : Elt F .f32) (s : Fin 16) (x2 : Vec F S1x4096x256 .bf16) (x3 : Vec F S2x4096x256 .bf16) (st : Vec F S256x512 .f32) :
    Vec F S256x512 .f32 :=
  stHalf lf s 1 (ldR (rowR s) x2) x3 (stHalf lf s 0 (ldR (rowR s) x2) x3 st)

theorem wp_fwdChunk (c : Dev nD) (i : grid0.Coords) (arg4 : Memref sig .tc .vmem S1x4096x256 .bf16) (harg4 : arg4.IsWhole)
    (arg5 : Memref sig .tc .vmem S1x4096x256 .bf16) (harg5 : arg5.IsWhole) (arg6 : Memref sig .tc .vmem S2x4096x256 .bf16) (harg6 : arg6.IsWhole)
    (arg10 : Memref sig .tc .vmem S8192x512 .f32) (harg10 : arg10.IsWhole) (arg11 : Memref sig .tc .vmem S256x512 .f32) (harg11 : arg11.IsWhole)
    (h2 : k0_cond2 i = 1#1) (lf lb : Elt F .f32) (s : Fin 16)
    (x1 x2 : Vec F S1x4096x256 .bf16) (x3 : Vec F S2x4096x256 .bf16) (y : Vec F S8192x512 .f32) (st : Vec F S256x512 .f32)
    (E : Set ℕ) {α : Type} (kk : PUnit → Prog (TpuEff nD τ sig (Elt F) Λ₀ .tc) α) (Q : α → sProp 𝕄) :
    iprop(owns (c : Thread nD τ) arg4 fullShare x1 ∗ owns (c : Thread nD τ) arg5 fullShare x2 ∗ owns (c : Thread nD τ) arg6 fullShare x3
      ∗ owns (c : Thread nD τ) arg10 fullShare y ∗ owns (c : Thread nD τ) arg11 fullShare st
      ∗ (iprop(owns (c : Thread nD τ) arg4 fullShare x1 ∗ owns (c : Thread nD τ) arg5 fullShare x2 ∗ owns (c : Thread nD τ) arg6 fullShare x3
            ∗ owns (c : Thread nD τ) arg10 fullShare (accChunk i h2 lf lb s x1 x2 x3 st y)
            ∗ owns (c : Thread nD τ) arg11 fullShare (stChunk lf s x2 x3 st))
          -∗ wp frame (wpE (defs₀ (F := F)) Variants.none c none) E (kk ⟨⟩) Q))
    ⊢ wp frame (wpE (defs₀ (F := F)) Variants.none c none) E (fwdChunk i arg4 arg5 arg6 arg10 arg11 h2 lf lb s >>= kk) Q := by
  have hq := readAt_ldR harg4 x1 (rowR s)
  have hk := readAt_ldR harg5 x2 (rowR s)
  obtain ⟨p, hp⟩ : ∃ p : Vec F S1x256x256 .bf16 → Vec F S1x256x256 .bf16 → Prog (TpuEff nD τ sig (Elt F) Λ₀ .tc) α,
      p = fun q k => fwdHalf i arg6 arg10 arg11 h2 lf lb s 0 q k >>= fun _ => fwdHalf i arg6 arg10 arg11 h2 lf lb s 1 q k >>= kk := ⟨_, rfl⟩
  have hbind : fwdChunk i arg4 arg5 arg6 arg10 arg11 h2 lf lb s >>= kk
      = (do
          let q : Vec F S1x256x256 .bf16 ← Prog.lift (.load arg4 (rowR s).toLoadRect (View.loadsAt_vmem h_S1x256x256))
          let k : Vec F S1x256x256 .bf16 ← Prog.lift (.load arg5 (rowR s).toLoadRect (View.loadsAt_vmem h_S1x256x256))
          p q k) := by rw [hp]; rfl
  rw [hbind]
  rw [owns_def arg4, owns_def arg5]
  iintro ⟨⟨%f1, %hf1, H1⟩, ⟨%f2, %hf2, H2⟩, H3, H4, H5, Hk⟩
  obtain rfl := harg4.eq_unread hf1; obtain rfl := harg5.eq_unread hf2
  sl_exec
  rw [hp]
  dsimp only
  iapply (wp_fwdHalf c i arg6 harg6 arg10 harg10 arg11 harg11 h2 lf lb s 0 (ldR (rowR s) x1) (ldR (rowR s) x2) x3 y st E)
  isplitl [H3]; · iexact H3
  isplitl [H4]; · iexact H4
  isplitl [H5]; · iexact H5
  iintro ⟨H3, H4, H5⟩
  iapply (wp_fwdHalf c i arg6 harg6 arg10 harg10 arg11 harg11 h2 lf lb s 1 (ldR (rowR s) x1) (ldR (rowR s) x2) x3 _ _ E)
  isplitl [H3]; · iexact H3
  isplitl [H4]; · iexact H4
  isplitl [H5]; · iexact H5
  iintro ⟨H3, H4, H5⟩
  iapply Hk
  isplitl [H1]
  · iexists _; isplitr; · ipureintro; exact harg4.read_unread _
    iexact H1
  isplitl [H2]
  · iexists _; isplitr; · ipureintro; exact harg5.read_unread _
    iexact H2
  isplitl [H3]; · iexact H3
  isplitl [H4]; · iexact H4
  iexact H5

/-! ## The second pass -/

/-- The output block after chunk `s`. -/
def outChunk (i : grid0.Coords) (h3 : k0_cond3 i = 1#1) (lb : Elt F .f32) (s : Fin 16) (x1 : Vec F S1x4096x256 .bf16)
    (x4 : Vec F S2x4096x256 .bf16) (x5 : Vec F S1x512 .f32) (y : Vec F S8192x512 .f32) (st : Vec F S256x512 .f32) (o : Vec F S4096x512 .bf16) :
    Vec F S4096x512 .bf16 :=
  over (outR s) (outVal lb (ldR (rowR s) x1) (ldR stW st) (ldR (accW i h3 s) y) (ldR (Rect.unit (s := S1x512) ![0, 0] S1x512.size inb_S1x512_S1x512_0_0) x5)
    (ldR (halfR 0 s) x4) (ldR (halfR 1 s) x4)) o

/-- The backward state after chunk `s`. -/
def stChunkB (lb : Elt F .f32) (s : Fin 16) (x2 : Vec F S1x4096x256 .bf16) (x3 : Vec F S2x4096x256 .bf16) (st : Vec F S256x512 .f32) :
    Vec F S256x512 .f32 :=
  over stW (stValB lb (ldR (rowR s) x2) (ldR (halfR 0 s) x3) (ldR (halfR 1 s) x3) (ldR stW st)) st

theorem wp_bwdChunk (c : Dev nD) (i : grid0.Coords) (arg4 : Memref sig .tc .vmem S1x4096x256 .bf16) (harg4 : arg4.IsWhole)
    (arg5 : Memref sig .tc .vmem S1x4096x256 .bf16) (harg5 : arg5.IsWhole) (arg6 : Memref sig .tc .vmem S2x4096x256 .bf16) (harg6 : arg6.IsWhole)
    (arg7 : Memref sig .tc .vmem S2x4096x256 .bf16) (harg7 : arg7.IsWhole) (arg8 : Memref sig .tc .vmem S1x512 .f32) (harg8 : arg8.IsWhole)
    (arg9 : Memref sig .tc .vmem S4096x512 .bf16) (harg9 : arg9.IsWhole)
    (arg10 : Memref sig .tc .vmem S8192x512 .f32) (harg10 : arg10.IsWhole) (arg11 : Memref sig .tc .vmem S256x512 .f32) (harg11 : arg11.IsWhole)
    (h3 : k0_cond3 i = 1#1) (lb : Elt F .f32) (s : Fin 16)
    (x1 x2 : Vec F S1x4096x256 .bf16) (x3 x4 : Vec F S2x4096x256 .bf16) (x5 : Vec F S1x512 .f32) (o : Vec F S4096x512 .bf16)
    (y : Vec F S8192x512 .f32) (st : Vec F S256x512 .f32)
    (E : Set ℕ) {α : Type} (kk : PUnit → Prog (TpuEff nD τ sig (Elt F) Λ₀ .tc) α) (Q : α → sProp 𝕄) :
    iprop(owns (c : Thread nD τ) arg4 fullShare x1 ∗ owns (c : Thread nD τ) arg5 fullShare x2 ∗ owns (c : Thread nD τ) arg6 fullShare x3
      ∗ owns (c : Thread nD τ) arg7 fullShare x4 ∗ owns (c : Thread nD τ) arg8 fullShare x5 ∗ owns (c : Thread nD τ) arg9 fullShare o
      ∗ owns (c : Thread nD τ) arg10 fullShare y ∗ owns (c : Thread nD τ) arg11 fullShare st
      ∗ (iprop(owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare (outChunk i h3 lb s x1 x4 x5 y st o)
            ∗ owns (c : Thread nD τ) arg10 fullShare y ∗ owns (c : Thread nD τ) arg11 fullShare (stChunkB lb s x2 x3 st))
          -∗ wp frame (wpE (defs₀ (F := F)) Variants.none c none) E (kk ⟨⟩) Q))
    ⊢ wp frame (wpE (defs₀ (F := F)) Variants.none c none) E
        (bwdChunk i arg4 arg5 arg6 arg7 arg8 arg9 harg9 arg10 arg11 h3 lb s >>= kk) Q := by
  unfold bwdChunk owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7; obtain rfl := harg11.eq_unread hf8
  sl_exec
  iapply Hk
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [read_writes_one, harg9.read_unread]
    erw [readAt_ldR harg4, readAt_ldR harg11, readAt_ldR harg10, readAt_ldR harg8, readAt_ldR harg7, readAt_ldR harg7]; rfl
  isplitl [H7]
  · iexists _; isplitr; · ipureintro; exact harg10.read_unread _
    iexact H7
  iexists _; isplitr; swap; · iexact H8
  ipureintro
  rw [read_writes_one, harg11.read_unread]
  erw [readAt_ldR harg5, readAt_ldR harg6, readAt_ldR harg6, readAt_ldR harg11]; rfl

end Cert.KernelIdeal.Ret

end
-- ==== Proof.Chain.lean ====
/- What a whole call of the kernel leaves: its chains of chunks, over any continuation, and its branches. -/
module

public import proofs.«01_k».proof.Proof.Half

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## The chains -/

/-- The forward state after a list of chunks. -/
def stChain (lf : Elt F .f32) (x2 : Vec F S1x4096x256 .bf16) (x3 : Vec F S2x4096x256 .bf16) : List (Fin 16) → Vec F S256x512 .f32 → Vec F S256x512 .f32
  | [], st => st
  | s :: l, st => stChain lf x2 x3 l (stChunk lf s x2 x3 st)

/-- The accumulated output after a list of chunks. -/
def accChain (i : grid0.Coords) (h2 : k0_cond2 i = 1#1) (lf lb : Elt F .f32) (x1 x2 : Vec F S1x4096x256 .bf16) (x3 : Vec F S2x4096x256 .bf16) :
    List (Fin 16) → Vec F S256x512 .f32 → Vec F S8192x512 .f32 → Vec F S8192x512 .f32
  | [], _, y => y
  | s :: l, st, y => accChain i h2 lf lb x1 x2 x3 l (stChunk lf s x2 x3 st) (accChunk i h2 lf lb s x1 x2 x3 st y)

/-- The backward state after a list of chunks. -/
def stChainB (lb : Elt F .f32) (x2 : Vec F S1x4096x256 .bf16) (x3 : Vec F S2x4096x256 .bf16) : List (Fin 16) → Vec F S256x512 .f32 → Vec F S256x512 .f32
  | [], st => st
  | s :: l, st => stChainB lb x2 x3 l (stChunkB lb s x2 x3 st)

/-- The output block after a list of chunks. -/
def outChain (i : grid0.Coords) (h3 : k0_cond3 i = 1#1) (lb : Elt F .f32) (x1 x2 : Vec F S1x4096x256 .bf16) (x3 x4 : Vec F S2x4096x256 .bf16)
    (x5 : Vec F S1x512 .f32) (y : Vec F S8192x512 .f32) : List (Fin 16) → Vec F S256x512 .f32 → Vec F S4096x512 .bf16 → Vec F S4096x512 .bf16
  | [], _, o => o
  | s :: l, st, o => outChain i h3 lb x1 x2 x3 x4 x5 y l (stChunkB lb s x2 x3 st) (outChunk i h3 lb s x1 x4 x5 y st o)

section
variable (c : Dev nD) (i : grid0.Coords) (arg3 : Memref sig .tc .smem S2x16 .f32) (harg3 : arg3.IsWhole) (arg4 : Memref sig .tc .vmem S1x4096x256 .bf16) (harg4 : arg4.IsWhole)
    (arg5 : Memref sig .tc .vmem S1x4096x256 .bf16) (harg5 : arg5.IsWhole) (arg6 : Memref sig .tc .vmem S2x4096x256 .bf16) (harg6 : arg6.IsWhole)
    (arg7 : Memref sig .tc .vmem S2x4096x256 .bf16) (harg7 : arg7.IsWhole) (arg8 : Memref sig .tc .vmem S1x512 .f32) (harg8 : arg8.IsWhole)
    (arg9 : Memref sig .tc .vmem S4096x512 .bf16) (harg9 : arg9.IsWhole)
    (arg10 : Memref sig .tc .vmem S8192x512 .f32) (harg10 : arg10.IsWhole) (arg11 : Memref sig .tc .vmem S256x512 .f32) (harg11 : arg11.IsWhole)

include harg4 harg5 harg6 harg10 harg11 in
theorem wp_fwdChain (h2 : k0_cond2 i = 1#1) (lf lb : Elt F .f32)
    (x1 x2 : Vec F S1x4096x256 .bf16) (x3 : Vec F S2x4096x256 .bf16)
    (E : Set ℕ) {α : Type} (kk : PUnit → Prog (TpuEff nD τ sig (Elt F) Λ₀ .tc) α) (Q : α → sProp 𝕄) (l : List (Fin 16)) :
    ∀ (y : Vec F S8192x512 .f32) (st : Vec F S256x512 .f32),
    iprop(owns (c : Thread nD τ) arg4 fullShare x1 ∗ owns (c : Thread nD τ) arg5 fullShare x2 ∗ owns (c : Thread nD τ) arg6 fullShare x3
      ∗ owns (c : Thread nD τ) arg10 fullShare y ∗ owns (c : Thread nD τ) arg11 fullShare st
      ∗ (iprop(owns (c : Thread nD τ) arg4 fullShare x1 ∗ owns (c : Thread nD τ) arg5 fullShare x2 ∗ owns (c : Thread nD τ) arg6 fullShare x3
            ∗ owns (c : Thread nD τ) arg10 fullShare (accChain i h2 lf lb x1 x2 x3 l st y)
            ∗ owns (c : Thread nD τ) arg11 fullShare (stChain lf x2 x3 l st))
          -∗ wp frame (wpE (defs₀ (F := F)) Variants.none c none) E (kk ⟨⟩) Q))
    ⊢ wp frame (wpE (defs₀ (F := F)) Variants.none c none) E (fwdChain i arg4 arg5 arg6 arg10 arg11 h2 lf lb l >>= kk) Q := by
  induction l with
  | nil =>
    intro y st
    have hbind : fwdChain i arg4 arg5 arg6 arg10 arg11 h2 lf lb [] >>= kk = kk ⟨⟩ := rfl
    rw [hbind]
    iintro ⟨H1, H2, H3, H4, H5, Hk⟩
    iapply Hk
    isplitl [H1]; · iexact H1
    isplitl [H2]; · iexact H2
    isplitl [H3]; · iexact H3
    isplitl [H4]; · iexact H4
    iexact H5
  | cons s l ih =>
    intro y st
    have hbind : fwdChain i arg4 arg5 arg6 arg10 arg11 h2 lf lb (s :: l) >>= kk
        = (fwdChunk i arg4 arg5 arg6 arg10 arg11 h2 lf lb s >>= fun _ => fwdChain i arg4 arg5 arg6 arg10 arg11 h2 lf lb l >>= kk) :=
      bind_assoc _ _ _
    rw [hbind]
    iintro ⟨H1, H2, H3, H4, H5, Hk⟩
    iapply (wp_fwdChunk c i arg4 harg4 arg5 harg5 arg6 harg6 arg10 harg10 arg11 harg11 h2 lf lb s x1 x2 x3 y st E)
    isplitl [H1]; · iexact H1
    isplitl [H2]; · iexact H2
    isplitl [H3]; · iexact H3
    isplitl [H4]; · iexact H4
    isplitl [H5]; · iexact H5
    iintro ⟨H1, H2, H3, H4, H5⟩
    iapply (ih (accChunk i h2 lf lb s x1 x2 x3 st y) (stChunk lf s x2 x3 st))
    isplitl [H1]; · iexact H1
    isplitl [H2]; · iexact H2
    isplitl [H3]; · iexact H3
    isplitl [H4]; · iexact H4
    isplitl [H5]; · iexact H5
    iexact Hk

include harg4 harg5 harg6 harg7 harg8 harg10 harg11 in
theorem wp_bwdChain (h3 : k0_cond3 i = 1#1) (lb : Elt F .f32)
    (x1 x2 : Vec F S1x4096x256 .bf16) (x3 x4 : Vec F S2x4096x256 .bf16) (x5 : Vec F S1x512 .f32) (y : Vec F S8192x512 .f32)
    (E : Set ℕ) {α : Type} (kk : PUnit → Prog (TpuEff nD τ sig (Elt F) Λ₀ .tc) α) (Q : α → sProp 𝕄) (l : List (Fin 16)) :
    ∀ (o : Vec F S4096x512 .bf16) (st : Vec F S256x512 .f32),
    iprop(owns (c : Thread nD τ) arg4 fullShare x1 ∗ owns (c : Thread nD τ) arg5 fullShare x2 ∗ owns (c : Thread nD τ) arg6 fullShare x3
      ∗ owns (c : Thread nD τ) arg7 fullShare x4 ∗ owns (c : Thread nD τ) arg8 fullShare x5 ∗ owns (c : Thread nD τ) arg9 fullShare o
      ∗ owns (c : Thread nD τ) arg10 fullShare y ∗ owns (c : Thread nD τ) arg11 fullShare st
      ∗ (iprop(owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare (outChain i h3 lb x1 x2 x3 x4 x5 y l st o)
            ∗ owns (c : Thread nD τ) arg10 fullShare y ∗ owns (c : Thread nD τ) arg11 fullShare (stChainB lb x2 x3 l st))
          -∗ wp frame (wpE (defs₀ (F := F)) Variants.none c none) E (kk ⟨⟩) Q))
    ⊢ wp frame (wpE (defs₀ (F := F)) Variants.none c none) E
        (bwdChain i arg4 arg5 arg6 arg7 arg8 arg9 harg9 arg10 arg11 h3 lb l >>= kk) Q := by
  induction l with
  | nil =>
    intro o st
    have hbind : bwdChain i arg4 arg5 arg6 arg7 arg8 arg9 harg9 arg10 arg11 h3 lb [] >>= kk = kk ⟨⟩ := rfl
    rw [hbind]
    iintro ⟨H1, H2, H3, H4, H5, H6, H7, H8, Hk⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  | cons s l ih =>
    intro o st
    have hbind : bwdChain i arg4 arg5 arg6 arg7 arg8 arg9 harg9 arg10 arg11 h3 lb (s :: l) >>= kk
        = (bwdChunk i arg4 arg5 arg6 arg7 arg8 arg9 harg9 arg10 arg11 h3 lb s >>= fun _ =>
            bwdChain i arg4 arg5 arg6 arg7 arg8 arg9 harg9 arg10 arg11 h3 lb l >>= kk) := bind_assoc _ _ _
    rw [hbind]
    iintro ⟨H1, H2, H3, H4, H5, H6, H7, H8, Hk⟩
    iapply (wp_bwdChunk c i arg4 harg4 arg5 harg5 arg6 harg6 arg7 harg7 arg8 harg8 arg9 harg9 arg10 harg10 arg11 harg11 h3 lb s x1 x2 x3 x4 x5 o y st E)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply (ih (outChunk i h3 lb s x1 x4 x5 y st o) (stChunkB lb s x2 x3 st))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hk

/-! ## The whole body -/

/-- The condition under which a call of the kernel clears its state. -/
abbrev resets (i : grid0.Coords) : Prop :=
  Scalar.cmpi .ne (Scalar.extui (Scalar.cmpi .eq (BitVec.ofNat 32 (i 2).val) 0#32) : BitVec 32) 0#32 = 1#1

/-- The entry of the decay table a point reads for the forward direction. -/
def lfAt (i : grid0.Coords) (x0 : Vec F S2x16 .f32) : Elt F .f32 :=
  ldR (Rect.unit (s := S2x16) (k0_off1 i) S1x1.size (k0_off1_inb i)) x0 (Shape.Idx.first (numel1_S1x1.symm ▸ Nat.one_pos))

/-- The entry of the decay table a point reads for the backward direction. -/
def lbAt (i : grid0.Coords) (x0 : Vec F S2x16 .f32) : Elt F .f32 :=
  ldR (Rect.unit (s := S2x16) (k0_off2 i) S1x1.size (k0_off2_inb i)) x0 (Shape.Idx.first (numel1_S1x1.symm ▸ Nat.one_pos))

open Classical in
/-- The state a call's chains start from. -/
def st0 (i : grid0.Coords) (st : Vec F S256x512 .f32) : Vec F S256x512 .f32 := if resets i then over stW (k0_pay1 (F := F)) st else st

open Classical in
/-- The state after the first pass's part. -/
def st1 (i : grid0.Coords) (x0 : Vec F S2x16 .f32) (x2 : Vec F S1x4096x256 .bf16) (x3 : Vec F S2x4096x256 .bf16) (st : Vec F S256x512 .f32) : Vec F S256x512 .f32 :=
  if k0_cond2 i = 1#1 then stChain (lfAt i x0) x2 x3 ups st else st

open Classical in
/-- The accumulated output after the first pass's part. -/
def y1 (i : grid0.Coords) (x0 : Vec F S2x16 .f32) (x1 x2 : Vec F S1x4096x256 .bf16) (x3 : Vec F S2x4096x256 .bf16) (st : Vec F S256x512 .f32)
    (y : Vec F S8192x512 .f32) : Vec F S8192x512 .f32 :=
  if h2 : k0_cond2 i = 1#1 then accChain i h2 (lfAt i x0) (lbAt i x0) x1 x2 x3 ups st y else y

open Classical in
/-- The state after the second pass's part. -/
def st2 (i : grid0.Coords) (x0 : Vec F S2x16 .f32) (x2 : Vec F S1x4096x256 .bf16) (x3 : Vec F S2x4096x256 .bf16) (st : Vec F S256x512 .f32) : Vec F S256x512 .f32 :=
  if k0_cond3 i = 1#1 then stChainB (lbAt i x0) x2 x3 downs st else st

open Classical in
/-- The output block after the second pass's part. -/
def o2 (i : grid0.Coords) (x0 : Vec F S2x16 .f32) (x1 x2 : Vec F S1x4096x256 .bf16) (x3 x4 : Vec F S2x4096x256 .bf16) (x5 : Vec F S1x512 .f32)
    (y : Vec F S8192x512 .f32) (st : Vec F S256x512 .f32) (o : Vec F S4096x512 .bf16) : Vec F S4096x512 .bf16 :=
  if h3 : k0_cond3 i = 1#1 then outChain i h3 (lbAt i x0) x1 x2 x3 x4 x5 y downs st o else o

/-- The part of the body that clears the state. -/
def resetPart : Prog (TpuEff nD τ sig (Elt F) Λ₀ .tc) PUnit :=
  if resets i then do
    let _ : Vec F S256x512 .f32 ← Prog.lift (.load arg11 stW.toLoadRect (View.loadsAt_vmem h_S256x512))
    Prog.lift (.store arg11 stW (k0_pay1 (F := F)) Finset.univ (View.stores_vmem_bits_univ h_S256x512 rfl) (.inl rfl))
    pure ⟨⟩
  else pure ⟨⟩

include harg11 in
theorem wp_reset (st : Vec F S256x512 .f32)
    (E : Set ℕ) {α : Type} (kk : PUnit → Prog (TpuEff nD τ sig (Elt F) Λ₀ .tc) α) (Q : α → sProp 𝕄) :
    iprop(owns (c : Thread nD τ) arg11 fullShare st
      ∗ (iprop(owns (c : Thread nD τ) arg11 fullShare (st0 i st)) -∗ wp frame (wpE (defs₀ (F := F)) Variants.none c none) E (kk ⟨⟩) Q))
    ⊢ wp frame (wpE (defs₀ (F := F)) Variants.none c none) E (resetPart i arg11 >>= kk) Q := by
  unfold resetPart st0
  by_cases h : resets i
  · rw [if_pos h, if_pos h, owns_def arg11, owns_def arg11]
    iintro ⟨⟨%f, %hf, H⟩, Hk⟩
    obtain rfl := harg11.eq_unread hf
    sl_exec
    iapply Hk
    iexists _; isplitr; swap; · iexact H
    ipureintro
    rw [read_writes_one, harg11.read_unread]
  · rw [if_neg h, if_neg h]
    have hbind : (pure ⟨⟩ : Prog (TpuEff nD τ sig (Elt F) Λ₀ .tc) PUnit) >>= kk = kk ⟨⟩ := rfl
    rw [hbind]
    iintro ⟨H, Hk⟩
    iapply Hk
    iexact H

include harg4 harg5 harg6 harg10 harg11 in
theorem wp_fwdPart (x0 : Vec F S2x16 .f32) (x1 x2 : Vec F S1x4096x256 .bf16) (x3 : Vec F S2x4096x256 .bf16) (y : Vec F S8192x512 .f32) (st : Vec F S256x512 .f32)
    (E : Set ℕ) {α : Type} (kk : PUnit → Prog (TpuEff nD τ sig (Elt F) Λ₀ .tc) α) (Q : α → sProp 𝕄) :
    iprop(owns (c : Thread nD τ) arg4 fullShare x1 ∗ owns (c : Thread nD τ) arg5 fullShare x2 ∗ owns (c : Thread nD τ) arg6 fullShare x3
      ∗ owns (c : Thread nD τ) arg10 fullShare y ∗ owns (c : Thread nD τ) arg11 fullShare st
      ∗ (iprop(owns (c : Thread nD τ) arg4 fullShare x1 ∗ owns (c : Thread nD τ) arg5 fullShare x2 ∗ owns (c : Thread nD τ) arg6 fullShare x3
            ∗ owns (c : Thread nD τ) arg10 fullShare (y1 i x0 x1 x2 x3 st y)
            ∗ owns (c : Thread nD τ) arg11 fullShare (st1 i x0 x2 x3 st))
          -∗ wp frame (wpE (defs₀ (F := F)) Variants.none c none) E (kk ⟨⟩) Q))
    ⊢ wp frame (wpE (defs₀ (F := F)) Variants.none c none) E
        ((if h2 : k0_cond2 i = 1#1 then fwdChain i arg4 arg5 arg6 arg10 arg11 h2 (lfAt i x0) (lbAt i x0) ups else pure ⟨⟩) >>= kk) Q := by
  unfold y1 st1
  by_cases h : k0_cond2 i = 1#1
  · rw [dif_pos h, dif_pos h, if_pos h]
    exact wp_fwdChain c i arg4 harg4 arg5 harg5 arg6 harg6 arg10 harg10 arg11 harg11 h _ _ x1 x2 x3 E kk Q ups y st
  · rw [dif_neg h, dif_neg h, if_neg h]
    have hbind : (pure ⟨⟩ : Prog (TpuEff nD τ sig (Elt F) Λ₀ .tc) PUnit) >>= kk = kk ⟨⟩ := rfl
    rw [hbind]
    iintro ⟨H1, H2, H3, H4, H5, Hk⟩
    iapply Hk
    isplitl [H1]; · iexact H1
    isplitl [H2]; · iexact H2
    isplitl [H3]; · iexact H3
    isplitl [H4]; · iexact H4
    iexact H5

include harg4 harg5 harg6 harg7 harg8 harg10 harg11 in
theorem wp_bwdPart (x0 : Vec F S2x16 .f32)
    (x1 x2 : Vec F S1x4096x256 .bf16) (x3 x4 : Vec F S2x4096x256 .bf16) (x5 : Vec F S1x512 .f32) (o : Vec F S4096x512 .bf16) (y : Vec F S8192x512 .f32)
    (st : Vec F S256x512 .f32)
    (E : Set ℕ) {α : Type} (kk : PUnit → Prog (TpuEff nD τ sig (Elt F) Λ₀ .tc) α) (Q : α → sProp 𝕄) :
    iprop(owns (c : Thread nD τ) arg4 fullShare x1 ∗ owns (c : Thread nD τ) arg5 fullShare x2 ∗ owns (c : Thread nD τ) arg6 fullShare x3
      ∗ owns (c : Thread nD τ) arg7 fullShare x4 ∗ owns (c : Thread nD τ) arg8 fullShare x5 ∗ owns (c : Thread nD τ) arg9 fullShare o
      ∗ owns (c : Thread nD τ) arg10 fullShare y ∗ owns (c : Thread nD τ) arg11 fullShare st
      ∗ (iprop(owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare (o2 i x0 x1 x2 x3 x4 x5 y st o)
            ∗ owns (c : Thread nD τ) arg10 fullShare y ∗ owns (c : Thread nD τ) arg11 fullShare (st2 i x0 x2 x3 st))
          -∗ wp frame (wpE (defs₀ (F := F)) Variants.none c none) E (kk ⟨⟩) Q))
    ⊢ wp frame (wpE (defs₀ (F := F)) Variants.none c none) E
        ((if h3 : k0_cond3 i = 1#1 then bwdChain i arg4 arg5 arg6 arg7 arg8 arg9 harg9 arg10 arg11 h3 (lbAt i x0) downs else pure ⟨⟩) >>= kk) Q := by
  unfold o2 st2
  by_cases h : k0_cond3 i = 1#1
  · rw [dif_pos h, dif_pos h, if_pos h]
    exact wp_bwdChain c i arg4 harg4 arg5 harg5 arg6 harg6 arg7 harg7 arg8 harg8 arg9 harg9 arg10 harg10 arg11 harg11 h _ x1 x2 x3 x4 x5 y E kk Q downs o st
  · rw [dif_neg h, dif_neg h, if_neg h]
    have hbind : (pure ⟨⟩ : Prog (TpuEff nD τ sig (Elt F) Λ₀ .tc) PUnit) >>= kk = kk ⟨⟩ := rfl
    rw [hbind]
    iintro ⟨H1, H2, H3, H4, H5, H6, H7, H8, Hk⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The output block a call leaves. -/
abbrev oOut (x0 : Vec F S2x16 .f32) (x1 x2 : Vec F S1x4096x256 .bf16) (x3 x4 : Vec F S2x4096x256 .bf16) (x5 : Vec F S1x512 .f32)
    (y : Vec F S8192x512 .f32) (st : Vec F S256x512 .f32) (o : Vec F S4096x512 .bf16) : Vec F S4096x512 .bf16 :=
  o2 i x0 x1 x2 x3 x4 x5 (y1 i x0 x1 x2 x3 (st0 i st) y) (st1 i x0 x2 x3 (st0 i st)) o
/-- The accumulated output a call leaves. -/
abbrev yOut (x0 : Vec F S2x16 .f32) (x1 x2 : Vec F S1x4096x256 .bf16) (x3 : Vec F S2x4096x256 .bf16)
    (y : Vec F S8192x512 .f32) (st : Vec F S256x512 .f32) : Vec F S8192x512 .f32 :=
  y1 i x0 x1 x2 x3 (st0 i st) y
/-- The state a call leaves. -/
abbrev stOut (x0 : Vec F S2x16 .f32) (x2 : Vec F S1x4096x256 .bf16) (x3 : Vec F S2x4096x256 .bf16) (st : Vec F S256x512 .f32) : Vec F S256x512 .f32 :=
  st2 i x0 x2 x3 (st1 i x0 x2 x3 (st0 i st))

/-- The kernel's triple: what each buffer holds at the end, from what it held at the start. -/
theorem wp_retention (x0 : Vec F S2x16 .f32)
    (x1 x2 : Vec F S1x4096x256 .bf16) (x3 x4 : Vec F S2x4096x256 .bf16) (x5 : Vec F S1x512 .f32) (o : Vec F S4096x512 .bf16) (y : Vec F S8192x512 .f32)
    (st : Vec F S256x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
      ∗ owns (c : Thread nD τ) arg7 fullShare x4 ∗ owns (c : Thread nD τ) arg8 fullShare x5 ∗ owns (c : Thread nD τ) arg9 fullShare o
      ∗ owns (c : Thread nD τ) arg10 fullShare y ∗ owns (c : Thread nD τ) arg11 fullShare st
      ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare (oOut i x0 x1 x2 x3 x4 x5 y st o)
            ∗ owns (c : Thread nD τ) arg10 fullShare (yOut i x0 x1 x2 x3 y st) ∗ owns (c : Thread nD τ) arg11 fullShare (stOut i x0 x2 x3 st))
          -∗ K ⟨⟩))
    ⊢ wp frame (wpE (defs₀ (F := F)) Variants.none c none) E
        (cc0_retention i arg3 harg3 arg4 harg4 arg5 harg5 arg6 harg6 arg7 harg7 arg8 harg8 arg9 harg9 arg10 harg10 arg11 harg11) K := by
  rw [cc0_retention_eq]
  obtain ⟨p, hp⟩ : ∃ p : Elt F .f32 → Elt F .f32 → Prog (TpuEff nD τ sig (Elt F) Λ₀ .tc) PUnit,
      p = fun lf lb => (resetPart i arg11 >>= fun _ =>
        (if h2 : k0_cond2 i = 1#1 then fwdChain i arg4 arg5 arg6 arg10 arg11 h2 lf lb ups else pure ⟨⟩) >>= fun _ =>
        (if h3 : k0_cond3 i = 1#1 then bwdChain i arg4 arg5 arg6 arg7 arg8 arg9 harg9 arg10 arg11 h3 lb downs else pure ⟨⟩) >>= fun _ => pure ⟨⟩) := ⟨_, rfl⟩
  have hbind : retention (F := F) i arg3 arg4 arg5 arg6 arg7 arg8 arg9 harg9 arg10 arg11
      = (do
          let lf : Elt F .f32 ← smemLoad arg3 (Rect.unit (s := S2x16) (k0_off1 i) S1x1.size (k0_off1_inb i)) numel1_S1x1 rfl
          let lb : Elt F .f32 ← smemLoad arg3 (Rect.unit (s := S2x16) (k0_off2 i) S1x1.size (k0_off2_inb i)) numel1_S1x1 rfl
          p lf lb) := by
    rw [hp]
    unfold retention resetPart
    by_cases h1 : resets i
    · by_cases h2 : k0_cond2 i = 1#1 <;> by_cases h3 : k0_cond3 i = 1#1 <;> simp only [if_pos h1, h1, h2, h3, if_pos, if_neg, dif_pos, dif_neg, not_false_eq_true, bind_assoc, pure_bind] <;> rfl
    · by_cases h2 : k0_cond2 i = 1#1 <;> by_cases h3 : k0_cond3 i = 1#1 <;> simp only [if_neg h1, h1, h2, h3, if_pos, if_neg, dif_pos, dif_neg, not_false_eq_true, bind_assoc, pure_bind] <;> rfl
  rw [hbind, owns_def arg3]
  iintro ⟨⟨%f0, %hf0, H0⟩, H1, H2, H3, H4, H5, H6, H7, H8, Hk⟩
  obtain rfl := harg3.eq_unread hf0
  have e1 := readAt_ldR harg3 x0 (Rect.unit (s := S2x16) (k0_off1 i) S1x1.size (k0_off1_inb i))
  have e2 := readAt_ldR harg3 x0 (Rect.unit (s := S2x16) (k0_off2 i) S1x1.size (k0_off2_inb i))
  sl_exec
  rw [hp]
  dsimp only
  iapply (wp_reset c i arg11 harg11 st E)
  isplitl [H8]; · iexact H8
  iintro H8
  iapply (wp_fwdPart c i arg4 harg4 arg5 harg5 arg6 harg6 arg10 harg10 arg11 harg11 x0 x1 x2 x3 y (st0 i st) E)
  isplitl [H1]; · iexact H1
  isplitl [H2]; · iexact H2
  isplitl [H3]; · iexact H3
  isplitl [H7]; · iexact H7
  isplitl [H8]; · iexact H8
  iintro ⟨H1, H2, H3, H7, H8⟩
  iapply (wp_bwdPart c i arg4 harg4 arg5 harg5 arg6 harg6 arg7 harg7 arg8 harg8 arg9 harg9 arg10 harg10 arg11 harg11 x0 x1 x2 x3 x4 x5 o _ _ E)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  sl_step
  iapply Hk
  isplitl [H0]
  · iexists _; isplitr; · ipureintro; exact harg3.read_unread _
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end

end Cert.KernelIdeal.Ret

end
-- ==== Proof.Closed.lean ====
/- The contents a call of the kernel leaves, in closed form: row by row what its chunk stored, the rest as it was. -/
module

public import proofs.«01_k».proof.Proof.Chain

@[expose] public section

set_option maxRecDepth 16384

noncomputable section

namespace Cert.KernelIdeal.Ret

open Idealize.ShloMosaic Idealize.ShloMosaic.TcCoe
open Cert.KernelIdeal Cert.KernelIdeal.Gen

variable {F : FTy → Type} [FloatOps F]

/-! ## Where the rectangles lie -/

theorem accR_off0 (i : grid0.Coords) (h2 : k0_cond2 i = 1#1) (j : Fin 2) (s : Fin 16) : (accR i h2 j s).off 0 = 4096 * (i 2).val + 256 * s.val := by
  have h : ∀ (a : Fin 2) (s : Fin 16), (Scalar.indexCast (Scalar.addi (Scalar.muli (BitVec.ofNat 32 a.val) (4096#32)) (BitVec.ofNat 32 (256 * s.val))) : BitVec 32).toNat
      = 4096 * a.val + 256 * s.val := by decide +kernel
  match j with
  | 0 => exact h (i 2) s
  | 1 => exact h (i 2) s

theorem accR_off1 (i : grid0.Coords) (h2 : k0_cond2 i = 1#1) (j : Fin 2) (s : Fin 16) : (accR i h2 j s).off 1 = 256 * j.val := by
  match j with
  | 0 => rfl
  | 1 => rfl

theorem accW_off0 (i : grid0.Coords) (h3 : k0_cond3 i = 1#1) (s : Fin 16) : (accW i h3 s).off 0 = 4096 * (1 - (i 2).val) + 256 * s.val := by
  have h : ∀ (a : Fin 2) (s : Fin 16), (Scalar.indexCast (Scalar.addi (Scalar.muli (Scalar.subi (1#32) (BitVec.ofNat 32 a.val)) (4096#32)) (BitVec.ofNat 32 (256 * s.val))) : BitVec 32).toNat
      = 4096 * (1 - a.val) + 256 * s.val := by decide +kernel
  exact h (i 2) s

theorem accW_off1 (i : grid0.Coords) (h3 : k0_cond3 i = 1#1) (s : Fin 16) : (accW i h3 s).off 1 = 0 := rfl

/-! ## The whole state -/

theorem ldR_whole {α : Type} (st : S256x512.Idx → α) : ldR stW st = st := by
  funext x
  unfold ldR
  refine congrArg st (Rect.emb_eq_of_coords _ x x fun a => ?_)
  match a with
  | ⟨0, _⟩ => show (x 0).val = 0 + 1 * (x 0).val; omega
  | ⟨1, _⟩ => show (x 1).val = 0 + 1 * (x 1).val; omega

theorem over_whole {α : Type} (w st : S256x512.Idx → α) : over stW w st = w := by
  funext x
  refine over_hit stW w st x x fun a => ?_
  match a with
  | ⟨0, _⟩ => show (x 0).val = 0 + 1 * (x 0).val; omega
  | ⟨1, _⟩ => show (x 1).val = 0 + 1 * (x 1).val; omega

theorem st0_of_resets (i : grid0.Coords) (h : resets i) (st : Vec F S256x512 .f32) : st0 i st = (k0_pay1 (F := F)) := by
  unfold st0; rw [if_pos h, over_whole]
theorem st0_of_not (i : grid0.Coords) (h : ¬resets i) (st : Vec F S256x512 .f32) : st0 i st = st := by
  unfold st0; rw [if_neg h]

/-! ## One chunk -/

theorem ldR_stHalf_other (lf : Elt F .f32) (s : Fin 16) (k : Vec F S1x256x256 .bf16) (x3 : Vec F S2x4096x256 .bf16) (st : Vec F S256x512 .f32) :
    ldR (stR 1) (stHalf lf s 0 k x3 st) = ldR (stR 1) st := by
  funext x
  unfold ldR stHalf
  refine over_miss_axis _ _ _ _ 1 0 256 rfl rfl rfl (Or.inr ?_)
  show 0 + 256 ≤ 256 * 1 + 1 * (x 1).val
  omega

theorem stHalf_at (lf : Elt F .f32) (s : Fin 16) (j : Fin 2) (k : Vec F S1x256x256 .bf16) (x3 : Vec F S2x4096x256 .bf16) (st : Vec F S256x512 .f32)
    (y : S256x512.Idx) (a : S256x256.Idx) (h0 : (y 0).val = (a 0).val) (h1 : (y 1).val = 256 * j.val + (a 1).val) :
    stHalf lf s j k x3 st y = stVal lf k (ldR (halfR j s) x3) (ldR (stR j) st) a := by
  refine over_hit (stR j) (stVal lf k (ldR (halfR j s) x3) (ldR (stR j) st)) st a y fun d => ?_
  match d with
  | ⟨0, _⟩ => show (y 0).val = 0 + 1 * (a 0).val; omega
  | ⟨1, _⟩ => show (y 1).val = 256 * j.val + 1 * (a 1).val; omega

/-- The state after a chunk, column half by column half. -/
theorem stChunk_at (lf : Elt F .f32) (s : Fin 16) (j : Fin 2) (x2 : Vec F S1x4096x256 .bf16) (x3 : Vec F S2x4096x256 .bf16) (st : Vec F S256x512 .f32)
    (y : S256x512.Idx) (a : S256x256.Idx) (h0 : (y 0).val = (a 0).val) (h1 : (y 1).val = 256 * j.val + (a 1).val) :
    stChunk lf s x2 x3 st y = stVal lf (ldR (rowR s) x2) (ldR (halfR j s) x3) (ldR (stR j) st) a := by
  unfold stChunk
  match j with
  | 0 =>
    have ha : (a 1).val < 256 := (a 1).isLt
    unfold stHalf
    rw [over_miss_axis _ _ _ y 1 256 256 rfl rfl rfl (Or.inl (by rw [h1]; show 256 * 0 + (a 1).val < 256; omega))]
    exact stHalf_at lf s 0 _ x3 st y a h0 h1
  | 1 =>
    rw [stHalf_at lf s 1 _ x3 _ y a h0 h1, ldR_stHalf_other]

theorem accHalf_hit (i : grid0.Coords) (h2 : k0_cond2 i = 1#1) (lf lb : Elt F .f32) (s : Fin 16) (j : Fin 2) (q k : Vec F S1x256x256 .bf16)
    (x3 : Vec F S2x4096x256 .bf16) (st : Vec F S256x512 .f32) (y : Vec F S8192x512 .f32) (z : S8192x512.Idx) (a : S256x256.Idx)
    (h0 : (z 0).val = 4096 * (i 2).val + 256 * s.val + (a 0).val) (h1 : (z 1).val = 256 * j.val + (a 1).val) :
    accHalf i h2 lf lb s j q k x3 st y z = accVal lf lb q k (ldR (halfR j s) x3) (ldR (stR j) st) a := by
  refine over_hit (accR i h2 j s) (accVal lf lb q k (ldR (halfR j s) x3) (ldR (stR j) st)) y a z fun d => ?_
  match d with
  | ⟨0, _⟩ => show (z 0).val = (accR i h2 j s).off 0 + 1 * (a 0).val; rw [accR_off0]; omega
  | ⟨1, _⟩ => show (z 1).val = (accR i h2 j s).off 1 + 1 * (a 1).val; rw [accR_off1]; omega

theorem accHalf_miss0 (i : grid0.Coords) (h2 : k0_cond2 i = 1#1) (lf lb : Elt F .f32) (s : Fin 16) (j : Fin 2) (q k : Vec F S1x256x256 .bf16)
    (x3 : Vec F S2x4096x256 .bf16) (st : Vec F S256x512 .f32) (y : Vec F S8192x512 .f32) (z : S8192x512.Idx)
    (h : (z 0).val < 4096 * (i 2).val + 256 * s.val ∨ 4096 * (i 2).val + 256 * s.val + 256 ≤ (z 0).val) :
    accHalf i h2 lf lb s j q k x3 st y z = y z :=
  over_miss_axis _ _ _ z 0 _ 256 (accR_off0 i h2 j s) rfl rfl h

theorem accChunk_hit (i : grid0.Coords) (h2 : k0_cond2 i = 1#1) (lf lb : Elt F .f32) (s : Fin 16) (j : Fin 2) (x1 x2 : Vec F S1x4096x256 .bf16)
    (x3 : Vec F S2x4096x256 .bf16) (st : Vec F S256x512 .f32) (y : Vec F S8192x512 .f32) (z : S8192x512.Idx) (a : S256x256.Idx)
    (h0 : (z 0).val = 4096 * (i 2).val + 256 * s.val + (a 0).val) (h1 : (z 1).val = 256 * j.val + (a 1).val) :
    accChunk i h2 lf lb s x1 x2 x3 st y z = accVal lf lb (ldR (rowR s) x1) (ldR (rowR s) x2) (ldR (halfR j s) x3) (ldR (stR j) st) a := by
  unfold accChunk
  match j with
  | 0 =>
    have ha : (a 1).val < 256 := (a 1).isLt
    refine Eq.trans (over_miss_axis _ _ _ z 1 256 256 (accR_off1 i h2 1 s) rfl rfl (Or.inl (by rw [h1]; show 256 * 0 + (a 1).val < 256; omega))) ?_
    exact accHalf_hit i h2 lf lb s 0 _ _ x3 st y z a h0 h1
  | 1 =>
    rw [accHalf_hit i h2 lf lb s 1 _ _ x3 _ _ z a h0 h1, ldR_stHalf_other]

theorem accChunk_miss (i : grid0.Coords) (h2 : k0_cond2 i = 1#1) (lf lb : Elt F .f32) (s : Fin 16) (x1 x2 : Vec F S1x4096x256 .bf16)
    (x3 : Vec F S2x4096x256 .bf16) (st : Vec F S256x512 .f32) (y : Vec F S8192x512 .f32) (z : S8192x512.Idx)
    (h : (z 0).val < 4096 * (i 2).val + 256 * s.val ∨ 4096 * (i 2).val + 256 * s.val + 256 ≤ (z 0).val) :
    accChunk i h2 lf lb s x1 x2 x3 st y z = y z := by
  unfold accChunk
  rw [accHalf_miss0 i h2 lf lb s 1 _ _ x3 _ _ z h, accHalf_miss0 i h2 lf lb s 0 _ _ x3 _ _ z h]

theorem outChunk_hit (i : grid0.Coords) (h3 : k0_cond3 i = 1#1) (lb : Elt F .f32) (s : Fin 16) (x1 : Vec F S1x4096x256 .bf16)
    (x4 : Vec F S2x4096x256 .bf16) (x5 : Vec F S1x512 .f32) (y : Vec F S8192x512 .f32) (st : Vec F S256x512 .f32) (o : Vec F S4096x512 .bf16)
    (z : S4096x512.Idx) (a : S256x512.Idx) (h0 : (z 0).val = 256 * s.val + (a 0).val) (h1 : (z 1).val = (a 1).val) :
    outChunk i h3 lb s x1 x4 x5 y st o z
      = outVal lb (ldR (rowR s) x1) st (ldR (accW i h3 s) y) (ldR (Rect.unit (s := S1x512) ![0, 0] S1x512.size inb_S1x512_S1x512_0_0) x5)
          (ldR (halfR 0 s) x4) (ldR (halfR 1 s) x4) a := by
  unfold outChunk
  rw [ldR_whole]
  refine over_hit (outR s) (outVal lb (ldR (rowR s) x1) st (ldR (accW i h3 s) y) (ldR (Rect.unit (s := S1x512) ![0, 0] S1x512.size inb_S1x512_S1x512_0_0) x5)
          (ldR (halfR 0 s) x4) (ldR (halfR 1 s) x4)) o a z fun d => ?_
  match d with
  | ⟨0, _⟩ => show (z 0).val = 256 * s.val + 1 * (a 0).val; omega
  | ⟨1, _⟩ => show (z 1).val = 0 + 1 * (a 1).val; omega

theorem outChunk_miss (i : grid0.Coords) (h3 : k0_cond3 i = 1#1) (lb : Elt F .f32) (s : Fin 16) (x1 : Vec F S1x4096x256 .bf16)
    (x4 : Vec F S2x4096x256 .bf16) (x5 : Vec F S1x512 .f32) (y : Vec F S8192x512 .f32) (st : Vec F S256x512 .f32) (o : Vec F S4096x512 .bf16)
    (z : S4096x512.Idx) (h : (z 0).val < 256 * s.val ∨ 256 * s.val + 256 ≤ (z 0).val) :
    outChunk i h3 lb s x1 x4 x5 y st o z = o z :=
  over_miss_axis _ _ _ z 0 _ 256 rfl rfl rfl h

theorem stChunkB_eq (lb : Elt F .f32) (s : Fin 16) (x2 : Vec F S1x4096x256 .bf16) (x3 : Vec F S2x4096x256 .bf16) (st : Vec F S256x512 .f32) :
    stChunkB lb s x2 x3 st = stValB lb (ldR (rowR s) x2) (ldR (halfR 0 s) x3) (ldR (halfR 1 s) x3) st := by
  unfold stChunkB; rw [over_whole, ldR_whole]

/-! ## The chains -/

theorem stChain_append (lf : Elt F .f32) (x2 : Vec F S1x4096x256 .bf16) (x3 : Vec F S2x4096x256 .bf16) (l l' : List (Fin 16)) :
    ∀ st : Vec F S256x512 .f32, stChain lf x2 x3 (l ++ l') st = stChain lf x2 x3 l' (stChain lf x2 x3 l st) := by
  induction l with
  | nil => intro st; rfl
  | cons s l ih => intro st; exact ih _

theorem stChainB_append (lb : Elt F .f32) (x2 : Vec F S1x4096x256 .bf16) (x3 : Vec F S2x4096x256 .bf16) (l l' : List (Fin 16)) :
    ∀ st : Vec F S256x512 .f32, stChainB lb x2 x3 (l ++ l') st = stChainB lb x2 x3 l' (stChainB lb x2 x3 l st) := by
  induction l with
  | nil => intro st; rfl
  | cons s l ih => intro st; exact ih _

theorem accChain_miss (i : grid0.Coords) (h2 : k0_cond2 i = 1#1) (lf lb : Elt F .f32) (x1 x2 : Vec F S1x4096x256 .bf16) (x3 : Vec F S2x4096x256 .bf16)
    (z : S8192x512.Idx) (l : List (Fin 16)) (h : ∀ s ∈ l, (z 0).val < 4096 * (i 2).val + 256 * s.val ∨ 4096 * (i 2).val + 256 * s.val + 256 ≤ (z 0).val) :
    ∀ (st : Vec F S256x512 .f32) (y : Vec F S8192x512 .f32), accChain i h2 lf lb x1 x2 x3 l st y z = y z := by
  induction l with
  | nil => intro st y; rfl
  | cons s l ih =>
    intro st y
    refine (ih (fun s' hs' => h s' (List.mem_cons_of_mem _ hs')) _ _).trans ?_
    exact accChunk_miss i h2 lf lb s x1 x2 x3 st y z (h s List.mem_cons_self)

theorem accChain_append (i : grid0.Coords) (h2 : k0_cond2 i = 1#1) (lf lb : Elt F .f32) (x1 x2 : Vec F S1x4096x256 .bf16) (x3 : Vec F S2x4096x256 .bf16)
    (l l' : List (Fin 16)) : ∀ (st : Vec F S256x512 .f32) (y : Vec F S8192x512 .f32),
      accChain i h2 lf lb x1 x2 x3 (l ++ l') st y = accChain i h2 lf lb x1 x2 x3 l' (stChain lf x2 x3 l st) (accChain i h2 lf lb x1 x2 x3 l st y) := by
  induction l with
  | nil => intro st y; rfl
  | cons s l ih => intro st y; exact ih _ _

theorem outChain_miss (i : grid0.Coords) (h3 : k0_cond3 i = 1#1) (lb : Elt F .f32) (x1 x2 : Vec F S1x4096x256 .bf16) (x3 x4 : Vec F S2x4096x256 .bf16)
    (x5 : Vec F S1x512 .f32) (y : Vec F S8192x512 .f32) (z : S4096x512.Idx) (l : List (Fin 16))
    (h : ∀ s ∈ l, (z 0).val < 256 * s.val ∨ 256 * s.val + 256 ≤ (z 0).val) :
    ∀ (st : Vec F S256x512 .f32) (o : Vec F S4096x512 .bf16), outChain i h3 lb x1 x2 x3 x4 x5 y l st o z = o z := by
  induction l with
  | nil => intro st o; rfl
  | cons s l ih =>
    intro st o
    refine (ih (fun s' hs' => h s' (List.mem_cons_of_mem _ hs')) _ _).trans ?_
    exact outChunk_miss i h3 lb s x1 x4 x5 y st o z (h s List.mem_cons_self)

theorem outChain_append (i : grid0.Coords) (h3 : k0_cond3 i = 1#1) (lb : Elt F .f32) (x1 x2 : Vec F S1x4096x256 .bf16) (x3 x4 : Vec F S2x4096x256 .bf16)
    (x5 : Vec F S1x512 .f32) (y : Vec F S8192x512 .f32) (l l' : List (Fin 16)) : ∀ (st : Vec F S256x512 .f32) (o : Vec F S4096x512 .bf16),
      outChain i h3 lb x1 x2 x3 x4 x5 y (l ++ l') st o
        = outChain i h3 lb x1 x2 x3 x4 x5 y l' (stChainB lb x2 x3 l st) (outChain i h3 lb x1 x2 x3 x4 x5 y l st o) := by
  induction l with
  | nil => intro st o; rfl
  | cons s l ih => intro st o; exact ih _ _

theorem ups_split : ∀ s : Fin 16, ups = ups.take s.val ++ s :: ups.drop (s.val + 1) := by decide
theorem ups_later : ∀ s : Fin 16, s ∉ ups.drop (s.val + 1) := by decide
theorem downs_split : ∀ s : Fin 16, downs = downs.take (15 - s.val) ++ s :: downs.drop (15 - s.val + 1) := by decide
theorem downs_later : ∀ s : Fin 16, s ∉ downs.drop (15 - s.val + 1) := by decide

/-- The forward state a call's chunk `s` starts from. -/
abbrev stF (lf : Elt F .f32) (x2 : Vec F S1x4096x256 .bf16) (x3 : Vec F S2x4096x256 .bf16) (st : Vec F S256x512 .f32) (s : ℕ) : Vec F S256x512 .f32 :=
  stChain lf x2 x3 (ups.take s) st
/-- The backward state a call's `n`-th chunk starts from. -/
abbrev stB (lb : Elt F .f32) (x2 : Vec F S1x4096x256 .bf16) (x3 : Vec F S2x4096x256 .bf16) (st : Vec F S256x512 .f32) (n : ℕ) : Vec F S256x512 .f32 :=
  stChainB lb x2 x3 (downs.take n) st

theorem stF_succ (lf : Elt F .f32) (x2 : Vec F S1x4096x256 .bf16) (x3 : Vec F S2x4096x256 .bf16) (st : Vec F S256x512 .f32) (s : Fin 16) :
    stF lf x2 x3 st (s.val + 1) = stChunk lf s x2 x3 (stF lf x2 x3 st s.val) := by
  have h : ∀ s : Fin 16, ups.take (s.val + 1) = ups.take s.val ++ [s] := by decide
  unfold stF
  rw [h s, stChain_append]
  rfl

theorem stB_succ (lb : Elt F .f32) (x2 : Vec F S1x4096x256 .bf16) (x3 : Vec F S2x4096x256 .bf16) (st : Vec F S256x512 .f32) (s : Fin 16) :
    stB lb x2 x3 st (15 - s.val + 1) = stChunkB lb s x2 x3 (stB lb x2 x3 st (15 - s.val)) := by
  have h : ∀ s : Fin 16, downs.take (15 - s.val + 1) = downs.take (15 - s.val) ++ [s] := by decide
  unfold stB
  rw [h s, stChainB_append]
  rfl

theorem accChain_hit_of (i : grid0.Coords) (h2 : k0_cond2 i = 1#1) (lf lb : Elt F .f32) (x1 x2 : Vec F S1x4096x256 .bf16) (x3 : Vec F S2x4096x256 .bf16)
    (st : Vec F S256x512 .f32) (y : Vec F S8192x512 .f32) (z : S8192x512.Idx) (s : Fin 16) (j : Fin 2) (a : S256x256.Idx)
    (h0 : (z 0).val = 4096 * (i 2).val + 256 * s.val + (a 0).val) (h1 : (z 1).val = 256 * j.val + (a 1).val)
    (L l l' : List (Fin 16)) (hL : L = l ++ s :: l') (hs : s ∉ l') :
    accChain i h2 lf lb x1 x2 x3 L st y z
      = accVal lf lb (ldR (rowR s) x1) (ldR (rowR s) x2) (ldR (halfR j s) x3) (ldR (stR j) (stChain lf x2 x3 l st)) a := by
  have ha : (a 0).val < 256 := (a 0).isLt
  rw [hL, accChain_append]
  refine (accChain_miss i h2 lf lb x1 x2 x3 z l' (fun s' hs' => ?_) _ _).trans (accChunk_hit i h2 lf lb s j x1 x2 x3 _ _ z a h0 h1)
  have hne : s' ≠ s := fun hh => hs (hh ▸ hs')
  have : s'.val ≠ s.val := fun hh => hne (Fin.ext hh)
  omega

theorem outChain_hit_of (i : grid0.Coords) (h3 : k0_cond3 i = 1#1) (lb : Elt F .f32) (x1 x2 : Vec F S1x4096x256 .bf16) (x3 x4 : Vec F S2x4096x256 .bf16)
    (x5 : Vec F S1x512 .f32) (y : Vec F S8192x512 .f32) (st : Vec F S256x512 .f32) (o : Vec F S4096x512 .bf16)
    (z : S4096x512.Idx) (s : Fin 16) (a : S256x512.Idx) (h0 : (z 0).val = 256 * s.val + (a 0).val) (h1 : (z 1).val = (a 1).val)
    (L l l' : List (Fin 16)) (hL : L = l ++ s :: l') (hs : s ∉ l') :
    outChain i h3 lb x1 x2 x3 x4 x5 y L st o z
      = outVal lb (ldR (rowR s) x1) (stChainB lb x2 x3 l st) (ldR (accW i h3 s) y)
          (ldR (Rect.unit (s := S1x512) ![0, 0] S1x512.size inb_S1x512_S1x512_0_0) x5) (ldR (halfR 0 s) x4) (ldR (halfR 1 s) x4) a := by
  have ha : (a 0).val < 256 := (a 0).isLt
  rw [hL, outChain_append]
  refine (outChain_miss i h3 lb x1 x2 x3 x4 x5 y z l' (fun s' hs' => ?_) _ _).trans (outChunk_hit i h3 lb s x1 x4 x5 y _ _ z a h0 h1)
  have hne : s' ≠ s := fun hh => hs (hh ▸ hs')
  have : s'.val ≠ s.val := fun hh => hne (Fin.ext hh)
  omega

/-- A row of the block a first-pass call works on: what its chunk stored. -/
theorem accChain_hit (i : grid0.Coords) (h2 : k0_cond2 i = 1#1) (lf lb : Elt F .f32) (x1 x2 : Vec F S1x4096x256 .bf16) (x3 : Vec F S2x4096x256 .bf16)
    (st : Vec F S256x512 .f32) (y : Vec F S8192x512 .f32) (z : S8192x512.Idx) (s : Fin 16) (j : Fin 2) (a : S256x256.Idx)
    (h0 : (z 0).val = 4096 * (i 2).val + 256 * s.val + (a 0).val) (h1 : (z 1).val = 256 * j.val + (a 1).val) :
    accChain i h2 lf lb x1 x2 x3 ups st y z
      = accVal lf lb (ldR (rowR s) x1) (ldR (rowR s) x2) (ldR (halfR j s) x3) (ldR (stR j) (stF lf x2 x3 st s.val)) a :=
  accChain_hit_of i h2 lf lb x1 x2 x3 st y z s j a h0 h1 ups _ _ (ups_split s) (ups_later s)

/-- A row outside that block keeps its contents. -/
theorem accChain_keep (i : grid0.Coords) (h2 : k0_cond2 i = 1#1) (lf lb : Elt F .f32) (x1 x2 : Vec F S1x4096x256 .bf16) (x3 : Vec F S2x4096x256 .bf16)
    (st : Vec F S256x512 .f32) (y : Vec F S8192x512 .f32) (z : S8192x512.Idx)
    (h : (z 0).val < 4096 * (i 2).val ∨ 4096 * (i 2).val + 4096 ≤ (z 0).val) : accChain i h2 lf lb x1 x2 x3 ups st y z = y z := by
  refine accChain_miss i h2 lf lb x1 x2 x3 z _ (fun s' hs' => ?_) _ _
  have := s'.isLt
  omega

/-- A row of the output block. -/
theorem outChain_hit (i : grid0.Coords) (h3 : k0_cond3 i = 1#1) (lb : Elt F .f32) (x1 x2 : Vec F S1x4096x256 .bf16) (x3 x4 : Vec F S2x4096x256 .bf16)
    (x5 : Vec F S1x512 .f32) (y : Vec F S8192x512 .f32) (st : Vec F S256x512 .f32) (o : Vec F S4096x512 .bf16)
    (z : S4096x512.Idx) (s : Fin 16) (a : S256x512.Idx) (h0 : (z 0).val = 256 * s.val + (a 0).val) (h1 : (z 1).val = (a 1).val) :
    outChain i h3 lb x1 x2 x3 x4 x5 y downs st o z
      = outVal lb (ldR (rowR s) x1) (stB lb x2 x3 st (15 - s.val)) (ldR (accW i h3 s) y)
          (ldR (Rect.unit (s := S1x512) ![0, 0] S1x512.size inb_S1x512_S1x512_0_0) x5) (ldR (halfR 0 s) x4) (ldR (halfR 1 s) x4) a :=
  outChain_hit_of i h3 lb x1 x2 x3 x4 x5 y st o z s a h0 h1 downs _ _ (downs_split s) (downs_later s)

/-! ## What does not depend on what a buffer held -/

/-- The chunk and offset of a row below 4096. -/
theorem row_split (n : ℕ) (h : n < 4096) : ∃ (s : Fin 16) (r : Fin 256), n = 256 * s.val + r.val :=
  ⟨⟨n / 256, by omega⟩, ⟨n % 256, Nat.mod_lt _ (by omega)⟩, by show n = 256 * (n / 256) + n % 256; omega⟩

theorem accChain_indep (i : grid0.Coords) (h2 : k0_cond2 i = 1#1) (lf lb : Elt F .f32) (x1 x2 : Vec F S1x4096x256 .bf16) (x3 : Vec F S2x4096x256 .bf16)
    (st : Vec F S256x512 .f32) (y y' : Vec F S8192x512 .f32) (z : S8192x512.Idx)
    (h : 4096 * (i 2).val ≤ (z 0).val) (h' : (z 0).val < 4096 * (i 2).val + 4096) :
    accChain i h2 lf lb x1 x2 x3 ups st y z = accChain i h2 lf lb x1 x2 x3 ups st y' z := by
  obtain ⟨s, r, hr⟩ := row_split ((z 0).val - 4096 * (i 2).val) (by omega)
  have hz1 : (z 1).val < 512 := (z 1).isLt
  have h0 : (z 0).val = 4096 * (i 2).val + 256 * s.val + r.val := by omega
  have hlt : (z 1).val % 256 < 256 := Nat.mod_lt _ (by omega)
  have hj : (z 1).val / 256 < 2 := by omega
  have h1 : (z 1).val = 256 * (⟨(z 1).val / 256, hj⟩ : Fin 2).val + (⟨(z 1).val % 256, hlt⟩ : Fin 256).val := by
    show (z 1).val = 256 * ((z 1).val / 256) + (z 1).val % 256; omega
  let a : S256x256.Idx := fun d => match d with | ⟨0, _⟩ => r | ⟨1, _⟩ => ⟨(z 1).val % 256, hlt⟩
  rw [accChain_hit i h2 lf lb x1 x2 x3 st y z s ⟨(z 1).val / 256, hj⟩ a h0 h1, accChain_hit i h2 lf lb x1 x2 x3 st y' z s ⟨(z 1).val / 256, hj⟩ a h0 h1]

theorem outChain_indep (i : grid0.Coords) (h3 : k0_cond3 i = 1#1) (lb : Elt F .f32) (x1 x2 : Vec F S1x4096x256 .bf16) (x3 x4 : Vec F S2x4096x256 .bf16)
    (x5 : Vec F S1x512 .f32) (y : Vec F S8192x512 .f32) (st : Vec F S256x512 .f32) (o o' : Vec F S4096x512 .bf16) :
    outChain i h3 lb x1 x2 x3 x4 x5 y downs st o = outChain i h3 lb x1 x2 x3 x4 x5 y downs st o' := by
  funext z
  obtain ⟨s, r, hr⟩ := row_split (z 0).val (z 0).isLt
  let a : S256x512.Idx := fun d => match d with | ⟨0, _⟩ => r | ⟨1, _⟩ => z 1
  rw [outChain_hit i h3 lb x1 x2 x3 x4 x5 y st o z s a hr rfl, outChain_hit i h3 lb x1 x2 x3 x4 x5 y st o' z s a hr rfl]

end Cert.KernelIdeal.Ret

end
-- ==== Proof.Run.lean ====
/- The kernel's run, at any values: the scratch between points, the body at a generic point, the launch. -/
module

public import proofs.«01_k».proof.Proof.Closed
public import Idealize.ShloMosaic.Lib.WordCmp
public import Idealize.ShloMosaic.Lib.Claim

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N64 : cfg0.N = 64 := N_0

theorem coords0 (t : Fin cfg0.N) : (grid0.coords t 0).val = t.val / 4 % 16 := Pipeline.Grid.coords_val t 0 (by decide) rfl
theorem coords1 (t : Fin cfg0.N) : (grid0.coords t 1).val = t.val / 2 % 2 := Pipeline.Grid.coords_val t 1 (by decide) rfl
theorem coords2 (t : Fin cfg0.N) : (grid0.coords t 2).val = t.val % 2 := by
  have h : (grid0.coords t 2).val = t.val / 1 % 2 := Pipeline.Grid.coords_val t 2 (by decide) rfl
  rw [h, Nat.div_one]

theorem resets_iff (t : Fin cfg0.N) : resets (grid0.coords t) ↔ t.val % 2 = 0 := by
  have ht : t.val < 64 := Nat.lt_of_lt_of_eq t.isLt N64
  have e2 := coords2 t
  simp only [resets, e2]
  word_cmp

theorem cond2_iff (t : Fin cfg0.N) : k0_cond2 (grid0.coords t) = 1#1 ↔ t.val / 2 % 2 = 0 := by
  have ht : t.val < 64 := Nat.lt_of_lt_of_eq t.isLt N64
  have e1 := coords1 t
  simp only [k0_cond2, e1]
  word_cmp

theorem cond3_iff (t : Fin cfg0.N) : k0_cond3 (grid0.coords t) = 1#1 ↔ t.val / 2 % 2 = 1 := by
  have ht : t.val < 64 := Nat.lt_of_lt_of_eq t.isLt N64
  have e1 := coords1 t
  simp only [k0_cond3, e1]
  word_cmp

theorem live6 (t : Fin cfg0.N) (h : t.val / 2 % 2 = 1) : cfg0.idle 6 (grid0.coords t) = false := by
  show (!(k0_cond3 (grid0.coords t) == 1#1)) = false
  rw [(cond3_iff t).mpr h]; rfl

theorem idle6 (t : Fin cfg0.N) (h : t.val / 2 % 2 = 0) : cfg0.idle 6 (grid0.coords t) = true := by
  show (!(k0_cond3 (grid0.coords t) == 1#1)) = true
  have hn : ¬k0_cond3 (grid0.coords t) = 1#1 := fun hh => by have := (cond3_iff t).mp hh; omega
  rw [beq_eq_false_iff_ne.mpr hn]; rfl

theorem flush6 : ∀ t : Fin cfg0.N, t.val / 2 % 2 = 0 → (cfg0.win 6).flush t = false := by decide +kernel

/-! ## The scratch between points -/

/-- The scratch after the first `t` points, on a stated start. -/
def tr (c : Dev nD) : ℕ → Vec F S8192x512 .f32 × Vec F S256x512 .f32
  | 0 => (broadcast S8192x512 (Scalar.ofBits .f32 0x00000000#32 : F .f32), broadcast S256x512 (Scalar.ofBits .f32 0x00000000#32 : F .f32))
  | t + 1 => if h : t < cfg0.N then
      (yOut (grid0.coords ⟨t, h⟩) (iblk m c 0 ⟨t, h⟩) (iblk m c 1 ⟨t, h⟩) (iblk m c 2 ⟨t, h⟩) (iblk m c 3 ⟨t, h⟩) (tr c t).1 (tr c t).2,
        stOut (grid0.coords ⟨t, h⟩) (iblk m c 0 ⟨t, h⟩) (iblk m c 2 ⟨t, h⟩) (iblk m c 3 ⟨t, h⟩) (tr c t).2)
    else tr c t

theorem tr_succ (c : Dev nD) (t : Fin cfg0.N) : tr m c (t.val + 1)
    = (yOut (grid0.coords t) (iblk m c 0 t) (iblk m c 1 t) (iblk m c 2 t) (iblk m c 3 t) (tr m c t.val).1 (tr m c t.val).2,
        stOut (grid0.coords t) (iblk m c 0 t) (iblk m c 2 t) (iblk m c 3 t) (tr m c t.val).2) := by
  show (if h : t.val < cfg0.N then _ else _) = _
  rw [dif_pos t.isLt]

/-- The output block the body leaves at a point of the second pass. -/
def outAt (c : Dev nD) (t : Fin cfg0.N) : Vec F S4096x512 .bf16 :=
  oOut (grid0.coords t) (iblk m c 0 t) (iblk m c 1 t) (iblk m c 2 t) (iblk m c 3 t) (iblk m c 4 t) (iblk m c 5 t) (tr m c t.val).1 (tr m c t.val).2
    (broadcast S4096x512 (Scalar.ofBits .bf16 0x0000#16 : F .bf16))

/-- What is known of the scratch before point `t`: the state where it is carried into the point, and of the accumulated
    output the rows already summed for the current head. -/
def Agree (c : Dev nD) (t : ℕ) (y : Vec F S8192x512 .f32) (st : Vec F S256x512 .f32) : Prop :=
  (t % 2 = 1 → st = (tr m c t).2) ∧ (t % 4 = 1 → ∀ z : S8192x512.Idx, (z 0).val < 4096 → y z = (tr m c t).1 z) ∧ (2 ≤ t % 4 → y = (tr m c t).1)

theorem Agree.zero (c : Dev nD) (y : Vec F S8192x512 .f32) (st : Vec F S256x512 .f32) : Agree m c 0 y st :=
  ⟨fun h => absurd h (by decide), fun h => absurd h (by decide), fun h => absurd h (by decide)⟩

theorem st0_agree {c : Dev nD} {t : Fin cfg0.N} {y : Vec F S8192x512 .f32} {st : Vec F S256x512 .f32} (h : Agree m c t.val y st) :
    st0 (grid0.coords t) st = st0 (grid0.coords t) (tr m c t.val).2 := by
  by_cases h0 : t.val % 2 = 0
  · rw [st0_of_resets _ ((resets_iff t).mpr h0), st0_of_resets _ ((resets_iff t).mpr h0)]
  · rw [h.1 (by omega)]

theorem y1_agree {c : Dev nD} {t : Fin cfg0.N} {y : Vec F S8192x512 .f32} {st : Vec F S256x512 .f32} (h : Agree m c t.val y st) (h1 : t.val / 2 % 2 = 1) :
    yOut (grid0.coords t) (iblk m c 0 t) (iblk m c 1 t) (iblk m c 2 t) (iblk m c 3 t) y st = (tr m c t.val).1 := by
  have hn : ¬k0_cond2 (grid0.coords t) = 1#1 := fun hh => by have := (cond2_iff t).mp hh; omega
  unfold yOut y1
  rw [dif_neg hn]
  exact h.2.2 (by omega)

theorem y1_indep (i : grid0.Coords) (hc : k0_cond2 i = 1#1) (x0 : Vec F S2x16 .f32) (x1 x2 : Vec F S1x4096x256 .bf16) (x3 : Vec F S2x4096x256 .bf16)
    (st : Vec F S256x512 .f32) (y y' : Vec F S8192x512 .f32) (z : S8192x512.Idx) (h : 4096 * (i 2).val ≤ (z 0).val) (h' : (z 0).val < 4096 * (i 2).val + 4096) :
    y1 i x0 x1 x2 x3 st y z = y1 i x0 x1 x2 x3 st y' z := by
  unfold y1
  rw [dif_pos hc, dif_pos hc]
  exact accChain_indep i hc (lfAt i x0) (lbAt i x0) x1 x2 x3 st y y' z h h'

theorem y1_keep (i : grid0.Coords) (hc : k0_cond2 i = 1#1) (x0 : Vec F S2x16 .f32) (x1 x2 : Vec F S1x4096x256 .bf16) (x3 : Vec F S2x4096x256 .bf16)
    (st : Vec F S256x512 .f32) (y : Vec F S8192x512 .f32) (z : S8192x512.Idx) (h : (z 0).val < 4096 * (i 2).val ∨ 4096 * (i 2).val + 4096 ≤ (z 0).val) :
    y1 i x0 x1 x2 x3 st y z = y z := by
  unfold y1
  rw [dif_pos hc]
  exact accChain_keep i hc (lfAt i x0) (lbAt i x0) x1 x2 x3 st y z h

theorem y1_skip (i : grid0.Coords) (hn : ¬k0_cond2 i = 1#1) (x0 : Vec F S2x16 .f32) (x1 x2 : Vec F S1x4096x256 .bf16) (x3 : Vec F S2x4096x256 .bf16)
    (st : Vec F S256x512 .f32) (y : Vec F S8192x512 .f32) : y1 i x0 x1 x2 x3 st y = y := by
  unfold y1
  rw [dif_neg hn]

theorem Agree.succ {c : Dev nD} {t : Fin cfg0.N} {y : Vec F S8192x512 .f32} {st : Vec F S256x512 .f32} (h : Agree m c t.val y st) :
    Agree m c (t.val + 1)
      (yOut (grid0.coords t) (iblk m c 0 t) (iblk m c 1 t) (iblk m c 2 t) (iblk m c 3 t) y st)
      (stOut (grid0.coords t) (iblk m c 0 t) (iblk m c 2 t) (iblk m c 3 t) st) := by
  have hst := st0_agree m h
  have c2 := coords2 t
  have e1 : (tr m c (t.val + 1)).1 = _ := congrArg Prod.fst (tr_succ m c t)
  have e2 : (tr m c (t.val + 1)).2 = _ := congrArg Prod.snd (tr_succ m c t)
  refine ⟨fun _ => ?_, fun h4 z hz => ?_, fun h4 => ?_⟩
  · rw [e2]
    unfold stOut
    rw [hst]
  · have hc : k0_cond2 (grid0.coords t) = 1#1 := (cond2_iff t).mpr (by omega)
    rw [e1]
    dsimp only [yOut]
    rw [hst]
    exact y1_indep (grid0.coords t) hc _ _ _ _ _ _ _ z (by omega) (by omega)
  · by_cases h1 : t.val / 2 % 2 = 0
    · have hc : k0_cond2 (grid0.coords t) = 1#1 := (cond2_iff t).mpr h1
      rw [e1]
      dsimp only [yOut]
      rw [hst]
      funext z
      have hz : (z 0).val < 8192 := (z 0).isLt
      by_cases hlt : (z 0).val < 4096
      · rw [y1_keep (grid0.coords t) hc _ _ _ _ _ _ z (Or.inl (by omega)), y1_keep (grid0.coords t) hc _ _ _ _ _ _ z (Or.inl (by omega))]
        exact h.2.1 (by omega) z hlt
      · exact y1_indep (grid0.coords t) hc _ _ _ _ _ _ _ z (by omega) (by omega)
    · have h1' : t.val / 2 % 2 = 1 := by omega
      have hn : ¬k0_cond2 (grid0.coords t) = 1#1 := fun hh => by have := (cond2_iff t).mp hh; omega
      rw [y1_agree m h h1', e1]
      dsimp only [yOut]
      rw [y1_skip _ hn]

theorem out_agree {c : Dev nD} {t : Fin cfg0.N} {y : Vec F S8192x512 .f32} {st : Vec F S256x512 .f32} (h : Agree m c t.val y st) (h1 : t.val / 2 % 2 = 1)
    (o : Vec F S4096x512 .bf16) :
    oOut (grid0.coords t) (iblk m c 0 t) (iblk m c 1 t) (iblk m c 2 t) (iblk m c 3 t) (iblk m c 4 t) (iblk m c 5 t) y st o = outAt m c t := by
  have hst := st0_agree m h
  have hn : ¬k0_cond2 (grid0.coords t) = 1#1 := fun hh => by have := (cond2_iff t).mp hh; omega
  have hy : y = (tr m c t.val).1 := h.2.2 (by omega)
  unfold outAt oOut o2 y1
  rw [dif_pos ((cond3_iff t).mpr h1), dif_pos ((cond3_iff t).mpr h1), dif_neg hn, dif_neg hn, hst, hy]
  exact outChain_indep _ _ _ _ _ _ _ _ _ _ _ _

theorem out_idle {t : Fin cfg0.N} (h1 : t.val / 2 % 2 = 0) (x0 : Vec F S2x16 .f32) (x1 x2 : Vec F S1x4096x256 .bf16) (x3 x4 : Vec F S2x4096x256 .bf16)
    (x5 : Vec F S1x512 .f32) (y : Vec F S8192x512 .f32) (st : Vec F S256x512 .f32) (o : Vec F S4096x512 .bf16) :
    oOut (grid0.coords t) x0 x1 x2 x3 x4 x5 y st o = o := by
  have hn : ¬k0_cond3 (grid0.coords t) = 1#1 := fun hh => by have := (cond3_iff t).mp hh; omega
  unfold oOut o2
  rw [dif_neg hn]

/-! ## The proof data -/

/-- The scratch operands. -/
abbrev sc0 : Memref sig .tc .vmem S8192x512 .f32 := Memref.whole cc0_scratch0
abbrev sc1 : Memref sig .tc .vmem S256x512 .f32 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before point `t`. -/
def PhiS (c : Dev nD) (t : ℕ) (_ : t ≤ cfg0.N) : sProp 𝕄 :=
  iprop((∃ y st, owns (c : Thread nD τ) sc0 fullShare y ∗ owns (c : Thread nD τ) sc1 fullShare st ∗ ⌜Agree m c t y st⌝) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem leaves_6 (c : Dev nD) (t : Fin cfg0.N) (y : Vec F S8192x512 .f32) (st : Vec F S256x512 .f32) (h : Agree m c t.val y st) (d) :
    owns (c : Thread nD τ) (st0_6 t) fullShare
        (oOut (grid0.coords t) (iblk m c 0 t) (iblk m c 1 t) (iblk m c 2 t) (iblk m c 3 t) (iblk m c 4 t) (iblk m c 5 t) y st ((dats m 0 c).before 6 t d))
      ⊢ ((dats m 0 c).leavesExact 6 t : sProp 𝕄) := by
  by_cases h1 : t.val / 2 % 2 = 0
  · rw [Dat.leavesExact_idle _ 6 t (idle6 t h1) (flush6 t h1), out_idle h1]
    iintro H
    iexists d
    iexact H
  · have h1' : t.val / 2 % 2 = 1 := by omega
    rw [out_agree m h h1', show (dats m 0 c).leavesExact 6 t = owns (c : Thread nD τ) (st0_6 t) fullShare ((dats m 0 c).after 6 t) from by
      unfold Dat.leavesExact; rw [live6 t h1'], after_6]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  rw [show (dats m 0 c).leavesExact 3 t = owns (c : Thread nD τ) (st0_3 t) fullShare ((dats m 0 c).after 3 t) from rfl, after_3]
  rw [show (dats m 0 c).leavesExact 4 t = owns (c : Thread nD τ) (st0_4 t) fullShare ((dats m 0 c).after 4 t) from rfl, after_4]
  rw [show (dats m 0 c).leavesExact 5 t = owns (c : Thread nD τ) (st0_5 t) fullShare ((dats m 0 c).after 5 t) from rfl, after_5]
  unfold PhiS
  iintro ⟨⟨⟨%y, %st, HS0, HS1, %hag⟩, Hg⟩, Ho, ⟨%d0, H0⟩, ⟨%d1, H1⟩, ⟨%d2, H2⟩, ⟨%d3, H3⟩, ⟨%d4, H4⟩, ⟨%d5, H5⟩, ⟨%d6, H6⟩⟩
  iapply (wp_retention c (grid0.coords t) (st0_0 t) _ (st0_1 t) _ (st0_2 t) _ (st0_3 t) _ (st0_4 t) _ (st0_5 t) _ (st0_6 t) _ sc0 _ sc1 _
    (iblk m c 0 t) (iblk m c 1 t) (iblk m c 2 t) (iblk m c 3 t) (iblk m c 4 t) (iblk m c 5 t) ((dats m 0 c).before 6 t d6) y st Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · iexists _, _
      isplitl [HS0]; · iexact HS0
      isplitl [HS1]; · iexact HS1
      ipureintro
      exact Agree.succ m hag
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves_6 m c t y st hag d6)
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%y, H0⟩, ⟨%st, H1⟩⟩, Hg⟩
  isplitl [H0 H1]
  · iexists y, st
    isplitl [H0]; · iexact H0
    isplitl [H1]; · iexact H1
    ipureintro
    exact Agree.zero m c y st
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%y, %st, H0, H1, %hag⟩, Hg⟩
  isplitl [H0 H1]
  · isplitl [H0]
    · iexists y; iexact H0
    iexists st; iexact H1
  iexact Hg

/-! ## The run -/

set_option backward.isDefEq.respectTransparency.types false in
/-- Every execution terminates, with every window's array at what the points left and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_main m ρ)

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_main m ρ))

end Cert.KernelIdeal.Ret

end
-- ==== Proof.KVal.lean ====
/- What one chunk of the retention kernel computes, over the reals: its rows of the two scratch buffers and of the result. -/
module

public import proofs.«01_k».proof.Proof.Closed
public import proofs.«01_k».proof.Proof.Sums
public import Idealize.ShloMosaic.Lib.Pointwise

@[expose] public section

set_option maxRecDepth 16384

noncomputable section

namespace Cert.KernelIdeal.Ret

open Idealize.ShloMosaic
open Cert.KernelIdeal Cert.KernelIdeal.Gen
open Cert.Retention

theorem accVal_at (lf lb : EReal) (q k v : Vec Ideal S1x256x256 .bf16) (st : Vec Ideal S256x256 .f32) (a e : Fin 256) :
    accVal (F := Ideal) lf lb q k v st (ix2 a e)
      = ∑ x : Fin 256, (∑ d : Fin 256, q (ix3 0 a d) * k (ix3 0 x d))
          * ((if 0 ≤ FloatOps.sitofp (F := Ideal) FTy.f32 (IntOp.subi (BitVec.ofNat 32 ↑a) (BitVec.ofNat 32 ↑x)) then
                Ideal.exp (max (FloatOps.sitofp (F := Ideal) FTy.f32 (IntOp.subi (BitVec.ofNat 32 ↑a) (BitVec.ofNat 32 ↑x))) 0 * lf) else 0)
            + (if FloatOps.sitofp (F := Ideal) FTy.f32 (IntOp.subi (BitVec.ofNat 32 ↑a) (BitVec.ofNat 32 ↑x)) ≤ 0 then
                Ideal.exp (max (0 - FloatOps.sitofp (F := Ideal) FTy.f32 (IntOp.subi (BitVec.ofNat 32 ↑a) (BitVec.ofNat 32 ↑x))) 0 * lb) else 0))
          * v (ix3 0 x e)
        + ∑ x : Fin 256, q (ix3 0 a x) * Ideal.exp ((FloatOps.sitofp (F := Ideal) FTy.f32 (BitVec.ofNat 32 ↑a) + 1) * lf) * st (ix2 x e) := by
  unfold accVal
  pointwise [k0_pay15, k0_pay11, k0_pay12, k0_pay14, k0_pay5, k0_pay6, k0_pay9, k0_pay10, k0_pay2]

theorem stVal_at (lf : EReal) (k v : Vec Ideal S1x256x256 .bf16) (st : Vec Ideal S256x256 .f32) (a e : Fin 256) :
    stVal (F := Ideal) lf k v st (ix2 a e)
      = st (ix2 a e) * Ideal.exp (Ideal.ofBits .f32 0x43800000#32 * lf)
        + ∑ x : Fin 256, k (ix3 0 x a)
            * Ideal.exp ((Ideal.ofBits .f32 0x437F0000#32 - FloatOps.sitofp (F := Ideal) FTy.f32 (BitVec.ofNat 32 ↑x)) * lf)
            * v (ix3 0 x e) := by
  unfold stVal
  pointwise [k0_pay16, k0_pay13, k0_pay14, k0_pay7, k0_pay8, k0_pay10, k0_pay2]

theorem stValB_at (lb : EReal) (k v0 v1 : Vec Ideal S1x256x256 .bf16) (st : Vec Ideal S256x512 .f32) (a : Fin 256) (e : Fin 512) :
    stValB (F := Ideal) lb k v0 v1 st (ix2 a e)
      = st (ix2 a e) * Ideal.exp (Ideal.ofBits .f32 0x43800000#32 * lb)
        + ∑ x : Fin 256, k (ix3 0 x a) * Ideal.exp (FloatOps.sitofp (F := Ideal) FTy.f32 (BitVec.ofNat 32 ↑x) * lb)
            * (if h : (e : ℕ) < 256 then v0 (ix3 0 x ⟨e, h⟩) else v1 (ix3 0 x ⟨e - 256, by omega⟩)) := by
  unfold stValB
  pointwise [k0_pay209, k0_pay203, k0_pay204, k0_pay205, k0_pay2]

theorem outVal_at (lb : EReal) (q : Vec Ideal S1x256x256 .bf16) (st y : Vec Ideal S256x512 .f32) (gn : Vec Ideal S1x512 .f32)
    (g0 g1 : Vec Ideal S1x256x256 .bf16) (a : Fin 256) (e : Fin 512) :
    outVal (F := Ideal) lb q st y gn g0 g1 (ix2 a e)
      = rowOut (fun x => y (ix2 a x) + ∑ d : Fin 256, q (ix3 0 a d)
            * Ideal.exp ((Ideal.ofBits .f32 0x43800000#32 - FloatOps.sitofp (F := Ideal) FTy.f32 (BitVec.ofNat 32 ↑a)) * lb) * st (ix2 d x))
          (gn (ix2 0 e)) (if h : (e : ℕ) < 256 then g0 (ix3 0 a ⟨e, h⟩) else g1 (ix3 0 a ⟨e - 256, by omega⟩)) e := by
  unfold outVal rowOut
  pointwise [k0_pay208, k0_pay207, k0_pay206, k0_pay202, k0_pay2]

/-! ## Over the reals -/

theorem exp_low {lg : EReal} (h : lg ≤ 0) (x : Fin 256) :
    Ideal.exp ((Ideal.ofBits .f32 0x437F0000#32 - FloatOps.sitofp (F := Ideal) FTy.f32 (BitVec.ofNat 32 ↑x)) * lg) = ((dec lg ^ (256 - 1 - (x : ℕ)) : ℝ) : EReal) := by
  rw [ofBits_255, sitofp_ofNat (by omega), ← EReal.coe_sub, ← exp_mul_dec h, Nat.cast_sub (by omega)]; norm_num

theorem exp_high {lg : EReal} (h : lg ≤ 0) (x : Fin 256) :
    Ideal.exp ((Ideal.ofBits .f32 0x43800000#32 - FloatOps.sitofp (F := Ideal) FTy.f32 (BitVec.ofNat 32 ↑x)) * lg) = ((dec lg ^ (256 - (x : ℕ)) : ℝ) : EReal) := by
  rw [ofBits_256, sitofp_ofNat (by omega), ← EReal.coe_sub, ← exp_mul_dec h, Nat.cast_sub (by omega)]; norm_num

theorem exp_row {lg : EReal} (h : lg ≤ 0) (x : Fin 256) :
    Ideal.exp (FloatOps.sitofp (F := Ideal) FTy.f32 (BitVec.ofNat 32 ↑x) * lg) = ((dec lg ^ (x : ℕ) : ℝ) : EReal) := by
  rw [sitofp_ofNat (by omega), exp_mul_dec h]

theorem exp_next {lg : EReal} (h : lg ≤ 0) (x : Fin 256) :
    Ideal.exp ((FloatOps.sitofp (F := Ideal) FTy.f32 (BitVec.ofNat 32 ↑x) + 1) * lg) = ((dec lg ^ ((x : ℕ) + 1) : ℝ) : EReal) := by
  rw [sitofp_ofNat (by omega), ← exp_mul_dec h]; norm_num

theorem exp_all {lg : EReal} (h : lg ≤ 0) : Ideal.exp (Ideal.ofBits .f32 0x43800000#32 * lg) = ((dec lg ^ 256 : ℝ) : EReal) := by
  rw [ofBits_256, ← exp_mul_dec h]; norm_num

theorem sitofp_sub_fin (a x : Fin 256) :
    FloatOps.sitofp (F := Ideal) FTy.f32 (IntOp.subi (BitVec.ofNat 32 ↑a) (BitVec.ofNat 32 ↑x)) = (((a : ℕ) : ℝ) - ((x : ℕ) : ℝ) : ℝ) :=
  sitofp_sub (by omega) (by omega)

/-- The first pass of a row: the forward sum, and the chunk's own rows of the backward sum. -/
def firstPass (γf γb : ℝ) (Q K : ℕ → Fin 256 → ℝ) (V : ℕ → ℝ) (R a : ℕ) : ℝ :=
  fsum γf (score Q K V (R + a)) (R + a + 1) + ∑ b ∈ Finset.range 256, lowW γb b a * score Q K V (R + a) (R + b)

/-- The first pass and the state after the chunk make the row of the retention. -/
theorem firstPass_add (γf γb : ℝ) (Q K : ℕ → Fin 256 → ℝ) (V : ℕ → ℝ) (N R a : ℕ) (ha : a < 256) (h : R + 256 ≤ N) :
    firstPass γf γb Q K V R a + γb ^ (256 - a) * bsum γb (score Q K V (R + a)) N (R + 256) = retRow γf γb Q K V N (R + a) := by
  rw [retRow, firstPass, bsum_row γb _ N R 256 a ha h]; ring

variable {lf lb : EReal} (hf : lf ≤ 0) (hb : lb ≤ 0) {Q K : ℕ → Fin 256 → ℝ}

include hf hb in
theorem accVal_real {q k v : Vec Ideal S1x256x256 .bf16} {st : Vec Ideal S256x256 .f32} {a e : Fin 256} {V : ℕ → ℝ} {R : ℕ}
    (hq : ∀ a d : Fin 256, q (ix3 0 a d) = ((Q (R + a) d : ℝ) : EReal)) (hk : ∀ a d : Fin 256, k (ix3 0 a d) = ((K (R + a) d : ℝ) : EReal))
    (hv : ∀ x : Fin 256, v (ix3 0 x e) = ((V (R + x) : ℝ) : EReal))
    (hst : ∀ x : Fin 256, st (ix2 x e) = ((fsum (dec lf) (fun m => K m x * V m) R : ℝ) : EReal)) :
    accVal (F := Ideal) lf lb q k v st (ix2 a e) = ((firstPass (dec lf) (dec lb) Q K V R a : ℝ) : EReal) := by
  rw [accVal_at]
  simp only [sitofp_sub_fin, mask_of_le hf, mask_of_ge hb, exp_next hf,
    hq, hk, hv, hst, ← EReal.coe_mul, ← EReal.coe_add, ← coe_sum]
  congr 1
  have e0 : fsum (dec lf) (score Q K V (R + a)) R = ∑ x, Q (R + a) x * fsum (dec lf) (fun m => K m x * V m) R :=
    (fsum_dot (dec lf) (Q (R + a)) K V R).symm
  rw [firstPass, fsum_row _ _ _ 256 _ a.isLt, Finset.sum_range, Finset.sum_range, e0, Finset.mul_sum, ← Finset.sum_add_distrib,
    ← Finset.sum_add_distrib, ← Finset.sum_add_distrib]
  refine Finset.sum_congr rfl fun x _ => ?_
  simp only [lowW, score]; ring

include hf in
theorem stVal_real {k v : Vec Ideal S1x256x256 .bf16} {st : Vec Ideal S256x256 .f32} {a e : Fin 256} {V : ℕ → ℝ} {R : ℕ}
    (hk : ∀ a d : Fin 256, k (ix3 0 a d) = ((K (R + a) d : ℝ) : EReal))
    (hv : ∀ x : Fin 256, v (ix3 0 x e) = ((V (R + x) : ℝ) : EReal))
    (hst : st (ix2 a e) = ((fsum (dec lf) (fun m => K m a * V m) R : ℝ) : EReal)) :
    stVal (F := Ideal) lf k v st (ix2 a e) = ((fsum (dec lf) (fun m => K m a * V m) (R + 256) : ℝ) : EReal) := by
  rw [stVal_at, fsum_add]
  simp only [exp_all hf, exp_low hf, hk, hv, hst, ← EReal.coe_mul, ← EReal.coe_add, ← coe_sum]
  congr 1
  rw [Finset.sum_range]
  congr 1
  refine Finset.sum_congr rfl fun x _ => ?_
  ring

include hb in
theorem stValB_real {k v0 v1 : Vec Ideal S1x256x256 .bf16} {st : Vec Ideal S256x512 .f32} {a : Fin 256} {e : Fin 512} {V : ℕ → ℝ} {N R : ℕ}
    (hR : R + 256 ≤ N) (hk : ∀ a d : Fin 256, k (ix3 0 a d) = ((K (R + a) d : ℝ) : EReal))
    (hv : ∀ x : Fin 256, (if h : (e : ℕ) < 256 then v0 (ix3 0 x ⟨e, h⟩) else v1 (ix3 0 x ⟨e - 256, by omega⟩)) = ((V (R + x) : ℝ) : EReal))
    (hst : st (ix2 a e) = ((bsum (dec lb) (fun m => K m a * V m) N (R + 256) : ℝ) : EReal)) :
    stValB (F := Ideal) lb k v0 v1 st (ix2 a e) = ((bsum (dec lb) (fun m => K m a * V m) N R : ℝ) : EReal) := by
  rw [stValB_at, bsum_add _ _ _ _ _ hR]
  simp only [exp_all hb, exp_row hb, hk, hv, hst, ← EReal.coe_mul, ← EReal.coe_add, ← coe_sum]
  congr 1
  rw [Finset.sum_range]
  congr 1
  refine Finset.sum_congr rfl fun x _ => ?_
  ring

include hb in
theorem outVal_real {q : Vec Ideal S1x256x256 .bf16} {st y : Vec Ideal S256x512 .f32} {gn : Vec Ideal S1x512 .f32}
    {g0 g1 : Vec Ideal S1x256x256 .bf16} {a : Fin 256} {V : Fin 512 → ℕ → ℝ} {N R : ℕ} {γf : ℝ}
    (hR : R + 256 ≤ N) (hq : ∀ a d : Fin 256, q (ix3 0 a d) = ((Q (R + a) d : ℝ) : EReal))
    (hy : ∀ e : Fin 512, y (ix2 a e) = ((firstPass γf (dec lb) Q K (V e) R a : ℝ) : EReal))
    (hst : ∀ (d : Fin 256) (e : Fin 512), st (ix2 d e) = ((bsum (dec lb) (fun m => K m d * V e m) N (R + 256) : ℝ) : EReal))
    (e : Fin 512) :
    outVal (F := Ideal) lb q st y gn g0 g1 (ix2 a e)
      = rowOut (fun x => ((retRow γf (dec lb) Q K (V x) N (R + a) : ℝ) : EReal)) (gn (ix2 0 e))
          (if h : (e : ℕ) < 256 then g0 (ix3 0 a ⟨e, h⟩) else g1 (ix3 0 a ⟨e - 256, by omega⟩)) e := by
  rw [outVal_at]
  congr 1
  funext x
  simp only [exp_high hb, hq, hy, hst, ← EReal.coe_mul, ← EReal.coe_add, ← coe_sum]
  congr 1
  rw [← firstPass_add _ _ _ _ _ N R a a.isLt hR]
  congr 1
  show _ = _ * bsum _ (fun m => (∑ d, Q (R + a) d * K m d) * V x m) _ _
  rw [← bsum_dot, Finset.mul_sum]
  refine Finset.sum_congr rfl fun d _ => ?_
  ring

end Cert.KernelIdeal.Ret

end
-- ==== Proof.Host.lean ====
/- The logarithms of the decays, and what the kernel's host code hands its call. -/
module

public import proofs.«01_k».proof.Proof.Run
public import proofs.«01_k».proof.Proof.KVal
public import Idealize.ShloMosaic.Lib.StableHlo.RunRead

@[expose] public section

set_option maxRecDepth 16384

noncomputable section

namespace Cert.KernelIdeal.Ret

open Idealize.ShloMosaic Idealize.ShloMosaic.TcCoe
open Cert.KernelIdeal Cert.KernelIdeal.Gen
open Cert.Retention

variable (m : (ℓ : Loc nD τ sig) → Buf (Elt Ideal) ℓ)

theorem V_split (c : Dev nD) (b : Ref sig .tc) :
    V m c b = StableHlo.after hostOps0_4 (StableHlo.after hostOps0_3 (StableHlo.after hostOps0_2 (StableHlo.after hostOps0_1
      (StableHlo.after hostOps0 (fun b => m (c, b)))))) (Proc.devRef .tc b) := by
  unfold V
  rw [show List.flatten [hostOps0, hostOps0_1, hostOps0_2, hostOps0_3, hostOps0_4]
      = (hostOps0 ++ (hostOps0_1 ++ (hostOps0_2 ++ (hostOps0_3 ++ hostOps0_4))) : List (HloOp τ sig (Elt Ideal))) from rfl,
    StableHlo.after_append, StableHlo.after_append, StableHlo.after_append, StableHlo.after_append]

theorem V_v8 (c : Dev nD) : V m c main_v8 = m ((c : Thread nD τ).loc main_arg1) := by
  rw [V_split]
  after_reads_simp
  exact shapeCast_shapeCast _ _ _

theorem V_v6 (c : Dev nD) : V m c main_v6 = concatenate S2x16 0
    [⟨S1x16, broadcastInDim S1x16 ![1] bcast_S16_S1x16_1 (logSigV bcast_S_S16 (shapeCast S16 (m ((c : Thread nD τ).loc main_arg2)) shapeCasts_S1x16_S16))⟩,
      ⟨S1x16, broadcastInDim S1x16 ![1] bcast_S16_S1x16_1 (logSigV bcast_S_S16 (shapeCast S16 (m ((c : Thread nD τ).loc main_arg3)) shapeCasts_S1x16_S16))⟩]
    concatenates_S1x16_S1x16_S2x16_d0 := by
  rw [V_split]
  after_reads_simp
  rfl

/-- The logarithm of head `h`'s forward decay. -/
def lgF (c : Dev nD) (h : Fin 16) : EReal := logSig (m ((c : Thread nD τ).loc main_arg2) (ix2 0 h))
/-- The logarithm of head `h`'s backward decay. -/
def lgB (c : Dev nD) (h : Fin 16) : EReal := logSig (m ((c : Thread nD τ).loc main_arg3) (ix2 0 h))

theorem V_v6_0 (c : Dev nD) (h : Fin 16) : V m c main_v6 (ix2 0 h) = lgF m c h := by
  rw [V_v6]
  pointwise [logSigV_at]
  rfl
theorem V_v6_1 (c : Dev nD) (h : Fin 16) : V m c main_v6 (ix2 1 h) = lgB m c h := by
  rw [V_v6]
  pointwise [logSigV_at]
  rfl

end Cert.KernelIdeal.Ret

end
-- ==== Proof.Model.lean ====
/- The retention of the whole sequence as a function of its arguments: what both programs compute. -/
module

public import proofs.«01_k».proof.Proof.Sums

@[expose] public section

noncomputable section

namespace Cert.Retention

open Idealize.ShloMosaic

/-- An array of 96 slabs of 8192 rows of 256. -/
abbrev Slabs : Shape := ⟨3, ![96, 8192, 256]⟩

/-- Entry `d` of row `n` of slab `s`. -/
def slab (x : Slabs.Idx → EReal) (s n d : ℕ) : EReal :=
  if h : s < 96 ∧ n < 8192 ∧ d < 256 then x (ix3 ⟨s, h.1⟩ ⟨n, h.2.1⟩ ⟨d, h.2.2⟩) else 0

theorem slab_of (x : Slabs.Idx → EReal) (i : Slabs.Idx) {s n d : ℕ} (h0 : (i 0).val = s) (h1 : (i 1).val = n) (h2 : (i 2).val = d) :
    x i = slab x s n d := by
  subst h0 h1 h2
  unfold slab
  rw [dif_pos ⟨(i 0).isLt, (i 1).isLt, (i 2).isLt⟩]
  congr 1
  funext a
  match a with
  | ⟨0, _⟩ => rfl
  | ⟨1, _⟩ => rfl
  | ⟨2, _⟩ => rfl

/-- Head `h`'s queries, keys and values, as real numbers. -/
def qry (x : Slabs.Idx → EReal) (h n : ℕ) (d : Fin 256) : ℝ := (slab x h n d).toReal
def key (x : Slabs.Idx → EReal) (h n : ℕ) (d : Fin 256) : ℝ := (slab x (16 + h) n d).toReal
def val (x : Slabs.Idx → EReal) (h e n : ℕ) : ℝ := (slab x (32 + 2 * h + e / 256) n (e % 256)).toReal
/-- Head `h`'s gate. -/
def gate (x : Slabs.Idx → EReal) (h e n : ℕ) : EReal := slab x (64 + 2 * h + e / 256) n (e % 256)

/-- The queries, keys and values are real numbers. -/
def RealQKV (x : Slabs.Idx → EReal) : Prop := ∀ s n d : ℕ, s < 64 → slab x s n d = ((slab x s n d).toReal : EReal)

/-- Row `n` of head `h`, at column `e`: the retention's row normalised, scaled and gated. -/
def result (x : Slabs.Idx → EReal) (gn : (⟨2, ![1, 8192]⟩ : Shape).Idx → EReal) (lf lb : (⟨2, ![1, 16]⟩ : Shape).Idx → EReal)
    (n : Fin 8192) (h : Fin 16) (e : Fin 512) : EReal :=
  rowOut (fun e => ((retRow (dec (logSig (lf (ix2 0 h)))) (dec (logSig (lb (ix2 0 h)))) (qry x h) (key x h) (val x h e) 8192 n : ℝ) : EReal))
    (gn (ix2 0 ⟨512 * h + e, by omega⟩)) (gate x h e n) e

end Cert.Retention

end
-- ==== Proof.Blocks.lean ====
/- What the kernel reads at a point of its grid, entry by entry of the arguments. -/
module

public import proofs.«01_k».proof.Proof.Host
public import proofs.«01_k».proof.Proof.Model

@[expose] public section

set_option maxRecDepth 16384

noncomputable section

namespace Cert.KernelIdeal.Ret

open Idealize.ShloMosaic Idealize.ShloMosaic.TcCoe
open Cert.KernelIdeal Cert.KernelIdeal.Gen
open Cert.Retention

variable (m : (ℓ : Loc nD τ sig) → Buf (Elt Ideal) ℓ)

/-- The projections. -/
abbrev X (c : Dev nD) : Slabs.Idx → EReal := m ((c : Thread nD τ).loc main_arg0)

/-- The head of a point. -/
def hd (t : Fin cfg0.N) : Fin 16 := ⟨t.val / 4, by have : t.val < 64 := Nat.lt_of_lt_of_eq t.isLt N64; omega⟩
/-- The block of rows of a point: upwards in the first pass, downwards in the second. -/
def rb (t : Fin cfg0.N) : ℕ := if t.val / 2 % 2 = 0 then t.val % 2 else 1 - t.val % 2

theorem rb_lt (t : Fin cfg0.N) : rb t < 2 := by unfold rb; split <;> omega

/-! ## The blocks the windows name -/

theorem index1 : ∀ t : Fin cfg0.N, win0_1.index t 0 = (hd t).val ∧ win0_1.index t 1 = rb t ∧ win0_1.index t 2 = 0 := by decide +kernel
theorem index2 : ∀ t : Fin cfg0.N, win0_2.index t 0 = 16 + (hd t).val ∧ win0_2.index t 1 = rb t ∧ win0_2.index t 2 = 0 := by decide +kernel
theorem index3 : ∀ t : Fin cfg0.N, win0_3.index t 0 = 16 + (hd t).val ∧ win0_3.index t 1 = rb t ∧ win0_3.index t 2 = 0 := by decide +kernel
theorem index4 : ∀ t : Fin cfg0.N, t.val / 2 % 2 = 1 → win0_4.index t 0 = 32 + (hd t).val ∧ win0_4.index t 1 = rb t ∧ win0_4.index t 2 = 0 := by decide +kernel
theorem index5 : ∀ t : Fin cfg0.N, win0_5.index t 0 = 0 ∧ win0_5.index t 1 = (hd t).val := by decide +kernel
theorem index6 : ∀ t : Fin cfg0.N, t.val / 2 % 2 = 1 → win0_6.index t 0 = rb t ∧ win0_6.index t 1 = (hd t).val := by decide +kernel
theorem index0 : ∀ t : Fin cfg0.N, win0_0.index t 0 = 0 ∧ win0_0.index t 1 = 0 := by decide +kernel
theorem flush6_on : ∀ t : Fin cfg0.N, t.val / 2 % 2 = 1 → (cfg0.win 6).flush t = true := by decide +kernel
theorem xsize6 : ∀ t : Fin cfg0.N, win0_6.xsize (grid0.coords t) 0 = 4096 ∧ win0_6.xsize (grid0.coords t) 1 = 512 := by decide +kernel

/-! ## Their entries -/

theorem q_at (c : Dev nD) (t : Fin cfg0.N) (s : Fin 16) (a d : Fin 256) :
    ldR (rowR s) (iblk m c 1 t) (ix3 0 a d) = slab (X m c) (hd t) (4096 * rb t + 256 * s + a) d := by
  have hi := index1 t
  unfold ldR iblk
  rw [View.read_apply]
  show V m c main_arg0 _ = _
  rw [V_main_arg0]
  refine slab_of _ _ ?_ ?_ ?_
  · show win0_1.index t 0 * 1 + 1 * (0 + 1 * 0) = _; rw [hi.1]; omega
  · show win0_1.index t 1 * 4096 + 1 * (256 * s.val + 1 * a.val) = _; rw [hi.2.1]; omega
  · show win0_1.index t 2 * 256 + 1 * (0 + 1 * d.val) = _; rw [hi.2.2]; omega

theorem k_at (c : Dev nD) (t : Fin cfg0.N) (s : Fin 16) (a d : Fin 256) :
    ldR (rowR s) (iblk m c 2 t) (ix3 0 a d) = slab (X m c) (16 + hd t) (4096 * rb t + 256 * s + a) d := by
  have hi := index2 t
  unfold ldR iblk
  rw [View.read_apply]
  show V m c main_arg0 _ = _
  rw [V_main_arg0]
  refine slab_of _ _ ?_ ?_ ?_
  · show win0_2.index t 0 * 1 + 1 * (0 + 1 * 0) = _; rw [hi.1]; omega
  · show win0_2.index t 1 * 4096 + 1 * (256 * s.val + 1 * a.val) = _; rw [hi.2.1]; omega
  · show win0_2.index t 2 * 256 + 1 * (0 + 1 * d.val) = _; rw [hi.2.2]; omega

theorem v_at (c : Dev nD) (t : Fin cfg0.N) (j : Fin 2) (s : Fin 16) (a d : Fin 256) :
    ldR (halfR j s) (iblk m c 3 t) (ix3 0 a d) = slab (X m c) (32 + 2 * hd t + j) (4096 * rb t + 256 * s + a) d := by
  have hi := index3 t
  unfold ldR iblk
  rw [View.read_apply]
  show V m c main_arg0 _ = _
  rw [V_main_arg0]
  refine slab_of _ _ ?_ ?_ ?_
  · show win0_3.index t 0 * 2 + 1 * (j.val + 1 * 0) = _; rw [hi.1]; omega
  · show win0_3.index t 1 * 4096 + 1 * (256 * s.val + 1 * a.val) = _; rw [hi.2.1]; omega
  · show win0_3.index t 2 * 256 + 1 * (0 + 1 * d.val) = _; rw [hi.2.2]; omega

theorem g_at (c : Dev nD) (t : Fin cfg0.N) (h1 : t.val / 2 % 2 = 1) (j : Fin 2) (s : Fin 16) (a d : Fin 256) :
    ldR (halfR j s) (iblk m c 4 t) (ix3 0 a d) = slab (X m c) (64 + 2 * hd t + j) (4096 * rb t + 256 * s + a) d := by
  have hi := index4 t h1
  unfold ldR iblk
  rw [View.read_apply]
  show V m c main_arg0 _ = _
  rw [V_main_arg0]
  refine slab_of _ _ ?_ ?_ ?_
  · show win0_4.index t 0 * 2 + 1 * (j.val + 1 * 0) = _; rw [hi.1]; omega
  · show win0_4.index t 1 * 4096 + 1 * (256 * s.val + 1 * a.val) = _; rw [hi.2.1]; omega
  · show win0_4.index t 2 * 256 + 1 * (0 + 1 * d.val) = _; rw [hi.2.2]; omega

theorem gn_at (c : Dev nD) (t : Fin cfg0.N) (e : Fin 512) :
    ldR (Rect.unit (s := S1x512) ![0, 0] S1x512.size inb_S1x512_S1x512_0_0) (iblk m c 5 t) (ix2 0 e)
      = m ((c : Thread nD τ).loc main_arg1) (ix2 0 ⟨512 * hd t + e, by have := (hd t).isLt; omega⟩) := by
  have hi := index5 t
  unfold ldR iblk
  rw [View.read_apply]
  show V m c main_v8 _ = _
  rw [V_v8]
  congr 1
  funext a
  apply Fin.ext
  match a with
  | ⟨0, _⟩ => show win0_5.index t 0 * 1 + 1 * (0 + 1 * 0) = 0; rw [hi.1]
  | ⟨1, _⟩ => show win0_5.index t 1 * 512 + 1 * (0 + 1 * e.val) = 512 * (hd t).val + e.val; rw [hi.2]; omega

theorem iblk0 (c : Dev nD) (t : Fin cfg0.N) (p : Fin 2) (h : Fin 16) : iblk m c 0 t (ix2 p h) = V m c main_v6 (ix2 p h) := by
  have hi := index0 t
  unfold iblk
  rw [View.read_apply]
  show V m c main_v6 _ = _
  congr 1
  funext a
  apply Fin.ext
  match a with
  | ⟨0, _⟩ => show win0_0.index t 0 * 2 + 1 * p.val = p.val; rw [hi.1]; omega
  | ⟨1, _⟩ => show win0_0.index t 1 * 16 + 1 * h.val = h.val; rw [hi.2]; omega

theorem off1_coord : ∀ t : Fin cfg0.N, k0_off1 (grid0.coords t) 0 = 0 ∧ k0_off1 (grid0.coords t) 1 = (hd t).val := by decide +kernel
theorem off2_coord : ∀ t : Fin cfg0.N, k0_off2 (grid0.coords t) 0 = 1 ∧ k0_off2 (grid0.coords t) 1 = (hd t).val := by decide +kernel

theorem lf_at (c : Dev nD) (t : Fin cfg0.N) : lfAt (grid0.coords t) (iblk m c 0 t) = lgF m c (hd t) := by
  have ho := off1_coord t
  rw [← V_v6_0, ← iblk0 m c t]
  unfold lfAt ldR
  congr 1
  funext a
  apply Fin.ext
  match a with
  | ⟨0, _⟩ => show k0_off1 (grid0.coords t) 0 + 1 * 0 = 0; rw [ho.1]
  | ⟨1, _⟩ => show k0_off1 (grid0.coords t) 1 + 1 * 0 = (hd t).val; rw [ho.2]; omega

theorem lb_at (c : Dev nD) (t : Fin cfg0.N) : lbAt (grid0.coords t) (iblk m c 0 t) = lgB m c (hd t) := by
  have ho := off2_coord t
  rw [← V_v6_1, ← iblk0 m c t]
  unfold lbAt ldR
  congr 1
  funext a
  apply Fin.ext
  match a with
  | ⟨0, _⟩ => show k0_off2 (grid0.coords t) 0 + 1 * 0 = 1; rw [ho.1]
  | ⟨1, _⟩ => show k0_off2 (grid0.coords t) 1 + 1 * 0 = (hd t).val; rw [ho.2]; omega

end Cert.KernelIdeal.Ret

end
-- ==== Proof.KResult.lean ====
/- The kernel's result over the reals: the two states through a head's four points, the accumulated rows, the blocks written back. -/
module

public import proofs.«01_k».proof.Proof.Blocks

@[expose] public section

set_option maxRecDepth 16384

noncomputable section

namespace Cert.KernelIdeal.Ret

open Idealize.ShloMosaic Idealize.ShloMosaic.TcCoe
open Cert.KernelIdeal Cert.KernelIdeal.Gen
open Cert.Retention

variable (m : (ℓ : Loc nD τ sig) → Buf (Elt Ideal) ℓ)

/-- A head's decays. -/
abbrev γF (c : Dev nD) (h : Fin 16) : ℝ := dec (lgF m c h)
abbrev γB (c : Dev nD) (h : Fin 16) : ℝ := dec (lgB m c h)

theorem lgF_nonpos (c : Dev nD) (h : Fin 16) : lgF m c h ≤ 0 := logSig_nonpos _
theorem lgB_nonpos (c : Dev nD) (h : Fin 16) : lgB m c h ≤ 0 := logSig_nonpos _

variable {m} {c : Dev nD} (hx : RealQKV (X m c)) (t : Fin cfg0.N)

include hx in
theorem q_real (s : Fin 16) (a d : Fin 256) :
    ldR (rowR s) (iblk m c 1 t) (ix3 0 a d) = ((qry (X m c) (hd t) (4096 * rb t + 256 * s + a) d : ℝ) : EReal) := by
  have := (hd t).isLt
  rw [q_at, hx _ _ _ (by omega)]; rfl

include hx in
theorem k_real (s : Fin 16) (a d : Fin 256) :
    ldR (rowR s) (iblk m c 2 t) (ix3 0 a d) = ((key (X m c) (hd t) (4096 * rb t + 256 * s + a) d : ℝ) : EReal) := by
  have := (hd t).isLt
  rw [k_at, hx _ _ _ (by omega)]; rfl

include hx in
theorem v_real (j : Fin 2) (s : Fin 16) (a d : Fin 256) (e : ℕ) (he : e = 256 * j + d) :
    ldR (halfR j s) (iblk m c 3 t) (ix3 0 a d) = ((val (X m c) (hd t) e (4096 * rb t + 256 * s + a) : ℝ) : EReal) := by
  have := (hd t).isLt
  rw [v_at, hx _ _ _ (by omega), val, show e / 256 = j by omega, show e % 256 = d by omega]

/-- The products a state sums. -/
abbrev wkv (d : Fin 256) (e : Fin 512) (n : ℕ) : ℝ := key (X m c) (hd t) n d * val (X m c) (hd t) e n

/-! ## The states through one call -/

/-- A column of the state lies in one of its halves. -/
theorem col_split (e : Fin 512) : ∃ (j : Fin 2) (a : Fin 256), e.val = 256 * j.val + a.val :=
  ⟨⟨e.val / 256, by omega⟩, ⟨e.val % 256, by omega⟩, by show e.val = 256 * (e.val / 256) + e.val % 256; omega⟩

theorem ldR_stR_at (j : Fin 2) (st : Vec Ideal S256x512 .f32) (d a : Fin 256) (e : Fin 512) (h : e.val = 256 * j.val + a.val) :
    ldR (stR j) st (ix2 d a) = st (ix2 d e) := by
  unfold ldR
  congr 1
  funext i
  apply Fin.ext
  match i with
  | ⟨0, _⟩ => show 0 + 1 * d.val = d.val; omega
  | ⟨1, _⟩ => show 256 * j.val + 1 * a.val = e.val; omega

include hx in
theorem stF_real (st : Vec Ideal S256x512 .f32)
    (hst : ∀ (d : Fin 256) (e : Fin 512), st (ix2 d e) = ((fsum (γF m c (hd t)) (wkv (m := m) (c := c) t d e) (4096 * rb t) : ℝ) : EReal)) :
    ∀ n : ℕ, n ≤ 16 → ∀ (d : Fin 256) (e : Fin 512), stF (lgF m c (hd t)) (iblk m c 2 t) (iblk m c 3 t) st n (ix2 d e)
      = ((fsum (γF m c (hd t)) (wkv (m := m) (c := c) t d e) (4096 * rb t + 256 * n) : ℝ) : EReal)
  | 0, _, d, e => hst d e
  | n + 1, h, d, e => by
    obtain ⟨j, a, hja⟩ := col_split e
    have ih := stF_real st hst n (by omega)
    have e1 := stF_succ (lgF m c (hd t)) (iblk m c 2 t) (iblk m c 3 t) st ⟨n, by omega⟩
    rw [show stF (lgF m c (hd t)) (iblk m c 2 t) (iblk m c 3 t) st (n + 1) = _ from e1,
      stChunk_at (lgF m c (hd t)) ⟨n, by omega⟩ j (iblk m c 2 t) (iblk m c 3 t) _ (ix2 d e) (ix2 d a) rfl hja,
      show 4096 * rb t + 256 * (n + 1) = (4096 * rb t + 256 * n) + 256 by omega]
    refine stVal_real (lgF_nonpos m c (hd t)) (K := key (X m c) (hd t)) (V := val (X m c) (hd t) e) (R := 4096 * rb t + 256 * n)
      (fun a d => k_real hx t ⟨n, by omega⟩ a d) (fun x => v_real hx t j ⟨n, by omega⟩ x a e hja) ?_
    rw [ldR_stR_at j _ d a e hja]
    exact ih d e

/-- The two column halves of the values side by side. -/
theorem v_wide (v0 v1 : Vec Ideal S1x256x256 .bf16) (f : ℕ → ℝ) (x : Fin 256) (e : Fin 512)
    (h : ∀ (j : Fin 2) (a : Fin 256), e.val = 256 * j.val + a.val → (if j = 0 then v0 else v1) (ix3 0 x a) = ((f x : ℝ) : EReal)) :
    (if h : (e : ℕ) < 256 then v0 (ix3 0 x ⟨e, h⟩) else v1 (ix3 0 x ⟨e - 256, by omega⟩)) = ((f x : ℝ) : EReal) := by
  split
  · rename_i he
    exact h 0 ⟨e, he⟩ (by show e.val = 256 * 0 + e.val; omega)
  · exact h 1 ⟨e - 256, by omega⟩ (by show e.val = 256 * 1 + (e.val - 256); omega)

include hx in
theorem stB_real (st : Vec Ideal S256x512 .f32)
    (hst : ∀ (d : Fin 256) (e : Fin 512), st (ix2 d e) = ((bsum (γB m c (hd t)) (wkv (m := m) (c := c) t d e) 8192 (4096 * rb t + 4096) : ℝ) : EReal)) :
    ∀ n : ℕ, n ≤ 16 → ∀ (d : Fin 256) (e : Fin 512), stB (lgB m c (hd t)) (iblk m c 2 t) (iblk m c 3 t) st n (ix2 d e)
      = ((bsum (γB m c (hd t)) (wkv (m := m) (c := c) t d e) 8192 (4096 * rb t + 256 * (16 - n)) : ℝ) : EReal)
  | 0, _, d, e => hst d e
  | n + 1, h, d, e => by
    have ih := stB_real st hst n (by omega)
    have hrb := rb_lt t
    have e1 := stB_succ (lgB m c (hd t)) (iblk m c 2 t) (iblk m c 3 t) st ⟨15 - n, by omega⟩
    rw [show 15 - (⟨15 - n, by omega⟩ : Fin 16).val = n from (by show 15 - (15 - n) = n; omega)] at e1
    rw [show stB (lgB m c (hd t)) (iblk m c 2 t) (iblk m c 3 t) st (n + 1) = _ from e1, stChunkB_eq]
    have eR : 4096 * rb t + 256 * (16 - (n + 1)) = 4096 * rb t + 256 * (⟨15 - n, by omega⟩ : Fin 16).val := by
      show _ = 4096 * rb t + 256 * (15 - n); omega
    have eR' : 4096 * rb t + 256 * (⟨15 - n, by omega⟩ : Fin 16).val + 256 = 4096 * rb t + 256 * (16 - n) := by
      show 4096 * rb t + 256 * (15 - n) + 256 = _; omega
    rw [eR]
    refine stValB_real (lgB_nonpos m c (hd t)) (K := key (X m c) (hd t)) (V := val (X m c) (hd t) e) (N := 8192) (by omega)
      (fun a d => k_real hx t ⟨15 - n, by omega⟩ a d) (fun x => ?_) ?_
    · refine v_wide _ _ (fun x => val (X m c) (hd t) e (4096 * rb t + 256 * (⟨15 - n, by omega⟩ : Fin 16).val + x)) x e fun j a hja => ?_
      have hv := v_real hx t j ⟨15 - n, by omega⟩ x a e hja
      rcases (by omega : j = 0 ∨ j = 1) with rfl | rfl
      · rw [if_pos rfl]; exact hv
      · rw [if_neg (by decide)]; exact hv
    · rw [eR']
      exact ih d e

/-! ## The states between calls -/

theorem pay1_zero (y : S256x512.Idx) : k0_pay1 (F := Ideal) y = (0 : EReal) := by
  unfold k0_pay1
  exact Ideal.ofBits_zero_f32

theorem take_ups : ups.take 16 = ups := by decide
theorem take_downs : downs.take 16 = downs := by decide

/-- The point before. -/
def prev (t : Fin cfg0.N) : Fin cfg0.N := ⟨t.val - 1, Nat.lt_of_le_of_lt (Nat.sub_le _ _) t.isLt⟩

theorem tr_prev (h : 0 < t.val) : tr m c t.val
    = (yOut (grid0.coords (prev t)) (iblk m c 0 (prev t)) (iblk m c 1 (prev t)) (iblk m c 2 (prev t)) (iblk m c 3 (prev t)) (tr m c (prev t).val).1 (tr m c (prev t).val).2,
        stOut (grid0.coords (prev t)) (iblk m c 0 (prev t)) (iblk m c 2 (prev t)) (iblk m c 3 (prev t)) (tr m c (prev t).val).2) := by
  rw [← tr_succ m c (prev t)]
  congr 1
  show t.val = t.val - 1 + 1
  omega

theorem tr_prev1 (h : 0 < t.val) : (tr m c t.val).1
    = yOut (grid0.coords (prev t)) (iblk m c 0 (prev t)) (iblk m c 1 (prev t)) (iblk m c 2 (prev t)) (iblk m c 3 (prev t)) (tr m c (prev t).val).1 (tr m c (prev t).val).2 := by
  rw [tr_prev t h]

theorem tr_prev2 (h : 0 < t.val) : (tr m c t.val).2
    = stOut (grid0.coords (prev t)) (iblk m c 0 (prev t)) (iblk m c 2 (prev t)) (iblk m c 3 (prev t)) (tr m c (prev t).val).2 := by
  rw [tr_prev t h]

theorem stF_all (lf : Ideal .f32) (x2 : Vec Ideal S1x4096x256 .bf16) (x3 : Vec Ideal S2x4096x256 .bf16) (st : Vec Ideal S256x512 .f32) :
    stChain lf x2 x3 ups st = stF lf x2 x3 st 16 := by
  unfold stF; rw [take_ups]

theorem stB_all (lb : Ideal .f32) (x2 : Vec Ideal S1x4096x256 .bf16) (x3 : Vec Ideal S2x4096x256 .bf16) (st : Vec Ideal S256x512 .f32) :
    stChainB lb x2 x3 downs st = stB lb x2 x3 st 16 := by
  unfold stB; rw [take_downs]

theorem hd_prev (h : t.val % 4 ≠ 0) : hd (prev t) = hd t := by
  apply Fin.ext
  show (t.val - 1) / 4 = t.val / 4
  omega

include hx in
/-- The state the first pass's point starts its chunks from. -/
theorem inF (h1 : t.val / 2 % 2 = 0) (d : Fin 256) (e : Fin 512) :
    st0 (grid0.coords t) (tr m c t.val).2 (ix2 d e) = ((fsum (γF m c (hd t)) (wkv (m := m) (c := c) t d e) (4096 * rb t) : ℝ) : EReal) := by
  by_cases h0 : t.val % 2 = 0
  · rw [st0_of_resets _ ((resets_iff t).mpr h0), pay1_zero, rb, if_pos h1, h0, fsum_zero]; rfl
  · have hp0 : (prev t).val % 2 = 0 := by show (t.val - 1) % 2 = 0; omega
    have hp1 : (prev t).val / 2 % 2 = 0 := by show (t.val - 1) / 2 % 2 = 0; omega
    have hn : ¬k0_cond3 (grid0.coords (prev t)) = 1#1 := fun hh => by have := (cond3_iff (prev t)).mp hh; omega
    have e2 : (tr m c t.val).2 = _ := tr_prev2 (m := m) (c := c) t (by omega)
    have hh := hd_prev t (by omega)
    rw [st0_of_not _ (fun hh => h0 ((resets_iff t).mp hh)), e2]
    dsimp only [stOut]
    unfold st2 st1
    rw [if_neg hn, if_pos ((cond2_iff (prev t)).mpr hp1), lf_at, stF_all]
    have hrb : rb (prev t) = 0 := by rw [rb, if_pos hp1]; exact hp0
    have hrb' : 4096 * rb t = 4096 * rb (prev t) + 256 * 16 := by rw [hrb, rb, if_pos h1]; omega
    have := stF_real hx (prev t) (st0 (grid0.coords (prev t)) (tr m c (prev t).val).2) (fun d e => by
      rw [st0_of_resets _ ((resets_iff (prev t)).mpr hp0), pay1_zero, hrb, fsum_zero]; rfl) 16 (le_refl _) d e
    rw [hrb', show wkv (m := m) (c := c) t d e = wkv (m := m) (c := c) (prev t) d e by unfold wkv; rw [hh], ← hh]
    exact this

include hx in
/-- The state the second pass's point starts its chunks from. -/
theorem inB (h1 : t.val / 2 % 2 = 1) (d : Fin 256) (e : Fin 512) :
    st0 (grid0.coords t) (tr m c t.val).2 (ix2 d e) = ((bsum (γB m c (hd t)) (wkv (m := m) (c := c) t d e) 8192 (4096 * rb t + 4096) : ℝ) : EReal) := by
  have hne : ¬t.val / 2 % 2 = 0 := by omega
  by_cases h0 : t.val % 2 = 0
  · rw [st0_of_resets _ ((resets_iff t).mpr h0), pay1_zero, rb, if_neg hne, h0,
      show 4096 * (1 - 0) + 4096 = 8192 from rfl, bsum_end]; rfl
  · have hp0 : (prev t).val % 2 = 0 := by show (t.val - 1) % 2 = 0; omega
    have hp1 : (prev t).val / 2 % 2 = 1 := by show (t.val - 1) / 2 % 2 = 1; omega
    have hn : ¬k0_cond2 (grid0.coords (prev t)) = 1#1 := fun hh => by have := (cond2_iff (prev t)).mp hh; omega
    have e2 : (tr m c t.val).2 = _ := tr_prev2 (m := m) (c := c) t (by omega)
    have hh := hd_prev t (by omega)
    rw [st0_of_not _ (fun hh => h0 ((resets_iff t).mp hh)), e2]
    dsimp only [stOut]
    unfold st2 st1
    rw [if_neg hn, if_pos ((cond3_iff (prev t)).mpr hp1), lb_at, stB_all]
    have hrb : rb (prev t) = 1 := by rw [rb, if_neg (by omega)]; omega
    have hrb' : 4096 * rb t + 4096 = 4096 * rb (prev t) + 256 * (16 - 16) := by rw [hrb, rb, if_neg hne]; omega
    have := stB_real hx (prev t) (st0 (grid0.coords (prev t)) (tr m c (prev t).val).2) (fun d e => by
      rw [st0_of_resets _ ((resets_iff (prev t)).mpr hp0), pay1_zero, hrb, show 4096 * 1 + 4096 = 8192 from rfl, bsum_end]; rfl) 16 (le_refl _) d e
    rw [hrb', show wkv (m := m) (c := c) t d e = wkv (m := m) (c := c) (prev t) d e by unfold wkv; rw [hh], ← hh]
    exact this

/-! ## The accumulated rows -/

/-- The rows a first pass leaves for head `h`. -/
abbrev pass1 (m : (ℓ : Loc nD τ sig) → Buf (Elt Ideal) ℓ) (c : Dev nD) (h : Fin 16) (e : Fin 512) (R a : ℕ) : ℝ :=
  firstPass (γF m c h) (γB m c h) (qry (X m c) h) (key (X m c) h) (val (X m c) h e) R a

include hx in
theorem acc_real (h1 : t.val / 2 % 2 = 0) (y : Vec Ideal S8192x512 .f32) (s : Fin 16) (a : Fin 256) (e : Fin 512) (z : S8192x512.Idx)
    (h0z : (z 0).val = 4096 * (t.val % 2) + 256 * s.val + a.val) (h1z : (z 1).val = e.val) :
    yOut (grid0.coords t) (iblk m c 0 t) (iblk m c 1 t) (iblk m c 2 t) (iblk m c 3 t) y (tr m c t.val).2 z
      = ((pass1 m c (hd t) e (4096 * (t.val % 2) + 256 * s) a : ℝ) : EReal) := by
  obtain ⟨j, b, hjb⟩ := col_split e
  have hc : k0_cond2 (grid0.coords t) = 1#1 := (cond2_iff t).mpr h1
  have c2 := coords2 t
  have hrb : rb t = t.val % 2 := by rw [rb, if_pos h1]
  dsimp only [yOut]
  unfold y1
  rw [dif_pos hc, lf_at, lb_at]
  rw [accChain_hit (grid0.coords t) hc (lgF m c (hd t)) (lgB m c (hd t)) (iblk m c 1 t) (iblk m c 2 t) (iblk m c 3 t) _ y z s j (ix2 a b)
    (by rw [h0z, c2]; rfl) (by rw [h1z]; exact hjb), ← hrb]
  refine accVal_real (lgF_nonpos m c (hd t)) (lgB_nonpos m c (hd t)) (fun a d => q_real hx t s a d) (fun a d => k_real hx t s a d)
    (fun x => v_real hx t j s x b e hjb) (fun d => ?_)
  rw [ldR_stR_at j _ d b e hjb]
  exact stF_real hx t _ (inF hx t h1) s.val (by omega) d e

include hx in
/-- The accumulated rows at a point of the second pass. -/
theorem acc_second (h1 : t.val / 2 % 2 = 1) (b : Fin 2) (s : Fin 16) (a : Fin 256) (e : Fin 512) (z : S8192x512.Idx)
    (h0z : (z 0).val = 4096 * b.val + 256 * s.val + a.val) (h1z : (z 1).val = e.val) :
    (tr m c t.val).1 z = ((pass1 m c (hd t) e (4096 * b + 256 * s) a : ℝ) : EReal) := by
  -- at the first point of the second pass
  have first : ∀ t : Fin cfg0.N, t.val % 4 = 2 → (tr m c t.val).1 z = ((pass1 m c (hd t) e (4096 * b + 256 * s) a : ℝ) : EReal) := by
    intro t h4
    have hp : (prev t).val % 4 = 1 := by show (t.val - 1) % 4 = 1; omega
    have hpp : (prev (prev t)).val % 4 = 0 := by show (t.val - 1 - 1) % 4 = 0; omega
    have e1 : (tr m c t.val).1 = _ := tr_prev1 (m := m) (c := c) t (by omega)
    have e2 : (tr m c (prev t).val).1 = _ := tr_prev1 (m := m) (c := c) (prev t) (by omega)
    have hh : hd (prev t) = hd t := hd_prev t (by omega)
    have hh' : hd (prev (prev t)) = hd t := (hd_prev (prev t) (by omega)).trans hh
    rw [e1]
    match b, h0z with
    | ⟨1, _⟩, h0z =>
      have := acc_real hx (prev t) (by omega) (tr m c (prev t).val).1 s a e z (by rw [h0z]; show 4096 * 1 + _ + _ = _; omega) h1z
      rw [this, hh, show (prev t).val % 2 = 1 by omega]
    | ⟨0, _⟩, h0z =>
      have c2 := coords2 (prev t)
      have hk := y1_keep (F := Ideal) (grid0.coords (prev t)) ((cond2_iff (prev t)).mpr (by omega)) (iblk m c 0 (prev t)) (iblk m c 1 (prev t)) (iblk m c 2 (prev t))
        (iblk m c 3 (prev t)) (st0 (grid0.coords (prev t)) (tr m c (prev t).val).2) (tr m c (prev t).val).1 z
        (Or.inl (by rw [c2, h0z]; show 4096 * 0 + _ + _ < _; have := s.isLt; have := a.isLt; omega))
      dsimp only [yOut]
      rw [hk, e2]
      have := acc_real hx (prev (prev t)) (by omega) (tr m c (prev (prev t)).val).1 s a e z (by rw [h0z]; show 4096 * 0 + _ + _ = _; omega) h1z
      rw [this, hh', show (prev (prev t)).val % 2 = 0 by omega]
  by_cases h4 : t.val % 4 = 2
  · exact first t h4
  · have hp : (prev t).val % 4 = 2 := by show (t.val - 1) % 4 = 2; omega
    have e1 : (tr m c t.val).1 = _ := tr_prev1 (m := m) (c := c) t (by omega)
    have hn : ¬k0_cond2 (grid0.coords (prev t)) = 1#1 := fun hh => by have := (cond2_iff (prev t)).mp hh; omega
    rw [e1]
    dsimp only [yOut]
    rw [y1_skip _ hn, ← hd_prev t (by omega)]
    exact first (prev t) hp

/-! ## The blocks written back -/

theorem ldR_accW_at (h3 : k0_cond3 (grid0.coords t) = 1#1) (h1 : t.val / 2 % 2 = 1) (s : Fin 16) (y : Vec Ideal S8192x512 .f32) (a : Fin 256) (e : Fin 512) :
    ∃ z : S8192x512.Idx, ldR (accW (grid0.coords t) h3 s) y (ix2 a e) = y z ∧ (z 0).val = 4096 * rb t + 256 * s.val + a.val ∧ (z 1).val = e.val := by
  refine ⟨(accW (grid0.coords t) h3 s).emb (ix2 a e), rfl, ?_, ?_⟩
  · show (accW (grid0.coords t) h3 s).off 0 + 1 * a.val = _
    rw [accW_off0, coords2, rb, if_neg (by omega)]; omega
  · show (accW (grid0.coords t) h3 s).off 1 + 1 * e.val = _
    rw [accW_off1]; omega

include hx in
theorem outAt_real (h1 : t.val / 2 % 2 = 1) (s : Fin 16) (a : Fin 256) (e : Fin 512) (z : S4096x512.Idx)
    (h0z : (z 0).val = 256 * s.val + a.val) (h1z : (z 1).val = e.val) (n : Fin 8192) (hn : n.val = 4096 * rb t + 256 * s + a) :
    outAt m c t z = result (X m c) (m ((c : Thread nD τ).loc main_arg1)) (m ((c : Thread nD τ).loc main_arg2)) (m ((c : Thread nD τ).loc main_arg3)) n (hd t) e := by
  have hc : k0_cond3 (grid0.coords t) = 1#1 := (cond3_iff t).mpr h1
  have hn2 : ¬k0_cond2 (grid0.coords t) = 1#1 := fun hh => by have := (cond2_iff t).mp hh; omega
  have hrb := rb_lt t
  unfold outAt
  dsimp only [oOut]
  unfold o2 st1 y1
  rw [dif_pos hc, dif_neg hn2, if_neg hn2, lb_at]
  rw [outChain_hit (grid0.coords t) hc (lgB m c (hd t)) (iblk m c 1 t) (iblk m c 2 t) (iblk m c 3 t) (iblk m c 4 t) (iblk m c 5 t) (tr m c t.val).1 _ _ z s (ix2 a e) h0z h1z]
  rw [outVal_real (lgB_nonpos m c (hd t)) (K := key (X m c) (hd t)) (V := fun e => val (X m c) (hd t) e) (N := 8192) (R := 4096 * rb t + 256 * s)
    (γf := γF m c (hd t)) (by have := s.isLt; omega)
    (fun a d => q_real hx t s a d) (fun e => ?_) (fun d e => ?_) e]
  · unfold result
    rw [gn_at, ← hn]
    congr 1
    split
    · rename_i he
      have := g_at m c t h1 0 s a ⟨e, he⟩
      rw [this, gate, hn, show e.val / 256 = 0 by omega, show e.val % 256 = e.val by omega]; rfl
    · rename_i he
      have := g_at m c t h1 1 s a ⟨e - 256, by omega⟩
      rw [this, gate, hn, show e.val / 256 = 1 by omega, show e.val % 256 = e.val - 256 by omega]; rfl
  · obtain ⟨z', e1, e2, e3⟩ := ldR_accW_at t hc h1 s (tr m c t.val).1 a e
    rw [e1]
    exact acc_second hx t h1 ⟨rb t, hrb⟩ s a e z' e2 e3
  · have := stB_real hx t _ (inB hx t h1) (15 - s.val) (by omega) d e
    rw [this, show 4096 * rb t + 256 * (16 - (15 - s.val)) = 4096 * rb t + 256 * s.val + 256 by have := s.isLt; omega]

/-- The result array. -/
def Res (m : (ℓ : Loc nD τ sig) → Buf (Elt Ideal) ℓ) (c : Dev nD) : Buf (Elt Ideal) ((c : Thread nD τ).loc main_v9) := fun z =>
  result (X m c) (m ((c : Thread nD τ).loc main_arg1)) (m ((c : Thread nD τ).loc main_arg2)) (m ((c : Thread nD τ).loc main_arg3)) (z 0)
    ⟨(z 1).val / 512, by have : (z 1).val < 8192 := (z 1).isLt; omega⟩ ⟨(z 1).val % 512, by omega⟩

include hx in
theorem flushed_eq (hf : (cfg0.win 6).flush t = true) : (dats m 0 c).flushed 6 t = ((cfg0.win 6).blk t).view.read (Elt Ideal) (Res m c) := by
  have h1 : t.val / 2 % 2 = 1 := by
    by_contra h
    have := flush6 t (by omega)
    rw [hf] at this
    exact absurd this (by decide)
  show (cfg0.win 6).cut (grid0.coords t) ((dats m 0 c).after 6 t) = _
  rw [after_6]
  funext z
  have hi := index6 t h1
  have hxs := xsize6 t
  have hrb := rb_lt t
  have hhd := (hd t).isLt
  have hz0 : (z 0).val < 4096 := hxs.1 ▸ (z 0).isLt
  have hz1 : (z 1).val < 512 := hxs.2 ▸ (z 1).isLt
  obtain ⟨s, a, hsa⟩ := row_split (z 0).val hz0
  rw [View.read_apply]
  show outAt m c t (win0_6.xinj (grid0.coords t) z) = _
  rw [outAt_real hx t h1 s a ⟨(z 1).val, hz1⟩ _ hsa rfl ⟨4096 * rb t + 256 * s + a, by omega⟩ rfl]
  have e0 : ((((cfg0.win 6).blk t).view.emb z : S8192x8192.Idx) 0).val = 4096 * rb t + 256 * s + a := by
    show win0_6.index t 0 * 4096 + 1 * (z 0).val = _; rw [hi.1]; omega
  have e1 : ((((cfg0.win 6).blk t).view.emb z : S8192x8192.Idx) 1).val = 512 * hd t + (z 1).val := by
    show win0_6.index t 1 * 512 + 1 * (z 1).val = _; rw [hi.2]; omega
  show _ = result _ _ _ _ _ _ _
  congr 1
  · exact Fin.ext e0.symm
  · apply Fin.ext
    show (hd t).val = (_ : ℕ) / 512
    rw [e1]; omega
  · apply Fin.ext
    show (z 1).val = (_ : ℕ) % 512
    rw [e1]; omega

theorem cover (z : S8192x8192.Idx) : ∃ t : Fin cfg0.N, (cfg0.win 6).flush t = true ∧ z ∈ ((cfg0.win 6).blk t).view.set := by
  have hz0 : (z 0).val < 8192 := (z 0).isLt
  have hz1 : (z 1).val < 8192 := (z 1).isLt
  let t : Fin cfg0.N := ⟨4 * ((z 1).val / 512) + 3 - (z 0).val / 4096, by rw [N64]; omega⟩
  have h1 : t.val / 2 % 2 = 1 := by show (4 * ((z 1).val / 512) + 3 - (z 0).val / 4096) / 2 % 2 = 1; omega
  have ht : t.val = 4 * ((z 1).val / 512) + 3 - (z 0).val / 4096 := rfl
  have hi := index6 t h1
  have hxs := xsize6 t
  refine ⟨t, flush6_on t h1, ?_⟩
  show z ∈ ((View.whole main_v9).slice (win0_6.rect t)).set
  rw [View.set_slice_whole, Rect.mem_set_unit]
  intro a
  match a with
  | ⟨0, _⟩ =>
    show win0_6.index t 0 * 4096 ≤ (z 0 : ℕ) ∧ (z 0 : ℕ) < win0_6.index t 0 * 4096 + win0_6.xsize (grid0.coords t) 0
    rw [hi.1, hxs.1, rb, if_neg (by omega)]; omega
  | ⟨1, _⟩ =>
    show win0_6.index t 1 * 512 ≤ (z 1 : ℕ) ∧ (z 1 : ℕ) < win0_6.index t 1 * 512 + win0_6.xsize (grid0.coords t) 1
    rw [hi.2, hxs.2, show (hd t).val = t.val / 4 from rfl]; omega

include hx in
theorem final_o : (dats m 0 c).arrAt 6 cfg0.N = Res m c :=
  (dats m 0 c).arrAt_eq_of_cover 6 (Res m c) (fun t hf => flushed_eq hx t hf) cover

end Cert.KernelIdeal.Ret

end
-- ==== Proof.RefRead.lean ====
/- What the reference's host operations leave in the buffers the value needs, stretch by stretch. -/
module

public import proofs.«01_k».proof.Proof.Gen.ReferenceIdeal.Run
public import proofs.«01_k».proof.Proof.Sums

@[expose] public section

set_option maxRecDepth 16384

noncomputable section

namespace Cert.ReferenceIdeal.Ret

open Idealize.ShloMosaic Idealize.ShloMosaic.TcCoe Idealize.ShloMosaic.StableHlo
open Cert.ReferenceIdeal Cert.ReferenceIdeal.Gen Cert.ReferenceIdeal.Value
open Cert.Retention

/-! ## The vectors, as functions -/

/-- The queries and the keys of all heads, row by row. -/
def qVec (x : FVec Ideal S96x8192x256 .bf16) : FVec Ideal S1x8192x16x256 .f32 :=
  broadcastInDim S1x8192x16x256 ![1, 2, 3] bcast_S8192x16x256_S1x8192x16x256_1_2_3 (transpose S8192x16x256 [1, 0, 2]
    (extractStridedSlice S16x8192x256 ![0, 0, 0] (extf .f32 x bitsLt_bf16_f32) slices_S96x8192x256_S16x8192x256_0_0_0) transposes_S16x8192x256_S8192x16x256_1_0_2)
def kVec (x : FVec Ideal S96x8192x256 .bf16) : FVec Ideal S1x8192x16x256 .f32 :=
  broadcastInDim S1x8192x16x256 ![1, 2, 3] bcast_S8192x16x256_S1x8192x16x256_1_2_3 (transpose S8192x16x256 [1, 0, 2]
    (extractStridedSlice S16x8192x256 ![16, 0, 0] (extf .f32 x bitsLt_bf16_f32) slices_S96x8192x256_S16x8192x256_16_0_0) transposes_S16x8192x256_S8192x16x256_1_0_2)
/-- The values of all heads, and the gates. -/
def vVec (x : FVec Ideal S96x8192x256 .bf16) : FVec Ideal S1x8192x16x512 .f32 :=
  shapeCast S1x8192x16x512 (transpose S8192x32x256 [1, 0, 2]
    (extractStridedSlice S32x8192x256 ![32, 0, 0] (extf .f32 x bitsLt_bf16_f32) slices_S96x8192x256_S32x8192x256_32_0_0) transposes_S32x8192x256_S8192x32x256_1_0_2) shapeCasts_S8192x32x256_S1x8192x16x512
def gVec (x : FVec Ideal S96x8192x256 .bf16) : FVec Ideal S1x8192x8192 .f32 :=
  shapeCast S1x8192x8192 (transpose S8192x32x256 [1, 0, 2]
    (extractStridedSlice S32x8192x256 ![64, 0, 0] (extf .f32 x bitsLt_bf16_f32) slices_S96x8192x256_S32x8192x256_64_0_0) transposes_S32x8192x256_S8192x32x256_1_0_2) shapeCasts_S8192x32x256_S1x8192x8192

/-- An array and the same with its rows in reverse order. -/
def both256 (y : FVec Ideal S1x8192x16x256 .f32) : FVec Ideal S2x1x8192x16x256 .f32 :=
  concatenate S2x1x8192x16x256 0
    [⟨S1x1x8192x16x256, broadcastInDim S1x1x8192x16x256 ![1, 2, 3, 4] bcast_S1x8192x16x256_S1x1x8192x16x256_1_2_3_4 y⟩,
      ⟨S1x1x8192x16x256, broadcastInDim S1x1x8192x16x256 ![1, 2, 3, 4] bcast_S1x8192x16x256_S1x1x8192x16x256_1_2_3_4 (Host.reverse [1] y)⟩]
    concatenates_S1x1x8192x16x256_S1x1x8192x16x256_S2x1x8192x16x256_d0
def both512 (y z : FVec Ideal S1x8192x16x512 .f32) : FVec Ideal S2x1x8192x16x512 .f32 :=
  concatenate S2x1x8192x16x512 0
    [⟨S1x1x8192x16x512, broadcastInDim S1x1x8192x16x512 ![1, 2, 3, 4] bcast_S1x8192x16x512_S1x1x8192x16x512_1_2_3_4 y⟩,
      ⟨S1x1x8192x16x512, broadcastInDim S1x1x8192x16x512 ![1, 2, 3, 4] bcast_S1x8192x16x512_S1x1x8192x16x512_1_2_3_4 z⟩]
    concatenates_S1x1x8192x16x512_S1x1x8192x16x512_S2x1x8192x16x512_d0
/-- The decays' logarithms in both directions. -/
def lgVec (a b : FVec Ideal S16 .f32) : FVec Ideal S2x16 .f32 :=
  concatenate S2x16 0 [⟨S1x16, broadcastInDim S1x16 ![1] bcast_S16_S1x16_1 a⟩, ⟨S1x16, broadcastInDim S1x16 ![1] bcast_S16_S1x16_1 b⟩]
    concatenates_S1x16_S1x16_S2x16_d0

/-- 0, 1, …, 127 as floats. -/
def iotaVec : FVec Ideal S128 .f32 := sitofp .f32 (iotaInDim S128 32 0)
/-- Row index minus column index. -/
def diffVec : FVec Ideal S128x128 .f32 :=
  subf (broadcastInDim S128x128 ![0, 1] bcast_S128x1_S128x128_0_1 (broadcastInDim S128x1 ![0] bcast_S128_S128x1_0 iotaVec))
    (broadcastInDim S128x128 ![0, 1] bcast_S1x128_S128x128_0_1 (broadcastInDim S1x128 ![1] bcast_S128_S1x128_1 iotaVec))
def lowVec : IVec S1x128x128 1 :=
  cmpf .oge (broadcastInDim S1x128x128 ![1, 2] bcast_S128x128_S1x128x128_1_2 diffVec) (broadcastInDim S1x128x128 ![] bcast_S_S1x128x128 (constant S_ .f32 0x00000000#32))
def powVec (lg : FVec Ideal S2x16 .f32) : FVec Ideal S2x16x128x128 .f32 :=
  Host.exp (mulf
    (broadcastInDim S2x16x128x128 ![0, 1, 2, 3] bcast_S1x1x128x128_S2x16x128x128_0_1_2_3 (broadcastInDim S1x1x128x128 ![1, 2, 3] bcast_S1x128x128_S1x1x128x128_1_2_3
      (broadcastInDim S1x128x128 ![1, 2] bcast_S128x128_S1x128x128_1_2 (maximumf diffVec (broadcastInDim S128x128 ![] bcast_S_S128x128 (constant S_ .f32 0x00000000#32))))))
    (broadcastInDim S2x16x128x128 ![0, 1, 2, 3] bcast_S2x16x1x1_S2x16x128x128_0_1_2_3 (broadcastInDim S2x16x1x1 ![0, 1] bcast_S2x16_S2x16x1x1_0_1 lg)))
/-- The decay of one chunk's pairs of rows. -/
def maskVec (lg : FVec Ideal S2x16 .f32) : FVec Ideal S2x16x128x128 .f32 :=
  select (broadcastInDim S2x16x128x128 ![1, 2, 3] bcast_S16x128x128_S2x16x128x128_1_2_3 (broadcastInDim S16x128x128 ![0, 1, 2] bcast_S1x128x128_S16x128x128_0_1_2 lowVec))
    (powVec lg)
    (broadcastInDim S2x16x128x128 ![1, 2, 3] bcast_S16x128x128_S2x16x128x128_1_2_3 (broadcastInDim S16x128x128 ![] bcast_S_S16x128x128 (constant S_ .f32 0x00000000#32)))

/-- The part of a chunk's rows that its own rows give. -/
def innerVec (q k : FVec Ideal S2x1x64x128x16x256 .f32) (v : FVec Ideal S2x1x64x128x16x512 .f32) (mk : FVec Ideal S2x16x128x128 .f32) :
    FVec Ideal S2x1x64x128x16x512 .f32 :=
  transpose S2x1x64x128x16x512 [0, 1, 2, 5, 3, 4]
    (Host.dotGeneral dot_S2x1x64x128x16x512_S2x1x64x16x128x128_S2x1x64x16x512x128_3_5_5_4_0124_0123 none v
      (mulf (Host.dotGeneral dot_S2x1x64x128x16x256_S2x1x64x128x16x256_S2x1x64x16x128x128_5_5_3_3_0124_0124 none q k)
        (broadcastInDim S2x1x64x16x128x128 ![0, 1, 2, 3, 4, 5] bcast_S2x1x1x16x128x128_S2x1x64x16x128x128_0_1_2_3_4_5
          (broadcastInDim S2x1x1x16x128x128 ![0, 3, 4, 5] bcast_S2x16x128x128_S2x1x1x16x128x128_0_3_4_5 mk))))
    transposes_S2x1x64x16x512x128_S2x1x64x128x16x512_0_1_2_5_3_4

/-- The decays of a chunk's rows from the state before it, to the state after it, and of the state across it. -/
def intoVec (lg : FVec Ideal S2x16 .f32) : FVec Ideal S2x128x16 .f32 :=
  Host.exp (mulf
    (broadcastInDim S2x128x16 ![0, 1, 2] bcast_S1x128x1_S2x128x16_0_1_2 (broadcastInDim S1x128x1 ![1, 2] bcast_S128x1_S1x128x1_1_2 (broadcastInDim S128x1 ![0] bcast_S128_S128x1_0
      (addf iotaVec (broadcastInDim S128 ![] bcast_S_S128 (constant S_ .f32 0x3F800000#32))))))
    (broadcastInDim S2x128x16 ![0, 1, 2] bcast_S2x1x16_S2x128x16_0_1_2 (broadcastInDim S2x1x16 ![0, 2] bcast_S2x16_S2x1x16_0_2 lg)))
def fromVec (lg : FVec Ideal S2x16 .f32) : FVec Ideal S2x128x16 .f32 :=
  Host.exp (mulf
    (broadcastInDim S2x128x16 ![0, 1, 2] bcast_S1x128x1_S2x128x16_0_1_2 (broadcastInDim S1x128x1 ![1, 2] bcast_S128x1_S1x128x1_1_2 (broadcastInDim S128x1 ![0] bcast_S128_S128x1_0
      (subf (broadcastInDim S128 ![] bcast_S_S128 (constant S_ .f32 0x42FE0000#32)) iotaVec))))
    (broadcastInDim S2x128x16 ![0, 1, 2] bcast_S2x1x16_S2x128x16_0_1_2 (broadcastInDim S2x1x16 ![0, 2] bcast_S2x16_S2x1x16_0_2 lg)))
def acrossVec (lg : FVec Ideal S2x16 .f32) : FVec Ideal S2x16 .f32 :=
  Host.exp (mulf (broadcastInDim S2x16 ![] bcast_S_S2x16 (constant S_ .f32 0x43000000#32)) lg)

/-- The chunks in front. -/
def front256 (y : FVec Ideal S2x1x64x128x16x256 .f32) : FVec Ideal S64x2x1x128x16x256 .f32 :=
  transpose S64x2x1x128x16x256 [1, 0, 2, 3, 4, 5] (transpose S2x64x1x128x16x256 [0, 2, 1, 3, 4, 5] y transposes_S2x1x64x128x16x256_S2x64x1x128x16x256_0_2_1_3_4_5)
    transposes_S2x64x1x128x16x256_S64x2x1x128x16x256_1_0_2_3_4_5
def front512 (y : FVec Ideal S2x1x64x128x16x512 .f32) : FVec Ideal S64x2x1x128x16x512 .f32 :=
  transpose S64x2x1x128x16x512 [1, 0, 2, 3, 4, 5] (transpose S2x64x1x128x16x512 [0, 2, 1, 3, 4, 5] y transposes_S2x1x64x128x16x512_S2x64x1x128x16x512_0_2_1_3_4_5)
    transposes_S2x64x1x128x16x512_S64x2x1x128x16x512_1_0_2_3_4_5

/-- The index a trip slices at. -/
def tripIdx (k : IVec S_ 32) : Fin 6 → Int := fun a =>
  ((![k, constantI S_ 32 0#32, constantI S_ 32 0#32, constantI S_ 32 0#32, constantI S_ 32 0#32, constantI S_ 32 0#32] : Fin 6 → IVec S_ 32) a (Shape.Idx.first h_S_)).toInt

/-- The state after a chunk, and the rows of the result with that chunk's part from the state put in. -/
def stNext (st : FVec Ideal S2x1x16x256x512 .f32) (k4 : FVec Ideal S64x2x1x128x16x256 .f32) (v4 : FVec Ideal S64x2x1x128x16x512 .f32)
    (ac : FVec Ideal S2x16 .f32) (fr : FVec Ideal S2x128x16 .f32) (k : IVec S_ 32) : FVec Ideal S2x1x16x256x512 .f32 :=
  addf (mulf st (broadcastInDim S2x1x16x256x512 ![0, 1, 2, 3, 4] bcast_S2x1x16x1x1_S2x1x16x256x512_0_1_2_3_4 (broadcastInDim S2x1x16x1x1 ![0, 2] bcast_S2x16_S2x1x16x1x1_0_2 ac)))
    (Host.dotGeneral dot_S2x1x128x16x256_S2x1x128x16x512_S2x1x16x256x512_2_2_4_4_013_013 none
      (mulf (shapeCast S2x1x128x16x256 (Host.dynamicSlice S1x2x1x128x16x256 k4 (tripIdx k) sliceFits_S64x2x1x128x16x256_S1x2x1x128x16x256) shapeCasts_S1x2x1x128x16x256_S2x1x128x16x256)
        (broadcastInDim S2x1x128x16x256 ![0, 1, 2, 3, 4] bcast_S2x1x128x16x1_S2x1x128x16x256_0_1_2_3_4 (broadcastInDim S2x1x128x16x1 ![0, 2, 3] bcast_S2x128x16_S2x1x128x16x1_0_2_3 fr)))
      (shapeCast S2x1x128x16x512 (Host.dynamicSlice S1x2x1x128x16x512 v4 (tripIdx k) sliceFits_S64x2x1x128x16x512_S1x2x1x128x16x512) shapeCasts_S1x2x1x128x16x512_S2x1x128x16x512))
def rowsNew (st : FVec Ideal S2x1x16x256x512 .f32) (q4 : FVec Ideal S64x2x1x128x16x256 .f32) (into : FVec Ideal S2x128x16 .f32) (k : IVec S_ 32) :
    FVec Ideal S1x2x1x128x16x512 .f32 :=
  broadcastInDim S1x2x1x128x16x512 ![1, 2, 3, 4, 5] bcast_S2x1x128x16x512_S1x2x1x128x16x512_1_2_3_4_5
    (transpose S2x1x128x16x512 [0, 1, 4, 2, 3] (Host.dotGeneral dot_S2x1x16x256x512_S2x1x128x16x256_S2x1x16x512x128_3_4_4_2_012_013 none st
      (mulf (shapeCast S2x1x128x16x256 (Host.dynamicSlice S1x2x1x128x16x256 q4 (tripIdx k) sliceFits_S64x2x1x128x16x256_S1x2x1x128x16x256) shapeCasts_S1x2x1x128x16x256_S2x1x128x16x256)
        (broadcastInDim S2x1x128x16x256 ![0, 1, 2, 3, 4] bcast_S2x1x128x16x1_S2x1x128x16x256_0_1_2_3_4 (broadcastInDim S2x1x128x16x1 ![0, 2, 3] bcast_S2x128x16_S2x1x128x16x1_0_2_3 into))))
      transposes_S2x1x16x512x128_S2x1x128x16x512_0_1_4_2_3)
def rowsNext (y : FVec Ideal S64x2x1x128x16x512 .f32) (st : FVec Ideal S2x1x16x256x512 .f32) (q4 : FVec Ideal S64x2x1x128x16x256 .f32)
    (into : FVec Ideal S2x128x16 .f32) (k : IVec S_ 32) : FVec Ideal S64x2x1x128x16x512 .f32 :=
  Host.dynamicUpdateSlice y (rowsNew st q4 into k) (tripIdx k) updateFits_S64x2x1x128x16x512_S1x2x1x128x16x512

/-- Both directions' rows together. -/
def wholeVec (a : FVec Ideal S2x1x64x128x16x512 .f32) (b : FVec Ideal S64x2x1x128x16x512 .f32) : FVec Ideal S2x1x8192x16x512 .f32 :=
  shapeCast S2x1x8192x16x512 (addf a (transpose S2x1x64x128x16x512 [1, 2, 0, 3, 4, 5] b transposes_S64x2x1x128x16x512_S2x1x64x128x16x512_1_2_0_3_4_5))
    shapeCasts_S2x1x64x128x16x512_S2x1x8192x16x512
def sumVec (y : FVec Ideal S2x1x8192x16x512 .f32) : FVec Ideal S1x8192x16x512 .f32 :=
  addf (shapeCast S1x8192x16x512 (extractStridedSlice S1x1x8192x16x512 ![0, 0, 0, 0, 0] y slices_S2x1x8192x16x512_S1x1x8192x16x512_0_0_0_0_0) shapeCasts_S1x1x8192x16x512_S1x8192x16x512)
    (Host.reverse [1] (shapeCast S1x8192x16x512 (extractStridedSlice S1x1x8192x16x512 ![1, 0, 0, 0, 0] y slices_S2x1x8192x16x512_S1x1x8192x16x512_1_0_0_0_0) shapeCasts_S1x1x8192x16x512_S1x8192x16x512))

/-- The mean over a row, and the row with its mean taken off. -/
def meanVec (y : FVec Ideal S1x8192x16x512 .f32) : FVec Ideal S1x8192x16x1 .f32 :=
  Host.divf (broadcastInDim S1x8192x16x1 ![0, 1, 2] bcast_S1x8192x16_S1x8192x16x1_0_1_2 (Host.reduceAdd y (constant S_ .f32 0x00000000#32) reducesTo_S1x8192x16x512_S1x8192x16_d3 h_S_))
    (broadcastInDim S1x8192x16x1 ![] bcast_S_S1x8192x16x1 (constant S_ .f32 0x44000000#32))
def centVec (y : FVec Ideal S1x8192x16x512 .f32) : FVec Ideal S1x8192x16x512 .f32 :=
  subf y (broadcastInDim S1x8192x16x512 ![0, 1, 2, 3] bcast_S1x8192x16x1_S1x8192x16x512_0_1_2_3 (meanVec y))
/-- The row normalised. -/
def normVec (y : FVec Ideal S1x8192x16x512 .f32) : FVec Ideal S1x8192x16x512 .f32 :=
  mulf (centVec y) (broadcastInDim S1x8192x16x512 ![0, 1, 2, 3] bcast_S1x8192x16x1_S1x8192x16x512_0_1_2_3
    (Host.rsqrt (addf (meanVec (mulf (centVec y) (centVec y))) (broadcastInDim S1x8192x16x1 ![] bcast_S_S1x8192x16x1 (constant S_ .f32 0x358637BD#32)))))
/-- The row normalised and scaled. -/
def scaledVec (y : FVec Ideal S1x8192x16x512 .f32) (gn : FVec Ideal S1x8192 .f32) : FVec Ideal S1x8192x8192 .f32 :=
  mulf (shapeCast S1x8192x8192 (normVec y) shapeCasts_S1x8192x16x512_S1x8192x8192)
    (broadcastInDim S1x8192x8192 ![0, 1, 2] bcast_S1x1x8192_S1x8192x8192_0_1_2 (broadcastInDim S1x1x8192 ![2] bcast_S8192_S1x1x8192_2 (shapeCast S8192 gn shapeCasts_S1x8192_S8192)))
def siluVec (g : FVec Ideal S1x8192x8192 .f32) : FVec Ideal S1x8192x8192 .f32 :=
  mulf g (Host.divf (broadcastInDim S1x8192x8192 ![] bcast_S_S1x8192x8192 (constant S_ .f32 0x3F800000#32))
    (addf (broadcastInDim S1x8192x8192 ![] bcast_S_S1x8192x8192 (constant S_ .f32 0x3F800000#32)) (Host.exp (Host.negf g))))
def finVec (y : FVec Ideal S1x8192x16x512 .f32) (gn : FVec Ideal S1x8192 .f32) (g : FVec Ideal S1x8192x8192 .f32) : FVec Ideal S8192x8192 .bf16 :=
  shapeCast S8192x8192 (truncf .bf16 (mulf (siluVec g) (scaledVec y gn)) bitsLt_bf16_f32) shapeCasts_S1x8192x8192_S8192x8192

/-! ## Up to the reversed arrays -/

variable (m : (ℓ : Loc nD τ sig) → Buf (Elt Ideal) ℓ) (c : Dev nD)

/-- The buffers after the first eight stretches. -/
def S8 : Valuation τ sig (Elt Ideal) := afterL [hostOps0, hostOps0_1, hostOps0_2, hostOps0_3, hostOps0_4, hostOps0_5, hostOps0_6, hostOps0_7, hostOps0_8] (fun b => m (c, b))

theorem S8_v20 : S8 m c (Proc.devRef .tc main_v20) = both256 (qVec (m ((c.tc : Thread nD τ).loc main_arg0))) := by
  simp only [S8, afterL_cons, afterL_nil]
  after_reads_simp
  rfl
theorem S8_v24 : S8 m c (Proc.devRef .tc main_v24) = both256 (kVec (m ((c.tc : Thread nD τ).loc main_arg0))) := by
  simp only [S8, afterL_cons, afterL_nil]
  after_reads_simp
  rfl
theorem S8_v9 : S8 m c (Proc.devRef .tc main_v9) = vVec (m ((c.tc : Thread nD τ).loc main_arg0)) := by
  simp only [S8, afterL_cons, afterL_nil]
  after_reads_simp
  rfl
theorem S8_v25 : S8 m c (Proc.devRef .tc main_v25) = Host.reverse [1] (vVec (m ((c.tc : Thread nD τ).loc main_arg0))) := by
  simp only [S8, afterL_cons, afterL_nil]
  after_reads_simp
  rfl
theorem S8_v12 : S8 m c (Proc.devRef .tc main_v12) = gVec (m ((c.tc : Thread nD τ).loc main_arg0)) := by
  simp only [S8, afterL_cons, afterL_nil]
  after_reads_simp
  rfl
theorem S8_v14 : S8 m c (Proc.devRef .tc main_v14) = logSigV bcast_S_S16 (shapeCast S16 (m ((c.tc : Thread nD τ).loc main_arg2)) shapeCasts_S1x16_S16) := by
  simp only [S8, afterL_cons, afterL_nil]
  after_reads_simp
  rfl
theorem S8_v16 : S8 m c (Proc.devRef .tc main_v16) = logSigV bcast_S_S16 (shapeCast S16 (m ((c.tc : Thread nD τ).loc main_arg3)) shapeCasts_S1x16_S16) := by
  simp only [S8, afterL_cons, afterL_nil]
  after_reads_simp
  rfl

/-! ## The next stretches, from any contents -/

variable (V : Valuation τ sig (Elt Ideal))

theorem s9_v31 : after hostOps0_9 V (Proc.devRef .tc main_v31) = lgVec (V (Proc.devRef .tc main_v14)) (V (Proc.devRef .tc main_v16)) := by
  after_reads_simp
  rfl
theorem s9_v32 : after hostOps0_9 V (Proc.devRef .tc main_v32) = shapeCast S2x1x64x128x16x256 (V (Proc.devRef .tc main_v20)) shapeCasts_S2x1x8192x16x256_S2x1x64x128x16x256 := by
  after_reads_simp
  rfl
theorem s9_v33 : after hostOps0_9 V (Proc.devRef .tc main_v33) = shapeCast S2x1x64x128x16x256 (V (Proc.devRef .tc main_v24)) shapeCasts_S2x1x8192x16x256_S2x1x64x128x16x256 := by
  after_reads_simp
  rfl
theorem s9_v34 : after hostOps0_9 V (Proc.devRef .tc main_v34) = shapeCast S2x1x64x128x16x512 (both512 (V (Proc.devRef .tc main_v9)) (V (Proc.devRef .tc main_v25))) shapeCasts_S2x1x8192x16x512_S2x1x64x128x16x512 := by
  after_reads_simp
  rfl
theorem s9_v35 : after hostOps0_9 V (Proc.devRef .tc main_v35) = iotaVec := by
  after_reads_simp
  rfl
theorem s9_v43 : after hostOps0_9 V (Proc.devRef .tc main_v43) = lowVec := by
  after_reads_simp
  rfl
theorem s9_v52 : after hostOps0_9 V (Proc.devRef .tc main_v52) = powVec (lgVec (V (Proc.devRef .tc main_v14)) (V (Proc.devRef .tc main_v16))) := by
  after_reads_simp
  rfl
theorem s9_cst : after hostOps0_9 V (Proc.devRef .tc main_cst_1) = constant (F := Ideal) S_ .f32 0x00000000#32 := by
  after_reads_simp
  try rfl
theorem s9_v12 : after hostOps0_9 V (Proc.devRef .tc main_v12) = V (Proc.devRef .tc main_v12) :=
  after_of_writes_sub hostOps0_9 V hostOps0_9_writes (by decide +kernel)

theorem s10_v53 : after hostOps0_10 V (Proc.devRef .tc main_v53)
    = select (broadcastInDim S2x16x128x128 ![1, 2, 3] bcast_S16x128x128_S2x16x128x128_1_2_3 (broadcastInDim S16x128x128 ![0, 1, 2] bcast_S1x128x128_S16x128x128_0_1_2 (V (Proc.devRef .tc main_v43))))
        (V (Proc.devRef .tc main_v52))
        (broadcastInDim S2x16x128x128 ![1, 2, 3] bcast_S16x128x128_S2x16x128x128_1_2_3 (broadcastInDim S16x128x128 ![] bcast_S_S16x128x128 (V (Proc.devRef .tc main_cst_1)))) := by
  after_reads_simp
  rfl

theorem s10_keep (b : Ref sig .tc) (h : b ∉ hostOps0_10_W) : after hostOps0_10 V (Proc.devRef .tc b) = V (Proc.devRef .tc b) :=
  after_of_writes_sub hostOps0_10 V hostOps0_10_writes h

theorem s11_v59 : after hostOps0_11 V (Proc.devRef .tc main_v59) = innerVec (V (Proc.devRef .tc main_v32)) (V (Proc.devRef .tc main_v33)) (V (Proc.devRef .tc main_v34)) (V (Proc.devRef .tc main_v53)) := by
  after_reads_simp
  rfl
theorem s11_in0 : after hostOps0_11 V (Proc.devRef .tc main_v90_0) = front256 (V (Proc.devRef .tc main_v32)) := by
  after_reads_simp
  rfl
theorem s11_in1 : after hostOps0_11 V (Proc.devRef .tc main_v90_1) = front256 (V (Proc.devRef .tc main_v33)) := by
  after_reads_simp
  rfl
theorem s11_in2 : after hostOps0_11 V (Proc.devRef .tc main_v90_2) = front512 (V (Proc.devRef .tc main_v34)) := by
  after_reads_simp
  rfl
theorem s11_in7 : after hostOps0_11 V (Proc.devRef .tc main_v90_7)
    = broadcastInDim S2x1x16x256x512 ![1, 2, 3, 4] bcast_S1x16x256x512_S2x1x16x256x512_1_2_3_4 (broadcastInDim S1x16x256x512 ![] bcast_S_S1x16x256x512 (constant (F := Ideal) S_ .f32 0x00000000#32)) := by
  after_reads_simp
  rfl
theorem s11_in3 (h : V (Proc.devRef .tc main_v35) = iotaVec) : after hostOps0_11 V (Proc.devRef .tc main_v90_3) = intoVec (V (Proc.devRef .tc main_v31)) := by
  after_reads_simp
  rw [h]
  rfl
theorem s11_in4 : after hostOps0_11 V (Proc.devRef .tc main_v90_4) = acrossVec (V (Proc.devRef .tc main_v31)) := by
  after_reads_simp
  rfl
theorem s11_in5 (h : V (Proc.devRef .tc main_v35) = iotaVec) : after hostOps0_11 V (Proc.devRef .tc main_v90_5) = fromVec (V (Proc.devRef .tc main_v31)) := by
  after_reads_simp
  rw [h]
  rfl
theorem s11_v12 : after hostOps0_11 V (Proc.devRef .tc main_v12) = V (Proc.devRef .tc main_v12) :=
  after_of_writes_sub hostOps0_11 V hostOps0_11_writes (by decide +kernel)

/-! ## The loop -/

theorem entry_eq : entryContents preI m c = after hostOps0_11 (after hostOps0_10 (after hostOps0_9 (S8 m c))) := rfl

theorem trip_st (k : ℕ) : atK m (k + 1) c (Proc.devRef .tc main_v90_7)
    = stNext (atK m k c (Proc.devRef .tc main_v90_7)) (atK m k c (Proc.devRef .tc main_v90_1)) (atK m k c (Proc.devRef .tc main_v90_2))
        (atK m k c (Proc.devRef .tc main_v90_4)) (atK m k c (Proc.devRef .tc main_v90_5)) (atK m k c (Proc.devRef .tc main_v90_6)) :=
  (trip_agree (atK m k c) main_v90_7 (by decide)).trans (STEP_main_v90_7 _)

theorem trip_rows (k : ℕ) : atK m (k + 1) c (Proc.devRef .tc main_v90_8)
    = rowsNext (atK m k c (Proc.devRef .tc main_v90_8)) (atK m k c (Proc.devRef .tc main_v90_7)) (atK m k c (Proc.devRef .tc main_v90_0))
        (atK m k c (Proc.devRef .tc main_v90_3)) (atK m k c (Proc.devRef .tc main_v90_6)) :=
  (trip_agree (atK m k c) main_v90_8 (by decide)).trans (STEP_main_v90_8 _)

/-- What the loop never writes stays. -/
theorem atK_keep (b : Ref sig .tc) (h : ∀ V : Valuation τ sig (Elt Ideal), afterL bodyI V (Proc.devRef .tc b) = V (Proc.devRef .tc b))
    (h' : b ∉ condOps_W) : ∀ k, atK m k c (Proc.devRef .tc b) = entryContents preI m c (Proc.devRef .tc b)
  | 0 => rfl
  | k + 1 => by
    rw [show atK m (k + 1) c = afterL bodyI (after condOps (atK m k c)) from rfl, h, after_of_writes_sub condOps _ condOps_writes h', atK_keep b h h' k]

theorem body_keep (b : Ref sig .tc) (h : b ∉ while0Ops0_W ++ while0Ops0_1_W ++ while0Ops0_2_W ++ while0Ops0_3_W ++ while0Ops0_4_W ++ while0Ops0_5_W)
    (V : Valuation τ sig (Elt Ideal)) : afterL bodyI V (Proc.devRef .tc b) = V (Proc.devRef .tc b) := by
  simp only [List.mem_append, not_or] at h
  obtain ⟨⟨⟨⟨⟨h0, h1⟩, h2⟩, h3⟩, h4⟩, h5⟩ := h
  simp only [afterL_cons, afterL_nil]
  rw [after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0]

theorem pre_keep (b : Ref sig .tc) (h : b ∉ hostOps0_W ++ hostOps0_1_W ++ hostOps0_2_W ++ hostOps0_3_W ++ hostOps0_4_W ++ hostOps0_5_W ++ hostOps0_6_W
      ++ hostOps0_7_W ++ hostOps0_8_W ++ hostOps0_9_W ++ hostOps0_10_W ++ hostOps0_11_W) :
    entryContents preI m c (Proc.devRef .tc b) = m ((c.tc : Thread nD τ).loc b) := by
  simp only [List.mem_append, not_or] at h
  obtain ⟨⟨⟨⟨⟨⟨⟨⟨⟨⟨⟨h0, h1⟩, h2⟩, h3⟩, h4⟩, h5⟩, h6⟩, h7⟩, h8⟩, h9⟩, h10⟩, h11⟩ := h
  simp only [entryContents, afterL_cons, afterL_nil]
  rw [after_of_writes_sub hostOps0_11 _ hostOps0_11_writes h11, after_of_writes_sub hostOps0_10 _ hostOps0_10_writes h10,
    after_of_writes_sub hostOps0_9 _ hostOps0_9_writes h9, after_of_writes_sub hostOps0_8 _ hostOps0_8_writes h8,
    after_of_writes_sub hostOps0_7 _ hostOps0_7_writes h7, after_of_writes_sub hostOps0_6 _ hostOps0_6_writes h6,
    after_of_writes_sub hostOps0_5 _ hostOps0_5_writes h5, after_of_writes_sub hostOps0_4 _ hostOps0_4_writes h4,
    after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

/-! ## After the loop -/

theorem post_v99 : after hostOps0_13 (after hostOps0_12 V) (Proc.devRef .tc main_v95) = shapeCast S1x8192x16x512 (extractStridedSlice S1x1x8192x16x512 ![0, 0, 0, 0, 0]
      (wholeVec (V (Proc.devRef .tc main_v59)) (V (Proc.devRef .tc main_v90_8))) slices_S2x1x8192x16x512_S1x1x8192x16x512_0_0_0_0_0) shapeCasts_S1x1x8192x16x512_S1x8192x16x512 := by
  after_reads_simp
  rfl
theorem post_v98 : after hostOps0_13 (after hostOps0_12 V) (Proc.devRef .tc main_v98) = Host.reverse [1] (shapeCast S1x8192x16x512 (extractStridedSlice S1x1x8192x16x512 ![1, 0, 0, 0, 0]
      (wholeVec (V (Proc.devRef .tc main_v59)) (V (Proc.devRef .tc main_v90_8))) slices_S2x1x8192x16x512_S1x1x8192x16x512_1_0_0_0_0) shapeCasts_S1x1x8192x16x512_S1x8192x16x512) := by
  after_reads_simp
  rfl
theorem post_v122 : after hostOps0_14 V (Proc.devRef .tc main_v122) = scaledVec (addf (V (Proc.devRef .tc main_v95)) (V (Proc.devRef .tc main_v98))) (V (Proc.devRef .tc main_arg1)) := by
  after_reads_simp
  rfl
theorem post_v126 : after hostOps0_16 (after hostOps0_15 V) (Proc.devRef .tc main_v126)
    = shapeCast S8192x8192 (truncf .bf16 (mulf (siluVec (V (Proc.devRef .tc main_v12))) (V (Proc.devRef .tc main_v122))) bitsLt_bf16_f32) shapeCasts_S1x8192x8192_S8192x8192 := by
  after_reads_simp
  rfl
theorem post_keep1 (b : Ref sig .tc) (h : b = main_arg0 ∨ b = main_arg1 ∨ b = main_arg2 ∨ b = main_arg3 ∨ b = main_v12) :
    after hostOps0_13 (after hostOps0_12 V) (Proc.devRef .tc b) = V (Proc.devRef .tc b) := by
  rcases h with rfl | rfl | rfl | rfl | rfl <;> after_reads_simp
theorem post_keep2 (b : Ref sig .tc) (h : b = main_arg0 ∨ b = main_arg1 ∨ b = main_arg2 ∨ b = main_arg3 ∨ b = main_v12) :
    after hostOps0_14 V (Proc.devRef .tc b) = V (Proc.devRef .tc b) := by
  rcases h with rfl | rfl | rfl | rfl | rfl <;> after_reads_simp
theorem post_keep3 (b : Ref sig .tc) (h : b = main_arg0 ∨ b = main_arg1 ∨ b = main_arg2 ∨ b = main_arg3 ∨ b = main_v12) :
    after hostOps0_16 (after hostOps0_15 V) (Proc.devRef .tc b) = V (Proc.devRef .tc b) := by
  rcases h with rfl | rfl | rfl | rfl | rfl <;> after_reads_simp

theorem postL_keep (b : Ref sig .tc) (h : b = main_arg0 ∨ b = main_arg1 ∨ b = main_arg2 ∨ b = main_arg3 ∨ b = main_v12) :
    afterL postI V (Proc.devRef .tc b) = V (Proc.devRef .tc b) := by
  simp only [afterL_cons, afterL_nil]
  rw [post_keep3 _ b h, post_keep2 _ b h, post_keep1 _ b h]

/-- The result after the last stretches, from any contents. -/
theorem postL_v126 : afterL postI V (Proc.devRef .tc main_v126)
    = finVec (sumVec (wholeVec (V (Proc.devRef .tc main_v59)) (V (Proc.devRef .tc main_v90_8)))) (V (Proc.devRef .tc main_arg1)) (V (Proc.devRef .tc main_v12)) := by
  simp only [afterL_cons, afterL_nil]
  rw [post_v126, post_v122, post_keep2 _ main_v12 (by simp), post_keep1 _ main_v12 (by simp), post_keep1 _ main_arg1 (by simp), post_v99, post_v98]
  rfl

/-- An argument is unchanged at the end. -/
theorem final_arg (b : Ref sig .tc) (h : b = main_arg0 ∨ b = main_arg1 ∨ b = main_arg2 ∨ b = main_arg3) :
    finalContents condOps preI bodyI postI 64 m c (Proc.devRef .tc b) = m ((c.tc : Thread nD τ).loc b) := by
  have hk : ∀ b : Ref sig .tc, b = main_arg0 ∨ b = main_arg1 ∨ b = main_arg2 ∨ b = main_arg3 → b ∉ condOps_W ∧
      b ∉ while0Ops0_W ++ while0Ops0_1_W ++ while0Ops0_2_W ++ while0Ops0_3_W ++ while0Ops0_4_W ++ while0Ops0_5_W ∧
      b ∉ hostOps0_W ++ hostOps0_1_W ++ hostOps0_2_W ++ hostOps0_3_W ++ hostOps0_4_W ++ hostOps0_5_W ++ hostOps0_6_W
      ++ hostOps0_7_W ++ hostOps0_8_W ++ hostOps0_9_W ++ hostOps0_10_W ++ hostOps0_11_W := by
    rintro b (rfl | rfl | rfl | rfl) <;> decide +kernel
  show afterL postI (after condOps (atK m 64 c)) (Proc.devRef .tc b) = _
  obtain ⟨h1, h2, h3⟩ := hk b h
  rw [postL_keep _ b (by tauto), after_of_writes_sub condOps _ condOps_writes h1, atK_keep m c b (body_keep b h2) h1, pre_keep m c b h3]

end Cert.ReferenceIdeal.Ret

end
-- ==== Proof.RefVal.lean ====
/- The reference's result over the reals: its vectors at an index, its loop's states, its rows. -/
module

public import proofs.«01_k».proof.Proof.RefRead
public import proofs.«01_k».proof.Proof.Model
public import Idealize.ShloMosaic.Lib.Pointwise
public import Idealize.ShloMosaic.Lib.DynamicIndex

@[expose] public section

set_option maxRecDepth 16384

noncomputable section

namespace Cert.ReferenceIdeal.Ret

open Idealize.ShloMosaic Idealize.ShloMosaic.TcCoe Idealize.ShloMosaic.StableHlo
open Cert.ReferenceIdeal Cert.ReferenceIdeal.Gen Cert.ReferenceIdeal.Value
open Cert.Retention

/-! ## The vectors at an index -/

/-- The row of the sequence that direction `d` has at position `n`. -/
def pos (d : Fin 2) (n : ℕ) : ℕ := if d.val = 0 then n else 8191 - n

theorem pos_lt (d : Fin 2) {n : ℕ} (h : n < 8192) : pos d n < 8192 := by unfold pos; split <;> omega

theorem pos_comm (d : Fin 2) (j a : ℕ) : pos d (j * 128 + a) = pos d (128 * j + a) := by rw [mul_comm]

theorem both256_at (y : FVec Ideal S1x8192x16x256 .f32) (d : Fin 2) (n : Fin 8192) (h : Fin 16) (e : Fin 256) :
    both256 y (ix5 d 0 n h e) = y (ix4 0 ⟨pos d n, pos_lt d n.isLt⟩ h e) := by
  unfold both256
  pointwise []
  rcases (by omega : d = 0 ∨ d = 1) with rfl | rfl
  · rw [dif_pos (by decide)]; rfl
  · rw [dif_neg (by decide)]
    congr 1
    have : n.rev = ⟨pos 1 n, pos_lt 1 n.isLt⟩ := Fin.ext (by show 8192 - (n.val + 1) = 8191 - n.val; omega)
    rw [← this]; rfl

theorem both512_at (y : FVec Ideal S1x8192x16x512 .f32) (d : Fin 2) (n : Fin 8192) (h : Fin 16) (e : Fin 512) :
    both512 y (Host.reverse [1] y) (ix5 d 0 n h e) = y (ix4 0 ⟨pos d n, pos_lt d n.isLt⟩ h e) := by
  unfold both512
  pointwise []
  rcases (by omega : d = 0 ∨ d = 1) with rfl | rfl
  · rw [dif_pos (by decide)]; rfl
  · rw [dif_neg (by decide)]
    congr 1
    have : n.rev = ⟨pos 1 n, pos_lt 1 n.isLt⟩ := Fin.ext (by show 8192 - (n.val + 1) = 8191 - n.val; omega)
    rw [← this]; rfl

variable {x : FVec Ideal S96x8192x256 .bf16} (hx : RealQKV x)

include hx in
theorem q_real (d : Fin 2) (j : Fin 64) (a : Fin 128) (h : Fin 16) (e : Fin 256) :
    shapeCast S2x1x64x128x16x256 (both256 (qVec x)) shapeCasts_S2x1x8192x16x256_S2x1x64x128x16x256 (ix6 d 0 j a h e)
      = ((qry x h (pos d (128 * j + a)) e : ℝ) : EReal) := by
  pointwise [both256_at]
  unfold qVec
  pointwise []
  refine (slab_of x _ (s := h.val) (n := pos d (128 * j.val + a.val)) (d := e.val) rfl (pos_comm d j.val a.val) rfl).trans ?_
  rw [hx _ _ _ (by omega)]; rfl

include hx in
theorem k_real (d : Fin 2) (j : Fin 64) (a : Fin 128) (h : Fin 16) (e : Fin 256) :
    shapeCast S2x1x64x128x16x256 (both256 (kVec x)) shapeCasts_S2x1x8192x16x256_S2x1x64x128x16x256 (ix6 d 0 j a h e)
      = ((key x h (pos d (128 * j + a)) e : ℝ) : EReal) := by
  pointwise [both256_at]
  unfold kVec
  pointwise []
  refine (slab_of x _ (s := 16 + h.val) (n := pos d (128 * j.val + a.val)) (d := e.val) rfl (pos_comm d j.val a.val) rfl).trans ?_
  rw [hx _ _ _ (by omega)]; rfl

theorem vVec_at (x : FVec Ideal S96x8192x256 .bf16) (n : Fin 8192) (h : Fin 16) (e : Fin 512) :
    vVec x (ix4 0 n h e) = slab x (32 + 2 * h + e / 256) n (e % 256) := by
  unfold vVec
  pointwise []
  exact slab_of x _ (show 32 + (h.val * 2 + e.val / 256) = _ by omega) rfl rfl

include hx in
theorem v_real (d : Fin 2) (j : Fin 64) (a : Fin 128) (h : Fin 16) (e : Fin 512) :
    shapeCast S2x1x64x128x16x512 (both512 (vVec x) (Host.reverse [1] (vVec x))) shapeCasts_S2x1x8192x16x512_S2x1x64x128x16x512 (ix6 d 0 j a h e)
      = ((val x h e (pos d (128 * j + a)) : ℝ) : EReal) := by
  pointwise []
  refine (both512_at (vVec x) d _ h e).trans ((vVec_at x _ h e).trans ?_)
  show slab x _ (pos d (j.val * 128 + a.val)) _ = _
  rw [pos_comm, hx _ _ _ (by omega)]; rfl

theorem g_at (n : Fin 8192) (h : Fin 16) (e : Fin 512) (z : Fin 8192) (hz : z.val = 512 * h + e) : gVec x (ix3 0 n z) = gate x h e n := by
  unfold gVec
  pointwise []
  refine (slab_of x _ (s := 64 + z.val / 256) (n := n.val) (d := z.val % 256) rfl rfl rfl).trans ?_
  rw [gate, show 64 + z.val / 256 = 64 + 2 * h.val + e.val / 256 by omega, show z.val % 256 = e.val % 256 by omega]

/-! ## The decays -/

variable {lg : FVec Ideal S2x16 .f32} (hlg : ∀ (d : Fin 2) (h : Fin 16), lg (ix2 d h) ≤ (0 : EReal))

include hlg in
theorem mask_real (d : Fin 2) (h : Fin 16) (a b : Fin 128) : maskVec lg (ix4 d h a b) = ((lowW (dec (lg (ix2 d h))) a b : ℝ) : EReal) := by
  unfold maskVec lowVec powVec diffVec iotaVec
  pointwise []
  rw [sitofp_ofNat (by omega), sitofp_ofNat (by omega), ← EReal.coe_sub]
  exact mask_of_le (hlg d h) a b

include hlg in
theorem into_real (d : Fin 2) (a : Fin 128) (h : Fin 16) : intoVec lg (ix3 d a h) = ((dec (lg (ix2 d h)) ^ (a.val + 1) : ℝ) : EReal) := by
  unfold intoVec iotaVec
  pointwise []
  rw [sitofp_ofNat (by omega), ← exp_mul_dec (hlg d h)]; norm_num

include hlg in
theorem from_real (d : Fin 2) (a : Fin 128) (h : Fin 16) : fromVec lg (ix3 d a h) = ((dec (lg (ix2 d h)) ^ (128 - 1 - a.val) : ℝ) : EReal) := by
  unfold fromVec iotaVec
  pointwise []
  rw [ofBits_127, sitofp_ofNat (by omega), ← EReal.coe_sub, ← exp_mul_dec (hlg d h), Nat.cast_sub (by omega)]; norm_num

include hlg in
theorem across_real (d : Fin 2) (h : Fin 16) : acrossVec lg (ix2 d h) = ((dec (lg (ix2 d h)) ^ 128 : ℝ) : EReal) := by
  unfold acrossVec
  pointwise []
  rw [ofBits_128, ← exp_mul_dec (hlg d h)]; norm_num

/-! ## One chunk -/

theorem inner_at (q k : FVec Ideal S2x1x64x128x16x256 .f32) (v : FVec Ideal S2x1x64x128x16x512 .f32) (mk : FVec Ideal S2x16x128x128 .f32)
    (d : Fin 2) (j : Fin 64) (a : Fin 128) (h : Fin 16) (e : Fin 512) :
    innerVec q k v mk (ix6 d 0 j a h e)
      = ∑ b : Fin 128, v (ix6 d 0 j b h e) * ((∑ y : Fin 256, q (ix6 d 0 j a h y) * k (ix6 d 0 j b h y)) * mk (ix4 d h a b)) := by
  unfold innerVec
  pointwise []

theorem front256_at (y : FVec Ideal S2x1x64x128x16x256 .f32) (d : Fin 2) (j : Fin 64) (a : Fin 128) (h : Fin 16) (e : Fin 256) :
    front256 y (ix6 j d 0 a h e) = y (ix6 d 0 j a h e) := by
  unfold front256
  pointwise []

theorem front512_at (y : FVec Ideal S2x1x64x128x16x512 .f32) (d : Fin 2) (j : Fin 64) (a : Fin 128) (h : Fin 16) (e : Fin 512) :
    front512 y (ix6 j d 0 a h e) = y (ix6 d 0 j a h e) := by
  unfold front512
  pointwise []

/-- A trip slices at its number. -/
theorem tripIdx_eq (k : ℕ) (hk : k < 64) (w : IVec S_ 32) (hw : w = fun _ => Scf.iv 0#32 1#32 k) (a : Fin 6) :
    tripIdx w a = ((![k, 0, 0, 0, 0, 0] : Fin 6 → ℕ) a : ℤ) := by
  subst hw
  have e : (Scf.iv 0#32 1#32 k).toInt = (k : ℤ) := by
    have : Scf.iv 0#32 1#32 k = BitVec.ofNat 32 k := by simp [Scf.iv]
    rw [this]; exact toInt_ofNat_of_lt (by omega)
  match a with
  | ⟨0, _⟩ => exact e
  | ⟨1, _⟩ => rfl
  | ⟨2, _⟩ => rfl
  | ⟨3, _⟩ => rfl
  | ⟨4, _⟩ => rfl
  | ⟨5, _⟩ => rfl

theorem slice256_at (y : FVec Ideal S64x2x1x128x16x256 .f32) (k : Fin 64) (w : IVec S_ 32) (hw : w = fun _ => Scf.iv 0#32 1#32 k.val)
    (d : Fin 2) (a : Fin 128) (h : Fin 16) (e : Fin 256) :
    Host.dynamicSlice S1x2x1x128x16x256 y (tripIdx w) sliceFits_S64x2x1x128x16x256_S1x2x1x128x16x256 (ix6 0 d 0 a h e) = y (ix6 k d 0 a h e) := by
  have hs : S64x2x1x128x16x256.Slices (![k.val, 0, 0, 0, 0, 0]) S1x2x1x128x16x256 := ⟨rfl, fun a => by
    match a with
    | ⟨0, _⟩ => show k.val + 1 ≤ 64; omega
    | ⟨1, _⟩ => show 0 + 2 ≤ 2; omega
    | ⟨2, _⟩ => show 0 + 1 ≤ 1; omega
    | ⟨3, _⟩ => show 0 + 128 ≤ 128; omega
    | ⟨4, _⟩ => show 0 + 16 ≤ 16; omega
    | ⟨5, _⟩ => show 0 + 256 ≤ 256; omega⟩
  rw [Host.dynamicSlice_eq_extractStridedSlice _ _ _ _ _ hs (tripIdx_eq k.val k.isLt w hw)]
  pointwise []

theorem slice512_at (y : FVec Ideal S64x2x1x128x16x512 .f32) (k : Fin 64) (w : IVec S_ 32) (hw : w = fun _ => Scf.iv 0#32 1#32 k.val)
    (d : Fin 2) (a : Fin 128) (h : Fin 16) (e : Fin 512) :
    Host.dynamicSlice S1x2x1x128x16x512 y (tripIdx w) sliceFits_S64x2x1x128x16x512_S1x2x1x128x16x512 (ix6 0 d 0 a h e) = y (ix6 k d 0 a h e) := by
  have hs : S64x2x1x128x16x512.Slices (![k.val, 0, 0, 0, 0, 0]) S1x2x1x128x16x512 := ⟨rfl, fun a => by
    match a with
    | ⟨0, _⟩ => show k.val + 1 ≤ 64; omega
    | ⟨1, _⟩ => show 0 + 2 ≤ 2; omega
    | ⟨2, _⟩ => show 0 + 1 ≤ 1; omega
    | ⟨3, _⟩ => show 0 + 128 ≤ 128; omega
    | ⟨4, _⟩ => show 0 + 16 ≤ 16; omega
    | ⟨5, _⟩ => show 0 + 512 ≤ 512; omega⟩
  rw [Host.dynamicSlice_eq_extractStridedSlice _ _ _ _ _ hs (tripIdx_eq k.val k.isLt w hw)]
  pointwise []

theorem stNext_at (st : FVec Ideal S2x1x16x256x512 .f32) (k4 : FVec Ideal S64x2x1x128x16x256 .f32) (v4 : FVec Ideal S64x2x1x128x16x512 .f32)
    (ac : FVec Ideal S2x16 .f32) (fr : FVec Ideal S2x128x16 .f32) (k : Fin 64) (w : IVec S_ 32) (hw : w = fun _ => Scf.iv 0#32 1#32 k.val)
    (d : Fin 2) (h : Fin 16) (y : Fin 256) (e : Fin 512) :
    stNext st k4 v4 ac fr w (ix5 d 0 h y e)
      = st (ix5 d 0 h y e) * ac (ix2 d h) + ∑ r : Fin 128, k4 (ix6 k d 0 r h y) * fr (ix3 d r h) * v4 (ix6 k d 0 r h e) := by
  unfold stNext
  have h1 := fun d a h e => slice256_at k4 k w hw d a h e
  have h2 := fun d a h e => slice512_at v4 k w hw d a h e
  generalize Host.dynamicSlice S1x2x1x128x16x256 k4 (tripIdx w) sliceFits_S64x2x1x128x16x256_S1x2x1x128x16x256 = ks at h1 ⊢
  generalize Host.dynamicSlice S1x2x1x128x16x512 v4 (tripIdx w) sliceFits_S64x2x1x128x16x512_S1x2x1x128x16x512 = vs at h2 ⊢
  pointwise [h1, h2]

theorem rowsNew_at (st : FVec Ideal S2x1x16x256x512 .f32) (q4 : FVec Ideal S64x2x1x128x16x256 .f32) (into : FVec Ideal S2x128x16 .f32)
    (k : Fin 64) (w : IVec S_ 32) (hw : w = fun _ => Scf.iv 0#32 1#32 k.val) (d : Fin 2) (a : Fin 128) (h : Fin 16) (e : Fin 512) :
    rowsNew st q4 into w (ix6 0 d 0 a h e) = ∑ y : Fin 256, st (ix5 d 0 h y e) * (q4 (ix6 k d 0 a h y) * into (ix3 d a h)) := by
  unfold rowsNew
  have h1 := fun d a h e => slice256_at q4 k w hw d a h e
  generalize Host.dynamicSlice S1x2x1x128x16x256 q4 (tripIdx w) sliceFits_S64x2x1x128x16x256_S1x2x1x128x16x256 = qs at h1 ⊢
  pointwise [h1]

theorem rowsNext_at (y : FVec Ideal S64x2x1x128x16x512 .f32) (st : FVec Ideal S2x1x16x256x512 .f32) (q4 : FVec Ideal S64x2x1x128x16x256 .f32)
    (into : FVec Ideal S2x128x16 .f32) (k : Fin 64) (w : IVec S_ 32) (hw : w = fun _ => Scf.iv 0#32 1#32 k.val)
    (j : Fin 64) (d : Fin 2) (a : Fin 128) (h : Fin 16) (e : Fin 512) :
    rowsNext y st q4 into w (ix6 j d 0 a h e)
      = if j = k then ∑ z : Fin 256, st (ix5 d 0 h z e) * (q4 (ix6 k d 0 a h z) * into (ix3 d a h)) else y (ix6 j d 0 a h e) := by
  have hr := rowsNew_at st q4 into k w hw d a h e
  unfold rowsNext
  generalize rowsNew st q4 into w = u at hr ⊢
  have ht := tripIdx_eq k.val k.isLt w hw
  generalize tripIdx w = f at ht ⊢
  have hc : ∀ b : Fin 6, Host.clampedStart S64x2x1x128x16x512 S1x2x1x128x16x512 updateFits_S64x2x1x128x16x512_S1x2x1x128x16x512.1 f b = (![k.val, 0, 0, 0, 0, 0] : Fin 6 → ℕ) b := by
    intro b
    refine Host.clampedStart_of_le (s := S64x2x1x128x16x512) (t := S1x2x1x128x16x512) _ f b _ (ht b) ?_
    match b with
    | ⟨0, _⟩ => show k.val + 1 ≤ 64; omega
    | ⟨1, _⟩ => show 0 + 2 ≤ 2; omega
    | ⟨2, _⟩ => show 0 + 1 ≤ 1; omega
    | ⟨3, _⟩ => show 0 + 128 ≤ 128; omega
    | ⟨4, _⟩ => show 0 + 16 ≤ 16; omega
    | ⟨5, _⟩ => show 0 + 512 ≤ 512; omega
  rw [Host.dynamicUpdateSlice_apply]
  by_cases hj : j = k
  · subst hj
    rw [if_pos rfl, dif_pos (fun b => by
      rw [hc b]
      match b with
      | ⟨0, _⟩ => exact ⟨le_refl _, Nat.lt_succ_self _⟩
      | ⟨1, _⟩ => exact ⟨Nat.zero_le _, by show d.val < 0 + 2; omega⟩
      | ⟨2, _⟩ => exact ⟨Nat.zero_le _, by show 0 < 0 + 1; omega⟩
      | ⟨3, _⟩ => exact ⟨Nat.zero_le _, by show a.val < 0 + 128; omega⟩
      | ⟨4, _⟩ => exact ⟨Nat.zero_le _, by show h.val < 0 + 16; omega⟩
      | ⟨5, _⟩ => exact ⟨Nat.zero_le _, by show e.val < 0 + 512; omega⟩), ← hr]
    congr 1
    rw [Shape.Idx.norm_def]
    funext b
    apply Fin.ext
    show _ - Host.clampedStart S64x2x1x128x16x512 S1x2x1x128x16x512 updateFits_S64x2x1x128x16x512_S1x2x1x128x16x512.1 f (b.cast _) = _
    rw [hc]
    match b with
    | ⟨0, _⟩ => show j.val - j.val = 0; omega
    | ⟨1, _⟩ => rfl
    | ⟨2, _⟩ => rfl
    | ⟨3, _⟩ => rfl
    | ⟨4, _⟩ => rfl
    | ⟨5, _⟩ => rfl
  · rw [if_neg hj, dif_neg (fun hh => by
      have h0 := hh 0
      rw [hc 0] at h0
      have h1 : k.val ≤ j.val ∧ j.val < k.val + 1 := h0
      exact hj (Fin.ext (by omega)))]

end Cert.ReferenceIdeal.Ret

end
-- ==== Proof.RefResult.lean ====
/- The reference's result over the reals: the loop's states and rows, both directions together, the rows normalised and gated. -/
module

public import proofs.«01_k».proof.Proof.RefVal

@[expose] public section

set_option maxRecDepth 16384

noncomputable section

namespace Cert.ReferenceIdeal.Ret

open Idealize.ShloMosaic Idealize.ShloMosaic.TcCoe Idealize.ShloMosaic.StableHlo
open Cert.ReferenceIdeal Cert.ReferenceIdeal.Gen Cert.ReferenceIdeal.Value
open Cert.Retention

variable (m : (ℓ : Loc nD τ sig) → Buf (Elt Ideal) ℓ) (c : Dev nD)

/-- The projections. -/
abbrev X : FVec Ideal S96x8192x256 .bf16 := m ((c.tc : Thread nD τ).loc main_arg0)

/-- The logarithms of the decays. -/
def lgs : FVec Ideal S2x16 .f32 :=
  lgVec (logSigV bcast_S_S16 (shapeCast S16 (m ((c.tc : Thread nD τ).loc main_arg2)) shapeCasts_S1x16_S16))
    (logSigV bcast_S_S16 (shapeCast S16 (m ((c.tc : Thread nD τ).loc main_arg3)) shapeCasts_S1x16_S16))

theorem lgs_0 (h : Fin 16) : lgs m c (ix2 0 h) = logSig (m ((c.tc : Thread nD τ).loc main_arg2) (ix2 0 h)) := by
  unfold lgs lgVec
  pointwise [logSigV_at]
theorem lgs_1 (h : Fin 16) : lgs m c (ix2 1 h) = logSig (m ((c.tc : Thread nD τ).loc main_arg3) (ix2 0 h)) := by
  unfold lgs lgVec
  pointwise [logSigV_at]
theorem lgs_nonpos (d : Fin 2) (h : Fin 16) : lgs m c (ix2 d h) ≤ (0 : EReal) := by
  rcases (by omega : d = 0 ∨ d = 1) with rfl | rfl
  · rw [lgs_0]; exact logSig_nonpos _
  · rw [lgs_1]; exact logSig_nonpos _

/-! ## The buffers at the loop's entry -/

abbrev E : Valuation τ sig (Elt Ideal) := entryContents preI m c

abbrev q6 : FVec Ideal S2x1x64x128x16x256 .f32 := shapeCast S2x1x64x128x16x256 (both256 (qVec (X m c))) shapeCasts_S2x1x8192x16x256_S2x1x64x128x16x256
abbrev k6 : FVec Ideal S2x1x64x128x16x256 .f32 := shapeCast S2x1x64x128x16x256 (both256 (kVec (X m c))) shapeCasts_S2x1x8192x16x256_S2x1x64x128x16x256
abbrev v6 : FVec Ideal S2x1x64x128x16x512 .f32 :=
  shapeCast S2x1x64x128x16x512 (both512 (vVec (X m c)) (Host.reverse [1] (vVec (X m c)))) shapeCasts_S2x1x8192x16x512_S2x1x64x128x16x512

theorem V10_v31 : after hostOps0_10 (after hostOps0_9 (S8 m c)) (Proc.devRef .tc main_v31) = lgs m c := by
  rw [s10_keep _ main_v31 (by decide +kernel), s9_v31, S8_v14, S8_v16]; rfl
theorem V10_v32 : after hostOps0_10 (after hostOps0_9 (S8 m c)) (Proc.devRef .tc main_v32) = q6 m c := by
  rw [s10_keep _ main_v32 (by decide +kernel), s9_v32, S8_v20]
theorem V10_v33 : after hostOps0_10 (after hostOps0_9 (S8 m c)) (Proc.devRef .tc main_v33) = k6 m c := by
  rw [s10_keep _ main_v33 (by decide +kernel), s9_v33, S8_v24]
theorem V10_v34 : after hostOps0_10 (after hostOps0_9 (S8 m c)) (Proc.devRef .tc main_v34) = v6 m c := by
  rw [s10_keep _ main_v34 (by decide +kernel), s9_v34, S8_v9, S8_v25]
theorem V10_v35 : after hostOps0_10 (after hostOps0_9 (S8 m c)) (Proc.devRef .tc main_v35) = iotaVec := by
  rw [s10_keep _ main_v35 (by decide +kernel), s9_v35]
theorem V10_v53 : after hostOps0_10 (after hostOps0_9 (S8 m c)) (Proc.devRef .tc main_v53) = maskVec (lgs m c) := by
  rw [s10_v53, s9_v43, s9_v52, s9_cst, S8_v14, S8_v16]; rfl

theorem E_0 : E m c (Proc.devRef .tc main_v90_0) = front256 (q6 m c) := by rw [E, entry_eq, s11_in0, V10_v32]
theorem E_1 : E m c (Proc.devRef .tc main_v90_1) = front256 (k6 m c) := by rw [E, entry_eq, s11_in1, V10_v33]
theorem E_2 : E m c (Proc.devRef .tc main_v90_2) = front512 (v6 m c) := by rw [E, entry_eq, s11_in2, V10_v34]
theorem E_3 : E m c (Proc.devRef .tc main_v90_3) = intoVec (lgs m c) := by rw [E, entry_eq, s11_in3 _ (V10_v35 m c), V10_v31]
theorem E_4 : E m c (Proc.devRef .tc main_v90_4) = acrossVec (lgs m c) := by rw [E, entry_eq, s11_in4, V10_v31]
theorem E_5 : E m c (Proc.devRef .tc main_v90_5) = fromVec (lgs m c) := by rw [E, entry_eq, s11_in5 _ (V10_v35 m c), V10_v31]
theorem E_7 (i : S2x1x16x256x512.Idx) : E m c (Proc.devRef .tc main_v90_7) i = (0 : EReal) := by
  rw [E, entry_eq, s11_in7]
  exact Ideal.ofBits_zero_f32
theorem E_v59 : E m c (Proc.devRef .tc main_v59) = innerVec (q6 m c) (k6 m c) (v6 m c) (maskVec (lgs m c)) := by
  rw [E, entry_eq, s11_v59, V10_v32, V10_v33, V10_v34, V10_v53]
theorem E_v12 : E m c (Proc.devRef .tc main_v12) = gVec (X m c) := by
  rw [E, entry_eq, s11_v12, s10_keep _ main_v12 (by decide +kernel), s9_v12, S8_v12]

theorem K_0 (k : ℕ) : atK m k c (Proc.devRef .tc main_v90_0) = front256 (q6 m c) := by
  rw [atK_keep m c main_v90_0 (fun V => trip_main_v90_0 V) (by decide +kernel)]; exact E_0 m c
theorem K_1 (k : ℕ) : atK m k c (Proc.devRef .tc main_v90_1) = front256 (k6 m c) := by
  rw [atK_keep m c main_v90_1 (fun V => trip_main_v90_1 V) (by decide +kernel)]; exact E_1 m c
theorem K_2 (k : ℕ) : atK m k c (Proc.devRef .tc main_v90_2) = front512 (v6 m c) := by
  rw [atK_keep m c main_v90_2 (fun V => trip_main_v90_2 V) (by decide +kernel)]; exact E_2 m c
theorem K_3 (k : ℕ) : atK m k c (Proc.devRef .tc main_v90_3) = intoVec (lgs m c) := by
  rw [atK_keep m c main_v90_3 (fun V => trip_main_v90_3 V) (by decide +kernel)]; exact E_3 m c
theorem K_4 (k : ℕ) : atK m k c (Proc.devRef .tc main_v90_4) = acrossVec (lgs m c) := by
  rw [atK_keep m c main_v90_4 (fun V => trip_main_v90_4 V) (by decide +kernel)]; exact E_4 m c
theorem K_5 (k : ℕ) : atK m k c (Proc.devRef .tc main_v90_5) = fromVec (lgs m c) := by
  rw [atK_keep m c main_v90_5 (fun V => trip_main_v90_5 V) (by decide +kernel)]; exact E_5 m c

/-! ## The states and the rows -/

variable {m c} (hx : RealQKV (X m c))

/-- A direction's decay, queries, keys and values. -/
abbrev γD (m : (ℓ : Loc nD τ sig) → Buf (Elt Ideal) ℓ) (c : Dev nD) (d : Fin 2) (h : Fin 16) : ℝ := dec (lgs m c (ix2 d h))
abbrev QD (m : (ℓ : Loc nD τ sig) → Buf (Elt Ideal) ℓ) (c : Dev nD) (d : Fin 2) (h : Fin 16) (n : ℕ) (y : Fin 256) : ℝ := qry (X m c) h (pos d n) y
abbrev KD (m : (ℓ : Loc nD τ sig) → Buf (Elt Ideal) ℓ) (c : Dev nD) (d : Fin 2) (h : Fin 16) (n : ℕ) (y : Fin 256) : ℝ := key (X m c) h (pos d n) y
abbrev VD (m : (ℓ : Loc nD τ sig) → Buf (Elt Ideal) ℓ) (c : Dev nD) (d : Fin 2) (h : Fin 16) (e : Fin 512) (n : ℕ) : ℝ := val (X m c) h e (pos d n)

include hx in
theorem st_real : ∀ k : ℕ, k ≤ 64 → ∀ (d : Fin 2) (h : Fin 16) (y : Fin 256) (e : Fin 512),
    atK m k c (Proc.devRef .tc main_v90_7) (ix5 d 0 h y e)
      = ((fsum (γD m c d h) (fun n => KD m c d h n y * VD m c d h e n) (128 * k) : ℝ) : EReal)
  | 0, _, d, h, y, e => by
    rw [show 128 * 0 = 0 from rfl, fsum_zero]
    exact E_7 m c _
  | k + 1, hk, d, h, y, e => by
    have ih := st_real k (by omega) d h y e
    rw [trip_st, stNext_at _ _ _ _ _ ⟨k, by omega⟩ _ (atK_ctr m c k), ih, K_1, K_2, K_4, K_5, across_real (lgs_nonpos m c)]
    simp only [front256_at, front512_at, from_real (lgs_nonpos m c), k_real hx, v_real hx, ← EReal.coe_mul, ← coe_sum, ← EReal.coe_add]
    congr 1
    rw [show 128 * (k + 1) = 128 * k + 128 by omega, fsum_add, Finset.sum_range]
    congr 1
    refine Finset.sum_congr rfl fun r _ => ?_
    ring

include hx in
theorem rows_real : ∀ k : ℕ, k ≤ 64 → ∀ (j : Fin 64), j.val < k → ∀ (d : Fin 2) (a : Fin 128) (h : Fin 16) (e : Fin 512),
    atK m k c (Proc.devRef .tc main_v90_8) (ix6 j d 0 a h e)
      = ((γD m c d h ^ (a.val + 1) * fsum (γD m c d h) (score (QD m c d h) (KD m c d h) (VD m c d h e) (128 * j + a)) (128 * j) : ℝ) : EReal)
  | 0, _, j, hj, _, _, _, _ => absurd hj (Nat.not_lt_zero _)
  | k + 1, hk, j, hj, d, a, h, e => by
    rw [trip_rows, rowsNext_at _ _ _ _ ⟨k, by omega⟩ _ (atK_ctr m c k)]
    by_cases hjk : j = ⟨k, by omega⟩
    · rw [if_pos hjk, K_0, K_3]
      have hst := fun y => st_real hx k (by omega) d h y e
      simp only [hst, front256_at, into_real (lgs_nonpos m c), q_real hx, ← EReal.coe_mul, ← coe_sum]
      congr 1
      have hkj : j.val = k := congrArg Fin.val hjk
      have := fsum_dot (γD m c d h) (QD m c d h (128 * j + a)) (KD m c d h) (VD m c d h e) (128 * j)
      rw [show (fun m_1 => (∑ x, QD m c d h (128 * j + a) x * KD m c d h m_1 x) * VD m c d h e m_1)
        = score (QD m c d h) (KD m c d h) (VD m c d h e) (128 * j + a) from rfl] at this
      rw [← this, hkj, Finset.mul_sum]
      refine Finset.sum_congr rfl fun y _ => ?_
      ring
    · rw [if_neg hjk]
      exact rows_real k (by omega) j (by
        have : j.val ≠ k := fun hh => hjk (Fin.ext hh)
        omega) d a h e

include hx in
theorem inner_real (d : Fin 2) (j : Fin 64) (a : Fin 128) (h : Fin 16) (e : Fin 512) :
    innerVec (q6 m c) (k6 m c) (v6 m c) (maskVec (lgs m c)) (ix6 d 0 j a h e)
      = ((∑ b ∈ Finset.range 128, lowW (γD m c d h) a b * score (QD m c d h) (KD m c d h) (VD m c d h e) (128 * j + a) (128 * j + b) : ℝ) : EReal) := by
  rw [inner_at]
  simp only [q_real hx, k_real hx, v_real hx, mask_real (lgs_nonpos m c), ← EReal.coe_mul, ← coe_sum]
  congr 1
  rw [Finset.sum_range]
  refine Finset.sum_congr rfl fun b _ => ?_
  simp only [score]; ring

theorem whole_at (a : FVec Ideal S2x1x64x128x16x512 .f32) (b : FVec Ideal S64x2x1x128x16x512 .f32) (d : Fin 2) (n : Fin 8192) (h : Fin 16) (e : Fin 512) :
    wholeVec a b (ix5 d 0 n h e)
      = a (ix6 d 0 ⟨n / 128, by omega⟩ ⟨n % 128, by omega⟩ h e) + b (ix6 ⟨n / 128, by omega⟩ d 0 ⟨n % 128, by omega⟩ h e) := by
  unfold wholeVec
  pointwise []

include hx in
/-- One direction's row at position `n`. -/
theorem whole_real (d : Fin 2) (n : Fin 8192) (h : Fin 16) (e : Fin 512) :
    wholeVec (E m c (Proc.devRef .tc main_v59)) (atK m 64 c (Proc.devRef .tc main_v90_8)) (ix5 d 0 n h e)
      = ((fsum (γD m c d h) (score (QD m c d h) (KD m c d h) (VD m c d h e) n) (n + 1) : ℝ) : EReal) := by
  rw [whole_at, E_v59, inner_real hx, rows_real hx 64 (le_refl _) _ (by show n.val / 128 < 64; omega), ← EReal.coe_add]
  congr 1
  have hn : n.val = 128 * (n.val / 128) + n.val % 128 := by omega
  have := fsum_row (γD m c d h) (score (QD m c d h) (KD m c d h) (VD m c d h e) n) (128 * (n.val / 128)) 128 (n.val % 128) (by omega)
  rw [← hn] at this
  rw [this]
  simp only [← hn]

theorem sum_at (y : FVec Ideal S2x1x8192x16x512 .f32) (n : Fin 8192) (h : Fin 16) (e : Fin 512) :
    sumVec y (ix4 0 n h e) = y (ix5 0 0 n h e) + y (ix5 1 0 n.rev h e) := by
  unfold sumVec
  pointwise []
  rfl

include hx in
/-- Both directions' rows together. -/
theorem sum_real (n : Fin 8192) (h : Fin 16) (e : Fin 512) :
    sumVec (wholeVec (E m c (Proc.devRef .tc main_v59)) (atK m 64 c (Proc.devRef .tc main_v90_8))) (ix4 0 n h e)
      = ((retRow (γD m c 0 h) (γD m c 1 h) (qry (X m c) h) (key (X m c) h) (val (X m c) h e) 8192 n : ℝ) : EReal) := by
  rw [sum_at, whole_real hx, whole_real hx, ← EReal.coe_add, retRow]
  congr 2
  have hr : n.rev.val = 8191 - n.val := by show 8192 - (n.val + 1) = _; omega
  rw [hr]
  have := fsum_rev (γD m c 1 h) (score (qry (X m c) h) (key (X m c) h) (val (X m c) h e) n) 8192 (8191 - n.val) (by omega)
  rw [show 8192 - 1 - (8191 - n.val) = n.val by omega] at this
  rw [← this]
  congr 1
  funext k
  simp only [score, QD, KD, VD, pos, show ¬((1 : Fin 2).val = 0) by decide, if_false, show 8191 - (8191 - n.val) = n.val by omega]

/-! ## The rows normalised and gated -/

theorem mean_at (y : FVec Ideal S1x8192x16x512 .f32) (n : Fin 8192) (h : Fin 16) (z : Fin 1) :
    meanVec y (ix4 0 n h z) = Ideal.div (∑ e : Fin 512, y (ix4 0 n h e)) (Ideal.ofBits .f32 0x44000000#32) := by
  unfold meanVec
  pointwise []

theorem cent_at (y : FVec Ideal S1x8192x16x512 .f32) (n : Fin 8192) (h : Fin 16) (e : Fin 512) :
    centVec y (ix4 0 n h e) = y (ix4 0 n h e) - Ideal.div (∑ e : Fin 512, y (ix4 0 n h e)) (Ideal.ofBits .f32 0x44000000#32) := by
  unfold centVec
  pointwise [mean_at]

theorem norm_at (y : FVec Ideal S1x8192x16x512 .f32) (n : Fin 8192) (h : Fin 16) (e : Fin 512) :
    normVec y (ix4 0 n h e) = centVec y (ix4 0 n h e)
      * Ideal.rsqrt (Ideal.div (∑ e : Fin 512, centVec y (ix4 0 n h e) * centVec y (ix4 0 n h e)) (Ideal.ofBits .f32 0x44000000#32) + Ideal.ofBits .f32 0x358637BD#32) := by
  unfold normVec
  pointwise [mean_at]

theorem scaled_at (y : FVec Ideal S1x8192x16x512 .f32) (gn : FVec Ideal S1x8192 .f32) (n : Fin 8192) (h : Fin 16) (e : Fin 512) (z : Fin 8192)
    (hz : z.val = 512 * h + e) : scaledVec y gn (ix3 0 n z) = normVec y (ix4 0 n h e) * gn (ix2 0 z) := by
  unfold scaledVec
  have h1 : (⟨z.val / 512, by omega⟩ : Fin 16) = h := Fin.ext (by show z.val / 512 = h.val; omega)
  have h2 : (⟨z.val % 512, by omega⟩ : Fin 512) = e := Fin.ext (by show z.val % 512 = e.val; omega)
  generalize normVec y = w
  pointwise []
  rw [h1, h2]

theorem silu_at (g : FVec Ideal S1x8192x8192 .f32) (n z : Fin 8192) :
    siluVec g (ix3 0 n z) = g (ix3 0 n z) * Ideal.logistic (g (ix3 0 n z)) := by
  unfold siluVec Ideal.logistic
  pointwise []

theorem fin_at (y : FVec Ideal S1x8192x16x512 .f32) (gn : FVec Ideal S1x8192 .f32) (g : FVec Ideal S1x8192x8192 .f32) (n z : Fin 8192) :
    finVec y gn g (ix2 n z) = siluVec g (ix3 0 n z) * scaledVec y gn (ix3 0 n z) := by
  unfold finVec
  pointwise []

theorem fin_row (y : FVec Ideal S1x8192x16x512 .f32) (gn : FVec Ideal S1x8192 .f32) (g : FVec Ideal S1x8192x8192 .f32)
    (n : Fin 8192) (h : Fin 16) (e : Fin 512) (z : Fin 8192) (hz : z.val = 512 * h + e) :
    finVec y gn g (ix2 n z) = rowOut (fun e => y (ix4 0 n h e)) (gn (ix2 0 z)) (g (ix3 0 n z)) e := by
  rw [fin_at, silu_at, scaled_at y gn n h e z hz, norm_at]
  simp only [cent_at]
  rfl

include hx in
/-- The reference's result. -/
theorem final_v126 (z : S8192x8192.Idx) :
    finalContents condOps preI bodyI postI 64 m c (Proc.devRef .tc main_v126) z
      = result (X m c) (m ((c.tc : Thread nD τ).loc main_arg1)) (m ((c.tc : Thread nD τ).loc main_arg2)) (m ((c.tc : Thread nD τ).loc main_arg3)) (z 0)
        ⟨(z 1).val / 512, by have : (z 1).val < 8192 := (z 1).isLt; omega⟩ ⟨(z 1).val % 512, by omega⟩ := by
  have hz1 : (z 1).val < 8192 := (z 1).isLt
  have e0 : after condOps (atK m 64 c) (Proc.devRef .tc main_v59) = E m c (Proc.devRef .tc main_v59) := by
    rw [after_of_writes_sub condOps _ condOps_writes (by decide +kernel), atK_keep m c main_v59 (body_keep _ (by decide +kernel)) (by decide +kernel)]
  have e1 : after condOps (atK m 64 c) (Proc.devRef .tc main_v12) = gVec (X m c) := by
    rw [after_of_writes_sub condOps _ condOps_writes (by decide +kernel), atK_keep m c main_v12 (body_keep _ (by decide +kernel)) (by decide +kernel)]
    exact E_v12 m c
  have e2 : after condOps (atK m 64 c) (Proc.devRef .tc main_arg1) = m ((c.tc : Thread nD τ).loc main_arg1) := by
    rw [after_of_writes_sub condOps _ condOps_writes (by decide +kernel), atK_keep m c main_arg1 (body_keep _ (by decide +kernel)) (by decide +kernel)]
    exact pre_keep m c main_arg1 (by decide +kernel)
  have e3 : after condOps (atK m 64 c) (Proc.devRef .tc main_v90_8) = atK m 64 c (Proc.devRef .tc main_v90_8) :=
    after_of_writes_sub condOps _ condOps_writes (by decide +kernel)
  have e4 : finalContents condOps preI bodyI postI 64 m c (Proc.devRef .tc main_v126)
      = finVec (sumVec (wholeVec (E m c (Proc.devRef .tc main_v59)) (atK m 64 c (Proc.devRef .tc main_v90_8)))) (m ((c.tc : Thread nD τ).loc main_arg1)) (gVec (X m c)) := by
    show afterL postI (after condOps (atK m 64 c)) (Proc.devRef .tc main_v126) = _
    rw [postL_v126, e0, e1, e2, e3]
  have hz : z = ix2 (n0 := 8192) (n1 := 8192) (z 0) (z 1) := by
    funext a
    match a with
    | ⟨0, _⟩ => rfl
    | ⟨1, _⟩ => rfl
  rw [e4]
  have hz' : (z 1).val = 512 * ((z 1).val / 512) + (z 1).val % 512 := by omega
  conv_lhs => rw [hz]
  rw [fin_row _ _ _ (z 0) ⟨(z 1).val / 512, by omega⟩ ⟨(z 1).val % 512, by omega⟩ (z 1) hz', g_at (z 0) ⟨(z 1).val / 512, by omega⟩ ⟨(z 1).val % 512, by omega⟩ (z 1) hz']
  unfold result
  rw [← lgs_0, ← lgs_1]
  have hzz : (⟨512 * ((z 1).val / 512) + (z 1).val % 512, by omega⟩ : Fin 8192) = z 1 := Fin.ext hz'.symm
  rw [hzz]
  exact congrArg (fun f => rowOut f (m ((c.tc : Thread nD τ).loc main_arg1) (ix2 0 (z 1))) _ _)
    (funext fun e => sum_real hx (z 0) ⟨(z 1).val / 512, by omega⟩ e)

end Cert.ReferenceIdeal.Ret

end
-- ==== Proof.Finite.lean ====
/- The claim's precondition read back: the queries, keys and values are real numbers. -/
module

public import proofs.«01_k».proof.Pre_finite_qkv
public import proofs.«01_k».proof.Proof.Model
public import Idealize.ShloMosaic.Lib.ReduceAll
public import Idealize.ShloMosaic.Lib.Pointwise

@[expose] public section

set_option maxRecDepth 16384

noncomputable section

namespace Cert.Pre_finite_qkv

open Idealize.ShloMosaic Idealize.ShloMosaic.StableHlo Cert.Retention

theorem facts : Facts := ⟨by decide, by decide, by decide, by decide, by decide⟩

theorem top_word : Ideal.ofBits .f32 0x7F800000#32 = (⊤ : EReal) := by
  simp [Ideal.ofBits, Ideal.ieee]

/-- An extended real of finite size is a real number. -/
theorem real_of_abs_lt (x : EReal) (h : max x (-x) < ⊤) : x = (x.toReal : EReal) := by
  refine (EReal.coe_toReal ?_ ?_).symm
  · rintro rfl; simp at h
  · rintro rfl; simp at h

theorem real_qkv [Facts] (x : FVec Ideal S96x8192x256 .bf16) (a1 : FVec Ideal S1x8192 .f32) (a2 a3 : FVec Ideal S1x16 .f32)
    (h : fn (F := Ideal) x a1 a2 a3 = fun _ => 1#1) : RealQKV x := by
  have hf := congrFun h ix0
  unfold fn at hf
  haveI : Subsingleton S_.Idx := ⟨fun a b => funext fun k => k.elim0⟩
  have hall := fun i => Host.reduce_andi_all _ _ Facts.reducesTo_S64x8192x256_S_d0_1_2 Facts.h_S_ _ hf i
  intro s n d hs
  by_cases hb : s < 96 ∧ n < 8192 ∧ d < 256
  · have := hall (ix3 ⟨s, hs⟩ ⟨n, hb.2.1⟩ ⟨d, hb.2.2⟩)
    have e : slab x s n d = x (ix3 ⟨s, hb.1⟩ ⟨n, hb.2.1⟩ ⟨d, hb.2.2⟩) := dif_pos hb
    rw [e]
    refine real_of_abs_lt _ ?_
    rw [← top_word]
    refine (Ideal.cmp_olt_eq_one _ _).1 (Eq.trans (Eq.symm ?_) this)
    pointwise []
    rfl
  · have e : slab x s n d = 0 := dif_neg hb
    rw [e]; rfl

end Cert.Pre_finite_qkv

end
-- ==== Proof.lean ====
module

public import proofs.«01_k».proof.Defs
public import proofs.«01_k».proof.Proof.Mlp2Result
public import proofs.«01_k».proof.Proof.Mlp2Ref
public import proofs.«01_k».proof.Proof.WoutResult
public import proofs.«01_k».proof.Proof.WoutRef
public import proofs.«01_k».proof.Proof.FnoResult
public import proofs.«01_k».proof.Proof.FnoRef
public import proofs.«01_k».proof.Proof.WinResult
public import proofs.«01_k».proof.Proof.WinRef
public import proofs.«01_k».proof.Proof.Norm9Result
public import proofs.«01_k».proof.Proof.Norm9Ref
public import proofs.«01_k».proof.Proof.Norm7Result
public import proofs.«01_k».proof.Proof.Norm7Ref
public import proofs.«01_k».proof.Proof.Norm8Result
public import proofs.«01_k».proof.Proof.Norm8Ref
public import proofs.«01_k».proof.Proof.Same
public import proofs.«01_k».proof.Proof.Mm1Result
public import proofs.«01_k».proof.Proof.Mm1Ref
public import proofs.«01_k».proof.Proof.KResult
public import proofs.«01_k».proof.Proof.RefResult
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem

theorem frame_Kernel : Cert.quiescent_Kernel (hKernel := Cert.Kernel.Gen.facts) := fun m ρ _ => by
  rw [Cert.Same.defs_eq, Cert.Same.main_eq]
  exact Cert.KernelIdeal.Ret.frame (F := Bits) m ρ

theorem frame_KernelIdeal : Cert.quiescent_KernelIdeal (hKernelIdeal := Cert.KernelIdeal.Gen.facts) := fun m ρ _ =>
  Cert.KernelIdeal.Ret.frame m ρ

theorem frame_ReferenceIdeal : Cert.quiescent_ReferenceIdeal (hReferenceIdeal := Cert.ReferenceIdeal.Gen.facts) := fun m ρ _ =>
  (θ_run Cert.ReferenceIdeal.defs _ _).mono
    (fun r h => ⟨fun c =>
      ⟨(h c Cert.ReferenceIdeal.main_arg0 rfl).trans (Cert.ReferenceIdeal.Ret.final_arg m c _ (.inl rfl)),
       (h c Cert.ReferenceIdeal.main_arg1 rfl).trans (Cert.ReferenceIdeal.Ret.final_arg m c _ (.inr (.inl rfl))),
       (h c Cert.ReferenceIdeal.main_arg2 rfl).trans (Cert.ReferenceIdeal.Ret.final_arg m c _ (.inr (.inr (.inl rfl)))),
       (h c Cert.ReferenceIdeal.main_arg3 rfl).trans (Cert.ReferenceIdeal.Ret.final_arg m c _ (.inr (.inr (.inr rfl))))⟩,
      sem_eq_zero_of_no_sems rfl _⟩)
    (Cert.ReferenceIdeal.Value.run_fold m ρ)

theorem equal_results : Cert.algebraic_KernelIdeal_ReferenceIdeal_pre_finite_qkv (hKernelIdeal := Cert.KernelIdeal.Gen.facts)
    (hReferenceIdeal := Cert.ReferenceIdeal.Gen.facts) (hPre_finite_qkv := Cert.Pre_finite_qkv.facts) := fun m ρ m' ρ' hpre hargs => by
  have hx : ∀ c : Dev Cert.KernelIdeal.nD, Cert.Retention.RealQKV (Cert.KernelIdeal.Ret.X m c) := fun c =>
    @Cert.Pre_finite_qkv.real_qkv Cert.Pre_finite_qkv.facts _ _ _ _ (hpre c)
  refine ⟨fun c => Cert.KernelIdeal.Ret.Res m c, ?_, ?_⟩
  · exact (θ_run Cert.KernelIdeal.defs _ _).mono
      (fun r h c => ⟨((h.1 c).1 6).trans (Cert.KernelIdeal.Ret.final_o (hx c)), h.2.1 c⟩)
      (θ_run_and (Cert.KernelIdeal.Ret.run_post m ρ) (Cert.KernelIdeal.Ret.frame m ρ))
  · refine (θ_run Cert.ReferenceIdeal.defs _ _).mono (fun r h c => ⟨?_, ?_⟩)
      (θ_run_and (Cert.ReferenceIdeal.Value.run_fold m' ρ') (frame_ReferenceIdeal m' ρ' trivial))
    · obtain ⟨h0, h1, h2, h3⟩ := hargs c
      have hx' : Cert.Retention.RealQKV (Cert.ReferenceIdeal.Ret.X m' c) := by rw [Cert.ReferenceIdeal.Ret.X, h0]; exact hx c
      refine (h.1 c Cert.ReferenceIdeal.main_v126 rfl).trans (funext fun z => ?_)
      rw [Cert.ReferenceIdeal.Ret.final_v126 hx', Cert.ReferenceIdeal.Ret.X, h0, h1, h2, h3]
      rfl
    · exact h.2.1 c

/-! ## The first MLP product -/

theorem frame_Kernel2 : Cert.quiescent_Kernel2 (hKernel2 := Cert.Kernel2.Gen.facts) := fun m ρ _ => by
  rw [Cert.Same2.defs_eq, Cert.Same2.main_eq]
  exact Cert.Kernel2Ideal.Mm.frame (F := Bits) m ρ

theorem frame_Kernel2Ideal : Cert.quiescent_Kernel2Ideal (hKernel2Ideal := Cert.Kernel2Ideal.Gen.facts) := fun m ρ _ =>
  Cert.Kernel2Ideal.Mm.frame m ρ

theorem frame_Reference2Ideal : Cert.quiescent_Reference2Ideal (hReference2Ideal := Cert.Reference2Ideal.Gen.facts) := fun m ρ _ =>
  (θ_run Cert.Reference2Ideal.defs _ _).mono (fun _ h => ⟨fun c => (h c).2, sem_eq_zero_of_no_sems rfl _⟩) (Cert.Reference2Ideal.Mm.run m ρ)

theorem equal_results2 : Cert.algebraic_Kernel2Ideal_Reference2Ideal (hKernel2Ideal := Cert.Kernel2Ideal.Gen.facts)
    (hReference2Ideal := Cert.Reference2Ideal.Gen.facts) := fun m ρ m' ρ' _ hargs => by
  refine ⟨fun c => Cert.Kernel2Ideal.Mm.Res m c, ?_, ?_⟩
  · exact (θ_run Cert.Kernel2Ideal.defs _ _).mono
      (fun r h c => ⟨((h.1 c).1 2).trans (Cert.Kernel2Ideal.Mm.final_o m c), h.2.1 c⟩)
      (θ_run_and (Cert.Kernel2Ideal.Mm.run_post m ρ) (Cert.Kernel2Ideal.Mm.frame m ρ))
  · refine (θ_run Cert.Reference2Ideal.defs _ _).mono (fun r h c => ⟨?_, (h c).2⟩) (Cert.Reference2Ideal.Mm.run m' ρ')
    refine (h c).1.trans (funext fun z => ?_)
    rw [(hargs c).1, (hargs c).2]
    have e : (z : Cert.Reference2Ideal.S8192x16384.Idx) = ix2 (z 0) (z 1) := by
      funext a
      match a with
      | ⟨0, _⟩ => rfl
      | ⟨1, _⟩ => rfl
    rw [e]
    exact Cert.Reference2Ideal.Mm.out_at _ _ _ _

/-! ## The second MLP product -/

theorem frame_Kernel3 : Cert.quiescent_Kernel3 (hKernel3 := Cert.Kernel3.Gen.facts) := fun m ρ _ => by
  rw [Cert.Same3.defs_eq, Cert.Same3.main_eq]
  exact Cert.Kernel3Ideal.Mm.frame (F := Bits) m ρ

theorem frame_Kernel3Ideal : Cert.quiescent_Kernel3Ideal (hKernel3Ideal := Cert.Kernel3Ideal.Gen.facts) := fun m ρ _ =>
  Cert.Kernel3Ideal.Mm.frame m ρ

theorem frame_Reference3Ideal : Cert.quiescent_Reference3Ideal (hReference3Ideal := Cert.Reference3Ideal.Gen.facts) := fun m ρ _ =>
  (θ_run Cert.Reference3Ideal.defs _ _).mono (fun _ h => ⟨fun c => (h c).2, sem_eq_zero_of_no_sems rfl _⟩) (Cert.Reference3Ideal.Mm.run m ρ)

theorem equal_results3 : Cert.algebraic_Kernel3Ideal_Reference3Ideal (hKernel3Ideal := Cert.Kernel3Ideal.Gen.facts)
    (hReference3Ideal := Cert.Reference3Ideal.Gen.facts) := fun m ρ m' ρ' _ hargs => by
  refine ⟨fun c => Cert.Kernel3Ideal.Mm.Res m c, ?_, ?_⟩
  · exact (θ_run Cert.Kernel3Ideal.defs _ _).mono
      (fun r h c => ⟨((h.1 c).1 2).trans (Cert.Kernel3Ideal.Mm.final_o m c), h.2.1 c⟩)
      (θ_run_and (Cert.Kernel3Ideal.Mm.run_post m ρ) (Cert.Kernel3Ideal.Mm.frame m ρ))
  · refine (θ_run Cert.Reference3Ideal.defs _ _).mono (fun r h c => ⟨?_, (h c).2⟩) (Cert.Reference3Ideal.Mm.run m' ρ')
    refine (h c).1.trans (funext fun z => ?_)
    refine Eq.trans ?_ (Cert.Kernel3Ideal.Mm.Res_sum m c z).symm
    rw [(hargs c).1, (hargs c).2]
    have e : (z : Cert.Reference3Ideal.S8192x4096.Idx) = ix2 (z 0) (z 1) := by
      funext a
      match a with
      | ⟨0, _⟩ => rfl
      | ⟨1, _⟩ => rfl
    rw [e]
    exact Cert.Reference3Ideal.Mm.out_at _ _ _ _

/-! ## The retention's output product -/

theorem frame_Kernel4 : Cert.quiescent_Kernel4 (hKernel4 := Cert.Kernel4.Gen.facts) := fun m ρ _ => by
  rw [Cert.Same4.defs_eq, Cert.Same4.main_eq]
  exact Cert.Kernel4Ideal.Mm.frame (F := Bits) m ρ

theorem frame_Kernel4Ideal : Cert.quiescent_Kernel4Ideal (hKernel4Ideal := Cert.Kernel4Ideal.Gen.facts) := fun m ρ _ =>
  Cert.Kernel4Ideal.Mm.frame m ρ

theorem frame_Reference4Ideal : Cert.quiescent_Reference4Ideal (hReference4Ideal := Cert.Reference4Ideal.Gen.facts) := fun m ρ _ =>
  (θ_run Cert.Reference4Ideal.defs _ _).mono (fun _ h => ⟨fun c => (h c).2, sem_eq_zero_of_no_sems rfl _⟩) (Cert.Reference4Ideal.Mm.run m ρ)

theorem equal_results4 : Cert.algebraic_Kernel4Ideal_Reference4Ideal (hKernel4Ideal := Cert.Kernel4Ideal.Gen.facts)
    (hReference4Ideal := Cert.Reference4Ideal.Gen.facts) := fun m ρ m' ρ' _ hargs => by
  refine ⟨fun c => Cert.Kernel4Ideal.Mm.Res m c, ?_, ?_⟩
  · exact (θ_run Cert.Kernel4Ideal.defs _ _).mono
      (fun r h c => ⟨((h.1 c).1 2).trans (Cert.Kernel4Ideal.Mm.final_o m c), h.2.1 c⟩)
      (θ_run_and (Cert.Kernel4Ideal.Mm.run_post m ρ) (Cert.Kernel4Ideal.Mm.frame m ρ))
  · refine (θ_run Cert.Reference4Ideal.defs _ _).mono (fun r h c => ⟨?_, (h c).2⟩) (Cert.Reference4Ideal.Mm.run m' ρ')
    refine (h c).1.trans (funext fun z => ?_)
    refine Eq.trans ?_ (Cert.Kernel4Ideal.Mm.Res_sum m c z).symm
    rw [(hargs c).1, (hargs c).2]
    have e : (z : Cert.Reference4Ideal.S8192x4096.Idx) = ix2 (z 0) (z 1) := by
      funext a
      match a with
      | ⟨0, _⟩ => rfl
      | ⟨1, _⟩ => rfl
    rw [e]
    exact Cert.Reference4Ideal.Mm.out_at _ _ _ _

/-! ## The Fourier mixer's product -/

theorem frame_Kernel5 : Cert.quiescent_Kernel5 (hKernel5 := Cert.Kernel5.Gen.facts) := fun m ρ _ => by
  rw [Cert.Same5.defs_eq, Cert.Same5.main_eq]
  exact Cert.Kernel5Ideal.Mm.frame (F := Bits) m ρ

theorem frame_Kernel5Ideal : Cert.quiescent_Kernel5Ideal (hKernel5Ideal := Cert.Kernel5Ideal.Gen.facts) := fun m ρ _ =>
  Cert.Kernel5Ideal.Mm.frame m ρ

theorem frame_Reference5Ideal : Cert.quiescent_Reference5Ideal (hReference5Ideal := Cert.Reference5Ideal.Gen.facts) := fun m ρ _ =>
  (θ_run Cert.Reference5Ideal.defs _ _).mono (fun _ h => ⟨fun c => (h c).2, sem_eq_zero_of_no_sems rfl _⟩) (Cert.Reference5Ideal.Mm.run m ρ)

theorem equal_results5 : Cert.algebraic_Kernel5Ideal_Reference5Ideal (hKernel5Ideal := Cert.Kernel5Ideal.Gen.facts)
    (hReference5Ideal := Cert.Reference5Ideal.Gen.facts) := fun m ρ m' ρ' _ hargs => by
  refine ⟨fun c => Cert.Kernel5Ideal.Mm.Res m c, ?_, ?_⟩
  · exact (θ_run Cert.Kernel5Ideal.defs _ _).mono
      (fun r h c => ⟨((h.1 c).1 3).trans (Cert.Kernel5Ideal.Mm.final_o m c), h.2.1 c⟩)
      (θ_run_and (Cert.Kernel5Ideal.Mm.run_post m ρ) (Cert.Kernel5Ideal.Mm.frame m ρ))
  · refine (θ_run Cert.Reference5Ideal.defs _ _).mono (fun r h c => ⟨?_, (h c).2⟩) (Cert.Reference5Ideal.Mm.run m' ρ')
    refine (h c).1.trans (funext fun z => ?_)
    refine Eq.trans ?_ (Cert.Kernel5Ideal.Mm.Res_sum m c z).symm
    rw [(hargs c).1, (hargs c).2.1, (hargs c).2.2]
    have e : (z : Cert.Reference5Ideal.S8192x4096.Idx) = ix2 (z 0) (z 1) := by
      funext a
      match a with
      | ⟨0, _⟩ => rfl
      | ⟨1, _⟩ => rfl
    rw [e]
    exact Cert.Reference5Ideal.Mm.out_at _ _ _ _ _

/-! ## The projections, with the modulation's columns -/

theorem frame_Kernel6 : Cert.quiescent_Kernel6 (hKernel6 := Cert.Kernel6.Gen.facts) := fun m ρ _ => by
  rw [Cert.Same6.defs_eq, Cert.Same6.main_eq]
  exact Cert.Kernel6Ideal.Mm.frame (F := Bits) m ρ

theorem frame_Kernel6Ideal : Cert.quiescent_Kernel6Ideal (hKernel6Ideal := Cert.Kernel6Ideal.Gen.facts) := fun m ρ _ =>
  Cert.Kernel6Ideal.Mm.frame m ρ

theorem frame_Reference6Ideal : Cert.quiescent_Reference6Ideal (hReference6Ideal := Cert.Reference6Ideal.Gen.facts) := fun m ρ _ =>
  (θ_run Cert.Reference6Ideal.defs _ _).mono (fun _ h => ⟨fun c => (h c).2.2, sem_eq_zero_of_no_sems rfl _⟩) (Cert.Reference6Ideal.Mm.run m ρ)

/-- The two programs' angles are the same array. -/
theorem angles_eq : Cert.Reference6Ideal.Mm.angles = Cert.Kernel6Ideal.Mm.angles := rfl

theorem equal_results6 : Cert.algebraic_Kernel6Ideal_Reference6Ideal (hKernel6Ideal := Cert.Kernel6Ideal.Gen.facts)
    (hReference6Ideal := Cert.Reference6Ideal.Gen.facts) := fun m ρ m' ρ' _ hargs => by
  refine ⟨fun c => Cert.Kernel6Ideal.Mm.Res m c, fun c => Cert.Kernel6Ideal.Mm.Mod m c, ?_, ?_⟩
  · exact (θ_run Cert.Kernel6Ideal.defs _ _).mono
      (fun r h c => ⟨((h.1 c).1 7).trans (Cert.Kernel6Ideal.Mm.final_o m c), ((h.1 c).1 8).trans (Cert.Kernel6Ideal.Mm.final_mo m c), h.2.1 c⟩)
      (θ_run_and (Cert.Kernel6Ideal.Mm.run_post m ρ) (Cert.Kernel6Ideal.Mm.frame m ρ))
  · refine (θ_run Cert.Reference6Ideal.defs _ _).mono (fun r h c => ⟨?_, ?_, (h c).2.2⟩) (Cert.Reference6Ideal.Mm.run m' ρ')
    · refine (h c).1.trans (funext fun z => ?_)
      refine Eq.trans ?_ (Cert.Kernel6Ideal.Mm.Res_at m c z).symm
      rw [(hargs c).1, (hargs c).2.1]
      have e : (z : Cert.Reference6Ideal.S96x8192x256.Idx) = ix3 (z 0) (z 1) (z 2) := by
        funext a
        match a with
        | ⟨0, _⟩ => rfl
        | ⟨1, _⟩ => rfl
        | ⟨2, _⟩ => rfl
      rw [e]
      refine (Cert.Reference6Ideal.Mm.out_at _ _ _ _ _).trans ?_
      rw [angles_eq]
      rfl
    · refine (h c).2.1.trans (funext fun z => ?_)
      refine Eq.trans ?_ (Cert.Kernel6Ideal.Mm.Mod_at m c z).symm
      rw [(hargs c).2.2.1, (hargs c).2.2.2.1, (hargs c).2.2.2.2]
      have hz0 : (z 0).val < 1 := (z 0).isLt
      have e : (z : Cert.Reference6Ideal.S1x40960.Idx) = ix2 0 (z 1) := by
        funext a
        match a with
        | ⟨0, _⟩ => exact Fin.ext (by show (z 0).val = 0; omega)
        | ⟨1, _⟩ => rfl
      rw [e]
      exact Cert.Reference6Ideal.Mm.side_at _ _ _ (z 1) (Cert.Kernel6Ideal.Mm.layOf (z 1)) (Cert.Kernel6Ideal.Mm.colIn (z 1))
        (Nat.div_add_mod (8192 + (z 1).val) 24576).symm

/-! ## The gated sum with the norm after it -/

theorem frame_Kernel7 : Cert.quiescent_Kernel7 (hKernel7 := Cert.Kernel7.Gen.facts) := fun m ρ _ => by
  rw [Cert.Same7.defs_eq, Cert.Same7.main_eq]
  exact Cert.Kernel7Ideal.Gen.frame (F := Bits) m ρ

theorem frame_Kernel7Ideal : Cert.quiescent_Kernel7Ideal (hKernel7Ideal := Cert.Kernel7Ideal.Gen.facts) := fun m ρ _ =>
  Cert.Kernel7Ideal.Gen.frame m ρ

theorem frame_Reference7Ideal : Cert.quiescent_Reference7Ideal (hReference7Ideal := Cert.Reference7Ideal.Gen.facts) := fun m ρ _ =>
  (θ_run Cert.Reference7Ideal.defs _ _).mono (fun _ h => ⟨fun c => (h c).2.2, sem_eq_zero_of_no_sems rfl _⟩) (Cert.Reference7Ideal.Norm.run m ρ)

theorem equal_results7 : Cert.algebraic_Kernel7Ideal_Reference7Ideal (hKernel7Ideal := Cert.Kernel7Ideal.Gen.facts)
    (hReference7Ideal := Cert.Reference7Ideal.Gen.facts) := fun m ρ m' ρ' _ hargs => by
  refine ⟨fun c => Cert.Kernel7Ideal.Norm.Res m c, fun c => Cert.Kernel7Ideal.Norm.ResN m c, ?_, ?_⟩
  · exact (θ_run Cert.Kernel7Ideal.defs _ _).mono
      (fun r h c => ⟨((h.1 c).1 7).trans (Cert.Kernel7Ideal.Norm.final_o m c), ((h.1 c).1 8).trans (Cert.Kernel7Ideal.Norm.final_n m c), h.2.1 c⟩)
      (θ_run_and (Cert.Kernel7Ideal.Gen.run_main m ρ) (Cert.Kernel7Ideal.Gen.frame m ρ))
  · refine (θ_run Cert.Reference7Ideal.defs _ _).mono (fun r h c => ⟨?_, ?_, (h c).2.2⟩) (Cert.Reference7Ideal.Norm.run m' ρ')
    · refine (h c).1.trans (funext fun z => ?_)
      refine Eq.trans ?_ (Cert.Kernel7Ideal.Norm.Res_at m c z).symm
      rw [(hargs c).1, (hargs c).2.1, (hargs c).2.2.1, (hargs c).2.2.2]
      have e : (z : Cert.Reference7Ideal.S8192x4096.Idx) = ix2 (z 0) (z 1) := by
        funext a
        match a with
        | ⟨0, _⟩ => rfl
        | ⟨1, _⟩ => rfl
      rw [e]
      exact Cert.Reference7Ideal.Norm.sum_at _ _ _ _ _ _
    · refine (h c).2.1.trans (funext fun z => ?_)
      refine Eq.trans ?_ (Cert.Kernel7Ideal.Norm.ResN_at m c z).symm
      rw [(hargs c).1, (hargs c).2.1, (hargs c).2.2.1, (hargs c).2.2.2]
      have e : (z : Cert.Reference7Ideal.S8192x4096.Idx) = ix2 (z 0) (z 1) := by
        funext a
        match a with
        | ⟨0, _⟩ => rfl
        | ⟨1, _⟩ => rfl
      rw [e]
      exact Cert.Reference7Ideal.Norm.out_at _ _ _ _ _ _

/-! ## The last gated sum -/

theorem frame_Kernel8 : Cert.quiescent_Kernel8 (hKernel8 := Cert.Kernel8.Gen.facts) := fun m ρ _ => by
  rw [Cert.Same8.defs_eq, Cert.Same8.main_eq]
  exact Cert.Kernel8Ideal.Gen.frame (F := Bits) m ρ

theorem frame_Kernel8Ideal : Cert.quiescent_Kernel8Ideal (hKernel8Ideal := Cert.Kernel8Ideal.Gen.facts) := fun m ρ _ =>
  Cert.Kernel8Ideal.Gen.frame m ρ

theorem frame_Reference8Ideal : Cert.quiescent_Reference8Ideal (hReference8Ideal := Cert.Reference8Ideal.Gen.facts) := fun m ρ _ =>
  (θ_run Cert.Reference8Ideal.defs _ _).mono (fun _ h => ⟨fun c => (h c).2, sem_eq_zero_of_no_sems rfl _⟩) (Cert.Reference8Ideal.Norm.run m ρ)

theorem equal_results8 : Cert.algebraic_Kernel8Ideal_Reference8Ideal (hKernel8Ideal := Cert.Kernel8Ideal.Gen.facts)
    (hReference8Ideal := Cert.Reference8Ideal.Gen.facts) := fun m ρ m' ρ' _ hargs => by
  refine ⟨fun c => Cert.Kernel8Ideal.Norm.Res m c, ?_, ?_⟩
  · exact (θ_run Cert.Kernel8Ideal.defs _ _).mono
      (fun r h c => ⟨((h.1 c).1 4).trans (Cert.Kernel8Ideal.Norm.final_o m c), h.2.1 c⟩)
      (θ_run_and (Cert.Kernel8Ideal.Gen.run_main m ρ) (Cert.Kernel8Ideal.Gen.frame m ρ))
  · refine (θ_run Cert.Reference8Ideal.defs _ _).mono (fun r h c => ⟨?_, (h c).2⟩) (Cert.Reference8Ideal.Norm.run m' ρ')
    refine (h c).1.trans (funext fun z => ?_)
    refine Eq.trans ?_ (Cert.Kernel8Ideal.Norm.Res_at m c z).symm
    rw [(hargs c).1, (hargs c).2.1, (hargs c).2.2.1, (hargs c).2.2.2]
    have e : (z : Cert.Reference8Ideal.S8192x4096.Idx) = ix2 (z 0) (z 1) := by
      funext a
      match a with
      | ⟨0, _⟩ => rfl
      | ⟨1, _⟩ => rfl
    rw [e]
    exact Cert.Reference8Ideal.Norm.sum_at _ _ _ _ _ _

/-! ## The first norm -/

theorem frame_Kernel9 : Cert.quiescent_Kernel9 (hKernel9 := Cert.Kernel9.Gen.facts) := fun m ρ _ => by
  rw [Cert.Same9.defs_eq, Cert.Same9.main_eq]
  exact Cert.Kernel9Ideal.Norm.frame (F := Bits) m ρ

theorem frame_Kernel9Ideal : Cert.quiescent_Kernel9Ideal (hKernel9Ideal := Cert.Kernel9Ideal.Gen.facts) := fun m ρ _ =>
  Cert.Kernel9Ideal.Norm.frame m ρ

theorem frame_Reference9Ideal : Cert.quiescent_Reference9Ideal (hReference9Ideal := Cert.Reference9Ideal.Gen.facts) := fun m ρ _ =>
  (θ_run Cert.Reference9Ideal.defs _ _).mono (fun _ h => ⟨fun c => (h c).2, sem_eq_zero_of_no_sems rfl _⟩) (Cert.Reference9Ideal.Norm.run m ρ)

theorem equal_results9 : Cert.algebraic_Kernel9Ideal_Reference9Ideal (hKernel9Ideal := Cert.Kernel9Ideal.Gen.facts)
    (hReference9Ideal := Cert.Reference9Ideal.Gen.facts) := fun m ρ m' ρ' _ hargs => by
  refine ⟨fun c => Cert.Kernel9Ideal.Norm.Res m c, ?_, ?_⟩
  · exact (θ_run Cert.Kernel9Ideal.defs _ _).mono
      (fun r h c => ⟨((h.1.1 c).1 5).trans (Cert.Kernel9Ideal.Norm.final_o m c), h.2.1 c⟩)
      (θ_run_and (Cert.Kernel9Ideal.Norm.run_main m ρ) (Cert.Kernel9Ideal.Norm.frame m ρ))
  · refine (θ_run Cert.Reference9Ideal.defs _ _).mono (fun r h c => ⟨?_, (h c).2⟩) (Cert.Reference9Ideal.Norm.run m' ρ')
    refine (h c).1.trans (funext fun z => ?_)
    refine Eq.trans ?_ (Cert.Kernel9Ideal.Norm.Res_at m c z).symm
    rw [(hargs c).1, (hargs c).2.1, (hargs c).2.2.1, (hargs c).2.2.2.1, (hargs c).2.2.2.2]
    have e : (z : Cert.Reference9Ideal.S8192x4096.Idx) = ix2 (z 0) (z 1) := by
      funext a
      match a with
      | ⟨0, _⟩ => rfl
      | ⟨1, _⟩ => rfl
    rw [e]
    refine (Cert.Reference9Ideal.Norm.out_at _ _ _ _ _).trans ?_
    rw [funext fun k : Fin 4096 => Cert.Reference9Ideal.Norm.modV_at _ _ _ ⟨4096 + k.val, by omega⟩, funext fun k : Fin 4096 => Cert.Reference9Ideal.Norm.modV_at _ _ _ ⟨0 + k.val, by omega⟩]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_qkv.facts,
  frame_Kernel, frame_KernelIdeal, fun m ρ _ => frame_KernelIdeal m ρ trivial,
  frame_ReferenceIdeal, fun m ρ _ => frame_ReferenceIdeal m ρ trivial,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  trivial, equal_results, trivial, equal_results2, trivial, equal_results3, trivial, equal_results4, trivial, equal_results5, trivial, equal_results6,
  trivial, equal_results7, trivial, equal_results8, trivial, equal_results9⟩

end Cert.Proof

end
